-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_v72) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v9_2)) (v1 : (c : Dev Cert.Kernel4Ideal.nD) → Buf (Elt Ideal) ((c.tc : Thread Cert.Kernel4Ideal.nD Cert.Kernel4Ideal.τ).loc Cert.Kernel4Ideal.main_v16_0)) (v2 : (c : Dev Cert.Kernel4Ideal.nD) → Buf (Elt Ideal) ((c.tc : Thread Cert.Kernel4Ideal.nD Cert.Kernel4Ideal.τ).loc Cert.Kernel4Ideal.main_v16_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_2) = v0 c
          ∧ r.2.mem ((c.tc : Thread Cert.Kernel4Ideal.nD Cert.Kernel4Ideal.τ).loc Cert.Kernel4Ideal.main_v16_0) = v1 c
          ∧ r.2.mem ((c.tc : Thread Cert.Kernel4Ideal.nD Cert.Kernel4Ideal.τ).loc Cert.Kernel4Ideal.main_v16_1) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_v23) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v24_0)) (v1 : (c : Dev Cert.Kernel2Ideal.nD) → Buf (Elt Ideal) ((c.tc : Thread Cert.Kernel2Ideal.nD Cert.Kernel2Ideal.τ).loc Cert.Kernel2Ideal.main_v24_1)) (v2 : (c : Dev Cert.Kernel2Ideal.nD) → Buf (Elt Ideal) ((c.tc : Thread Cert.Kernel2Ideal.nD Cert.Kernel2Ideal.τ).loc Cert.Kernel2Ideal.main_v24_2)) (v3 : (c : Dev Cert.Kernel2Ideal.nD) → Buf (Elt Ideal) ((c.tc : Thread Cert.Kernel2Ideal.nD Cert.Kernel2Ideal.τ).loc Cert.Kernel2Ideal.main_v24_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24_0) = v0 c
          ∧ r.2.mem ((c.tc : Thread Cert.Kernel2Ideal.nD Cert.Kernel2Ideal.τ).loc Cert.Kernel2Ideal.main_v24_1) = v1 c
          ∧ r.2.mem ((c.tc : Thread Cert.Kernel2Ideal.nD Cert.Kernel2Ideal.τ).loc Cert.Kernel2Ideal.main_v24_2) = v2 c
          ∧ r.2.mem ((c.tc : Thread Cert.Kernel2Ideal.nD Cert.Kernel2Ideal.τ).loc Cert.Kernel2Ideal.main_v24_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v461) = v0 c
          ∧ r.2.mem ((c.tc : Thread Cert.Reference2Ideal.nD Cert.Reference2Ideal.τ).loc Cert.Reference2Ideal.main_v449) = v1 c
          ∧ r.2.mem ((c.tc : Thread Cert.Reference2Ideal.nD Cert.Reference2Ideal.τ).loc Cert.Reference2Ideal.main_v421) = v2 c
          ∧ r.2.mem ((c.tc : Thread Cert.Reference2Ideal.nD Cert.Reference2Ideal.τ).loc Cert.Reference2Ideal.main_v462) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v41_0)) (v1 : (c : Dev Cert.Kernel5Ideal.nD) → Buf (Elt Ideal) ((c.tc : Thread Cert.Kernel5Ideal.nD Cert.Kernel5Ideal.τ).loc Cert.Kernel5Ideal.main_v41_1)) (v2 : (c : Dev Cert.Kernel5Ideal.nD) → Buf (Elt Ideal) ((c.tc : Thread Cert.Kernel5Ideal.nD Cert.Kernel5Ideal.τ).loc Cert.Kernel5Ideal.main_v41_2)) (v3 : (c : Dev Cert.Kernel5Ideal.nD) → Buf (Elt Ideal) ((c.tc : Thread Cert.Kernel5Ideal.nD Cert.Kernel5Ideal.τ).loc Cert.Kernel5Ideal.main_v41_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v41_0) = v0 c
          ∧ r.2.mem ((c.tc : Thread Cert.Kernel5Ideal.nD Cert.Kernel5Ideal.τ).loc Cert.Kernel5Ideal.main_v41_1) = v1 c
          ∧ r.2.mem ((c.tc : Thread Cert.Kernel5Ideal.nD Cert.Kernel5Ideal.τ).loc Cert.Kernel5Ideal.main_v41_2) = v2 c
          ∧ r.2.mem ((c.tc : Thread Cert.Kernel5Ideal.nD Cert.Kernel5Ideal.τ).loc Cert.Kernel5Ideal.main_v41_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v89) = v0 c
          ∧ r.2.mem ((c.tc : Thread Cert.Reference5Ideal.nD Cert.Reference5Ideal.τ).loc Cert.Reference5Ideal.main_v94) = v1 c
          ∧ r.2.mem ((c.tc : Thread Cert.Reference5Ideal.nD Cert.Reference5Ideal.τ).loc Cert.Reference5Ideal.main_v62) = v2 c
          ∧ r.2.mem ((c.tc : Thread Cert.Reference5Ideal.nD Cert.Reference5Ideal.τ).loc Cert.Reference5Ideal.main_v85) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v42_0)) (v1 : (c : Dev Cert.Kernel6Ideal.nD) → Buf (Elt Ideal) ((c.tc : Thread Cert.Kernel6Ideal.nD Cert.Kernel6Ideal.τ).loc Cert.Kernel6Ideal.main_v42_1)) (v2 : (c : Dev Cert.Kernel6Ideal.nD) → Buf (Elt Ideal) ((c.tc : Thread Cert.Kernel6Ideal.nD Cert.Kernel6Ideal.τ).loc Cert.Kernel6Ideal.main_v42_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v42_0) = v0 c
          ∧ r.2.mem ((c.tc : Thread Cert.Kernel6Ideal.nD Cert.Kernel6Ideal.τ).loc Cert.Kernel6Ideal.main_v42_1) = v1 c
          ∧ r.2.mem ((c.tc : Thread Cert.Kernel6Ideal.nD Cert.Kernel6Ideal.τ).loc Cert.Kernel6Ideal.main_v42_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v43) = v0 c
          ∧ r.2.mem ((c.tc : Thread Cert.Reference6Ideal.nD Cert.Reference6Ideal.τ).loc Cert.Reference6Ideal.main_v42) = v1 c
          ∧ r.2.mem ((c.tc : Thread Cert.Reference6Ideal.nD Cert.Reference6Ideal.τ).loc Cert.Reference6Ideal.main_v41) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_v64) = v1 c
          ∧ r.2.mem ((c.tc : Thread Cert.Reference3Ideal.nD Cert.Reference3Ideal.τ).loc Cert.Reference3Ideal.main_v65) = v2 c
          ∧ r.2.mem ((c.tc : Thread Cert.Reference3Ideal.nD Cert.Reference3Ideal.τ).loc Cert.Reference3Ideal.main_v56) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v14_0)) (v1 : (c : Dev Cert.Kernel8Ideal.nD) → Buf (Elt Ideal) ((c.tc : Thread Cert.Kernel8Ideal.nD Cert.Kernel8Ideal.τ).loc Cert.Kernel8Ideal.main_v14_1)) (v2 : (c : Dev Cert.Kernel8Ideal.nD) → Buf (Elt Ideal) ((c.tc : Thread Cert.Kernel8Ideal.nD Cert.Kernel8Ideal.τ).loc Cert.Kernel8Ideal.main_v14_2)) (v3 : (c : Dev Cert.Kernel8Ideal.nD) → Buf (Elt Ideal) ((c.tc : Thread Cert.Kernel8Ideal.nD Cert.Kernel8Ideal.τ).loc Cert.Kernel8Ideal.main_v14_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14_0) = v0 c
          ∧ r.2.mem ((c.tc : Thread Cert.Kernel8Ideal.nD Cert.Kernel8Ideal.τ).loc Cert.Kernel8Ideal.main_v14_1) = v1 c
          ∧ r.2.mem ((c.tc : Thread Cert.Kernel8Ideal.nD Cert.Kernel8Ideal.τ).loc Cert.Kernel8Ideal.main_v14_2) = v2 c
          ∧ r.2.mem ((c.tc : Thread Cert.Kernel8Ideal.nD Cert.Kernel8Ideal.τ).loc Cert.Kernel8Ideal.main_v14_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v56) = v0 c
          ∧ r.2.mem ((c.tc : Thread Cert.Reference8Ideal.nD Cert.Reference8Ideal.τ).loc Cert.Reference8Ideal.main_v36) = v1 c
          ∧ r.2.mem ((c.tc : Thread Cert.Reference8Ideal.nD Cert.Reference8Ideal.τ).loc Cert.Reference8Ideal.main_v55) = v2 c
          ∧ r.2.mem ((c.tc : Thread Cert.Reference8Ideal.nD Cert.Reference8Ideal.τ).loc Cert.Reference8Ideal.main_v71) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v16_0)) (v1 : (c : Dev Cert.Kernel9Ideal.nD) → Buf (Elt Ideal) ((c.tc : Thread Cert.Kernel9Ideal.nD Cert.Kernel9Ideal.τ).loc Cert.Kernel9Ideal.main_v16_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v16_0) = v0 c
          ∧ r.2.mem ((c.tc : Thread Cert.Kernel9Ideal.nD Cert.Kernel9Ideal.τ).loc Cert.Kernel9Ideal.main_v16_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v196) = v0 c
          ∧ r.2.mem ((c.tc : Thread Cert.Reference9Ideal.nD Cert.Reference9Ideal.τ).loc Cert.Reference9Ideal.main_v200) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel4 : Cert.Kernel4.Facts) (hKernel4Ideal : Cert.Kernel4Ideal.Facts) (hReference4Ideal : Cert.Reference4Ideal.Facts) (hKernel2 : Cert.Kernel2.Facts) (hKernel2Ideal : Cert.Kernel2Ideal.Facts) (hReference2Ideal : Cert.Reference2Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel3 : Cert.Kernel3.Facts) (hKernel3Ideal : Cert.Kernel3Ideal.Facts) (hReference3Ideal : Cert.Reference3Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel2_Kernel2Ideal
    ∧ algebraic_Kernel2Ideal_Reference2Ideal (hKernel2Ideal := hKernel2Ideal) (hReference2Ideal := hReference2Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel3_Kernel3Ideal
    ∧ algebraic_Kernel3Ideal_Reference3Ideal (hKernel3Ideal := hKernel3Ideal) (hReference3Ideal := hReference3Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S2064x512 : Shape := ⟨2, ![2064, 512]⟩
abbrev S1x512 : Shape := ⟨2, ![1, 512]⟩
abbrev S1024x1024 : Shape := ⟨2, ![1024, 1024]⟩
abbrev S2064x1024 : Shape := ⟨2, ![2064, 1024]⟩
abbrev S_ : Shape := ⟨0, ![]⟩

class Facts : Prop where
  bcast_S_S2064x512 : S_.BroadcastsInDim S2064x512 (![] : Fin 0 → Fin S2064x512.rank)
  bcast_S_S1x512 : S_.BroadcastsInDim S1x512 (![] : Fin 0 → Fin S1x512.rank)
  bcast_S_S1024x1024 : S_.BroadcastsInDim S1024x1024 (![] : Fin 0 → Fin S1024x1024.rank)
  bcast_S_S2064x1024 : S_.BroadcastsInDim S2064x1024 (![] : Fin 0 → Fin S2064x1024.rank)

variable [Facts]

def fn {F : FTy → Type} [FloatOps F] (main_arg0 : FVec F S2064x512 .f32) (main_arg1 : FVec F S1x512 .f32) (main_arg2 : FVec F S1x512 .f32) (main_arg3 : FVec F S1024x1024 .f32) (main_arg4 : FVec F S2064x1024 .f32) : IVec S2064x512 1 × IVec S1x512 1 × IVec S1024x1024 1 × IVec S2064x1024 1 :=
  let main_v0 : FVec F S2064x512 .f32 := Host.absf main_arg0
  let main_cst : FVec F S_ .f32 := constant S_ .f32 0x7F800000#32
  let main_v1 : FVec F S2064x512 .f32 := broadcastInDim S2064x512 ![] bcast_S_S2064x512 main_cst
  let main_v2 : IVec S2064x512 1 := cmpf .olt main_v0 main_v1
  let main_v3 : FVec F S1x512 .f32 := Host.absf main_arg1
  let main_cst_0 : FVec F S_ .f32 := constant S_ .f32 0x7F800000#32
  let main_v4 : FVec F S1x512 .f32 := broadcastInDim S1x512 ![] bcast_S_S1x512 main_cst_0
  let main_v5 : IVec S1x512 1 := cmpf .olt main_v3 main_v4
  let main_v6 : FVec F S1024x1024 .f32 := Host.absf main_arg3
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S2064x1024 .f32 := Host.absf main_arg4
  let main_cst_2 : FVec F S_ .f32 := constant S_ .f32 0x7F800000#32
  let main_v10 : FVec F S2064x1024 .f32 := broadcastInDim S2064x1024 ![] bcast_S_S2064x1024 main_cst_2
  let main_v11 : IVec S2064x1024 1 := cmpf .olt main_v9 main_v10
  (main_v2, main_v5, main_v8, main_v11)
-- ==== Pre_finite4.lean ====
abbrev S2064x1024 : Shape := ⟨2, ![2064, 1024]⟩
abbrev S1024x2816 : Shape := ⟨2, ![1024, 2816]⟩
abbrev S2816x1024 : Shape := ⟨2, ![2816, 1024]⟩
abbrev S_ : Shape := ⟨0, ![]⟩

class Facts : Prop where
  bcast_S_S2064x1024 : S_.BroadcastsInDim S2064x1024 (![] : Fin 0 → Fin S2064x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S2064x1024 .f32) (main_arg1 : FVec F S1024x2816 .f32) (main_arg2 : FVec F S1024x2816 .f32) (main_arg3 : FVec F S2816x1024 .f32) (main_arg4 : FVec F S2064x1024 .f32) : IVec S2064x1024 1 × IVec S1024x2816 1 × IVec S2816x1024 1 × IVec S2064x1024 1 :=
  let main_v0 : FVec F S2064x1024 .f32 := Host.absf main_arg0
  let main_cst : FVec F S_ .f32 := constant S_ .f32 0x7F800000#32
  let main_v1 : FVec F S2064x1024 .f32 := broadcastInDim S2064x1024 ![] bcast_S_S2064x1024 main_cst
  let main_v2 : IVec S2064x1024 1 := cmpf .olt main_v0 main_v1
  let main_v3 : FVec F S1024x2816 .f32 := Host.absf main_arg2
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg3
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S2064x1024 .f32 := Host.absf main_arg4
  let main_cst_2 : FVec F S_ .f32 := constant S_ .f32 0x7F800000#32
  let main_v10 : FVec F S2064x1024 .f32 := broadcastInDim S2064x1024 ![] bcast_S_S2064x1024 main_cst_2
  let main_v11 : IVec S2064x1024 1 := cmpf .olt main_v9 main_v10
  (main_v2, main_v5, main_v8, main_v11)
-- ==== Kernel.lean ====
abbrev S2064x512 : Shape := ⟨2, ![2064, 512]⟩
abbrev S1x512 : Shape := ⟨2, ![1, 512]⟩
abbrev S1024x1024 : Shape := ⟨2, ![1024, 1024]⟩
abbrev S2064x1024 : Shape := ⟨2, ![2064, 1024]⟩
abbrev S_ : Shape := ⟨0, ![]⟩
abbrev S8x128 : Shape := ⟨2, ![8, 128]⟩
abbrev S2048x1024 : Shape := ⟨2, ![2048, 1024]⟩
abbrev S16x1024 : Shape := ⟨2, ![16, 1024]⟩
abbrev S112x1024 : Shape := ⟨2, ![112, 1024]⟩
abbrev S2176x1024 : Shape := ⟨2, ![2176, 1024]⟩
abbrev S2048x512 : Shape := ⟨2, ![2048, 512]⟩
abbrev S16x512 : Shape := ⟨2, ![16, 512]⟩
abbrev S112x512 : Shape := ⟨2, ![112, 512]⟩
abbrev S2176x512 : Shape := ⟨2, ![2176, 512]⟩
abbrev S544x1024 : Shape := ⟨2, ![544, 1024]⟩
abbrev S544x512 : Shape := ⟨2, ![544, 512]⟩
abbrev S272x1024 : Shape := ⟨2, ![272, 1024]⟩
abbrev S512x1024 : Shape := ⟨2, ![512, 1024]⟩
abbrev S272x512 : Shape := ⟨2, ![272, 512]⟩
abbrev S272 : Shape := ⟨1, ![272]⟩
abbrev S272x1 : Shape := ⟨2, ![272, 1]⟩
abbrev S512 : Shape := ⟨1, ![512]⟩

abbrev nBuf : Space → Nat
  | .hbm => 23
  | .vmem => 13
  | .smem => 0
  | _ => 0

abbrev bufTy : (tb : Table) → Fin (tcTables nBuf tb) → BufTy
  | .hbm, ⟨0, _⟩ => ⟨S2064x512, .f32⟩
  | .hbm, ⟨1, _⟩ => ⟨S1x512, .f32⟩
  | .hbm, ⟨2, _⟩ => ⟨S1x512, .f32⟩
  | .hbm, ⟨3, _⟩ => ⟨S1024x1024, .f32⟩
  | .hbm, ⟨4, _⟩ => ⟨S2064x1024, .f32⟩
  | .hbm, ⟨5, _⟩ => ⟨S_, .f32⟩
  | .hbm, ⟨6, _⟩ => ⟨S8x128, .f32⟩
  | .hbm, ⟨7, _⟩ => ⟨S2048x1024, .f32⟩
  | .hbm, ⟨8, _⟩ => ⟨S16x1024, .f32⟩
  | .hbm, ⟨9, _⟩ => ⟨S_, .f32⟩
  | .hbm, ⟨10, _⟩ => ⟨S112x1024, .f32⟩
  | .hbm, ⟨11, _⟩ => ⟨S2176x1024, .f32⟩
  | .hbm, ⟨12, _⟩ => ⟨S2176x1024, .bf16⟩
  | .hbm, ⟨13, _⟩ => ⟨S1024x1024, .bf16⟩
  | .hbm, ⟨14, _⟩ => ⟨S2048x512, .f32⟩
  | .hbm, ⟨15, _⟩ => ⟨S16x512, .f32⟩
  | .hbm, ⟨16, _⟩ => ⟨S_, .f32⟩
  | .hbm, ⟨17, _⟩ => ⟨S112x512, .f32⟩
  | .hbm, ⟨18, _⟩ => ⟨S2176x512, .f32⟩
  | .hbm, ⟨19, _⟩ => ⟨S2176x512, .f32⟩
  | .hbm, ⟨20, _⟩ => ⟨S2176x512, .f32⟩
  | .hbm, ⟨21, _⟩ => ⟨S1x512, .f32⟩
  | .hbm, ⟨22, _⟩ => ⟨S1x512, .f32⟩
  | .local _ .vmem, ⟨0, _⟩ => ⟨S544x1024, .bf16⟩
  | .local _ .vmem, ⟨1, _⟩ => ⟨S544x1024, .bf16⟩
  | .local _ .vmem, ⟨2, _⟩ => ⟨S1024x1024, .bf16⟩
  | .local _ .vmem, ⟨3, _⟩ => ⟨S544x512, .f32⟩
  | .local _ .vmem, ⟨4, _⟩ => ⟨S544x512, .f32⟩
  | .local _ .vmem, ⟨5, _⟩ => ⟨S1x512, .f32⟩
  | .local _ .vmem, ⟨6, _⟩ => ⟨S1x512, .f32⟩
  | .local _ .vmem, ⟨7, _⟩ => ⟨S544x512, .f32⟩
  | .local _ .vmem, ⟨8, _⟩ => ⟨S544x512, .f32⟩
  | .local _ .vmem, ⟨9, _⟩ => ⟨S544x512, .f32⟩
  | .local _ .vmem, ⟨10, _⟩ => ⟨S544x512, .f32⟩
  | .local _ .vmem, ⟨11, _⟩ => ⟨S1x512, .f32⟩
  | .local _ .vmem, ⟨12, _⟩ => ⟨S1x512, .f32⟩
  | _, _ => ⟨S2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S544x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2064x512 : Shape := ⟨2, ![2064, 512]⟩
abbrev S1x512 : Shape := ⟨2, ![1, 512]⟩
abbrev S1024x1024 : Shape := ⟨2, ![1024, 1024]⟩
abbrev S2064x1024 : Shape := ⟨2, ![2064, 1024]⟩
abbrev S_ : Shape := ⟨0, ![]⟩
abbrev S512 : Shape := ⟨1, ![512]⟩
abbrev S2064 : Shape := ⟨1, ![2064]⟩
abbrev S2064x1 : Shape := ⟨2, ![2064, 1]⟩
abbrev S112x512 : Shape := ⟨2, ![112, 512]⟩
abbrev S2048x512 : Shape := ⟨2, ![2048, 512]⟩
abbrev S16x512 : Shape := ⟨2, ![16, 512]⟩
abbrev S2176x512 : Shape := ⟨2, ![2176, 512]⟩

abbrev nBuf : Space → Nat
  | .hbm => 121
  | .vmem => 0
  | .smem => 0
  | _ => 0

abbrev bufTy : (tb : Table) → Fin (tcTables nBuf tb) → BufTy
  | .hbm, ⟨0, _⟩ => ⟨S2064x512, .f32⟩
  | .hbm, ⟨1, _⟩ => ⟨S1x512, .f32⟩
  | .hbm, ⟨2, _⟩ => ⟨S1x512, .f32⟩
  | .hbm, ⟨3, _⟩ => ⟨S1024x1024, .f32⟩
  | .hbm, ⟨4, _⟩ => ⟨S2064x1024, .f32⟩
  | .hbm, ⟨5, _⟩ => ⟨S_, .f32⟩
  | .hbm, ⟨6, _⟩ => ⟨S2064x512, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S2064, .f32⟩
  | .hbm, ⟨11, _⟩ => ⟨S2064x1, .f32⟩
  | .hbm, ⟨12, _⟩ => ⟨S_, .f32⟩
  | .hbm, ⟨13, _⟩ => ⟨S2064x1, .f32⟩
  | .hbm, ⟨14, _⟩ => ⟨S2064x1, .f32⟩
  | .hbm, ⟨15, _⟩ => ⟨S2064x512, .f32⟩
  | .hbm, ⟨16, _⟩ => ⟨S2064x512, .f32⟩
  | .hbm, ⟨17, _⟩ => ⟨S2064x512, .f32⟩
  | .hbm, ⟨18, _⟩ => ⟨S_, .f32⟩
  | .hbm, ⟨19, _⟩ => ⟨S2064x512, .f32⟩
  | .hbm, ⟨20, _⟩ => ⟨S2064x512, .f32⟩
  | .hbm, ⟨21, _⟩ => ⟨S_, .f32⟩
  | .hbm, ⟨22, _⟩ => ⟨S2064, .f32⟩
  | .hbm, ⟨23, _⟩ => ⟨S2064x1, .f32⟩
  | .hbm, ⟨24, _⟩ => ⟨S_, .f32⟩
  | .hbm, ⟨25, _⟩ => ⟨S2064x1, .f32⟩
  | .hbm, ⟨26, _⟩ => ⟨S2064x1, .f32⟩
  | .hbm, ⟨27, _⟩ => ⟨S2064x512, .f32⟩
  | .hbm, ⟨28, _⟩ => ⟨S2064x512, .f32⟩
  | .hbm, ⟨29, _⟩ => ⟨S_, .f32⟩
  | .hbm, ⟨30, _⟩ => ⟨S2064x1, .f32⟩
  | .hbm, ⟨31, _⟩ => ⟨S2064x1, .f32⟩
  | .hbm, ⟨32, _⟩ => ⟨S2064x1, .f32⟩
  | .hbm, ⟨33, _⟩ => ⟨S2064x1, .f32⟩
  | .hbm, ⟨34, _⟩ => ⟨S_, .f32⟩
  | .hbm, ⟨35, _⟩ => ⟨S2064x1, .f32⟩
  | .hbm, ⟨36, _⟩ => ⟨S2064x1, .f32⟩
  | .hbm, ⟨37, _⟩ => ⟨S2064x512, .f32⟩
  | .hbm, ⟨38, _⟩ => ⟨S2064x512, .f32⟩
  | .hbm, ⟨39, _⟩ => ⟨S1x512, .f32⟩
  | .hbm, ⟨40, _⟩ => ⟨S2064x512, .f32⟩
  | .hbm, ⟨41, _⟩ => ⟨S2064x512, .f32⟩
  | .hbm, ⟨42, _⟩ => ⟨S1x512, .f32⟩
  | .hbm, ⟨43, _⟩ => ⟨S2064x512, .f32⟩
  | .hbm, ⟨44, _⟩ => ⟨S2064x512, .f32⟩
  | .hbm, ⟨45, _⟩ => ⟨S2064x512, .f32⟩
  | .hbm, ⟨46, _⟩ => ⟨S2064x512, .f32⟩
  | .hbm, ⟨47, _⟩ => ⟨S_, .f32⟩
  | .hbm, ⟨48, _⟩ => ⟨S2064x512, .f32⟩
  | .hbm, ⟨49, _⟩ => ⟨S2064x512, .f32⟩
  | .hbm, ⟨50, _⟩ => ⟨S_, .f32⟩
  | .hbm, ⟨51, _⟩ => ⟨S2064x512, .f32⟩
  | .hbm, ⟨52, _⟩ => ⟨S2064x512, .f32⟩
  | .hbm, ⟨53, _⟩ => ⟨S_, .f32⟩
  | .hbm, ⟨54, _⟩ => ⟨S2064x512, .f32⟩
  | .hbm, ⟨55, _⟩ => ⟨S2064x512, .f32⟩
  | .hbm, ⟨56, _⟩ => ⟨S2064x512, .f32⟩
  | .hbm, ⟨57, _⟩ => ⟨S2064x512, .f32⟩
  | .hbm, ⟨58, _⟩ => ⟨S2064x1024, .f32⟩
  | .hbm, ⟨59, _⟩ => ⟨S2064x1024, .f32⟩
  | .hbm, ⟨60, _⟩ => ⟨S2064x1024, .f32⟩
  | .hbm, ⟨61, _⟩ => ⟨S2064x512, .f32⟩
  | .hbm, ⟨62, _⟩ => ⟨S2064x512, .f32⟩
  | .hbm, ⟨63, _⟩ => ⟨S2064x512, .f32⟩
  | .hbm, ⟨64, _⟩ => ⟨S2064x512, .f32⟩
  | .hbm, ⟨65, _⟩ => ⟨S2064x512, .f32⟩
  | .hbm, ⟨66, _⟩ => ⟨S2064x512, .f32⟩
  | .hbm, ⟨67, _⟩ => ⟨S_, .f32⟩
  | .hbm, ⟨68, _⟩ => ⟨S512, .f32⟩
  | .hbm, ⟨69, _⟩ => ⟨S1x512, .f32⟩
  | .hbm, ⟨70, _⟩ => ⟨S_, .f32⟩
  | .hbm, ⟨71, _⟩ => ⟨S512, .f32⟩
  | .hbm, ⟨72, _⟩ => ⟨S2064x512, .f32⟩
  | .hbm, ⟨73, _⟩ => ⟨S_, .f32⟩
  | .hbm, ⟨74, _⟩ => ⟨S512, .f32⟩
  | .hbm, ⟨75, _⟩ => ⟨S1x512, .f32⟩
  | .hbm, ⟨76, _⟩ => ⟨S2064x512, .f32⟩
  | .hbm, ⟨77, _⟩ => ⟨S2064x512, .f32⟩
  | .hbm, ⟨78, _⟩ => ⟨S_, .f32⟩
  | .hbm, ⟨79, _⟩ => ⟨S512, .f32⟩
  | .hbm, ⟨80, _⟩ => ⟨S2064x512, .f32⟩
  | .hbm, ⟨81, _⟩ => ⟨S_, .f32⟩
  | .hbm, ⟨82, _⟩ => ⟨S2064, .f32⟩
  | .hbm, ⟨83, _⟩ => ⟨S2064x1, .f32⟩
  | .hbm, ⟨84, _⟩ => ⟨S2064x512, .f32⟩
  | .hbm, ⟨85, _⟩ => ⟨S2064x512, .f32⟩
  | .hbm, ⟨86, _⟩ => ⟨S2064x1, .f32⟩
  | .hbm, ⟨87, _⟩ => ⟨S2064x512, .f32⟩
  | .hbm, ⟨88, _⟩ => ⟨S_, .f32⟩
  | .hbm, ⟨89, _⟩ => ⟨S2064, .f32⟩
  | .hbm, ⟨90, _⟩ => ⟨S2064x1, .f32⟩
  | .hbm, ⟨91, _⟩ => ⟨S_, .f32⟩
  | .hbm, ⟨92, _⟩ => ⟨S2064x1, .f32⟩
  | .hbm, ⟨93, _⟩ => ⟨S2064x1, .f32⟩
  | .hbm, ⟨94, _⟩ => ⟨S_, .f32⟩
  | .hbm, ⟨95, _⟩ => ⟨S2064, .f32⟩
  | .hbm, ⟨96, _⟩ => ⟨S2064x512, .f32⟩
  | .hbm, ⟨97, _⟩ => ⟨S2064x512, .f32⟩
  | .hbm, ⟨98, _⟩ => ⟨S2064x512, .f32⟩
  | .hbm, ⟨99, _⟩ => ⟨S_, .f32⟩
  | .hbm, ⟨100, _⟩ => ⟨S2064, .f32⟩
  | .hbm, ⟨101, _⟩ => ⟨S2064x1, .f32⟩
  | .hbm, ⟨102, _⟩ => ⟨S2064x512, .f32⟩
  | .hbm, ⟨103, _⟩ => ⟨S2064x1, .f32⟩
  | .hbm, ⟨104, _⟩ => ⟨S_, .f32⟩
  | .hbm, ⟨105, _⟩ => ⟨S2064x1, .f32⟩
  | .hbm, ⟨106, _⟩ => ⟨S2064x1, .f32⟩
  | .hbm, ⟨107, _⟩ => ⟨S_, .f32⟩
  | .hbm, ⟨108, _⟩ => ⟨S2064, .f32⟩
  | .hbm, ⟨109, _⟩ => ⟨S2064x512, .f32⟩
  | .hbm, ⟨110, _⟩ => ⟨S2064x512, .f32⟩
  | .hbm, ⟨111, _⟩ => ⟨S1x512, .f32⟩
  | .hbm, ⟨112, _⟩ => ⟨S1x512, .f32⟩
  | .hbm, ⟨113, _⟩ => ⟨S_, .f32⟩
  | .hbm, ⟨114, _⟩ => ⟨S112x512, .f32⟩
  | .hbm, ⟨115, _⟩ => ⟨S2048x512, .f32⟩
  | .hbm, ⟨116, _⟩ => ⟨S16x512, .f32⟩
  | .hbm, ⟨117, _⟩ => ⟨S2176x512, .f32⟩
  | .hbm, ⟨118, _⟩ => ⟨S2048x512, .f32⟩
  | .hbm, ⟨119, _⟩ => ⟨S16x512, .f32⟩
  | .hbm, ⟨120, _⟩ => ⟨S2176x512, .f32⟩
  | _, _ => ⟨S2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v32_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v32_1 : Ref sig .tc := ⟨.hbm, 56, rfl⟩
abbrev main_v32_0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_10 : Ref sig .tc := ⟨.hbm, 78, rfl⟩
abbrev main_v47 : Ref sig .tc := ⟨.hbm, 79, rfl⟩
abbrev main_v48 : Ref sig .tc := ⟨.hbm, 80, rfl⟩
abbrev main_cst_11 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_12 : Ref sig .tc := ⟨.hbm, 88, rfl⟩
abbrev main_v55 : Ref sig .tc := ⟨.hbm, 89, rfl⟩
abbrev main_v56 : Ref sig .tc := ⟨.hbm, 90, rfl⟩
abbrev main_cst_13 : Ref sig .tc := ⟨.hbm, 91, rfl⟩
abbrev main_v57 : Ref sig .tc := ⟨.hbm, 92, rfl⟩
abbrev main_v58 : Ref sig .tc := ⟨.hbm, 93, rfl⟩
abbrev main_cst_14 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_15 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_16 : Ref sig .tc := ⟨.hbm, 104, rfl⟩
abbrev main_v67 : Ref sig .tc := ⟨.hbm, 105, rfl⟩
abbrev main_v68 : Ref sig .tc := ⟨.hbm, 106, rfl⟩
abbrev main_cst_17 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_18 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩

abbrev nD : Nat := 1
abbrev τ : Topo := Topo.v7x

variable {F : FTy → Type} [FloatOps F]
-- ==== Kernel4.lean ====
abbrev S2064x1024 : Shape := ⟨2, ![2064, 1024]⟩
abbrev S1024x2816 : Shape := ⟨2, ![1024, 2816]⟩
abbrev S2816x1024 : Shape := ⟨2, ![2816, 1024]⟩
abbrev S2048x1024 : Shape := ⟨2, ![2048, 1024]⟩
abbrev S16x1024 : Shape := ⟨2, ![16, 1024]⟩
abbrev S_ : Shape := ⟨0, ![]⟩
abbrev S112x1024 : Shape := ⟨2, ![112, 1024]⟩
abbrev S2176x1024 : Shape := ⟨2, ![2176, 1024]⟩
abbrev S2176x2816 : Shape := ⟨2, ![2176, 2816]⟩
abbrev S544x1024 : Shape := ⟨2, ![544, 1024]⟩
abbrev S544x2816 : Shape := ⟨2, ![544, 2816]⟩
abbrev S256x1024 : Shape := ⟨2, ![256, 1024]⟩
abbrev S544x256 : Shape := ⟨2, ![544, 256]⟩

abbrev nBuf : Space → Nat
  | .hbm => 27
  | .vmem => 21
  | .smem => 0
  | _ => 0

abbrev bufTy : (tb : Table) → Fin (tcTables nBuf tb) → BufTy
  | .hbm, ⟨0, _⟩ => ⟨S2064x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2064x1024, .f32⟩
  | .hbm, ⟨5, _⟩ => ⟨S2048x1024, .f32⟩
  | .hbm, ⟨6, _⟩ => ⟨S16x1024, .f32⟩
  | .hbm, ⟨7, _⟩ => ⟨S_, .f32⟩
  | .hbm, ⟨8, _⟩ => ⟨S112x1024, .f32⟩
  | .hbm, ⟨9, _⟩ => ⟨S2176x1024, .f32⟩
  | .hbm, ⟨10, _⟩ => ⟨S2176x1024, .bf16⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | .hbm, ⟨15, _⟩ => ⟨S2176x2816, .bf16⟩
  | .hbm, ⟨16, _⟩ => ⟨S2176x2816, .bf16⟩
  | .hbm, ⟨17, _⟩ => ⟨S2176x2816, .bf16⟩
  | .hbm, ⟨18, _⟩ => ⟨S2048x1024, .f32⟩
  | .hbm, ⟨19, _⟩ => ⟨S16x1024, .f32⟩
  | .hbm, ⟨20, _⟩ => ⟨S_, .f32⟩
  | .hbm, ⟨21, _⟩ => ⟨S112x1024, .f32⟩
  | .hbm, ⟨22, _⟩ => ⟨S2176x1024, .f32⟩
  | .hbm, ⟨23, _⟩ => ⟨S2176x1024, .bf16⟩
  | .hbm, ⟨24, _⟩ => ⟨S2816x1024, .bf16⟩
  | .hbm, ⟨25, _⟩ => ⟨S2176x2816, .bf16⟩
  | .hbm, ⟨26, _⟩ => ⟨S2176x2816, .bf16⟩
  | .local _ .vmem, ⟨0, _⟩ => ⟨S544x1024, .bf16⟩
  | .local _ .vmem, ⟨1, _⟩ => ⟨S544x1024, .bf16⟩
  | .local _ .vmem, ⟨2, _⟩ => ⟨S2816x1024, .bf16⟩
  | .local _ .vmem, ⟨3, _⟩ => ⟨S2816x1024, .bf16⟩
  | .local _ .vmem, ⟨4, _⟩ => ⟨S544x2816, .bf16⟩
  | .local _ .vmem, ⟨5, _⟩ => ⟨S544x2816, .bf16⟩
  | .local _ .vmem, ⟨6, _⟩ => ⟨S544x2816, .bf16⟩
  | .local _ .vmem, ⟨7, _⟩ => ⟨S544x2816, .bf16⟩
  | .local _ .vmem, ⟨8, _⟩ => ⟨S544x2816, .bf16⟩
  | .local _ .vmem, ⟨9, _⟩ => ⟨S544x2816, .bf16⟩
  | .local _ .vmem, ⟨10, _⟩ => ⟨S544x1024, .bf16⟩
  | .local _ .vmem, ⟨11, _⟩ => ⟨S544x1024, .bf16⟩
  | .local _ .vmem, ⟨12, _⟩ => ⟨S2816x1024, .bf16⟩
  | .local _ .vmem, ⟨13, _⟩ => ⟨S544x2816, .bf16⟩
  | .local _ .vmem, ⟨14, _⟩ => ⟨S544x2816, .bf16⟩
  | .local _ .vmem, ⟨15, _⟩ => ⟨S544x2816, .bf16⟩
  | .local _ .vmem, ⟨16, _⟩ => ⟨S544x2816, .bf16⟩
  | .local _ .vmem, ⟨17, _⟩ => ⟨S544x2816, .bf16⟩
  | .local _ .vmem, ⟨18, _⟩ => ⟨S544x2816, .bf16⟩
  | .local _ .vmem, ⟨19, _⟩ => ⟨S544x2816, .bf16⟩
  | .local _ .vmem, ⟨20, _⟩ => ⟨S544x2816, .bf16⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S544x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S544x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S544x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S544x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S544x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S544x2816 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== Reference4Ideal.lean ====
abbrev S2064x1024 : Shape := ⟨2, ![2064, 1024]⟩
abbrev S1024x2816 : Shape := ⟨2, ![1024, 2816]⟩
abbrev S2816x1024 : Shape := ⟨2, ![2816, 1024]⟩
abbrev S2064x2816 : Shape := ⟨2, ![2064, 2816]⟩
abbrev S_ : Shape := ⟨0, ![]⟩
abbrev S112x2816 : Shape := ⟨2, ![112, 2816]⟩
abbrev S2048x2816 : Shape := ⟨2, ![2048, 2816]⟩
abbrev S16x2816 : Shape := ⟨2, ![16, 2816]⟩
abbrev S2176x2816 : Shape := ⟨2, ![2176, 2816]⟩

abbrev nBuf : Space → Nat
  | .hbm => 53
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2064x1024, .f32⟩
  | .hbm, ⟨5, _⟩ => ⟨S2064x2816, .f32⟩
  | .hbm, ⟨6, _⟩ => ⟨S2064x2816, .f32⟩
  | .hbm, ⟨7, _⟩ => ⟨S2064x2816, .f32⟩
  | .hbm, ⟨8, _⟩ => ⟨S2064x2816, .f32⟩
  | .hbm, ⟨9, _⟩ => ⟨S_, .f32⟩
  | .hbm, ⟨10, _⟩ => ⟨S2064x2816, .f32⟩
  | .hbm, ⟨11, _⟩ => ⟨S2064x2816, .f32⟩
  | .hbm, ⟨12, _⟩ => ⟨S_, .f32⟩
  | .hbm, ⟨13, _⟩ => ⟨S2064x2816, .f32⟩
  | .hbm, ⟨14, _⟩ => ⟨S2064x2816, .f32⟩
  | .hbm, ⟨15, _⟩ => ⟨S_, .f32⟩
  | .hbm, ⟨16, _⟩ => ⟨S2064x2816, .f32⟩
  | .hbm, ⟨17, _⟩ => ⟨S2064x2816, .f32⟩
  | .hbm, ⟨18, _⟩ => ⟨S2064x2816, .f32⟩
  | .hbm, ⟨19, _⟩ => ⟨S2064x2816, .f32⟩
  | .hbm, ⟨20, _⟩ => ⟨S2064x2816, .f32⟩
  | .hbm, ⟨21, _⟩ => ⟨S2064x1024, .f32⟩
  | .hbm, ⟨22, _⟩ => ⟨S2064x2816, .f32⟩
  | .hbm, ⟨23, _⟩ => ⟨S2064x2816, .f32⟩
  | .hbm, ⟨24, _⟩ => ⟨S2064x2816, .f32⟩
  | .hbm, ⟨25, _⟩ => ⟨S2064x2816, .f32⟩
  | .hbm, ⟨26, _⟩ => ⟨S2064x2816, .f32⟩
  | .hbm, ⟨27, _⟩ => ⟨S2064x2816, .f32⟩
  | .hbm, ⟨28, _⟩ => ⟨S2064x2816, .f32⟩
  | .hbm, ⟨29, _⟩ => ⟨S_, .f32⟩
  | .hbm, ⟨30, _⟩ => ⟨S112x2816, .f32⟩
  | .hbm, ⟨31, _⟩ => ⟨S2064x2816, .f32⟩
  | .hbm, ⟨32, _⟩ => ⟨S2064x2816, .f32⟩
  | .hbm, ⟨33, _⟩ => ⟨S_, .f32⟩
  | .hbm, ⟨34, _⟩ => ⟨S2064x2816, .f32⟩
  | .hbm, ⟨35, _⟩ => ⟨S2064x2816, .f32⟩
  | .hbm, ⟨36, _⟩ => ⟨S_, .f32⟩
  | .hbm, ⟨37, _⟩ => ⟨S2064x2816, .f32⟩
  | .hbm, ⟨38, _⟩ => ⟨S2064x2816, .f32⟩
  | .hbm, ⟨39, _⟩ => ⟨S2064x2816, .f32⟩
  | .hbm, ⟨40, _⟩ => ⟨S2064x2816, .f32⟩
  | .hbm, ⟨41, _⟩ => ⟨S2048x2816, .f32⟩
  | .hbm, ⟨42, _⟩ => ⟨S16x2816, .f32⟩
  | .hbm, ⟨43, _⟩ => ⟨S2176x2816, .f32⟩
  | .hbm, ⟨44, _⟩ => ⟨S2176x2816, .bf16⟩
  | .hbm, ⟨45, _⟩ => ⟨S2048x2816, .f32⟩
  | .hbm, ⟨46, _⟩ => ⟨S16x2816, .f32⟩
  | .hbm, ⟨47, _⟩ => ⟨S2176x2816, .f32⟩
  | .hbm, ⟨48, _⟩ => ⟨S2176x2816, .bf16⟩
  | .hbm, ⟨49, _⟩ => ⟨S2048x2816, .f32⟩
  | .hbm, ⟨50, _⟩ => ⟨S16x2816, .f32⟩
  | .hbm, ⟨51, _⟩ => ⟨S2176x2816, .f32⟩
  | .hbm, ⟨52, _⟩ => ⟨S2176x2816, .bf16⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_call2_v0 : Ref sig .tc := ⟨.hbm, 31, rfl⟩
abbrev main_call2_v1 : Ref sig .tc := ⟨.hbm, 32, rfl⟩
abbrev main_call2_cst : Ref sig .tc := ⟨.hbm, 33, rfl⟩
abbrev main_call2_v2 : Ref sig .tc := ⟨.hbm, 34, rfl⟩
abbrev main_call2_v3 : Ref sig .tc := ⟨.hbm, 35, rfl⟩
abbrev main_call2_cst_0 : Ref sig .tc := ⟨.hbm, 36, rfl⟩
abbrev main_call2_v4 : Ref sig .tc := ⟨.hbm, 37, rfl⟩
abbrev main_call2_v5 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩

abbrev nD : Nat := 1
abbrev τ : Topo := Topo.v7x

variable {F : FTy → Type} [FloatOps F]
-- ==== Kernel2.lean ====
abbrev S2064x2560 : Shape := ⟨2, ![2064, 2560]⟩
abbrev S3x512 : Shape := ⟨2, ![3, 512]⟩
abbrev S31x512 : Shape := ⟨2, ![31, 512]⟩
abbrev S2064x512 : Shape := ⟨2, ![2064, 512]⟩
abbrev S2048x2560 : Shape := ⟨2, ![2048, 2560]⟩
abbrev S16x2560 : Shape := ⟨2, ![16, 2560]⟩
abbrev S_ : Shape := ⟨0, ![]⟩
abbrev S112x2560 : Shape := ⟨2, ![112, 2560]⟩
abbrev S2176x2560 : Shape := ⟨2, ![2176, 2560]⟩
abbrev S2176x5x512 : Shape := ⟨3, ![2176, 5, 512]⟩
abbrev S5x2176x512 : Shape := ⟨3, ![5, 2176, 512]⟩
abbrev S3x4x128 : Shape := ⟨3, ![3, 4, 128]⟩
abbrev S4x3x128 : Shape := ⟨3, ![4, 3, 128]⟩
abbrev S31x4x128 : Shape := ⟨3, ![31, 4, 128]⟩
abbrev S4x31x128 : Shape := ⟨3, ![4, 31, 128]⟩
abbrev S4x16x128 : Shape := ⟨3, ![4, 16, 128]⟩
abbrev S4x5x128 : Shape := ⟨3, ![4, 5, 128]⟩
abbrev S4x9x128 : Shape := ⟨3, ![4, 9, 128]⟩
abbrev S4x64x128 : Shape := ⟨3, ![4, 64, 128]⟩
abbrev S4x64x256 : Shape := ⟨3, ![4, 64, 256]⟩
abbrev S2048x512 : Shape := ⟨2, ![2048, 512]⟩
abbrev S16x512 : Shape := ⟨2, ![16, 512]⟩
abbrev S112x512 : Shape := ⟨2, ![112, 512]⟩
abbrev S2176x512 : Shape := ⟨2, ![2176, 512]⟩
abbrev S1x512 : Shape := ⟨2, ![1, 512]⟩
abbrev S5x2176x128 : Shape := ⟨3, ![5, 2176, 128]⟩
abbrev S2176x128 : Shape := ⟨2, ![2176, 128]⟩
abbrev S1x64x256 : Shape := ⟨3, ![1, 64, 256]⟩
abbrev S3x128 : Shape := ⟨2, ![3, 128]⟩
abbrev S31x128 : Shape := ⟨2, ![31, 128]⟩
abbrev S1x128 : Shape := ⟨2, ![1, 128]⟩
abbrev S2128x128 : Shape := ⟨2, ![2128, 128]⟩
abbrev S248x128 : Shape := ⟨2, ![248, 128]⟩
abbrev S7x2128x128 : Shape := ⟨3, ![7, 2128, 128]⟩
abbrev S1x3x128 : Shape := ⟨3, ![1, 3, 128]⟩
abbrev S1x31x128 : Shape := ⟨3, ![1, 31, 128]⟩
abbrev S32x128 : Shape := ⟨2, ![32, 128]⟩
abbrev S1x2048x128 : Shape := ⟨3, ![1, 2048, 128]⟩
abbrev S2048x128 : Shape := ⟨2, ![2048, 128]⟩
abbrev S1x16x128 : Shape := ⟨3, ![1, 16, 128]⟩
abbrev S16x128 : Shape := ⟨2, ![16, 128]⟩
abbrev S2120x128 : Shape := ⟨2, ![2120, 128]⟩
abbrev S1x2120x128 : Shape := ⟨3, ![1, 2120, 128]⟩
abbrev S48x128 : Shape := ⟨2, ![48, 128]⟩
abbrev S1x48x128 : Shape := ⟨3, ![1, 48, 128]⟩
abbrev S112x128 : Shape := ⟨2, ![112, 128]⟩
abbrev S1x112x128 : Shape := ⟨3, ![1, 112, 128]⟩
abbrev S8x128 : Shape := ⟨2, ![8, 128]⟩
abbrev S128 : Shape := ⟨1, ![128]⟩

abbrev nBuf : Space → Nat
  | .hbm => 40
  | .vmem => 22
  | .smem => 0
  | _ => 0

abbrev bufTy : (tb : Table) → Fin (tcTables nBuf tb) → BufTy
  | .hbm, ⟨0, _⟩ => ⟨S2064x2560, .f32⟩
  | .hbm, ⟨1, _⟩ => ⟨S3x512, .f32⟩
  | .hbm, ⟨2, _⟩ => ⟨S31x512, .f32⟩
  | .hbm, ⟨3, _⟩ => ⟨S2064x512, .f32⟩
  | .hbm, ⟨4, _⟩ => ⟨S2064x512, .f32⟩
  | .hbm, ⟨5, _⟩ => ⟨S2048x2560, .f32⟩
  | .hbm, ⟨6, _⟩ => ⟨S16x2560, .f32⟩
  | .hbm, ⟨7, _⟩ => ⟨S_, .f32⟩
  | .hbm, ⟨8, _⟩ => ⟨S112x2560, .f32⟩
  | .hbm, ⟨9, _⟩ => ⟨S2176x2560, .f32⟩
  | .hbm, ⟨10, _⟩ => ⟨S2176x5x512, .f32⟩
  | .hbm, ⟨11, _⟩ => ⟨S5x2176x512, .f32⟩
  | .hbm, ⟨12, _⟩ => ⟨S3x4x128, .f32⟩
  | .hbm, ⟨13, _⟩ => ⟨S4x3x128, .f32⟩
  | .hbm, ⟨14, _⟩ => ⟨S31x4x128, .f32⟩
  | .hbm, ⟨15, _⟩ => ⟨S4x31x128, .f32⟩
  | .hbm, ⟨16, _⟩ => ⟨S_, .f32⟩
  | .hbm, ⟨17, _⟩ => ⟨S4x16x128, .f32⟩
  | .hbm, ⟨18, _⟩ => ⟨S_, .f32⟩
  | .hbm, ⟨19, _⟩ => ⟨S4x5x128, .f32⟩
  | .hbm, ⟨20, _⟩ => ⟨S_, .f32⟩
  | .hbm, ⟨21, _⟩ => ⟨S4x9x128, .f32⟩
  | .hbm, ⟨22, _⟩ => ⟨S4x64x128, .f32⟩
  | .hbm, ⟨23, _⟩ => ⟨S_, .f32⟩
  | .hbm, ⟨24, _⟩ => ⟨S4x64x128, .f32⟩
  | .hbm, ⟨25, _⟩ => ⟨S4x64x256, .f32⟩
  | .hbm, ⟨26, _⟩ => ⟨S2048x512, .f32⟩
  | .hbm, ⟨27, _⟩ => ⟨S16x512, .f32⟩
  | .hbm, ⟨28, _⟩ => ⟨S_, .f32⟩
  | .hbm, ⟨29, _⟩ => ⟨S112x512, .f32⟩
  | .hbm, ⟨30, _⟩ => ⟨S2176x512, .f32⟩
  | .hbm, ⟨31, _⟩ => ⟨S2048x512, .f32⟩
  | .hbm, ⟨32, _⟩ => ⟨S16x512, .f32⟩
  | .hbm, ⟨33, _⟩ => ⟨S_, .f32⟩
  | .hbm, ⟨34, _⟩ => ⟨S112x512, .f32⟩
  | .hbm, ⟨35, _⟩ => ⟨S2176x512, .f32⟩
  | .hbm, ⟨36, _⟩ => ⟨S5x2176x512, .bf16⟩
  | .hbm, ⟨37, _⟩ => ⟨S3x512, .f32⟩
  | .hbm, ⟨38, _⟩ => ⟨S31x512, .f32⟩
  | .hbm, ⟨39, _⟩ => ⟨S1x512, .f32⟩
  | .local _ .vmem, ⟨0, _⟩ => ⟨S5x2176x128, .f32⟩
  | .local _ .vmem, ⟨1, _⟩ => ⟨S5x2176x128, .f32⟩
  | .local _ .vmem, ⟨2, _⟩ => ⟨S2176x128, .f32⟩
  | .local _ .vmem, ⟨3, _⟩ => ⟨S2176x128, .f32⟩
  | .local _ .vmem, ⟨4, _⟩ => ⟨S2176x128, .f32⟩
  | .local _ .vmem, ⟨5, _⟩ => ⟨S2176x128, .f32⟩
  | .local _ .vmem, ⟨6, _⟩ => ⟨S1x64x256, .f32⟩
  | .local _ .vmem, ⟨7, _⟩ => ⟨S1x64x256, .f32⟩
  | .local _ .vmem, ⟨8, _⟩ => ⟨S5x2176x128, .bf16⟩
  | .local _ .vmem, ⟨9, _⟩ => ⟨S5x2176x128, .bf16⟩
  | .local _ .vmem, ⟨10, _⟩ => ⟨S3x128, .f32⟩
  | .local _ .vmem, ⟨11, _⟩ => ⟨S3x128, .f32⟩
  | .local _ .vmem, ⟨12, _⟩ => ⟨S31x128, .f32⟩
  | .local _ .vmem, ⟨13, _⟩ => ⟨S31x128, .f32⟩
  | .local _ .vmem, ⟨14, _⟩ => ⟨S1x128, .f32⟩
  | .local _ .vmem, ⟨15, _⟩ => ⟨S1x128, .f32⟩
  | .local _ .vmem, ⟨16, _⟩ => ⟨S2128x128, .f32⟩
  | .local _ .vmem, ⟨17, _⟩ => ⟨S2128x128, .f32⟩
  | .local _ .vmem, ⟨18, _⟩ => ⟨S2128x128, .f32⟩
  | .local _ .vmem, ⟨19, _⟩ => ⟨S248x128, .f32⟩
  | .local _ .vmem, ⟨20, _⟩ => ⟨S7x2128x128, .f32⟩
  | .local _ .vmem, ⟨21, _⟩ => ⟨S7x2128x128, .f32⟩
  | _, _ => ⟨S2064x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev main_v24_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c43_i32 : BitVec 32 := 43#32
  let v42 : BitVec 32 := Scalar.addi c0_i32 c43_i32
  let c1_i32 : BitVec 32 := 1#32
  ⟨c0_i32, v42, c1_i32⟩
def k0_mult1 (k0_t1 : Fin k0_t1_loop.trips) : BitVec 32 :=
  let c32_i32 : BitVec 32 := 32#32
  let c0_i32 : BitVec 32 := 0#32
  let c1_i32 : BitVec 32 := 1#32
  let arg15 : BitVec 32 := Scf.iv c0_i32 c1_i32 k0_t1
  let c48_i32 : BitVec 32 := 48#32
  let v415 : BitVec 32 := Scalar.muli arg15 c48_i32
  let v416 : BitVec 32 := Scalar.addi c32_i32 v415
  v416
def k0_mult2 (k0_t1 : Fin k0_t1_loop.trips) : BitVec 32 :=
  let c0_i32 : BitVec 32 := 0#32
  let c1_i32 : BitVec 32 := 1#32
  let arg15 : BitVec 32 := Scf.iv c0_i32 c1_i32 k0_t1
  let c48_i32_376 : BitVec 32 := 48#32
  let v418 : BitVec 32 := Scalar.muli arg15 c48_i32_376
  let c24_i32 : BitVec 32 := 24#32
  let v421 : BitVec 32 := Scalar.addi v418 c24_i32
  v421
def k0_off1 (k0_t1 : Fin k0_t1_loop.trips) : Fin 3 → Nat :=
  let c5_378 : Index := 5#32
  let c0_i32 : BitVec 32 := 0#32
  let c1_i32 : BitVec 32 := 1#32
  let arg15 : BitVec 32 := Scf.iv c0_i32 c1_i32 k0_t1
  let c48_i32_376 : BitVec 32 := 48#32
  let v418 : BitVec 32 := Scalar.muli arg15 c48_i32_376
  let c24_i32 : BitVec 32 := 24#32
  let v421 : BitVec 32 := Scalar.addi v418 c24_i32
  let v422 : BitVec 32 := v421
  let v423 : Index := Scalar.indexCast v422
  let c0_379 : Index := 0#32
  ![5, v423.toNat, 0]
def k0_mult3 (k0_t1 : Fin k0_t1_loop.trips) : BitVec 32 :=
  let c0_i32 : BitVec 32 := 0#32
  let c1_i32 : BitVec 32 := 1#32
  let arg15 : BitVec 32 := Scf.iv c0_i32 c1_i32 k0_t1
  let c48_i32_376 : BitVec 32 := 48#32
  let v418 : BitVec 32 := Scalar.muli arg15 c48_i32_376
  let c24_i32_380 : BitVec 32 := 24#32
  let v430 : BitVec 32 := Scalar.addi v418 c24_i32_380
  v430
def k0_off2 (k0_t1 : Fin k0_t1_loop.trips) : Fin 3 → Nat :=
  let c6_381 : Index := 6#32
  let c0_i32 : BitVec 32 := 0#32
  let c1_i32 : BitVec 32 := 1#32
  let arg15 : BitVec 32 := Scf.iv c0_i32 c1_i32 k0_t1
  let c48_i32_376 : BitVec 32 := 48#32
  let v418 : BitVec 32 := Scalar.muli arg15 c48_i32_376
  let c24_i32_380 : BitVec 32 := 24#32
  let v430 : BitVec 32 := Scalar.addi v418 c24_i32_380
  let v431 : BitVec 32 := v430
  let v432 : Index := Scalar.indexCast v431
  let c0_382 : Index := 0#32
  ![6, v432.toNat, 0]
def k0_mult4 (k0_t1 : Fin k0_t1_loop.trips) : BitVec 32 :=
  let c0_i32 : BitVec 32 := 0#32
  let c1_i32 : BitVec 32 := 1#32
  let arg15 : BitVec 32 := Scf.iv c0_i32 c1_i32 k0_t1
  let c48_i32_376 : BitVec 32 := 48#32
  let v418 : BitVec 32 := Scalar.muli arg15 c48_i32_376
  let c32_i32_383 : BitVec 32 := 32#32
  let v439 : BitVec 32 := Scalar.addi v418 c32_i32_383
  v439
def k0_off3 (k0_t1 : Fin k0_t1_loop.trips) : Fin 2 → Nat :=
  let c0_i32 : BitVec 32 := 0#32
  let c1_i32 : BitVec 32 := 1#32
  let arg15 : BitVec 32 := Scf.iv c0_i32 c1_i32 k0_t1
  let c48_i32_376 : BitVec 32 := 48#32
  let v418 : BitVec 32 := Scalar.muli arg15 c48_i32_376
  let c32_i32_383 : BitVec 32 := 32#32
  let v439 : BitVec 32 := Scalar.addi v418 c32_i32_383
  let v440 : BitVec 32 := v439
  let v441 : Index := Scalar.indexCast v440
  let c0_384 : Index := 0#32
  ![v441.toNat, 0]
def k0_off4 (k0_t1 : Fin k0_t1_loop.trips) : Fin 2 → Nat :=
  let c32_i32 : BitVec 32 := 32#32
  let c0_i32 : BitVec 32 := 0#32
  let c1_i32 : BitVec 32 := 1#32
  let arg15 : BitVec 32 := Scf.iv c0_i32 c1_i32 k0_t1
  let c48_i32 : BitVec 32 := 48#32
  let v415 : BitVec 32 := Scalar.muli arg15 c48_i32
  let v416 : BitVec 32 := Scalar.addi c32_i32 v415
  let v417 : BitVec 32 := v416
  let v446 : Index := Scalar.indexCast v417
  let c0_385 : Index := 0#32
  ![v446.toNat, 0]
@[reducible] def k0_t2_loop : Scf.Loop 32 :=
  let c0_i32_64 : BitVec 32 := 0#32
  let c43_i32_65 : BitVec 32 := 43#32
  let v83 : BitVec 32 := Scalar.addi c0_i32_64 c43_i32_65
  let c1_i32_66 : BitVec 32 := 1#32
  ⟨c0_i32_64, v83, c1_i32_66⟩
def k0_mult5 (k0_t2 : Fin k0_t2_loop.trips) : BitVec 32 :=
  let c32_i32 : BitVec 32 := 32#32
  let c0_i32_64 : BitVec 32 := 0#32
  let c1_i32_66 : BitVec 32 := 1#32
  let arg15 : BitVec 32 := Scf.iv c0_i32_64 c1_i32_66 k0_t2
  let c48_i32 : BitVec 32 := 48#32
  let v415 : BitVec 32 := Scalar.muli arg15 c48_i32
  let v416 : BitVec 32 := Scalar.addi c32_i32 v415
  v416
def k0_off5 (k0_t2 : Fin k0_t2_loop.trips) : Fin 2 → Nat :=
  let c32_i32 : BitVec 32 := 32#32
  let c0_i32_64 : BitVec 32 := 0#32
  let c1_i32_66 : BitVec 32 := 1#32
  let arg15 : BitVec 32 := Scf.iv c0_i32_64 c1_i32_66 k0_t2
  let c48_i32 : BitVec 32 := 48#32
  let v415 : BitVec 32 := Scalar.muli arg15 c48_i32
  let v416 : BitVec 32 := Scalar.addi c32_i32 v415
  let v417 : BitVec 32 := v416
  let v418 : Index := Scalar.indexCast v417
  let c0_376 : Index := 0#32
  ![v418.toNat, 0]
def k0_mult6 (k0_t2 : Fin k0_t2_loop.trips) : BitVec 32 :=
  let c0_i32_64 : BitVec 32 := 0#32
  let c1_i32_66 : BitVec 32 := 1#32
  let arg15 : BitVec 32 := Scf.iv c0_i32_64 c1_i32_66 k0_t2
  let c48_i32_377 : BitVec 32 := 48#32
  let v420 : BitVec 32 := Scalar.muli arg15 c48_i32_377
  let c24_i32 : BitVec 32 := 24#32
  let v421 : BitVec 32 := Scalar.addi v420 c24_i32
  v421
def k0_off6 (k0_t2 : Fin k0_t2_loop.trips) : Fin 3 → Nat :=
  let c5_378 : Index := 5#32
  let c0_i32_64 : BitVec 32 := 0#32
  let c1_i32_66 : BitVec 32 := 1#32
  let arg15 : BitVec 32 := Scf.iv c0_i32_64 c1_i32_66 k0_t2
  let c48_i32_377 : BitVec 32 := 48#32
  let v420 : BitVec 32 := Scalar.muli arg15 c48_i32_377
  let c24_i32 : BitVec 32 := 24#32
  let v421 : BitVec 32 := Scalar.addi v420 c24_i32
  let v422 : BitVec 32 := v421
  let v423 : Index := Scalar.indexCast v422
  let c0_379 : Index := 0#32
  ![5, v423.toNat, 0]
def k0_mult7 (k0_t2 : Fin k0_t2_loop.trips) : BitVec 32 :=
  let c0_i32_64 : BitVec 32 := 0#32
  let c1_i32_66 : BitVec 32 := 1#32
  let arg15 : BitVec 32 := Scf.iv c0_i32_64 c1_i32_66 k0_t2
  let c48_i32_384 : BitVec 32 := 48#32
  let v443 : BitVec 32 := Scalar.muli arg15 c48_i32_384
  let c24_i32_385 : BitVec 32 := 24#32
  let v444 : BitVec 32 := Scalar.addi v443 c24_i32_385
  v444
def k0_off7 (k0_t2 : Fin k0_t2_loop.trips) : Fin 3 → Nat :=
  let c6_386 : Index := 6#32
  let c0_i32_64 : BitVec 32 := 0#32
  let c1_i32_66 : BitVec 32 := 1#32
  let arg15 : BitVec 32 := Scf.iv c0_i32_64 c1_i32_66 k0_t2
  let c48_i32_384 : BitVec 32 := 48#32
  let v443 : BitVec 32 := Scalar.muli arg15 c48_i32_384
  let c24_i32_385 : BitVec 32 := 24#32
  let v444 : BitVec 32 := Scalar.addi v443 c24_i32_385
  let v445 : BitVec 32 := v444
  let v446 : Index := Scalar.indexCast v445
  let c0_387 : Index := 0#32
  ![6, v446.toNat, 0]
def k0_mult8 (k0_t2 : Fin k0_t2_loop.trips) : BitVec 32 :=
  let c0_i32_64 : BitVec 32 := 0#32
  let c1_i32_66 : BitVec 32 := 1#32
  let arg15 : BitVec 32 := Scf.iv c0_i32_64 c1_i32_66 k0_t2
  let c48_i32_392 : BitVec 32 := 48#32
  let v466 : BitVec 32 := Scalar.muli arg15 c48_i32_392
  let c32_i32_393 : BitVec 32 := 32#32
  let v467 : BitVec 32 := Scalar.addi v466 c32_i32_393
  v467
def k0_off8 (k0_t2 : Fin k0_t2_loop.trips) : Fin 2 → Nat :=
  let c0_i32_64 : BitVec 32 := 0#32
  let c1_i32_66 : BitVec 32 := 1#32
  let arg15 : BitVec 32 := Scf.iv c0_i32_64 c1_i32_66 k0_t2
  let c48_i32_392 : BitVec 32 := 48#32
  let v466 : BitVec 32 := Scalar.muli arg15 c48_i32_392
  let c32_i32_393 : BitVec 32 := 32#32
  let v467 : BitVec 32 := Scalar.addi v466 c32_i32_393
  let v468 : BitVec 32 := v467
  let v469 : Index := Scalar.indexCast v468
  let c0_394 : Index := 0#32
  ![v469.toNat, 0]
@[reducible] def k0_t3_loop : Scf.Loop 32 :=
  let c0_i32_92 : BitVec 32 := 0#32
  let c43_i32_93 : BitVec 32 := 43#32
  let v104 : BitVec 32 := Scalar.addi c0_i32_92 c43_i32_93
  let c1_i32_94 : BitVec 32 := 1#32
  ⟨c0_i32_92, v104, c1_i32_94⟩
def k0_mult9 (k0_t3 : Fin k0_t3_loop.trips) : BitVec 32 :=
  let c32_i32 : BitVec 32 := 32#32
  let c0_i32_92 : BitVec 32 := 0#32
  let c1_i32_94 : BitVec 32 := 1#32
  let arg15 : BitVec 32 := Scf.iv c0_i32_92 c1_i32_94 k0_t3
  let c48_i32 : BitVec 32 := 48#32
  let v415 : BitVec 32 := Scalar.muli arg15 c48_i32
  let v416 : BitVec 32 := Scalar.addi c32_i32 v415
  v416
def k0_mult10 (k0_t3 : Fin k0_t3_loop.trips) : BitVec 32 :=
  let c32_i32 : BitVec 32 := 32#32
  let c0_i32_92 : BitVec 32 := 0#32
  let c1_i32_94 : BitVec 32 := 1#32
  let arg15 : BitVec 32 := Scf.iv c0_i32_92 c1_i32_94 k0_t3
  let c48_i32 : BitVec 32 := 48#32
  let v415 : BitVec 32 := Scalar.muli arg15 c48_i32
  let v416 : BitVec 32 := Scalar.addi c32_i32 v415
  let v417 : BitVec 32 := v416
  let c0_i32_377 : BitVec 32 := 0#32
  let v420 : BitVec 32 := Scalar.addi v417 c0_i32_377
  v420
def k0_off9 (k0_t3 : Fin k0_t3_loop.trips) : Fin 3 → Nat :=
  let c1_378 : Index := 1#32
  let c32_i32 : BitVec 32 := 32#32
  let c0_i32_92 : BitVec 32 := 0#32
  let c1_i32_94 : BitVec 32 := 1#32
  let arg15 : BitVec 32 := Scf.iv c0_i32_92 c1_i32_94 k0_t3
  let c48_i32 : BitVec 32 := 48#32
  let v415 : BitVec 32 := Scalar.muli arg15 c48_i32
  let v416 : BitVec 32 := Scalar.addi c32_i32 v415
  let v417 : BitVec 32 := v416
  let c0_i32_377 : BitVec 32 := 0#32
  let v420 : BitVec 32 := Scalar.addi v417 c0_i32_377
  let v421 : BitVec 32 := v420
  let v422 : Index := Scalar.indexCast v421
  let c0_379 : Index := 0#32
  ![1, v422.toNat, 0]
def k0_mult11 (k0_t3 : Fin k0_t3_loop.trips) : BitVec 32 :=
  let c32_i32 : BitVec 32 := 32#32
  let c0_i32_92 : BitVec 32 := 0#32
  let c1_i32_94 : BitVec 32 := 1#32
  let arg15 : BitVec 32 := Scf.iv c0_i32_92 c1_i32_94 k0_t3
  let c48_i32 : BitVec 32 := 48#32
  let v415 : BitVec 32 := Scalar.muli arg15 c48_i32
  let v416 : BitVec 32 := Scalar.addi c32_i32 v415
  let v417 : BitVec 32 := v416
  let c0_i32_380 : BitVec 32 := 0#32
  let v429 : BitVec 32 := Scalar.addi v417 c0_i32_380
  v429
def k0_off10 (k0_t3 : Fin k0_t3_loop.trips) : Fin 3 → Nat :=
  let c0_381 : Index := 0#32
  let c32_i32 : BitVec 32 := 32#32
  let c0_i32_92 : BitVec 32 := 0#32
  let c1_i32_94 : BitVec 32 := 1#32
  let arg15 : BitVec 32 := Scf.iv c0_i32_92 c1_i32_94 k0_t3
  let c48_i32 : BitVec 32 := 48#32
  let v415 : BitVec 32 := Scalar.muli arg15 c48_i32
  let v416 : BitVec 32 := Scalar.addi c32_i32 v415
  let v417 : BitVec 32 := v416
  let c0_i32_380 : BitVec 32 := 0#32
  let v429 : BitVec 32 := Scalar.addi v417 c0_i32_380
  let v430 : BitVec 32 := v429
  let v431 : Index := Scalar.indexCast v430
  let c0_382 : Index := 0#32
  ![0, v431.toNat, 0]
def k0_mult12 (k0_t3 : Fin k0_t3_loop.trips) : BitVec 32 :=
  let c32_i32 : BitVec 32 := 32#32
  let c0_i32_92 : BitVec 32 := 0#32
  let c1_i32_94 : BitVec 32 := 1#32
  let arg15 : BitVec 32 := Scf.iv c0_i32_92 c1_i32_94 k0_t3
  let c48_i32 : BitVec 32 := 48#32
  let v415 : BitVec 32 := Scalar.muli arg15 c48_i32
  let v416 : BitVec 32 := Scalar.addi c32_i32 v415
  let v417 : BitVec 32 := v416
  let c0_i32_383 : BitVec 32 := 0#32
  let v438 : BitVec 32 := Scalar.addi v417 c0_i32_383
  v438
def k0_off11 (k0_t3 : Fin k0_t3_loop.trips) : Fin 2 → Nat :=
  let c32_i32 : BitVec 32 := 32#32
  let c0_i32_92 : BitVec 32 := 0#32
  let c1_i32_94 : BitVec 32 := 1#32
  let arg15 : BitVec 32 := Scf.iv c0_i32_92 c1_i32_94 k0_t3
  let c48_i32 : BitVec 32 := 48#32
  let v415 : BitVec 32 := Scalar.muli arg15 c48_i32
  let v416 : BitVec 32 := Scalar.addi c32_i32 v415
  let v417 : BitVec 32 := v416
  let c0_i32_383 : BitVec 32 := 0#32
  let v438 : BitVec 32 := Scalar.addi v417 c0_i32_383
  let v439 : BitVec 32 := v438
  let v440 : Index := Scalar.indexCast v439
  let c0_384 : Index := 0#32
  ![v440.toNat, 0]
def k0_off12 (k0_t3 : Fin k0_t3_loop.trips) : Fin 2 → Nat :=
  let c32_i32 : BitVec 32 := 32#32
  let c0_i32_92 : BitVec 32 := 0#32
  let c1_i32_94 : BitVec 32 := 1#32
  let arg15 : BitVec 32 := Scf.iv c0_i32_92 c1_i32_94 k0_t3
  let c48_i32 : BitVec 32 := 48#32
  let v415 : BitVec 32 := Scalar.muli arg15 c48_i32
  let v416 : BitVec 32 := Scalar.addi c32_i32 v415
  let v417 : BitVec 32 := v416
  let v445 : Index := Scalar.indexCast v417
  let c0_385 : Index := 0#32
  ![v445.toNat, 0]
@[reducible] def k0_t4_loop : Scf.Loop 32 :=
  let c0_i32_210 : BitVec 32 := 0#32
  let c43_i32_211 : BitVec 32 := 43#32
  let v227 : BitVec 32 := Scalar.addi c0_i32_210 c43_i32_211
  let c1_i32_212 : BitVec 32 := 1#32
  ⟨c0_i32_210, v227, c1_i32_212⟩
def k0_mult13 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  v416
def k0_off13 (k0_t4 : Fin k0_t4_loop.trips) : Fin 2 → Nat :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let v418 : Index := Scalar.indexCast v417
  let c0_376 : Index := 0#32
  ![v418.toNat, 0]
def k0_mult14 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c24_i32 : BitVec 32 := 24#32
  let v420 : BitVec 32 := Scalar.addi v417 c24_i32
  v420
def k0_off14 (k0_t4 : Fin k0_t4_loop.trips) (c24_i32 : BitVec 32) : Fin 3 → Nat :=
  let c5_377 : Index := 5#32
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let v420 : BitVec 32 := Scalar.addi v417 c24_i32
  let v421 : BitVec 32 := v420
  let v422 : Index := Scalar.indexCast v421
  let c0_378 : Index := 0#32
  ![5, v422.toNat, 0]
def k0_mult15 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c24_i32_383 : BitVec 32 := 24#32
  let v442 : BitVec 32 := Scalar.addi v417 c24_i32_383
  v442
def k0_off15 (k0_t4 : Fin k0_t4_loop.trips) (c24_i32_383 : BitVec 32) : Fin 3 → Nat :=
  let c4_384 : Index := 4#32
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let v442 : BitVec 32 := Scalar.addi v417 c24_i32_383
  let v443 : BitVec 32 := v442
  let v444 : Index := Scalar.indexCast v443
  let c0_385 : Index := 0#32
  ![4, v444.toNat, 0]
def k0_mult16 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c24_i32_390 : BitVec 32 := 24#32
  let v464 : BitVec 32 := Scalar.addi v417 c24_i32_390
  v464
def k0_off16 (k0_t4 : Fin k0_t4_loop.trips) (c24_i32_390 : BitVec 32) : Fin 3 → Nat :=
  let c3_391 : Index := 3#32
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let v464 : BitVec 32 := Scalar.addi v417 c24_i32_390
  let v465 : BitVec 32 := v464
  let v466 : Index := Scalar.indexCast v465
  let c0_392 : Index := 0#32
  ![3, v466.toNat, 0]
def k0_mult17 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c24_i32_397 : BitVec 32 := 24#32
  let v486 : BitVec 32 := Scalar.addi v417 c24_i32_397
  v486
def k0_off17 (k0_t4 : Fin k0_t4_loop.trips) (c24_i32_397 : BitVec 32) : Fin 3 → Nat :=
  let c2_398 : Index := 2#32
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let v486 : BitVec 32 := Scalar.addi v417 c24_i32_397
  let v487 : BitVec 32 := v486
  let v488 : Index := Scalar.indexCast v487
  let c0_399 : Index := 0#32
  ![2, v488.toNat, 0]
def k0_mult18 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c24_i32_404 : BitVec 32 := 24#32
  let v508 : BitVec 32 := Scalar.addi v417 c24_i32_404
  v508
def k0_off18 (k0_t4 : Fin k0_t4_loop.trips) (c24_i32_404 : BitVec 32) : Fin 3 → Nat :=
  let c1_405 : Index := 1#32
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let v508 : BitVec 32 := Scalar.addi v417 c24_i32_404
  let v509 : BitVec 32 := v508
  let v510 : Index := Scalar.indexCast v509
  let c0_406 : Index := 0#32
  ![1, v510.toNat, 0]
def k0_mult19 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c24_i32_411 : BitVec 32 := 24#32
  let v530 : BitVec 32 := Scalar.addi v417 c24_i32_411
  v530
def k0_off19 (k0_t4 : Fin k0_t4_loop.trips) (c24_i32_411 : BitVec 32) : Fin 3 → Nat :=
  let c0_412 : Index := 0#32
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let v530 : BitVec 32 := Scalar.addi v417 c24_i32_411
  let v531 : BitVec 32 := v530
  let v532 : Index := Scalar.indexCast v531
  let c0_413 : Index := 0#32
  ![0, v532.toNat, 0]
def k0_mult20 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c24_i32_418 : BitVec 32 := 24#32
  let v552 : BitVec 32 := Scalar.addi v417 c24_i32_418
  v552
def k0_off20 (k0_t4 : Fin k0_t4_loop.trips) (c24_i32_418 : BitVec 32) : Fin 2 → Nat :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let v552 : BitVec 32 := Scalar.addi v417 c24_i32_418
  let v553 : BitVec 32 := v552
  let v554 : Index := Scalar.indexCast v553
  let c0_419 : Index := 0#32
  ![v554.toNat, 0]
def k0_mult21 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c16_i32 : BitVec 32 := 16#32
  let v573 : BitVec 32 := Scalar.addi v417 c16_i32
  v573
def k0_off21 (k0_t4 : Fin k0_t4_loop.trips) (c16_i32 : BitVec 32) : Fin 3 → Nat :=
  let c6_424 : Index := 6#32
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let v573 : BitVec 32 := Scalar.addi v417 c16_i32
  let v574 : BitVec 32 := v573
  let v575 : Index := Scalar.indexCast v574
  let c0_425 : Index := 0#32
  ![6, v575.toNat, 0]
def k0_mult22 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c16_i32_430 : BitVec 32 := 16#32
  let v595 : BitVec 32 := Scalar.addi v417 c16_i32_430
  v595
def k0_mult23 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c16_i32_437 : BitVec 32 := 16#32
  let v617 : BitVec 32 := Scalar.addi v417 c16_i32_437
  v617
def k0_mult24 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c16_i32_444 : BitVec 32 := 16#32
  let v639 : BitVec 32 := Scalar.addi v417 c16_i32_444
  v639
def k0_mult25 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c16_i32_451 : BitVec 32 := 16#32
  let v661 : BitVec 32 := Scalar.addi v417 c16_i32_451
  v661
def k0_mult26 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c16_i32_458 : BitVec 32 := 16#32
  let v683 : BitVec 32 := Scalar.addi v417 c16_i32_458
  v683
def k0_mult27 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c16_i32_465 : BitVec 32 := 16#32
  let v705 : BitVec 32 := Scalar.addi v417 c16_i32_465
  v705
def k0_mult28 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c16_i32_472 : BitVec 32 := 16#32
  let v727 : BitVec 32 := Scalar.addi v417 c16_i32_472
  v727
def k0_mult29 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c8_i32 : BitVec 32 := 8#32
  let v748 : BitVec 32 := Scalar.addi v417 c8_i32
  v748
def k0_mult30 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c8_i32_484 : BitVec 32 := 8#32
  let v770 : BitVec 32 := Scalar.addi v417 c8_i32_484
  v770
def k0_mult31 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c8_i32_491 : BitVec 32 := 8#32
  let v792 : BitVec 32 := Scalar.addi v417 c8_i32_491
  v792
def k0_mult32 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c8_i32_498 : BitVec 32 := 8#32
  let v814 : BitVec 32 := Scalar.addi v417 c8_i32_498
  v814
def k0_mult33 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c8_i32_505 : BitVec 32 := 8#32
  let v836 : BitVec 32 := Scalar.addi v417 c8_i32_505
  v836
def k0_mult34 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c8_i32_512 : BitVec 32 := 8#32
  let v858 : BitVec 32 := Scalar.addi v417 c8_i32_512
  v858
def k0_mult35 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c8_i32_519 : BitVec 32 := 8#32
  let v880 : BitVec 32 := Scalar.addi v417 c8_i32_519
  v880
def k0_mult36 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c8_i32_526 : BitVec 32 := 8#32
  let v902 : BitVec 32 := Scalar.addi v417 c8_i32_526
  v902
def k0_mult37 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c0_i32_532 : BitVec 32 := 0#32
  let v923 : BitVec 32 := Scalar.addi v417 c0_i32_532
  v923
def k0_mult38 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c0_i32_539 : BitVec 32 := 0#32
  let v945 : BitVec 32 := Scalar.addi v417 c0_i32_539
  v945
def k0_mult39 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c0_i32_546 : BitVec 32 := 0#32
  let v967 : BitVec 32 := Scalar.addi v417 c0_i32_546
  v967
def k0_mult40 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c0_i32_553 : BitVec 32 := 0#32
  let v989 : BitVec 32 := Scalar.addi v417 c0_i32_553
  v989
def k0_mult41 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c0_i32_560 : BitVec 32 := 0#32
  let v1011 : BitVec 32 := Scalar.addi v417 c0_i32_560
  v1011
def k0_mult42 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c0_i32_567 : BitVec 32 := 0#32
  let v1033 : BitVec 32 := Scalar.addi v417 c0_i32_567
  v1033
def k0_mult43 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c0_i32_574 : BitVec 32 := 0#32
  let v1055 : BitVec 32 := Scalar.addi v417 c0_i32_574
  v1055
def k0_mult44 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v415 : BitVec 32 := Scalar.muli arg15 c48_i32
  let v416 : BitVec 32 := Scalar.addi c32_i32 v415
  let v417 : BitVec 32 := v416
  let c0_i32_581 : BitVec 32 := 0#32
  let v1077 : BitVec 32 := Scalar.addi v417 c0_i32_581
  v1077
@[reducible] def k0_t5_loop : Scf.Loop 32 :=
  let c0_i32_324 : BitVec 32 := 0#32
  let c43_i32_325 : BitVec 32 := 43#32
  let v352 : BitVec 32 := Scalar.addi c0_i32_324 c43_i32_325
  let c1_i32_326 : BitVec 32 := 1#32
  ⟨c0_i32_324, v352, c1_i32_326⟩
def k0_mult45 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  v416
def k0_mult46 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c24_i32 : BitVec 32 := 24#32
  let v420 : BitVec 32 := Scalar.addi v417 c24_i32
  v420
def k0_off22 (k0_t5 : Fin k0_t5_loop.trips) (c24_i32 : BitVec 32) : Fin 3 → Nat :=
  let c5_377 : Index := 5#32
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let v420 : BitVec 32 := Scalar.addi v417 c24_i32
  let v421 : BitVec 32 := v420
  let v422 : Index := Scalar.indexCast v421
  let c0_378 : Index := 0#32
  ![5, v422.toNat, 0]
def k0_mult47 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c24_i32_379 : BitVec 32 := 24#32
  let v429 : BitVec 32 := Scalar.addi v417 c24_i32_379
  v429
def k0_off23 (k0_t5 : Fin k0_t5_loop.trips) (c24_i32_379 : BitVec 32) : Fin 3 → Nat :=
  let c4_380 : Index := 4#32
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let v429 : BitVec 32 := Scalar.addi v417 c24_i32_379
  let v430 : BitVec 32 := v429
  let v431 : Index := Scalar.indexCast v430
  let c0_381 : Index := 0#32
  ![4, v431.toNat, 0]
def k0_mult48 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c24_i32_382 : BitVec 32 := 24#32
  let v438 : BitVec 32 := Scalar.addi v417 c24_i32_382
  v438
def k0_off24 (k0_t5 : Fin k0_t5_loop.trips) (c24_i32_382 : BitVec 32) : Fin 3 → Nat :=
  let c3_383 : Index := 3#32
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let v438 : BitVec 32 := Scalar.addi v417 c24_i32_382
  let v439 : BitVec 32 := v438
  let v440 : Index := Scalar.indexCast v439
  let c0_384 : Index := 0#32
  ![3, v440.toNat, 0]
def k0_mult49 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c24_i32_385 : BitVec 32 := 24#32
  let v447 : BitVec 32 := Scalar.addi v417 c24_i32_385
  v447
def k0_off25 (k0_t5 : Fin k0_t5_loop.trips) (c24_i32_385 : BitVec 32) : Fin 3 → Nat :=
  let c2_386 : Index := 2#32
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let v447 : BitVec 32 := Scalar.addi v417 c24_i32_385
  let v448 : BitVec 32 := v447
  let v449 : Index := Scalar.indexCast v448
  let c0_387 : Index := 0#32
  ![2, v449.toNat, 0]
def k0_mult50 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c24_i32_388 : BitVec 32 := 24#32
  let v456 : BitVec 32 := Scalar.addi v417 c24_i32_388
  v456
def k0_off26 (k0_t5 : Fin k0_t5_loop.trips) (c24_i32_388 : BitVec 32) : Fin 3 → Nat :=
  let c1_389 : Index := 1#32
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let v456 : BitVec 32 := Scalar.addi v417 c24_i32_388
  let v457 : BitVec 32 := v456
  let v458 : Index := Scalar.indexCast v457
  let c0_390 : Index := 0#32
  ![1, v458.toNat, 0]
def k0_mult51 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c24_i32_391 : BitVec 32 := 24#32
  let v465 : BitVec 32 := Scalar.addi v417 c24_i32_391
  v465
def k0_off27 (k0_t5 : Fin k0_t5_loop.trips) (c24_i32_391 : BitVec 32) : Fin 3 → Nat :=
  let c0_392 : Index := 0#32
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let v465 : BitVec 32 := Scalar.addi v417 c24_i32_391
  let v466 : BitVec 32 := v465
  let v467 : Index := Scalar.indexCast v466
  let c0_393 : Index := 0#32
  ![0, v467.toNat, 0]
def k0_mult52 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c24_i32_394 : BitVec 32 := 24#32
  let v474 : BitVec 32 := Scalar.addi v417 c24_i32_394
  v474
def k0_off28 (k0_t5 : Fin k0_t5_loop.trips) (c24_i32_394 : BitVec 32) : Fin 2 → Nat :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let v474 : BitVec 32 := Scalar.addi v417 c24_i32_394
  let v475 : BitVec 32 := v474
  let v476 : Index := Scalar.indexCast v475
  let c0_395 : Index := 0#32
  ![v476.toNat, 0]
def k0_mult53 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c16_i32 : BitVec 32 := 16#32
  let v482 : BitVec 32 := Scalar.addi v417 c16_i32
  v482
def k0_off29 (k0_t5 : Fin k0_t5_loop.trips) (c16_i32 : BitVec 32) : Fin 3 → Nat :=
  let c6_396 : Index := 6#32
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let v482 : BitVec 32 := Scalar.addi v417 c16_i32
  let v483 : BitVec 32 := v482
  let v484 : Index := Scalar.indexCast v483
  let c0_397 : Index := 0#32
  ![6, v484.toNat, 0]
def k0_mult54 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c16_i32_398 : BitVec 32 := 16#32
  let v491 : BitVec 32 := Scalar.addi v417 c16_i32_398
  v491
def k0_mult55 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c16_i32_401 : BitVec 32 := 16#32
  let v500 : BitVec 32 := Scalar.addi v417 c16_i32_401
  v500
def k0_mult56 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c16_i32_404 : BitVec 32 := 16#32
  let v509 : BitVec 32 := Scalar.addi v417 c16_i32_404
  v509
def k0_mult57 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c16_i32_407 : BitVec 32 := 16#32
  let v518 : BitVec 32 := Scalar.addi v417 c16_i32_407
  v518
def k0_mult58 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c16_i32_410 : BitVec 32 := 16#32
  let v527 : BitVec 32 := Scalar.addi v417 c16_i32_410
  v527
def k0_mult59 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c16_i32_413 : BitVec 32 := 16#32
  let v536 : BitVec 32 := Scalar.addi v417 c16_i32_413
  v536
def k0_mult60 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c16_i32_416 : BitVec 32 := 16#32
  let v545 : BitVec 32 := Scalar.addi v417 c16_i32_416
  v545
def k0_mult61 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c8_i32 : BitVec 32 := 8#32
  let v553 : BitVec 32 := Scalar.addi v417 c8_i32
  v553
def k0_mult62 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c8_i32_420 : BitVec 32 := 8#32
  let v562 : BitVec 32 := Scalar.addi v417 c8_i32_420
  v562
def k0_mult63 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c8_i32_423 : BitVec 32 := 8#32
  let v571 : BitVec 32 := Scalar.addi v417 c8_i32_423
  v571
def k0_mult64 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c8_i32_426 : BitVec 32 := 8#32
  let v580 : BitVec 32 := Scalar.addi v417 c8_i32_426
  v580
def k0_mult65 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c8_i32_429 : BitVec 32 := 8#32
  let v589 : BitVec 32 := Scalar.addi v417 c8_i32_429
  v589
def k0_mult66 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c8_i32_432 : BitVec 32 := 8#32
  let v598 : BitVec 32 := Scalar.addi v417 c8_i32_432
  v598
def k0_mult67 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c8_i32_435 : BitVec 32 := 8#32
  let v607 : BitVec 32 := Scalar.addi v417 c8_i32_435
  v607
def k0_mult68 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c8_i32_438 : BitVec 32 := 8#32
  let v616 : BitVec 32 := Scalar.addi v417 c8_i32_438
  v616
def k0_mult69 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c0_i32_440 : BitVec 32 := 0#32
  let v624 : BitVec 32 := Scalar.addi v417 c0_i32_440
  v624
def k0_mult70 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c0_i32_443 : BitVec 32 := 0#32
  let v633 : BitVec 32 := Scalar.addi v417 c0_i32_443
  v633
def k0_mult71 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c0_i32_446 : BitVec 32 := 0#32
  let v642 : BitVec 32 := Scalar.addi v417 c0_i32_446
  v642
def k0_mult72 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c0_i32_449 : BitVec 32 := 0#32
  let v651 : BitVec 32 := Scalar.addi v417 c0_i32_449
  v651
def k0_mult73 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c0_i32_452 : BitVec 32 := 0#32
  let v660 : BitVec 32 := Scalar.addi v417 c0_i32_452
  v660
def k0_mult74 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c0_i32_455 : BitVec 32 := 0#32
  let v669 : BitVec 32 := Scalar.addi v417 c0_i32_455
  v669
def k0_mult75 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c0_i32_458 : BitVec 32 := 0#32
  let v678 : BitVec 32 := Scalar.addi v417 c0_i32_458
  v678
def k0_mult76 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let c0_i32_461 : BitVec 32 := 0#32
  let v687 : BitVec 32 := Scalar.addi v417 c0_i32_461
  v687
def k0_off30 (k0_t5 : Fin k0_t5_loop.trips) : Fin 2 → Nat :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v415 : BitVec 32 := Scalar.muli arg15 c48_i32
  let v416 : BitVec 32 := Scalar.addi c32_i32 v415
  let v417 : BitVec 32 := v416
  let v694 : Index := Scalar.indexCast v417
  let c0_463 : Index := 0#32
  ![v694.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5x2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5x2176x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S31x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S2064x2560 : Shape := ⟨2, ![2064, 2560]⟩
abbrev S3x512 : Shape := ⟨2, ![3, 512]⟩
abbrev S31x512 : Shape := ⟨2, ![31, 512]⟩
abbrev S2064x512 : Shape := ⟨2, ![2064, 512]⟩
abbrev S_ : Shape := ⟨0, ![]⟩
abbrev S512 : Shape := ⟨1, ![512]⟩
abbrev S2x512 : Shape := ⟨2, ![2, 512]⟩
abbrev S2066x512 : Shape := ⟨2, ![2066, 512]⟩
abbrev S1x512 : Shape := ⟨2, ![1, 512]⟩
abbrev S30x512 : Shape := ⟨2, ![30, 512]⟩
abbrev S2094x512 : Shape := ⟨2, ![2094, 512]⟩
abbrev S16x512 : Shape := ⟨2, ![16, 512]⟩
abbrev S15x512 : Shape := ⟨2, ![15, 512]⟩
abbrev S2064x5x512 : Shape := ⟨3, ![2064, 5, 512]⟩
abbrev S5x2064x512 : Shape := ⟨3, ![5, 2064, 512]⟩
abbrev S5x2048x512 : Shape := ⟨3, ![5, 2048, 512]⟩
abbrev S5x16x512 : Shape := ⟨3, ![5, 16, 512]⟩
abbrev S5x112x512 : Shape := ⟨3, ![5, 112, 512]⟩
abbrev S5x2176x512 : Shape := ⟨3, ![5, 2176, 512]⟩

abbrev nBuf : Space → Nat
  | .hbm => 549
  | .vmem => 0
  | .smem => 0
  | _ => 0

abbrev hbmTy0_0 (i : Nat) : BufTy := match i % 128 with
  | 0 => ⟨S2064x2560, .f32⟩
  | 1 => ⟨S3x512, .f32⟩
  | 2 => ⟨S31x512, .f32⟩
  | 3 => ⟨S2064x512, .f32⟩
  | 4 => ⟨S2064x512, .f32⟩
  | 5 => ⟨S_, .f32⟩
  | 6 => ⟨S512, .f32⟩
  | 7 => ⟨S2064x512, .f32⟩
  | 8 => ⟨S2064x512, .f32⟩
  | 9 => ⟨S2064x512, .f32⟩
  | 10 => ⟨S2064x512, .f32⟩
  | 11 => ⟨S2064x512, .f32⟩
  | 12 => ⟨S2064x512, .f32⟩
  | 13 => ⟨S_, .f32⟩
  | 14 => ⟨S2x512, .f32⟩
  | 15 => ⟨S2066x512, .f32⟩
  | 16 => ⟨S_, .f32⟩
  | 17 => ⟨S2x512, .f32⟩
  | 18 => ⟨S1x512, .f32⟩
  | 19 => ⟨S1x512, .f32⟩
  | 20 => ⟨S1x512, .f32⟩
  | 21 => ⟨S2064x512, .f32⟩
  | 22 => ⟨S2064x512, .f32⟩
  | 23 => ⟨S2064x512, .f32⟩
  | 24 => ⟨S_, .f32⟩
  | 25 => ⟨S2064x512, .f32⟩
  | 26 => ⟨S2064x512, .f32⟩
  | 27 => ⟨S2064x512, .f32⟩
  | 28 => ⟨S2064x512, .f32⟩
  | 29 => ⟨S2064x512, .f32⟩
  | 30 => ⟨S2064x512, .f32⟩
  | 31 => ⟨S2064x512, .f32⟩
  | 32 => ⟨S2064x512, .f32⟩
  | 33 => ⟨S2064x512, .f32⟩
  | 34 => ⟨S2064x512, .f32⟩
  | 35 => ⟨S2064x512, .f32⟩
  | 36 => ⟨S2064x512, .f32⟩
  | 37 => ⟨S2064x512, .f32⟩
  | 38 => ⟨S_, .f32⟩
  | 39 => ⟨S2064x512, .f32⟩
  | 40 => ⟨S2064x512, .f32⟩
  | 41 => ⟨S_, .f32⟩
  | 42 => ⟨S2064x512, .f32⟩
  | 43 => ⟨S2064x512, .f32⟩
  | 44 => ⟨S_, .f32⟩
  | 45 => ⟨S2064x512, .f32⟩
  | 46 => ⟨S2064x512, .f32⟩
  | 47 => ⟨S2064x512, .f32⟩
  | 48 => ⟨S2064x512, .f32⟩
  | 49 => ⟨S_, .f32⟩
  | 50 => ⟨S30x512, .f32⟩
  | 51 => ⟨S2094x512, .f32⟩
  | 52 => ⟨S_, .f32⟩
  | 53 => ⟨S30x512, .f32⟩
  | 54 => ⟨S1x512, .f32⟩
  | 55 => ⟨S1x512, .f32⟩
  | 56 => ⟨S1x512, .f32⟩
  | 57 => ⟨S1x512, .f32⟩
  | 58 => ⟨S1x512, .f32⟩
  | 59 => ⟨S1x512, .f32⟩
  | 60 => ⟨S1x512, .f32⟩
  | 61 => ⟨S1x512, .f32⟩
  | 62 => ⟨S1x512, .f32⟩
  | 63 => ⟨S1x512, .f32⟩
  | 64 => ⟨S1x512, .f32⟩
  | 65 => ⟨S1x512, .f32⟩
  | 66 => ⟨S1x512, .f32⟩
  | 67 => ⟨S1x512, .f32⟩
  | 68 => ⟨S1x512, .f32⟩
  | 69 => ⟨S1x512, .f32⟩
  | 70 => ⟨S1x512, .f32⟩
  | 71 => ⟨S1x512, .f32⟩
  | 72 => ⟨S1x512, .f32⟩
  | 73 => ⟨S1x512, .f32⟩
  | 74 => ⟨S1x512, .f32⟩
  | 75 => ⟨S1x512, .f32⟩
  | 76 => ⟨S1x512, .f32⟩
  | 77 => ⟨S1x512, .f32⟩
  | 78 => ⟨S1x512, .f32⟩
  | 79 => ⟨S1x512, .f32⟩
  | 80 => ⟨S1x512, .f32⟩
  | 81 => ⟨S1x512, .f32⟩
  | 82 => ⟨S1x512, .f32⟩
  | 83 => ⟨S1x512, .f32⟩
  | 84 => ⟨S1x512, .f32⟩
  | 85 => ⟨S2064x512, .f32⟩
  | 86 => ⟨S2064x512, .f32⟩
  | 87 => ⟨S2064x512, .f32⟩
  | 88 => ⟨S_, .f32⟩
  | 89 => ⟨S2064x512, .f32⟩
  | 90 => ⟨S2064x512, .f32⟩
  | 91 => ⟨S2064x512, .f32⟩
  | 92 => ⟨S2064x512, .f32⟩
  | 93 => ⟨S2064x512, .f32⟩
  | 94 => ⟨S2064x512, .f32⟩
  | 95 => ⟨S2064x512, .f32⟩
  | 96 => ⟨S2064x512, .f32⟩
  | 97 => ⟨S2064x512, .f32⟩
  | 98 => ⟨S2064x512, .f32⟩
  | 99 => ⟨S2064x512, .f32⟩
  | 100 => ⟨S2064x512, .f32⟩
  | 101 => ⟨S2064x512, .f32⟩
  | 102 => ⟨S2064x512, .f32⟩
  | 103 => ⟨S2064x512, .f32⟩
  | 104 => ⟨S2064x512, .f32⟩
  | 105 => ⟨S2064x512, .f32⟩
  | 106 => ⟨S2064x512, .f32⟩
  | 107 => ⟨S2064x512, .f32⟩
  | 108 => ⟨S2064x512, .f32⟩
  | 109 => ⟨S2064x512, .f32⟩
  | 110 => ⟨S2064x512, .f32⟩
  | 111 => ⟨S2064x512, .f32⟩
  | 112 => ⟨S2064x512, .f32⟩
  | 113 => ⟨S2064x512, .f32⟩
  | 114 => ⟨S2064x512, .f32⟩
  | 115 => ⟨S2064x512, .f32⟩
  | 116 => ⟨S2064x512, .f32⟩
  | 117 => ⟨S2064x512, .f32⟩
  | 118 => ⟨S2064x512, .f32⟩
  | 119 => ⟨S2064x512, .f32⟩
  | 120 => ⟨S2064x512, .f32⟩
  | 121 => ⟨S2064x512, .f32⟩
  | 122 => ⟨S2064x512, .f32⟩
  | 123 => ⟨S2064x512, .f32⟩
  | 124 => ⟨S2064x512, .f32⟩
  | 125 => ⟨S2064x512, .f32⟩
  | 126 => ⟨S2064x512, .f32⟩
  | 127 => ⟨S2064x512, .f32⟩
  | _ => ⟨S2064x2560, .f32⟩

abbrev hbmTy0_1 (i : Nat) : BufTy := match i % 128 with
  | 0 => ⟨S2064x512, .f32⟩
  | 1 => ⟨S2064x512, .f32⟩
  | 2 => ⟨S2064x512, .f32⟩
  | 3 => ⟨S2064x512, .f32⟩
  | 4 => ⟨S2064x512, .f32⟩
  | 5 => ⟨S2064x512, .f32⟩
  | 6 => ⟨S2064x512, .f32⟩
  | 7 => ⟨S2064x512, .f32⟩
  | 8 => ⟨S2064x512, .f32⟩
  | 9 => ⟨S2064x512, .f32⟩
  | 10 => ⟨S2064x512, .f32⟩
  | 11 => ⟨S2064x512, .f32⟩
  | 12 => ⟨S2064x512, .f32⟩
  | 13 => ⟨S2064x512, .f32⟩
  | 14 => ⟨S2064x512, .f32⟩
  | 15 => ⟨S2064x512, .f32⟩
  | 16 => ⟨S2064x512, .f32⟩
  | 17 => ⟨S2064x512, .f32⟩
  | 18 => ⟨S2064x512, .f32⟩
  | 19 => ⟨S2064x512, .f32⟩
  | 20 => ⟨S2064x512, .f32⟩
  | 21 => ⟨S2064x512, .f32⟩
  | 22 => ⟨S2064x512, .f32⟩
  | 23 => ⟨S2064x512, .f32⟩
  | 24 => ⟨S2064x512, .f32⟩
  | 25 => ⟨S2064x512, .f32⟩
  | 26 => ⟨S2064x512, .f32⟩
  | 27 => ⟨S2064x512, .f32⟩
  | 28 => ⟨S2064x512, .f32⟩
  | 29 => ⟨S2064x512, .f32⟩
  | 30 => ⟨S2064x512, .f32⟩
  | 31 => ⟨S2064x512, .f32⟩
  | 32 => ⟨S2064x512, .f32⟩
  | 33 => ⟨S2064x512, .f32⟩
  | 34 => ⟨S2064x512, .f32⟩
  | 35 => ⟨S2064x512, .f32⟩
  | 36 => ⟨S2064x512, .f32⟩
  | 37 => ⟨S2064x512, .f32⟩
  | 38 => ⟨S2064x512, .f32⟩
  | 39 => ⟨S2064x512, .f32⟩
  | 40 => ⟨S2064x512, .f32⟩
  | 41 => ⟨S2064x512, .f32⟩
  | 42 => ⟨S2064x512, .f32⟩
  | 43 => ⟨S2064x512, .f32⟩
  | 44 => ⟨S2064x512, .f32⟩
  | 45 => ⟨S2064x512, .f32⟩
  | 46 => ⟨S2064x512, .f32⟩
  | 47 => ⟨S2064x512, .f32⟩
  | 48 => ⟨S2064x512, .f32⟩
  | 49 => ⟨S2064x512, .f32⟩
  | 50 => ⟨S2064x512, .f32⟩
  | 51 => ⟨S2064x512, .f32⟩
  | 52 => ⟨S2064x512, .f32⟩
  | 53 => ⟨S2064x512, .f32⟩
  | 54 => ⟨S2064x512, .f32⟩
  | 55 => ⟨S2064x512, .f32⟩
  | 56 => ⟨S2064x512, .f32⟩
  | 57 => ⟨S2064x512, .f32⟩
  | 58 => ⟨S2064x512, .f32⟩
  | 59 => ⟨S2064x512, .f32⟩
  | 60 => ⟨S2064x512, .f32⟩
  | 61 => ⟨S2064x512, .f32⟩
  | 62 => ⟨S2064x512, .f32⟩
  | 63 => ⟨S2064x512, .f32⟩
  | 64 => ⟨S2064x512, .f32⟩
  | 65 => ⟨S2064x512, .f32⟩
  | 66 => ⟨S2064x512, .f32⟩
  | 67 => ⟨S2064x512, .f32⟩
  | 68 => ⟨S2064x512, .f32⟩
  | 69 => ⟨S2064x512, .f32⟩
  | 70 => ⟨S2064x512, .f32⟩
  | 71 => ⟨S2064x512, .f32⟩
  | 72 => ⟨S2064x512, .f32⟩
  | 73 => ⟨S2064x512, .f32⟩
  | 74 => ⟨S2064x512, .f32⟩
  | 75 => ⟨S2064x512, .f32⟩
  | 76 => ⟨S2064x512, .f32⟩
  | 77 => ⟨S2064x512, .f32⟩
  | 78 => ⟨S2064x512, .f32⟩
  | 79 => ⟨S2064x512, .f32⟩
  | 80 => ⟨S2064x512, .f32⟩
  | 81 => ⟨S2064x512, .f32⟩
  | 82 => ⟨S2064x512, .f32⟩
  | 83 => ⟨S1x512, .f32⟩
  | 84 => ⟨S2064x512, .f32⟩
  | 85 => ⟨S2064x512, .f32⟩
  | 86 => ⟨S2064x512, .f32⟩
  | 87 => ⟨S_, .f32⟩
  | 88 => ⟨S512, .f32⟩
  | 89 => ⟨S1x512, .f32⟩
  | 90 => ⟨S_, .f32⟩
  | 91 => ⟨S512, .f32⟩
  | 92 => ⟨S2064x512, .f32⟩
  | 93 => ⟨S2064x512, .f32⟩
  | 94 => ⟨S2064x512, .f32⟩
  | 95 => ⟨S_, .f32⟩
  | 96 => ⟨S512, .f32⟩
  | 97 => ⟨S1x512, .f32⟩
  | 98 => ⟨S_, .f32⟩
  | 99 => ⟨S2094x512, .f32⟩
  | 100 => ⟨S2064x512, .f32⟩
  | 101 => ⟨S2064x512, .f32⟩
  | 102 => ⟨S2064x512, .f32⟩
  | 103 => ⟨S_, .f32⟩
  | 104 => ⟨S512, .f32⟩
  | 105 => ⟨S1x512, .f32⟩
  | 106 => ⟨S_, .f32⟩
  | 107 => ⟨S2094x512, .f32⟩
  | 108 => ⟨S2094x512, .f32⟩
  | 109 => ⟨S2064x512, .f32⟩
  | 110 => ⟨S2064x512, .f32⟩
  | 111 => ⟨S2064x512, .f32⟩
  | 112 => ⟨S_, .f32⟩
  | 113 => ⟨S512, .f32⟩
  | 114 => ⟨S1x512, .f32⟩
  | 115 => ⟨S_, .f32⟩
  | 116 => ⟨S2094x512, .f32⟩
  | 117 => ⟨S2094x512, .f32⟩
  | 118 => ⟨S2064x512, .f32⟩
  | 119 => ⟨S2064x512, .f32⟩
  | 120 => ⟨S2064x512, .f32⟩
  | 121 => ⟨S_, .f32⟩
  | 122 => ⟨S512, .f32⟩
  | 123 => ⟨S1x512, .f32⟩
  | 124 => ⟨S_, .f32⟩
  | 125 => ⟨S2094x512, .f32⟩
  | 126 => ⟨S2094x512, .f32⟩
  | 127 => ⟨S2064x512, .f32⟩
  | _ => ⟨S2064x2560, .f32⟩

abbrev hbmTy0_2 (i : Nat) : BufTy := match i % 128 with
  | 0 => ⟨S2064x512, .f32⟩
  | 1 => ⟨S2064x512, .f32⟩
  | 2 => ⟨S_, .f32⟩
  | 3 => ⟨S512, .f32⟩
  | 4 => ⟨S1x512, .f32⟩
  | 5 => ⟨S_, .f32⟩
  | 6 => ⟨S2094x512, .f32⟩
  | 7 => ⟨S2094x512, .f32⟩
  | 8 => ⟨S2064x512, .f32⟩
  | 9 => ⟨S2064x512, .f32⟩
  | 10 => ⟨S2064x512, .f32⟩
  | 11 => ⟨S_, .f32⟩
  | 12 => ⟨S512, .f32⟩
  | 13 => ⟨S1x512, .f32⟩
  | 14 => ⟨S_, .f32⟩
  | 15 => ⟨S2094x512, .f32⟩
  | 16 => ⟨S2094x512, .f32⟩
  | 17 => ⟨S2064x512, .f32⟩
  | 18 => ⟨S2064x512, .f32⟩
  | 19 => ⟨S2064x512, .f32⟩
  | 20 => ⟨S_, .f32⟩
  | 21 => ⟨S512, .f32⟩
  | 22 => ⟨S1x512, .f32⟩
  | 23 => ⟨S_, .f32⟩
  | 24 => ⟨S2094x512, .f32⟩
  | 25 => ⟨S2094x512, .f32⟩
  | 26 => ⟨S2064x512, .f32⟩
  | 27 => ⟨S2064x512, .f32⟩
  | 28 => ⟨S2064x512, .f32⟩
  | 29 => ⟨S_, .f32⟩
  | 30 => ⟨S512, .f32⟩
  | 31 => ⟨S1x512, .f32⟩
  | 32 => ⟨S_, .f32⟩
  | 33 => ⟨S2094x512, .f32⟩
  | 34 => ⟨S2094x512, .f32⟩
  | 35 => ⟨S2064x512, .f32⟩
  | 36 => ⟨S2064x512, .f32⟩
  | 37 => ⟨S2064x512, .f32⟩
  | 38 => ⟨S_, .f32⟩
  | 39 => ⟨S512, .f32⟩
  | 40 => ⟨S1x512, .f32⟩
  | 41 => ⟨S_, .f32⟩
  | 42 => ⟨S2094x512, .f32⟩
  | 43 => ⟨S2094x512, .f32⟩
  | 44 => ⟨S2064x512, .f32⟩
  | 45 => ⟨S2064x512, .f32⟩
  | 46 => ⟨S2064x512, .f32⟩
  | 47 => ⟨S_, .f32⟩
  | 48 => ⟨S512, .f32⟩
  | 49 => ⟨S1x512, .f32⟩
  | 50 => ⟨S_, .f32⟩
  | 51 => ⟨S2094x512, .f32⟩
  | 52 => ⟨S2094x512, .f32⟩
  | 53 => ⟨S2064x512, .f32⟩
  | 54 => ⟨S2064x512, .f32⟩
  | 55 => ⟨S2064x512, .f32⟩
  | 56 => ⟨S_, .f32⟩
  | 57 => ⟨S512, .f32⟩
  | 58 => ⟨S1x512, .f32⟩
  | 59 => ⟨S_, .f32⟩
  | 60 => ⟨S2094x512, .f32⟩
  | 61 => ⟨S2094x512, .f32⟩
  | 62 => ⟨S2064x512, .f32⟩
  | 63 => ⟨S2064x512, .f32⟩
  | 64 => ⟨S2064x512, .f32⟩
  | 65 => ⟨S_, .f32⟩
  | 66 => ⟨S512, .f32⟩
  | 67 => ⟨S1x512, .f32⟩
  | 68 => ⟨S_, .f32⟩
  | 69 => ⟨S2094x512, .f32⟩
  | 70 => ⟨S2094x512, .f32⟩
  | 71 => ⟨S2064x512, .f32⟩
  | 72 => ⟨S2064x512, .f32⟩
  | 73 => ⟨S2064x512, .f32⟩
  | 74 => ⟨S_, .f32⟩
  | 75 => ⟨S512, .f32⟩
  | 76 => ⟨S1x512, .f32⟩
  | 77 => ⟨S_, .f32⟩
  | 78 => ⟨S2094x512, .f32⟩
  | 79 => ⟨S2094x512, .f32⟩
  | 80 => ⟨S2064x512, .f32⟩
  | 81 => ⟨S2064x512, .f32⟩
  | 82 => ⟨S2064x512, .f32⟩
  | 83 => ⟨S_, .f32⟩
  | 84 => ⟨S512, .f32⟩
  | 85 => ⟨S1x512, .f32⟩
  | 86 => ⟨S_, .f32⟩
  | 87 => ⟨S2094x512, .f32⟩
  | 88 => ⟨S2094x512, .f32⟩
  | 89 => ⟨S2064x512, .f32⟩
  | 90 => ⟨S2064x512, .f32⟩
  | 91 => ⟨S2064x512, .f32⟩
  | 92 => ⟨S_, .f32⟩
  | 93 => ⟨S512, .f32⟩
  | 94 => ⟨S1x512, .f32⟩
  | 95 => ⟨S_, .f32⟩
  | 96 => ⟨S2094x512, .f32⟩
  | 97 => ⟨S2094x512, .f32⟩
  | 98 => ⟨S2064x512, .f32⟩
  | 99 => ⟨S2064x512, .f32⟩
  | 100 => ⟨S2064x512, .f32⟩
  | 101 => ⟨S_, .f32⟩
  | 102 => ⟨S512, .f32⟩
  | 103 => ⟨S1x512, .f32⟩
  | 104 => ⟨S_, .f32⟩
  | 105 => ⟨S2094x512, .f32⟩
  | 106 => ⟨S2094x512, .f32⟩
  | 107 => ⟨S2064x512, .f32⟩
  | 108 => ⟨S2064x512, .f32⟩
  | 109 => ⟨S2064x512, .f32⟩
  | 110 => ⟨S_, .f32⟩
  | 111 => ⟨S512, .f32⟩
  | 112 => ⟨S1x512, .f32⟩
  | 113 => ⟨S_, .f32⟩
  | 114 => ⟨S2094x512, .f32⟩
  | 115 => ⟨S2094x512, .f32⟩
  | 116 => ⟨S2064x512, .f32⟩
  | 117 => ⟨S2064x512, .f32⟩
  | 118 => ⟨S2064x512, .f32⟩
  | 119 => ⟨S_, .f32⟩
  | 120 => ⟨S512, .f32⟩
  | 121 => ⟨S1x512, .f32⟩
  | 122 => ⟨S_, .f32⟩
  | 123 => ⟨S2094x512, .f32⟩
  | 124 => ⟨S2094x512, .f32⟩
  | 125 => ⟨S2064x512, .f32⟩
  | 126 => ⟨S2064x512, .f32⟩
  | 127 => ⟨S2064x512, .f32⟩
  | _ => ⟨S2064x2560, .f32⟩

abbrev hbmTy0_3 (i : Nat) : BufTy := match i % 128 with
  | 0 => ⟨S_, .f32⟩
  | 1 => ⟨S512, .f32⟩
  | 2 => ⟨S1x512, .f32⟩
  | 3 => ⟨S_, .f32⟩
  | 4 => ⟨S2094x512, .f32⟩
  | 5 => ⟨S2094x512, .f32⟩
  | 6 => ⟨S2064x512, .f32⟩
  | 7 => ⟨S2064x512, .f32⟩
  | 8 => ⟨S2064x512, .f32⟩
  | 9 => ⟨S_, .f32⟩
  | 10 => ⟨S512, .f32⟩
  | 11 => ⟨S1x512, .f32⟩
  | 12 => ⟨S_, .f32⟩
  | 13 => ⟨S2094x512, .f32⟩
  | 14 => ⟨S2094x512, .f32⟩
  | 15 => ⟨S2064x512, .f32⟩
  | 16 => ⟨S2064x512, .f32⟩
  | 17 => ⟨S2064x512, .f32⟩
  | 18 => ⟨S_, .f32⟩
  | 19 => ⟨S512, .f32⟩
  | 20 => ⟨S1x512, .f32⟩
  | 21 => ⟨S_, .f32⟩
  | 22 => ⟨S2094x512, .f32⟩
  | 23 => ⟨S2094x512, .f32⟩
  | 24 => ⟨S2064x512, .f32⟩
  | 25 => ⟨S2064x512, .f32⟩
  | 26 => ⟨S2064x512, .f32⟩
  | 27 => ⟨S_, .f32⟩
  | 28 => ⟨S512, .f32⟩
  | 29 => ⟨S1x512, .f32⟩
  | 30 => ⟨S_, .f32⟩
  | 31 => ⟨S2094x512, .f32⟩
  | 32 => ⟨S2094x512, .f32⟩
  | 33 => ⟨S2064x512, .f32⟩
  | 34 => ⟨S2064x512, .f32⟩
  | 35 => ⟨S2064x512, .f32⟩
  | 36 => ⟨S_, .f32⟩
  | 37 => ⟨S512, .f32⟩
  | 38 => ⟨S1x512, .f32⟩
  | 39 => ⟨S_, .f32⟩
  | 40 => ⟨S2094x512, .f32⟩
  | 41 => ⟨S2094x512, .f32⟩
  | 42 => ⟨S2064x512, .f32⟩
  | 43 => ⟨S2064x512, .f32⟩
  | 44 => ⟨S2064x512, .f32⟩
  | 45 => ⟨S_, .f32⟩
  | 46 => ⟨S512, .f32⟩
  | 47 => ⟨S1x512, .f32⟩
  | 48 => ⟨S_, .f32⟩
  | 49 => ⟨S2094x512, .f32⟩
  | 50 => ⟨S2094x512, .f32⟩
  | 51 => ⟨S2064x512, .f32⟩
  | 52 => ⟨S2064x512, .f32⟩
  | 53 => ⟨S2064x512, .f32⟩
  | 54 => ⟨S_, .f32⟩
  | 55 => ⟨S512, .f32⟩
  | 56 => ⟨S1x512, .f32⟩
  | 57 => ⟨S_, .f32⟩
  | 58 => ⟨S2094x512, .f32⟩
  | 59 => ⟨S2094x512, .f32⟩
  | 60 => ⟨S2064x512, .f32⟩
  | 61 => ⟨S2064x512, .f32⟩
  | 62 => ⟨S2064x512, .f32⟩
  | 63 => ⟨S_, .f32⟩
  | 64 => ⟨S512, .f32⟩
  | 65 => ⟨S1x512, .f32⟩
  | 66 => ⟨S_, .f32⟩
  | 67 => ⟨S2094x512, .f32⟩
  | 68 => ⟨S2094x512, .f32⟩
  | 69 => ⟨S2064x512, .f32⟩
  | 70 => ⟨S2064x512, .f32⟩
  | 71 => ⟨S2064x512, .f32⟩
  | 72 => ⟨S_, .f32⟩
  | 73 => ⟨S512, .f32⟩
  | 74 => ⟨S1x512, .f32⟩
  | 75 => ⟨S_, .f32⟩
  | 76 => ⟨S2094x512, .f32⟩
  | 77 => ⟨S2094x512, .f32⟩
  | 78 => ⟨S2064x512, .f32⟩
  | 79 => ⟨S2064x512, .f32⟩
  | 80 => ⟨S2064x512, .f32⟩
  | 81 => ⟨S_, .f32⟩
  | 82 => ⟨S512, .f32⟩
  | 83 => ⟨S1x512, .f32⟩
  | 84 => ⟨S_, .f32⟩
  | 85 => ⟨S2094x512, .f32⟩
  | 86 => ⟨S2094x512, .f32⟩
  | 87 => ⟨S2064x512, .f32⟩
  | 88 => ⟨S2064x512, .f32⟩
  | 89 => ⟨S2064x512, .f32⟩
  | 90 => ⟨S_, .f32⟩
  | 91 => ⟨S512, .f32⟩
  | 92 => ⟨S1x512, .f32⟩
  | 93 => ⟨S_, .f32⟩
  | 94 => ⟨S2094x512, .f32⟩
  | 95 => ⟨S2094x512, .f32⟩
  | 96 => ⟨S2064x512, .f32⟩
  | 97 => ⟨S2064x512, .f32⟩
  | 98 => ⟨S2064x512, .f32⟩
  | 99 => ⟨S_, .f32⟩
  | 100 => ⟨S512, .f32⟩
  | 101 => ⟨S1x512, .f32⟩
  | 102 => ⟨S_, .f32⟩
  | 103 => ⟨S2094x512, .f32⟩
  | 104 => ⟨S2094x512, .f32⟩
  | 105 => ⟨S2064x512, .f32⟩
  | 106 => ⟨S2064x512, .f32⟩
  | 107 => ⟨S2064x512, .f32⟩
  | 108 => ⟨S_, .f32⟩
  | 109 => ⟨S512, .f32⟩
  | 110 => ⟨S1x512, .f32⟩
  | 111 => ⟨S_, .f32⟩
  | 112 => ⟨S2094x512, .f32⟩
  | 113 => ⟨S2094x512, .f32⟩
  | 114 => ⟨S16x512, .f32⟩
  | 115 => ⟨S15x512, .f32⟩
  | 116 => ⟨S31x512, .f32⟩
  | 117 => ⟨S30x512, .f32⟩
  | 118 => ⟨S2064x512, .f32⟩
  | 119 => ⟨S2064x512, .f32⟩
  | 120 => ⟨S2064x512, .f32⟩
  | 121 => ⟨S2064x512, .f32⟩
  | 122 => ⟨S2064x512, .f32⟩
  | 123 => ⟨S2064x512, .f32⟩
  | 124 => ⟨S2064x512, .f32⟩
  | 125 => ⟨S2064x512, .f32⟩
  | 126 => ⟨S2064x512, .f32⟩
  | 127 => ⟨S_, .f32⟩
  | _ => ⟨S2064x2560, .f32⟩

abbrev hbmTy0_4 (i : Nat) : BufTy := match i % 128 with
  | 0 => ⟨S512, .f32⟩
  | 1 => ⟨S1x512, .f32⟩
  | 2 => ⟨S_, .f32⟩
  | 3 => ⟨S2066x512, .f32⟩
  | 4 => ⟨S2064x512, .f32⟩
  | 5 => ⟨S2064x512, .f32⟩
  | 6 => ⟨S2064x512, .f32⟩
  | 7 => ⟨S_, .f32⟩
  | 8 => ⟨S512, .f32⟩
  | 9 => ⟨S1x512, .f32⟩
  | 10 => ⟨S_, .f32⟩
  | 11 => ⟨S2066x512, .f32⟩
  | 12 => ⟨S2066x512, .f32⟩
  | 13 => ⟨S2064x512, .f32⟩
  | 14 => ⟨S2064x512, .f32⟩
  | 15 => ⟨S2064x512, .f32⟩
  | 16 => ⟨S_, .f32⟩
  | 17 => ⟨S512, .f32⟩
  | 18 => ⟨S1x512, .f32⟩
  | 19 => ⟨S_, .f32⟩
  | 20 => ⟨S2066x512, .f32⟩
  | 21 => ⟨S2066x512, .f32⟩
  | 22 => ⟨S3x512, .f32⟩
  | 23 => ⟨S2x512, .f32⟩
  | 24 => ⟨S2064x512, .f32⟩
  | 25 => ⟨S2064x512, .f32⟩
  | 26 => ⟨S2064x512, .f32⟩
  | 27 => ⟨S2064x2560, .f32⟩
  | 28 => ⟨S2064x5x512, .f32⟩
  | 29 => ⟨S5x2064x512, .f32⟩
  | 30 => ⟨S5x2048x512, .f32⟩
  | 31 => ⟨S5x16x512, .f32⟩
  | 32 => ⟨S_, .f32⟩
  | 33 => ⟨S5x112x512, .f32⟩
  | 34 => ⟨S5x2176x512, .f32⟩
  | 35 => ⟨S5x2176x512, .bf16⟩
  | 36 => ⟨S1x512, .f32⟩
  | _ => ⟨S2064x2560, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2064x2560, .f32⟩

abbrev bufTy : (tb : Table) → Fin (tcTables nBuf tb) → BufTy
  | .hbm, ⟨i, _⟩ => hbmTy i
  | _, _ => ⟨S2064x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_8 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_cst_9 : Ref sig .tc := ⟨.hbm, 215, rfl⟩
abbrev main_v200 : Ref sig .tc := ⟨.hbm, 216, rfl⟩
abbrev main_v201 : Ref sig .tc := ⟨.hbm, 217, rfl⟩
abbrev main_cst_10 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_cst_11 : Ref sig .tc := ⟨.hbm, 223, rfl⟩
abbrev main_v206 : Ref sig .tc := ⟨.hbm, 224, rfl⟩
abbrev main_v207 : Ref sig .tc := ⟨.hbm, 225, rfl⟩
abbrev main_cst_12 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_cst_13 : Ref sig .tc := ⟨.hbm, 231, rfl⟩
abbrev main_v212 : Ref sig .tc := ⟨.hbm, 232, rfl⟩
abbrev main_v213 : Ref sig .tc := ⟨.hbm, 233, rfl⟩
abbrev main_cst_14 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_cst_15 : Ref sig .tc := ⟨.hbm, 240, rfl⟩
abbrev main_v219 : Ref sig .tc := ⟨.hbm, 241, rfl⟩
abbrev main_v220 : Ref sig .tc := ⟨.hbm, 242, rfl⟩
abbrev main_cst_16 : Ref sig .tc := ⟨.hbm, 243, rfl⟩
abbrev main_v221 : Ref sig .tc := ⟨.hbm, 244, rfl⟩
abbrev main_v222 : Ref sig .tc := ⟨.hbm, 245, rfl⟩
abbrev main_v223 : Ref sig .tc := ⟨.hbm, 246, rfl⟩
abbrev main_v224 : Ref sig .tc := ⟨.hbm, 247, rfl⟩
abbrev main_v225 : Ref sig .tc := ⟨.hbm, 248, rfl⟩
abbrev main_cst_17 : Ref sig .tc := ⟨.hbm, 249, rfl⟩
abbrev main_v226 : Ref sig .tc := ⟨.hbm, 250, rfl⟩
abbrev main_v227 : Ref sig .tc := ⟨.hbm, 251, rfl⟩
abbrev main_cst_18 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_cst_19 : Ref sig .tc := ⟨.hbm, 258, rfl⟩
abbrev main_v233 : Ref sig .tc := ⟨.hbm, 259, rfl⟩
abbrev main_v234 : Ref sig .tc := ⟨.hbm, 260, rfl⟩
abbrev main_cst_20 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩
abbrev main_v239 : Ref sig .tc := ⟨.hbm, 266, rfl⟩
abbrev main_cst_21 : Ref sig .tc := ⟨.hbm, 267, rfl⟩
abbrev main_v240 : Ref sig .tc := ⟨.hbm, 268, rfl⟩
abbrev main_v241 : Ref sig .tc := ⟨.hbm, 269, rfl⟩
abbrev main_cst_22 : Ref sig .tc := ⟨.hbm, 270, rfl⟩
abbrev main_v242 : Ref sig .tc := ⟨.hbm, 271, rfl⟩
abbrev main_v243 : Ref sig .tc := ⟨.hbm, 272, rfl⟩
abbrev main_v244 : Ref sig .tc := ⟨.hbm, 273, rfl⟩
abbrev main_v245 : Ref sig .tc := ⟨.hbm, 274, rfl⟩
abbrev main_v246 : Ref sig .tc := ⟨.hbm, 275, rfl⟩
abbrev main_cst_23 : Ref sig .tc := ⟨.hbm, 276, rfl⟩
abbrev main_v247 : Ref sig .tc := ⟨.hbm, 277, rfl⟩
abbrev main_v248 : Ref sig .tc := ⟨.hbm, 278, rfl⟩
abbrev main_cst_24 : Ref sig .tc := ⟨.hbm, 279, rfl⟩
abbrev main_v249 : Ref sig .tc := ⟨.hbm, 280, rfl⟩
abbrev main_v250 : Ref sig .tc := ⟨.hbm, 281, rfl⟩
abbrev main_v251 : Ref sig .tc := ⟨.hbm, 282, rfl⟩
abbrev main_v252 : Ref sig .tc := ⟨.hbm, 283, rfl⟩
abbrev main_v253 : Ref sig .tc := ⟨.hbm, 284, rfl⟩
abbrev main_cst_25 : Ref sig .tc := ⟨.hbm, 285, rfl⟩
abbrev main_v254 : Ref sig .tc := ⟨.hbm, 286, rfl⟩
abbrev main_v255 : Ref sig .tc := ⟨.hbm, 287, rfl⟩
abbrev main_cst_26 : Ref sig .tc := ⟨.hbm, 288, rfl⟩
abbrev main_v256 : Ref sig .tc := ⟨.hbm, 289, rfl⟩
abbrev main_v257 : Ref sig .tc := ⟨.hbm, 290, rfl⟩
abbrev main_v258 : Ref sig .tc := ⟨.hbm, 291, rfl⟩
abbrev main_v259 : Ref sig .tc := ⟨.hbm, 292, rfl⟩
abbrev main_v260 : Ref sig .tc := ⟨.hbm, 293, rfl⟩
abbrev main_cst_27 : Ref sig .tc := ⟨.hbm, 294, rfl⟩
abbrev main_v261 : Ref sig .tc := ⟨.hbm, 295, rfl⟩
abbrev main_v262 : Ref sig .tc := ⟨.hbm, 296, rfl⟩
abbrev main_cst_28 : Ref sig .tc := ⟨.hbm, 297, rfl⟩
abbrev main_v263 : Ref sig .tc := ⟨.hbm, 298, rfl⟩
abbrev main_v264 : Ref sig .tc := ⟨.hbm, 299, rfl⟩
abbrev main_v265 : Ref sig .tc := ⟨.hbm, 300, rfl⟩
abbrev main_v266 : Ref sig .tc := ⟨.hbm, 301, rfl⟩
abbrev main_v267 : Ref sig .tc := ⟨.hbm, 302, rfl⟩
abbrev main_cst_29 : Ref sig .tc := ⟨.hbm, 303, rfl⟩
abbrev main_v268 : Ref sig .tc := ⟨.hbm, 304, rfl⟩
abbrev main_v269 : Ref sig .tc := ⟨.hbm, 305, rfl⟩
abbrev main_cst_30 : Ref sig .tc := ⟨.hbm, 306, rfl⟩
abbrev main_v270 : Ref sig .tc := ⟨.hbm, 307, rfl⟩
abbrev main_v271 : Ref sig .tc := ⟨.hbm, 308, rfl⟩
abbrev main_v272 : Ref sig .tc := ⟨.hbm, 309, rfl⟩
abbrev main_v273 : Ref sig .tc := ⟨.hbm, 310, rfl⟩
abbrev main_v274 : Ref sig .tc := ⟨.hbm, 311, rfl⟩
abbrev main_cst_31 : Ref sig .tc := ⟨.hbm, 312, rfl⟩
abbrev main_v275 : Ref sig .tc := ⟨.hbm, 313, rfl⟩
abbrev main_v276 : Ref sig .tc := ⟨.hbm, 314, rfl⟩
abbrev main_cst_32 : Ref sig .tc := ⟨.hbm, 315, rfl⟩
abbrev main_v277 : Ref sig .tc := ⟨.hbm, 316, rfl⟩
abbrev main_v278 : Ref sig .tc := ⟨.hbm, 317, rfl⟩
abbrev main_v279 : Ref sig .tc := ⟨.hbm, 318, rfl⟩
abbrev main_v280 : Ref sig .tc := ⟨.hbm, 319, rfl⟩
abbrev main_v281 : Ref sig .tc := ⟨.hbm, 320, rfl⟩
abbrev main_cst_33 : Ref sig .tc := ⟨.hbm, 321, rfl⟩
abbrev main_v282 : Ref sig .tc := ⟨.hbm, 322, rfl⟩
abbrev main_v283 : Ref sig .tc := ⟨.hbm, 323, rfl⟩
abbrev main_cst_34 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_cst_35 : Ref sig .tc := ⟨.hbm, 330, rfl⟩
abbrev main_v289 : Ref sig .tc := ⟨.hbm, 331, rfl⟩
abbrev main_v290 : Ref sig .tc := ⟨.hbm, 332, rfl⟩
abbrev main_cst_36 : Ref sig .tc := ⟨.hbm, 333, rfl⟩
abbrev main_v291 : Ref sig .tc := ⟨.hbm, 334, rfl⟩
abbrev main_v292 : Ref sig .tc := ⟨.hbm, 335, rfl⟩
abbrev main_v293 : Ref sig .tc := ⟨.hbm, 336, rfl⟩
abbrev main_v294 : Ref sig .tc := ⟨.hbm, 337, rfl⟩
abbrev main_v295 : Ref sig .tc := ⟨.hbm, 338, rfl⟩
abbrev main_cst_37 : Ref sig .tc := ⟨.hbm, 339, rfl⟩
abbrev main_v296 : Ref sig .tc := ⟨.hbm, 340, rfl⟩
abbrev main_v297 : Ref sig .tc := ⟨.hbm, 341, rfl⟩
abbrev main_cst_38 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_v302 : Ref sig .tc := ⟨.hbm, 347, rfl⟩
abbrev main_cst_39 : Ref sig .tc := ⟨.hbm, 348, rfl⟩
abbrev main_v303 : Ref sig .tc := ⟨.hbm, 349, rfl⟩
abbrev main_v304 : Ref sig .tc := ⟨.hbm, 350, rfl⟩
abbrev main_cst_40 : Ref sig .tc := ⟨.hbm, 351, rfl⟩
abbrev main_v305 : Ref sig .tc := ⟨.hbm, 352, rfl⟩
abbrev main_v306 : Ref sig .tc := ⟨.hbm, 353, rfl⟩
abbrev main_v307 : Ref sig .tc := ⟨.hbm, 354, rfl⟩
abbrev main_v308 : Ref sig .tc := ⟨.hbm, 355, rfl⟩
abbrev main_v309 : Ref sig .tc := ⟨.hbm, 356, rfl⟩
abbrev main_cst_41 : Ref sig .tc := ⟨.hbm, 357, rfl⟩
abbrev main_v310 : Ref sig .tc := ⟨.hbm, 358, rfl⟩
abbrev main_v311 : Ref sig .tc := ⟨.hbm, 359, rfl⟩
abbrev main_cst_42 : Ref sig .tc := ⟨.hbm, 360, rfl⟩
abbrev main_v312 : Ref sig .tc := ⟨.hbm, 361, rfl⟩
abbrev main_v313 : Ref sig .tc := ⟨.hbm, 362, rfl⟩
abbrev main_v314 : Ref sig .tc := ⟨.hbm, 363, rfl⟩
abbrev main_v315 : Ref sig .tc := ⟨.hbm, 364, rfl⟩
abbrev main_v316 : Ref sig .tc := ⟨.hbm, 365, rfl⟩
abbrev main_cst_43 : Ref sig .tc := ⟨.hbm, 366, rfl⟩
abbrev main_v317 : Ref sig .tc := ⟨.hbm, 367, rfl⟩
abbrev main_v318 : Ref sig .tc := ⟨.hbm, 368, rfl⟩
abbrev main_cst_44 : Ref sig .tc := ⟨.hbm, 369, rfl⟩
abbrev main_v319 : Ref sig .tc := ⟨.hbm, 370, rfl⟩
abbrev main_v320 : Ref sig .tc := ⟨.hbm, 371, rfl⟩
abbrev main_v321 : Ref sig .tc := ⟨.hbm, 372, rfl⟩
abbrev main_v322 : Ref sig .tc := ⟨.hbm, 373, rfl⟩
abbrev main_v323 : Ref sig .tc := ⟨.hbm, 374, rfl⟩
abbrev main_cst_45 : Ref sig .tc := ⟨.hbm, 375, rfl⟩
abbrev main_v324 : Ref sig .tc := ⟨.hbm, 376, rfl⟩
abbrev main_v325 : Ref sig .tc := ⟨.hbm, 377, rfl⟩
abbrev main_cst_46 : Ref sig .tc := ⟨.hbm, 378, rfl⟩
abbrev main_v326 : Ref sig .tc := ⟨.hbm, 379, rfl⟩
abbrev main_v327 : Ref sig .tc := ⟨.hbm, 380, rfl⟩
abbrev main_v328 : Ref sig .tc := ⟨.hbm, 381, rfl⟩
abbrev main_v329 : Ref sig .tc := ⟨.hbm, 382, rfl⟩
abbrev main_v330 : Ref sig .tc := ⟨.hbm, 383, rfl⟩
abbrev main_cst_47 : Ref sig .tc := ⟨.hbm, 384, rfl⟩
abbrev main_v331 : Ref sig .tc := ⟨.hbm, 385, rfl⟩
abbrev main_v332 : Ref sig .tc := ⟨.hbm, 386, rfl⟩
abbrev main_cst_48 : Ref sig .tc := ⟨.hbm, 387, rfl⟩
abbrev main_v333 : Ref sig .tc := ⟨.hbm, 388, rfl⟩
abbrev main_v334 : Ref sig .tc := ⟨.hbm, 389, rfl⟩
abbrev main_v335 : Ref sig .tc := ⟨.hbm, 390, rfl⟩
abbrev main_v336 : Ref sig .tc := ⟨.hbm, 391, rfl⟩
abbrev main_v337 : Ref sig .tc := ⟨.hbm, 392, rfl⟩
abbrev main_cst_49 : Ref sig .tc := ⟨.hbm, 393, rfl⟩
abbrev main_v338 : Ref sig .tc := ⟨.hbm, 394, rfl⟩
abbrev main_v339 : Ref sig .tc := ⟨.hbm, 395, rfl⟩
abbrev main_cst_50 : Ref sig .tc := ⟨.hbm, 396, rfl⟩
abbrev main_v340 : Ref sig .tc := ⟨.hbm, 397, rfl⟩
abbrev main_v341 : Ref sig .tc := ⟨.hbm, 398, rfl⟩
abbrev main_v342 : Ref sig .tc := ⟨.hbm, 399, rfl⟩
abbrev main_v343 : Ref sig .tc := ⟨.hbm, 400, rfl⟩
abbrev main_v344 : Ref sig .tc := ⟨.hbm, 401, rfl⟩
abbrev main_cst_51 : Ref sig .tc := ⟨.hbm, 402, rfl⟩
abbrev main_v345 : Ref sig .tc := ⟨.hbm, 403, rfl⟩
abbrev main_v346 : Ref sig .tc := ⟨.hbm, 404, rfl⟩
abbrev main_cst_52 : Ref sig .tc := ⟨.hbm, 405, rfl⟩
abbrev main_v347 : Ref sig .tc := ⟨.hbm, 406, rfl⟩
abbrev main_v348 : Ref sig .tc := ⟨.hbm, 407, rfl⟩
abbrev main_v349 : Ref sig .tc := ⟨.hbm, 408, rfl⟩
abbrev main_v350 : Ref sig .tc := ⟨.hbm, 409, rfl⟩
abbrev main_v351 : Ref sig .tc := ⟨.hbm, 410, rfl⟩
abbrev main_cst_53 : Ref sig .tc := ⟨.hbm, 411, rfl⟩
abbrev main_v352 : Ref sig .tc := ⟨.hbm, 412, rfl⟩
abbrev main_v353 : Ref sig .tc := ⟨.hbm, 413, rfl⟩
abbrev main_cst_54 : Ref sig .tc := ⟨.hbm, 414, rfl⟩
abbrev main_v354 : Ref sig .tc := ⟨.hbm, 415, rfl⟩
abbrev main_v355 : Ref sig .tc := ⟨.hbm, 416, rfl⟩
abbrev main_v356 : Ref sig .tc := ⟨.hbm, 417, rfl⟩
abbrev main_v357 : Ref sig .tc := ⟨.hbm, 418, rfl⟩
abbrev main_v358 : Ref sig .tc := ⟨.hbm, 419, rfl⟩
abbrev main_cst_55 : Ref sig .tc := ⟨.hbm, 420, rfl⟩
abbrev main_v359 : Ref sig .tc := ⟨.hbm, 421, rfl⟩
abbrev main_v360 : Ref sig .tc := ⟨.hbm, 422, rfl⟩
abbrev main_cst_56 : Ref sig .tc := ⟨.hbm, 423, rfl⟩
abbrev main_v361 : Ref sig .tc := ⟨.hbm, 424, rfl⟩
abbrev main_v362 : Ref sig .tc := ⟨.hbm, 425, rfl⟩
abbrev main_v363 : Ref sig .tc := ⟨.hbm, 426, rfl⟩
abbrev main_v364 : Ref sig .tc := ⟨.hbm, 427, rfl⟩
abbrev main_v365 : Ref sig .tc := ⟨.hbm, 428, rfl⟩
abbrev main_cst_57 : Ref sig .tc := ⟨.hbm, 429, rfl⟩
abbrev main_v366 : Ref sig .tc := ⟨.hbm, 430, rfl⟩
abbrev main_v367 : Ref sig .tc := ⟨.hbm, 431, rfl⟩
abbrev main_cst_58 : Ref sig .tc := ⟨.hbm, 432, rfl⟩
abbrev main_v368 : Ref sig .tc := ⟨.hbm, 433, rfl⟩
abbrev main_v369 : Ref sig .tc := ⟨.hbm, 434, rfl⟩
abbrev main_v370 : Ref sig .tc := ⟨.hbm, 435, rfl⟩
abbrev main_v371 : Ref sig .tc := ⟨.hbm, 436, rfl⟩
abbrev main_v372 : Ref sig .tc := ⟨.hbm, 437, rfl⟩
abbrev main_cst_59 : Ref sig .tc := ⟨.hbm, 438, rfl⟩
abbrev main_v373 : Ref sig .tc := ⟨.hbm, 439, rfl⟩
abbrev main_v374 : Ref sig .tc := ⟨.hbm, 440, rfl⟩
abbrev main_cst_60 : Ref sig .tc := ⟨.hbm, 441, rfl⟩
abbrev main_v375 : Ref sig .tc := ⟨.hbm, 442, rfl⟩
abbrev main_v376 : Ref sig .tc := ⟨.hbm, 443, rfl⟩
abbrev main_v377 : Ref sig .tc := ⟨.hbm, 444, rfl⟩
abbrev main_v378 : Ref sig .tc := ⟨.hbm, 445, rfl⟩
abbrev main_v379 : Ref sig .tc := ⟨.hbm, 446, rfl⟩
abbrev main_cst_61 : Ref sig .tc := ⟨.hbm, 447, rfl⟩
abbrev main_v380 : Ref sig .tc := ⟨.hbm, 448, rfl⟩
abbrev main_v381 : Ref sig .tc := ⟨.hbm, 449, rfl⟩
abbrev main_cst_62 : Ref sig .tc := ⟨.hbm, 450, rfl⟩
abbrev main_v382 : Ref sig .tc := ⟨.hbm, 451, rfl⟩
abbrev main_v383 : Ref sig .tc := ⟨.hbm, 452, rfl⟩
abbrev main_v384 : Ref sig .tc := ⟨.hbm, 453, rfl⟩
abbrev main_v385 : Ref sig .tc := ⟨.hbm, 454, rfl⟩
abbrev main_v386 : Ref sig .tc := ⟨.hbm, 455, rfl⟩
abbrev main_cst_63 : Ref sig .tc := ⟨.hbm, 456, rfl⟩
abbrev main_v387 : Ref sig .tc := ⟨.hbm, 457, rfl⟩
abbrev main_v388 : Ref sig .tc := ⟨.hbm, 458, rfl⟩
abbrev main_cst_64 : Ref sig .tc := ⟨.hbm, 459, rfl⟩
abbrev main_v389 : Ref sig .tc := ⟨.hbm, 460, rfl⟩
abbrev main_v390 : Ref sig .tc := ⟨.hbm, 461, rfl⟩
abbrev main_v391 : Ref sig .tc := ⟨.hbm, 462, rfl⟩
abbrev main_v392 : Ref sig .tc := ⟨.hbm, 463, rfl⟩
abbrev main_v393 : Ref sig .tc := ⟨.hbm, 464, rfl⟩
abbrev main_cst_65 : Ref sig .tc := ⟨.hbm, 465, rfl⟩
abbrev main_v394 : Ref sig .tc := ⟨.hbm, 466, rfl⟩
abbrev main_v395 : Ref sig .tc := ⟨.hbm, 467, rfl⟩
abbrev main_cst_66 : Ref sig .tc := ⟨.hbm, 468, rfl⟩
abbrev main_v396 : Ref sig .tc := ⟨.hbm, 469, rfl⟩
abbrev main_v397 : Ref sig .tc := ⟨.hbm, 470, rfl⟩
abbrev main_v398 : Ref sig .tc := ⟨.hbm, 471, rfl⟩
abbrev main_v399 : Ref sig .tc := ⟨.hbm, 472, rfl⟩
abbrev main_v400 : Ref sig .tc := ⟨.hbm, 473, rfl⟩
abbrev main_cst_67 : Ref sig .tc := ⟨.hbm, 474, rfl⟩
abbrev main_v401 : Ref sig .tc := ⟨.hbm, 475, rfl⟩
abbrev main_v402 : Ref sig .tc := ⟨.hbm, 476, rfl⟩
abbrev main_cst_68 : Ref sig .tc := ⟨.hbm, 477, rfl⟩
abbrev main_v403 : Ref sig .tc := ⟨.hbm, 478, rfl⟩
abbrev main_v404 : Ref sig .tc := ⟨.hbm, 479, rfl⟩
abbrev main_v405 : Ref sig .tc := ⟨.hbm, 480, rfl⟩
abbrev main_v406 : Ref sig .tc := ⟨.hbm, 481, rfl⟩
abbrev main_v407 : Ref sig .tc := ⟨.hbm, 482, rfl⟩
abbrev main_cst_69 : Ref sig .tc := ⟨.hbm, 483, rfl⟩
abbrev main_v408 : Ref sig .tc := ⟨.hbm, 484, rfl⟩
abbrev main_v409 : Ref sig .tc := ⟨.hbm, 485, rfl⟩
abbrev main_cst_70 : Ref sig .tc := ⟨.hbm, 486, rfl⟩
abbrev main_v410 : Ref sig .tc := ⟨.hbm, 487, rfl⟩
abbrev main_v411 : Ref sig .tc := ⟨.hbm, 488, rfl⟩
abbrev main_v412 : Ref sig .tc := ⟨.hbm, 489, rfl⟩
abbrev main_v413 : Ref sig .tc := ⟨.hbm, 490, rfl⟩
abbrev main_v414 : Ref sig .tc := ⟨.hbm, 491, rfl⟩
abbrev main_cst_71 : Ref sig .tc := ⟨.hbm, 492, rfl⟩
abbrev main_v415 : Ref sig .tc := ⟨.hbm, 493, rfl⟩
abbrev main_v416 : Ref sig .tc := ⟨.hbm, 494, rfl⟩
abbrev main_cst_72 : Ref sig .tc := ⟨.hbm, 495, rfl⟩
abbrev main_v417 : Ref sig .tc := ⟨.hbm, 496, rfl⟩
abbrev main_v418 : Ref sig .tc := ⟨.hbm, 497, rfl⟩
abbrev main_v419 : Ref sig .tc := ⟨.hbm, 498, rfl⟩
abbrev main_v420 : Ref sig .tc := ⟨.hbm, 499, rfl⟩
abbrev main_v421 : Ref sig .tc := ⟨.hbm, 500, rfl⟩
abbrev main_v422 : Ref sig .tc := ⟨.hbm, 501, rfl⟩
abbrev main_v423 : Ref sig .tc := ⟨.hbm, 502, rfl⟩
abbrev main_v424 : Ref sig .tc := ⟨.hbm, 503, rfl⟩
abbrev main_v425 : Ref sig .tc := ⟨.hbm, 504, rfl⟩
abbrev main_v426 : Ref sig .tc := ⟨.hbm, 505, rfl⟩
abbrev main_v427 : Ref sig .tc := ⟨.hbm, 506, rfl⟩
abbrev main_v428 : Ref sig .tc := ⟨.hbm, 507, rfl⟩
abbrev main_v429 : Ref sig .tc := ⟨.hbm, 508, rfl⟩
abbrev main_v430 : Ref sig .tc := ⟨.hbm, 509, rfl⟩
abbrev main_v431 : Ref sig .tc := ⟨.hbm, 510, rfl⟩
abbrev main_cst_73 : Ref sig .tc := ⟨.hbm, 511, rfl⟩
abbrev main_v432 : Ref sig .tc := ⟨.hbm, 512, rfl⟩
abbrev main_v433 : Ref sig .tc := ⟨.hbm, 513, rfl⟩
abbrev main_cst_74 : Ref sig .tc := ⟨.hbm, 514, rfl⟩
abbrev main_v434 : Ref sig .tc := ⟨.hbm, 515, rfl⟩
abbrev main_v435 : Ref sig .tc := ⟨.hbm, 516, rfl⟩
abbrev main_v436 : Ref sig .tc := ⟨.hbm, 517, rfl⟩
abbrev main_v437 : Ref sig .tc := ⟨.hbm, 518, rfl⟩
abbrev main_cst_75 : Ref sig .tc := ⟨.hbm, 519, rfl⟩
abbrev main_v438 : Ref sig .tc := ⟨.hbm, 520, rfl⟩
abbrev main_v439 : Ref sig .tc := ⟨.hbm, 521, rfl⟩
abbrev main_cst_76 : Ref sig .tc := ⟨.hbm, 522, rfl⟩
abbrev main_v440 : Ref sig .tc := ⟨.hbm, 523, rfl⟩
abbrev main_v441 : Ref sig .tc := ⟨.hbm, 524, rfl⟩
abbrev main_v442 : Ref sig .tc := ⟨.hbm, 525, rfl⟩
abbrev main_v443 : Ref sig .tc := ⟨.hbm, 526, rfl⟩
abbrev main_v444 : Ref sig .tc := ⟨.hbm, 527, rfl⟩
abbrev main_cst_77 : Ref sig .tc := ⟨.hbm, 528, rfl⟩
abbrev main_v445 : Ref sig .tc := ⟨.hbm, 529, rfl⟩
abbrev main_v446 : Ref sig .tc := ⟨.hbm, 530, rfl⟩
abbrev main_cst_78 : Ref sig .tc := ⟨.hbm, 531, rfl⟩
abbrev main_v447 : Ref sig .tc := ⟨.hbm, 532, rfl⟩
abbrev main_v448 : Ref sig .tc := ⟨.hbm, 533, rfl⟩
abbrev main_v449 : Ref sig .tc := ⟨.hbm, 534, rfl⟩
abbrev main_v450 : Ref sig .tc := ⟨.hbm, 535, rfl⟩
abbrev main_v451 : Ref sig .tc := ⟨.hbm, 536, rfl⟩
abbrev main_v452 : Ref sig .tc := ⟨.hbm, 537, rfl⟩
abbrev main_v453 : Ref sig .tc := ⟨.hbm, 538, rfl⟩
abbrev main_v454 : Ref sig .tc := ⟨.hbm, 539, rfl⟩
abbrev main_v455 : Ref sig .tc := ⟨.hbm, 540, rfl⟩
abbrev main_v456 : Ref sig .tc := ⟨.hbm, 541, rfl⟩
abbrev main_v457 : Ref sig .tc := ⟨.hbm, 542, rfl⟩
abbrev main_v458 : Ref sig .tc := ⟨.hbm, 543, rfl⟩
abbrev main_cst_79 : Ref sig .tc := ⟨.hbm, 544, rfl⟩
abbrev main_v459 : Ref sig .tc := ⟨.hbm, 545, rfl⟩
abbrev main_v460 : Ref sig .tc := ⟨.hbm, 546, rfl⟩
abbrev main_v461 : Ref sig .tc := ⟨.hbm, 547, rfl⟩
abbrev main_v462 : Ref sig .tc := ⟨.hbm, 548, rfl⟩

abbrev nD : Nat := 1
abbrev τ : Topo := Topo.v7x

variable {F : FTy → Type} [FloatOps F]
-- ==== Kernel5.lean ====
abbrev S2048x1024 : Shape := ⟨2, ![2048, 1024]⟩
abbrev S16x1024 : Shape := ⟨2, ![16, 1024]⟩
abbrev S2064x1024 : Shape := ⟨2, ![2064, 1024]⟩
abbrev S1x1024 : Shape := ⟨2, ![1, 1024]⟩
abbrev S1024x2816 : Shape := ⟨2, ![1024, 2816]⟩
abbrev S2064x2816 : Shape := ⟨2, ![2064, 2816]⟩
abbrev S_ : Shape := ⟨0, ![]⟩
abbrev S2064 : Shape := ⟨1, ![2064]⟩
abbrev S2064x1 : Shape := ⟨2, ![2064, 1]⟩
abbrev S8x128 : Shape := ⟨2, ![8, 128]⟩
abbrev S2048x2816 : Shape := ⟨2, ![2048, 2816]⟩
abbrev S16x2816 : Shape := ⟨2, ![16, 2816]⟩
abbrev S112x2816 : Shape := ⟨2, ![112, 2816]⟩
abbrev S2176x2816 : Shape := ⟨2, ![2176, 2816]⟩
abbrev S2816x1024 : Shape := ⟨2, ![2816, 1024]⟩
abbrev S112x1024 : Shape := ⟨2, ![112, 1024]⟩
abbrev S2176x1024 : Shape := ⟨2, ![2176, 1024]⟩
abbrev S544x2816 : Shape := ⟨2, ![544, 2816]⟩
abbrev S544x1024 : Shape := ⟨2, ![544, 1024]⟩
abbrev S192x2816 : Shape := ⟨2, ![192, 2816]⟩
abbrev S192x1024 : Shape := ⟨2, ![192, 1024]⟩
abbrev S192 : Shape := ⟨1, ![192]⟩
abbrev S192x1 : Shape := ⟨2, ![192, 1]⟩
abbrev S1024 : Shape := ⟨1, ![1024]⟩
abbrev S176x2816 : Shape := ⟨2, ![176, 2816]⟩
abbrev S176x1024 : Shape := ⟨2, ![176, 1024]⟩
abbrev S176 : Shape := ⟨1, ![176]⟩
abbrev S176x1 : Shape := ⟨2, ![176, 1]⟩

abbrev nBuf : Space → Nat
  | .hbm => 64
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S16x1024, .f32⟩
  | .hbm, ⟨2, _⟩ => ⟨S2064x1024, .f32⟩
  | .hbm, ⟨3, _⟩ => ⟨S1x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2064x1024, .f32⟩
  | .hbm, ⟨8, _⟩ => ⟨S2064x2816, .f32⟩
  | .hbm, ⟨9, _⟩ => ⟨S2064x2816, .f32⟩
  | .hbm, ⟨10, _⟩ => ⟨S2064x1024, .f32⟩
  | .hbm, ⟨11, _⟩ => ⟨S2064x1024, .f32⟩
  | .hbm, ⟨12, _⟩ => ⟨S_, .f32⟩
  | .hbm, ⟨13, _⟩ => ⟨S2064, .f32⟩
  | .hbm, ⟨14, _⟩ => ⟨S2064x1, .f32⟩
  | .hbm, ⟨15, _⟩ => ⟨S_, .f32⟩
  | .hbm, ⟨16, _⟩ => ⟨S2064x1, .f32⟩
  | .hbm, ⟨17, _⟩ => ⟨S2064x1, .f32⟩
  | .hbm, ⟨18, _⟩ => ⟨S_, .f32⟩
  | .hbm, ⟨19, _⟩ => ⟨S2064x1, .f32⟩
  | .hbm, ⟨20, _⟩ => ⟨S2064x1, .f32⟩
  | .hbm, ⟨21, _⟩ => ⟨S2064x1, .f32⟩
  | .hbm, ⟨22, _⟩ => ⟨S2064x1024, .f32⟩
  | .hbm, ⟨23, _⟩ => ⟨S2064x1024, .f32⟩
  | .hbm, ⟨24, _⟩ => ⟨S2064x1024, .f32⟩
  | .hbm, ⟨25, _⟩ => ⟨S2064x1024, .f32⟩
  | .hbm, ⟨26, _⟩ => ⟨S2064x1024, .f32⟩
  | .hbm, ⟨27, _⟩ => ⟨S_, .f32⟩
  | .hbm, ⟨28, _⟩ => ⟨S8x128, .f32⟩
  | .hbm, ⟨29, _⟩ => ⟨S2048x2816, .f32⟩
  | .hbm, ⟨30, _⟩ => ⟨S16x2816, .f32⟩
  | .hbm, ⟨31, _⟩ => ⟨S_, .f32⟩
  | .hbm, ⟨32, _⟩ => ⟨S112x2816, .f32⟩
  | .hbm, ⟨33, _⟩ => ⟨S2176x2816, .f32⟩
  | .hbm, ⟨34, _⟩ => ⟨S2176x2816, .bf16⟩
  | .hbm, ⟨35, _⟩ => ⟨S2048x2816, .f32⟩
  | .hbm, ⟨36, _⟩ => ⟨S16x2816, .f32⟩
  | .hbm, ⟨37, _⟩ => ⟨S_, .f32⟩
  | .hbm, ⟨38, _⟩ => ⟨S112x2816, .f32⟩
  | .hbm, ⟨39, _⟩ => ⟨S2176x2816, .f32⟩
  | .hbm, ⟨40, _⟩ => ⟨S2176x2816, .bf16⟩
  | .hbm, ⟨41, _⟩ => ⟨S2816x1024, .f32⟩
  | .hbm, ⟨42, _⟩ => ⟨S2816x1024, .bf16⟩
  | .hbm, ⟨43, _⟩ => ⟨S2816x1024, .f32⟩
  | .hbm, ⟨44, _⟩ => ⟨S2816x1024, .bf16⟩
  | .hbm, ⟨45, _⟩ => ⟨S2048x1024, .f32⟩
  | .hbm, ⟨46, _⟩ => ⟨S16x1024, .f32⟩
  | .hbm, ⟨47, _⟩ => ⟨S_, .f32⟩
  | .hbm, ⟨48, _⟩ => ⟨S112x1024, .f32⟩
  | .hbm, ⟨49, _⟩ => ⟨S2176x1024, .f32⟩
  | .hbm, ⟨50, _⟩ => ⟨S2048x1024, .f32⟩
  | .hbm, ⟨51, _⟩ => ⟨S16x1024, .f32⟩
  | .hbm, ⟨52, _⟩ => ⟨S_, .f32⟩
  | .hbm, ⟨53, _⟩ => ⟨S112x1024, .f32⟩
  | .hbm, ⟨54, _⟩ => ⟨S2176x1024, .f32⟩
  | .hbm, ⟨55, _⟩ => ⟨S2048x1024, .f32⟩
  | .hbm, ⟨56, _⟩ => ⟨S16x1024, .f32⟩
  | .hbm, ⟨57, _⟩ => ⟨S_, .f32⟩
  | .hbm, ⟨58, _⟩ => ⟨S112x1024, .f32⟩
  | .hbm, ⟨59, _⟩ => ⟨S2176x1024, .f32⟩
  | .hbm, ⟨60, _⟩ => ⟨S2176x1024, .f32⟩
  | .hbm, ⟨61, _⟩ => ⟨S2176x1024, .bf16⟩
  | .hbm, ⟨62, _⟩ => ⟨S1x1024, .f32⟩
  | .hbm, ⟨63, _⟩ => ⟨S1x1024, .f32⟩
  | .local _ .vmem, ⟨0, _⟩ => ⟨S544x2816, .bf16⟩
  | .local _ .vmem, ⟨1, _⟩ => ⟨S544x2816, .bf16⟩
  | .local _ .vmem, ⟨2, _⟩ => ⟨S544x2816, .bf16⟩
  | .local _ .vmem, ⟨3, _⟩ => ⟨S544x2816, .bf16⟩
  | .local _ .vmem, ⟨4, _⟩ => ⟨S2816x1024, .bf16⟩
  | .local _ .vmem, ⟨5, _⟩ => ⟨S2816x1024, .bf16⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .f32⟩
  | .local _ .vmem, ⟨12, _⟩ => ⟨S1x1024, .f32⟩
  | .local _ .vmem, ⟨13, _⟩ => ⟨S1x1024, .f32⟩
  | .local _ .vmem, ⟨14, _⟩ => ⟨S544x1024, .f32⟩
  | .local _ .vmem, ⟨15, _⟩ => ⟨S544x1024, .f32⟩
  | .local _ .vmem, ⟨16, _⟩ => ⟨S544x1024, .bf16⟩
  | .local _ .vmem, ⟨17, _⟩ => ⟨S544x1024, .bf16⟩
  | .local _ .vmem, ⟨18, _⟩ => ⟨S1x1024, .f32⟩
  | .local _ .vmem, ⟨19, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41_0 : Ref sig .tc := ⟨.hbm, 60, rfl⟩
abbrev main_v41_1 : Ref sig .tc := ⟨.hbm, 61, rfl⟩
abbrev main_v41_2 : Ref sig .tc := ⟨.hbm, 62, rfl⟩
abbrev main_v41_3 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S544x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S544x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference5Ideal.lean ====
abbrev S2048x1024 : Shape := ⟨2, ![2048, 1024]⟩
abbrev S16x1024 : Shape := ⟨2, ![16, 1024]⟩
abbrev S2064x1024 : Shape := ⟨2, ![2064, 1024]⟩
abbrev S1x1024 : Shape := ⟨2, ![1, 1024]⟩
abbrev S1024x2816 : Shape := ⟨2, ![1024, 2816]⟩
abbrev S2064x2816 : Shape := ⟨2, ![2064, 2816]⟩
abbrev S1024 : Shape := ⟨1, ![1024]⟩
abbrev S_ : Shape := ⟨0, ![]⟩
abbrev S2064 : Shape := ⟨1, ![2064]⟩
abbrev S2064x1 : Shape := ⟨2, ![2064, 1]⟩
abbrev S112x1024 : Shape := ⟨2, ![112, 1024]⟩
abbrev S2176x1024 : Shape := ⟨2, ![2176, 1024]⟩

abbrev nBuf : Space → Nat
  | .hbm => 125
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S16x1024, .f32⟩
  | .hbm, ⟨2, _⟩ => ⟨S2064x1024, .f32⟩
  | .hbm, ⟨3, _⟩ => ⟨S1x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2064x1024, .f32⟩
  | .hbm, ⟨8, _⟩ => ⟨S2064x2816, .f32⟩
  | .hbm, ⟨9, _⟩ => ⟨S2064x2816, .f32⟩
  | .hbm, ⟨10, _⟩ => ⟨S2064x1024, .f32⟩
  | .hbm, ⟨11, _⟩ => ⟨S1024, .f32⟩
  | .hbm, ⟨12, _⟩ => ⟨S2064x1024, .f32⟩
  | .hbm, ⟨13, _⟩ => ⟨S_, .f32⟩
  | .hbm, ⟨14, _⟩ => ⟨S2064, .f32⟩
  | .hbm, ⟨15, _⟩ => ⟨S2064x1, .f32⟩
  | .hbm, ⟨16, _⟩ => ⟨S_, .f32⟩
  | .hbm, ⟨17, _⟩ => ⟨S2064x1, .f32⟩
  | .hbm, ⟨18, _⟩ => ⟨S2064x1, .f32⟩
  | .hbm, ⟨19, _⟩ => ⟨S_, .f32⟩
  | .hbm, ⟨20, _⟩ => ⟨S2064x1, .f32⟩
  | .hbm, ⟨21, _⟩ => ⟨S2064x1, .f32⟩
  | .hbm, ⟨22, _⟩ => ⟨S2064x1, .f32⟩
  | .hbm, ⟨23, _⟩ => ⟨S2064x1, .f32⟩
  | .hbm, ⟨24, _⟩ => ⟨S_, .f32⟩
  | .hbm, ⟨25, _⟩ => ⟨S2064x1, .f32⟩
  | .hbm, ⟨26, _⟩ => ⟨S2064x1, .f32⟩
  | .hbm, ⟨27, _⟩ => ⟨S2064x1024, .f32⟩
  | .hbm, ⟨28, _⟩ => ⟨S2064x1024, .f32⟩
  | .hbm, ⟨29, _⟩ => ⟨S1x1024, .f32⟩
  | .hbm, ⟨30, _⟩ => ⟨S2064x1024, .f32⟩
  | .hbm, ⟨31, _⟩ => ⟨S2064x1024, .f32⟩
  | .hbm, ⟨32, _⟩ => ⟨S2064x1024, .f32⟩
  | .hbm, ⟨33, _⟩ => ⟨S1024, .f32⟩
  | .hbm, ⟨34, _⟩ => ⟨S2064x1024, .f32⟩
  | .hbm, ⟨35, _⟩ => ⟨S_, .f32⟩
  | .hbm, ⟨36, _⟩ => ⟨S2064, .f32⟩
  | .hbm, ⟨37, _⟩ => ⟨S2064x1, .f32⟩
  | .hbm, ⟨38, _⟩ => ⟨S_, .f32⟩
  | .hbm, ⟨39, _⟩ => ⟨S2064x1, .f32⟩
  | .hbm, ⟨40, _⟩ => ⟨S2064x1, .f32⟩
  | .hbm, ⟨41, _⟩ => ⟨S_, .f32⟩
  | .hbm, ⟨42, _⟩ => ⟨S2064x1, .f32⟩
  | .hbm, ⟨43, _⟩ => ⟨S2064x1, .f32⟩
  | .hbm, ⟨44, _⟩ => ⟨S2064x1, .f32⟩
  | .hbm, ⟨45, _⟩ => ⟨S2064x1, .f32⟩
  | .hbm, ⟨46, _⟩ => ⟨S_, .f32⟩
  | .hbm, ⟨47, _⟩ => ⟨S2064x1, .f32⟩
  | .hbm, ⟨48, _⟩ => ⟨S2064x1, .f32⟩
  | .hbm, ⟨49, _⟩ => ⟨S2064x1024, .f32⟩
  | .hbm, ⟨50, _⟩ => ⟨S2064x1024, .f32⟩
  | .hbm, ⟨51, _⟩ => ⟨S1x1024, .f32⟩
  | .hbm, ⟨52, _⟩ => ⟨S2064x1024, .f32⟩
  | .hbm, ⟨53, _⟩ => ⟨S2064x1024, .f32⟩
  | .hbm, ⟨54, _⟩ => ⟨S2064x2816, .f32⟩
  | .hbm, ⟨55, _⟩ => ⟨S2064x2816, .f32⟩
  | .hbm, ⟨56, _⟩ => ⟨S2064x1024, .f32⟩
  | .hbm, ⟨57, _⟩ => ⟨S2064x1024, .f32⟩
  | .hbm, ⟨58, _⟩ => ⟨S2064x1024, .f32⟩
  | .hbm, ⟨59, _⟩ => ⟨S2064x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S2064x1024, .f32⟩
  | .hbm, ⟨64, _⟩ => ⟨S2064x1024, .f32⟩
  | .hbm, ⟨65, _⟩ => ⟨S_, .f32⟩
  | .hbm, ⟨66, _⟩ => ⟨S1024, .f32⟩
  | .hbm, ⟨67, _⟩ => ⟨S2064x1024, .f32⟩
  | .hbm, ⟨68, _⟩ => ⟨S_, .f32⟩
  | .hbm, ⟨69, _⟩ => ⟨S2064, .f32⟩
  | .hbm, ⟨70, _⟩ => ⟨S2064x1, .f32⟩
  | .hbm, ⟨71, _⟩ => ⟨S2064x1024, .f32⟩
  | .hbm, ⟨72, _⟩ => ⟨S2064x1024, .f32⟩
  | .hbm, ⟨73, _⟩ => ⟨S2064x1024, .f32⟩
  | .hbm, ⟨74, _⟩ => ⟨S2064x1, .f32⟩
  | .hbm, ⟨75, _⟩ => ⟨S_, .f32⟩
  | .hbm, ⟨76, _⟩ => ⟨S2064x1, .f32⟩
  | .hbm, ⟨77, _⟩ => ⟨S2064x1, .f32⟩
  | .hbm, ⟨78, _⟩ => ⟨S_, .f32⟩
  | .hbm, ⟨79, _⟩ => ⟨S2064, .f32⟩
  | .hbm, ⟨80, _⟩ => ⟨S2064x1024, .f32⟩
  | .hbm, ⟨81, _⟩ => ⟨S2064x1024, .f32⟩
  | .hbm, ⟨82, _⟩ => ⟨S2064x1024, .f32⟩
  | .hbm, ⟨83, _⟩ => ⟨S2064x1024, .f32⟩
  | .hbm, ⟨84, _⟩ => ⟨S2064x1024, .f32⟩
  | .hbm, ⟨85, _⟩ => ⟨S1x1024, .f32⟩
  | .hbm, ⟨86, _⟩ => ⟨S2064x1024, .f32⟩
  | .hbm, ⟨87, _⟩ => ⟨S2064x1024, .f32⟩
  | .hbm, ⟨88, _⟩ => ⟨S2064x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S2064x1024, .f32⟩
  | .hbm, ⟨93, _⟩ => ⟨S2064x1024, .f32⟩
  | .hbm, ⟨94, _⟩ => ⟨S_, .f32⟩
  | .hbm, ⟨95, _⟩ => ⟨S1024, .f32⟩
  | .hbm, ⟨96, _⟩ => ⟨S2064x1024, .f32⟩
  | .hbm, ⟨97, _⟩ => ⟨S_, .f32⟩
  | .hbm, ⟨98, _⟩ => ⟨S2064, .f32⟩
  | .hbm, ⟨99, _⟩ => ⟨S2064x1, .f32⟩
  | .hbm, ⟨100, _⟩ => ⟨S2064x1024, .f32⟩
  | .hbm, ⟨101, _⟩ => ⟨S2064x1024, .f32⟩
  | .hbm, ⟨102, _⟩ => ⟨S2064x1, .f32⟩
  | .hbm, ⟨103, _⟩ => ⟨S_, .f32⟩
  | .hbm, ⟨104, _⟩ => ⟨S2064x1, .f32⟩
  | .hbm, ⟨105, _⟩ => ⟨S2064x1, .f32⟩
  | .hbm, ⟨106, _⟩ => ⟨S_, .f32⟩
  | .hbm, ⟨107, _⟩ => ⟨S2064, .f32⟩
  | .hbm, ⟨108, _⟩ => ⟨S2064x1024, .f32⟩
  | .hbm, ⟨109, _⟩ => ⟨S2064x1024, .f32⟩
  | .hbm, ⟨110, _⟩ => ⟨S2064x1024, .f32⟩
  | .hbm, ⟨111, _⟩ => ⟨S2064x1024, .f32⟩
  | .hbm, ⟨112, _⟩ => ⟨S2064x1024, .f32⟩
  | .hbm, ⟨113, _⟩ => ⟨S1x1024, .f32⟩
  | .hbm, ⟨114, _⟩ => ⟨S2048x1024, .f32⟩
  | .hbm, ⟨115, _⟩ => ⟨S16x1024, .f32⟩
  | .hbm, ⟨116, _⟩ => ⟨S_, .f32⟩
  | .hbm, ⟨117, _⟩ => ⟨S112x1024, .f32⟩
  | .hbm, ⟨118, _⟩ => ⟨S2176x1024, .f32⟩
  | .hbm, ⟨119, _⟩ => ⟨S2064x1024, .bf16⟩
  | .hbm, ⟨120, _⟩ => ⟨S2048x1024, .bf16⟩
  | .hbm, ⟨121, _⟩ => ⟨S16x1024, .bf16⟩
  | .hbm, ⟨122, _⟩ => ⟨S_, .bf16⟩
  | .hbm, ⟨123, _⟩ => ⟨S112x1024, .bf16⟩
  | .hbm, ⟨124, _⟩ => ⟨S2176x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_v71 : Ref sig .tc := ⟨.hbm, 96, rfl⟩
abbrev main_cst_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_v78 : Ref sig .tc := ⟨.hbm, 105, rfl⟩
abbrev main_cst_16 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_17 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_18 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]
-- ==== Kernel6.lean ====
abbrev S2048x1024 : Shape := ⟨2, ![2048, 1024]⟩
abbrev S16x1024 : Shape := ⟨2, ![16, 1024]⟩
abbrev S1x1024 : Shape := ⟨2, ![1, 1024]⟩
abbrev S1024x2560 : Shape := ⟨2, ![1024, 2560]⟩
abbrev S2064x1024 : Shape := ⟨2, ![2064, 1024]⟩
abbrev S2064x2560 : Shape := ⟨2, ![2064, 2560]⟩
abbrev S_ : Shape := ⟨0, ![]⟩
abbrev S112x1024 : Shape := ⟨2, ![112, 1024]⟩
abbrev S2176x1024 : Shape := ⟨2, ![2176, 1024]⟩
abbrev S2064x512 : Shape := ⟨2, ![2064, 512]⟩
abbrev S2048x512 : Shape := ⟨2, ![2048, 512]⟩
abbrev S16x512 : Shape := ⟨2, ![16, 512]⟩
abbrev S112x512 : Shape := ⟨2, ![112, 512]⟩
abbrev S2176x512 : Shape := ⟨2, ![2176, 512]⟩
abbrev S1x2176x512 : Shape := ⟨3, ![1, 2176, 512]⟩
abbrev S5x2176x512 : Shape := ⟨3, ![5, 2176, 512]⟩
abbrev S1024x4x640 : Shape := ⟨3, ![1024, 4, 640]⟩
abbrev S4x1024x640 : Shape := ⟨3, ![4, 1024, 640]⟩
abbrev S8x128 : Shape := ⟨2, ![8, 128]⟩
abbrev S5x544x512 : Shape := ⟨3, ![5, 544, 512]⟩
abbrev S544x1024 : Shape := ⟨2, ![544, 1024]⟩
abbrev S1x1024x640 : Shape := ⟨3, ![1, 1024, 640]⟩
abbrev S1024x640 : Shape := ⟨2, ![1024, 640]⟩
abbrev S1x272x512 : Shape := ⟨3, ![1, 272, 512]⟩
abbrev S272x512 : Shape := ⟨2, ![272, 512]⟩
abbrev S1024x512 : Shape := ⟨2, ![1024, 512]⟩
abbrev S272x1024 : Shape := ⟨2, ![272, 1024]⟩
abbrev S272 : Shape := ⟨1, ![272]⟩
abbrev S272x1 : Shape := ⟨2, ![272, 1]⟩
abbrev S1024 : Shape := ⟨1, ![1024]⟩

abbrev nBuf : Space → Nat
  | .hbm => 59
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S16x1024, .f32⟩
  | .hbm, ⟨2, _⟩ => ⟨S1x1024, .f32⟩
  | .hbm, ⟨3, _⟩ => ⟨S1024x2560, .f32⟩
  | .hbm, ⟨4, _⟩ => ⟨S2064x1024, .f32⟩
  | .hbm, ⟨5, _⟩ => ⟨S2064x2560, .f32⟩
  | .hbm, ⟨6, _⟩ => ⟨S_, .f32⟩
  | .hbm, ⟨7, _⟩ => ⟨S112x1024, .f32⟩
  | .hbm, ⟨8, _⟩ => ⟨S2176x1024, .f32⟩
  | .hbm, ⟨9, _⟩ => ⟨S2064x512, .f32⟩
  | .hbm, ⟨10, _⟩ => ⟨S2064x512, .f32⟩
  | .hbm, ⟨11, _⟩ => ⟨S2064x512, .f32⟩
  | .hbm, ⟨12, _⟩ => ⟨S2064x512, .f32⟩
  | .hbm, ⟨13, _⟩ => ⟨S2064x512, .f32⟩
  | .hbm, ⟨14, _⟩ => ⟨S2048x512, .f32⟩
  | .hbm, ⟨15, _⟩ => ⟨S16x512, .f32⟩
  | .hbm, ⟨16, _⟩ => ⟨S_, .f32⟩
  | .hbm, ⟨17, _⟩ => ⟨S112x512, .f32⟩
  | .hbm, ⟨18, _⟩ => ⟨S2176x512, .f32⟩
  | .hbm, ⟨19, _⟩ => ⟨S2048x512, .f32⟩
  | .hbm, ⟨20, _⟩ => ⟨S16x512, .f32⟩
  | .hbm, ⟨21, _⟩ => ⟨S_, .f32⟩
  | .hbm, ⟨22, _⟩ => ⟨S112x512, .f32⟩
  | .hbm, ⟨23, _⟩ => ⟨S2176x512, .f32⟩
  | .hbm, ⟨24, _⟩ => ⟨S2048x512, .f32⟩
  | .hbm, ⟨25, _⟩ => ⟨S16x512, .f32⟩
  | .hbm, ⟨26, _⟩ => ⟨S_, .f32⟩
  | .hbm, ⟨27, _⟩ => ⟨S112x512, .f32⟩
  | .hbm, ⟨28, _⟩ => ⟨S2176x512, .f32⟩
  | .hbm, ⟨29, _⟩ => ⟨S2048x512, .f32⟩
  | .hbm, ⟨30, _⟩ => ⟨S16x512, .f32⟩
  | .hbm, ⟨31, _⟩ => ⟨S_, .f32⟩
  | .hbm, ⟨32, _⟩ => ⟨S112x512, .f32⟩
  | .hbm, ⟨33, _⟩ => ⟨S2176x512, .f32⟩
  | .hbm, ⟨34, _⟩ => ⟨S2048x512, .f32⟩
  | .hbm, ⟨35, _⟩ => ⟨S16x512, .f32⟩
  | .hbm, ⟨36, _⟩ => ⟨S_, .f32⟩
  | .hbm, ⟨37, _⟩ => ⟨S112x512, .f32⟩
  | .hbm, ⟨38, _⟩ => ⟨S2176x512, .f32⟩
  | .hbm, ⟨39, _⟩ => ⟨S1x2176x512, .f32⟩
  | .hbm, ⟨40, _⟩ => ⟨S1x2176x512, .f32⟩
  | .hbm, ⟨41, _⟩ => ⟨S1x2176x512, .f32⟩
  | .hbm, ⟨42, _⟩ => ⟨S1x2176x512, .f32⟩
  | .hbm, ⟨43, _⟩ => ⟨S1x2176x512, .f32⟩
  | .hbm, ⟨44, _⟩ => ⟨S5x2176x512, .f32⟩
  | .hbm, ⟨45, _⟩ => ⟨S5x2176x512, .bf16⟩
  | .hbm, ⟨46, _⟩ => ⟨S1024x4x640, .f32⟩
  | .hbm, ⟨47, _⟩ => ⟨S4x1024x640, .f32⟩
  | .hbm, ⟨48, _⟩ => ⟨S4x1024x640, .bf16⟩
  | .hbm, ⟨49, _⟩ => ⟨S2048x1024, .f32⟩
  | .hbm, ⟨50, _⟩ => ⟨S16x1024, .f32⟩
  | .hbm, ⟨51, _⟩ => ⟨S_, .f32⟩
  | .hbm, ⟨52, _⟩ => ⟨S112x1024, .f32⟩
  | .hbm, ⟨53, _⟩ => ⟨S2176x1024, .f32⟩
  | .hbm, ⟨54, _⟩ => ⟨S_, .f32⟩
  | .hbm, ⟨55, _⟩ => ⟨S8x128, .f32⟩
  | .hbm, ⟨56, _⟩ => ⟨S2048x1024, .f32⟩
  | .hbm, ⟨57, _⟩ => ⟨S16x1024, .f32⟩
  | .hbm, ⟨58, _⟩ => ⟨S1x1024, .f32⟩
  | .local _ .vmem, ⟨0, _⟩ => ⟨S5x544x512, .bf16⟩
  | .local _ .vmem, ⟨1, _⟩ => ⟨S5x544x512, .bf16⟩
  | .local _ .vmem, ⟨2, _⟩ => ⟨S4x1024x640, .bf16⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S1x1024, .f32⟩
  | .local _ .vmem, ⟨8, _⟩ => ⟨S544x1024, .f32⟩
  | .local _ .vmem, ⟨9, _⟩ => ⟨S544x1024, .f32⟩
  | .local _ .vmem, ⟨10, _⟩ => ⟨S16x1024, .f32⟩
  | .local _ .vmem, ⟨11, _⟩ => ⟨S1x1024, .f32⟩
  | .local _ .vmem, ⟨12, _⟩ => ⟨S1024x2560, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42_0 : Ref sig .tc := ⟨.hbm, 56, rfl⟩
abbrev main_v42_1 : Ref sig .tc := ⟨.hbm, 57, rfl⟩
abbrev main_v42_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v126 : BitVec 1 := Scalar.cmpi .eq arg0 c3_i32
  let v127 : BitVec 32 := Scalar.extui v126
  let c0_i32_88 : BitVec 32 := 0#32
  let v128 : BitVec 1 := Scalar.cmpi .ne v127 c0_i32_88
  v128

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5x544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S2048x1024 : Shape := ⟨2, ![2048, 1024]⟩
abbrev S16x1024 : Shape := ⟨2, ![16, 1024]⟩
abbrev S1x1024 : Shape := ⟨2, ![1, 1024]⟩
abbrev S1024x2560 : Shape := ⟨2, ![1024, 2560]⟩
abbrev S2064x1024 : Shape := ⟨2, ![2064, 1024]⟩
abbrev S2064x2560 : Shape := ⟨2, ![2064, 2560]⟩
abbrev S1024 : Shape := ⟨1, ![1024]⟩
abbrev S_ : Shape := ⟨0, ![]⟩
abbrev S2064 : Shape := ⟨1, ![2064]⟩
abbrev S2064x1 : Shape := ⟨2, ![2064, 1]⟩

abbrev nBuf : Space → Nat
  | .hbm => 59
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S16x1024, .f32⟩
  | .hbm, ⟨2, _⟩ => ⟨S1x1024, .f32⟩
  | .hbm, ⟨3, _⟩ => ⟨S1024x2560, .f32⟩
  | .hbm, ⟨4, _⟩ => ⟨S2064x1024, .f32⟩
  | .hbm, ⟨5, _⟩ => ⟨S2064x2560, .f32⟩
  | .hbm, ⟨6, _⟩ => ⟨S2064x1024, .f32⟩
  | .hbm, ⟨7, _⟩ => ⟨S1024, .f32⟩
  | .hbm, ⟨8, _⟩ => ⟨S2064x1024, .f32⟩
  | .hbm, ⟨9, _⟩ => ⟨S_, .f32⟩
  | .hbm, ⟨10, _⟩ => ⟨S2064, .f32⟩
  | .hbm, ⟨11, _⟩ => ⟨S2064x1, .f32⟩
  | .hbm, ⟨12, _⟩ => ⟨S_, .f32⟩
  | .hbm, ⟨13, _⟩ => ⟨S2064x1, .f32⟩
  | .hbm, ⟨14, _⟩ => ⟨S2064x1, .f32⟩
  | .hbm, ⟨15, _⟩ => ⟨S_, .f32⟩
  | .hbm, ⟨16, _⟩ => ⟨S2064x1, .f32⟩
  | .hbm, ⟨17, _⟩ => ⟨S2064x1, .f32⟩
  | .hbm, ⟨18, _⟩ => ⟨S2064x1, .f32⟩
  | .hbm, ⟨19, _⟩ => ⟨S2064x1, .f32⟩
  | .hbm, ⟨20, _⟩ => ⟨S_, .f32⟩
  | .hbm, ⟨21, _⟩ => ⟨S2064x1, .f32⟩
  | .hbm, ⟨22, _⟩ => ⟨S2064x1, .f32⟩
  | .hbm, ⟨23, _⟩ => ⟨S2064x1024, .f32⟩
  | .hbm, ⟨24, _⟩ => ⟨S2064x1024, .f32⟩
  | .hbm, ⟨25, _⟩ => ⟨S1x1024, .f32⟩
  | .hbm, ⟨26, _⟩ => ⟨S2064x1024, .f32⟩
  | .hbm, ⟨27, _⟩ => ⟨S2064x1024, .f32⟩
  | .hbm, ⟨28, _⟩ => ⟨S2064x2560, .f32⟩
  | .hbm, ⟨29, _⟩ => ⟨S2064x1024, .f32⟩
  | .hbm, ⟨30, _⟩ => ⟨S2064x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2064x1024, .f32⟩
  | .hbm, ⟨35, _⟩ => ⟨S2064x1024, .f32⟩
  | .hbm, ⟨36, _⟩ => ⟨S_, .f32⟩
  | .hbm, ⟨37, _⟩ => ⟨S1024, .f32⟩
  | .hbm, ⟨38, _⟩ => ⟨S2064x1024, .f32⟩
  | .hbm, ⟨39, _⟩ => ⟨S_, .f32⟩
  | .hbm, ⟨40, _⟩ => ⟨S2064, .f32⟩
  | .hbm, ⟨41, _⟩ => ⟨S2064x1, .f32⟩
  | .hbm, ⟨42, _⟩ => ⟨S2064x1024, .f32⟩
  | .hbm, ⟨43, _⟩ => ⟨S2064x1024, .f32⟩
  | .hbm, ⟨44, _⟩ => ⟨S2064x1024, .f32⟩
  | .hbm, ⟨45, _⟩ => ⟨S2064x1, .f32⟩
  | .hbm, ⟨46, _⟩ => ⟨S_, .f32⟩
  | .hbm, ⟨47, _⟩ => ⟨S2064x1, .f32⟩
  | .hbm, ⟨48, _⟩ => ⟨S2064x1, .f32⟩
  | .hbm, ⟨49, _⟩ => ⟨S_, .f32⟩
  | .hbm, ⟨50, _⟩ => ⟨S2064, .f32⟩
  | .hbm, ⟨51, _⟩ => ⟨S2064x1024, .f32⟩
  | .hbm, ⟨52, _⟩ => ⟨S2064x1024, .f32⟩
  | .hbm, ⟨53, _⟩ => ⟨S2064x1024, .f32⟩
  | .hbm, ⟨54, _⟩ => ⟨S2064x1024, .f32⟩
  | .hbm, ⟨55, _⟩ => ⟨S2064x1024, .f32⟩
  | .hbm, ⟨56, _⟩ => ⟨S1x1024, .f32⟩
  | .hbm, ⟨57, _⟩ => ⟨S16x1024, .f32⟩
  | .hbm, ⟨58, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel3.lean ====
abbrev S2064x2816 : Shape := ⟨2, ![2064, 2816]⟩
abbrev S2816x1024 : Shape := ⟨2, ![2816, 1024]⟩
abbrev S2064x1024 : Shape := ⟨2, ![2064, 1024]⟩
abbrev S2048x1024 : Shape := ⟨2, ![2048, 1024]⟩
abbrev S1x1024 : Shape := ⟨2, ![1, 1024]⟩
abbrev S2048x2816 : Shape := ⟨2, ![2048, 2816]⟩
abbrev S16x2816 : Shape := ⟨2, ![16, 2816]⟩
abbrev S_ : Shape := ⟨0, ![]⟩
abbrev S112x2816 : Shape := ⟨2, ![112, 2816]⟩
abbrev S2176x2816 : Shape := ⟨2, ![2176, 2816]⟩
abbrev S16x1024 : Shape := ⟨2, ![16, 1024]⟩
abbrev S112x1024 : Shape := ⟨2, ![112, 1024]⟩
abbrev S2176x1024 : Shape := ⟨2, ![2176, 1024]⟩
abbrev S8x128 : Shape := ⟨2, ![8, 128]⟩
abbrev S544x2816 : Shape := ⟨2, ![544, 2816]⟩
abbrev S544x1024 : Shape := ⟨2, ![544, 1024]⟩
abbrev S272x2816 : Shape := ⟨2, ![272, 2816]⟩
abbrev S272x1024 : Shape := ⟨2, ![272, 1024]⟩
abbrev S272 : Shape := ⟨1, ![272]⟩
abbrev S272x1 : Shape := ⟨2, ![272, 1]⟩
abbrev S1x272x1024 : Shape := ⟨3, ![1, 272, 1024]⟩
abbrev S1 : Shape := ⟨1, ![1]⟩
abbrev S1x1x1 : Shape := ⟨3, ![1, 1, 1]⟩
abbrev S1x1 : Shape := ⟨2, ![1, 1]⟩
abbrev S1024 : Shape := ⟨1, ![1024]⟩

abbrev nBuf : Space → Nat
  | .hbm => 21
  | .vmem => 14
  | .smem => 0
  | _ => 0

abbrev bufTy : (tb : Table) → Fin (tcTables nBuf tb) → BufTy
  | .hbm, ⟨0, _⟩ => ⟨S2064x2816, .f32⟩
  | .hbm, ⟨1, _⟩ => ⟨S2816x1024, .f32⟩
  | .hbm, ⟨2, _⟩ => ⟨S2064x1024, .f32⟩
  | .hbm, ⟨3, _⟩ => ⟨S2048x1024, .f32⟩
  | .hbm, ⟨4, _⟩ => ⟨S1x1024, .f32⟩
  | .hbm, ⟨5, _⟩ => ⟨S2048x2816, .f32⟩
  | .hbm, ⟨6, _⟩ => ⟨S16x2816, .f32⟩
  | .hbm, ⟨7, _⟩ => ⟨S_, .f32⟩
  | .hbm, ⟨8, _⟩ => ⟨S112x2816, .f32⟩
  | .hbm, ⟨9, _⟩ => ⟨S2176x2816, .f32⟩
  | .hbm, ⟨10, _⟩ => ⟨S2176x2816, .bf16⟩
  | .hbm, ⟨11, _⟩ => ⟨S2816x1024, .bf16⟩
  | .hbm, ⟨12, _⟩ => ⟨S2048x1024, .f32⟩
  | .hbm, ⟨13, _⟩ => ⟨S16x1024, .f32⟩
  | .hbm, ⟨14, _⟩ => ⟨S_, .f32⟩
  | .hbm, ⟨15, _⟩ => ⟨S112x1024, .f32⟩
  | .hbm, ⟨16, _⟩ => ⟨S2176x1024, .f32⟩
  | .hbm, ⟨17, _⟩ => ⟨S2176x1024, .bf16⟩
  | .hbm, ⟨18, _⟩ => ⟨S2176x1024, .f32⟩
  | .hbm, ⟨19, _⟩ => ⟨S8x128, .f32⟩
  | .hbm, ⟨20, _⟩ => ⟨S1x1024, .f32⟩
  | .local _ .vmem, ⟨0, _⟩ => ⟨S544x2816, .bf16⟩
  | .local _ .vmem, ⟨1, _⟩ => ⟨S544x2816, .bf16⟩
  | .local _ .vmem, ⟨2, _⟩ => ⟨S2816x1024, .bf16⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S1x1024, .f32⟩
  | .local _ .vmem, ⟨8, _⟩ => ⟨S544x1024, .bf16⟩
  | .local _ .vmem, ⟨9, _⟩ => ⟨S544x1024, .bf16⟩
  | .local _ .vmem, ⟨10, _⟩ => ⟨S544x1024, .f32⟩
  | .local _ .vmem, ⟨11, _⟩ => ⟨S544x1024, .f32⟩
  | .local _ .vmem, ⟨12, _⟩ => ⟨S8x128, .f32⟩
  | .local _ .vmem, ⟨13, _⟩ => ⟨S1x1024, .f32⟩
  | _, _ => ⟨S2064x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S2064x2816 : Shape := ⟨2, ![2064, 2816]⟩
abbrev S2816x1024 : Shape := ⟨2, ![2816, 1024]⟩
abbrev S2064x1024 : Shape := ⟨2, ![2064, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2064 : Shape := ⟨1, ![2064]⟩
abbrev S2064x1 : Shape := ⟨2, ![2064, 1]⟩
abbrev S2048 : Shape := ⟨1, ![2048]⟩
abbrev S112x1024 : Shape := ⟨2, ![112, 1024]⟩
abbrev S16x1024 : Shape := ⟨2, ![16, 1024]⟩
abbrev S2176x1024 : Shape := ⟨2, ![2176, 1024]⟩
abbrev S8x128 : Shape := ⟨2, ![8, 128]⟩

abbrev nBuf : Space → Nat
  | .hbm => 90
  | .vmem => 0
  | .smem => 0
  | _ => 0

abbrev bufTy : (tb : Table) → Fin (tcTables nBuf tb) → BufTy
  | .hbm, ⟨0, _⟩ => ⟨S2064x2816, .f32⟩
  | .hbm, ⟨1, _⟩ => ⟨S2816x1024, .f32⟩
  | .hbm, ⟨2, _⟩ => ⟨S2064x1024, .f32⟩
  | .hbm, ⟨3, _⟩ => ⟨S2048x1024, .f32⟩
  | .hbm, ⟨4, _⟩ => ⟨S1x1024, .f32⟩
  | .hbm, ⟨5, _⟩ => ⟨S2064x1024, .f32⟩
  | .hbm, ⟨6, _⟩ => ⟨S1024, .f32⟩
  | .hbm, ⟨7, _⟩ => ⟨S2064x1024, .f32⟩
  | .hbm, ⟨8, _⟩ => ⟨S_, .f32⟩
  | .hbm, ⟨9, _⟩ => ⟨S2064, .f32⟩
  | .hbm, ⟨10, _⟩ => ⟨S2064x1, .f32⟩
  | .hbm, ⟨11, _⟩ => ⟨S_, .f32⟩
  | .hbm, ⟨12, _⟩ => ⟨S2064x1, .f32⟩
  | .hbm, ⟨13, _⟩ => ⟨S2064x1, .f32⟩
  | .hbm, ⟨14, _⟩ => ⟨S_, .f32⟩
  | .hbm, ⟨15, _⟩ => ⟨S2064x1, .f32⟩
  | .hbm, ⟨16, _⟩ => ⟨S2064x1, .f32⟩
  | .hbm, ⟨17, _⟩ => ⟨S2064x1, .f32⟩
  | .hbm, ⟨18, _⟩ => ⟨S2064x1, .f32⟩
  | .hbm, ⟨19, _⟩ => ⟨S_, .f32⟩
  | .hbm, ⟨20, _⟩ => ⟨S2064x1, .f32⟩
  | .hbm, ⟨21, _⟩ => ⟨S2064x1, .f32⟩
  | .hbm, ⟨22, _⟩ => ⟨S2064x1024, .f32⟩
  | .hbm, ⟨23, _⟩ => ⟨S2064x1024, .f32⟩
  | .hbm, ⟨24, _⟩ => ⟨S1x1024, .f32⟩
  | .hbm, ⟨25, _⟩ => ⟨S2064x1024, .f32⟩
  | .hbm, ⟨26, _⟩ => ⟨S2064x1024, .f32⟩
  | .hbm, ⟨27, _⟩ => ⟨S2064x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S_, .f32⟩
  | .hbm, ⟨37, _⟩ => ⟨S2048, .f32⟩
  | .hbm, ⟨38, _⟩ => ⟨S2048, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2064x1024, .f32⟩
  | .hbm, ⟨54, _⟩ => ⟨S2064x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S2064x1024, .f32⟩
  | .hbm, ⟨59, _⟩ => ⟨S2064x1024, .f32⟩
  | .hbm, ⟨60, _⟩ => ⟨S_, .f32⟩
  | .hbm, ⟨61, _⟩ => ⟨S1024, .f32⟩
  | .hbm, ⟨62, _⟩ => ⟨S2064x1024, .f32⟩
  | .hbm, ⟨63, _⟩ => ⟨S_, .f32⟩
  | .hbm, ⟨64, _⟩ => ⟨S2064, .f32⟩
  | .hbm, ⟨65, _⟩ => ⟨S2064x1, .f32⟩
  | .hbm, ⟨66, _⟩ => ⟨S2064x1024, .f32⟩
  | .hbm, ⟨67, _⟩ => ⟨S2064x1024, .f32⟩
  | .hbm, ⟨68, _⟩ => ⟨S2064x1, .f32⟩
  | .hbm, ⟨69, _⟩ => ⟨S_, .f32⟩
  | .hbm, ⟨70, _⟩ => ⟨S2064x1, .f32⟩
  | .hbm, ⟨71, _⟩ => ⟨S2064x1, .f32⟩
  | .hbm, ⟨72, _⟩ => ⟨S_, .f32⟩
  | .hbm, ⟨73, _⟩ => ⟨S2064, .f32⟩
  | .hbm, ⟨74, _⟩ => ⟨S2064x1024, .f32⟩
  | .hbm, ⟨75, _⟩ => ⟨S2064x1024, .f32⟩
  | .hbm, ⟨76, _⟩ => ⟨S2064x1024, .f32⟩
  | .hbm, ⟨77, _⟩ => ⟨S2064x1024, .f32⟩
  | .hbm, ⟨78, _⟩ => ⟨S2064x1024, .f32⟩
  | .hbm, ⟨79, _⟩ => ⟨S1x1024, .f32⟩
  | .hbm, ⟨80, _⟩ => ⟨S_, .f32⟩
  | .hbm, ⟨81, _⟩ => ⟨S112x1024, .f32⟩
  | .hbm, ⟨82, _⟩ => ⟨S2048x1024, .f32⟩
  | .hbm, ⟨83, _⟩ => ⟨S16x1024, .f32⟩
  | .hbm, ⟨84, _⟩ => ⟨S2176x1024, .f32⟩
  | .hbm, ⟨85, _⟩ => ⟨S2176x1024, .bf16⟩
  | .hbm, ⟨86, _⟩ => ⟨S2048x1024, .f32⟩
  | .hbm, ⟨87, _⟩ => ⟨S16x1024, .f32⟩
  | .hbm, ⟨88, _⟩ => ⟨S2176x1024, .f32⟩
  | .hbm, ⟨89, _⟩ => ⟨S8x128, .f32⟩
  | _, _ => ⟨S2064x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_cst_16 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_17 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== Kernel8.lean ====
abbrev S2064x512 : Shape := ⟨2, ![2064, 512]⟩
abbrev S2064x1024 : Shape := ⟨2, ![2064, 1024]⟩
abbrev S1024x1024 : Shape := ⟨2, ![1024, 1024]⟩
abbrev S1x512 : Shape := ⟨2, ![1, 512]⟩
abbrev S1x1024 : Shape := ⟨2, ![1, 1024]⟩
abbrev S2048x512 : Shape := ⟨2, ![2048, 512]⟩
abbrev S16x512 : Shape := ⟨2, ![16, 512]⟩
abbrev S_ : Shape := ⟨0, ![]⟩
abbrev S112x512 : Shape := ⟨2, ![112, 512]⟩
abbrev S2176x512 : Shape := ⟨2, ![2176, 512]⟩
abbrev S2048x1024 : Shape := ⟨2, ![2048, 1024]⟩
abbrev S16x1024 : Shape := ⟨2, ![16, 1024]⟩
abbrev S112x1024 : Shape := ⟨2, ![112, 1024]⟩
abbrev S2176x1024 : Shape := ⟨2, ![2176, 1024]⟩
abbrev S544x512 : Shape := ⟨2, ![544, 512]⟩
abbrev S544x1024 : Shape := ⟨2, ![544, 1024]⟩
abbrev S192x512 : Shape := ⟨2, ![192, 512]⟩
abbrev S192 : Shape := ⟨1, ![192]⟩
abbrev S192x1 : Shape := ⟨2, ![192, 1]⟩
abbrev S512x1024 : Shape := ⟨2, ![512, 1024]⟩
abbrev S192x1024 : Shape := ⟨2, ![192, 1024]⟩
abbrev S176x512 : Shape := ⟨2, ![176, 512]⟩
abbrev S176 : Shape := ⟨1, ![176]⟩
abbrev S176x1 : Shape := ⟨2, ![176, 1]⟩
abbrev S176x1024 : Shape := ⟨2, ![176, 1024]⟩

abbrev nBuf : Space → Nat
  | .hbm => 29
  | .vmem => 19
  | .smem => 0
  | _ => 0

abbrev bufTy : (tb : Table) → Fin (tcTables nBuf tb) → BufTy
  | .hbm, ⟨0, _⟩ => ⟨S2064x512, .f32⟩
  | .hbm, ⟨1, _⟩ => ⟨S2064x512, .f32⟩
  | .hbm, ⟨2, _⟩ => ⟨S2064x1024, .f32⟩
  | .hbm, ⟨3, _⟩ => ⟨S1024x1024, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1x1024, .f32⟩
  | .hbm, ⟨8, _⟩ => ⟨S2048x512, .f32⟩
  | .hbm, ⟨9, _⟩ => ⟨S16x512, .f32⟩
  | .hbm, ⟨10, _⟩ => ⟨S_, .f32⟩
  | .hbm, ⟨11, _⟩ => ⟨S112x512, .f32⟩
  | .hbm, ⟨12, _⟩ => ⟨S2176x512, .f32⟩
  | .hbm, ⟨13, _⟩ => ⟨S2176x512, .bf16⟩
  | .hbm, ⟨14, _⟩ => ⟨S2048x512, .f32⟩
  | .hbm, ⟨15, _⟩ => ⟨S16x512, .f32⟩
  | .hbm, ⟨16, _⟩ => ⟨S_, .f32⟩
  | .hbm, ⟨17, _⟩ => ⟨S112x512, .f32⟩
  | .hbm, ⟨18, _⟩ => ⟨S2176x512, .f32⟩
  | .hbm, ⟨19, _⟩ => ⟨S2048x1024, .f32⟩
  | .hbm, ⟨20, _⟩ => ⟨S16x1024, .f32⟩
  | .hbm, ⟨21, _⟩ => ⟨S_, .f32⟩
  | .hbm, ⟨22, _⟩ => ⟨S112x1024, .f32⟩
  | .hbm, ⟨23, _⟩ => ⟨S2176x1024, .f32⟩
  | .hbm, ⟨24, _⟩ => ⟨S1024x1024, .bf16⟩
  | .hbm, ⟨25, _⟩ => ⟨S2176x512, .bf16⟩
  | .hbm, ⟨26, _⟩ => ⟨S2176x1024, .f32⟩
  | .hbm, ⟨27, _⟩ => ⟨S2176x1024, .f32⟩
  | .hbm, ⟨28, _⟩ => ⟨S2176x1024, .bf16⟩
  | .local _ .vmem, ⟨0, _⟩ => ⟨S544x512, .bf16⟩
  | .local _ .vmem, ⟨1, _⟩ => ⟨S544x512, .bf16⟩
  | .local _ .vmem, ⟨2, _⟩ => ⟨S544x512, .f32⟩
  | .local _ .vmem, ⟨3, _⟩ => ⟨S544x512, .f32⟩
  | .local _ .vmem, ⟨4, _⟩ => ⟨S544x1024, .f32⟩
  | .local _ .vmem, ⟨5, _⟩ => ⟨S544x1024, .f32⟩
  | .local _ .vmem, ⟨6, _⟩ => ⟨S1024x1024, .bf16⟩
  | .local _ .vmem, ⟨7, _⟩ => ⟨S1x512, .f32⟩
  | .local _ .vmem, ⟨8, _⟩ => ⟨S1x512, .f32⟩
  | .local _ .vmem, ⟨9, _⟩ => ⟨S1x1024, .f32⟩
  | .local _ .vmem, ⟨10, _⟩ => ⟨S1x1024, .f32⟩
  | .local _ .vmem, ⟨11, _⟩ => ⟨S544x512, .bf16⟩
  | .local _ .vmem, ⟨12, _⟩ => ⟨S544x512, .bf16⟩
  | .local _ .vmem, ⟨13, _⟩ => ⟨S544x1024, .f32⟩
  | .local _ .vmem, ⟨14, _⟩ => ⟨S544x1024, .f32⟩
  | .local _ .vmem, ⟨15, _⟩ => ⟨S544x1024, .f32⟩
  | .local _ .vmem, ⟨16, _⟩ => ⟨S544x1024, .f32⟩
  | .local _ .vmem, ⟨17, _⟩ => ⟨S544x1024, .bf16⟩
  | .local _ .vmem, ⟨18, _⟩ => ⟨S544x1024, .bf16⟩
  | _, _ => ⟨S2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S544x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S544x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S544x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S544x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference8Ideal.lean ====
abbrev S2064x512 : Shape := ⟨2, ![2064, 512]⟩
abbrev S2064x1024 : Shape := ⟨2, ![2064, 1024]⟩
abbrev S1024x1024 : Shape := ⟨2, ![1024, 1024]⟩
abbrev S1x512 : Shape := ⟨2, ![1, 512]⟩
abbrev S1x1024 : Shape := ⟨2, ![1, 1024]⟩
abbrev S2048x512 : Shape := ⟨2, ![2048, 512]⟩
abbrev S16x512 : Shape := ⟨2, ![16, 512]⟩
abbrev S_ : Shape := ⟨0, ![]⟩
abbrev S112x512 : Shape := ⟨2, ![112, 512]⟩
abbrev S2176x512 : Shape := ⟨2, ![2176, 512]⟩
abbrev S512 : Shape := ⟨1, ![512]⟩
abbrev S2176 : Shape := ⟨1, ![2176]⟩
abbrev S2176x1 : Shape := ⟨2, ![2176, 1]⟩
abbrev S2176x1024 : Shape := ⟨2, ![2176, 1024]⟩
abbrev S2048x1024 : Shape := ⟨2, ![2048, 1024]⟩
abbrev S16x1024 : Shape := ⟨2, ![16, 1024]⟩
abbrev S112x1024 : Shape := ⟨2, ![112, 1024]⟩
abbrev S1024 : Shape := ⟨1, ![1024]⟩

abbrev nBuf : Space → Nat
  | .hbm => 102
  | .vmem => 0
  | .smem => 0
  | _ => 0

abbrev bufTy : (tb : Table) → Fin (tcTables nBuf tb) → BufTy
  | .hbm, ⟨0, _⟩ => ⟨S2064x512, .f32⟩
  | .hbm, ⟨1, _⟩ => ⟨S2064x512, .f32⟩
  | .hbm, ⟨2, _⟩ => ⟨S2064x1024, .f32⟩
  | .hbm, ⟨3, _⟩ => ⟨S1024x1024, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1x1024, .f32⟩
  | .hbm, ⟨8, _⟩ => ⟨S2048x512, .f32⟩
  | .hbm, ⟨9, _⟩ => ⟨S16x512, .f32⟩
  | .hbm, ⟨10, _⟩ => ⟨S_, .f32⟩
  | .hbm, ⟨11, _⟩ => ⟨S112x512, .f32⟩
  | .hbm, ⟨12, _⟩ => ⟨S2176x512, .f32⟩
  | .hbm, ⟨13, _⟩ => ⟨S512, .f32⟩
  | .hbm, ⟨14, _⟩ => ⟨S512, .f32⟩
  | .hbm, ⟨15, _⟩ => ⟨S_, .f32⟩
  | .hbm, ⟨16, _⟩ => ⟨S2176, .f32⟩
  | .hbm, ⟨17, _⟩ => ⟨S2176x1, .f32⟩
  | .hbm, ⟨18, _⟩ => ⟨S_, .f32⟩
  | .hbm, ⟨19, _⟩ => ⟨S2176x1, .f32⟩
  | .hbm, ⟨20, _⟩ => ⟨S2176x1, .f32⟩
  | .hbm, ⟨21, _⟩ => ⟨S2176x512, .f32⟩
  | .hbm, ⟨22, _⟩ => ⟨S2176x512, .f32⟩
  | .hbm, ⟨23, _⟩ => ⟨S2176x512, .f32⟩
  | .hbm, ⟨24, _⟩ => ⟨S_, .f32⟩
  | .hbm, ⟨25, _⟩ => ⟨S2176, .f32⟩
  | .hbm, ⟨26, _⟩ => ⟨S2176x1, .f32⟩
  | .hbm, ⟨27, _⟩ => ⟨S_, .f32⟩
  | .hbm, ⟨28, _⟩ => ⟨S2176x1, .f32⟩
  | .hbm, ⟨29, _⟩ => ⟨S2176x1, .f32⟩
  | .hbm, ⟨30, _⟩ => ⟨S2176x512, .f32⟩
  | .hbm, ⟨31, _⟩ => ⟨S2176x512, .f32⟩
  | .hbm, ⟨32, _⟩ => ⟨S_, .f32⟩
  | .hbm, ⟨33, _⟩ => ⟨S2176x1, .f32⟩
  | .hbm, ⟨34, _⟩ => ⟨S2176x1, .f32⟩
  | .hbm, ⟨35, _⟩ => ⟨S2176x1, .f32⟩
  | .hbm, ⟨36, _⟩ => ⟨S2176x512, .f32⟩
  | .hbm, ⟨37, _⟩ => ⟨S2176x512, .f32⟩
  | .hbm, ⟨38, _⟩ => ⟨S1x512, .f32⟩
  | .hbm, ⟨39, _⟩ => ⟨S2176x512, .f32⟩
  | .hbm, ⟨40, _⟩ => ⟨S2176x512, .f32⟩
  | .hbm, ⟨41, _⟩ => ⟨S1x512, .f32⟩
  | .hbm, ⟨42, _⟩ => ⟨S2176x512, .f32⟩
  | .hbm, ⟨43, _⟩ => ⟨S2176x512, .f32⟩
  | .hbm, ⟨44, _⟩ => ⟨S2176x512, .f32⟩
  | .hbm, ⟨45, _⟩ => ⟨S2176x512, .f32⟩
  | .hbm, ⟨46, _⟩ => ⟨S_, .f32⟩
  | .hbm, ⟨47, _⟩ => ⟨S2176x512, .f32⟩
  | .hbm, ⟨48, _⟩ => ⟨S2176x512, .f32⟩
  | .hbm, ⟨49, _⟩ => ⟨S_, .f32⟩
  | .hbm, ⟨50, _⟩ => ⟨S2176x512, .f32⟩
  | .hbm, ⟨51, _⟩ => ⟨S2176x512, .f32⟩
  | .hbm, ⟨52, _⟩ => ⟨S2176x512, .f32⟩
  | .hbm, ⟨53, _⟩ => ⟨S2048x512, .f32⟩
  | .hbm, ⟨54, _⟩ => ⟨S16x512, .f32⟩
  | .hbm, ⟨55, _⟩ => ⟨S_, .f32⟩
  | .hbm, ⟨56, _⟩ => ⟨S112x512, .f32⟩
  | .hbm, ⟨57, _⟩ => ⟨S2176x512, .f32⟩
  | .hbm, ⟨58, _⟩ => ⟨S2176x1024, .f32⟩
  | .hbm, ⟨59, _⟩ => ⟨S2176x1024, .f32⟩
  | .hbm, ⟨60, _⟩ => ⟨S2048x1024, .f32⟩
  | .hbm, ⟨61, _⟩ => ⟨S16x1024, .f32⟩
  | .hbm, ⟨62, _⟩ => ⟨S_, .f32⟩
  | .hbm, ⟨63, _⟩ => ⟨S112x1024, .f32⟩
  | .hbm, ⟨64, _⟩ => ⟨S2176x1024, .f32⟩
  | .hbm, ⟨65, _⟩ => ⟨S1024, .f32⟩
  | .hbm, ⟨66, _⟩ => ⟨S2176x1024, .f32⟩
  | .hbm, ⟨67, _⟩ => ⟨S_, .f32⟩
  | .hbm, ⟨68, _⟩ => ⟨S2176, .f32⟩
  | .hbm, ⟨69, _⟩ => ⟨S2176x1, .f32⟩
  | .hbm, ⟨70, _⟩ => ⟨S_, .f32⟩
  | .hbm, ⟨71, _⟩ => ⟨S2176x1, .f32⟩
  | .hbm, ⟨72, _⟩ => ⟨S2176x1, .f32⟩
  | .hbm, ⟨73, _⟩ => ⟨S_, .f32⟩
  | .hbm, ⟨74, _⟩ => ⟨S2176x1, .f32⟩
  | .hbm, ⟨75, _⟩ => ⟨S2176x1, .f32⟩
  | .hbm, ⟨76, _⟩ => ⟨S2176x1, .f32⟩
  | .hbm, ⟨77, _⟩ => ⟨S2176x1024, .f32⟩
  | .hbm, ⟨78, _⟩ => ⟨S2176x1024, .f32⟩
  | .hbm, ⟨79, _⟩ => ⟨S1x1024, .f32⟩
  | .hbm, ⟨80, _⟩ => ⟨S2176x1024, .f32⟩
  | .hbm, ⟨81, _⟩ => ⟨S2176x1024, .f32⟩
  | .hbm, ⟨82, _⟩ => ⟨S2176x1024, .f32⟩
  | .hbm, ⟨83, _⟩ => ⟨S2176x512, .bf16⟩
  | .hbm, ⟨84, _⟩ => ⟨S1024, .f32⟩
  | .hbm, ⟨85, _⟩ => ⟨S2176x1024, .f32⟩
  | .hbm, ⟨86, _⟩ => ⟨S_, .f32⟩
  | .hbm, ⟨87, _⟩ => ⟨S2176, .f32⟩
  | .hbm, ⟨88, _⟩ => ⟨S2176x1, .f32⟩
  | .hbm, ⟨89, _⟩ => ⟨S_, .f32⟩
  | .hbm, ⟨90, _⟩ => ⟨S2176x1, .f32⟩
  | .hbm, ⟨91, _⟩ => ⟨S2176x1, .f32⟩
  | .hbm, ⟨92, _⟩ => ⟨S_, .f32⟩
  | .hbm, ⟨93, _⟩ => ⟨S2176x1, .f32⟩
  | .hbm, ⟨94, _⟩ => ⟨S2176x1, .f32⟩
  | .hbm, ⟨95, _⟩ => ⟨S2176x1, .f32⟩
  | .hbm, ⟨96, _⟩ => ⟨S2176x1024, .f32⟩
  | .hbm, ⟨97, _⟩ => ⟨S2176x1024, .f32⟩
  | .hbm, ⟨98, _⟩ => ⟨S1x1024, .f32⟩
  | .hbm, ⟨99, _⟩ => ⟨S2176x1024, .f32⟩
  | .hbm, ⟨100, _⟩ => ⟨S2176x1024, .f32⟩
  | .hbm, ⟨101, _⟩ => ⟨S2176x1024, .bf16⟩
  | _, _ => ⟨S2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_10 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩

abbrev nD : Nat := 1
abbrev τ : Topo := Topo.v7x

variable {F : FTy → Type} [FloatOps F]
-- ==== Kernel9.lean ====
abbrev S2064x2560 : Shape := ⟨2, ![2064, 2560]⟩
abbrev S3x512 : Shape := ⟨2, ![3, 512]⟩
abbrev S31x512 : Shape := ⟨2, ![31, 512]⟩
abbrev S1x512 : Shape := ⟨2, ![1, 512]⟩
abbrev S2048x2560 : Shape := ⟨2, ![2048, 2560]⟩
abbrev S16x2560 : Shape := ⟨2, ![16, 2560]⟩
abbrev S_ : Shape := ⟨0, ![]⟩
abbrev S112x2560 : Shape := ⟨2, ![112, 2560]⟩
abbrev S2176x2560 : Shape := ⟨2, ![2176, 2560]⟩
abbrev S2176x5x512 : Shape := ⟨3, ![2176, 5, 512]⟩
abbrev S5x2176x512 : Shape := ⟨3, ![5, 2176, 512]⟩
abbrev S3x4x128 : Shape := ⟨3, ![3, 4, 128]⟩
abbrev S4x3x128 : Shape := ⟨3, ![4, 3, 128]⟩
abbrev S31x4x128 : Shape := ⟨3, ![31, 4, 128]⟩
abbrev S4x31x128 : Shape := ⟨3, ![4, 31, 128]⟩
abbrev S4x16x128 : Shape := ⟨3, ![4, 16, 128]⟩
abbrev S4x5x128 : Shape := ⟨3, ![4, 5, 128]⟩
abbrev S4x9x128 : Shape := ⟨3, ![4, 9, 128]⟩
abbrev S4x64x128 : Shape := ⟨3, ![4, 64, 128]⟩
abbrev S4x64x256 : Shape := ⟨3, ![4, 64, 256]⟩
abbrev S2176x512 : Shape := ⟨2, ![2176, 512]⟩
abbrev S5x2176x128 : Shape := ⟨3, ![5, 2176, 128]⟩
abbrev S1x64x256 : Shape := ⟨3, ![1, 64, 256]⟩
abbrev S1x128 : Shape := ⟨2, ![1, 128]⟩
abbrev S2176x128 : Shape := ⟨2, ![2176, 128]⟩
abbrev S2128x128 : Shape := ⟨2, ![2128, 128]⟩
abbrev S7x2128x128 : Shape := ⟨3, ![7, 2128, 128]⟩
abbrev S1x3x128 : Shape := ⟨3, ![1, 3, 128]⟩
abbrev S3x128 : Shape := ⟨2, ![3, 128]⟩
abbrev S1x31x128 : Shape := ⟨3, ![1, 31, 128]⟩
abbrev S31x128 : Shape := ⟨2, ![31, 128]⟩
abbrev S32x128 : Shape := ⟨2, ![32, 128]⟩
abbrev S1x2048x128 : Shape := ⟨3, ![1, 2048, 128]⟩
abbrev S2048x128 : Shape := ⟨2, ![2048, 128]⟩
abbrev S1x16x128 : Shape := ⟨3, ![1, 16, 128]⟩
abbrev S16x128 : Shape := ⟨2, ![16, 128]⟩
abbrev S2120x128 : Shape := ⟨2, ![2120, 128]⟩
abbrev S1x2120x128 : Shape := ⟨3, ![1, 2120, 128]⟩
abbrev S48x128 : Shape := ⟨2, ![48, 128]⟩
abbrev S1x48x128 : Shape := ⟨3, ![1, 48, 128]⟩
abbrev S112x128 : Shape := ⟨2, ![112, 128]⟩

abbrev nBuf : Space → Nat
  | .hbm => 27
  | .vmem => 13
  | .smem => 0
  | _ => 0

abbrev bufTy : (tb : Table) → Fin (tcTables nBuf tb) → BufTy
  | .hbm, ⟨0, _⟩ => ⟨S2064x2560, .f32⟩
  | .hbm, ⟨1, _⟩ => ⟨S3x512, .f32⟩
  | .hbm, ⟨2, _⟩ => ⟨S31x512, .f32⟩
  | .hbm, ⟨3, _⟩ => ⟨S1x512, .f32⟩
  | .hbm, ⟨4, _⟩ => ⟨S2048x2560, .f32⟩
  | .hbm, ⟨5, _⟩ => ⟨S16x2560, .f32⟩
  | .hbm, ⟨6, _⟩ => ⟨S_, .f32⟩
  | .hbm, ⟨7, _⟩ => ⟨S112x2560, .f32⟩
  | .hbm, ⟨8, _⟩ => ⟨S2176x2560, .f32⟩
  | .hbm, ⟨9, _⟩ => ⟨S2176x5x512, .f32⟩
  | .hbm, ⟨10, _⟩ => ⟨S5x2176x512, .f32⟩
  | .hbm, ⟨11, _⟩ => ⟨S3x4x128, .f32⟩
  | .hbm, ⟨12, _⟩ => ⟨S4x3x128, .f32⟩
  | .hbm, ⟨13, _⟩ => ⟨S31x4x128, .f32⟩
  | .hbm, ⟨14, _⟩ => ⟨S4x31x128, .f32⟩
  | .hbm, ⟨15, _⟩ => ⟨S_, .f32⟩
  | .hbm, ⟨16, _⟩ => ⟨S4x16x128, .f32⟩
  | .hbm, ⟨17, _⟩ => ⟨S_, .f32⟩
  | .hbm, ⟨18, _⟩ => ⟨S4x5x128, .f32⟩
  | .hbm, ⟨19, _⟩ => ⟨S_, .f32⟩
  | .hbm, ⟨20, _⟩ => ⟨S4x9x128, .f32⟩
  | .hbm, ⟨21, _⟩ => ⟨S4x64x128, .f32⟩
  | .hbm, ⟨22, _⟩ => ⟨S_, .f32⟩
  | .hbm, ⟨23, _⟩ => ⟨S4x64x128, .f32⟩
  | .hbm, ⟨24, _⟩ => ⟨S4x64x256, .f32⟩
  | .hbm, ⟨25, _⟩ => ⟨S2176x512, .bf16⟩
  | .hbm, ⟨26, _⟩ => ⟨S2176x512, .f32⟩
  | .local _ .vmem, ⟨0, _⟩ => ⟨S5x2176x128, .f32⟩
  | .local _ .vmem, ⟨1, _⟩ => ⟨S5x2176x128, .f32⟩
  | .local _ .vmem, ⟨2, _⟩ => ⟨S1x64x256, .f32⟩
  | .local _ .vmem, ⟨3, _⟩ => ⟨S1x64x256, .f32⟩
  | .local _ .vmem, ⟨4, _⟩ => ⟨S1x128, .f32⟩
  | .local _ .vmem, ⟨5, _⟩ => ⟨S1x128, .f32⟩
  | .local _ .vmem, ⟨6, _⟩ => ⟨S2176x128, .bf16⟩
  | .local _ .vmem, ⟨7, _⟩ => ⟨S2176x128, .bf16⟩
  | .local _ .vmem, ⟨8, _⟩ => ⟨S2176x128, .f32⟩
  | .local _ .vmem, ⟨9, _⟩ => ⟨S2176x128, .f32⟩
  | .local _ .vmem, ⟨10, _⟩ => ⟨S2128x128, .f32⟩
  | .local _ .vmem, ⟨11, _⟩ => ⟨S2128x128, .f32⟩
  | .local _ .vmem, ⟨12, _⟩ => ⟨S7x2128x128, .f32⟩
  | _, _ => ⟨S2064x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c43_i32 : BitVec 32 := 43#32
  let v35 : BitVec 32 := Scalar.addi c0_i32 c43_i32
  let c1_i32 : BitVec 32 := 1#32
  ⟨c0_i32, v35, c1_i32⟩
def k0_mult1 (k0_t1 : Fin k0_t1_loop.trips) : BitVec 32 :=
  let c32_i32 : BitVec 32 := 32#32
  let c0_i32 : BitVec 32 := 0#32
  let c1_i32 : BitVec 32 := 1#32
  let arg9 : BitVec 32 := Scf.iv c0_i32 c1_i32 k0_t1
  let c48_i32 : BitVec 32 := 48#32
  let v121 : BitVec 32 := Scalar.muli arg9 c48_i32
  let v122 : BitVec 32 := Scalar.addi c32_i32 v121
  v122
def k0_mult2 (k0_t1 : Fin k0_t1_loop.trips) : BitVec 32 :=
  let c0_i32 : BitVec 32 := 0#32
  let c1_i32 : BitVec 32 := 1#32
  let arg9 : BitVec 32 := Scf.iv c0_i32 c1_i32 k0_t1
  let c48_i32_115 : BitVec 32 := 48#32
  let v124 : BitVec 32 := Scalar.muli arg9 c48_i32_115
  let c24_i32 : BitVec 32 := 24#32
  let v127 : BitVec 32 := Scalar.addi v124 c24_i32
  v127
def k0_off1 (k0_t1 : Fin k0_t1_loop.trips) : Fin 3 → Nat :=
  let c5_117 : Index := 5#32
  let c0_i32 : BitVec 32 := 0#32
  let c1_i32 : BitVec 32 := 1#32
  let arg9 : BitVec 32 := Scf.iv c0_i32 c1_i32 k0_t1
  let c48_i32_115 : BitVec 32 := 48#32
  let v124 : BitVec 32 := Scalar.muli arg9 c48_i32_115
  let c24_i32 : BitVec 32 := 24#32
  let v127 : BitVec 32 := Scalar.addi v124 c24_i32
  let v128 : BitVec 32 := v127
  let v129 : Index := Scalar.indexCast v128
  let c0_118 : Index := 0#32
  ![5, v129.toNat, 0]
def k0_mult3 (k0_t1 : Fin k0_t1_loop.trips) : BitVec 32 :=
  let c0_i32 : BitVec 32 := 0#32
  let c1_i32 : BitVec 32 := 1#32
  let arg9 : BitVec 32 := Scf.iv c0_i32 c1_i32 k0_t1
  let c48_i32_115 : BitVec 32 := 48#32
  let v124 : BitVec 32 := Scalar.muli arg9 c48_i32_115
  let c24_i32_119 : BitVec 32 := 24#32
  let v136 : BitVec 32 := Scalar.addi v124 c24_i32_119
  v136
def k0_off2 (k0_t1 : Fin k0_t1_loop.trips) : Fin 3 → Nat :=
  let c6_120 : Index := 6#32
  let c0_i32 : BitVec 32 := 0#32
  let c1_i32 : BitVec 32 := 1#32
  let arg9 : BitVec 32 := Scf.iv c0_i32 c1_i32 k0_t1
  let c48_i32_115 : BitVec 32 := 48#32
  let v124 : BitVec 32 := Scalar.muli arg9 c48_i32_115
  let c24_i32_119 : BitVec 32 := 24#32
  let v136 : BitVec 32 := Scalar.addi v124 c24_i32_119
  let v137 : BitVec 32 := v136
  let v138 : Index := Scalar.indexCast v137
  let c0_121 : Index := 0#32
  ![6, v138.toNat, 0]
def k0_mult4 (k0_t1 : Fin k0_t1_loop.trips) : BitVec 32 :=
  let c0_i32 : BitVec 32 := 0#32
  let c1_i32 : BitVec 32 := 1#32
  let arg9 : BitVec 32 := Scf.iv c0_i32 c1_i32 k0_t1
  let c48_i32_115 : BitVec 32 := 48#32
  let v124 : BitVec 32 := Scalar.muli arg9 c48_i32_115
  let c32_i32_122 : BitVec 32 := 32#32
  let v145 : BitVec 32 := Scalar.addi v124 c32_i32_122
  v145
def k0_off3 (k0_t1 : Fin k0_t1_loop.trips) : Fin 2 → Nat :=
  let c0_i32 : BitVec 32 := 0#32
  let c1_i32 : BitVec 32 := 1#32
  let arg9 : BitVec 32 := Scf.iv c0_i32 c1_i32 k0_t1
  let c48_i32_115 : BitVec 32 := 48#32
  let v124 : BitVec 32 := Scalar.muli arg9 c48_i32_115
  let c32_i32_122 : BitVec 32 := 32#32
  let v145 : BitVec 32 := Scalar.addi v124 c32_i32_122
  let v146 : BitVec 32 := v145
  let v147 : Index := Scalar.indexCast v146
  let c0_123 : Index := 0#32
  ![v147.toNat, 0]
def k0_off4 (k0_t1 : Fin k0_t1_loop.trips) : Fin 2 → Nat :=
  let c32_i32 : BitVec 32 := 32#32
  let c0_i32 : BitVec 32 := 0#32
  let c1_i32 : BitVec 32 := 1#32
  let arg9 : BitVec 32 := Scf.iv c0_i32 c1_i32 k0_t1
  let c48_i32 : BitVec 32 := 48#32
  let v121 : BitVec 32 := Scalar.muli arg9 c48_i32
  let v122 : BitVec 32 := Scalar.addi c32_i32 v121
  let v123 : BitVec 32 := v122
  let v152 : Index := Scalar.indexCast v123
  let c0_124 : Index := 0#32
  ![v152.toNat, 0]
@[reducible] def k0_t2_loop : Scf.Loop 32 :=
  let c0_i32_96 : BitVec 32 := 0#32
  let c43_i32_97 : BitVec 32 := 43#32
  let v108 : BitVec 32 := Scalar.addi c0_i32_96 c43_i32_97
  let c1_i32_98 : BitVec 32 := 1#32
  ⟨c0_i32_96, v108, c1_i32_98⟩
def k0_mult5 (k0_t2 : Fin k0_t2_loop.trips) : BitVec 32 :=
  let c32_i32 : BitVec 32 := 32#32
  let c0_i32_96 : BitVec 32 := 0#32
  let c1_i32_98 : BitVec 32 := 1#32
  let arg9 : BitVec 32 := Scf.iv c0_i32_96 c1_i32_98 k0_t2
  let c48_i32 : BitVec 32 := 48#32
  let v121 : BitVec 32 := Scalar.muli arg9 c48_i32
  let v122 : BitVec 32 := Scalar.addi c32_i32 v121
  v122
def k0_mult6 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c0_i32_117 : BitVec 32 := 0#32
  let v127 : BitVec 32 := Scalar.addi v124 c0_i32_117
  v127
def k0_off5 (k0_t2 : Fin k0_t2_loop.trips) (c0_i32_117 : BitVec 32) : Fin 3 → Nat :=
  let c1_118 : Index := 1#32
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let v127 : BitVec 32 := Scalar.addi v124 c0_i32_117
  let v128 : BitVec 32 := v127
  let v129 : Index := Scalar.indexCast v128
  let c0_119 : Index := 0#32
  ![1, v129.toNat, 0]
def k0_mult7 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c0_i32_120 : BitVec 32 := 0#32
  let v136 : BitVec 32 := Scalar.addi v124 c0_i32_120
  v136
def k0_off6 (k0_t2 : Fin k0_t2_loop.trips) (c0_i32_120 : BitVec 32) : Fin 3 → Nat :=
  let c2_121 : Index := 2#32
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let v136 : BitVec 32 := Scalar.addi v124 c0_i32_120
  let v137 : BitVec 32 := v136
  let v138 : Index := Scalar.indexCast v137
  let c0_122 : Index := 0#32
  ![2, v138.toNat, 0]
def k0_mult8 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c0_i32_123 : BitVec 32 := 0#32
  let v145 : BitVec 32 := Scalar.addi v124 c0_i32_123
  v145
def k0_off7 (k0_t2 : Fin k0_t2_loop.trips) (c0_i32_123 : BitVec 32) : Fin 3 → Nat :=
  let c3_124 : Index := 3#32
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let v145 : BitVec 32 := Scalar.addi v124 c0_i32_123
  let v146 : BitVec 32 := v145
  let v147 : Index := Scalar.indexCast v146
  let c0_125 : Index := 0#32
  ![3, v147.toNat, 0]
def k0_mult9 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c0_i32_126 : BitVec 32 := 0#32
  let v154 : BitVec 32 := Scalar.addi v124 c0_i32_126
  v154
def k0_off8 (k0_t2 : Fin k0_t2_loop.trips) (c0_i32_126 : BitVec 32) : Fin 3 → Nat :=
  let c4_127 : Index := 4#32
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let v154 : BitVec 32 := Scalar.addi v124 c0_i32_126
  let v155 : BitVec 32 := v154
  let v156 : Index := Scalar.indexCast v155
  let c0_128 : Index := 0#32
  ![4, v156.toNat, 0]
def k0_mult10 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c0_i32_129 : BitVec 32 := 0#32
  let v163 : BitVec 32 := Scalar.addi v124 c0_i32_129
  v163
def k0_off9 (k0_t2 : Fin k0_t2_loop.trips) (c0_i32_129 : BitVec 32) : Fin 3 → Nat :=
  let c5_130 : Index := 5#32
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let v163 : BitVec 32 := Scalar.addi v124 c0_i32_129
  let v164 : BitVec 32 := v163
  let v165 : Index := Scalar.indexCast v164
  let c0_131 : Index := 0#32
  ![5, v165.toNat, 0]
def k0_mult11 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c0_i32_132 : BitVec 32 := 0#32
  let v172 : BitVec 32 := Scalar.addi v124 c0_i32_132
  v172
def k0_off10 (k0_t2 : Fin k0_t2_loop.trips) (c0_i32_132 : BitVec 32) : Fin 3 → Nat :=
  let c6_133 : Index := 6#32
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let v172 : BitVec 32 := Scalar.addi v124 c0_i32_132
  let v173 : BitVec 32 := v172
  let v174 : Index := Scalar.indexCast v173
  let c0_134 : Index := 0#32
  ![6, v174.toNat, 0]
def k0_mult12 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c8_i32 : BitVec 32 := 8#32
  let v181 : BitVec 32 := Scalar.addi v124 c8_i32
  v181
def k0_off11 (k0_t2 : Fin k0_t2_loop.trips) (c8_i32 : BitVec 32) : Fin 2 → Nat :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let v181 : BitVec 32 := Scalar.addi v124 c8_i32
  let v182 : BitVec 32 := v181
  let v183 : Index := Scalar.indexCast v182
  let c0_135 : Index := 0#32
  ![v183.toNat, 0]
def k0_mult13 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c8_i32_136 : BitVec 32 := 8#32
  let v189 : BitVec 32 := Scalar.addi v124 c8_i32_136
  v189
def k0_off12 (k0_t2 : Fin k0_t2_loop.trips) (c8_i32_136 : BitVec 32) : Fin 3 → Nat :=
  let c0_137 : Index := 0#32
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let v189 : BitVec 32 := Scalar.addi v124 c8_i32_136
  let v190 : BitVec 32 := v189
  let v191 : Index := Scalar.indexCast v190
  let c0_138 : Index := 0#32
  ![0, v191.toNat, 0]
def k0_mult14 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c8_i32_139 : BitVec 32 := 8#32
  let v198 : BitVec 32 := Scalar.addi v124 c8_i32_139
  v198
def k0_mult15 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c8_i32_142 : BitVec 32 := 8#32
  let v207 : BitVec 32 := Scalar.addi v124 c8_i32_142
  v207
def k0_mult16 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c8_i32_145 : BitVec 32 := 8#32
  let v216 : BitVec 32 := Scalar.addi v124 c8_i32_145
  v216
def k0_mult17 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c8_i32_148 : BitVec 32 := 8#32
  let v225 : BitVec 32 := Scalar.addi v124 c8_i32_148
  v225
def k0_mult18 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c8_i32_151 : BitVec 32 := 8#32
  let v234 : BitVec 32 := Scalar.addi v124 c8_i32_151
  v234
def k0_mult19 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c8_i32_154 : BitVec 32 := 8#32
  let v243 : BitVec 32 := Scalar.addi v124 c8_i32_154
  v243
def k0_mult20 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c16_i32 : BitVec 32 := 16#32
  let v252 : BitVec 32 := Scalar.addi v124 c16_i32
  v252
def k0_mult21 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c16_i32_158 : BitVec 32 := 16#32
  let v260 : BitVec 32 := Scalar.addi v124 c16_i32_158
  v260
def k0_mult22 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c16_i32_161 : BitVec 32 := 16#32
  let v269 : BitVec 32 := Scalar.addi v124 c16_i32_161
  v269
def k0_mult23 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c16_i32_164 : BitVec 32 := 16#32
  let v278 : BitVec 32 := Scalar.addi v124 c16_i32_164
  v278
def k0_mult24 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c16_i32_167 : BitVec 32 := 16#32
  let v287 : BitVec 32 := Scalar.addi v124 c16_i32_167
  v287
def k0_mult25 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c16_i32_170 : BitVec 32 := 16#32
  let v296 : BitVec 32 := Scalar.addi v124 c16_i32_170
  v296
def k0_mult26 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c16_i32_173 : BitVec 32 := 16#32
  let v305 : BitVec 32 := Scalar.addi v124 c16_i32_173
  v305
def k0_mult27 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c16_i32_176 : BitVec 32 := 16#32
  let v314 : BitVec 32 := Scalar.addi v124 c16_i32_176
  v314
def k0_mult28 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c24_i32 : BitVec 32 := 24#32
  let v323 : BitVec 32 := Scalar.addi v124 c24_i32
  v323
def k0_mult29 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c24_i32_180 : BitVec 32 := 24#32
  let v331 : BitVec 32 := Scalar.addi v124 c24_i32_180
  v331
def k0_mult30 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c24_i32_183 : BitVec 32 := 24#32
  let v340 : BitVec 32 := Scalar.addi v124 c24_i32_183
  v340
def k0_mult31 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c24_i32_186 : BitVec 32 := 24#32
  let v349 : BitVec 32 := Scalar.addi v124 c24_i32_186
  v349
def k0_mult32 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c24_i32_189 : BitVec 32 := 24#32
  let v358 : BitVec 32 := Scalar.addi v124 c24_i32_189
  v358
def k0_mult33 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c24_i32_192 : BitVec 32 := 24#32
  let v367 : BitVec 32 := Scalar.addi v124 c24_i32_192
  v367
def k0_mult34 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c24_i32_195 : BitVec 32 := 24#32
  let v376 : BitVec 32 := Scalar.addi v124 c24_i32_195
  v376
def k0_mult35 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c24_i32_198 : BitVec 32 := 24#32
  let v385 : BitVec 32 := Scalar.addi v124 c24_i32_198
  v385
def k0_mult36 (k0_t2 : Fin k0_t2_loop.trips) : BitVec 32 :=
  let c0_i32_96 : BitVec 32 := 0#32
  let c1_i32_98 : BitVec 32 := 1#32
  let arg9 : BitVec 32 := Scf.iv c0_i32_96 c1_i32_98 k0_t2
  let c48_i32_115 : BitVec 32 := 48#32
  let v124 : BitVec 32 := Scalar.muli arg9 c48_i32_115
  let c32_i32_201 : BitVec 32 := 32#32
  let v394 : BitVec 32 := Scalar.addi v124 c32_i32_201
  v394
def k0_off13 (k0_t2 : Fin k0_t2_loop.trips) : Fin 2 → Nat :=
  let c32_i32 : BitVec 32 := 32#32
  let c0_i32_96 : BitVec 32 := 0#32
  let c1_i32_98 : BitVec 32 := 1#32
  let arg9 : BitVec 32 := Scf.iv c0_i32_96 c1_i32_98 k0_t2
  let c48_i32 : BitVec 32 := 48#32
  let v121 : BitVec 32 := Scalar.muli arg9 c48_i32
  let v122 : BitVec 32 := Scalar.addi c32_i32 v121
  let v123 : BitVec 32 := v122
  let v401 : Index := Scalar.indexCast v123
  let c0_203 : Index := 0#32
  ![v401.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5x2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S2064x2560 : Shape := ⟨2, ![2064, 2560]⟩
abbrev S3x512 : Shape := ⟨2, ![3, 512]⟩
abbrev S31x512 : Shape := ⟨2, ![31, 512]⟩
abbrev S1x512 : Shape := ⟨2, ![1, 512]⟩
abbrev S2064x512 : Shape := ⟨2, ![2064, 512]⟩
abbrev S_ : Shape := ⟨0, ![]⟩
abbrev S2x512 : Shape := ⟨2, ![2, 512]⟩
abbrev S2066x512 : Shape := ⟨2, ![2066, 512]⟩
abbrev S30x512 : Shape := ⟨2, ![30, 512]⟩
abbrev S2094x512 : Shape := ⟨2, ![2094, 512]⟩
abbrev S2048x512 : Shape := ⟨2, ![2048, 512]⟩
abbrev S16x512 : Shape := ⟨2, ![16, 512]⟩
abbrev S112x512 : Shape := ⟨2, ![112, 512]⟩
abbrev S2176x512 : Shape := ⟨2, ![2176, 512]⟩

abbrev nBuf : Space → Nat
  | .hbm => 213
  | .vmem => 0
  | .smem => 0
  | _ => 0

abbrev hbmTy0_0 (i : Nat) : BufTy := match i % 128 with
  | 0 => ⟨S2064x2560, .f32⟩
  | 1 => ⟨S3x512, .f32⟩
  | 2 => ⟨S31x512, .f32⟩
  | 3 => ⟨S1x512, .f32⟩
  | 4 => ⟨S2064x512, .f32⟩
  | 5 => ⟨S2064x512, .f32⟩
  | 6 => ⟨S2064x512, .f32⟩
  | 7 => ⟨S2064x512, .f32⟩
  | 8 => ⟨S2064x512, .f32⟩
  | 9 => ⟨S2064x512, .f32⟩
  | 10 => ⟨S_, .f32⟩
  | 11 => ⟨S2x512, .f32⟩
  | 12 => ⟨S2066x512, .f32⟩
  | 13 => ⟨S1x512, .f32⟩
  | 14 => ⟨S1x512, .f32⟩
  | 15 => ⟨S1x512, .f32⟩
  | 16 => ⟨S2064x512, .f32⟩
  | 17 => ⟨S2064x512, .f32⟩
  | 18 => ⟨S2064x512, .f32⟩
  | 19 => ⟨S_, .f32⟩
  | 20 => ⟨S2064x512, .f32⟩
  | 21 => ⟨S2064x512, .f32⟩
  | 22 => ⟨S2064x512, .f32⟩
  | 23 => ⟨S2064x512, .f32⟩
  | 24 => ⟨S2064x512, .f32⟩
  | 25 => ⟨S2064x512, .f32⟩
  | 26 => ⟨S2064x512, .f32⟩
  | 27 => ⟨S2064x512, .f32⟩
  | 28 => ⟨S2064x512, .f32⟩
  | 29 => ⟨S2064x512, .f32⟩
  | 30 => ⟨S2064x512, .f32⟩
  | 31 => ⟨S2064x512, .f32⟩
  | 32 => ⟨S2064x512, .f32⟩
  | 33 => ⟨S_, .f32⟩
  | 34 => ⟨S2064x512, .f32⟩
  | 35 => ⟨S2064x512, .f32⟩
  | 36 => ⟨S_, .f32⟩
  | 37 => ⟨S2064x512, .f32⟩
  | 38 => ⟨S2064x512, .f32⟩
  | 39 => ⟨S2064x512, .f32⟩
  | 40 => ⟨S_, .f32⟩
  | 41 => ⟨S30x512, .f32⟩
  | 42 => ⟨S2094x512, .f32⟩
  | 43 => ⟨S1x512, .f32⟩
  | 44 => ⟨S1x512, .f32⟩
  | 45 => ⟨S1x512, .f32⟩
  | 46 => ⟨S1x512, .f32⟩
  | 47 => ⟨S1x512, .f32⟩
  | 48 => ⟨S1x512, .f32⟩
  | 49 => ⟨S1x512, .f32⟩
  | 50 => ⟨S1x512, .f32⟩
  | 51 => ⟨S1x512, .f32⟩
  | 52 => ⟨S1x512, .f32⟩
  | 53 => ⟨S1x512, .f32⟩
  | 54 => ⟨S1x512, .f32⟩
  | 55 => ⟨S1x512, .f32⟩
  | 56 => ⟨S1x512, .f32⟩
  | 57 => ⟨S1x512, .f32⟩
  | 58 => ⟨S1x512, .f32⟩
  | 59 => ⟨S1x512, .f32⟩
  | 60 => ⟨S1x512, .f32⟩
  | 61 => ⟨S1x512, .f32⟩
  | 62 => ⟨S1x512, .f32⟩
  | 63 => ⟨S1x512, .f32⟩
  | 64 => ⟨S1x512, .f32⟩
  | 65 => ⟨S1x512, .f32⟩
  | 66 => ⟨S1x512, .f32⟩
  | 67 => ⟨S1x512, .f32⟩
  | 68 => ⟨S1x512, .f32⟩
  | 69 => ⟨S1x512, .f32⟩
  | 70 => ⟨S1x512, .f32⟩
  | 71 => ⟨S1x512, .f32⟩
  | 72 => ⟨S1x512, .f32⟩
  | 73 => ⟨S1x512, .f32⟩
  | 74 => ⟨S2064x512, .f32⟩
  | 75 => ⟨S2064x512, .f32⟩
  | 76 => ⟨S2064x512, .f32⟩
  | 77 => ⟨S_, .f32⟩
  | 78 => ⟨S2064x512, .f32⟩
  | 79 => ⟨S2064x512, .f32⟩
  | 80 => ⟨S2064x512, .f32⟩
  | 81 => ⟨S2064x512, .f32⟩
  | 82 => ⟨S2064x512, .f32⟩
  | 83 => ⟨S2064x512, .f32⟩
  | 84 => ⟨S2064x512, .f32⟩
  | 85 => ⟨S2064x512, .f32⟩
  | 86 => ⟨S2064x512, .f32⟩
  | 87 => ⟨S2064x512, .f32⟩
  | 88 => ⟨S2064x512, .f32⟩
  | 89 => ⟨S2064x512, .f32⟩
  | 90 => ⟨S2064x512, .f32⟩
  | 91 => ⟨S2064x512, .f32⟩
  | 92 => ⟨S2064x512, .f32⟩
  | 93 => ⟨S2064x512, .f32⟩
  | 94 => ⟨S2064x512, .f32⟩
  | 95 => ⟨S2064x512, .f32⟩
  | 96 => ⟨S2064x512, .f32⟩
  | 97 => ⟨S2064x512, .f32⟩
  | 98 => ⟨S2064x512, .f32⟩
  | 99 => ⟨S2064x512, .f32⟩
  | 100 => ⟨S2064x512, .f32⟩
  | 101 => ⟨S2064x512, .f32⟩
  | 102 => ⟨S2064x512, .f32⟩
  | 103 => ⟨S2064x512, .f32⟩
  | 104 => ⟨S2064x512, .f32⟩
  | 105 => ⟨S2064x512, .f32⟩
  | 106 => ⟨S2064x512, .f32⟩
  | 107 => ⟨S2064x512, .f32⟩
  | 108 => ⟨S2064x512, .f32⟩
  | 109 => ⟨S2064x512, .f32⟩
  | 110 => ⟨S2064x512, .f32⟩
  | 111 => ⟨S2064x512, .f32⟩
  | 112 => ⟨S2064x512, .f32⟩
  | 113 => ⟨S2064x512, .f32⟩
  | 114 => ⟨S2064x512, .f32⟩
  | 115 => ⟨S2064x512, .f32⟩
  | 116 => ⟨S2064x512, .f32⟩
  | 117 => ⟨S2064x512, .f32⟩
  | 118 => ⟨S2064x512, .f32⟩
  | 119 => ⟨S2064x512, .f32⟩
  | 120 => ⟨S2064x512, .f32⟩
  | 121 => ⟨S2064x512, .f32⟩
  | 122 => ⟨S2064x512, .f32⟩
  | 123 => ⟨S2064x512, .f32⟩
  | 124 => ⟨S2064x512, .f32⟩
  | 125 => ⟨S2064x512, .f32⟩
  | 126 => ⟨S2064x512, .f32⟩
  | 127 => ⟨S2064x512, .f32⟩
  | _ => ⟨S2064x2560, .f32⟩

abbrev hbmTy0_1 (i : Nat) : BufTy := match i % 128 with
  | 0 => ⟨S2064x512, .f32⟩
  | 1 => ⟨S2064x512, .f32⟩
  | 2 => ⟨S2064x512, .f32⟩
  | 3 => ⟨S2064x512, .f32⟩
  | 4 => ⟨S2064x512, .f32⟩
  | 5 => ⟨S2064x512, .f32⟩
  | 6 => ⟨S2064x512, .f32⟩
  | 7 => ⟨S2064x512, .f32⟩
  | 8 => ⟨S2064x512, .f32⟩
  | 9 => ⟨S2064x512, .f32⟩
  | 10 => ⟨S2064x512, .f32⟩
  | 11 => ⟨S2064x512, .f32⟩
  | 12 => ⟨S2064x512, .f32⟩
  | 13 => ⟨S2064x512, .f32⟩
  | 14 => ⟨S2064x512, .f32⟩
  | 15 => ⟨S2064x512, .f32⟩
  | 16 => ⟨S2064x512, .f32⟩
  | 17 => ⟨S2064x512, .f32⟩
  | 18 => ⟨S2064x512, .f32⟩
  | 19 => ⟨S2064x512, .f32⟩
  | 20 => ⟨S2064x512, .f32⟩
  | 21 => ⟨S2064x512, .f32⟩
  | 22 => ⟨S2064x512, .f32⟩
  | 23 => ⟨S2064x512, .f32⟩
  | 24 => ⟨S2064x512, .f32⟩
  | 25 => ⟨S2064x512, .f32⟩
  | 26 => ⟨S2064x512, .f32⟩
  | 27 => ⟨S2064x512, .f32⟩
  | 28 => ⟨S2064x512, .f32⟩
  | 29 => ⟨S2064x512, .f32⟩
  | 30 => ⟨S2064x512, .f32⟩
  | 31 => ⟨S2064x512, .f32⟩
  | 32 => ⟨S2064x512, .f32⟩
  | 33 => ⟨S2064x512, .f32⟩
  | 34 => ⟨S2064x512, .f32⟩
  | 35 => ⟨S2064x512, .f32⟩
  | 36 => ⟨S2064x512, .f32⟩
  | 37 => ⟨S2064x512, .f32⟩
  | 38 => ⟨S2064x512, .f32⟩
  | 39 => ⟨S2064x512, .f32⟩
  | 40 => ⟨S2064x512, .f32⟩
  | 41 => ⟨S2064x512, .f32⟩
  | 42 => ⟨S2064x512, .f32⟩
  | 43 => ⟨S2064x512, .f32⟩
  | 44 => ⟨S2064x512, .f32⟩
  | 45 => ⟨S2064x512, .f32⟩
  | 46 => ⟨S2064x512, .f32⟩
  | 47 => ⟨S2064x512, .f32⟩
  | 48 => ⟨S2064x512, .f32⟩
  | 49 => ⟨S2064x512, .f32⟩
  | 50 => ⟨S2064x512, .f32⟩
  | 51 => ⟨S2064x512, .f32⟩
  | 52 => ⟨S2064x512, .f32⟩
  | 53 => ⟨S2064x512, .f32⟩
  | 54 => ⟨S2064x512, .f32⟩
  | 55 => ⟨S2064x512, .f32⟩
  | 56 => ⟨S2064x512, .f32⟩
  | 57 => ⟨S2064x512, .f32⟩
  | 58 => ⟨S2064x512, .f32⟩
  | 59 => ⟨S2064x512, .f32⟩
  | 60 => ⟨S2064x512, .f32⟩
  | 61 => ⟨S2064x512, .f32⟩
  | 62 => ⟨S2064x512, .f32⟩
  | 63 => ⟨S2064x512, .f32⟩
  | 64 => ⟨S2064x512, .f32⟩
  | 65 => ⟨S2064x512, .f32⟩
  | 66 => ⟨S2064x512, .f32⟩
  | 67 => ⟨S2064x512, .f32⟩
  | 68 => ⟨S2064x512, .f32⟩
  | 69 => ⟨S2064x512, .f32⟩
  | 70 => ⟨S2064x512, .f32⟩
  | 71 => ⟨S2064x512, .f32⟩
  | 72 => ⟨S2064x512, .f32⟩
  | 73 => ⟨S2064x512, .f32⟩
  | 74 => ⟨S2048x512, .f32⟩
  | 75 => ⟨S16x512, .f32⟩
  | 76 => ⟨S_, .f32⟩
  | 77 => ⟨S112x512, .f32⟩
  | 78 => ⟨S2176x512, .f32⟩
  | 79 => ⟨S2176x512, .bf16⟩
  | 80 => ⟨S2048x512, .f32⟩
  | 81 => ⟨S16x512, .f32⟩
  | 82 => ⟨S_, .f32⟩
  | 83 => ⟨S112x512, .f32⟩
  | 84 => ⟨S2176x512, .f32⟩
  | _ => ⟨S2064x2560, .f32⟩

abbrev hbmTy (i : Nat) : BufTy := match i / 128 with
  | 0 => hbmTy0_0 i
  | 1 => hbmTy0_1 i
  | _ => ⟨S2064x2560, .f32⟩

abbrev bufTy : (tb : Table) → Fin (tcTables nBuf tb) → BufTy
  | .hbm, ⟨i, _⟩ => hbmTy i
  | _, _ => ⟨S2064x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_cst_4 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_cst_5 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_cst_6 : Ref sig .tc := ⟨.hbm, 210, rfl⟩
abbrev main_v199 : Ref sig .tc := ⟨.hbm, 211, rfl⟩
abbrev main_v200 : Ref sig .tc := ⟨.hbm, 212, rfl⟩

abbrev nD : Nat := 1
abbrev τ : Topo := Topo.v7x

variable {F : FTy → Type} [FloatOps F]
-- ==== Proof.Reals.lean ====
/- Real-number facts the backward calls share: reading the programs' float words, sums and quotients of finite values
   as reals, the padded order of the rows, and the two norms with the derivative each has. -/
module
public import Idealize.ShloMosaic.Lib.Pointwise

@[expose] public section
noncomputable section
namespace Cert.Step
open Idealize.ShloMosaic

/-! ## Words and finite values -/

theorem word_512 : Ideal.ofBits FTy.f32 1140850688#32 = ((512 : ℝ) : EReal) := by
  simp [Ideal.ofBits, Ideal.ieee, -EReal.coe_mul]; norm_num
theorem word_lnEps : Ideal.ofBits FTy.f32 925353388#32 = ((10995116 / 2 ^ 40 : ℝ) : EReal) := by
  simp [Ideal.ofBits, Ideal.ieee, -EReal.coe_mul]; norm_num
theorem word_2 : Ideal.ofBits FTy.f32 1073741824#32 = ((2 : ℝ) : EReal) := by
  simp [Ideal.ofBits, Ideal.ieee, -EReal.coe_mul]; norm_num
theorem word_neg_half : Ideal.ofBits FTy.f32 3204448256#32 = ((-(1 / 2) : ℝ) : EReal) := by
  simp [Ideal.ofBits, Ideal.ieee, -EReal.coe_mul]; norm_num

theorem sum_coe {ι : Type*} [Fintype ι] (f : ι → ℝ) : ∑ i, (f i : EReal) = ((∑ i, f i : ℝ) : EReal) := by
  classical
  induction (Finset.univ : Finset ι) using Finset.induction_on with
  | empty => simp
  | insert a s ha ih => rw [Finset.sum_insert ha, Finset.sum_insert ha, ih, EReal.coe_add]

theorem div_real (x : ℝ) {y : ℝ} (hy : y ≠ 0) : Ideal.div (x : EReal) (y : EReal) = ((x / y : ℝ) : EReal) := by
  rw [Ideal.div_coe hy, ← EReal.coe_mul, mul_one_div]

theorem rsqrt_pos {s : ℝ} (h : 0 < s) : Ideal.rsqrt (s : EReal) = (((Real.sqrt s)⁻¹ : ℝ) : EReal) := by
  rw [Ideal.rsqrt_coe, if_neg (not_lt.2 h.le), if_neg h.ne']

/-- A finite extended real is a real. -/
theorem exists_real {v : EReal} (h : max v (-v) < ⊤) : ∃ r : ℝ, v = r := by
  induction v with
  | bot => simp at h
  | top => simp at h
  | coe r => exact ⟨r, rfl⟩

/-- An array every entry of which compares below infinity in absolute value holds reals. -/
theorem exists_real_of_lt {s : Shape} (x : FVec Ideal s .f32) (hb : (⟨0, ![]⟩ : Shape).BroadcastsInDim s (![] : Fin 0 → Fin s.rank))
    (h : cmpf .olt (Host.absf x) (broadcastInDim s ![] hb (constant (F := Ideal) ⟨0, ![]⟩ .f32 0x7F800000#32)) = fun _ => 1#1) (i : s.Idx) :
    ∃ r : ℝ, x i = r := by
  have hi := congrFun h i
  have ht : Ideal.ofBits FTy.f32 0x7F800000#32 = ⊤ := by simp [Ideal.ofBits, Ideal.ieee]
  refine exists_real ?_
  by_contra hn
  have : BitVec.ofBool (decide (max (x i) (-(x i)) < Ideal.ofBits FTy.f32 0x7F800000#32)) = 1#1 := hi
  rw [ht, decide_eq_false hn] at this
  exact absurd this (by decide)

/-! ## The padded order of the rows -/

/-- Row `P` of the padded order: the tokens, then the sixteen meta rows, then zeros. -/
def padRow {α : Type*} [Zero α] (f : Fin 2064 → α) (P : ℕ) : α :=
  if h : P < 2048 then f ⟨16 + P, by omega⟩ else if h : P - 2048 < 16 then f ⟨P - 2048, by omega⟩ else 0

/-- A function that keeps zero moves through the padded order. -/
theorem padRow_map {α β : Type*} [Zero α] [Zero β] (f : Fin 2064 → α) (P : ℕ) (q : α → β) (hq : q 0 = 0) :
    q (padRow f P) = padRow (fun r => q (f r)) P := by
  unfold padRow; split_ifs <;> first | rfl | exact hq

/-- A padded row is a row or a row of zeros. -/
theorem padRow_cases (P : ℕ) : (∃ r, ∀ {α : Type} [Zero α] (f : Fin 2064 → α), padRow f P = f r)
    ∨ ∀ {α : Type} [Zero α] (f : Fin 2064 → α), padRow f P = 0 := by
  unfold padRow; split_ifs
  · exact .inl ⟨_, fun _ => rfl⟩
  · exact .inl ⟨_, fun _ => rfl⟩
  · exact .inr fun _ => rfl

theorem sum_moved {α : Type*} [AddCommMonoid α] (A B C : ℕ) (f : Fin (B + A) → α) :
    ∑ P : Fin (A + (B + C)), (if h : P.val < A then f ⟨B + P.val, by omega⟩
      else if h : P.val - A < B then f ⟨P.val - A, by omega⟩ else 0) = ∑ r, f r := by
  rw [Fin.sum_univ_add, Fin.sum_univ_add, Fin.sum_univ_add, add_comm (∑ i : Fin B, f _)]
  have h0 : ∀ i : Fin C, ¬ (A + (B + i.val) - A < B) := fun i => by omega
  simp [h0]
  rfl

/-- The padded rows add up to the rows. -/
theorem sum_padRow {α : Type*} [AddCommMonoid α] (f : Fin 2064 → α) : ∑ P : Fin 2176, padRow f P = ∑ r, f r :=
  sum_moved 2048 16 112 f

/-- Blocks of `k` values, one after the other, add up to all of them. -/
theorem sum_blocks {α : Type*} [AddCommMonoid α] (n k : ℕ) (F : ℕ → α) : ∑ t : Fin n, ∑ p : Fin k, F (k * t.val + p.val) = ∑ P : Fin (n * k), F P.val := by
  rw [Fin.sum_univ_eq_sum_range (fun P => F P)]
  induction n with
  | zero => simp
  | succ n ih => rw [Fin.sum_univ_castSucc, add_mul, one_mul, Finset.sum_range_add, ← ih,
      ← Fin.sum_univ_eq_sum_range (fun p => F (n * k + p)), mul_comm n k]; rfl

/-- The same with every block in two halves. -/
theorem sum_halves {α : Type*} [AddCommMonoid α] (n k : ℕ) (F : ℕ → α) : ∑ t : Fin n, ((∑ p : Fin k, F (2 * k * t.val + p.val)) + ∑ p : Fin k, F (2 * k * t.val + k + p.val))
    = ∑ P : Fin (n * (2 * k)), F P.val := by
  rw [← sum_blocks n (2 * k)]
  refine Finset.sum_congr rfl fun t _ => ?_
  rw [← sum_blocks 2 k (fun P => F (2 * k * t.val + P)), Fin.sum_univ_two]
  simp [add_assoc]

/-! ## The gate of the mixer's second group -/

/-- The logistic function at an extended real, as the programs compute it. -/
def sig (l : EReal) : EReal := Ideal.div 1 (1 + Ideal.exp (-l))

/-- The derivative of `l · sig l` at an extended real: one at infinity, zero at minus infinity. -/
def dsilu (l : EReal) : ℝ := (sig l * (1 + l * (1 - sig l))).toReal

theorem sig_coe (l : ℝ) : sig l = ((1 / (1 + Real.exp (-l)) : ℝ) : EReal) := by
  unfold sig
  rw [← EReal.coe_neg, Ideal.exp_coe, ← EReal.coe_one, ← EReal.coe_add, div_real _ (by positivity)]
theorem sig_top : sig ⊤ = 1 := by
  simp [sig, Ideal.exp_bot, Ideal.div]
theorem sig_bot : sig ⊥ = 0 := by
  have : (1 : EReal) + ⊤ = ⊤ := EReal.add_top_of_ne_bot (by decide)
  simp [sig, Ideal.exp_top, Ideal.div, this]
theorem one_sub_one : (1 : EReal) - 1 = 0 := by
  rw [← EReal.coe_one, ← EReal.coe_sub, sub_self, EReal.coe_zero]

theorem dsilu_factored (y : ℝ) (l : EReal) : (y : EReal) * (sig l * (1 + l * (1 - sig l))) = ((y * dsilu l : ℝ) : EReal) := by
  rw [EReal.coe_mul]; congr 1
  induction l with
  | bot => simp [dsilu, sig_bot]
  | top => simp [dsilu, sig_top, one_sub_one]
  | coe l => unfold dsilu; rw [sig_coe]; norm_cast

theorem dsilu_expanded (y : ℝ) (l : EReal) : (y : EReal) * sig l + l * y * (sig l * (1 - sig l)) = ((y * dsilu l : ℝ) : EReal) := by
  rw [← dsilu_factored]
  induction l with
  | bot => simp [sig_bot]
  | top => simp [sig_top, one_sub_one]
  | coe l => rw [sig_coe]; norm_cast; ring

theorem dsilu_summed (y : ℝ) (l : EReal) : (y : EReal) * (sig l + l * sig l * (1 - sig l)) = ((y * dsilu l : ℝ) : EReal) := by
  rw [← dsilu_factored]
  induction l with
  | bot => simp [sig_bot]
  | top => simp [sig_top, one_sub_one]
  | coe l => rw [sig_coe]; norm_cast; ring

/-! ## The layer norm -/

variable {n : ℕ} (ε : ℝ) (v u : Fin n → ℝ)

/-- The mean of a row. -/
def mean : ℝ := (∑ i, v i) / n
/-- A row less its mean. -/
def cen (j : Fin n) : ℝ := v j - mean v
/-- The variance of a row and the layer norm's constant. -/
def spread : ℝ := mean (fun i => cen v i * cen v i) + ε
/-- One over the root of the spread. -/
def inv : ℝ := (Real.sqrt (spread ε v))⁻¹
/-- The normalised row. -/
def hat (j : Fin n) : ℝ := cen v j * inv ε v
/-- What the normalised row's cotangent `u` becomes at the row. -/
def normBack (j : Fin n) : ℝ := inv ε v * (u j - mean u - hat ε v j * mean (fun i => u i * hat ε v i))

theorem spread_pos (hε : 0 < ε) : 0 < spread ε v :=
  add_pos_of_nonneg_of_pos (div_nonneg (Finset.sum_nonneg fun i _ => mul_self_nonneg _) (Nat.cast_nonneg n)) hε

theorem sum_cen (hn : n ≠ 0) : ∑ i, cen v i = 0 := by
  have : (n : ℝ) ≠ 0 := Nat.cast_ne_zero.2 hn
  simp only [cen, mean, Finset.sum_sub_distrib, Finset.sum_const, Finset.card_univ, Fintype.card_fin, nsmul_eq_mul]
  field_simp
  ring

/-- The derivative of the norm as the chain rule writes it: through the root, the square and both means. -/
theorem normBack_chain (hn : n ≠ 0) (hε : 0 < ε) (j : Fin n) :
    u j * inv ε v + (∑ i, cen v i * u i) * (-(1 / 2) * (inv ε v / spread ε v)) / n * (2 * cen v j)
      + ((∑ i, -(u i * inv ε v)) + ∑ i, -((∑ k, cen v k * u k) * (-(1 / 2) * (inv ε v / spread ε v)) / n * (2 * cen v i))) / n
    = normBack ε v u j := by
  have hn' : (n : ℝ) ≠ 0 := Nat.cast_ne_zero.2 hn
  have hs := spread_pos ε v hε
  have hr : inv ε v * inv ε v = 1 / spread ε v := by
    unfold inv; rw [← mul_inv, Real.mul_self_sqrt hs.le, one_div]
  have h1 : ∑ i, -(u i * inv ε v) = -((∑ i, u i) * inv ε v) := by rw [Finset.sum_neg_distrib, Finset.sum_mul]
  have h2 (a : ℝ) : ∑ i, -(a * (2 * cen v i)) = 0 := by
    rw [Finset.sum_neg_distrib, ← Finset.mul_sum, ← Finset.mul_sum, sum_cen v hn]; simp
  have h3 : ∑ i, u i * hat ε v i = (∑ i, cen v i * u i) * inv ε v := by
    rw [Finset.sum_mul]; exact Finset.sum_congr rfl fun i _ => by unfold hat; ring
  rw [h1, h2]
  unfold normBack
  rw [mean, mean, h3, hat]
  generalize (∑ i, cen v i * u i) = S, cen v j = c, (∑ i, u i) = U, spread ε v = s at *
  have e : inv ε v / s = inv ε v * (inv ε v * inv ε v) := by rw [hr]; ring
  rw [e]
  field_simp
  ring

theorem hat_zero (j : Fin n) : hat ε (fun _ : Fin n => 0) j = 0 := by simp [hat, cen, mean]
theorem normBack_zero (j : Fin n) : normBack ε v (fun _ : Fin n => 0) j = 0 := by simp [normBack, mean]

end Cert.Step
-- ==== Proof.MixOutReference.lean ====
/- The mixer's last lines over the reals: what the derivative of the layer norm's silu and the output projection is at
   finite arguments, and that the reference computes it. -/
module
public import proofs.«01_k».proof.Proof.Gen.ReferenceIdeal.Read
public import proofs.«01_k».proof.Proof.Reals

@[expose] public section
set_option maxRecDepth 16384
noncomputable section
namespace Cert.Step
open Idealize.ShloMosaic

/-- The call's arguments at finite values; the layer norm's bias may be infinite. -/
structure MixOut where
  z : Fin 2064 → Fin 512 → ℝ
  g : Fin 512 → ℝ
  b : Fin 512 → EReal
  w : Fin 1024 → Fin 1024 → ℝ
  ct : Fin 2064 → Fin 1024 → ℝ

/-- The layer norm's constant, the real its float word is. -/
def lnEps : ℝ := 10995116 / 2 ^ 40
theorem lnEps_pos : 0 < lnEps := by norm_num [lnEps]

namespace MixOut
variable (D : MixOut)

/-- The cotangent through row `e` of the output projection. -/
def dy (e : Fin 1024) (r : Fin 2064) : ℝ := ∑ k, D.ct r k * D.w e k
/-- The first group's column of the projection. -/
def fst (j : Fin 512) : Fin 1024 := ⟨j.val, by omega⟩
/-- The second group's column of the projection. -/
def snd (j : Fin 512) : Fin 1024 := ⟨512 + j.val, by omega⟩
/-- The cotangent of the layer norm's output. -/
def dl (r : Fin 2064) (j : Fin 512) : ℝ :=
  D.dy (snd j) r * dsilu (((hat lnEps (D.z r) j * D.g j : ℝ) : EReal) + D.b j)
/-- The cotangent of the layer norm's input. -/
def dz (r : Fin 2064) (j : Fin 512) : ℝ := normBack lnEps (D.z r) (fun i => D.dl r i * D.g i) j

/-! ### The same in the padded order -/

theorem dy_pad (e : Fin 1024) (P : ℕ) : ∑ k, padRow (fun r => D.ct r k) P * D.w e k = padRow (fun r => D.dy e r) P := by
  rcases padRow_cases P with ⟨r, h⟩ | h <;> simp only [h, dy, zero_mul, Finset.sum_const_zero]
theorem dl_pad (j : Fin 512) (P : ℕ) : padRow (fun r => D.dy (snd j) r) P
    * dsilu (((hat lnEps (fun i => padRow (fun r => D.z r i) P) j * D.g j : ℝ) : EReal) + D.b j) = padRow (fun r => D.dl r j) P := by
  rcases padRow_cases P with ⟨r, h⟩ | h <;> simp only [h, dl, zero_mul]
theorem dz_pad (j : Fin 512) (P : ℕ) : normBack lnEps (fun i => padRow (fun r => D.z r i) P)
    (fun i => padRow (fun r => D.dl r i) P * D.g i) j = padRow (fun r => D.dz r j) P := by
  rcases padRow_cases P with ⟨r, h⟩ | h <;> simp only [h, dz, zero_mul, normBack_zero]
theorem dg_pad (j : Fin 512) (P : ℕ) : padRow (fun r => D.dl r j) P * hat lnEps (fun i => padRow (fun r => D.z r i) P) j
    = padRow (fun r => D.dl r j * hat lnEps (D.z r) j) P := by
  rcases padRow_cases P with ⟨r, h⟩ | h <;> simp only [h, zero_mul]

end MixOut
end Cert.Step

namespace Cert.ReferenceIdeal.MixOut
open Idealize.ShloMosaic Idealize.ShloMosaic.TcCoe Cert.Step
open Cert.ReferenceIdeal Cert.ReferenceIdeal.Read

/-- The reference's argument arrays hold the data. -/
structure Holds (D : MixOut) (x0 : Vec Ideal S2064x512 .f32) (x1 x2 : Vec Ideal S1x512 .f32)
    (x3 : Vec Ideal S1024x1024 .f32) (x4 : Vec Ideal S2064x1024 .f32) : Prop where
  z : ∀ r j, x0 (ix2 r j) = D.z r j
  g : ∀ j, x1 (ix2 0 j) = D.g j
  b : ∀ j, x2 (ix2 0 j) = D.b j
  w : ∀ e k, x3 (ix2 e k) = D.w e k
  ct : ∀ r k, x4 (ix2 r k) = D.ct r k

variable {D : MixOut} {x0 : Vec Ideal S2064x512 .f32} {x1 x2 : Vec Ideal S1x512 .f32}
  {x3 : Vec Ideal S1024x1024 .f32} {x4 : Vec Ideal S2064x1024 .f32} (H : Holds D x0 x1 x2 x3 x4)
  (r : Fin 2064) (j : Fin 512)
include H

theorem at_mean : val_main_v6 (F := Ideal) x0 (ix2 r (0 : Fin 1)) = (mean (D.z r) : EReal) := by
  pointwise [val_main_v6, val_main_v5, val_main_v4, val_main_v3, val_main_cst_1, val_main_cst_0]
  simp only [H.z, word_512, sum_coe, div_real _ (by norm_num : (512 : ℝ) ≠ 0)]
  simp [mean]

theorem at_cen : val_main_v8 (F := Ideal) x0 (ix2 r j) = (cen (D.z r) j : EReal) := by
  pointwise [val_main_v8, val_main_v7]
  rw [at_mean H, H.z, ← EReal.coe_sub]; rfl

theorem at_cen' : val_main_v17 (F := Ideal) x0 (ix2 r j) = (cen (D.z r) j : EReal) := by
  rw [← at_cen H]; rfl

theorem at_spread : val_main_v19 (F := Ideal) x0 (ix2 r (0 : Fin 1)) = (spread lnEps (D.z r) : EReal) := by
  pointwise [val_main_v19, val_main_v18, val_main_v15, val_main_v13, val_main_v12, val_main_v14, val_main_v9, val_main_cst_3,
    val_main_cst_4, val_main_cst_5]
  simp only [at_cen H, word_512, word_lnEps, ← EReal.coe_mul, sum_coe, div_real _ (by norm_num : (512 : ℝ) ≠ 0), ← EReal.coe_add]
  simp [spread, mean, lnEps]

theorem at_inv : val_main_v20 (F := Ideal) x0 (ix2 r (0 : Fin 1)) = (inv lnEps (D.z r) : EReal) := by
  pointwise [val_main_v20]
  rw [at_spread H, rsqrt_pos (spread_pos _ _ lnEps_pos)]; rfl

theorem at_hat : val_main_v25 (F := Ideal) x0 (ix2 r j) = (hat lnEps (D.z r) j : EReal) := by
  pointwise [val_main_v25, val_main_v24]
  rw [at_cen' H, at_inv H, ← EReal.coe_mul]; rfl

theorem at_line : val_main_v31 (F := Ideal) x0 x1 x2 (ix2 r j) = ((hat lnEps (D.z r) j * D.g j : ℝ) : EReal) + D.b j := by
  pointwise [val_main_v31, val_main_v30, val_main_v29, val_main_v2, val_main_v28, val_main_v27, val_main_v26, val_main_v1]
  rw [at_hat H, H.g, H.b, ← EReal.coe_mul]

theorem at_sig : val_main_v32_2 (F := Ideal) x0 x1 x2 (ix2 r j) = Step.sig (val_main_v31 (F := Ideal) x0 x1 x2 (ix2 r j)) := by
  pointwise [val_main_v32_2, val_main_call0_v4, val_main_call0_v3, val_main_call0_v2, val_main_call0_v1, val_main_call0_v0,
    val_main_call0_cst, val_main_call0_cst_0]
  simp [Step.sig]

theorem at_fst : val_main_v36 (F := Ideal) x3 x4 (ix2 r j) = (D.dy (MixOut.fst j) r : EReal) := by
  pointwise [val_main_v36, val_main_v35]
  simp only [H.w, H.ct, ← EReal.coe_mul, sum_coe]; rfl

theorem at_snd : val_main_v37 (F := Ideal) x3 x4 (ix2 r j) = (D.dy (MixOut.snd j) r : EReal) := by
  pointwise [val_main_v37, val_main_v35]
  simp only [H.w, H.ct, ← EReal.coe_mul, sum_coe]; rfl

theorem at_dl : val_main_v38 (F := Ideal) x0 x1 x2 x3 x4 (ix2 r j) = (D.dl r j : EReal) := by
  pointwise [val_main_v38, val_main_call1_v2, val_main_call1_v1, val_main_call1_v0, val_main_v32_1, val_main_call0_v7,
    val_main_call0_v6, val_main_call0_cst_1]
  rw [at_snd H, at_sig H, at_line H, dsilu_expanded]; rfl

theorem at_db : val_main_v72 (F := Ideal) x0 x1 x2 x3 x4 (ix2 (0 : Fin 1) j) = ((∑ r, D.dl r j : ℝ) : EReal) := by
  pointwise [val_main_v72, val_main_v41, val_main_v40, val_main_v39, val_main_cst_7, val_main_cst_8]
  simp only [at_dl H, sum_coe, Fintype.sum_unique]

theorem at_dg : val_main_v73 (F := Ideal) x0 x1 x2 x3 x4 (ix2 (0 : Fin 1) j)
    = ((∑ r, D.dl r j * hat lnEps (D.z r) j : ℝ) : EReal) := by
  pointwise [val_main_v73, val_main_v47, val_main_v44, val_main_v43, val_main_v42, val_main_cst_9, val_main_cst_10]
  simp only [at_dl H, at_hat H, ← EReal.coe_mul, sum_coe, Fintype.sum_unique, mul_comm]

theorem at_dhat : val_main_v46 (F := Ideal) x0 x1 x2 x3 x4 (ix2 r j) = ((D.dl r j * D.g j : ℝ) : EReal) := by
  pointwise [val_main_v46, val_main_v45, val_main_v26, val_main_v1]
  rw [at_dl H, H.g, ← EReal.coe_mul]

theorem at_factor : val_main_v58 (F := Ideal) x0 x1 x2 x3 x4 (ix2 r (0 : Fin 1))
    = (((∑ i, cen (D.z r) i * (D.dl r i * D.g i)) * (-(1 / 2) * (inv lnEps (D.z r) / spread lnEps (D.z r))) / 512 : ℝ) : EReal) := by
  pointwise [val_main_v58, val_main_v57, val_main_v53, val_main_v50, val_main_v49, val_main_v48, val_main_v23, val_main_v22,
    val_main_v21, val_main_cst_6, val_main_cst_11, val_main_cst_13]
  simp only [at_cen' H, at_dhat H, at_inv H, at_spread H, word_512, word_neg_half,
    div_real _ (spread_pos _ (D.z r) lnEps_pos).ne', div_real _ (by norm_num : (512 : ℝ) ≠ 0), ← EReal.coe_mul, sum_coe]

theorem at_root : val_main_v52 (F := Ideal) x0 x1 x2 x3 x4 (ix2 r j) = ((D.dl r j * D.g j * inv lnEps (D.z r) : ℝ) : EReal) := by
  pointwise [val_main_v52, val_main_v51]
  rw [at_dhat H, at_inv H, ← EReal.coe_mul]

theorem at_square : val_main_v61 (F := Ideal) x0 x1 x2 x3 x4 (ix2 r j)
    = (((∑ i, cen (D.z r) i * (D.dl r i * D.g i)) * (-(1 / 2) * (inv lnEps (D.z r) / spread lnEps (D.z r))) / 512
        * (2 * cen (D.z r) j) : ℝ) : EReal) := by
  pointwise [val_main_v61, val_main_v60, val_main_v59, val_main_v11, val_main_v10, val_main_cst_2, val_main_cst_14]
  rw [Fintype.sum_unique, Fin.default_eq_zero, at_factor H, at_cen H, word_2, ← EReal.coe_mul, ← EReal.coe_mul]

theorem at_dz : val_main_v71 (F := Ideal) x0 x1 x2 x3 x4 (ix2 r j) = (D.dz r j : EReal) := by
  pointwise [val_main_v71, val_main_v70, val_main_v69, val_main_v68, val_main_v67, val_main_v66, val_main_v65, val_main_v64,
    val_main_v63, val_main_v62, val_main_v56, val_main_v55, val_main_v54, val_main_cst_12, val_main_cst_15, val_main_cst_16,
    val_main_cst_17]
  simp only [at_root H, at_square H, word_512, ← EReal.coe_neg, sum_coe, ← EReal.coe_add, div_real _ (by norm_num : (512 : ℝ) ≠ 0),
    Fintype.sum_unique]
  have := normBack_chain lnEps (D.z r) (fun i => D.dl r i * D.g i) (by norm_num : (512 : ℕ) ≠ 0) lnEps_pos j
  push_cast at this
  rw [this]; rfl

variable (P : Fin 2176)

theorem out_dya : val_main_v77 (F := Ideal) x3 x4 (ix2 P j) = ((padRow (fun r => D.dy (MixOut.fst j) r) P : ℝ) : EReal) := by
  pointwise [val_main_v77, val_main_v76, val_main_v75, val_main_v74, val_main_cst_18]
  simp only [at_fst H]
  exact (padRow_map (fun r => D.dy (MixOut.fst j) r) P.val (fun x : ℝ => (x : EReal)) rfl).symm

theorem out_dz : val_main_v80 (F := Ideal) x0 x1 x2 x3 x4 (ix2 P j) = ((padRow (fun r => D.dz r j) P : ℝ) : EReal) := by
  pointwise [val_main_v80, val_main_v79, val_main_v78, val_main_v74, val_main_cst_18]
  simp only [at_dz H]
  exact (padRow_map (fun r => D.dz r j) P.val (fun x : ℝ => (x : EReal)) rfl).symm

end Cert.ReferenceIdeal.MixOut
-- ==== Proof.MixOutKernel.lean ====
/- The mixer's last lines in the kernel: what its blocks hold, what one half of a block computes, and the four output
   arrays after the run, over the reals. -/
module
public import proofs.«01_k».proof.Proof.Gen.KernelIdeal.Value
public import proofs.«01_k».proof.Proof.MixOutReference
public import Idealize.ShloMosaic.Lib.Pipeline.ValueKit
public import Idealize.ShloMosaic.Lib.Claim

@[expose] public section
set_option maxRecDepth 16384
noncomputable section
namespace Cert.KernelIdeal.MixOut
open Idealize.ShloMosaic Idealize.ShloMosaic.TcCoe Idealize.SL.Sem
open Idealize.ShloMosaic.Pipeline (Dat)
open Cert.Step Cert.KernelIdeal Cert.KernelIdeal.Gen

variable (m : (ℓ : Loc nD τ sig) → Buf (Elt Ideal) ℓ) (c : Dev nD)

/-- Rows of 512 in the padded order, as the host lays them out. -/
def rows512 (x : Vec Ideal S2064x512 .f32) : Vec Ideal S2176x512 .f32 :=
  concatenate S2176x512 0 [⟨S2048x512, extractStridedSlice S2048x512 ![16, 0] x slices_S2064x512_S2048x512_16_0⟩,
    ⟨S16x512, extractStridedSlice S16x512 ![0, 0] x slices_S2064x512_S16x512_0_0⟩,
    ⟨S112x512, broadcastInDim S112x512 ![] bcast_S_S112x512 (constant (F := Ideal) S_ .f32 0#32)⟩] concatenates_S2048x512_S16x512_S112x512_S2176x512_d0

/-- Rows of 1024 in the padded order, narrowed, as the host lays them out. -/
def rows1024 (x : Vec Ideal S2064x1024 .f32) : Vec Ideal S2176x1024 .bf16 :=
  truncf (F := Ideal) .bf16 (concatenate S2176x1024 0 [⟨S2048x1024, extractStridedSlice S2048x1024 ![16, 0] x slices_S2064x1024_S2048x1024_16_0⟩,
    ⟨S16x1024, extractStridedSlice S16x1024 ![0, 0] x slices_S2064x1024_S16x1024_0_0⟩,
    ⟨S112x1024, broadcastInDim S112x1024 ![] bcast_S_S112x1024 (constant (F := Ideal) S_ .f32 0#32)⟩] concatenates_S2048x1024_S16x1024_S112x1024_S2176x1024_d0) (by decide)

theorem entry_z : V m c main_v10 = rows512 (m ((c : Thread nD τ).loc main_arg0)) := by
  unfold V rows512; after_results; rfl
theorem entry_ct : V m c main_v5 = rows1024 (m ((c : Thread nD τ).loc main_arg4)) := by
  unfold V rows1024; after_results; rfl

/-- The kernel's argument arrays hold the data. -/
structure Holds (D : MixOut) : Prop where
  z : ∀ r j, m ((c : Thread nD τ).loc main_arg0) (ix2 r j) = (D.z r j : EReal)
  g : ∀ j, m ((c : Thread nD τ).loc main_arg1) (ix2 0 j) = (D.g j : EReal)
  b : ∀ j, m ((c : Thread nD τ).loc main_arg2) (ix2 0 j) = (D.b j : EReal)
  w : ∀ e k, m ((c : Thread nD τ).loc main_arg3) (ix2 e k) = (D.w e k : EReal)
  ct : ∀ r k, m ((c : Thread nD τ).loc main_arg4) (ix2 r k) = (D.ct r k : EReal)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] := (by decide +kernel : ∀ t : Fin grid0.N, _)

variable {m c} {D : MixOut} (H : Holds m c D) (t : Fin cfg0.N)
include H

theorem blk_z (p : Fin 544) (j : Fin 512) : iblk m c 2 t (ix2 p j) = ((padRow (fun r => D.z r j) (544 * t.val + p.val) : ℝ) : EReal) := by
  have ht : t.val < 4 := lt_of_lt_of_eq t.isLt N_0
  have e : iblk m c 2 t (ix2 p j) = rows512 (m ((c : Thread nD τ).loc main_arg0)) (ix2 ⟨544 * t.val + p.val, by omega⟩ j) := by
    rw [← entry_z]
    blk_ext [iblk, idx t]
  rw [e]
  pointwise [rows512]
  simp only [H.z]
  exact (padRow_map (fun r => D.z r j) _ (fun x : ℝ => (x : EReal)) rfl).symm

theorem blk_ct (p : Fin 544) (k : Fin 1024) : iblk m c 0 t (ix2 p k) = ((padRow (fun r => D.ct r k) (544 * t.val + p.val) : ℝ) : EReal) := by
  have ht : t.val < 4 := lt_of_lt_of_eq t.isLt N_0
  have e : iblk m c 0 t (ix2 p k) = rows1024 (m ((c : Thread nD τ).loc main_arg4)) (ix2 ⟨544 * t.val + p.val, by omega⟩ k) := by
    rw [← entry_ct]
    blk_ext [iblk, idx t]
  rw [e]
  pointwise [rows1024]
  simp only [H.ct]
  exact (padRow_map (fun r => D.ct r k) _ (fun x : ℝ => (x : EReal)) rfl).symm

theorem blk_w (e k : Fin 1024) : iblk m c 1 t (ix2 e k) = (D.w e k : EReal) := by
  rw [← H.w]
  blk_point [iblk, V, idx t]
theorem blk_g (j : Fin 512) : iblk m c 3 t (ix2 0 j) = (D.g j : EReal) := by
  rw [← H.g]
  blk_point [iblk, V, idx t]
theorem blk_b (j : Fin 512) : iblk m c 4 t (ix2 0 j) = (D.b j : EReal) := by
  rw [← H.b]
  blk_point [iblk, V, idx t]

/-! ## Half a block -/

omit H
/-- What half a block reads, its first row being row `q` of the padded order. -/
structure Half (D : MixOut) (q : ℕ) (a : Vec Ideal S272x1024 .bf16) (w0 w1 : Vec Ideal S512x1024 .bf16) (z : Vec Ideal S272x512 .f32)
    (g b : Vec Ideal S1x512 .f32) : Prop where
  ct : ∀ p k, a (ix2 p k) = ((padRow (fun r => D.ct r k) (q + p.val) : ℝ) : EReal)
  w0 : ∀ j k, w0 (ix2 j k) = (D.w (MixOut.fst j) k : EReal)
  w1 : ∀ j k, w1 (ix2 j k) = (D.w (MixOut.snd j) k : EReal)
  z : ∀ p j, z (ix2 p j) = ((padRow (fun r => D.z r j) (q + p.val) : ℝ) : EReal)
  g : ∀ j, g (ix2 0 j) = (D.g j : EReal)
  b : ∀ j, b (ix2 0 j) = (D.b j : EReal)

variable {q : ℕ} {a : Vec Ideal S272x1024 .bf16} {w0 w1 : Vec Ideal S512x1024 .bf16} {z : Vec Ideal S272x512 .f32}
    {g b : Vec Ideal S1x512 .f32} (A : Half D q a w0 w1 z g b) (p : Fin 272) (j : Fin 512)
include A

theorem half_dya : k0_pay5 (F := Ideal) a w0 (ix2 p j) = ((padRow (fun r => D.dy (MixOut.fst j) r) (q + p.val) : ℝ) : EReal) := by
  pointwise [k0_pay5, k0_pay4]
  simp only [A.ct, A.w0, ← EReal.coe_mul, sum_coe, D.dy_pad]

theorem half_dyb : k0_pay6 (F := Ideal) a w1 (ix2 p j) = ((padRow (fun r => D.dy (MixOut.snd j) r) (q + p.val) : ℝ) : EReal) := by
  pointwise [k0_pay6, k0_pay4]
  simp only [A.ct, A.w1, ← EReal.coe_mul, sum_coe, D.dy_pad]

theorem half_inv : k0_pay8 (F := Ideal) z (ix2 p (0 : Fin 1))
    = (inv lnEps (fun i => padRow (fun r => D.z r i) (q + p.val)) : EReal) := by
  pointwise [k0_pay8, k0_pay7]
  simp only [A.z, word_512, word_lnEps, sum_coe, div_real _ (by norm_num : (512 : ℝ) ≠ 0), ← EReal.coe_sub, ← EReal.coe_mul, ← EReal.coe_add]
  have := spread_pos lnEps (fun i : Fin 512 => padRow (fun r => D.z r i) (q + p.val)) lnEps_pos
  unfold Step.inv
  simp only [spread, cen, mean, lnEps, Nat.cast_ofNat] at this ⊢
  rw [rsqrt_pos this]

theorem half_hat : k0_pay9 (F := Ideal) z (ix2 p j)
    = (hat lnEps (fun i => padRow (fun r => D.z r i) (q + p.val)) j : EReal) := by
  pointwise [k0_pay9, k0_pay7]
  rw [half_inv A]
  simp only [A.z, word_512, sum_coe, div_real _ (by norm_num : (512 : ℝ) ≠ 0), ← EReal.coe_sub, ← EReal.coe_mul]
  simp [hat, cen, mean]

theorem half_dl : k0_pay11 (F := Ideal) (k0_pay6 a w1) b (k0_pay10 g z) (ix2 p j)
    = ((padRow (fun r => D.dl r j) (q + p.val) : ℝ) : EReal) := by
  pointwise [k0_pay11, k0_pay10]
  rw [half_hat A, half_dyb A, A.g, A.b, ← EReal.coe_mul, zero_sub]
  exact (dsilu_factored _ _).trans (congrArg _ (D.dl_pad j _))

theorem half_dz : k0_pay12 (F := Ideal) g (k0_pay6 a w1) b (k0_pay8 z) (k0_pay9 z) (k0_pay10 g z) (ix2 p j)
    = ((padRow (fun r => D.dz r j) (q + p.val) : ℝ) : EReal) := by
  pointwise [k0_pay12]
  simp only [half_dl A, half_hat A, half_inv A, A.g, word_512, ← EReal.coe_mul, sum_coe, div_real _ (by norm_num : (512 : ℝ) ≠ 0), ← EReal.coe_sub]
  rw [← D.dz_pad]
  simp [normBack, mean]

theorem half_dg (v : Vec Ideal S1x512 .f32) : k0_pay13 (F := Ideal) (k0_pay6 a w1) b (k0_pay9 z) (k0_pay10 g z) v (ix2 (0 : Fin 1) j)
    = v (ix2 0 j) + ((∑ p : Fin 272, padRow (fun r => D.dl r j * hat lnEps (D.z r) j) (q + p.val) : ℝ) : EReal) := by
  pointwise [k0_pay13]
  simp only [half_dl A, half_hat A, ← EReal.coe_mul, sum_coe, D.dg_pad]

theorem half_db (v : Vec Ideal S1x512 .f32) : k0_pay14 (F := Ideal) (k0_pay11 (k0_pay6 a w1) b (k0_pay10 g z)) v (ix2 (0 : Fin 1) j)
    = v (ix2 0 j) + ((∑ p : Fin 272, padRow (fun r => D.dl r j) (q + p.val) : ℝ) : EReal) := by
  pointwise [k0_pay14]
  simp only [half_dl A, sum_coe]

omit A
variable (t : Fin cfg0.N)
abbrev top (v : Vec Ideal S544x1024 .bf16) : Vec Ideal S272x1024 .bf16 := View.ld v (Rect.unit ![0, 0] ![272, 1024] inb_S544x1024_S272x1024_0_0)
abbrev low (v : Vec Ideal S544x1024 .bf16) : Vec Ideal S272x1024 .bf16 := View.ld v (Rect.unit ![272, 0] ![272, 1024] inb_S544x1024_S272x1024_272_0)
abbrev topZ (v : Vec Ideal S544x512 .f32) : Vec Ideal S272x512 .f32 := View.ld v (Rect.unit ![0, 0] ![272, 512] inb_S544x512_S272x512_0_0)
abbrev lowZ (v : Vec Ideal S544x512 .f32) : Vec Ideal S272x512 .f32 := View.ld v (Rect.unit ![272, 0] ![272, 512] inb_S544x512_S272x512_272_0)
abbrev fstW (v : Vec Ideal S1024x1024 .bf16) : Vec Ideal S512x1024 .bf16 := View.ld v (Rect.unit ![0, 0] ![512, 1024] inb_S1024x1024_S512x1024_0_0)
abbrev sndW (v : Vec Ideal S1024x1024 .bf16) : Vec Ideal S512x1024 .bf16 := View.ld v (Rect.unit ![512, 0] ![512, 1024] inb_S1024x1024_S512x1024_512_0)

theorem top_at (v) (p : Fin 272) (k : Fin 1024) : top v (ix2 p k) = v (ix2 (⟨p.val, by omega⟩ : Fin 544) k) := by
  pointwise [top]
theorem low_at (v) (p : Fin 272) (k : Fin 1024) : low v (ix2 p k) = v (ix2 (⟨272 + p.val, by omega⟩ : Fin 544) k) := by
  pointwise [low]
theorem topZ_at (v) (p : Fin 272) (k : Fin 512) : topZ v (ix2 p k) = v (ix2 (⟨p.val, by omega⟩ : Fin 544) k) := by
  pointwise [topZ]
theorem lowZ_at (v) (p : Fin 272) (k : Fin 512) : lowZ v (ix2 p k) = v (ix2 (⟨272 + p.val, by omega⟩ : Fin 544) k) := by
  pointwise [lowZ]
theorem fstW_at (v) (j : Fin 512) (k : Fin 1024) : fstW v (ix2 j k) = v (ix2 (MixOut.fst j) k) := by
  pointwise [fstW, MixOut.fst]
theorem sndW_at (v) (j : Fin 512) (k : Fin 1024) : sndW v (ix2 j k) = v (ix2 (MixOut.snd j) k) := by
  pointwise [sndW, MixOut.snd]

theorem half_top (H : Holds m c D) : Half D (544 * t.val) (top (iblk m c 0 t)) (fstW (iblk m c 1 t)) (sndW (iblk m c 1 t)) (topZ (iblk m c 2 t))
    (iblk m c 3 t) (iblk m c 4 t) where
  ct p k := (top_at _ p k).trans (blk_ct H t _ k)
  w0 j k := (fstW_at _ j k).trans (blk_w H t _ k)
  w1 j k := (sndW_at _ j k).trans (blk_w H t _ k)
  z p j := (topZ_at _ p j).trans (blk_z H t _ j)
  g := blk_g H t
  b := blk_b H t

theorem half_low (H : Holds m c D) : Half D (544 * t.val + 272) (low (iblk m c 0 t)) (fstW (iblk m c 1 t)) (sndW (iblk m c 1 t)) (lowZ (iblk m c 2 t))
    (iblk m c 3 t) (iblk m c 4 t) where
  ct p k := (low_at _ p k).trans (by rw [add_assoc]; exact blk_ct H t _ k)
  w0 := (half_top t H).w0
  w1 := (half_top t H).w1
  z p j := (lowZ_at _ p j).trans (by rw [add_assoc]; exact blk_z H t _ j)
  g := blk_g H t
  b := blk_b H t

/-! ## The arrays after the run -/

variable (D)
/-- The four results, over the reals. -/
def dya : Vec Ideal S2176x512 .f32 := fun i => ((padRow (fun r => D.dy (MixOut.fst (i 1)) r) (i 0).val : ℝ) : EReal)
def dz : Vec Ideal S2176x512 .f32 := fun i => ((padRow (fun r => D.dz r (i 1)) (i 0).val : ℝ) : EReal)
def dg : Vec Ideal S1x512 .f32 := fun i => ((∑ r, D.dl r (i 1) * hat lnEps (D.z r) (i 1) : ℝ) : EReal)
def db : Vec Ideal S1x512 .f32 := fun i => ((∑ r, D.dl r (i 1) : ℝ) : EReal)

variable {D}

/-- A row of the output blocks, read where the block lands. -/
theorem lands (F : Fin 512 → ℕ → ℝ) (G : Vec Ideal S2176x512 .f32) (hG : ∀ i, G i = (F (i 1) (i 0).val : EReal)) (q : ℕ)
    (w : FVec Ideal S272x512 .f32) (hw : ∀ p j, w (ix2 p j) = (F j (q + p.val) : EReal)) (u : S272x512.Idx) (y : S2176x512.Idx)
    (h0 : (y 0).val = q + (u 0).val) (h1 : (y 1).val = (u 1).val) : w u = G y := by
  rw [hG, h0, show y 1 = u 1 from Fin.ext h1]; exact (congrArg w (eq_ix2 u)).trans (hw (u 0) (u 1))

variable (H : Holds m c D)
include H

theorem final_dya : (dats m 0 c).arrAt 5 (cfgs 0).N = dya D := by
  refine (dats m 0 c).arrAt_eq_of_covers 5 _ (by decide +kernel) fun t hf y => ?_
  blk_simp
  rw [after0_5]
  have e (s : Vec Ideal S544x512 .f32)
      (h : s = View.canon [⟨Rect.unit ![272, 0] ![272, 512] inb_S544x512_S272x512_272_0, k0_pay5 (low (iblk m c 0 t)) (fstW (iblk m c 1 t))⟩,
        ⟨Rect.unit ![0, 0] ![272, 512] inb_S544x512_S272x512_0_0, k0_pay5 (top (iblk m c 0 t)) (fstW (iblk m c 1 t))⟩]) :
      s y = dya D (((View.whole main_v11_0).slice (win0_5.rect t)).emb y) := by
    rw [h]
    canon_tiles y h
    · exact lands (fun j P => padRow (fun r => D.dy (MixOut.fst j) r) P) _ (fun _ => rfl) (544 * t.val + 272) _ (half_dya (half_low t H)) _ _
        (by blk_simp [idx t]; omega) (by blk_simp [idx t]; omega)
    · exact lands (fun j P => padRow (fun r => D.dy (MixOut.fst j) r) P) _ (fun _ => rfl) (544 * t.val) _ (half_dya (half_top t H)) _ _
        (by blk_simp [idx t]; omega) (by blk_simp [idx t]; omega)
  by_cases h : t.val % 4 = 0
  · rw [outsAt0_A m c t h]
    refine e _ ?_
    frame_out
    rfl
  · rw [outsAt0_B m c t h]
    refine e _ ?_
    frame_out
    rfl

theorem final_dz : (dats m 0 c).arrAt 6 (cfgs 0).N = dz D := by
  refine (dats m 0 c).arrAt_eq_of_covers 6 _ (by decide +kernel) fun t hf y => ?_
  blk_simp
  rw [after0_6]
  have e (s : Vec Ideal S544x512 .f32)
      (h : s = View.canon [⟨Rect.unit ![272, 0] ![272, 512] inb_S544x512_S272x512_272_0,
      k0_pay12 (iblk m c 3 t) (k0_pay6 (low (iblk m c 0 t)) (sndW (iblk m c 1 t))) (iblk m c 4 t) (k0_pay8 (lowZ (iblk m c 2 t)))
      (k0_pay9 (lowZ (iblk m c 2 t))) (k0_pay10 (iblk m c 3 t) (lowZ (iblk m c 2 t)))⟩,
    ⟨Rect.unit ![0, 0] ![272, 512] inb_S544x512_S272x512_0_0,
      k0_pay12 (iblk m c 3 t) (k0_pay6 (top (iblk m c 0 t)) (sndW (iblk m c 1 t))) (iblk m c 4 t) (k0_pay8 (topZ (iblk m c 2 t)))
      (k0_pay9 (topZ (iblk m c 2 t))) (k0_pay10 (iblk m c 3 t) (topZ (iblk m c 2 t)))⟩]) :
      s y = dz D (((View.whole main_v11_1).slice (win0_6.rect t)).emb y) := by
    rw [h]
    canon_tiles y h
    · exact lands (fun j P => padRow (fun r => D.dz r j) P) _ (fun _ => rfl) (544 * t.val + 272) _ (half_dz (half_low t H)) _ _
        (by blk_simp [idx t]; omega) (by blk_simp [idx t]; omega)
    · exact lands (fun j P => padRow (fun r => D.dz r j) P) _ (fun _ => rfl) (544 * t.val) _ (half_dz (half_top t H)) _ _
        (by blk_simp [idx t]; omega) (by blk_simp [idx t]; omega)
  by_cases h : t.val % 4 = 0
  · rw [outsAt0_A m c t h]
    refine e _ ?_
    frame_out
    rfl
  · rw [outsAt0_B m c t h]
    refine e _ ?_
    frame_out
    rfl

/-- What one block adds to the gain's and to the bias's gradient. -/
theorem point_dg (t : Fin cfg0.N) (v : Vec Ideal S1x512 .f32) (j : S1x512.Idx) :
    k0_pay13 (F := Ideal) (k0_pay6 (low (iblk m c 0 t)) (sndW (iblk m c 1 t))) (iblk m c 4 t) (k0_pay9 (lowZ (iblk m c 2 t)))
      (k0_pay10 (iblk m c 3 t) (lowZ (iblk m c 2 t)))
      (k0_pay13 (k0_pay6 (top (iblk m c 0 t)) (sndW (iblk m c 1 t))) (iblk m c 4 t) (k0_pay9 (topZ (iblk m c 2 t)))
        (k0_pay10 (iblk m c 3 t) (topZ (iblk m c 2 t))) v) j
      = v j + (((∑ p : Fin 272, padRow (fun r => D.dl r (j 1) * hat lnEps (D.z r) (j 1)) (544 * t.val + p.val))
        + ∑ p : Fin 272, padRow (fun r => D.dl r (j 1) * hat lnEps (D.z r) (j 1)) (544 * t.val + 272 + p.val) : ℝ) : EReal) := by
  obtain ⟨i, rfl⟩ : ∃ i : Fin 512, j = ix2 (0 : Fin 1) i := ⟨j 1, by rw [eq_ix2 j]; congr 1; exact Subsingleton.elim _ _⟩
  rw [half_dg (half_low t H), half_dg (half_top t H), add_assoc, ← EReal.coe_add]
  rfl

theorem point_db (t : Fin cfg0.N) (v : Vec Ideal S1x512 .f32) (j : S1x512.Idx) :
    k0_pay14 (F := Ideal) (k0_pay11 (k0_pay6 (low (iblk m c 0 t)) (sndW (iblk m c 1 t))) (iblk m c 4 t) (k0_pay10 (iblk m c 3 t) (lowZ (iblk m c 2 t))))
      (k0_pay14 (k0_pay11 (k0_pay6 (top (iblk m c 0 t)) (sndW (iblk m c 1 t))) (iblk m c 4 t) (k0_pay10 (iblk m c 3 t) (topZ (iblk m c 2 t)))) v) j
      = v j + (((∑ p : Fin 272, padRow (fun r => D.dl r (j 1)) (544 * t.val + p.val))
        + ∑ p : Fin 272, padRow (fun r => D.dl r (j 1)) (544 * t.val + 272 + p.val) : ℝ) : EReal) := by
  obtain ⟨i, rfl⟩ : ∃ i : Fin 512, j = ix2 (0 : Fin 1) i := ⟨j 1, by rw [eq_ix2 j]; congr 1; exact Subsingleton.elim _ _⟩
  rw [half_db (half_low t H), half_db (half_top t H), add_assoc, ← EReal.coe_add]
  rfl

omit H
theorem sum_points (F : Fin 2064 → ℝ) : (∑ t : Fin cfg0.N, (((∑ p : Fin 272, padRow F (544 * t.val + p.val))
    + ∑ p : Fin 272, padRow F (544 * t.val + 272 + p.val) : ℝ) : EReal)) = ((∑ r, F r : ℝ) : EReal) := by
  rw [sum_coe, ← sum_padRow]
  exact congrArg _ (sum_halves 4 272 (fun P => padRow F P))
theorem zero_dg (j : S1x512.Idx) : k0_pay2 (F := Ideal) j = 0 := by pointwise [k0_pay2]
theorem zero_db (j : S1x512.Idx) : k0_pay3 (F := Ideal) j = 0 := by pointwise [k0_pay3]
include H

theorem final_dg : (dats m 0 c).arrAt 7 (cfgs 0).N = dg D := by
  refine (dats m 0 c).arrAt_eq_of_after_last 7 t0_3 (by decide +kernel) _ fun j => ?_
  blk_simp
  rw [after0_7, Pipeline.eq_sum_fin_of_reset_step_apply_last (fun n h => (outsAt0 m c n h).2.2.1) 4 (fun _ => 0) _
    (fun t h j => by rw [outsAt0_A m c t h]; frame_out; refine (point_dg H t _ j).trans ?_; rw [zero_dg])
    (fun t h j => by rw [outsAt0_B m c t h]; frame_out; exact point_dg H t _ j) (le_of_eq N_0) t0_3 rfl j, zero_add]
  exact sum_points _

theorem final_db : (dats m 0 c).arrAt 8 (cfgs 0).N = db D := by
  refine (dats m 0 c).arrAt_eq_of_after_last 8 t0_3 (by decide +kernel) _ fun j => ?_
  blk_simp
  rw [after0_8, Pipeline.eq_sum_fin_of_reset_step_apply_last (fun n h => (outsAt0 m c n h).2.2.2) 4 (fun _ => 0) _
    (fun t h j => by rw [outsAt0_A m c t h]; frame_out; refine (point_db H t _ j).trans ?_; rw [zero_db])
    (fun t h j => by rw [outsAt0_B m c t h]; frame_out; exact point_db H t _ j) (le_of_eq N_0) t0_3 rfl j, zero_add]
  exact sum_points _

end Cert.KernelIdeal.MixOut
-- ==== Proof.MixOut.lean ====
/- The mixer's last lines: the kernel's four arrays are the reference's. -/
module
public import proofs.«01_k».proof.Defs
public import proofs.«01_k».proof.Proof.MixOutKernel

@[expose] public section
set_option maxRecDepth 16384
noncomputable section
namespace Cert.Proof
open Idealize.ShloMosaic Idealize.ShloMosaic.TcCoe Idealize.SL.Sem
open Cert.Step

instance finiteFacts : Cert.Pre_finite.Facts where
  bcast_S_S2064x512 := by decide
  bcast_S_S1x512 := by decide
  bcast_S_S1024x1024 := by decide
  bcast_S_S2064x1024 := by decide

/-- The real numbers behind the arguments of one device. -/
theorem exists_data (m : (ℓ : Loc Cert.KernelIdeal.nD Cert.KernelIdeal.τ Cert.KernelIdeal.sig) → Buf (Elt Ideal) ℓ)
    (hpre : Pre_KernelIdeal_finite m) (c : Dev Cert.KernelIdeal.nD) : ∃ D, Cert.KernelIdeal.MixOut.Holds m c D := by
  obtain ⟨h0, h1, h3, h4⟩ := hpre c
  choose z hz using exists_real_of_lt _ _ h0
  choose g hg using exists_real_of_lt _ _ h1
  choose w hw using exists_real_of_lt _ _ h3
  choose ct hct using exists_real_of_lt _ _ h4
  exact ⟨⟨fun r j => z (ix2 r j), fun j => g (ix2 0 j), fun j => m ((c : Thread Cert.KernelIdeal.nD Cert.KernelIdeal.τ).loc
      Cert.KernelIdeal.main_arg2) (ix2 0 j), fun e k => w (ix2 e k), fun r k => ct (ix2 r k)⟩,
    ⟨fun r j => hz _, fun j => hg _, fun j => rfl, fun e k => hw _, fun r k => hct _⟩⟩

/-- The reference's frame: its run keeps the arguments, and it declares no semaphore. -/
theorem mixOut_reference : quiescent_ReferenceIdeal := fun m g _ =>
  (θ_run Cert.ReferenceIdeal.defs _ _).mono (fun r h => ⟨fun c => (h c).2.2.2.2, sem_eq_zero_of_no_sems (by decide) r.2⟩)
    (Cert.ReferenceIdeal.Value.run m g)

/-- The call's four results are the derivatives of the mixer's last lines, at finite arguments. -/
theorem mixOut : algebraic_KernelIdeal_ReferenceIdeal_pre_finite := by
  intro m g m' g' hpre hagree
  choose D hD using exists_data m hpre
  refine ⟨fun c => Cert.KernelIdeal.MixOut.dya (D c), fun c => Cert.KernelIdeal.MixOut.dz (D c), fun c => Cert.KernelIdeal.MixOut.dg (D c),
    fun c => Cert.KernelIdeal.MixOut.db (D c), (θ_run _ _ _).mono (fun r h c => ?_) (Cert.KernelIdeal.Value.run_blocks m g),
    (θ_run _ _ _).mono (fun r h c => ?_) (Cert.ReferenceIdeal.Value.run m' g')⟩
  · obtain ⟨h0, h1, h2, h3, h⟩ := h c
    exact ⟨h0.trans (Cert.KernelIdeal.MixOut.final_dya (hD c)), h1.trans (Cert.KernelIdeal.MixOut.final_dz (hD c)),
      h2.trans (Cert.KernelIdeal.MixOut.final_dg (hD c)), h3.trans (Cert.KernelIdeal.MixOut.final_db (hD c)), h⟩
  · obtain ⟨h0, h1, h2, h3, h⟩ := h c
    obtain ⟨a0, a1, a2, a3, a4⟩ := hagree c
    have H : Cert.ReferenceIdeal.MixOut.Holds (D c) _ _ _ _ _ := ⟨(hD c).z, (hD c).g, (hD c).b, (hD c).w, (hD c).ct⟩
    rw [← a0, ← a1, ← a2, ← a3, ← a4] at H
    have hone (j : (⟨2, ![1, 512]⟩ : Shape).Idx) : j = ix2 (0 : Fin 1) (j 1) := by
      rw [eq_ix2 j]; congr 1; exact Subsingleton.elim _ _
    refine ⟨h0.trans (funext fun j => ?_), h1.trans (funext fun j => ?_), h2.trans (funext fun j => ?_), h3.trans (funext fun j => ?_), h⟩
    · exact (congrArg _ (eq_ix2 j)).trans (Cert.ReferenceIdeal.MixOut.out_dya H (j 1) (j 0))
    · rw [Cert.ReferenceIdeal.Read.val_main_v80_eq]
      exact (congrArg _ (eq_ix2 j)).trans (Cert.ReferenceIdeal.MixOut.out_dz H (j 1) (j 0))
    · rw [Cert.ReferenceIdeal.Read.val_main_v73_eq]
      exact (congrArg _ (hone j)).trans (Cert.ReferenceIdeal.MixOut.at_dg H (j 1))
    · rw [Cert.ReferenceIdeal.Read.val_main_v72_eq]
      exact (congrArg _ (hone j)).trans (Cert.ReferenceIdeal.MixOut.at_db H (j 1))

end Cert.Proof
-- ==== Proof.ActKernel.lean ====
/- The feed-forward's gate and up products and their gradients in the kernel: what each of the two calls leaves in its
   output arrays, one entry from the rows it was computed from. -/
module
public import proofs.«01_k».proof.Proof.Gen.Kernel4Ideal.Frame
public import proofs.«01_k».proof.Proof.Reals
public import Idealize.ShloMosaic.Lib.Pipeline.ValueKit
public import Idealize.ShloMosaic.Lib.Claim

@[expose] public section
set_option maxRecDepth 16384
noncomputable section
namespace Cert.Kernel4Ideal.Act
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.Step Cert.Kernel4Ideal Cert.Kernel4Ideal.Gen

/-- Rows of 1024 in the padded order, narrowed, as the host lays them out. -/
def rows1024 (x : Vec Ideal S2064x1024 .f32) : Vec Ideal S2176x1024 .bf16 :=
  truncf (F := Ideal) .bf16 (concatenate S2176x1024 0 [⟨S2048x1024, extractStridedSlice S2048x1024 ![16, 0] x slices_S2064x1024_S2048x1024_16_0⟩,
    ⟨S16x1024, extractStridedSlice S16x1024 ![0, 0] x slices_S2064x1024_S16x1024_0_0⟩,
    ⟨S112x1024, broadcastInDim S112x1024 ![] bcast_S_S112x1024 (constant (F := Ideal) S_ .f32 0#32)⟩] concatenates_S2048x1024_S16x1024_S112x1024_S2176x1024_d0) (by decide)

theorem rows1024_apply (x : Vec Ideal S2064x1024 .f32) (P : Fin 2176) (k : Fin 1024) :
    rows1024 x (ix2 P k) = padRow (fun r => x (ix2 r k)) P.val := by
  pointwise [rows1024]
  rfl

/-! ## One tile of 256 columns -/

/-- The three entries the first call writes, from the two products `a` and `u`. -/
def slope (a u : EReal) : EReal := u * (Step.sig a + a * Step.sig a * (1 - Step.sig a))
def gate (a : EReal) : EReal := a * Step.sig a
def act (a u : EReal) : EReal := gate a * u

/-- The product of row `p` of `x` with row `f` of `w`. -/
def dot {n k : ℕ} (x : Vec Ideal ⟨2, ![n, 1024]⟩ .bf16) (w : Vec Ideal ⟨2, ![k, 1024]⟩ .bf16) (p : Fin n) (f : Fin k) : EReal :=
  ∑ d : Fin 1024, x (ix2 p d) * w (ix2 f d)

section Tile
variable (x : Vec Ideal S544x1024 .bf16) (w v : Vec Ideal S256x1024 .bf16) (p : Fin 544) (j : Fin 256)

theorem tile_dot : k0_pay5 (F := Ideal) x w (ix2 p j) = dot x w p j := by
  pointwise [k0_pay5, k0_pay4, dot]
theorem tile_up : k0_pay6 (F := Ideal) x w (ix2 p j) = dot x w p j := by
  pointwise [k0_pay6, k0_pay4, dot]
theorem tile_sig : k0_pay7 (F := Ideal) x w (ix2 p j) = Step.sig (dot x w p j) := by
  pointwise [k0_pay7]
  rw [tile_dot, zero_sub]; rfl
theorem tile_gate : k0_pay10 (F := Ideal) x w (ix2 p j) = gate (dot x w p j) := by
  pointwise [k0_pay10, k0_pay8]
  rw [tile_dot, tile_sig]; rfl
theorem tile_act : k0_pay11 (F := Ideal) x w v (ix2 p j) = act (dot x w p j) (dot x v p j) := by
  pointwise [k0_pay11, k0_pay8]
  rw [tile_dot, tile_sig, tile_up]; rfl
theorem tile_slope : k0_pay9 (F := Ideal) x w v (ix2 p j) = slope (dot x w p j) (dot x v p j) := by
  pointwise [k0_pay9, k0_pay8]
  rw [tile_dot, tile_sig, tile_up]; rfl
theorem tile_back (y : Vec Ideal S544x256 .bf16) : k1_pay8 (F := Ideal) x w y (ix2 p j) = dot x w p j * y (ix2 p j) := by
  pointwise [k1_pay8, k1_pay7, k1_pay6, dot]
end Tile

/-! ## A block of 544 rows -/

/-- Eleven tiles of 256 columns, each the values of one function of the whole block. -/
theorem tiles_apply (K : Vec Ideal S544x2816 .bf16) (G : Fin 544 → Fin 2816 → EReal) (k : Fin 11 → Vec Ideal S544x256 .bf16)
    (h : K = View.canon [⟨r0_22, k 10⟩, ⟨r0_20, k 9⟩, ⟨r0_18, k 8⟩, ⟨r0_16, k 7⟩, ⟨r0_14, k 6⟩, ⟨r0_12, k 5⟩, ⟨r0_10, k 4⟩,
      ⟨r0_8, k 3⟩, ⟨r0_6, k 2⟩, ⟨r0_4, k 1⟩, ⟨r0_2, k 0⟩])
    (H : ∀ (n : Fin 11) p (j : Fin 256), k n (ix2 p j) = G p ⟨256 * n.val + j.val, by omega⟩)
    (y : S544x2816.Idx) : K y = G (y 0) (y 1) := by
  have lands (n : Fin 11) (u : S544x256.Idx) (h0 : (y 0).val = (u 0).val) (h1 : (y 1).val = 256 * n.val + (u 1).val) :
      k n u = G (y 0) (y 1) := by
    refine (congrArg _ (eq_ix2 u)).trans ((H n (u 0) (u 1)).trans ?_)
    congr 1
    · exact Fin.ext h0.symm
    · exact Fin.ext h1.symm
  rw [h]
  canon_tiles y h
  · exact lands 10 _ ‹_› ‹_›
  · exact lands 9 _ ‹_› ‹_›
  · exact lands 8 _ ‹_› ‹_›
  · exact lands 7 _ ‹_› ‹_›
  · exact lands 6 _ ‹_› ‹_›
  · exact lands 5 _ ‹_› ‹_›
  · exact lands 4 _ ‹_› ‹_›
  · exact lands 3 _ ‹_› ‹_›
  · exact lands 2 _ ‹_› ‹_›
  · exact lands 1 _ ‹_› ‹_›
  · exact lands 0 _ ‹_› (by simpa using ‹(_ : ℕ) = _›)

/-- The rows of a weight, and the columns of an array, that one tile reads. -/
def wrows (n : Fin 11) (w : Vec Ideal S2816x1024 .bf16) : Vec Ideal S256x1024 .bf16 :=
  View.ld w (Rect.unit (s := S2816x1024) ![256 * n.val, 0] S256x1024.size (by revert n; decide))
def acols (n : Fin 11) (w : Vec Ideal S544x2816 .bf16) : Vec Ideal S544x256 .bf16 :=
  View.ld w (Rect.unit (s := S544x2816) ![0, 256 * n.val] S544x256.size (by revert n; decide))

theorem dot_wrows (x : Vec Ideal S544x1024 .bf16) (w : Vec Ideal S2816x1024 .bf16) (n : Fin 11) (p : Fin 544) (j : Fin 256) :
    dot (View.ld x r0_0) (wrows n w) p j = dot x w p ⟨256 * n.val + j.val, by omega⟩ := by
  unfold dot
  refine Finset.sum_congr rfl fun d _ => congrArg₂ (· * ·) ?_ ?_
  · pointwise []
  · pointwise [wrows]
theorem acols_apply (w : Vec Ideal S544x2816 .bf16) (n : Fin 11) (p : Fin 544) (j : Fin 256) :
    acols n w (ix2 p j) = w (ix2 p ⟨256 * n.val + j.val, by omega⟩) := by
  pointwise [acols]

section Block
variable (x : Vec Ideal S544x1024 .bf16) (w v : Vec Ideal S2816x1024 .bf16) (a b : Vec Ideal S544x2816 .bf16) (y : S544x2816.Idx)

theorem out_slope : out0_3 x w v y = slope (dot x w (y 0) (y 1)) (dot x v (y 0) (y 1)) :=
  tiles_apply _ (fun p f => slope (dot x w p f) (dot x v p f)) (fun n => k0_pay9 (View.ld x r0_0) (wrows n w) (wrows n v)) rfl
    (fun n p j => by rw [tile_slope, dot_wrows, dot_wrows]) y
theorem out_gate : out0_4 x w v y = gate (dot x w (y 0) (y 1)) :=
  tiles_apply _ (fun p f => gate (dot x w p f)) (fun n => k0_pay10 (View.ld x r0_0) (wrows n w)) rfl
    (fun n p j => by rw [tile_gate, dot_wrows]) y
theorem out_act : out0_5 x w v y = act (dot x w (y 0) (y 1)) (dot x v (y 0) (y 1)) :=
  tiles_apply _ (fun p f => act (dot x w p f) (dot x v p f)) (fun n => k0_pay11 (View.ld x r0_0) (wrows n w) (wrows n v)) rfl
    (fun n p j => by rw [tile_act, dot_wrows, dot_wrows]) y
theorem out_back0 : out1_4 x w a b y = dot x w (y 0) (y 1) * a (ix2 (y 0) (y 1)) :=
  tiles_apply _ (fun p f => dot x w p f * a (ix2 p f)) (fun n => k1_pay8 (View.ld x r1_0) (wrows n w) (acols n a)) rfl
    (fun n p j => by rw [tile_back, dot_wrows, acols_apply]) y
theorem out_back1 : out1_5 x w a b y = dot x w (y 0) (y 1) * b (ix2 (y 0) (y 1)) :=
  tiles_apply _ (fun p f => dot x w p f * b (ix2 p f)) (fun n => k1_pay8 (View.ld x r1_0) (wrows n w) (acols n b)) rfl
    (fun n p j => by rw [tile_back, dot_wrows, acols_apply]) y
end Block

/-! ## The arrays after each call -/

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] := (by decide +kernel : ∀ t : Fin grid0.N, _)
theorem idx1 : ∀ t : Fin cfg1.N, win1_0.index t = ![t.val, 0] ∧ win1_1.index t = ![0, 0] ∧ win1_2.index t = ![t.val, 0]
    ∧ win1_3.index t = ![t.val, 0] ∧ win1_4.index t = ![t.val, 0] ∧ win1_5.index t = ![t.val, 0] := (by decide +kernel : ∀ t : Fin grid1.N, _)

/-- A product over a block's row is the product over the array's row. -/
theorem dot_rows {X : Vec Ideal S2176x1024 .bf16} {x : Vec Ideal S544x1024 .bf16} {t : ℕ} (ht : t < 4)
    (hx : ∀ (p : Fin 544) d, x (ix2 p d) = X (ix2 ⟨544 * t + p.val, by omega⟩ d)) {W w : Vec Ideal S2816x1024 .bf16} (hw : w = W)
    (p : Fin 544) (f F : Fin 2816) (P : Fin 2176) (hP : P.val = 544 * t + p.val) (hf : F.val = f.val) : dot x w p f = dot X W P F := by
  obtain rfl : F = f := Fin.ext hf
  rw [show P = ⟨544 * t + p.val, by omega⟩ from Fin.ext hP]
  exact Finset.sum_congr rfl fun d _ => congrArg₂ (· * ·) (hx p d) (by rw [hw])

theorem lt0 (t : Fin cfg0.N) : t.val < 4 := lt_of_lt_of_eq t.isLt N_0
theorem lt1 (t : Fin cfg1.N) : t.val < 4 := lt_of_lt_of_eq t.isLt N_1
theorem blk0_x (t : Fin cfg0.N) (p : Fin 544) (d : Fin 1024) :
    iblk0 V c 0 t (ix2 p d) = V c main_v4 (ix2 ⟨544 * t.val + p.val, by have := lt0 t; omega⟩ d) := by
  blk_ext [iblk0, idx0 t]
theorem blk0_w (t : Fin cfg0.N) : iblk0 V c 1 t = V c main_v6 := by
  funext i; blk_ext [iblk0, idx0 t]
theorem blk0_v (t : Fin cfg0.N) : iblk0 V c 2 t = V c main_v8 := by
  funext i; blk_ext [iblk0, idx0 t]
theorem blk1_x (t : Fin cfg1.N) (p : Fin 544) (d : Fin 1024) :
    iblk1 V c 0 t (ix2 p d) = V c main_v14 (ix2 ⟨544 * t.val + p.val, by have := lt1 t; omega⟩ d) := by
  blk_ext [iblk1, idx1 t]
theorem blk1_w (t : Fin cfg1.N) : iblk1 V c 1 t = V c main_v15 := by
  funext i; blk_ext [iblk1, idx1 t]

theorem arr_slope : (dat0 V c).arrAt 3 cfg0.N = fun i : S2176x2816.Idx =>
    slope (dot (V c main_v4) (V c main_v6) (i 0) (i 1)) (dot (V c main_v4) (V c main_v8) (i 0) (i 1)) := by
  refine (dat0 V c).arrAt_eq_of_covers 3 _ (by decide +kernel) fun t hf y => ?_
  blk_simp
  rw [after0_3, out_slope]
  exact congrArg₂ slope
    (dot_rows (lt0 t) (blk0_x V c t) (blk0_w V c t) _ _ _ _ (by blk_simp [idx0 t]; omega) (by blk_simp [idx0 t]))
    (dot_rows (lt0 t) (blk0_x V c t) (blk0_v V c t) _ _ _ _ (by blk_simp [idx0 t]; omega) (by blk_simp [idx0 t]))

theorem arr_gate : (dat0 V c).arrAt 4 cfg0.N = fun i : S2176x2816.Idx => gate (dot (V c main_v4) (V c main_v6) (i 0) (i 1)) := by
  refine (dat0 V c).arrAt_eq_of_covers 4 _ (by decide +kernel) fun t hf y => ?_
  blk_simp
  rw [after0_4, out_gate]
  exact congrArg gate
    (dot_rows (lt0 t) (blk0_x V c t) (blk0_w V c t) _ _ _ _ (by blk_simp [idx0 t]; omega) (by blk_simp [idx0 t]))

theorem arr_act : (dat0 V c).arrAt 5 cfg0.N = fun i : S2176x2816.Idx =>
    act (dot (V c main_v4) (V c main_v6) (i 0) (i 1)) (dot (V c main_v4) (V c main_v8) (i 0) (i 1)) := by
  refine (dat0 V c).arrAt_eq_of_covers 5 _ (by decide +kernel) fun t hf y => ?_
  blk_simp
  rw [after0_5, out_act]
  exact congrArg₂ act
    (dot_rows (lt0 t) (blk0_x V c t) (blk0_w V c t) _ _ _ _ (by blk_simp [idx0 t]; omega) (by blk_simp [idx0 t]))
    (dot_rows (lt0 t) (blk0_x V c t) (blk0_v V c t) _ _ _ _ (by blk_simp [idx0 t]; omega) (by blk_simp [idx0 t]))

theorem arr_back0 : (dat1 V c).arrAt 4 cfg1.N = fun i : S2176x2816.Idx => dot (V c main_v14) (V c main_v15) (i 0) (i 1) * V c main_v9_0 i := by
  refine (dat1 V c).arrAt_eq_of_covers 4 _ (by decide +kernel) fun t hf y => ?_
  blk_simp
  rw [after1_4, out_back0]
  refine congrArg₂ (· * ·)
    (dot_rows (lt1 t) (blk1_x V c t) (blk1_w V c t) _ _ _ _ (by blk_simp [idx1 t]; omega) (by blk_simp [idx1 t])) ?_
  blk_ext [iblk1, idx1 t]

theorem arr_back1 : (dat1 V c).arrAt 5 cfg1.N = fun i : S2176x2816.Idx => dot (V c main_v14) (V c main_v15) (i 0) (i 1) * V c main_v9_1 i := by
  refine (dat1 V c).arrAt_eq_of_covers 5 _ (by decide +kernel) fun t hf y => ?_
  blk_simp
  rw [after1_5, out_back1]
  refine congrArg₂ (· * ·)
    (dot_rows (lt1 t) (blk1_x V c t) (blk1_w V c t) _ _ _ _ (by blk_simp [idx1 t]; omega) (by blk_simp [idx1 t])) ?_
  blk_ext [iblk1, idx1 t]

/-! ## The whole run -/

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every unscoped array ends as the two calls and the host operations between them leave it. -/
theorem run_arrays : θ_run defs (onTc (τ := τ) (main (F := Ideal))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

theorem entry_x : V1 m ρ c main_v4 = rows1024 (m ((c : Thread nD τ).loc main_arg0)) := by
  show StableHlo.after hostOps0 _ _ = _; unfold rows1024; after_results; rfl
theorem entry_w (f : Fin 2816) (d : Fin 1024) : V1 m ρ c main_v6 (ix2 f d) = m ((c : Thread nD τ).loc main_arg1) (ix2 d f) := by
  have : V1 m ρ c main_v6 = truncf (F := Ideal) .bf16 (transpose S2816x1024 [1, 0] (m ((c : Thread nD τ).loc main_arg1) : Vec Ideal S1024x2816 .f32)
      transposes_S1024x2816_S2816x1024_1_0) bitsLt_bf16_f32 := by
    show StableHlo.after hostOps0 _ _ = _; after_results
  rw [this]; pointwise []
theorem entry_v (f : Fin 2816) (d : Fin 1024) : V1 m ρ c main_v8 (ix2 f d) = m ((c : Thread nD τ).loc main_arg2) (ix2 d f) := by
  have : V1 m ρ c main_v8 = truncf (F := Ideal) .bf16 (transpose S2816x1024 [1, 0] (m ((c : Thread nD τ).loc main_arg2) : Vec Ideal S1024x2816 .f32)
      transposes_S1024x2816_S2816x1024_1_0) bitsLt_bf16_f32 := by
    show StableHlo.after hostOps0 _ _ = _; after_results
  rw [this]; pointwise []

theorem after0 (b : Ref sig .tc) (hb : ∀ w, Pipeline.arrRef spec0 w ≠ b) (h : b ∉ hostOps0_W) :
    W2 m ρ c b = m ((c : Thread nD τ).loc b) := (W2_of_ne m ρ c b hb).trans (W1_of m ρ c b h)
theorem entry_ct : V3 m ρ c main_v14 = rows1024 (m ((c : Thread nD τ).loc main_arg4)) := by
  rw [← after0 c m ρ main_arg4 (by decide) (by decide)]
  show StableHlo.after hostOps1 _ _ = _; unfold rows1024; after_results; rfl
theorem entry_down (f : Fin 2816) (d : Fin 1024) : V3 m ρ c main_v15 (ix2 f d) = m ((c : Thread nD τ).loc main_arg3) (ix2 f d) := by
  rw [← after0 c m ρ main_arg3 (by decide) (by decide)]
  have : V3 m ρ c main_v15 = truncf (F := Ideal) .bf16 (W2 m ρ c main_arg3 : Vec Ideal S2816x1024 .f32) bitsLt_bf16_f32 := by
    show StableHlo.after hostOps1 _ _ = _; after_results
  rw [this]; pointwise []
theorem entry_slope : V3 m ρ c main_v9_0 = (dat0 (V1 m ρ) c).arrAt 3 cfg0.N :=
  (W3_of m ρ c main_v9_0 (by decide)).trans (W2_arr m ρ c 3)
theorem entry_gate : V3 m ρ c main_v9_1 = (dat0 (V1 m ρ) c).arrAt 4 cfg0.N :=
  (W3_of m ρ c main_v9_1 (by decide)).trans (W2_arr m ρ c 4)

/-- The two products and the cotangent's, at a row of the padded order. -/
def prod (x : Vec Ideal S2064x1024 .f32) (w : Fin 1024 → Fin 2816 → EReal) (P : ℕ) (f : Fin 2816) : EReal :=
  ∑ d : Fin 1024, padRow (fun r => x (ix2 r d)) P * w d f
def ga : ℕ → Fin 2816 → EReal := prod (m ((c : Thread nD τ).loc main_arg0)) fun d f => m ((c : Thread nD τ).loc main_arg1) (ix2 d f)
def up : ℕ → Fin 2816 → EReal := prod (m ((c : Thread nD τ).loc main_arg0)) fun d f => m ((c : Thread nD τ).loc main_arg2) (ix2 d f)
def down : ℕ → Fin 2816 → EReal := prod (m ((c : Thread nD τ).loc main_arg4)) fun d f => m ((c : Thread nD τ).loc main_arg3) (ix2 f d)

theorem dot_prod {X : Vec Ideal S2176x1024 .bf16} {W : Vec Ideal S2816x1024 .bf16} {x : Vec Ideal S2064x1024 .f32} {w : Fin 1024 → Fin 2816 → EReal}
    (hX : X = rows1024 x) (hW : ∀ f d, W (ix2 f d) = w d f) (P : Fin 2176) (f : Fin 2816) : dot X W P f = prod x w P.val f := by
  unfold dot prod
  exact Finset.sum_congr rfl fun d _ => congrArg₂ (· * ·) (by rw [hX, rows1024_apply]) (hW f d)
theorem dot_ga (P : Fin 2176) (f : Fin 2816) : dot (V1 m ρ c main_v4) (V1 m ρ c main_v6) P f = ga c m P.val f :=
  dot_prod (entry_x c m ρ) (entry_w c m ρ) P f
theorem dot_up (P : Fin 2176) (f : Fin 2816) : dot (V1 m ρ c main_v4) (V1 m ρ c main_v8) P f = up c m P.val f :=
  dot_prod (entry_x c m ρ) (entry_v c m ρ) P f
theorem dot_down (P : Fin 2176) (f : Fin 2816) : dot (V3 m ρ c main_v14) (V3 m ρ c main_v15) P f = down c m P.val f :=
  dot_prod (entry_ct c m ρ) (entry_down c m ρ) P f

/-- The three results. -/
def fAct : Vec Ideal S2176x2816 .bf16 := fun i => act (ga c m (i 0).val (i 1)) (up c m (i 0).val (i 1))
def da : Vec Ideal S2176x2816 .bf16 := fun i => down c m (i 0).val (i 1) * slope (ga c m (i 0).val (i 1)) (up c m (i 0).val (i 1))
def du : Vec Ideal S2176x2816 .bf16 := fun i => down c m (i 0).val (i 1) * gate (ga c m (i 0).val (i 1))

theorem final_act : W4 m ρ c main_v9_2 = fAct c m := by
  rw [W4_of_ne m ρ c main_v9_2 (by decide), W3_of m ρ c main_v9_2 (by decide)]
  refine (W2_arr m ρ c 5).trans ((arr_act _ c).trans (funext fun i => ?_))
  exact congrArg₂ act (dot_ga c m ρ _ _) (dot_up c m ρ _ _)
theorem final_da : W4 m ρ c main_v16_0 = da c m := by
  refine (W4_arr m ρ c 4).trans ((arr_back0 _ c).trans (funext fun i => ?_))
  refine congrArg₂ (· * ·) (dot_down c m ρ _ _) ((congrFun ((entry_slope c m ρ).trans (arr_slope _ c)) i).trans ?_)
  exact congrArg₂ slope (dot_ga c m ρ _ _) (dot_up c m ρ _ _)
theorem final_du : W4 m ρ c main_v16_1 = du c m := by
  refine (W4_arr m ρ c 5).trans ((arr_back1 _ c).trans (funext fun i => ?_))
  refine congrArg₂ (· * ·) (dot_down c m ρ _ _) ((congrFun ((entry_gate c m ρ).trans (arr_gate _ c)) i).trans ?_)
  exact congrArg gate (dot_ga c m ρ _ _)

/-- The run's final state: the three results, and the arguments unchanged. -/
theorem run : θ_run defs (onTc (τ := τ) (main (F := Ideal))) ⟨m, fun _ => 0, ρ⟩ (fun r => ∀ c : Dev nD,
      r.2.mem ((c.tc : Thread nD τ).loc main_v9_2) = fAct c m
      ∧ r.2.mem ((c.tc : Thread nD τ).loc main_v16_0) = da c m
      ∧ r.2.mem ((c.tc : Thread nD τ).loc main_v16_1) = du c m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v9_2 (by decide))).trans (final_act c m ρ), (h c _ (mem_uc main_v16_0 (by decide))).trans (final_da c m ρ),
      (h c _ (mem_uc main_v16_1 (by decide))).trans (final_du c m ρ), (h c _ (mem_uc main_arg0 (by decide))).trans (W4_main_arg0 m ρ c),
      (h c _ (mem_uc main_arg1 (by decide))).trans (W4_main_arg1 m ρ c), (h c _ (mem_uc main_arg2 (by decide))).trans (W4_main_arg2 m ρ c),
      (h c _ (mem_uc main_arg3 (by decide))).trans (W4_main_arg3 m ρ c), (h c _ (mem_uc main_arg4 (by decide))).trans (W4_main_arg4 m ρ c)⟩)
    (run_arrays m ρ)

end Cert.Kernel4Ideal.Act
-- ==== Proof.Act.lean ====
/- The feed-forward's gate and up products and their gradients: the reference's entries, and that the kernel's three
   arrays are the reference's. -/
module
public import proofs.«01_k».proof.Defs
public import proofs.«01_k».proof.Proof.ActKernel
public import proofs.«01_k».proof.Proof.Gen.Reference4Ideal.Read

@[expose] public section
set_option maxRecDepth 16384
noncomputable section
namespace Cert.Reference4Ideal.Act
open Idealize.ShloMosaic Cert.Step Cert.Reference4Ideal Cert.Reference4Ideal.Read

variable (x0 : Vec Ideal S2064x1024 .f32) (x1 x2 : Vec Ideal S1024x2816 .f32) (x3 : Vec Ideal S2816x1024 .f32) (x4 : Vec Ideal S2064x1024 .f32)

/-- Row `r` of the gate's product, of the up product, and of the cotangent through the down projection. -/
def ga (r : Fin 2064) (f : Fin 2816) : EReal := ∑ d : Fin 1024, x0 (ix2 r d) * x1 (ix2 d f)
def down (r : Fin 2064) (f : Fin 2816) : EReal := ∑ d : Fin 1024, x4 (ix2 r d) * x3 (ix2 f d)

variable (r : Fin 2064) (f : Fin 2816) (P : Fin 2176)

theorem at_ga : val_main_v0 (F := Ideal) x0 x1 (ix2 r f) = ga x0 x1 r f := by
  pointwise [val_main_v0, ga]
theorem at_up : val_main_v1 (F := Ideal) x0 x2 (ix2 r f) = ga x0 x2 r f := by
  pointwise [val_main_v1, ga]
theorem at_down : val_main_v5 (F := Ideal) x3 x4 (ix2 r f) = down x3 x4 r f := by
  pointwise [val_main_v5, down]
theorem at_sig : val_main_v2_2 (F := Ideal) x0 x1 (ix2 r f) = Step.sig (ga x0 x1 r f) := by
  pointwise [val_main_v2_2, val_main_call0_v4, val_main_call0_v3, val_main_call0_v2, val_main_call0_v1, val_main_call0_v0, val_main_call0_cst,
    val_main_call0_cst_0]
  rw [at_ga]; rfl
theorem at_sig' : val_main_call2_v5 (F := Ideal) x0 x1 (ix2 r f) = Step.sig (ga x0 x1 r f) := by
  pointwise [val_main_call2_v5, val_main_call2_v4, val_main_call2_v3, val_main_call2_v2, val_main_call2_v1, val_main_call2_v0, val_main_call2_cst,
    val_main_call2_cst_0]
  rw [at_ga]; rfl
theorem at_act : val_main_v11 (F := Ideal) x0 x1 x2 (ix2 r f) = ga x0 x1 r f * Step.sig (ga x0 x1 r f) * ga x0 x2 r f := by
  pointwise [val_main_v11, val_main_v10]
  rw [at_ga, at_up, at_sig']
theorem at_du : val_main_v6 (F := Ideal) x0 x1 x3 x4 (ix2 r f) = ga x0 x1 r f * Step.sig (ga x0 x1 r f) * down x3 x4 r f := by
  pointwise [val_main_v6, val_main_v2_0]
  rw [at_ga, at_down, at_sig]
theorem at_da : val_main_v8 (F := Ideal) x0 x1 x2 x3 x4 (ix2 r f)
    = down x3 x4 r f * ga x0 x2 r f * Step.sig (ga x0 x1 r f)
      + ga x0 x1 r f * (down x3 x4 r f * ga x0 x2 r f) * (Step.sig (ga x0 x1 r f) * (1 - Step.sig (ga x0 x1 r f))) := by
  pointwise [val_main_v8, val_main_call1_v1, val_main_call1_v2, val_main_call1_v0, val_main_v7, val_main_v2_1, val_main_call0_v7, val_main_call0_v6,
    val_main_call0_cst_1]
  rw [at_ga, at_up, at_down, at_sig]

theorem out_act : val_main_v15 (F := Ideal) x0 x1 x2 (ix2 P f) = padRow (fun r => val_main_v11 (F := Ideal) x0 x1 x2 (ix2 r f)) P := by
  pointwise [val_main_v15, val_main_v14, val_main_v13, val_main_v12, val_main_v9, val_main_cst]
  rfl
theorem out_da : val_main_v19 (F := Ideal) x0 x1 x2 x3 x4 (ix2 P f) = padRow (fun r => val_main_v8 (F := Ideal) x0 x1 x2 x3 x4 (ix2 r f)) P := by
  pointwise [val_main_v19, val_main_v18, val_main_v17, val_main_v16, val_main_v9, val_main_cst]
  rfl
theorem out_du : val_main_v23 (F := Ideal) x0 x1 x3 x4 (ix2 P f) = padRow (fun r => val_main_v6 (F := Ideal) x0 x1 x3 x4 (ix2 r f)) P := by
  pointwise [val_main_v23, val_main_v22, val_main_v21, val_main_v20, val_main_v9, val_main_cst]
  rfl

end Cert.Reference4Ideal.Act

namespace Cert.Proof
open Idealize.ShloMosaic Idealize.ShloMosaic.TcCoe Idealize.SL.Sem
open Cert.Step Cert.Kernel4Ideal.Act

instance finite4Facts : Cert.Pre_finite4.Facts where
  bcast_S_S2064x1024 := by decide
  bcast_S_S1024x2816 := by decide
  bcast_S_S2816x1024 := by decide

/-- A padded row's product is the row's product, and zero on the added rows. -/
theorem prod_pad (x : Vec Ideal ⟨2, ![2064, 1024]⟩ .f32) (w : Fin 1024 → Fin 2816 → EReal) (P : ℕ) (f : Fin 2816) :
    prod x w P f = padRow (fun r => ∑ d, x (ix2 r d) * w d f) P := by
  unfold prod
  rcases padRow_cases P with ⟨r, h⟩ | h <;> simp only [h, zero_mul, Finset.sum_const_zero]

/-- The kernel's three entries at a padded row are the row's, and zero on the added rows. -/
theorem pad_act (m : (ℓ : Loc Cert.Kernel4Ideal.nD Cert.Kernel4Ideal.τ Cert.Kernel4Ideal.sig) → Buf (Elt Ideal) ℓ) (c : Dev Cert.Kernel4Ideal.nD)
    {x0 : Vec Ideal ⟨2, ![2064, 1024]⟩ .f32} {x1 x2 : Vec Ideal ⟨2, ![1024, 2816]⟩ .f32} {x3 : Vec Ideal ⟨2, ![2816, 1024]⟩ .f32}
    {x4 : Vec Ideal ⟨2, ![2064, 1024]⟩ .f32}
    (h0 : m ((c : Thread Cert.Kernel4Ideal.nD Cert.Kernel4Ideal.τ).loc Cert.Kernel4Ideal.main_arg0) = x0)
    (h1 : m ((c : Thread Cert.Kernel4Ideal.nD Cert.Kernel4Ideal.τ).loc Cert.Kernel4Ideal.main_arg1) = x1)
    (h2 : m ((c : Thread Cert.Kernel4Ideal.nD Cert.Kernel4Ideal.τ).loc Cert.Kernel4Ideal.main_arg2) = x2)
    (h3 : m ((c : Thread Cert.Kernel4Ideal.nD Cert.Kernel4Ideal.τ).loc Cert.Kernel4Ideal.main_arg3) = x3)
    (h4 : m ((c : Thread Cert.Kernel4Ideal.nD Cert.Kernel4Ideal.τ).loc Cert.Kernel4Ideal.main_arg4) = x4) (P : Fin 2176) (f : Fin 2816) :
    fAct c m (ix2 P f) = padRow (fun r => act (Cert.Reference4Ideal.Act.ga x0 x1 r f) (Cert.Reference4Ideal.Act.ga x0 x2 r f)) P
    ∧ da c m (ix2 P f) = padRow (fun r => Cert.Reference4Ideal.Act.down x3 x4 r f
        * slope (Cert.Reference4Ideal.Act.ga x0 x1 r f) (Cert.Reference4Ideal.Act.ga x0 x2 r f)) P
    ∧ du c m (ix2 P f) = padRow (fun r => Cert.Reference4Ideal.Act.down x3 x4 r f * gate (Cert.Reference4Ideal.Act.ga x0 x1 r f)) P := by
  subst h0 h1 h2 h3 h4
  have ea : ga c m P f = _ := prod_pad _ _ P.val f
  have eu : up c m P f = _ := prod_pad _ _ P.val f
  have ed : down c m P f = _ := prod_pad _ _ P.val f
  refine ⟨(congrArg₂ act ea eu).trans ?_, (congrArg₂ (· * ·) ed (congrArg₂ slope ea eu)).trans ?_,
    (congrArg₂ (· * ·) ed (congrArg gate ea)).trans ?_⟩
  all_goals
    rcases padRow_cases P with ⟨r, h⟩ | h <;> simp only [h]
    · rfl
    · simp [Cert.Kernel4Ideal.Act.act, Cert.Kernel4Ideal.Act.gate, Cert.Kernel4Ideal.Act.slope]

/-- The reference's frame: its run keeps the arguments, and it declares no semaphore. -/
theorem act_reference : quiescent_Reference4Ideal := fun m g _ =>
  (θ_run Cert.Reference4Ideal.defs _ _).mono (fun r h => ⟨fun c => (h c).2.2.2, sem_eq_zero_of_no_sems (by decide) r.2⟩)
    (Cert.Reference4Ideal.Value.run m g)

/-- The three results are the activation and its derivatives, at finite arguments; the gate's weights may be infinite. -/
theorem act_value : algebraic_Kernel4Ideal_Reference4Ideal_pre_finite4 := by
  intro m g m' g' hpre hagree
  refine ⟨fun c => fAct c m, fun c => da c m, fun c => du c m, run m g, (θ_run _ _ _).mono (fun r h c => ?_) (Cert.Reference4Ideal.Value.run m' g')⟩
  obtain ⟨h0, h1, h2, h⟩ := h c
  obtain ⟨a0, a1, a2, a3, a4⟩ := hagree c
  obtain ⟨p0, p2, p3, p4⟩ := hpre c
  choose x hx using exists_real_of_lt _ _ p0
  choose u hu using exists_real_of_lt _ _ p2
  choose d hd using exists_real_of_lt _ _ p3
  choose ct hct using exists_real_of_lt _ _ p4
  have E (P : Fin 2176) (f : Fin 2816) := pad_act m c a0.symm a1.symm a2.symm a3.symm a4.symm P f
  have hup (r : Fin 2064) (f : Fin 2816) : ∃ y : ℝ, Cert.Reference4Ideal.Act.ga (m' ((c : Thread Cert.Reference4Ideal.nD Cert.Reference4Ideal.τ).loc
      Cert.Reference4Ideal.main_arg0)) (m' ((c : Thread Cert.Reference4Ideal.nD Cert.Reference4Ideal.τ).loc Cert.Reference4Ideal.main_arg2)) r f = y :=
    ⟨∑ k, x (ix2 r k) * u (ix2 k f), by
      rw [← sum_coe]; refine Finset.sum_congr rfl fun k _ => ?_
      rw [EReal.coe_mul, ← hx, ← hu, a0, a2]⟩
  have hdown (r : Fin 2064) (f : Fin 2816) : ∃ y : ℝ, Cert.Reference4Ideal.Act.down (m' ((c : Thread Cert.Reference4Ideal.nD Cert.Reference4Ideal.τ).loc
      Cert.Reference4Ideal.main_arg3)) (m' ((c : Thread Cert.Reference4Ideal.nD Cert.Reference4Ideal.τ).loc Cert.Reference4Ideal.main_arg4)) r f = y :=
    ⟨∑ k, ct (ix2 r k) * d (ix2 f k), by
      rw [← sum_coe]; refine Finset.sum_congr rfl fun k _ => ?_
      rw [EReal.coe_mul, ← hct, ← hd, a3, a4]⟩
  refine ⟨h0.trans (funext fun j => ?_), h1.trans (funext fun j => ?_), h2.trans (funext fun j => ?_), h⟩ <;>
    obtain ⟨P, f, rfl⟩ : ∃ (P : Fin 2176) (f : Fin 2816), j = ix2 P f := ⟨j 0, j 1, eq_ix2 j⟩
  · rw [Cert.Reference4Ideal.Read.val_main_v15_eq]
    refine (Cert.Reference4Ideal.Act.out_act _ _ _ f P).trans (Eq.trans ?_ (E P f).1.symm)
    exact congrArg (fun q => padRow q P.val) (funext fun r => Cert.Reference4Ideal.Act.at_act _ _ _ r f)
  · rw [Cert.Reference4Ideal.Read.val_main_v19_eq]
    refine (Cert.Reference4Ideal.Act.out_da _ _ _ _ _ f P).trans (Eq.trans ?_ (E P f).2.1.symm)
    refine congrArg (fun q => padRow q P.val) (funext fun r => (Cert.Reference4Ideal.Act.at_da _ _ _ _ _ r f).trans ?_)
    obtain ⟨y, hy⟩ := hup r f
    obtain ⟨w, hw⟩ := hdown r f
    rw [hy, hw]; rw [← EReal.coe_mul, dsilu_expanded]; unfold Cert.Kernel4Ideal.Act.slope
    rw [dsilu_summed, ← EReal.coe_mul, mul_assoc]
  · rw [Cert.Reference4Ideal.Read.val_main_v23_eq]
    refine (Cert.Reference4Ideal.Act.out_du _ _ _ _ f P).trans (Eq.trans ?_ (E P f).2.2.symm)
    exact congrArg (fun q => padRow q P.val) (funext fun r => (Cert.Reference4Ideal.Act.at_du _ _ _ _ r f).trans (mul_comm _ _))

end Cert.Proof
-- ==== Proof.ConvSpec.lean ====
/- The mixer's convolutions in the kernel: what one lane's sums are, and how the padded scratch rows are read back. -/
module

public import proofs.«01_k».proof.Proof.Gen.Kernel2Ideal.Loops
public import Idealize.ShloMosaic.Lib.Pipeline.ValueKit
public import Idealize.ShloMosaic.Lib.WritesUnit

@[expose] public section

set_option maxRecDepth 16384

noncomputable section

namespace Cert.Kernel2Ideal.Conv

open Cert.Kernel2Ideal.Gen
open Idealize.ShloMosaic Idealize.ShloMosaic.TcCoe Idealize.ShloMosaic.Tactic

variable {sig : RefSig} {F : FTy → Type} [FloatOps F]

/-! ## One lane -/

/-- The first `n` taps of a convolution at one place, the weights `w` against the entries `g` under them. -/
def taps (w g : ℕ → F .f32) : ℕ → F .f32
  | 0 => FloatOps.ofBits .f32 0#32
  | n + 1 => FloatOps.addf (taps w g n) (FloatOps.mulf (w n) (g n))

/-- Six entries eight rows apart, added from the first. -/
def six (p : ℕ → F .f32) (r : ℕ) : F .f32 :=
  FloatOps.addf (FloatOps.addf (FloatOps.addf (FloatOps.addf (FloatOps.addf (p r) (p (8 + r))) (p (16 + r))) (p (24 + r)))
    (p (32 + r))) (p (40 + r))

/-- A weight's gradient as it gathers in one of eight rows: 48 rows' products of `a` and `b` at a time. -/
def gather (a b : ℕ → F .f32) (r : ℕ) : ℕ → F .f32
  | 0 => FloatOps.ofBits .f32 0#32
  | c + 1 => FloatOps.addf (gather a b r c) (six (fun x => FloatOps.mulf (a (48 * c + 32 + x)) (b (48 * c + 32 + x))) r)

/-- Row `k` of a block of weights, at a lane. -/
def weight {n : ℕ} (v : Vec F ⟨2, ![n + 1, 128]⟩ .f32) (l : Fin 128) (k : ℕ) : F .f32 := v (ix2 (Fin.ofNat (n + 1) k) l)

/-! ## Reading the scratch -/

/-- A buffer of rows that reads as `G`. -/
def Rows (arg : Memref sig .tc .vmem S2128x128 .f32) (X : BufTy.Contents (Elt F) arg.view.ty) (G : ℕ → Fin 128 → F .f32) : Prop :=
  ∀ (n : Fin 2128) (l : Fin 128), arg.view.read (Elt F) X (ix2 n l) = G n.val l

/-- A buffer of shifted copies: each copy from `lo` on reads as `G`, moved by one row more than its number. -/
def Shifts (lo : ℕ) (arg : Memref sig .tc .vmem S7x2128x128 .f32) (X : BufTy.Contents (Elt F) arg.view.ty)
    (G : ℕ → Fin 128 → F .f32) (hi : ℕ := 7) : Prop :=
  ∀ (q : Fin 7) (n : Fin 2128) (l : Fin 128), lo ≤ q.val → q.val < hi → n.val < 2120 →
    arg.view.read (Elt F) X (ix3 q n l) = G (q.val + 1 + n.val) l

theorem Rows.load {arg : Memref sig .tc .vmem S2128x128 .f32} {X : BufTy.Contents (Elt F) arg.view.ty} {G : ℕ → Fin 128 → F .f32}
    (hX : Rows arg X G) {W b : ℕ} {o : Fin 2 → ℕ} (ho : o = ![b, 0]) (h : ∀ a, o a + (![W, 128] : Fin 2 → ℕ) a ≤ S2128x128.size a)
    (x : Fin W) (l : Fin 128) :
    View.readAt (Elt F) arg.view (Rect.unit (s := S2128x128) o ![W, 128] h).toLoadRect X (ix2 x l) = G (b + x.val) l := by
  subst ho
  have hb : b + W ≤ 2128 := h 0
  refine Eq.trans ?_ (hX ⟨b + x.val, by omega⟩ l)
  rw [View.readAt_apply]
  congr 1
  funext a
  refine Fin.ext ?_
  match a with
  | ⟨0, _⟩ => show b + 1 * x.val = b + x.val; omega
  | ⟨1, _⟩ => show 0 + 1 * l.val = l.val; omega

theorem Shifts.load {lo hi : ℕ} {arg : Memref sig .tc .vmem S7x2128x128 .f32} {X : BufTy.Contents (Elt F) arg.view.ty}
    {G : ℕ → Fin 128 → F .f32} (hX : Shifts lo arg X G hi) {W q b : ℕ} {o : Fin 3 → ℕ} (ho : o = ![q, b, 0])
    (h : ∀ a, o a + (![1, W, 128] : Fin 3 → ℕ) a ≤ S7x2128x128.size a) (hq : lo ≤ q) (hq' : q < hi) (hb : b + W ≤ 2120)
    (z : Fin 1) (x : Fin W) (l : Fin 128) :
    View.readAt (Elt F) arg.view (Rect.unit (s := S7x2128x128) o ![1, W, 128] h).toLoadRect X (ix3 z x l)
      = G (q + 1 + (b + x.val)) l := by
  subst ho
  have h7 : q + 1 ≤ 7 := h 0
  refine Eq.trans ?_ (hX ⟨q, by omega⟩ ⟨b + x.val, by omega⟩ l hq hq' (by show b + x.val < 2120; omega))
  rw [View.readAt_apply]
  congr 1
  funext a
  refine Fin.ext ?_
  match a with
  | ⟨0, _⟩ => show q + 1 * z.val = q; omega
  | ⟨1, _⟩ => show b + 1 * x.val = b + x.val; omega
  | ⟨2, _⟩ => show 0 + 1 * l.val = l.val; omega

/-- What a loop leaves where its trips write the values of one function. -/
theorem loop_read {s : Shape} {v : View sig .tc .vmem s .f32} {T : ℕ} (pb : ℕ → List (View.Piece (Elt F) s .f32))
    (trip : Fin T → List (View.Piece (Elt F) s .f32)) (hs : ∀ k : Fin T, pb (k.val + 1) = trip k ++ pb k.val)
    (f : v.ty.Contents (Elt F)) (G : s.Idx → F .f32) (hG : ∀ k, ∀ p ∈ trip k, ∀ x, p.2 x = G (p.1.emb x)) (h0 : pb 0 = [])
    (y : s.Idx) (hy : ∃ k, ∃ p ∈ trip k, y ∈ p.1.set) : v.read (Elt F) (v.writes (Elt F) f (pb T)) y = G y := by
  have all : ∀ n, n ≤ T → ∀ p ∈ pb n, ∀ x, p.2 x = G (p.1.emb x) := fun n => by
    induction n with
    | zero => intro _ p hp; rw [h0] at hp; cases hp
    | succ n ih =>
      intro hn p hp
      rw [hs ⟨n, hn⟩, List.mem_append] at hp
      exact hp.elim (hG ⟨n, hn⟩ p) (ih (by omega) p)
  have mem : ∀ n, n ≤ T → ∀ k : Fin T, k.val < n → ∀ p ∈ trip k, p ∈ pb n := fun n => by
    induction n with
    | zero => intro _ k hk; omega
    | succ n ih =>
      intro hn k hk p hp
      rw [hs ⟨n, hn⟩, List.mem_append]
      rcases Nat.lt_or_ge k.val n with h | h
      · exact .inr (ih (by omega) k h p hp)
      · exact .inl (by rwa [show (⟨n, hn⟩ : Fin T) = k from Fin.ext (by show n = k.val; omega)])
  obtain ⟨k, p, hp, hyp⟩ := hy
  exact View.read_writes_apply_of_pieces v f G (pb T) (all T le_rfl) y ⟨p, mem T le_rfl k k.isLt p hp, hyp⟩

/-- Where an entry of the rows from `b` on lies. -/
theorem emb_rows {b : ℕ} {o : Fin 2 → ℕ} (ho : o = ![b, 0]) {W : ℕ} (h : ∀ a, o a + (![W, 128] : Fin 2 → ℕ) a ≤ S2128x128.size a)
    (x : Fin W) (l : Fin 128) :
    ∃ hx : b + x.val < 2128, (Rect.unit (s := S2128x128) o ![W, 128] h).emb (ix2 x l) = ix2 ⟨b + x.val, hx⟩ l := by
  subst ho
  have hb : b + W ≤ 2128 := h 0
  refine ⟨by omega, ?_⟩
  funext a
  refine Fin.ext ?_
  match a with
  | ⟨0, _⟩ => show b + 1 * x.val = b + x.val; omega
  | ⟨1, _⟩ => show 0 + 1 * l.val = l.val; omega

/-- An index of the rows from `b` on. -/
theorem mem_rows {b : ℕ} {o : Fin 2 → ℕ} (ho : o = ![b, 0]) {W : ℕ} (h : ∀ a, o a + (![W, 128] : Fin 2 → ℕ) a ≤ S2128x128.size a)
    (n : Fin 2128) (l : Fin 128) (h1 : b ≤ n.val) (h2 : n.val < b + W) :
    ix2 n l ∈ (Rect.unit (s := S2128x128) o ![W, 128] h).set := by
  subst ho
  refine (LoadRect.mem_set _).2 fun a => ?_
  match a with
  | ⟨0, _⟩ => exact ⟨n.val - b, show n.val - b < W by omega, show n.val = b + 1 * (n.val - b) by omega⟩
  | ⟨1, _⟩ => exact ⟨l.val, l.isLt, show l.val = 0 + 1 * l.val by omega⟩

/-! ## The weights' gradients -/

/-- The rows of the weights' gradients after `k` rounds: eight rows for each weight. -/
def sums (a : ℕ → Fin 128 → F .f32) (b : ℕ → ℕ → Fin 128 → F .f32) (k : ℕ) (y : S248x128.Idx) : F .f32 :=
  gather (fun n => a n (y 1)) (fun n => b ((y 0).val / 8) n (y 1)) ((y 0).val % 8) k

/-- A buffer whose first `8 K` rows are the gradients after `k` rounds. -/
def Sums (K : ℕ) (arg : Memref sig .tc .vmem S248x128 .f32) (X : BufTy.Contents (Elt F) arg.view.ty) (a : ℕ → Fin 128 → F .f32)
    (b : ℕ → ℕ → Fin 128 → F .f32) (k : ℕ) : Prop :=
  ∀ y : S248x128.Idx, (y 0).val < 8 * K → arg.view.read (Elt F) X y = sums a b k y

section
variable {K k : ℕ} {arg : Memref sig .tc .vmem S248x128 .f32} {X : BufTy.Contents (Elt F) arg.view.ty} {a : ℕ → Fin 128 → F .f32}
  {b : ℕ → ℕ → Fin 128 → F .f32}

theorem sums_at {o : ℕ} (ho : o % 8 = 0) (k : ℕ) (x : Fin 8) (l : Fin 128) (hx : o + x.val < 248) :
    sums a b k (ix2 ⟨o + x.val, hx⟩ l) = gather (fun n => a n l) (fun n => b (o / 8) n l) x.val k := by
  unfold sums
  simp only [ix2_0, ix2_1]
  rw [show (o + x.val) / 8 = o / 8 by omega, show (o + x.val) % 8 = x.val by omega]

theorem emb_sums {o : ℕ} (h : ∀ a, (![o, 0] : Fin 2 → ℕ) a + (![8, 128] : Fin 2 → ℕ) a ≤ S248x128.size a) (x : Fin 8) (l : Fin 128) :
    ∃ hx : o + x.val < 248, (Rect.unit (s := S248x128) ![o, 0] ![8, 128] h).emb (ix2 x l) = ix2 ⟨o + x.val, hx⟩ l := by
  have hb : o + 8 ≤ 248 := h 0
  refine ⟨by omega, ?_⟩
  funext a
  refine Fin.ext ?_
  match a with
  | ⟨0, _⟩ => show o + 1 * x.val = o + x.val; omega
  | ⟨1, _⟩ => show 0 + 1 * l.val = l.val; omega

theorem Sums.load (hX : Sums K arg X a b k) {o : ℕ} (ho : o % 8 = 0)
    (h : ∀ a, (![o, 0] : Fin 2 → ℕ) a + (![8, 128] : Fin 2 → ℕ) a ≤ S248x128.size a) (hK : o < 8 * K) (x : Fin 8) (l : Fin 128) :
    View.readAt (Elt F) arg.view (Rect.unit (s := S248x128) ![o, 0] ![8, 128] h).toLoadRect X (ix2 x l)
      = gather (fun n => a n l) (fun n => b (o / 8) n l) x.val k := by
  obtain ⟨hx, e⟩ := emb_sums h x l
  rw [View.readAt_apply]
  refine (congrArg (arg.view.read (Elt F) X) e).trans ((hX _ (by simp only [ix2_0]; omega)).trans (sums_at ho k x l hx))

/-- One weight's eight rows, one round on. -/
theorem sums_step {o : ℕ} (ho : o % 8 = 0) (h : ∀ a, (![o, 0] : Fin 2 → ℕ) a + (![8, 128] : Fin 2 → ℕ) a ≤ S248x128.size a)
    (w : S8x128.Idx → F .f32)
    (hw : ∀ (x : Fin 8) (l : Fin 128), w (ix2 x l) = FloatOps.addf (gather (fun n => a n l) (fun n => b (o / 8) n l) x.val k)
      (six (fun x => FloatOps.mulf (a (48 * k + 32 + x) l) (b (o / 8) (48 * k + 32 + x) l)) x.val))
    (x : S8x128.Idx) : w x = sums a b (k + 1) ((Rect.unit (s := S248x128) ![o, 0] ![8, 128] h).emb x) := by
  obtain ⟨c, l, rfl⟩ : ∃ (c : Fin 8) (l : Fin 128), x = ix2 c l := ⟨x 0, x 1, eq_ix2 x⟩
  obtain ⟨hx, e⟩ := emb_sums h c l
  exact (hw c l).trans ((sums_at ho (k + 1) c l hx).symm.trans (congrArg (sums a b (k + 1)) e.symm))

/-- Rows from `o` down, found among the pieces written. -/
theorem cover_sums {o : ℕ} {y : S248x128.Idx} (hy : (y 0).val < o + 8)
    (h : ∀ a, (![o, 0] : Fin 2 → ℕ) a + (![8, 128] : Fin 2 → ℕ) a ≤ S248x128.size a)
    (w : (Rect.unit (s := S248x128) ![o, 0] ![8, 128] h).shape.Idx → Elt F .f32) (L : List (View.Piece (Elt F) S248x128 .f32))
    (tail : (y 0).val < o → ∃ p ∈ L, y ∈ p.1.set) :
    ∃ p ∈ (⟨Rect.unit (s := S248x128) ![o, 0] ![8, 128] h, w⟩ : View.Piece (Elt F) S248x128 .f32) :: L, y ∈ p.1.set := by
  by_cases hlt : (y 0).val < o
  · obtain ⟨p, hp, hm⟩ := tail hlt
    exact ⟨p, List.mem_cons_of_mem _ hp, hm⟩
  · refine ⟨_, List.mem_cons_self, (LoadRect.mem_set _).2 fun a => ?_⟩
    match a with
    | ⟨0, _⟩ => exact ⟨(y 0).val - o, show (y 0).val - o < 8 by omega, show (y 0).val = o + 1 * ((y 0).val - o) by omega⟩
    | ⟨1, _⟩ => exact ⟨(y 1).val, (y 1).isLt, show (y 1).val = 0 + 1 * (y 1).val by omega⟩

/-- What a loop of such rounds leaves, begun on zeros. -/
theorem sums_read {T : ℕ} (pb : ℕ → List (View.Piece (Elt F) S248x128 .f32))
    (trip : Fin T → BufTy.Contents (Elt F) arg.view.ty → List (View.Piece (Elt F) S248x128 .f32))
    (hs : ∀ k : Fin T, pb (k.val + 1) = trip k (arg.view.writes (Elt F) X (pb k.val)) ++ pb k.val) (h0 : pb 0 = [])
    (hX : Sums K arg X a b 0)
    (hG : ∀ k g, Sums K arg g a b k.val → ∀ p ∈ trip k g, ∀ x, p.2 x = sums a b (k.val + 1) (p.1.emb x))
    (hy : ∀ k g (y : S248x128.Idx), (y 0).val < 8 * K → ∃ p ∈ trip k g, y ∈ p.1.set) :
    Sums K arg (arg.view.writes (Elt F) X (pb T)) a b T := by
  have all : ∀ n, n ≤ T → Sums K arg (arg.view.writes (Elt F) X (pb n)) a b n := fun n => by
    induction n with
    | zero => intro _; rw [h0]; exact hX
    | succ n ih =>
      intro hn y hyK
      rw [hs ⟨n, hn⟩, View.writes_append]
      exact View.read_writes_apply_of_pieces _ _ (sums a b (n + 1)) _ (hG ⟨n, hn⟩ _ (ih (by omega))) y (hy _ _ y hyK)
  exact all T le_rfl
end

end Cert.Kernel2Ideal.Conv
-- ==== Proof.ConvPad.lean ====
/- What the kernel of the mixer's convolutions leaves for one lane group: its values, and how its scratch is filled and read. -/
module

public import proofs.«01_k».proof.Proof.ConvSpec

@[expose] public section

set_option maxRecDepth 16384

noncomputable section

namespace Cert.Kernel2Ideal.Conv

open Cert.Kernel2Ideal.Gen
open Idealize.ShloMosaic Idealize.ShloMosaic.TcCoe Idealize.ShloMosaic.Tactic

variable {sig : RefSig} {F : FTy → Type} [FloatOps F]

/-! ## The values -/

/-- The `f32` zero. -/
def zero : F .f32 := FloatOps.ofBits .f32 0#32

/-- The `f32` one. -/
def one : F .f32 := FloatOps.ofBits .f32 1065353216#32

/-- The logistic function. -/
def logistic (x : F .f32) : F .f32 := FloatOps.divf one (FloatOps.addf one (FloatOps.exp (FloatOps.subf zero x)))

/-- Row `n` of plane `q` of the stored products. -/
def cell5 (x1 : Vec F S5x2176x128 .f32) (q n : ℕ) (l : Fin 128) : F .f32 := x1 (ix3 (Fin.ofNat 5 q) (Fin.ofNat 2176 n) l)

/-- Row `n` of a stored gradient. -/
def cell (x : Vec F S2176x128 .f32) (n : ℕ) (l : Fin 128) : F .f32 := x (ix2 (Fin.ofNat 2176 n) l)

/-- The stored row behind row `n` of a scratch buffer: the sixteen rows kept last come first. -/
def srow (n : ℕ) : ℕ := if n < 48 then 2016 + n else n - 48

/-- Where a stored row lies in a scratch buffer. -/
def pos (n : ℕ) : ℕ := if n < 2048 then n + 48 else n - 2016

/-- A source laid out in a scratch buffer, zeros before and after. -/
def pad (g : ℕ → Fin 128 → F .f32) (n : ℕ) (l : Fin 128) : F .f32 := if 32 ≤ n ∧ n < 2096 then g (srow n) l else zero

/-- The short convolution's source. -/
def srcA (x1 : Vec F S5x2176x128 .f32) (n : ℕ) (l : Fin 128) : F .f32 := FloatOps.mulf (cell5 x1 1 n l) (cell5 x1 2 n l)

/-- The gradient at the short convolution's result. -/
def slopeA (x1 : Vec F S5x2176x128 .f32) (x2 : Vec F S2176x128 .f32) (n : ℕ) (l : Fin 128) : F .f32 :=
  FloatOps.mulf (cell x2 n l) (cell5 x1 0 n l)

/-- The long convolution's source. -/
def srcB (x1 : Vec F S5x2176x128 .f32) (n : ℕ) (l : Fin 128) : F .f32 := FloatOps.mulf (cell5 x1 3 n l) (logistic (cell5 x1 4 n l))

/-- The short convolution's weights. -/
def wA (x4 : Vec F S1x64x256 .f32) : Vec F S3x128 .f32 := fun y => x4 (ix3 0 (Fin.ofNat 64 (16 + (y 0).val)) (Fin.ofNat 256 (y 1).val))

/-- The long convolution's weights. -/
def wB (x4 : Vec F S1x64x256 .f32) : Vec F S31x128 .f32 := fun y => x4 (ix3 0 (Fin.ofNat 64 (24 + (y 0).val)) (Fin.ofNat 256 (y 1).val))

/-- The short convolution. -/
def convA (x1 : Vec F S5x2176x128 .f32) (x4 : Vec F S1x64x256 .f32) (n : ℕ) (l : Fin 128) : F .f32 :=
  taps (weight (wA x4) l) (fun j => pad (srcA x1) (n - 2 + j) l) 3

/-- The short convolution's gradient at its source. -/
def backA (x1 : Vec F S5x2176x128 .f32) (x2 : Vec F S2176x128 .f32) (x4 : Vec F S1x64x256 .f32) (n : ℕ) (l : Fin 128) : F .f32 :=
  taps (weight (wA x4) l) (fun j => pad (slopeA x1 x2) (n + 2 - j) l) 3

/-- The long convolution's gradient at its source. -/
def backB (x3 : Vec F S2176x128 .f32) (x4 : Vec F S1x64x256 .f32) (n : ℕ) (l : Fin 128) : F .f32 :=
  taps (weight (wB x4) l) (fun j => pad (cell x3) (n + 30 - j) l) 31

/-- Row `n` of plane `q` of the gradients at the stored products. -/
def plane (x1 : Vec F S5x2176x128 .f32) (x2 x3 : Vec F S2176x128 .f32) (x4 : Vec F S1x64x256 .f32) (q n : ℕ) (l : Fin 128) : F .f32 :=
  match q with
  | 0 => FloatOps.mulf (cell x2 n l) (convA x1 x4 (pos n) l)
  | 1 => FloatOps.mulf (backA x1 x2 x4 (pos n) l) (cell5 x1 2 n l)
  | 2 => FloatOps.mulf (backA x1 x2 x4 (pos n) l) (cell5 x1 1 n l)
  | 3 => FloatOps.mulf (backB x3 x4 (pos n) l) (logistic (cell5 x1 4 n l))
  | _ => FloatOps.mulf (FloatOps.mulf (FloatOps.mulf (backB x3 x4 (pos n) l) (cell5 x1 3 n l)) (logistic (cell5 x1 4 n l)))
      (FloatOps.subf one (logistic (cell5 x1 4 n l)))

/-- The gradients at the stored products, rounded, zeros in the unused rows. -/
def planes (x1 : Vec F S5x2176x128 .f32) (x2 x3 : Vec F S2176x128 .f32) (x4 : Vec F S1x64x256 .f32) : Vec F S5x2176x128 .bf16 :=
  fun y => if (y 1).val < 2064 then FloatOps.truncf .bf16 bitsLt_bf16_f32 (plane x1 x2 x3 x4 (y 0).val (y 1).val (y 2))
    else FloatOps.ofBits .bf16 0#16

/-- The gradient at the short convolution's weights. -/
def gradA (x1 : Vec F S5x2176x128 .f32) (x2 : Vec F S2176x128 .f32) : Vec F S3x128 .f32 := fun y =>
  FloatOps.reduceAdd [0] reduces_S8x128_S128 (fun z : S8x128.Idx => gather (fun n => pad (slopeA x1 x2) n (z 1))
    (fun n => pad (srcA x1) (n - 2 + (y 0).val) (z 1)) (z 0).val 43) (ix1 (y 1))

/-- The gradient at the long convolution's weights. -/
def gradB (x1 : Vec F S5x2176x128 .f32) (x3 : Vec F S2176x128 .f32) : Vec F S31x128 .f32 := fun y =>
  FloatOps.reduceAdd [0] reduces_S8x128_S128 (fun z : S8x128.Idx => gather (fun n => pad (srcB x1) n (z 1))
    (fun n => pad (cell x3) (n + 30 - (y 0).val) (z 1)) (z 0).val 43) (ix1 (y 1))

/-- The gradient at the long convolution's bias. -/
def gradBias (x3 : Vec F S2176x128 .f32) : Vec F S1x128 .f32 :=
  k0_pay112 (fun z => cell x3 (0 + (z 0).val) (z 1)) (fun z => cell x3 (2048 + (z 0).val) (z 1))

/-! ## The stored values, entry by entry -/

section
variable {n : ℕ} (x : Fin 2048) (y : Fin 16) (l : Fin 128)

theorem wA_apply (v : Vec F S1x3x128 .f32) (j : Fin 3) : k0_pay66 v (ix2 j l) = v (ix3 0 j l) := by pointwise [k0_pay66]

theorem wB_apply (v : Vec F S1x31x128 .f32) (j : Fin 31) : k0_pay67 v (ix2 j l) = v (ix3 0 j l) := by pointwise [k0_pay67]

theorem srcA_first (u v : Vec F S1x2048x128 .f32) :
    k0_pay78 (k0_pay74 u v) (ix2 x l) = FloatOps.mulf (u (ix3 0 x l)) (v (ix3 0 x l)) := by pointwise [k0_pay78, k0_pay74]

theorem srcA_last (u v : Vec F S1x16x128 .f32) :
    k0_pay77 (k0_pay75 u) (k0_pay76 v) (ix2 y l) = FloatOps.mulf (u (ix3 0 y l)) (v (ix3 0 y l)) := by
  pointwise [k0_pay77, k0_pay75, k0_pay76]

theorem slopeA_first (u : Vec F S2048x128 .f32) (v : Vec F S1x2048x128 .f32) :
    k0_pay88 u v (ix2 x l) = FloatOps.mulf (u (ix2 x l)) (v (ix3 0 x l)) := by pointwise [k0_pay88]

theorem slopeA_last (u : Vec F S16x128 .f32) (v : Vec F S1x16x128 .f32) :
    k0_pay87 u v (ix2 y l) = FloatOps.mulf (u (ix2 y l)) (v (ix3 0 y l)) := by pointwise [k0_pay87]

theorem srcB_first (u v : Vec F S1x2048x128 .f32) :
    k0_pay109 (k0_pay105 u v) (ix2 x l) = FloatOps.mulf (u (ix3 0 x l)) (logistic (v (ix3 0 x l))) := by
  pointwise [k0_pay109, k0_pay105]
  rfl

theorem srcB_last (u v : Vec F S1x16x128 .f32) :
    k0_pay108 (k0_pay106 u) (k0_pay107 v) zero (ix2 y l) = FloatOps.mulf (u (ix3 0 y l)) (logistic (v (ix3 0 y l))) := by
  pointwise [k0_pay108, k0_pay106, k0_pay107]
  rfl

theorem slopeB_first (u : Vec F S2048x128 .f32) : k0_pay111 u (ix2 x l) = u (ix2 x l) := by pointwise [k0_pay111]

theorem slopeB_last (u : Vec F S16x128 .f32) : k0_pay110 u (ix2 y l) = u (ix2 y l) := by pointwise [k0_pay110]

/-- A shifted copy keeps the rows it copies. -/
theorem copy_apply (v : Vec F S2120x128 .f32) (n : Fin 2120) : k0_pay79 v (ix3 0 n l) = v (ix2 n l) := by pointwise [k0_pay79]

theorem p0_first (u v : Vec F S2048x128 .f32) : k0_pay84 (k0_pay83 u v) (ix3 0 x l)
    = FloatOps.truncf .bf16 bitsLt_bf16_f32 (FloatOps.mulf (u (ix2 x l)) (v (ix2 x l))) := by pointwise [k0_pay84, k0_pay83]

theorem p0_last (u v : Vec F S16x128 .f32) : k0_pay85 (k0_pay82 u v) (ix3 0 y l)
    = FloatOps.truncf .bf16 bitsLt_bf16_f32 (FloatOps.mulf (u (ix2 y l)) (v (ix2 y l))) := by pointwise [k0_pay85, k0_pay82]

theorem p1_first (u : Vec F S2048x128 .f32) (v : Vec F S1x2048x128 .f32) : k0_pay98 u v (ix3 0 x l)
    = FloatOps.truncf .bf16 bitsLt_bf16_f32 (FloatOps.mulf (u (ix2 x l)) (v (ix3 0 x l))) := by pointwise [k0_pay98]

theorem p1_last (u : Vec F S16x128 .f32) (v : Vec F S1x16x128 .f32) : k0_pay99 u v (ix3 0 y l)
    = FloatOps.truncf .bf16 bitsLt_bf16_f32 (FloatOps.mulf (u (ix2 y l)) (v (ix3 0 y l))) := by pointwise [k0_pay99]

theorem p2_first (u : Vec F S2048x128 .f32) (v : Vec F S1x2048x128 .f32) : k0_pay102 (k0_pay101 u v) (ix3 0 x l)
    = FloatOps.truncf .bf16 bitsLt_bf16_f32 (FloatOps.mulf (u (ix2 x l)) (v (ix3 0 x l))) := by pointwise [k0_pay102, k0_pay101]

theorem p2_last (u : Vec F S16x128 .f32) (v : Vec F S1x16x128 .f32) : k0_pay103 u v (ix3 0 y l)
    = FloatOps.truncf .bf16 bitsLt_bf16_f32 (FloatOps.mulf (u (ix2 y l)) (v (ix3 0 y l))) := by pointwise [k0_pay103]

theorem p3_first (u : Vec F S1x2048x128 .f32) (v : Vec F S2048x128 .f32) : k0_pay162 (k0_pay160 u) v (ix3 0 x l)
    = FloatOps.truncf .bf16 bitsLt_bf16_f32 (FloatOps.mulf (v (ix2 x l)) (logistic (u (ix3 0 x l)))) := by
  pointwise [k0_pay162, k0_pay160]
  rfl

theorem p3_last (u : Vec F S1x16x128 .f32) (v : Vec F S16x128 .f32) : k0_pay163 u v (ix3 0 y l)
    = FloatOps.truncf .bf16 bitsLt_bf16_f32 (FloatOps.mulf (v (ix2 y l)) (logistic (u (ix3 0 y l)))) := by
  pointwise [k0_pay163, k0_pay161]
  rfl

theorem p4_first (u w : Vec F S1x2048x128 .f32) (v : Vec F S2048x128 .f32) : k0_pay1 (k0_pay165 (k0_pay160 u) v w) (ix3 0 x l)
    = FloatOps.truncf .bf16 bitsLt_bf16_f32 (FloatOps.mulf (FloatOps.mulf (FloatOps.mulf (v (ix2 x l)) (w (ix3 0 x l)))
        (logistic (u (ix3 0 x l)))) (FloatOps.subf one (logistic (u (ix3 0 x l))))) := by
  pointwise [k0_pay1, k0_pay165, k0_pay160]
  rfl

theorem p4_last (u w : Vec F S1x16x128 .f32) (v : Vec F S16x128 .f32) : k0_pay2 (k0_pay161 u) v w (ix3 0 y l)
    = FloatOps.truncf .bf16 bitsLt_bf16_f32 (FloatOps.mulf (FloatOps.mulf (FloatOps.mulf (v (ix2 y l)) (w (ix3 0 y l)))
        (logistic (u (ix3 0 y l)))) (FloatOps.subf one (logistic (u (ix3 0 y l))))) := by
  pointwise [k0_pay2, k0_pay161]
  rfl

theorem rest_apply (y : Fin 112) : k0_pay3 (F := F) (ix3 0 y l) = FloatOps.ofBits .bf16 0#16 := by pointwise [k0_pay3]

theorem zeros32_apply (y : Fin 32) : k0_pay69 (F := F) (ix2 y l) = zero := by
  pointwise [k0_pay69, k0_pay68]
  rfl

theorem zeros248_apply (y : Fin 248) : k0_pay89 (F := F) (ix2 y l) = zero := by
  pointwise [k0_pay89]
  rfl
end

/-! ## Loads of the inputs -/

theorem load5 (arg : Memref sig .tc .vmem S5x2176x128 .f32) (f : BufTy.Contents (Elt F) arg.view.ty) {W q b : ℕ}
    (h : ∀ a, (![q, b, 0] : Fin 3 → ℕ) a + (![1, W, 128] : Fin 3 → ℕ) a ≤ S5x2176x128.size a) (z : Fin 1) (x : Fin W) (l : Fin 128) :
    View.readAt (Elt F) arg.view (Rect.unit (s := S5x2176x128) ![q, b, 0] ![1, W, 128] h).toLoadRect f (ix3 z x l)
      = cell5 (arg.view.read (Elt F) f) q (b + x.val) l := by
  have h0 : q + 1 ≤ 5 := h 0
  have h1 : b + W ≤ 2176 := h 1
  rw [View.readAt_apply]
  refine congrArg (arg.view.read (Elt F) f) ?_
  funext a
  refine Fin.ext ?_
  match a with
  | ⟨0, _⟩ => show q + 1 * z.val = q % 5; omega
  | ⟨1, _⟩ => show b + 1 * x.val = (b + x.val) % 2176; omega
  | ⟨2, _⟩ => show 0 + 1 * l.val = l.val; omega

theorem load2 (arg : Memref sig .tc .vmem S2176x128 .f32) (f : BufTy.Contents (Elt F) arg.view.ty) {W b : ℕ}
    (h : ∀ a, (![b, 0] : Fin 2 → ℕ) a + (![W, 128] : Fin 2 → ℕ) a ≤ S2176x128.size a) (x : Fin W) (l : Fin 128) :
    View.readAt (Elt F) arg.view (Rect.unit (s := S2176x128) ![b, 0] ![W, 128] h).toLoadRect f (ix2 x l)
      = cell (arg.view.read (Elt F) f) (b + x.val) l := by
  have h1 : b + W ≤ 2176 := h 0
  rw [View.readAt_apply]
  refine congrArg (arg.view.read (Elt F) f) ?_
  funext a
  refine Fin.ext ?_
  match a with
  | ⟨0, _⟩ => show b + 1 * x.val = (b + x.val) % 2176; omega
  | ⟨1, _⟩ => show 0 + 1 * l.val = l.val; omega

theorem loadW (arg : Memref sig .tc .vmem S1x64x256 .f32) (f : BufTy.Contents (Elt F) arg.view.ty) {W b : ℕ}
    (h : ∀ a, (![0, b, 0] : Fin 3 → ℕ) a + (![1, W, 128] : Fin 3 → ℕ) a ≤ S1x64x256.size a) (x : Fin W) (l : Fin 128) :
    View.readAt (Elt F) arg.view (Rect.unit (s := S1x64x256) ![0, b, 0] ![1, W, 128] h).toLoadRect f (ix3 0 x l)
      = arg.view.read (Elt F) f (ix3 0 (Fin.ofNat 64 (b + x.val)) (Fin.ofNat 256 l.val)) := by
  have h1 : b + W ≤ 64 := h 1
  rw [View.readAt_apply]
  refine congrArg (arg.view.read (Elt F) f) ?_
  funext a
  refine Fin.ext ?_
  match a with
  | ⟨0, _⟩ => rfl
  | ⟨1, _⟩ => show b + 1 * x.val = (b + x.val) % 64; omega
  | ⟨2, _⟩ => show 0 + 1 * l.val = l.val % 256; omega

/-! ## Filling the scratch -/

section
variable {arg : Memref sig .tc .vmem S2128x128 .f32} {f : BufTy.Contents (Elt F) arg.view.ty} {L : List (View.Piece (Elt F) S2128x128 .f32)}

/-- Zero outside the rows a source fills. -/
def Clear (arg : Memref sig .tc .vmem S2128x128 .f32) (X : BufTy.Contents (Elt F) arg.view.ty) : Prop :=
  ∀ (n : Fin 2128) (l : Fin 128), (n.val < 32 ∨ 2096 ≤ n.val) → arg.view.read (Elt F) X (ix2 n l) = zero

theorem clear_zeros (h : ∀ a, (![2096, 0] : Fin 2 → ℕ) a + (![32, 128] : Fin 2 → ℕ) a ≤ S2128x128.size a)
    (h' : ∀ a, (![0, 0] : Fin 2 → ℕ) a + (![32, 128] : Fin 2 → ℕ) a ≤ S2128x128.size a) (w w' : S32x128.Idx → F .f32)
    (hw : ∀ x l, w (ix2 x l) = zero) (hw' : ∀ x l, w' (ix2 x l) = zero) :
    Clear arg (arg.view.writes (Elt F) f (⟨Rect.unit (s := S2128x128) ![2096, 0] ![32, 128] h, w⟩
      :: ⟨Rect.unit (s := S2128x128) ![0, 0] ![32, 128] h', w'⟩ :: L)) := fun n l hn => by
  by_cases h2 : 2096 ≤ n.val
  · exact (View.read_writes_cons_rows_of_mem arg.view f h w _ (ix2 n l) (ix2 ⟨n.val - 2096, by omega⟩ l) rfl
      (show n.val = 2096 + (n.val - 2096) by omega) rfl).trans (hw _ l)
  · refine (View.read_writes_cons_rows_of_not_mem arg.view f h w _ (ix2 n l) rfl rfl (.inl (show n.val < 2096 by omega))).trans ?_
    exact (View.read_writes_cons_rows_of_mem arg.view f h' w' _ (ix2 n l) (ix2 ⟨n.val, by omega⟩ l) rfl
      (show n.val = 0 + n.val by omega) rfl).trans (hw' _ l)

theorem Rows.clear {X : BufTy.Contents (Elt F) arg.view.ty} {g : ℕ → Fin 128 → F .f32} (h : Rows arg X (pad g)) : Clear arg X :=
  fun n l hn => (h n l).trans (if_neg (by omega))

/-- A source written between zeros. -/
theorem rows_fill {g : ℕ → Fin 128 → F .f32} (hL : Clear arg (arg.view.writes (Elt F) f L))
    (h : ∀ a, (![48, 0] : Fin 2 → ℕ) a + (![2048, 128] : Fin 2 → ℕ) a ≤ S2128x128.size a)
    (h' : ∀ a, (![32, 0] : Fin 2 → ℕ) a + (![16, 128] : Fin 2 → ℕ) a ≤ S2128x128.size a) (w : S2048x128.Idx → F .f32)
    (w' : S16x128.Idx → F .f32) (hw : ∀ x l, w (ix2 x l) = g (0 + x.val) l) (hw' : ∀ x l, w' (ix2 x l) = g (2048 + x.val) l) :
    Rows arg (arg.view.writes (Elt F) f (⟨Rect.unit (s := S2128x128) ![48, 0] ![2048, 128] h, w⟩
      :: ⟨Rect.unit (s := S2128x128) ![32, 0] ![16, 128] h', w'⟩ :: L)) (pad g) := fun n l => by
  unfold pad srow
  by_cases h2 : 48 ≤ n.val ∧ n.val < 2096
  · refine (View.read_writes_cons_rows_of_mem arg.view f h w _ (ix2 n l) (ix2 ⟨n.val - 48, by omega⟩ l) rfl
      (show n.val = 48 + (n.val - 48) by omega) rfl).trans ((hw _ l).trans ?_)
    rw [if_pos (by omega), if_neg (by omega)]
    exact congrArg₂ g (by show 0 + (n.val - 48) = n.val - 48; omega) rfl
  · refine (View.read_writes_cons_rows_of_not_mem arg.view f h w _ (ix2 n l) rfl rfl
      (show n.val < 48 ∨ 48 + 2048 ≤ n.val by omega)).trans ?_
    by_cases h3 : 32 ≤ n.val ∧ n.val < 48
    · refine (View.read_writes_cons_rows_of_mem arg.view f h' w' _ (ix2 n l) (ix2 ⟨n.val - 32, by omega⟩ l) rfl
        (show n.val = 32 + (n.val - 32) by omega) rfl).trans ((hw' _ l).trans ?_)
      rw [if_pos (by omega), if_pos (by omega)]
      exact congrArg₂ g (by show 2048 + (n.val - 32) = 2016 + n.val; omega) rfl
    · refine (View.read_writes_cons_rows_of_not_mem arg.view f h' w' _ (ix2 n l) rfl rfl
        (show n.val < 32 ∨ 32 + 16 ≤ n.val by omega)).trans ((hL n l (by omega)).trans ?_)
      rw [if_neg (by omega)]

/-- A run of rows read back out of a filled buffer. -/
theorem Rows.cov {G : ℕ → Fin 128 → F .f32} (hL : Rows arg (arg.view.writes (Elt F) arg.view.junk L) G) {W b : ℕ}
    (h : ∀ a, (![b, 0] : Fin 2 → ℕ) a + (![W, 128] : Fin 2 → ℕ) a ≤ S2128x128.size a) (x : Fin W) (l : Fin 128) :
    arg.view.readCov L (Rect.unit (s := S2128x128) ![b, 0] ![W, 128] h).toLoadRect (ix2 x l) = G (b + x.val) l :=
  hL.load rfl h x l

/-- Reads as `G` between the zeros. -/
def Inner (arg : Memref sig .tc .vmem S2128x128 .f32) (X : BufTy.Contents (Elt F) arg.view.ty) (G : ℕ → Fin 128 → F .f32) : Prop :=
  ∀ (n : Fin 2128) (l : Fin 128), 32 ≤ n.val → n.val < 2096 → arg.view.read (Elt F) X (ix2 n l) = G n.val l

theorem Inner.load {X : BufTy.Contents (Elt F) arg.view.ty} {G : ℕ → Fin 128 → F .f32} (hX : Inner arg X G) {W b : ℕ} (hb : 32 ≤ b)
    (hW : b + W ≤ 2096) (h : ∀ a, (![b, 0] : Fin 2 → ℕ) a + (![W, 128] : Fin 2 → ℕ) a ≤ S2128x128.size a) (x : Fin W) (l : Fin 128) :
    View.readAt (Elt F) arg.view (Rect.unit (s := S2128x128) ![b, 0] ![W, 128] h).toLoadRect X (ix2 x l) = G (b + x.val) l := by
  refine Eq.trans ?_ (hX ⟨b + x.val, by omega⟩ l (by show 32 ≤ b + x.val; omega) (by show b + x.val < 2096; omega))
  rw [View.readAt_apply]
  exact congrArg (arg.view.read (Elt F) X) (emb_rows rfl h x l).2

theorem Inner.append {A : List (View.Piece (Elt F) S2128x128 .f32)} {G : ℕ → Fin 128 → F .f32}
    (h : ∀ f, Inner arg (arg.view.writes (Elt F) f A) G) : Inner arg (arg.view.writes (Elt F) f (A ++ L)) G := by
  rw [View.writes_append]
  exact h _
end

section
variable {arg : Memref sig .tc .vmem S2128x128 .f32} {X : BufTy.Contents (Elt F) arg.view.ty} {G : ℕ → Fin 128 → F .f32}

theorem Inner.first (hX : Inner arg X G) (h : ∀ a, (![48, 0] : Fin 2 → ℕ) a + (![2048, 128] : Fin 2 → ℕ) a ≤ S2128x128.size a)
    (x : Fin 2048) (l : Fin 128) :
    View.readAt (Elt F) arg.view (Rect.unit (s := S2128x128) ![48, 0] ![2048, 128] h).toLoadRect X (ix2 x l) = G (pos (0 + x.val)) l :=
  (hX.load (by decide) (by decide) h x l).trans (congrArg₂ G (by unfold pos; rw [if_pos (by omega)]; omega) rfl)

theorem Inner.last (hX : Inner arg X G) (h : ∀ a, (![32, 0] : Fin 2 → ℕ) a + (![16, 128] : Fin 2 → ℕ) a ≤ S2128x128.size a)
    (x : Fin 16) (l : Fin 128) :
    View.readAt (Elt F) arg.view (Rect.unit (s := S2128x128) ![32, 0] ![16, 128] h).toLoadRect X (ix2 x l) = G (pos (2048 + x.val)) l :=
  (hX.load (by decide) (by decide) h x l).trans (congrArg₂ G (by unfold pos; rw [if_neg (by omega)]; omega) rfl)
end

section
variable {arg : Memref sig .tc .vmem S7x2128x128 .f32} {f : BufTy.Contents (Elt F) arg.view.ty} {L : List (View.Piece (Elt F) S7x2128x128 .f32)}
  {lo : ℕ} {G : ℕ → Fin 128 → F .f32}

theorem Shifts.none (X : BufTy.Contents (Elt F) arg.view.ty) : Shifts lo arg X G lo := fun q n l h1 h2 => by omega

/-- One more shifted copy. -/
theorem Shifts.cons {q : ℕ} (hL : Shifts lo arg (arg.view.writes (Elt F) f L) G q)
    (h : ∀ a, (![q, 0, 0] : Fin 3 → ℕ) a + (![1, 2120, 128] : Fin 3 → ℕ) a ≤ S7x2128x128.size a) (w : S1x2120x128.Idx → F .f32)
    (hw : ∀ x l, w (ix3 0 x l) = G (q + 1 + x.val) l) :
    Shifts lo arg (arg.view.writes (Elt F) f (⟨Rect.unit (s := S7x2128x128) ![q, 0, 0] ![1, 2120, 128] h, w⟩ :: L)) G (q + 1) :=
  fun p n l h1 h2 h3 => by
    by_cases hq : p.val = q
    · refine (View.read_writes_cons_unit_of_mem arg.view f h w L (ix3 p n l) (ix3 0 ⟨n.val, h3⟩ l) rfl fun a => ?_).trans
        ((hw _ l).trans (congrArg₂ G (by show q + 1 + n.val = p.val + 1 + n.val; omega) rfl))
      match a with
      | ⟨0, _⟩ => show p.val = q + 0; omega
      | ⟨1, _⟩ => show n.val = 0 + n.val; omega
      | ⟨2, _⟩ => show l.val = 0 + l.val; omega
    · exact (View.read_writes_cons_unit_of_not_mem arg.view f h w L (ix3 p n l) rfl 0
        (show p.val < q ∨ q + 1 ≤ p.val by omega)).trans (hL p n l h1 (by omega) h3)
end

section
variable {arg : Memref sig .tc .vmem S248x128 .f32} {f : BufTy.Contents (Elt F) arg.view.ty} {L : List (View.Piece (Elt F) S248x128 .f32)}
  {K k : ℕ} {a : ℕ → Fin 128 → F .f32} {b : ℕ → ℕ → Fin 128 → F .f32}

/-- Gradients begun at zero. -/
theorem sums_zero (h : ∀ a, (![0, 0] : Fin 2 → ℕ) a + (![248, 128] : Fin 2 → ℕ) a ≤ S248x128.size a) (w : S248x128.Idx → F .f32)
    (hw : ∀ x l, w (ix2 x l) = zero) :
    Sums K arg (arg.view.writes (Elt F) f (⟨Rect.unit (s := S248x128) ![0, 0] ![248, 128] h, w⟩ :: L)) a b 0 := fun y _ => by
  refine (View.read_writes_cons_rows_of_mem arg.view f h w L y (ix2 (y 0) (y 1)) rfl (Nat.zero_add _).symm rfl).trans (hw _ _)

theorem Sums.cov {A : List (View.Piece (Elt F) S248x128 .f32)}
    (hX : Sums K arg (arg.view.writes (Elt F) (arg.view.writes (Elt F) arg.view.junk L) A) a b k) {o : ℕ} (ho : o % 8 = 0)
    (h : ∀ a, (![o, 0] : Fin 2 → ℕ) a + (![8, 128] : Fin 2 → ℕ) a ≤ S248x128.size a) (hK : o < 8 * K) :
    arg.view.readCov (A ++ L) (Rect.unit (s := S248x128) ![o, 0] ![8, 128] h).toLoadRect
      = fun z => gather (fun n => a n (z 1)) (fun n => b (o / 8) n (z 1)) (z 0).val k := by
  rw [← View.writes_append] at hX
  funext z
  rw [eq_ix2 z]
  exact hX.load ho h hK (z 0) (z 1)
end

/-! ## The pieces stored into the outputs -/

section
variable {x1 : Vec F S5x2176x128 .f32} {x2 x3 : Vec F S2176x128 .f32} {x4 : Vec F S1x64x256 .f32}

theorem emb_plane {q b W : ℕ} (h : ∀ a, (![q, b, 0] : Fin 3 → ℕ) a + (![1, W, 128] : Fin 3 → ℕ) a ≤ S5x2176x128.size a)
    (z : Fin 1) (x : Fin W) (l : Fin 128) :
    planes x1 x2 x3 x4 ((Rect.unit (s := S5x2176x128) ![q, b, 0] ![1, W, 128] h).emb (ix3 z x l))
      = if b + x.val < 2064 then FloatOps.truncf .bf16 bitsLt_bf16_f32 (plane x1 x2 x3 x4 q (b + x.val) l)
        else FloatOps.ofBits .bf16 0#16 := by
  have e0 : (((Rect.unit (s := S5x2176x128) ![q, b, 0] ![1, W, 128] h).emb (ix3 z x l)) 0).val = q := by
    show q + 1 * z.val = q; omega
  have e1 : (((Rect.unit (s := S5x2176x128) ![q, b, 0] ![1, W, 128] h).emb (ix3 z x l)) 1).val = b + x.val := by
    show b + 1 * x.val = b + x.val; omega
  have e2 : ((Rect.unit (s := S5x2176x128) ![q, b, 0] ![1, W, 128] h).emb (ix3 z x l)) 2 = l :=
    Fin.ext (by show 0 + 1 * l.val = l.val; omega)
  unfold planes
  rw [e0, e1, e2]

/-- A run of a plane's rows. -/
theorem plane_piece {q b W : ℕ} (h : ∀ a, (![q, b, 0] : Fin 3 → ℕ) a + (![1, W, 128] : Fin 3 → ℕ) a ≤ S5x2176x128.size a)
    (hW : b + W ≤ 2064) (w : (⟨3, ![1, W, 128]⟩ : Shape).Idx → F .bf16)
    (hw : ∀ (x : Fin W) l, w (ix3 0 x l) = FloatOps.truncf .bf16 bitsLt_bf16_f32 (plane x1 x2 x3 x4 q (b + x.val) l))
    (y : (⟨3, ![1, W, 128]⟩ : Shape).Idx) :
    w y = planes x1 x2 x3 x4 ((Rect.unit (s := S5x2176x128) ![q, b, 0] ![1, W, 128] h).emb y) := by
  obtain ⟨z, x, l, rfl⟩ : ∃ (z : Fin 1) (x : Fin W) (l : Fin 128), y = ix3 z x l := ⟨y 0, y 1, y 2, eq_ix3 y⟩
  obtain rfl : z = 0 := Subsingleton.elim _ _
  rw [emb_plane, if_pos (by omega)]
  exact hw x l

/-- A plane's unused rows. -/
theorem plane_rest {q : ℕ} (h : ∀ a, (![q, 2064, 0] : Fin 3 → ℕ) a + (![1, 112, 128] : Fin 3 → ℕ) a ≤ S5x2176x128.size a)
    (w : S1x112x128.Idx → F .bf16) (hw : ∀ x l, w (ix3 0 x l) = FloatOps.ofBits .bf16 0#16) (y : S1x112x128.Idx) :
    w y = planes x1 x2 x3 x4 ((Rect.unit (s := S5x2176x128) ![q, 2064, 0] ![1, 112, 128] h).emb y) := by
  obtain ⟨z, x, l, rfl⟩ : ∃ (z : Fin 1) (x : Fin 112) (l : Fin 128), y = ix3 z x l := ⟨y 0, y 1, y 2, eq_ix3 y⟩
  obtain rfl : z = 0 := Subsingleton.elim _ _
  exact (hw x l).trans ((emb_plane h 0 x l).trans (if_neg (by omega))).symm

/-- Planes found among the pieces written, last to first. -/
theorem cover_planes {q b W : ℕ} {y : S5x2176x128.Idx} (hy : 2176 * (y 0).val + (y 1).val < 2176 * q + b + W)
    (h : ∀ a, (![q, b, 0] : Fin 3 → ℕ) a + (![1, W, 128] : Fin 3 → ℕ) a ≤ S5x2176x128.size a)
    (w : (Rect.unit (s := S5x2176x128) ![q, b, 0] ![1, W, 128] h).shape.Idx → Elt F .bf16) (L : List (View.Piece (Elt F) S5x2176x128 .bf16))
    (tail : 2176 * (y 0).val + (y 1).val < 2176 * q + b → ∃ p ∈ L, y ∈ p.1.set) :
    ∃ p ∈ (⟨Rect.unit (s := S5x2176x128) ![q, b, 0] ![1, W, 128] h, w⟩ : View.Piece (Elt F) S5x2176x128 .bf16) :: L, y ∈ p.1.set := by
  have hb : b + W ≤ 2176 := h 1
  have h1 : (y 1).val < 2176 := (y 1).isLt
  by_cases hlt : 2176 * (y 0).val + (y 1).val < 2176 * q + b
  · obtain ⟨p, hp, hm⟩ := tail hlt
    exact ⟨p, List.mem_cons_of_mem _ hp, hm⟩
  · refine ⟨_, List.mem_cons_self, (LoadRect.mem_set _).2 fun a => ?_⟩
    match a with
    | ⟨0, _⟩ => exact ⟨0, Nat.one_pos, show (y 0).val = q + 1 * 0 by omega⟩
    | ⟨1, _⟩ => exact ⟨(y 1).val - b, show (y 1).val - b < W by omega, show (y 1).val = b + 1 * ((y 1).val - b) by omega⟩
    | ⟨2, _⟩ => exact ⟨(y 2).val, (y 2).isLt, show (y 2).val = 0 + 1 * (y 2).val by omega⟩
end

/-- One row of the weights' gradients, among those stored. -/
theorem row_piece {n j : ℕ} {G : (⟨2, ![n, 128]⟩ : Shape).Idx → F .f32}
    (h : ∀ a, (![j, 0] : Fin 2 → ℕ) a + (![1, 128] : Fin 2 → ℕ) a ≤ (![n, 128] : Fin 2 → ℕ) a) (w : S1x128.Idx → F .f32)
    (hj : j < n) (hw : ∀ l, w (ix2 0 l) = G (ix2 ⟨j, hj⟩ l)) (x : S1x128.Idx) :
    w x = G ((Rect.unit (s := ⟨2, ![n, 128]⟩) ![j, 0] ![1, 128] h).emb x) := by
  obtain ⟨z, l, rfl⟩ : ∃ (z : Fin 1) (l : Fin 128), x = ix2 z l := ⟨x 0, x 1, eq_ix2 x⟩
  obtain rfl : z = 0 := Subsingleton.elim _ _
  refine (hw l).trans (congrArg G ?_)
  funext a
  refine Fin.ext ?_
  match a with
  | ⟨0, _⟩ => rfl
  | ⟨1, _⟩ => show l.val = 0 + 1 * l.val; omega

theorem cover_rows {n j : ℕ} {y : (⟨2, ![n, 128]⟩ : Shape).Idx} (hy : (y 0).val < j + 1)
    (h : ∀ a, (![j, 0] : Fin 2 → ℕ) a + (![1, 128] : Fin 2 → ℕ) a ≤ (![n, 128] : Fin 2 → ℕ) a)
    (w : (Rect.unit (s := ⟨2, ![n, 128]⟩) ![j, 0] ![1, 128] h).shape.Idx → Elt F .f32) (L : List (View.Piece (Elt F) ⟨2, ![n, 128]⟩ .f32))
    (tail : (y 0).val < j → ∃ p ∈ L, y ∈ p.1.set) :
    ∃ p ∈ (⟨Rect.unit (s := ⟨2, ![n, 128]⟩) ![j, 0] ![1, 128] h, w⟩ : View.Piece (Elt F) ⟨2, ![n, 128]⟩ .f32) :: L, y ∈ p.1.set := by
  by_cases hlt : (y 0).val < j
  · obtain ⟨p, hp, hm⟩ := tail hlt
    exact ⟨p, List.mem_cons_of_mem _ hp, hm⟩
  · refine ⟨_, List.mem_cons_self, (LoadRect.mem_set _).2 fun a => ?_⟩
    match a with
    | ⟨0, _⟩ => exact ⟨0, Nat.one_pos, show (y 0).val = j + 1 * 0 by omega⟩
    | ⟨1, _⟩ => exact ⟨(y 1).val, (y 1).isLt, show (y 1).val = 0 + 1 * (y 1).val by omega⟩

end Cert.Kernel2Ideal.Conv
-- ==== Proof.ConvLoops.lean ====
/- The mixer's convolutions in the kernel: what its five loops leave in the scratch buffers, from what their inputs read as. -/
module

public import proofs.«01_k».proof.Proof.ConvSpec

@[expose] public section

set_option maxRecDepth 16384

noncomputable section

namespace Cert.Kernel2Ideal.Conv

open Cert.Kernel2Ideal.Gen
open Idealize.ShloMosaic Idealize.ShloMosaic.TcCoe Idealize.ShloMosaic.Tactic

variable {F : FTy → Type} [FloatOps F]

variable {c : Dev nD} {i : grid0.Coords} {arg1 : Memref sig .tc .vmem S5x2176x128 .f32} {harg1 : arg1.IsWhole} {arg2 : Memref sig .tc .vmem S2176x128 .f32} {harg2 : arg2.IsWhole} {arg3 : Memref sig .tc .vmem S2176x128 .f32} {harg3 : arg3.IsWhole} {arg4 : Memref sig .tc .vmem S1x64x256 .f32} {harg4 : arg4.IsWhole} {arg5 : Memref sig .tc .vmem S5x2176x128 .bf16} {harg5 : arg5.IsWhole} {arg6 : Memref sig .tc .vmem S3x128 .f32} {harg6 : arg6.IsWhole} {arg7 : Memref sig .tc .vmem S31x128 .f32} {harg7 : arg7.IsWhole} {arg8 : Memref sig .tc .vmem S1x128 .f32} {harg8 : arg8.IsWhole} {arg9 : Memref sig .tc .vmem S2128x128 .f32} {harg9 : arg9.IsWhole} {arg10 : Memref sig .tc .vmem S2128x128 .f32} {harg10 : arg10.IsWhole} {arg11 : Memref sig .tc .vmem S2128x128 .f32} {harg11 : arg11.IsWhole} {arg12 : Memref sig .tc .vmem S248x128 .f32} {harg12 : arg12.IsWhole} {arg13 : Memref sig .tc .vmem S7x2128x128 .f32} {harg13 : arg13.IsWhole} {arg14 : Memref sig .tc .vmem S7x2128x128 .f32} {harg14 : arg14.IsWhole}

/-- Rows of 48 from row 32 on: where a row lies. -/
theorem chunk {n : ℕ} (h1 : 32 ≤ n) (h2 : n < 2096) : (n - 32) / 48 < 43 ∧ 48 * ((n - 32) / 48) + 32 ≤ n ∧ n < 48 * ((n - 32) / 48) + 32 + 48 := by
  omega

theorem off1 : ∀ k : Fin k0_t1_loop.trips, k0_off1 k = ![5, 48 * k.val + 24, 0] ∧ k0_off2 k = ![6, 48 * k.val + 24, 0]
    ∧ k0_off3 k = ![48 * k.val + 32, 0] ∧ k0_off4 k = ![48 * k.val + 32, 0] := by decide +kernel

/-- The gate's convolution forwards. -/
theorem conv1 {v1 : FVec F S3x128 .f32} {v22 : FVec F S2048x128 .f32} {v24 v26 : FVec F S16x128 .f32} {X9 : BufTy.Contents (Elt F) arg9.view.ty}
    {X13 : BufTy.Contents (Elt F) arg13.view.ty} {S : ℕ → Fin 128 → F .f32} (h9 : Rows arg9 X9 S) (h13 : Shifts 5 arg13 X13 S)
    (f : BufTy.Contents (Elt F) arg11.view.ty) (n : Fin 2128) (l : Fin 128) (h1 : 32 ≤ n.val) (h2 : n.val < 2096) :
    arg11.view.read (Elt F) (arg11.view.writes (Elt F) f (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 v1 v22 v24 v26 X9 X13 k0_t1_loop.trips)) (ix2 n l)
      = taps (weight v1 l) (fun j => S (n.val - 2 + j) l) 3 := by
  refine loop_read (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 v1 v22 v24 v26 X9 X13) _ (fun k => pb_k0_t1_succ ..) f
    (fun y => taps (weight v1 (y 1)) (fun j => S ((y 0).val - 2 + j) (y 1)) 3) (fun k p hp x => ?_) rfl (ix2 n l)
    ⟨⟨(n.val - 32) / 48, (chunk h1 h2).1⟩, ?_⟩
  · unfold tripL_k0_t1 trip_k0_t1 at hp
    obtain rfl := List.mem_singleton.1 hp
    obtain ⟨o1, o2, o3, o4⟩ := off1 k
    have hk : k.val < 43 := k.isLt
    obtain ⟨a, l, rfl⟩ : ∃ (a : Fin 48) (l : Fin 128), x = ix2 a l := ⟨x 0, x 1, eq_ix2 x⟩
    obtain ⟨hx, e⟩ := emb_rows o4 (h := k0_off4_inb k) a l
    refine Eq.trans ?_ (congrArg (fun y : S2128x128.Idx => taps (weight v1 (y 1)) (fun j => S ((y 0).val - 2 + j) (y 1)) 3) e.symm)
    pointwise [k0_pay81]
    refine congrArg₂ _ (congrArg₂ _ (congrArg₂ _ rfl (congrArg _ ?_)) (congrArg _ ?_)) (congrArg _ ?_)
    · exact (h13.load o1 _ le_rfl (by decide) (by omega) _ _ _).trans (congrArg₂ S (by simp only [ix2_0]; omega) rfl)
    · exact (h13.load o2 _ (by decide) (by decide) (by omega) _ _ _).trans (congrArg₂ S (by simp only [ix2_0]; omega) rfl)
    · exact (h9.load o3 _ _ _).trans (congrArg₂ S (by simp only [ix2_0]; omega) rfl)
  · unfold tripL_k0_t1 trip_k0_t1
    exact ⟨_, List.mem_singleton_self _, mem_rows (off1 _).2.2.2 (k0_off4_inb _) n l (chunk h1 h2).2.1 (chunk h1 h2).2.2⟩

/-! ## The wide convolution and the narrow one backwards -/

theorem off3 : ∀ k : Fin k0_t3_loop.trips, k0_off9 k = ![1, 48 * k.val + 32, 0] ∧ k0_off10 k = ![0, 48 * k.val + 32, 0]
    ∧ k0_off11 k = ![48 * k.val + 32, 0] ∧ k0_off12 k = ![48 * k.val + 32, 0] := by decide +kernel

/-- The gate's convolution backwards. -/
theorem conv3 {v1 : FVec F S3x128 .f32} {w0 w1 : BitVec 32} {X10 : BufTy.Contents (Elt F) arg10.view.ty}
    {X14 : BufTy.Contents (Elt F) arg14.view.ty} {D : ℕ → Fin 128 → F .f32} (h10 : Rows arg10 X10 D) (h14 : Shifts 0 arg14 X14 D 2)
    (f : BufTy.Contents (Elt F) arg11.view.ty) (n : Fin 2128) (l : Fin 128) (h1 : 32 ≤ n.val) (h2 : n.val < 2096) :
    arg11.view.read (Elt F) (arg11.view.writes (Elt F) f (pb_k0_t3 Variants.none c none i arg1 harg1 arg2 harg2 arg3 harg3 arg4 harg4 arg5 harg5 arg6 harg6 arg7 harg7 arg8 harg8 arg9 harg9 arg10 harg10 arg11 harg11 arg12 harg12 arg13 harg13 arg14 harg14 v1 w0 w1 X10 X14 k0_t3_loop.trips)) (ix2 n l)
      = taps (weight v1 l) (fun j => D (n.val + 2 - j) l) 3 := by
  refine loop_read (pb_k0_t3 Variants.none c none i arg1 harg1 arg2 harg2 arg3 harg3 arg4 harg4 arg5 harg5 arg6 harg6 arg7 harg7 arg8 harg8 arg9 harg9 arg10 harg10 arg11 harg11 arg12 harg12 arg13 harg13 arg14 harg14 v1 w0 w1 X10 X14) _ (fun k => pb_k0_t3_succ ..) f
    (fun y => taps (weight v1 (y 1)) (fun j => D ((y 0).val + 2 - j) (y 1)) 3) (fun k p hp x => ?_) rfl (ix2 n l)
    ⟨⟨(n.val - 32) / 48, (chunk h1 h2).1⟩, ?_⟩
  · unfold tripL_k0_t3 trip_k0_t3 at hp
    obtain rfl := List.mem_singleton.1 hp
    obtain ⟨o1, o2, o3, o4⟩ := off3 k
    have hk : k.val < 43 := k.isLt
    obtain ⟨a, l, rfl⟩ : ∃ (a : Fin 48) (l : Fin 128), x = ix2 a l := ⟨x 0, x 1, eq_ix2 x⟩
    obtain ⟨hx, e⟩ := emb_rows o4 (h := k0_off12_inb k) a l
    refine Eq.trans ?_ (congrArg (fun y : S2128x128.Idx => taps (weight v1 (y 1)) (fun j => D ((y 0).val + 2 - j) (y 1)) 3) e.symm)
    pointwise [k0_pay97]
    refine congrArg₂ _ (congrArg₂ _ (congrArg₂ _ rfl (congrArg _ ?_)) (congrArg _ ?_)) (congrArg _ ?_)
    · exact (h14.load o1 _ (by decide) (by decide) (by omega) _ _ _).trans (congrArg₂ D (by simp only [ix2_0]; omega) rfl)
    · exact (h14.load o2 _ (by decide) (by decide) (by omega) _ _ _).trans (congrArg₂ D (by simp only [ix2_0]; omega) rfl)
    · exact (h10.load o3 _ _ _).trans (congrArg₂ D (by simp only [ix2_0]; omega) rfl)
  · unfold tripL_k0_t3 trip_k0_t3
    exact ⟨_, List.mem_singleton_self _, mem_rows (off3 _).2.2.2 (k0_off12_inb _) n l (chunk h1 h2).2.1 (chunk h1 h2).2.2⟩

/-- A word naming one of the first groups of eight rows. -/
theorem word_eq {n : ℕ} {w : BitVec 32} (h : w.toNat % 8 = 0 ∧ w.toNat < 8 * n) : ∃ j : Fin n, w = BitVec.ofNat 32 (8 * j.val) :=
  ⟨⟨w.toNat / 8, by omega⟩, BitVec.eq_of_toNat_eq (by simp only [BitVec.toNat_ofNat]; omega)⟩

theorem off5 (k : Fin k0_t5_loop.trips) (w : BitVec 32) (h : w.toNat % 8 = 0 ∧ w.toNat < 32) :
    k0_off22 k w = ![5, 48 * k.val + 32 + w.toNat, 0] ∧ k0_off23 k w = ![4, 48 * k.val + 32 + w.toNat, 0]
    ∧ k0_off24 k w = ![3, 48 * k.val + 32 + w.toNat, 0] ∧ k0_off25 k w = ![2, 48 * k.val + 32 + w.toNat, 0]
    ∧ k0_off26 k w = ![1, 48 * k.val + 32 + w.toNat, 0] ∧ k0_off27 k w = ![0, 48 * k.val + 32 + w.toNat, 0]
    ∧ k0_off28 k w = ![48 * k.val + 32 + w.toNat, 0] ∧ k0_off29 k w = ![6, 48 * k.val + 32 + w.toNat, 0]
    ∧ k0_off30 k = ![48 * k.val + 32, 0] := by
  obtain ⟨j, rfl⟩ := word_eq (n := 4) h
  revert k j
  decide +kernel

set_option maxHeartbeats 4000000 in
/-- The wide convolution backwards. -/
theorem conv5 {v3 : FVec F S31x128 .f32} {v : FVec F S128 .f32} {X10 : BufTy.Contents (Elt F) arg10.view.ty}
    {X14 : BufTy.Contents (Elt F) arg14.view.ty} {D : ℕ → Fin 128 → F .f32} (h10 : Rows arg10 X10 D) (h14 : Shifts 0 arg14 X14 D)
    (f : BufTy.Contents (Elt F) arg11.view.ty) (n : Fin 2128) (l : Fin 128) (h1 : 32 ≤ n.val) (h2 : n.val < 2096) :
    arg11.view.read (Elt F) (arg11.view.writes (Elt F) f (pb_k0_t5 Variants.none c none i arg1 harg1 arg2 harg2 arg3 harg3 arg4 harg4 arg5 harg5 arg6 harg6 arg7 harg7 arg8 harg8 arg9 harg9 arg10 harg10 arg11 harg11 arg12 harg12 arg13 harg13 arg14 harg14 v3 v X10 X14 k0_t5_loop.trips)) (ix2 n l)
      = taps (weight v3 l) (fun j => D (n.val + 30 - j) l) 31 := by
  refine loop_read (pb_k0_t5 Variants.none c none i arg1 harg1 arg2 harg2 arg3 harg3 arg4 harg4 arg5 harg5 arg6 harg6 arg7 harg7 arg8 harg8 arg9 harg9 arg10 harg10 arg11 harg11 arg12 harg12 arg13 harg13 arg14 harg14 v3 v X10 X14) _ (fun k => pb_k0_t5_succ ..) f
    (fun y => taps (weight v3 (y 1)) (fun j => D ((y 0).val + 30 - j) (y 1)) 31) (fun k p hp x => ?_) rfl (ix2 n l)
    ⟨⟨(n.val - 32) / 48, (chunk h1 h2).1⟩, ?_⟩
  · unfold tripL_k0_t5 trip_k0_t5 at hp
    obtain rfl := List.mem_singleton.1 hp
    have hk : k.val < 43 := k.isLt
    obtain ⟨a, l, rfl⟩ : ∃ (a : Fin 48) (l : Fin 128), x = ix2 a l := ⟨x 0, x 1, eq_ix2 x⟩
    obtain ⟨hx, e⟩ := emb_rows (off5 k 0#32 (by decide)).2.2.2.2.2.2.2.2 (h := k0_off30_inb k) a l
    refine Eq.trans ?_ (congrArg (fun y : S2128x128.Idx => taps (weight v3 (y 1)) (fun j => D ((y 0).val + 30 - j) (y 1)) 31) e.symm)
    pointwise [k0_pay159, trip_k0_t5.sl.r, trip_k0_t5.sl.r_1, trip_k0_t5.sl.r_2, trip_k0_t5.sl.r_3, trip_k0_t5.sl.r_4, trip_k0_t5.sl.r_5, trip_k0_t5.sl.r_6, trip_k0_t5.sl.r_7, trip_k0_t5.sl.r_8, k0_pay52, k0_pay53, k0_pay54, k0_pay55, k0_pay56, k0_pay57, k0_pay58, k0_pay59, k0_pay60, k0_pay61, k0_pay62, k0_pay63, k0_pay64, k0_pay65]
    have S (q : ℕ) (o : Fin 3 → ℕ) (w : BitVec 32) (hw : w.toNat ≤ 24) (hq : q < 7) (ho : o = ![q, 48 * k.val + 32 + w.toNat, 0])
        (hi : ∀ a, o a + (![1, 48, 128] : Fin 3 → ℕ) a ≤ S7x2128x128.size a) (j : ℕ) (hj : q + 1 + w.toNat + j = 30) :
        View.readAt (Elt F) arg14.view (Rect.unit (s := S7x2128x128) o ![1, 48, 128] hi).toLoadRect X14 (ix3 0 a l)
          = D (48 * k.val + 32 + a.val + 30 - j) l :=
      (h14.load ho hi (by omega) hq (by omega) 0 a l).trans (congrArg₂ D (by omega) rfl)
    have R (o : Fin 2 → ℕ) (w : BitVec 32) (ho : o = ![48 * k.val + 32 + w.toNat, 0])
        (hi : ∀ a, o a + (![48, 128] : Fin 2 → ℕ) a ≤ S2128x128.size a) (j : ℕ) (hj : w.toNat + j = 30) :
        View.readAt (Elt F) arg10.view (Rect.unit (s := S2128x128) o ![48, 128] hi).toLoadRect X10 (ix2 a l)
          = D (48 * k.val + 32 + a.val + 30 - j) l :=
      (h10.load ho hi a l).trans (congrArg₂ D (by omega) rfl)
    iterate 31 refine congrArg₂ _ ?_ (congrArg _ ?_)
    · rfl
    all_goals first
      | exact S 5 _ _ (by decide) (by decide) (off5 k _ (by decide)).1 _ _ rfl
      | exact S 4 _ _ (by decide) (by decide) (off5 k _ (by decide)).2.1 _ _ rfl
      | exact S 3 _ _ (by decide) (by decide) (off5 k _ (by decide)).2.2.1 _ _ rfl
      | exact S 2 _ _ (by decide) (by decide) (off5 k _ (by decide)).2.2.2.1 _ _ rfl
      | exact S 1 _ _ (by decide) (by decide) (off5 k _ (by decide)).2.2.2.2.1 _ _ rfl
      | exact S 0 _ _ (by decide) (by decide) (off5 k _ (by decide)).2.2.2.2.2.1 _ _ rfl
      | exact S 6 _ _ (by decide) (by decide) (off5 k _ (by decide)).2.2.2.2.2.2.2.1 _ _ rfl
      | exact R _ _ (off5 k _ (by decide)).2.2.2.2.2.2.1 _ _ rfl
  · unfold tripL_k0_t5 trip_k0_t5
    exact ⟨_, List.mem_singleton_self _, mem_rows (off5 _ 0#32 (by decide)).2.2.2.2.2.2.2.2 (k0_off30_inb _) n l (chunk h1 h2).2.1 (chunk h1 h2).2.2⟩

end Cert.Kernel2Ideal.Conv
-- ==== Proof.ConvSums.lean ====
/- The mixer's convolutions in the kernel: what the two loops that gather the weights' gradients leave. -/
module

public import proofs.«01_k».proof.Proof.ConvLoops

@[expose] public section

set_option maxRecDepth 16384

noncomputable section

namespace Cert.Kernel2Ideal.Conv

open Cert.Kernel2Ideal.Gen
open Idealize.ShloMosaic Idealize.ShloMosaic.TcCoe Idealize.ShloMosaic.Tactic

variable {F : FTy → Type} [FloatOps F]

variable {c : Dev nD} {i : grid0.Coords} {arg1 : Memref sig .tc .vmem S5x2176x128 .f32} {harg1 : arg1.IsWhole} {arg2 : Memref sig .tc .vmem S2176x128 .f32} {harg2 : arg2.IsWhole} {arg3 : Memref sig .tc .vmem S2176x128 .f32} {harg3 : arg3.IsWhole} {arg4 : Memref sig .tc .vmem S1x64x256 .f32} {harg4 : arg4.IsWhole} {arg5 : Memref sig .tc .vmem S5x2176x128 .bf16} {harg5 : arg5.IsWhole} {arg6 : Memref sig .tc .vmem S3x128 .f32} {harg6 : arg6.IsWhole} {arg7 : Memref sig .tc .vmem S31x128 .f32} {harg7 : arg7.IsWhole} {arg8 : Memref sig .tc .vmem S1x128 .f32} {harg8 : arg8.IsWhole} {arg9 : Memref sig .tc .vmem S2128x128 .f32} {harg9 : arg9.IsWhole} {arg10 : Memref sig .tc .vmem S2128x128 .f32} {harg10 : arg10.IsWhole} {arg11 : Memref sig .tc .vmem S2128x128 .f32} {harg11 : arg11.IsWhole} {arg12 : Memref sig .tc .vmem S248x128 .f32} {harg12 : arg12.IsWhole} {arg13 : Memref sig .tc .vmem S7x2128x128 .f32} {harg13 : arg13.IsWhole} {arg14 : Memref sig .tc .vmem S7x2128x128 .f32} {harg14 : arg14.IsWhole}

theorem off2 : ∀ k : Fin k0_t2_loop.trips, k0_off5 k = ![48 * k.val + 32, 0] ∧ k0_off6 k = ![5, 48 * k.val + 24, 0]
    ∧ k0_off7 k = ![6, 48 * k.val + 24, 0] ∧ k0_off8 k = ![48 * k.val + 32, 0] := by decide +kernel

/-- The narrow convolution's weights. -/
theorem sums2 {X9 : BufTy.Contents (Elt F) arg9.view.ty} {X10 : BufTy.Contents (Elt F) arg10.view.ty} {X13 : BufTy.Contents (Elt F) arg13.view.ty}
    {X12 : BufTy.Contents (Elt F) arg12.view.ty} {S D : ℕ → Fin 128 → F .f32} (h9 : Rows arg9 X9 S) (h10 : Rows arg10 X10 D)
    (h13 : Shifts 5 arg13 X13 S) (h12 : Sums 3 arg12 X12 D (fun j n l => S (n - 2 + j) l) 0) :
    Sums 3 arg12 (arg12.view.writes (Elt F) X12 (pb_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 X9 X10 X13 X12 k0_t2_loop.trips)) D
      (fun j n l => S (n - 2 + j) l) 43 := by
  refine sums_read (T := k0_t2_loop.trips) (pb_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 X9 X10 X13 X12) (tripL_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 X9 X10 X13) (fun k => pb_k0_t2_succ ..) rfl h12
    (fun k g hg => ?_) (fun k g y hy => ?_)
  · unfold tripL_k0_t2 trip_k0_t2
    obtain ⟨o1, o2, o3, o4⟩ := off2 k
    have hk : k.val < 43 := k.isLt
    have L (x : Fin 48) (l : Fin 128) := h10.load o1 (k0_off5_inb k) x l
    have T0 (x : Fin 48) (l : Fin 128) := h13.load o2 (k0_off6_inb k) le_rfl (by decide) (by omega) 0 x l
    have T1 (x : Fin 48) (l : Fin 128) := h13.load o3 (k0_off7_inb k) (by decide) (by decide) (by omega) 0 x l
    have T2 (x : Fin 48) (l : Fin 128) := h9.load o4 (k0_off8_inb k) x l
    refine List.forall_mem_cons.2 ⟨sums_step rfl (by decide) _ fun c l => ?_, List.forall_mem_cons.2 ⟨sums_step rfl (by decide) _ fun c l => ?_,
      List.forall_mem_cons.2 ⟨sums_step rfl (by decide) _ fun c l => ?_, fun p hp => nomatch hp⟩⟩⟩
    all_goals
      pointwise [k0_pay4, k0_pay5, k0_pay6, k0_pay7, k0_pay90, k0_pay91, trip_k0_t2.sl.r, trip_k0_t2.sl.r_1, trip_k0_t2.sl.r_2,
        trip_k0_t2.sl.r_3, trip_k0_t2.sl.v461, trip_k0_t2.sl.v483]
      refine congrArg₂ _ (hg.load rfl _ (by decide) _ _) ?_
      simp only [L, T0, T1, T2]
      unfold six
      iterate 5 refine congrArg₂ _ ?_ ?_
      all_goals exact congrArg _ (congrArg₂ S (by omega) rfl)
  · unfold tripL_k0_t2 trip_k0_t2
    iterate 3 refine cover_sums (by omega) _ _ _ fun hy => ?_
    exact absurd hy (Nat.not_lt_zero _)

theorem off4 (k : Fin k0_t4_loop.trips) (w : BitVec 32) (h : w.toNat % 8 = 0 ∧ w.toNat < 32) :
    k0_off13 k = ![48 * k.val + 32, 0] ∧ k0_off14 k w = ![5, 48 * k.val + 32 + w.toNat, 0]
    ∧ k0_off15 k w = ![4, 48 * k.val + 32 + w.toNat, 0] ∧ k0_off16 k w = ![3, 48 * k.val + 32 + w.toNat, 0]
    ∧ k0_off17 k w = ![2, 48 * k.val + 32 + w.toNat, 0] ∧ k0_off18 k w = ![1, 48 * k.val + 32 + w.toNat, 0]
    ∧ k0_off19 k w = ![0, 48 * k.val + 32 + w.toNat, 0] ∧ k0_off20 k w = ![48 * k.val + 32 + w.toNat, 0]
    ∧ k0_off21 k w = ![6, 48 * k.val + 32 + w.toNat, 0] := by
  obtain ⟨j, rfl⟩ := word_eq (n := 4) h
  revert k j
  decide +kernel

set_option maxHeartbeats 4000000 in
/-- The wide convolution's weights. -/
theorem sums4 {v : FVec F S1x2120x128 .f32} {X9 : BufTy.Contents (Elt F) arg9.view.ty} {X10 : BufTy.Contents (Elt F) arg10.view.ty}
    {X14 : BufTy.Contents (Elt F) arg14.view.ty} {X12 : BufTy.Contents (Elt F) arg12.view.ty} {S D : ℕ → Fin 128 → F .f32}
    (h9 : Rows arg9 X9 S) (h10 : Rows arg10 X10 D) (h14 : Shifts 0 arg14 X14 D)
    (h12 : Sums 31 arg12 X12 S (fun j n l => D (n + 30 - j) l) 0) :
    Sums 31 arg12 (arg12.view.writes (Elt F) X12 (pb_k0_t4 Variants.none c none i arg1 harg1 arg2 harg2 arg3 harg3 arg4 harg4 arg5 harg5 arg6 harg6 arg7 harg7 arg8 harg8 arg9 harg9 arg10 harg10 arg11 harg11 arg12 harg12 arg13 harg13 arg14 harg14 v X9 X10 X14 X12 k0_t4_loop.trips)) S
      (fun j n l => D (n + 30 - j) l) 43 := by
  refine sums_read (T := k0_t4_loop.trips) (pb_k0_t4 Variants.none c none i arg1 harg1 arg2 harg2 arg3 harg3 arg4 harg4 arg5 harg5 arg6 harg6 arg7 harg7 arg8 harg8 arg9 harg9 arg10 harg10 arg11 harg11 arg12 harg12 arg13 harg13 arg14 harg14 v X9 X10 X14 X12) (tripL_k0_t4 Variants.none c none i arg1 harg1 arg2 harg2 arg3 harg3 arg4 harg4 arg5 harg5 arg6 harg6 arg7 harg7 arg8 harg8 arg9 harg9 arg10 harg10 arg11 harg11 arg12 harg12 arg13 harg13 arg14 harg14 v X9 X10 X14) (fun k => pb_k0_t4_succ ..) rfl h12
    (fun k g hg => ?_) (fun k g y hy => ?_)
  · unfold tripL_k0_t4 trip_k0_t4
    have hk : k.val < 43 := k.isLt
    have L (x : Fin 48) (l : Fin 128) := h9.load (off4 k 0#32 (by decide)).1 (k0_off13_inb k) x l
    have T (q : ℕ) (o : Fin 3 → ℕ) (w : BitVec 32) (hw : w.toNat ≤ 24) (hq : q < 7) (ho : o = ![q, 48 * k.val + 32 + w.toNat, 0])
        (hi : ∀ a, o a + (![1, 48, 128] : Fin 3 → ℕ) a ≤ S7x2128x128.size a) (j : ℕ) (hj : q + 1 + w.toNat + j = 30) (a : Fin 48) (l : Fin 128) :
        View.readAt (Elt F) arg14.view (Rect.unit (s := S7x2128x128) o ![1, 48, 128] hi).toLoadRect X14 (ix3 0 a l)
          = D (48 * k.val + 32 + a.val + 30 - j) l :=
      (h14.load ho hi (by omega) hq (by omega) 0 a l).trans (congrArg₂ D (by omega) rfl)
    have R (o : Fin 2 → ℕ) (w : BitVec 32) (ho : o = ![48 * k.val + 32 + w.toNat, 0])
        (hi : ∀ a, o a + (![48, 128] : Fin 2 → ℕ) a ≤ S2128x128.size a) (j : ℕ) (hj : w.toNat + j = 30) (a : Fin 48) (l : Fin 128) :
        View.readAt (Elt F) arg10.view (Rect.unit (s := S2128x128) o ![48, 128] hi).toLoadRect X10 (ix2 a l)
          = D (48 * k.val + 32 + a.val + 30 - j) l :=
      (h10.load ho hi a l).trans (congrArg₂ D (by omega) rfl)
    iterate 31
      refine List.forall_mem_cons.2 ⟨?_, ?_⟩
      swap
    · exact fun p hp => nomatch hp
    all_goals
      refine sums_step rfl (by decide) _ fun c l => ?_
      pointwise [trip_k0_t4.sl.r, trip_k0_t4.sl.r_1, trip_k0_t4.sl.r_2, trip_k0_t4.sl.r_3, trip_k0_t4.sl.r_4, trip_k0_t4.sl.r_5, trip_k0_t4.sl.r_6, trip_k0_t4.sl.r_7, trip_k0_t4.sl.r_8, trip_k0_t4.sl.r_9, trip_k0_t4.sl.r_10, trip_k0_t4.sl.r_11, trip_k0_t4.sl.r_12, trip_k0_t4.sl.r_13, trip_k0_t4.sl.r_14, trip_k0_t4.sl.r_15, trip_k0_t4.sl.v459, trip_k0_t4.sl.v481, trip_k0_t4.sl.v503, trip_k0_t4.sl.v525, trip_k0_t4.sl.v547, trip_k0_t4.sl.v568, trip_k0_t4.sl.v590, trip_k0_t4.sl.v612, trip_k0_t4.sl.v634, trip_k0_t4.sl.v656, trip_k0_t4.sl.v678, trip_k0_t4.sl.v700, trip_k0_t4.sl.v722, trip_k0_t4.sl.v743, trip_k0_t4.sl.v765, trip_k0_t4.sl.v787, trip_k0_t4.sl.v809, trip_k0_t4.sl.v831, trip_k0_t4.sl.v853, trip_k0_t4.sl.v875, trip_k0_t4.sl.v897, trip_k0_t4.sl.v918, trip_k0_t4.sl.v940, trip_k0_t4.sl.v962, trip_k0_t4.sl.v984, trip_k0_t4.sl.v1006, trip_k0_t4.sl.v1028, trip_k0_t4.sl.v1050, trip_k0_t4.sl.v1072, trip_k0_t4.sl.v1093,
        k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay121, k0_pay122]
      refine congrArg₂ _ (hg.load rfl _ (by decide) _ _) ?_
      simp only [L]
      unfold six
      iterate 5 refine congrArg₂ _ ?_ ?_
    all_goals refine congrArg _ ?_
    all_goals first
      | exact T 5 _ _ (by decide) (by decide) (off4 k _ (by decide)).2.1 _ _ rfl _ _
      | exact T 4 _ _ (by decide) (by decide) (off4 k _ (by decide)).2.2.1 _ _ rfl _ _
      | exact T 3 _ _ (by decide) (by decide) (off4 k _ (by decide)).2.2.2.1 _ _ rfl _ _
      | exact T 2 _ _ (by decide) (by decide) (off4 k _ (by decide)).2.2.2.2.1 _ _ rfl _ _
      | exact T 1 _ _ (by decide) (by decide) (off4 k _ (by decide)).2.2.2.2.2.1 _ _ rfl _ _
      | exact T 0 _ _ (by decide) (by decide) (off4 k _ (by decide)).2.2.2.2.2.2.1 _ _ rfl _ _
      | exact T 6 _ _ (by decide) (by decide) (off4 k _ (by decide)).2.2.2.2.2.2.2.2 _ _ rfl _ _
      | exact R _ _ (off4 k _ (by decide)).2.2.2.2.2.2.2.1 _ _ rfl _ _
      | exact T 5 _ _ (by decide) (by decide) (off4 k 24#32 (by decide)).2.1 _ 0 rfl _ _
  · unfold tripL_k0_t4 trip_k0_t4
    iterate 31 refine cover_sums (by omega) _ _ _ fun hy => ?_
    exact absurd hy (Nat.not_lt_zero _)

end Cert.Kernel2Ideal.Conv
-- ==== Proof.ConvRun.lean ====
/- One run of the kernel of the mixer's convolutions, with what it leaves in its outputs. -/
module

public import proofs.«01_k».proof.Proof.ConvPad
public import proofs.«01_k».proof.Proof.ConvLoops
public import proofs.«01_k».proof.Proof.ConvSums
public import proofs.«01_k».proof.Proof.Gen.Kernel2Ideal.Frame

@[expose] public section

set_option maxRecDepth 16384

noncomputable section

namespace Cert.Kernel2Ideal.Conv

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The buffer of convolved rows -/

section
variable {c : Dev nD} {i : grid0.Coords} {arg1 : Memref sig .tc .vmem S5x2176x128 .f32} {harg1 : arg1.IsWhole} {arg2 : Memref sig .tc .vmem S2176x128 .f32} {harg2 : arg2.IsWhole} {arg3 : Memref sig .tc .vmem S2176x128 .f32} {harg3 : arg3.IsWhole} {arg4 : Memref sig .tc .vmem S1x64x256 .f32} {harg4 : arg4.IsWhole} {arg5 : Memref sig .tc .vmem S5x2176x128 .bf16} {harg5 : arg5.IsWhole} {arg6 : Memref sig .tc .vmem S3x128 .f32} {harg6 : arg6.IsWhole} {arg7 : Memref sig .tc .vmem S31x128 .f32} {harg7 : arg7.IsWhole} {arg8 : Memref sig .tc .vmem S1x128 .f32} {harg8 : arg8.IsWhole} {arg9 : Memref sig .tc .vmem S2128x128 .f32} {harg9 : arg9.IsWhole} {arg10 : Memref sig .tc .vmem S2128x128 .f32} {harg10 : arg10.IsWhole} {arg11 : Memref sig .tc .vmem S2128x128 .f32} {harg11 : arg11.IsWhole} {arg12 : Memref sig .tc .vmem S248x128 .f32} {harg12 : arg12.IsWhole} {arg13 : Memref sig .tc .vmem S7x2128x128 .f32} {harg13 : arg13.IsWhole} {arg14 : Memref sig .tc .vmem S7x2128x128 .f32} {harg14 : arg14.IsWhole}
  {x1 : Vec F S5x2176x128 .f32} {x2 x3 : Vec F S2176x128 .f32} {x4 : Vec F S1x64x256 .f32}

theorem inner1 {v1 : FVec F S3x128 .f32} {v22 : FVec F S2048x128 .f32} {v24 v26 : FVec F S16x128 .f32} {X9 : BufTy.Contents (Elt F) arg9.view.ty}
    {X13 : BufTy.Contents (Elt F) arg13.view.ty} (hv : v1 = wA x4) (h9 : Rows arg9 X9 (pad (srcA x1)))
    (h13 : Shifts 5 arg13 X13 (pad (srcA x1))) (f : BufTy.Contents (Elt F) arg11.view.ty) :
    Inner arg11 (arg11.view.writes (Elt F) f (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 v1 v22 v24 v26 X9 X13 k0_t1_loop.trips)) (convA x1 x4) :=
  fun n l h1 h2 => hv ▸ conv1 h9 h13 f n l h1 h2

theorem inner3 {v1 : FVec F S3x128 .f32} {w0 w1 : BitVec 32} {X10 : BufTy.Contents (Elt F) arg10.view.ty}
    {X14 : BufTy.Contents (Elt F) arg14.view.ty} (hv : v1 = wA x4) (h10 : Rows arg10 X10 (pad (slopeA x1 x2)))
    (h14 : Shifts 0 arg14 X14 (pad (slopeA x1 x2)) 2) (f : BufTy.Contents (Elt F) arg11.view.ty) :
    Inner arg11 (arg11.view.writes (Elt F) f (pb_k0_t3 Variants.none c none i arg1 harg1 arg2 harg2 arg3 harg3 arg4 harg4 arg5 harg5 arg6 harg6 arg7 harg7 arg8 harg8 arg9 harg9 arg10 harg10 arg11 harg11 arg12 harg12 arg13 harg13 arg14 harg14 v1 w0 w1 X10 X14 k0_t3_loop.trips)) (backA x1 x2 x4) :=
  fun n l h1 h2 => hv ▸ conv3 h10 h14 f n l h1 h2

theorem inner5 {v3 : FVec F S31x128 .f32} {v : FVec F S128 .f32} {X10 : BufTy.Contents (Elt F) arg10.view.ty}
    {X14 : BufTy.Contents (Elt F) arg14.view.ty} (hv : v3 = wB x4) (h10 : Rows arg10 X10 (pad (cell x3)))
    (h14 : Shifts 0 arg14 X14 (pad (cell x3))) (f : BufTy.Contents (Elt F) arg11.view.ty) :
    Inner arg11 (arg11.view.writes (Elt F) f (pb_k0_t5 Variants.none c none i arg1 harg1 arg2 harg2 arg3 harg3 arg4 harg4 arg5 harg5 arg6 harg6 arg7 harg7 arg8 harg8 arg9 harg9 arg10 harg10 arg11 harg11 arg12 harg12 arg13 harg13 arg14 harg14 v3 v X10 X14 k0_t5_loop.trips)) (backB x3 x4) :=
  fun n l h1 h2 => hv ▸ conv5 h10 h14 f n l h1 h2
end

/-- A stored row of the weights' gradients, from its eight gathered rows. -/
theorem row_total {w : S1x128.Idx → F .f32} {v : S8x128.Idx → F .f32} (hw : w = k0_pay92 v) {a b : ℕ → Fin 128 → F .f32}
    (hv : v = fun z => gather (fun n => a n (z 1)) (fun n => b n (z 1)) (z 0).val 43) (l : Fin 128) :
    w (ix2 0 l) = FloatOps.reduceAdd [0] reduces_S8x128_S128
      (fun z : S8x128.Idx => gather (fun n => a n (z 1)) (fun n => b n (z 1)) (z 0).val 43) (ix1 l) := by
  subst hw hv
  pointwise [k0_pay92]

set_option maxHeartbeats 4000000 in
/-- The kernel's body, run once from any contents of its buffers: what it stores into its four outputs, the inputs kept,
    and the scratch buffers held at something. -/
theorem run (c : Dev nD) (i : grid0.Coords) (arg1 : Memref sig .tc .vmem S5x2176x128 .f32) (harg1 : arg1.IsWhole) (arg2 : Memref sig .tc .vmem S2176x128 .f32) (harg2 : arg2.IsWhole) (arg3 : Memref sig .tc .vmem S2176x128 .f32) (harg3 : arg3.IsWhole) (arg4 : Memref sig .tc .vmem S1x64x256 .f32) (harg4 : arg4.IsWhole) (arg5 : Memref sig .tc .vmem S5x2176x128 .bf16) (harg5 : arg5.IsWhole) (arg6 : Memref sig .tc .vmem S3x128 .f32) (harg6 : arg6.IsWhole) (arg7 : Memref sig .tc .vmem S31x128 .f32) (harg7 : arg7.IsWhole) (arg8 : Memref sig .tc .vmem S1x128 .f32) (harg8 : arg8.IsWhole) (arg9 : Memref sig .tc .vmem S2128x128 .f32) (harg9 : arg9.IsWhole) (arg10 : Memref sig .tc .vmem S2128x128 .f32) (harg10 : arg10.IsWhole) (arg11 : Memref sig .tc .vmem S2128x128 .f32) (harg11 : arg11.IsWhole) (arg12 : Memref sig .tc .vmem S248x128 .f32) (harg12 : arg12.IsWhole) (arg13 : Memref sig .tc .vmem S7x2128x128 .f32) (harg13 : arg13.IsWhole) (arg14 : Memref sig .tc .vmem S7x2128x128 .f32) (harg14 : arg14.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (E : Set ℕ) (K : PUnit → sProp 𝕄) :
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
            ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (∃ f, ⌜arg5.view.read (Elt F) f = planes (arg1.view.read (Elt F) f1) (arg2.view.read (Elt F) f2) (arg3.view.read (Elt F) f3) (arg4.view.read (Elt F) f4)⌝ ∗ (arg5.view.loc (c : Thread nD τ) ↦[arg5.view.set]{fullShare} f)) ∗ (∃ f, ⌜arg6.view.read (Elt F) f = gradA (arg1.view.read (Elt F) f1) (arg2.view.read (Elt F) f2)⌝ ∗ (arg6.view.loc (c : Thread nD τ) ↦[arg6.view.set]{fullShare} f)) ∗ (∃ f, ⌜arg7.view.read (Elt F) f = gradB (arg1.view.read (Elt F) f1) (arg3.view.read (Elt F) f3)⌝ ∗ (arg7.view.loc (c : Thread nD τ) ↦[arg7.view.set]{fullShare} f)) ∗ (∃ f, ⌜arg8.view.read (Elt F) f = gradBias (arg3.view.read (Elt F) f3)⌝ ∗ (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f))) -∗ K PUnit.unit))
          ⊢ wp frame (wpE (defs₀ (F := F)) Variants.none c none) E (cc0_mix_conv_bwd i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_mix_conv_bwd_eq_skeleton]; unfold cc0_mix_conv_bwd_skel
  simp only [k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
  iintro ⟨H1, H2, H3, H4, H5, H6, H7, H8, H9, H10, H11, H12, H13, H14, Hk⟩
  sl_exec
  sl_step
  have rA : run.sl.r arg4 f4 = wA (arg4.view.read (Elt F) f4) := by
    funext y
    obtain ⟨j, l, rfl⟩ : ∃ (j : Fin 3) (l : Fin 128), y = ix2 j l := ⟨y 0, y 1, eq_ix2 y⟩
    exact (wA_apply l _ j).trans (loadW arg4 f4 inb_S1x64x256_S1x3x128_0_16_0 j l)
  have rB : run.sl.r_1 arg4 f4 = wB (arg4.view.read (Elt F) f4) := by
    funext y
    obtain ⟨j, l, rfl⟩ : ∃ (j : Fin 31) (l : Fin 128), y = ix2 j l := ⟨y 0, y 1, eq_ix2 y⟩
    exact (wB_apply l _ j).trans (loadW arg4 f4 inb_S1x64x256_S1x31x128_0_24_0 j l)
  have A9 : Rows arg9 (arg9.view.writes (Elt F) arg9.view.junk (run.sl.H9_4 arg1 f1)) (pad (srcA (arg1.view.read (Elt F) f1))) := by
    refine rows_fill (clear_zeros _ _ _ _ (fun x l => zeros32_apply l x) (fun x l => zeros32_apply l x)) _ _ _ _
      (fun x l => ?_) (fun x l => ?_)
    · exact (srcA_first x l _ _).trans (congrArg₂ FloatOps.mulf (load5 arg1 f1 (by decide) 0 x l) (load5 arg1 f1 (by decide) 0 x l))
    · exact (srcA_last x l _ _).trans (congrArg₂ FloatOps.mulf (load5 arg1 f1 (by decide) 0 x l) (load5 arg1 f1 (by decide) 0 x l))
  have A10 : Rows arg10 (arg10.view.writes (Elt F) arg10.view.junk (run.sl.H10_4 arg1 arg2 f1 f2)) (pad (slopeA (arg1.view.read (Elt F) f1) (arg2.view.read (Elt F) f2))) := by
    refine rows_fill (clear_zeros _ _ _ _ (fun x l => zeros32_apply l x) (fun x l => zeros32_apply l x)) _ _ _ _
      (fun x l => ?_) (fun x l => ?_)
    · exact (slopeA_first x l _ _).trans (congrArg₂ FloatOps.mulf (load2 arg2 f2 _ x l) (load5 arg1 f1 (by decide) 0 x l))
    · exact (slopeA_last x l _ _).trans (congrArg₂ FloatOps.mulf (load2 arg2 f2 _ x l) (load5 arg1 f1 (by decide) 0 x l))
  have B9 : Rows arg9 (arg9.view.writes (Elt F) arg9.view.junk
      (⟨Rect.unit ![48, 0] S2048x128.size inb_S2128x128_S2048x128_48_0, k0_pay109 (run.sl.r_9 arg1 f1)⟩
        :: ⟨Rect.unit ![32, 0] S16x128.size inb_S2128x128_S16x128_32_0,
            k0_pay108 (run.sl.r_10 arg1 f1) (run.sl.r_11 arg1 f1) run.sl.cst_149⟩ :: run.sl.H9_4 arg1 f1)) (pad (srcB (arg1.view.read (Elt F) f1))) := by
    refine rows_fill A9.clear _ _ _ _ (fun x l => ?_) (fun x l => ?_)
    · exact (srcB_first x l _ _).trans (congrArg₂ FloatOps.mulf (load5 arg1 f1 (by decide) 0 x l) (congrArg logistic (load5 arg1 f1 (by decide) 0 x l)))
    · exact (srcB_last x l _ _).trans (congrArg₂ FloatOps.mulf (load5 arg1 f1 (by decide) 0 x l) (congrArg logistic (load5 arg1 f1 (by decide) 0 x l)))
  have B10 : Rows arg10 (arg10.view.writes (Elt F) arg10.view.junk (run.sl.H10_6 arg1 arg2 arg3 f1 f2 f3)) (pad (cell (arg3.view.read (Elt F) f3))) := by
    refine rows_fill A10.clear _ _ _ _ (fun x l => ?_) (fun x l => ?_)
    · exact (slopeB_first x l _).trans (load2 arg3 f3 _ x l)
    · exact (slopeB_last x l _).trans (load2 arg3 f3 _ x l)
  have A13 : Shifts 5 arg13 (arg13.view.writes (Elt F) f13 [⟨Rect.unit ![6, 0, 0] S1x2120x128.size inb_S7x2128x128_S1x2120x128_6_0_0, k0_pay80 (run.sl.v38 arg1 arg9 f1)⟩, ⟨Rect.unit ![5, 0, 0] S1x2120x128.size inb_S7x2128x128_S1x2120x128_5_0_0, k0_pay79 (run.sl.v34 arg1 arg9 f1)⟩]) (pad (srcA (arg1.view.read (Elt F) f1))) := by
    refine (((Shifts.none _).cons _ _ fun x l => ?_).cons _ _ fun x l => ?_)
    · exact (copy_apply l _ x).trans (A9.cov _ x l)
    · exact (copy_apply l _ x).trans (A9.cov _ x l)
  have A14 : Shifts 0 arg14 (arg14.view.writes (Elt F) f14 [⟨Rect.unit ![1, 0, 0] S1x2120x128.size inb_S7x2128x128_S1x2120x128_1_0_0, k0_pay96 (run.sl.v100 arg1 arg2 arg10 f1 f2)⟩, ⟨Rect.unit ![0, 0, 0] S1x2120x128.size inb_S7x2128x128_S1x2120x128_0_0_0, k0_pay95 (run.sl.v96 arg1 arg2 arg10 f1 f2)⟩]) (pad (slopeA (arg1.view.read (Elt F) f1) (arg2.view.read (Elt F) f2))) 2 := by
    refine (((Shifts.none _).cons _ _ fun x l => ?_).cons _ _ fun x l => ?_)
    · exact (copy_apply l _ x).trans (A10.cov _ x l)
    · exact (copy_apply l _ x).trans (A10.cov _ x l)
  have B14 : Shifts 0 arg14 (arg14.view.writes (Elt F) f14 [⟨Rect.unit ![6, 0, 0] S1x2120x128.size inb_S7x2128x128_S1x2120x128_6_0_0, k0_pay119 (run.sl.v219 arg1 arg2 arg3 arg10 f1 f2 f3)⟩, ⟨Rect.unit ![5, 0, 0] S1x2120x128.size inb_S7x2128x128_S1x2120x128_5_0_0, run.sl.r_13 arg1 arg2 arg3 arg10 f1 f2 f3⟩, ⟨Rect.unit ![4, 0, 0] S1x2120x128.size inb_S7x2128x128_S1x2120x128_4_0_0, k0_pay117 (run.sl.v211 arg1 arg2 arg3 arg10 f1 f2 f3)⟩, ⟨Rect.unit ![3, 0, 0] S1x2120x128.size inb_S7x2128x128_S1x2120x128_3_0_0, k0_pay116 (run.sl.v207 arg1 arg2 arg3 arg10 f1 f2 f3)⟩, ⟨Rect.unit ![2, 0, 0] S1x2120x128.size inb_S7x2128x128_S1x2120x128_2_0_0, k0_pay115 (run.sl.v203 arg1 arg2 arg3 arg10 f1 f2 f3)⟩, ⟨Rect.unit ![1, 0, 0] S1x2120x128.size inb_S7x2128x128_S1x2120x128_1_0_0, k0_pay114 (run.sl.v199 arg1 arg2 arg3 arg10 f1 f2 f3)⟩, ⟨Rect.unit ![0, 0, 0] S1x2120x128.size inb_S7x2128x128_S1x2120x128_0_0_0, k0_pay113 (run.sl.v195 arg1 arg2 arg3 arg10 f1 f2 f3)⟩, ⟨Rect.unit ![1, 0, 0] S1x2120x128.size inb_S7x2128x128_S1x2120x128_1_0_0, k0_pay96 (run.sl.v100 arg1 arg2 arg10 f1 f2)⟩, ⟨Rect.unit ![0, 0, 0] S1x2120x128.size inb_S7x2128x128_S1x2120x128_0_0_0, k0_pay95 (run.sl.v96 arg1 arg2 arg10 f1 f2)⟩]) (pad (cell (arg3.view.read (Elt F) f3))) := by
    refine ((((((((Shifts.none _).cons _ _ fun x l => ?_).cons _ _ fun x l => ?_).cons _ _ fun x l => ?_).cons _ _ fun x l => ?_).cons _ _
      fun x l => ?_).cons _ _ fun x l => ?_).cons _ _ fun x l => ?_)
    all_goals exact (copy_apply l _ x).trans (B10.cov _ x l)
  have T2 := fun L => sums2 (c := c) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) A9 A10 A13
    (sums_zero (f := arg12.view.junk) (L := L) inb_S248x128_S248x128_0_0 (k0_pay89 (F := F)) fun x l => zeros248_apply l x)
  have T4 := fun L => sums4 (c := c) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (v := run.sl.r_13 arg1 arg2 arg3 arg10 f1 f2 f3) B9 B10 B14
    (sums_zero (f := arg12.view.junk) (L := L) inb_S248x128_S248x128_0_0 (k0_pay120 (F := F)) fun x l => zeros248_apply l x)
  iapply Hk
  isplitl [H1]; · iexact H1
  isplitl [H2]; · iexact H2
  isplitl [H3]; · iexact H3
  isplitl [H4]; · iexact H4
  isplitl [H5]
  · iexists _; isplitr
    swap; · iexact H5
    ipureintro
    funext y
    refine View.read_writes_apply_of_pieces _ _ (planes (arg1.view.read (Elt F) f1) (arg2.view.read (Elt F) f2) (arg3.view.read (Elt F) f3) (arg4.view.read (Elt F) f4)) _ ?_ y ?_
    · iterate 15 (refine List.forall_mem_cons.2 ⟨?_, ?_⟩; swap)
      · exact fun p hp => nomatch hp
      · exact plane_piece (by decide) (by decide) _ fun x l => (p0_first x l _ _).trans (congrArg (FloatOps.truncf .bf16 bitsLt_bf16_f32)
          (congrArg₂ FloatOps.mulf (load2 arg2 f2 _ x l) ((inner1 rA A9 A13 _).first _ x l)))
      · exact plane_piece (by decide) (by decide) _ fun x l => (p0_last x l _ _).trans (congrArg (FloatOps.truncf .bf16 bitsLt_bf16_f32)
          (congrArg₂ FloatOps.mulf (load2 arg2 f2 _ x l) ((inner1 rA A9 A13 _).last _ x l)))
      · exact plane_rest (by decide) _ fun x l => rest_apply l x
      · exact plane_piece (by decide) (by decide) _ fun x l => (p1_first x l _ _).trans (congrArg (FloatOps.truncf .bf16 bitsLt_bf16_f32)
          (congrArg₂ FloatOps.mulf ((Inner.append (inner3 rA A10 A14)).first _ x l) (load5 arg1 f1 (by decide) 0 x l)))
      · exact plane_piece (by decide) (by decide) _ fun x l => (p1_last x l _ _).trans (congrArg (FloatOps.truncf .bf16 bitsLt_bf16_f32)
          (congrArg₂ FloatOps.mulf ((Inner.append (inner3 rA A10 A14)).last _ x l) (load5 arg1 f1 (by decide) 0 x l)))
      · exact plane_rest (by decide) _ fun x l => rest_apply l x
      · exact plane_piece (by decide) (by decide) _ fun x l => (p2_first x l _ _).trans (congrArg (FloatOps.truncf .bf16 bitsLt_bf16_f32)
          (congrArg₂ FloatOps.mulf ((Inner.append (inner3 rA A10 A14)).first _ x l) (load5 arg1 f1 (by decide) 0 x l)))
      · exact plane_piece (by decide) (by decide) _ fun x l => (p2_last x l _ _).trans (congrArg (FloatOps.truncf .bf16 bitsLt_bf16_f32)
          (congrArg₂ FloatOps.mulf ((Inner.append (inner3 rA A10 A14)).last _ x l) (load5 arg1 f1 (by decide) 0 x l)))
      · exact plane_rest (by decide) _ fun x l => rest_apply l x
      · exact plane_piece (by decide) (by decide) _ fun x l => (p3_first x l _ _).trans (congrArg (FloatOps.truncf .bf16 bitsLt_bf16_f32)
          (congrArg₂ FloatOps.mulf ((Inner.append (inner5 rB B10 B14)).first _ x l) (congrArg logistic (load5 arg1 f1 (by decide) 0 x l))))
      · exact plane_piece (by decide) (by decide) _ fun x l => (p3_last x l _ _).trans (congrArg (FloatOps.truncf .bf16 bitsLt_bf16_f32)
          (congrArg₂ FloatOps.mulf ((Inner.append (inner5 rB B10 B14)).last _ x l) (congrArg logistic (load5 arg1 f1 (by decide) 0 x l))))
      · exact plane_rest (by decide) _ fun x l => rest_apply l x
      · exact plane_piece (by decide) (by decide) _ fun x l => (p4_first x l _ _ _).trans (congrArg (FloatOps.truncf .bf16 bitsLt_bf16_f32)
          (congrArg₂ FloatOps.mulf (congrArg₂ FloatOps.mulf (congrArg₂ FloatOps.mulf ((Inner.append (inner5 rB B10 B14)).first _ x l) (load5 arg1 f1 (by decide) 0 x l)) (congrArg logistic (load5 arg1 f1 (by decide) 0 x l)))
          (congrArg (fun v => FloatOps.subf one (logistic v)) (load5 arg1 f1 (by decide) 0 x l))))
      · exact plane_piece (by decide) (by decide) _ fun x l => (p4_last x l _ _ _).trans (congrArg (FloatOps.truncf .bf16 bitsLt_bf16_f32)
          (congrArg₂ FloatOps.mulf (congrArg₂ FloatOps.mulf (congrArg₂ FloatOps.mulf ((Inner.append (inner5 rB B10 B14)).last _ x l) (load5 arg1 f1 (by decide) 0 x l)) (congrArg logistic (load5 arg1 f1 (by decide) 0 x l)))
          (congrArg (fun v => FloatOps.subf one (logistic v)) (load5 arg1 f1 (by decide) 0 x l))))
      · exact plane_rest (by decide) _ fun x l => rest_apply l x
    · have h0 : (y 0).val < 5 := (y 0).isLt
      have h1 : (y 1).val < 2176 := (y 1).isLt
      refine cover_planes (by omega) _ _ _ fun hy => ?_
      iterate 13 refine cover_planes (by omega) _ _ _ fun hy => ?_
      exact cover_planes (by omega) _ _ _ fun hy => absurd hy (by omega)
  isplitl [H6]
  · iexists _; isplitr
    swap; · iexact H6
    ipureintro
    funext y
    refine View.read_writes_apply_of_pieces _ _ (gradA (arg1.view.read (Elt F) f1) (arg2.view.read (Elt F) f2)) _ ?_ y ?_
    · iterate 3 (refine List.forall_mem_cons.2 ⟨?_, ?_⟩; swap)
      · exact fun p hp => nomatch hp
      all_goals exact row_piece (by decide) _ (by decide) fun l => row_total rfl ((T2 _).cov rfl _ (by decide)) l
    · have h0 : (y 0).val < 3 := (y 0).isLt
      refine cover_rows h0 _ _ _ fun hy => ?_
      iterate 1 refine cover_rows hy _ _ _ fun hy => ?_
      exact cover_rows hy _ _ _ fun hy => absurd hy (by omega)
  isplitl [H7]
  · iexists _; isplitr
    swap; · iexact H7
    ipureintro
    funext y
    refine View.read_writes_apply_of_pieces _ _ (gradB (arg1.view.read (Elt F) f1) (arg3.view.read (Elt F) f3)) _ ?_ y ?_
    · iterate 31 (refine List.forall_mem_cons.2 ⟨?_, ?_⟩; swap)
      · exact fun p hp => nomatch hp
      all_goals exact row_piece (by decide) _ (by decide) fun l => row_total rfl ((T4 _).cov rfl _ (by decide)) l
    · have h0 : (y 0).val < 31 := (y 0).isLt
      refine cover_rows h0 _ _ _ fun hy => ?_
      iterate 29 refine cover_rows hy _ _ _ fun hy => ?_
      exact cover_rows hy _ _ _ fun hy => absurd hy (by omega)
  isplitl [H8]
  · iexists _; isplitr
    swap; · iexact H8
    ipureintro
    funext y
    refine View.read_writes_apply_of_pieces _ _ (gradBias (arg3.view.read (Elt F) f3)) _ ?_ y ?_
    · refine List.forall_mem_cons.2 ⟨row_piece (by decide) _ (by decide) fun l => ?_, fun p hp => nomatch hp⟩
      exact congrFun (congrArg₂ k0_pay112 (funext fun z => (congrArg _ (eq_ix2 z)).trans (load2 arg3 f3 _ (z 0) (z 1)))
        (funext fun z => (congrArg _ (eq_ix2 z)).trans (load2 arg3 f3 _ (z 0) (z 1)))) (ix2 0 l)
    · have h0 : (y 0).val < 1 := (y 0).isLt
      exact cover_rows h0 _ _ _ fun hy => absurd hy (by omega)
  isplitl [H9]; · iexists _; iexact H9
  isplitl [H10]; · iexists _; iexact H10
  isplitl [H11]; · iexists _; iexact H11
  isplitl [H12]; · iexists _; iexact H12
  isplitl [H13]; · iexists _; iexact H13
  iexists _; iexact H14

end Cert.Kernel2Ideal.Conv

end
-- ==== Proof.ConvFrame.lean ====
/- The frame of the mixer's convolutions: what the body is called with and leaves at each point, and the launch. -/
module

public import proofs.«01_k».proof.Proof.ConvRun

@[expose] public section

set_option maxRecDepth 16384

noncomputable section

namespace Cert.Kernel2Ideal.Conv

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as the region finds them, each input's block kept, each output's block at the values of its inputs' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => planes (iblk m c 0 t) (iblk m c 1 t) (iblk m c 2 t) (iblk m c 3 t)
    | ⟨5, _⟩ => gradA (iblk m c 0 t) (iblk m c 1 t)
    | ⟨6, _⟩ => gradB (iblk m c 0 t) (iblk m c 2 t)
    | ⟨7, _⟩ => gradBias (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun t => by dsimp only [dats]) t d

theorem before_1 (c : Dev nD) (t : Fin cfg0.N) (d) : (dats m 0 c).before 1 t d = iblk m c 1 t :=
  before0_1_of m (dats m 0 c) (A_eq m c 1) (fun t => by dsimp only [dats]) t d

theorem before_2 (c : Dev nD) (t : Fin cfg0.N) (d) : (dats m 0 c).before 2 t d = iblk m c 2 t :=
  before0_2_of m (dats m 0 c) (A_eq m c 2) (fun t => by dsimp only [dats]) t d

theorem before_3 (c : Dev nD) (t : Fin cfg0.N) (d) : (dats m 0 c).before 3 t d = iblk m c 3 t :=
  before0_3_of m (dats m 0 c) (A_eq m c 3) (fun t => by dsimp only [dats]) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem whole_eq (c : Dev nD) (b : Ref sig .tc) (f : b.ty.Contents (Elt F)) :
    ((Memref.whole b).view.loc (c : Thread nD τ) ↦[(Memref.whole b).view.set]{fullShare} f : sProp 𝕄)
      = (((c : Thread nD τ).loc b) ↦{fullShare} f) := by
  rw [show (Memref.whole b).view.set = Finset.univ from View.set_whole b]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  unfold owns
  simp only [← whole_eq]
  iintro ⟨⟨⟨⟨%s0, S0⟩, ⟨%s1, S1⟩, ⟨%s2, S2⟩, ⟨%s3, S3⟩, ⟨%s4, S4⟩, ⟨%s5, S5⟩⟩, Hr⟩, Ho, ⟨%d0, %f0, %h0, H0⟩, ⟨%d1, %f1, %h1, H1⟩, ⟨%d2, %f2, %h2, H2⟩,
    ⟨%d3, %f3, %h3, H3⟩, ⟨%d4, %f4, -, H4⟩, ⟨%d5, %f5, -, H5⟩, ⟨%d6, %f6, -, H6⟩, ⟨%d7, %f7, -, H7⟩⟩
  iapply (run c (grid0.coords t) _ _ _ _ _ _ _ _ _ _ _ _ _ _ _ _ _ _ _ _ _ _ _ _ _ _ _ _ f0 f1 f2 f3 f4 f5 f6 f7 s0 s1 s2 s3 s4 s5 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  isplitl [S5]; · iexact S5
  iintro ⟨H0, H1, H2, H3, ⟨%e4, %g4, H4⟩, ⟨%e5, %g5, H5⟩, ⟨%e6, %g6, H6⟩, ⟨%e7, %g7, H7⟩, S0, S1, S2, S3, S4, S5⟩
  isplitl [S0 S1 S2 S3 S4 S5 Hr]
  · isplitl [S0 S1 S2 S3 S4 S5]
    · isplitl [S0]; · iexact S0
      isplitl [S1]; · iexact S1
      isplitl [S2]; · iexact S2
      isplitl [S3]; · iexact S3
      isplitl [S4]; · iexact S4
      iexact S5
    · iexact Hr
  isplitl [Ho]; · iexact Ho
  isplitl [H0]; · iexists f0; isplitr; swap; (· iexact H0); ipureintro; exact h0
  isplitl [H1]; · iexists f1; isplitr; swap; (· iexact H1); ipureintro; exact h1
  isplitl [H2]; · iexists f2; isplitr; swap; (· iexact H2); ipureintro; exact h2
  isplitl [H3]; · iexists f3; isplitr; swap; (· iexact H3); ipureintro; exact h3
  isplitl [H4]
  · iexists e4; isplitr; swap; (· iexact H4); ipureintro; rw [g4, h0, h1, h2, h3]; dsimp only [dats]
  isplitl [H5]
  · iexists e5; isplitr; swap; (· iexact H5); ipureintro; rw [g5, h0, h1]; dsimp only [dats]
  isplitl [H6]
  · iexists e6; isplitr; swap; (· iexact H6); ipureintro; rw [g6, h0, h2]; dsimp only [dats]
  iexists e7; isplitr; swap; (· iexact H7); ipureintro; rw [g7, h2]; dsimp only [dats]

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch: every array at what its points leave, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) (run_main m ρ)) ((θ_run defs _ _).mono (fun _ h => h.2) (run_main_quiescent m ρ))

end Cert.Kernel2Ideal.Conv

end
-- ==== Proof.ConvData.lean ====
/- What the mixer's convolution pass back computes, over the extended reals: the data of the call, its results at each
   row of the sequence, and the sums both programs reorder. -/
module
public import proofs.«01_k».proof.Proof.Reals

@[expose] public section
noncomputable section
namespace Cert.Step
open Idealize.ShloMosaic

/-! ## Shifted sequences -/

/-- A sequence of rows with zeros around it, its first row at 32. -/
def seq (g : Fin 2064 → EReal) (n : ℕ) : EReal := if h : 32 ≤ n ∧ n < 2096 then g ⟨n - 32, by omega⟩ else 0

theorem seq_at (g : Fin 2064 → EReal) {n : ℕ} (h : 32 ≤ n ∧ n < 2096) : seq g n = g ⟨n - 32, by omega⟩ := dif_pos h
theorem seq_off (g : Fin 2064 → EReal) {n : ℕ} (h : ¬ (32 ≤ n ∧ n < 2096)) : seq g n = 0 := dif_neg h

theorem mul_seq (x : EReal) (g : Fin 2064 → EReal) (n : ℕ) : x * seq g n = ∑ q : Fin 2064, if q.val + 32 = n then x * g q else 0 := by
  by_cases h : 32 ≤ n ∧ n < 2096
  · rw [seq_at g h, Finset.sum_eq_single (⟨n - 32, by omega⟩ : Fin 2064), if_pos (by show n - 32 + 32 = n; omega)]
    · intro q _ hq
      exact if_neg fun e => hq (Fin.ext (by show q.val = n - 32; omega))
    · exact fun hn => absurd (Finset.mem_univ _) hn
  · rw [seq_off g h, mul_zero]
    exact (Finset.sum_eq_zero fun q _ => if_neg (by omega)).symm

/-- Two sequences multiplied `k` rows apart, summed over either's rows. -/
theorem sum_shift (f g : Fin 2064 → EReal) (k : ℕ) (hk : k ≤ 32) :
    ∑ p, f p * seq g (p.val + 32 + k) = ∑ q, g q * seq f (q.val + 32 - k) := by
  simp only [mul_seq]
  rw [Finset.sum_comm]
  refine Finset.sum_congr rfl fun q _ => Finset.sum_congr rfl fun p _ => ?_
  rw [mul_comm (f p)]
  exact if_congr (by omega) rfl rfl

/-- Eight rows' gathered products, each over 43 stretches of six rows eight apart, are the products of all the rows. -/
theorem sum_gathered {α : Type*} [AddCommMonoid α] (F : ℕ → α) :
    ∑ r : Fin 8, ∑ c : Fin 43, ∑ i : Fin 6, F (48 * c.val + (8 * i.val + r.val)) = ∑ p : Fin 2064, F p.val := by
  rw [Finset.sum_comm]
  refine Eq.trans (Finset.sum_congr rfl fun c _ => ?_) (sum_blocks 43 48 F)
  rw [Finset.sum_comm]
  exact sum_blocks 6 8 fun x => F (48 * c.val + x)

/-! ## The data and the results -/

/-- The arguments of the call: the five projections, the two convolutions' taps, and the gradients of the two branches. -/
structure ConvMix where
  h : Fin 5 → Fin 2064 → Fin 512 → EReal
  wa : Fin 3 → Fin 512 → EReal
  wb : Fin 31 → Fin 512 → EReal
  ya : Fin 2064 → Fin 512 → EReal
  yz : Fin 2064 → Fin 512 → EReal

namespace ConvMix

/-- The data five arrays hold: a projection's lanes lie one after the other. -/
def of (x0 : FVec Ideal ⟨2, ![2064, 2560]⟩ .f32) (x1 : FVec Ideal ⟨2, ![3, 512]⟩ .f32) (x2 : FVec Ideal ⟨2, ![31, 512]⟩ .f32)
    (x3 x4 : FVec Ideal ⟨2, ![2064, 512]⟩ .f32) : ConvMix where
  h q p l := x0 (ix2 p ⟨512 * q.val + l.val, by omega⟩)
  wa j l := x1 (ix2 j l)
  wb j l := x2 (ix2 j l)
  ya p l := x3 (ix2 p l)
  yz p l := x4 (ix2 p l)

variable (D : ConvMix) (l : Fin 512)

/-- What the short and the long convolution take, and the gradient of the short one's result. -/
def srcA (p : Fin 2064) : EReal := D.h 1 p l * D.h 2 p l
def srcB (p : Fin 2064) : EReal := D.h 3 p l * sig (D.h 4 p l)
def slopeA (p : Fin 2064) : EReal := D.ya p l * D.h 0 p l

/-- The short convolution, and what each convolution passes back. -/
def convA (p : ℕ) : EReal := ∑ j : Fin 3, D.wa j l * seq (D.srcA l) (p + 30 + j.val)
def backA (p : ℕ) : EReal := ∑ j : Fin 3, D.wa j l * seq (D.slopeA l) (p + 34 - j.val)
def backB (p : ℕ) : EReal := ∑ j : Fin 31, D.wb j l * seq (D.yz · l) (p + 62 - j.val)

/-- The long convolution, and the gated short one. -/
def convB (p : ℕ) : EReal := ∑ j : Fin 31, D.wb j l * seq (D.srcB l) (p + 2 + j.val)
def mixA (p : Fin 2064) : EReal := D.h 0 p l * D.convA l p.val

/-- The five projections' gradients. -/
def out (q : ℕ) (p : Fin 2064) : EReal :=
  match q with
  | 0 => D.ya p l * D.convA l p.val
  | 1 => D.backA l p.val * D.h 2 p l
  | 2 => D.backA l p.val * D.h 1 p l
  | 3 => D.backB l p.val * sig (D.h 4 p l)
  | _ => D.backB l p.val * D.h 3 p l * sig (D.h 4 p l) * (1 - sig (D.h 4 p l))

/-- The taps' gradients and the bias's. -/
def gradA (j : Fin 3) : EReal := ∑ p : Fin 2064, D.slopeA l p * seq (D.srcA l) (p.val + 30 + j.val)
def gradB (j : Fin 31) : EReal := ∑ p : Fin 2064, D.yz p l * seq (D.srcB l) (p.val + 2 + j.val)
def gradBias : EReal := ∑ p : Fin 2064, D.yz p l

/-- The long convolution's taps, with the gradient moved instead. -/
theorem gradB_moved (j : Fin 31) : ∑ p : Fin 2064, D.srcB l p * seq (D.yz · l) (p.val + 62 - j.val) = D.gradB l j := by
  have h := sum_shift (D.srcB l) (D.yz · l) (30 - j.val) (by omega)
  refine Eq.trans (Finset.sum_congr rfl fun p _ => ?_) (h.trans (Finset.sum_congr rfl fun p _ => ?_))
  · exact congrArg (fun n => D.srcB l p * seq (D.yz · l) n) (by omega)
  · exact congrArg (fun n => D.yz p l * seq (D.srcB l) n) (by omega)

end ConvMix
end Cert.Step
-- ==== Proof.ConvKernel.lean ====
/- The mixer's convolution pass back in the kernel: what its blocks hold, what one lane group computes over the extended
   reals, and the four output arrays after the run. -/
module
public import proofs.«01_k».proof.Proof.ConvFrame
public import proofs.«01_k».proof.Proof.ConvData
public import Idealize.ShloMosaic.Lib.Pipeline.ValueKit
public import Idealize.ShloMosaic.Lib.Claim

@[expose] public section
set_option maxRecDepth 16384
noncomputable section
namespace Cert.Kernel2Ideal.Conv
open Idealize.ShloMosaic Idealize.ShloMosaic.TcCoe Idealize.SL.Sem
open Idealize.ShloMosaic.Pipeline (Dat)
open Cert.Step Cert.Kernel2Ideal Cert.Kernel2Ideal.Gen

/-! ## One lane's sums -/

theorem zero_ideal : (zero : Ideal .f32) = (0 : EReal) := by simp [zero, FloatOps.ofBits, Ideal.ofBits, Ideal.ieee]
theorem one_ideal : (one : Ideal .f32) = (1 : EReal) := by
  have : Ideal.ofBits FTy.f32 1065353216#32 = ((1 : ℝ) : EReal) := by simp [Ideal.ofBits, Ideal.ieee, -EReal.coe_mul]; norm_num
  exact this

theorem logistic_ideal (x : Ideal .f32) : logistic x = Step.sig x := by
  show Ideal.div (one : Ideal .f32) ((one : Ideal .f32) + Ideal.exp ((zero : Ideal .f32) - x) : EReal) = _
  rw [one_ideal, zero_ideal, zero_sub]
  rfl

theorem taps_sum (w g : ℕ → Ideal .f32) (k : ℕ) : taps w g k = ∑ j : Fin k, (w j.val * g j.val : EReal) := by
  rw [Fin.sum_univ_eq_sum_range (fun j => (w j * g j : EReal))]
  induction k with
  | zero => exact zero_ideal
  | succ k ih => rw [Finset.sum_range_succ, ← ih]; rfl

theorem gather_sum (a b : ℕ → Ideal .f32) (r k : ℕ) : gather a b r k
    = ∑ c : Fin k, ∑ i : Fin 6, (a (48 * c.val + 32 + (8 * i.val + r)) * b (48 * c.val + 32 + (8 * i.val + r)) : EReal) := by
  rw [Fin.sum_univ_eq_sum_range (fun c => ∑ i : Fin 6, (a (48 * c + 32 + (8 * i.val + r)) * b (48 * c + 32 + (8 * i.val + r)) : EReal))]
  induction k with
  | zero => exact zero_ideal
  | succ k ih =>
    rw [Finset.sum_range_succ, ← ih, Fin.sum_univ_six]
    simp only [gather, six]
    simp

/-- Eight rows of gathered products, added up. -/
theorem gathered (a b : ℕ → Ideal .f32) : ∑ r : Fin 8, (gather a b r.val 43 : EReal) = ∑ p : Fin 2064, (a (p.val + 32) * b (p.val + 32) : EReal) := by
  rw [← sum_gathered fun x => (a (x + 32) * b (x + 32) : EReal)]
  refine Finset.sum_congr rfl fun r _ => (gather_sum a b r.val 43).trans ?_
  refine Finset.sum_congr rfl fun c _ => Finset.sum_congr rfl fun i _ => ?_
  rw [Nat.add_right_comm]

/-! ## Stored rows -/

theorem padRow_srow (g : Fin 2064 → EReal) {n : ℕ} (h : 32 ≤ n ∧ n < 2096) : padRow g (srow n) = seq g n := by
  rw [seq_at g h]
  unfold padRow srow
  split_ifs <;> first | omega | exact congrArg g (Fin.ext (by simp only []; omega))

theorem padRow_pos (g : Fin 2064 → EReal) {n : ℕ} (h : n < 2064) : padRow g n = g ⟨pos n - 32, by unfold pos; split_ifs <;> omega⟩ := by
  unfold padRow
  split_ifs <;> first | omega | exact congrArg g (Fin.ext (by simp only [pos]; split_ifs <;> omega))

theorem pad_seq (f : ℕ → Fin 128 → Ideal .f32) (g : Fin 2064 → EReal) (l : Fin 128)
    (h : ∀ n, 32 ≤ n → n < 2096 → f (srow n) l = seq g n) (n : ℕ) : pad f n l = seq g n := by
  unfold pad
  split_ifs with hn
  · exact h n hn.1 hn.2
  · rw [seq_off g hn]; exact zero_ideal

/-! ## One lane group -/

/-- The lanes of group `t`. -/
def lane (t : ℕ) (ht : t < 4) (l : Fin 128) : Fin 512 := ⟨128 * t + l.val, by omega⟩

/-- What the blocks of lane group `t` hold. -/
structure Blocks (D : ConvMix) (t : ℕ) (ht : t < 4) (x1 : Vec Ideal S5x2176x128 .f32) (x2 x3 : Vec Ideal S2176x128 .f32)
    (x4 : Vec Ideal S1x64x256 .f32) : Prop where
  h : ∀ q n l, x1 (ix3 q n l) = padRow (fun p => D.h q p (lane t ht l)) n.val
  ya : ∀ n l, x2 (ix2 n l) = padRow (fun p => D.ya p (lane t ht l)) n.val
  yz : ∀ n l, x3 (ix2 n l) = padRow (fun p => D.yz p (lane t ht l)) n.val
  wa : ∀ (j : Fin 3) (l : Fin 128), x4 (ix3 0 (Fin.ofNat 64 (16 + j.val)) (Fin.ofNat 256 l.val)) = D.wa j (lane t ht l)
  wb : ∀ (j : Fin 31) (l : Fin 128), x4 (ix3 0 (Fin.ofNat 64 (24 + j.val)) (Fin.ofNat 256 l.val)) = D.wb j (lane t ht l)

section
variable {D : ConvMix} {t : ℕ} {ht : t < 4} {x1 : Vec Ideal S5x2176x128 .f32} {x2 x3 : Vec Ideal S2176x128 .f32}
  {x4 : Vec Ideal S1x64x256 .f32} (B : Blocks D t ht x1 x2 x3 x4) (l : Fin 128)
include B

theorem cell5_at (q : Fin 5) {n : ℕ} (hn : n < 2176) : cell5 x1 q.val n l = padRow (fun p => D.h q p (lane t ht l)) n := by
  refine Eq.trans ?_ (B.h q ⟨n, hn⟩ l)
  exact congrArg x1 (congrArg₂ (fun a b => ix3 a b l) (Fin.ext (Nat.mod_eq_of_lt q.isLt)) (Fin.ext (Nat.mod_eq_of_lt hn)))

theorem ya_at {n : ℕ} (hn : n < 2176) : cell x2 n l = padRow (fun p => D.ya p (lane t ht l)) n := by
  refine Eq.trans ?_ (B.ya ⟨n, hn⟩ l)
  exact congrArg x2 (congrArg (fun a => ix2 a l) (Fin.ext (Nat.mod_eq_of_lt hn)))

theorem yz_at {n : ℕ} (hn : n < 2176) : cell x3 n l = padRow (fun p => D.yz p (lane t ht l)) n := by
  refine Eq.trans ?_ (B.yz ⟨n, hn⟩ l)
  exact congrArg x3 (congrArg (fun a => ix2 a l) (Fin.ext (Nat.mod_eq_of_lt hn)))

omit B in
theorem srow_lt {n : ℕ} (h1 : n < 2096) : srow n < 2176 := by unfold srow; split_ifs <;> omega

theorem srcA_seq (n : ℕ) : pad (srcA x1) n l = seq (D.srcA (lane t ht l)) n := by
  refine pad_seq _ _ l (fun n h1 h2 => ?_) n
  show (cell5 x1 1 (srow n) l * cell5 x1 2 (srow n) l : EReal) = _
  have e1 := cell5_at B l 1 (srow_lt h2)
  have e2 := cell5_at B l 2 (srow_lt h2)
  rw [padRow_srow _ ⟨h1, h2⟩, seq_at _ ⟨h1, h2⟩] at e1 e2
  rw [seq_at _ ⟨h1, h2⟩]
  exact congrArg₂ (fun a b : EReal => a * b) e1 e2

theorem slopeA_seq (n : ℕ) : pad (slopeA x1 x2) n l = seq (D.slopeA (lane t ht l)) n := by
  refine pad_seq _ _ l (fun n h1 h2 => ?_) n
  show (cell x2 (srow n) l * cell5 x1 0 (srow n) l : EReal) = _
  have e1 := ya_at B l (srow_lt h2)
  have e2 := cell5_at B l 0 (srow_lt h2)
  rw [padRow_srow _ ⟨h1, h2⟩, seq_at _ ⟨h1, h2⟩] at e1 e2
  rw [seq_at _ ⟨h1, h2⟩]
  exact congrArg₂ (fun a b : EReal => a * b) e1 e2

theorem srcB_seq (n : ℕ) : pad (srcB x1) n l = seq (D.srcB (lane t ht l)) n := by
  refine pad_seq _ _ l (fun n h1 h2 => ?_) n
  show (cell5 x1 3 (srow n) l * logistic (cell5 x1 4 (srow n) l) : EReal) = _
  have e1 := cell5_at B l 3 (srow_lt h2)
  have e2 := cell5_at B l 4 (srow_lt h2)
  rw [padRow_srow _ ⟨h1, h2⟩, seq_at _ ⟨h1, h2⟩] at e1 e2
  rw [seq_at _ ⟨h1, h2⟩]
  exact congrArg₂ (fun a b : EReal => a * b) e1 ((logistic_ideal _).trans (congrArg Step.sig e2))

theorem yz_seq (n : ℕ) : pad (cell x3) n l = seq (D.yz · (lane t ht l)) n :=
  pad_seq _ _ l (fun n h1 h2 => (yz_at B l (srow_lt h2)).trans (padRow_srow _ ⟨h1, h2⟩)) n

theorem wA_at (j : Fin 3) : weight (wA x4) l j.val = D.wa j (lane t ht l) := by
  refine Eq.trans ?_ (B.wa j l)
  exact congrArg (fun j : Fin 3 => x4 (ix3 0 (Fin.ofNat 64 (16 + j.val)) (Fin.ofNat 256 l.val))) (Fin.ext (Nat.mod_eq_of_lt j.isLt))

theorem wB_at (j : Fin 31) : weight (wB x4) l j.val = D.wb j (lane t ht l) := by
  refine Eq.trans ?_ (B.wb j l)
  exact congrArg (fun j : Fin 31 => x4 (ix3 0 (Fin.ofNat 64 (24 + j.val)) (Fin.ofNat 256 l.val))) (Fin.ext (Nat.mod_eq_of_lt j.isLt))

theorem convA_at {n : ℕ} (hn : 32 ≤ n) : convA x1 x4 n l = D.convA (lane t ht l) (n - 32) := by
  refine (taps_sum _ _ 3).trans (Finset.sum_congr rfl fun j _ => ?_)
  refine congrArg₂ (fun a b : EReal => a * b) (wA_at B l j) ((srcA_seq B l _).trans (congrArg _ ?_))
  omega

theorem backA_at {n : ℕ} (hn : 32 ≤ n) : backA x1 x2 x4 n l = D.backA (lane t ht l) (n - 32) := by
  refine (taps_sum _ _ 3).trans (Finset.sum_congr rfl fun j _ => ?_)
  refine congrArg₂ (fun a b : EReal => a * b) (wA_at B l j) ((slopeA_seq B l _).trans (congrArg _ ?_))
  omega

theorem backB_at {n : ℕ} (hn : 32 ≤ n) : backB x3 x4 n l = D.backB (lane t ht l) (n - 32) := by
  refine (taps_sum _ _ 31).trans (Finset.sum_congr rfl fun j _ => ?_)
  refine congrArg₂ (fun a b : EReal => a * b) (wB_at B l j) ((yz_seq B l _).trans (congrArg _ ?_))
  omega

/-- A stored row of the five planes. -/
theorem plane_at (q : ℕ) {n : ℕ} (hn : n < 2064) : plane x1 x2 x3 x4 q n l = padRow (D.out (lane t ht l) q) n := by
  have hp : 32 ≤ pos n := by unfold pos; split_ifs <;> omega
  have eh := fun q => (cell5_at B l q (n := n) (by omega)).trans (padRow_pos _ hn)
  have ey := (ya_at B l (n := n) (by omega)).trans (padRow_pos _ hn)
  have es := (logistic_ideal _).trans (congrArg Step.sig (eh 4))
  have ea := backA_at B l hp
  have eb := backB_at B l hp
  rw [padRow_pos _ hn]
  match q with
  | 0 => exact congrArg₂ (fun a b : EReal => a * b) ey (convA_at B l hp)
  | 1 => exact congrArg₂ (fun a b : EReal => a * b) ea (eh 2)
  | 2 => exact congrArg₂ (fun a b : EReal => a * b) ea (eh 1)
  | 3 => exact congrArg₂ (fun a b : EReal => a * b) eb es
  | k + 4 =>
    refine congrArg₂ (fun a b : EReal => a * b) (congrArg₂ (fun a b : EReal => a * b) (congrArg₂ (fun a b : EReal => a * b) eb (eh 3)) es) ?_
    exact congrArg₂ (fun a b : EReal => a - b) one_ideal es

theorem planes_at (q : Fin 5) (n : Fin 2176) : planes x1 x2 x3 x4 (ix3 q n l) = padRow (D.out (lane t ht l) q.val) n.val := by
  show (if n.val < 2064 then (plane x1 x2 x3 x4 q.val n.val l : EReal) else _) = _
  split_ifs with hn
  · exact plane_at B l q.val hn
  · unfold padRow
    rw [dif_neg (by omega), dif_neg (by omega)]
    simp [FloatOps.ofBits, Ideal.ofBits, Ideal.ieee]

theorem gradA_at (j : Fin 3) : gradA x1 x2 (ix2 j l) = D.gradA (lane t ht l) j := by
  have e : gradA x1 x2 (ix2 j l) = ∑ r : Fin 8, (gather (fun n => pad (slopeA x1 x2) n l) (fun n => pad (srcA x1) (n - 2 + j.val) l) r.val 43 : EReal) := by
    pointwise [gradA]
  rw [e, gathered]
  refine Finset.sum_congr rfl fun p _ => congrArg₂ (fun a b : EReal => a * b) ?_ ?_
  · rw [slopeA_seq B, seq_at _ ⟨by omega, by omega⟩]; rfl
  · rw [srcA_seq B]; exact congrArg _ (by omega)

theorem gradB_at (j : Fin 31) : gradB x1 x3 (ix2 j l) = D.gradB (lane t ht l) j := by
  have e : gradB x1 x3 (ix2 j l) = ∑ r : Fin 8, (gather (fun n => pad (srcB x1) n l) (fun n => pad (cell x3) (n + 30 - j.val) l) r.val 43 : EReal) := by
    pointwise [gradB]
  rw [e, gathered, ← D.gradB_moved]
  refine Finset.sum_congr rfl fun p _ => congrArg₂ (fun a b : EReal => a * b) ?_ ?_
  · rw [srcB_seq B, seq_at _ ⟨by omega, by omega⟩]; rfl
  · rw [yz_seq B]

theorem gradBias_at : gradBias x3 (ix2 0 l) = D.gradBias (lane t ht l) := by
  have e : gradBias x3 (ix2 0 l) = ((∑ p : Fin 2048, cell x3 (0 + p.val) l : EReal) + ∑ p : Fin 16, cell x3 (2048 + p.val) l : EReal) := by
    pointwise [gradBias, k0_pay112]
  rw [e]
  refine Eq.trans ?_ (sum_padRow fun p => D.yz p (lane t ht l))
  rw [Fin.sum_univ_add (a := 2048) (b := 128), Fin.sum_univ_add (a := 16) (b := 112) (f := fun i : Fin 128 => _)]
  refine congrArg₂ (fun a b : EReal => a + b) (Finset.sum_congr rfl fun p _ => ?_) ?_
  · exact (yz_at B l (by omega)).trans (congrArg _ (Nat.zero_add _))
  · refine Eq.trans (Finset.sum_congr rfl fun p _ => yz_at B l (by omega)) ?_
    refine (add_zero _).symm.trans (congrArg₂ (fun a b : EReal => a + b) rfl (Finset.sum_eq_zero fun p _ => ?_).symm)
    show padRow _ (2048 + (16 + p.val)) = 0
    unfold padRow
    rw [dif_neg (by omega), dif_neg (by omega)]

end

/-! ## The arrays -/

/-- Rows in the stored order, as the host lays them out. -/
def rows (x : Vec Ideal S2064x512 .f32) : Vec Ideal S2176x512 .f32 :=
  concatenate S2176x512 0 [⟨S2048x512, extractStridedSlice S2048x512 ![16, 0] x slices_S2064x512_S2048x512_16_0⟩,
    ⟨S16x512, extractStridedSlice S16x512 ![0, 0] x slices_S2064x512_S16x512_0_0⟩,
    ⟨S112x512, broadcastInDim S112x512 ![] bcast_S_S112x512 (constant (F := Ideal) S_ .f32 0#32)⟩] concatenates_S2048x512_S16x512_S112x512_S2176x512_d0

/-- The projections in the stored order of the rows, one plane each. -/
def rows5 (x : Vec Ideal S2064x2560 .f32) : Vec Ideal S5x2176x512 .f32 :=
  transpose S5x2176x512 [1, 0, 2] (shapeCast S2176x5x512
    (concatenate S2176x2560 0 [⟨S2048x2560, extractStridedSlice S2048x2560 ![16, 0] x slices_S2064x2560_S2048x2560_16_0⟩,
      ⟨S16x2560, extractStridedSlice S16x2560 ![0, 0] x slices_S2064x2560_S16x2560_0_0⟩,
      ⟨S112x2560, broadcastInDim S112x2560 ![] bcast_S_S112x2560 (constant (F := Ideal) S_ .f32 0#32)⟩]
      concatenates_S2048x2560_S16x2560_S112x2560_S2176x2560_d0) shapeCasts_S2176x2560_S2176x5x512) transposes_S2176x5x512_S5x2176x512_1_0_2

/-- The taps of both convolutions in one table for each lane group. -/
def table (x1 : Vec Ideal S3x512 .f32) (x2 : Vec Ideal S31x512 .f32) : Vec Ideal S4x64x256 .f32 :=
  concatenate S4x64x256 2 [⟨S4x64x128, concatenate S4x64x128 1
    [⟨S4x16x128, broadcastInDim S4x16x128 ![] bcast_S_S4x16x128 (constant (F := Ideal) S_ .f32 0#32)⟩,
      ⟨S4x3x128, transpose S4x3x128 [1, 0, 2] (shapeCast S3x4x128 x1 shapeCasts_S3x512_S3x4x128) transposes_S3x4x128_S4x3x128_1_0_2⟩,
      ⟨S4x5x128, broadcastInDim S4x5x128 ![] bcast_S_S4x5x128 (constant (F := Ideal) S_ .f32 0#32)⟩,
      ⟨S4x31x128, transpose S4x31x128 [1, 0, 2] (shapeCast S31x4x128 x2 shapeCasts_S31x512_S31x4x128) transposes_S31x4x128_S4x31x128_1_0_2⟩,
      ⟨S4x9x128, broadcastInDim S4x9x128 ![] bcast_S_S4x9x128 (constant (F := Ideal) S_ .f32 0#32)⟩]
      concatenates_S4x16x128_S4x3x128_S4x5x128_S4x31x128_S4x9x128_S4x64x128_d1⟩,
    ⟨S4x64x128, broadcastInDim S4x64x128 ![] bcast_S_S4x64x128 (constant (F := Ideal) S_ .f32 0#32)⟩] concatenates_S4x64x128_S4x64x128_S4x64x256_d2

variable (m : (ℓ : Loc nD τ sig) → Buf (Elt Ideal) ℓ) (c : Dev nD)

theorem entry_h : V m c main_v5 = rows5 (m ((c : Thread nD τ).loc main_arg0)) := by
  unfold V rows5; after_results; rfl
theorem entry_ya : V m c main_v19 = rows (m ((c : Thread nD τ).loc main_arg3)) := by
  unfold V rows; after_results; rfl
theorem entry_yz : V m c main_v23 = rows (m ((c : Thread nD τ).loc main_arg4)) := by
  unfold V rows; after_results; rfl
theorem entry_table : V m c main_v15 = table (m ((c : Thread nD τ).loc main_arg1)) (m ((c : Thread nD τ).loc main_arg2)) := by
  unfold V table; after_results; rfl

/-- The call's data, from the arrays of one device. -/
def data : ConvMix := .of (m ((c : Thread nD τ).loc main_arg0)) (m ((c : Thread nD τ).loc main_arg1))
  (m ((c : Thread nD τ).loc main_arg2)) (m ((c : Thread nD τ).loc main_arg3)) (m ((c : Thread nD τ).loc main_arg4))

theorem rows_at (x : Vec Ideal S2064x512 .f32) (n : Fin 2176) (l : Fin 512) : rows x (ix2 n l) = padRow (fun p => (x (ix2 p l) : EReal)) n.val := by
  pointwise [rows]
  rfl

theorem rows5_at (x : Vec Ideal S2064x2560 .f32) (q : Fin 5) (n : Fin 2176) (l : Fin 512) :
    rows5 x (ix3 q n l) = padRow (fun p => (x (ix2 p ⟨512 * q.val + l.val, by omega⟩) : EReal)) n.val := by
  pointwise [rows5]
  unfold padRow
  simp only [mul_comm q.val]

theorem table_a (x1 : Vec Ideal S3x512 .f32) (x2 : Vec Ideal S31x512 .f32) (t : Fin 4) (j : Fin 3) (l : Fin 128) :
    table x1 x2 (ix3 t ⟨16 + j.val, by omega⟩ ⟨l.val, by omega⟩) = x1 (ix2 j (lane t.val t.isLt l)) := by
  pointwise [table]
  simp only [lane, mul_comm t.val]

theorem table_b (x1 : Vec Ideal S3x512 .f32) (x2 : Vec Ideal S31x512 .f32) (t : Fin 4) (j : Fin 31) (l : Fin 128) :
    table x1 x2 (ix3 t ⟨24 + j.val, by omega⟩ ⟨l.val, by omega⟩) = x2 (ix2 j (lane t.val t.isLt l)) := by
  pointwise [table]
  rw [dif_neg (by omega), dif_neg (by omega), dif_neg (by omega), dif_pos (by omega)]
  simp only [lane, mul_comm t.val]
  exact congrArg (fun j => x2 (ix2 j _)) (Fin.ext (by simp only []; omega))

theorem idx : ∀ t : Fin cfg0.N, win0_0.index t = ![0, 0, t.val] ∧ win0_1.index t = ![0, t.val] ∧ win0_2.index t = ![0, t.val]
    ∧ win0_3.index t = ![t.val, 0, 0] ∧ win0_4.index t = ![0, 0, t.val] ∧ win0_5.index t = ![0, t.val] ∧ win0_6.index t = ![0, t.val]
    ∧ win0_7.index t = ![0, t.val] := (by decide +kernel : ∀ t : Fin grid0.N, _)

theorem group_lt (t : Fin cfg0.N) : t.val < 4 := lt_of_lt_of_eq t.isLt N_0

theorem blk_table (t : Fin cfg0.N) (j : Fin 64) (l : Fin 256) : iblk m c 3 t (ix3 0 j l)
    = table (m ((c : Thread nD τ).loc main_arg1)) (m ((c : Thread nD τ).loc main_arg2)) (ix3 ⟨t.val, group_lt t⟩ j l) := by
  rw [← entry_table]; blk_ext [iblk, idx t]

theorem ofNat_val (n : ℕ) [NeZero n] (k : Fin n) : Fin.ofNat n k.val = k := Fin.ext (Nat.mod_eq_of_lt k.isLt)

/-- The blocks hold their lane group's part of the data. -/
theorem blocks (t : Fin cfg0.N) : Blocks (data m c) t.val (group_lt t) (iblk m c 0 t) (iblk m c 1 t) (iblk m c 2 t) (iblk m c 3 t) where
  h q n l := by
    have e : iblk m c 0 t (ix3 q n l) = rows5 (m ((c : Thread nD τ).loc main_arg0)) (ix3 q n (lane t.val (group_lt t) l)) := by
      rw [← entry_h]; blk_ext [iblk, idx t, lane]
    exact e.trans (rows5_at _ q n _)
  ya n l := by
    have e : iblk m c 1 t (ix2 n l) = rows (m ((c : Thread nD τ).loc main_arg3)) (ix2 n (lane t.val (group_lt t) l)) := by
      rw [← entry_ya]; blk_ext [iblk, idx t, lane]
    exact e.trans (rows_at _ n _)
  yz n l := by
    have e : iblk m c 2 t (ix2 n l) = rows (m ((c : Thread nD τ).loc main_arg4)) (ix2 n (lane t.val (group_lt t) l)) := by
      rw [← entry_yz]; blk_ext [iblk, idx t, lane]
    exact e.trans (rows_at _ n _)
  wa j l := by
    have e := (blk_table m c t ⟨16 + j.val, by omega⟩ ⟨l.val, by omega⟩).trans (table_a _ _ ⟨t.val, group_lt t⟩ j l)
    exact (congrArg (iblk m c 3 t) (congrArg₂ (ix3 0) (ofNat_val 64 ⟨16 + j.val, by omega⟩) (ofNat_val 256 ⟨l.val, by omega⟩))).trans e
  wb j l := by
    have e := (blk_table m c t ⟨24 + j.val, by omega⟩ ⟨l.val, by omega⟩).trans (table_b _ _ ⟨t.val, group_lt t⟩ j l)
    exact (congrArg (iblk m c 3 t) (congrArg₂ (ix3 0) (ofNat_val 64 ⟨24 + j.val, by omega⟩) (ofNat_val 256 ⟨l.val, by omega⟩))).trans e

/-! ## The results -/

variable (D : ConvMix)
/-- The call's four results. -/
def d5 : FVec Ideal S5x2176x512 .bf16 := fun i => (padRow (D.out (i 2) (i 0).val) (i 1).val : EReal)
def dwa : FVec Ideal S3x512 .f32 := fun i => D.gradA (i 1) (i 0)
def dwb : FVec Ideal S31x512 .f32 := fun i => D.gradB (i 1) (i 0)
def dbias : FVec Ideal S1x512 .f32 := fun i => D.gradBias (i 1)

variable {D} in
theorem d5_at (t : ℕ) (ht : t < 4) (q : Fin 5) (n : Fin 2176) (l : Fin 128) (i : S5x2176x512.Idx) (h0 : (i 0).val = q.val) (h1 : (i 1).val = n.val)
    (h2 : (i 2).val = t * 128 + l.val) : (padRow (D.out (lane t ht l) q.val) n.val : EReal) = d5 D i := by
  unfold d5
  rw [h0, h1, show i 2 = lane t ht l from Fin.ext (h2.trans (congrArg (· + l.val) (mul_comm t 128)))]

theorem lane_at {n : ℕ} (t : ℕ) (ht : t < 4) (G : Fin n → Fin 512 → EReal) (j : Fin n) (l : Fin 128) (i : (⟨2, ![n, 512]⟩ : Shape).Idx)
    (h0 : (i 0).val = j.val) (h1 : (i 1).val = t * 128 + l.val) : G j (lane t ht l) = G (i 0) (i 1) := by
  rw [show i 0 = j from Fin.ext h0, show i 1 = lane t ht l from Fin.ext (h1.trans (congrArg (· + l.val) (mul_comm t 128)))]

theorem final_d5 : (dats m 0 c).arrAt 4 (cfgs 0).N = d5 (data m c) := by
  refine (dats m 0 c).arrAt_eq_of_covers 4 _ (by decide +kernel) fun t hf y => ?_
  blk_simp
  refine ((congrArg _ (eq_ix3 y)).trans (planes_at (blocks m c t) (y 2) (y 0) (y 1))).trans (d5_at t.val (group_lt t) (y 0) (y 1) (y 2) _ ?_ ?_ ?_)
    <;> blk_simp [idx t]

theorem final_dwa : (dats m 0 c).arrAt 5 (cfgs 0).N = dwa (data m c) := by
  refine (dats m 0 c).arrAt_eq_of_covers 5 _ (by decide +kernel) fun t hf y => ?_
  blk_simp
  refine ((congrArg _ (eq_ix2 y)).trans (gradA_at (blocks m c t) (y 1) (y 0))).trans
    (lane_at t.val (group_lt t) (fun j l => (data m c).gradA l j) (y 0) (y 1) _ ?_ ?_) <;> blk_simp [idx t]

theorem final_dwb : (dats m 0 c).arrAt 6 (cfgs 0).N = dwb (data m c) := by
  refine (dats m 0 c).arrAt_eq_of_covers 6 _ (by decide +kernel) fun t hf y => ?_
  blk_simp
  refine ((congrArg _ (eq_ix2 y)).trans (gradB_at (blocks m c t) (y 1) (y 0))).trans
    (lane_at t.val (group_lt t) (fun j l => (data m c).gradB l j) (y 0) (y 1) _ ?_ ?_) <;> blk_simp [idx t]

theorem final_dbias : (dats m 0 c).arrAt 7 (cfgs 0).N = dbias (data m c) := by
  refine (dats m 0 c).arrAt_eq_of_covers 7 _ (by decide +kernel) fun t hf y => ?_
  blk_simp
  obtain ⟨l, rfl⟩ : ∃ l : Fin 128, y = ix2 (0 : Fin 1) l := ⟨y 1, by rw [eq_ix2 y]; congr 1; exact Subsingleton.elim _ _⟩
  refine (gradBias_at (blocks m c t) l).trans
    (lane_at t.val (group_lt t) (fun (_ : Fin 1) l => (data m c).gradBias l) 0 l _ ?_ ?_) <;> blk_simp [idx t]

end Cert.Kernel2Ideal.Conv
-- ==== Proof.ConvReference.lean ====
/- The mixer's convolution pass back in the reference: its derivative is the data's results, over the extended reals. -/
module
public import proofs.«01_k».proof.Proof.Gen.Reference2Ideal.Read
public import proofs.«01_k».proof.Proof.ConvData
public import Idealize.ShloMosaic.Lib.Pipeline.ValueKit

@[expose] public section
set_option maxRecDepth 16384
noncomputable section
namespace Cert.Reference2Ideal.Conv
open Idealize.ShloMosaic
open Cert.Step Cert.Reference2Ideal Cert.Reference2Ideal.Gen Cert.Reference2Ideal.Read

variable (x0 : FVec Ideal S2064x2560 .f32) (x1 : FVec Ideal S3x512 .f32) (x2 : FVec Ideal S31x512 .f32) (x3 x4 : FVec Ideal S2064x512 .f32)

/-! ## One tap's part -/

/-- A tap's product moved to its place, the rows it leaves being zero. -/
theorem pad_tap {N lo hi : ℕ} (g : FVec Ideal S2064x512 .f32) (h : S2064x512.Pads ![lo, 0] ![hi, 0] ![0, 0] ⟨2, ![N, 512]⟩)
    (n : Fin N) (l : Fin 512) : pad ⟨2, ![N, 512]⟩ ![lo, 0] ![hi, 0] ![0, 0] g (constant (F := Ideal) S_ .f32 0#32) h h_S_ (ix2 n l)
      = seq (fun p => (g (ix2 p l) : EReal)) (n.val + 32 - lo) := by
  pointwise
  by_cases hn : lo ≤ n.val ∧ n.val - lo < 2064
  · rw [dif_pos hn, seq_at _ ⟨by omega, by omega⟩]
    exact congrArg (fun p => g (ix2 p l)) (Fin.ext (by simp only []; omega))
  · rw [dif_neg hn, seq_off _ (by omega)]

theorem seq_mul (x : EReal) (g : Fin 2064 → EReal) (n : ℕ) : seq (fun p => x * g p) n = x * seq g n := by
  unfold seq; split_ifs <;> simp

theorem row_slice {K lo : ℕ} [NeZero K] (w : FVec Ideal ⟨2, ![K, 512]⟩ .f32) (hs : (⟨2, ![K, 512]⟩ : Shape).Slices ![lo, 0] S1x512) (hlo : lo < K)
    (l : Fin 512) : extractStridedSlice S1x512 ![lo, 0] w hs (ix2 0 l) = w (ix2 (Fin.ofNat K lo) l) :=
  extractStridedSlice_apply _ w hs _ _ fun a => match a with
    | ⟨0, _⟩ => Nat.mod_eq_of_lt hlo
    | ⟨1, _⟩ => (Nat.zero_add _).symm

/-- The sum of the last `k` of `K` taps' products with a sequence. -/
def tail {K : ℕ} [NeZero K] (w : FVec Ideal ⟨2, ![K, 512]⟩ .f32) (g : FVec Ideal S2064x512 .f32) (k n : ℕ) (l : Fin 512) : EReal :=
  ∑ i ∈ Finset.range k, w (ix2 (Fin.ofNat K (K - 1 - i)) l) * seq (fun p => (g (ix2 p l) : EReal)) (n + 32 - (K - 1 - i))

/-- A tap's part of the sum. -/
theorem tap_at {K N lo hi : ℕ} [NeZero K] (w : FVec Ideal ⟨2, ![K, 512]⟩ .f32) (g : FVec Ideal S2064x512 .f32)
    (h : S2064x512.Pads ![lo, 0] ![hi, 0] ![0, 0] ⟨2, ![N, 512]⟩) (hs : (⟨2, ![K, 512]⟩ : Shape).Slices ![lo, 0] S1x512) (hlo : lo < K)
    (n : Fin N) (l : Fin 512) : pad ⟨2, ![N, 512]⟩ ![lo, 0] ![hi, 0] ![0, 0]
        (mulf (broadcastInDim S2064x512 ![0, 1] bcast_S1x512_S2064x512_0_1 (extractStridedSlice S1x512 ![lo, 0] w hs)) g)
        (constant (F := Ideal) S_ .f32 0#32) h h_S_ (ix2 n l)
      = w (ix2 (Fin.ofNat K lo) l) * seq (fun p => (g (ix2 p l) : EReal)) (n.val + 32 - lo) := by
  rw [pad_tap, ← seq_mul, ← row_slice w hs hlo]
  pointwise

/-- One unit row of a gradient of taps: the tap's sum over the rows. -/
theorem row_at {N lo : ℕ} (g : FVec Ideal S2064x512 .f32) (V : FVec Ideal ⟨2, ![N, 512]⟩ .f32) (hs : (⟨2, ![N, 512]⟩ : Shape).Slices ![lo, 0] S2064x512)
    (hN : ∀ p : Fin 2064, lo + p.val < N) (l : Fin 512) :
    shapeCast S1x512 (Host.reduceAdd (mulf g (extractStridedSlice S2064x512 ![lo, 0] V hs)) (constant (F := Ideal) S_ .f32 0#32)
      reducesTo_S2064x512_S512_d0 h_S_) shapeCasts_S512_S1x512 (ix2 0 l) = ∑ p : Fin 2064, (g (ix2 p l) * V (ix2 ⟨lo + p.val, hN p⟩ l) : EReal) := by
  pointwise
  refine Finset.sum_congr rfl fun p _ => congrArg (fun i => g (ix2 p l) * V i) (funext fun a => Fin.ext ?_)
  match a with
  | ⟨0, _⟩ => rfl
  | ⟨1, _⟩ => exact Nat.zero_add _

theorem tail_one {K N lo hi : ℕ} [NeZero K] (w : FVec Ideal ⟨2, ![K, 512]⟩ .f32) (g : FVec Ideal S2064x512 .f32)
    (h : S2064x512.Pads ![lo, 0] ![hi, 0] ![0, 0] ⟨2, ![N, 512]⟩) (hs : (⟨2, ![K, 512]⟩ : Shape).Slices ![lo, 0] S1x512) (hlo : lo = K - 1)
    (n : Fin N) (l : Fin 512) : pad ⟨2, ![N, 512]⟩ ![lo, 0] ![hi, 0] ![0, 0]
        (mulf (broadcastInDim S2064x512 ![0, 1] bcast_S1x512_S2064x512_0_1 (extractStridedSlice S1x512 ![lo, 0] w hs)) g)
        (constant (F := Ideal) S_ .f32 0#32) h h_S_ (ix2 n l) = tail w g 1 n.val l := by
  have := NeZero.pos K
  rw [tap_at w g h hs (by omega), hlo]
  simp [tail]

/-- One tap more. -/
theorem tail_add {K N lo hi : ℕ} [NeZero K] {w : FVec Ideal ⟨2, ![K, 512]⟩ .f32} {g : FVec Ideal S2064x512 .f32} {k : ℕ}
    {X : FVec Ideal ⟨2, ![N, 512]⟩ .f32} (hX : ∀ n l, X (ix2 n l) = tail w g k n.val l)
    {h : S2064x512.Pads ![lo, 0] ![hi, 0] ![0, 0] ⟨2, ![N, 512]⟩} {hs : (⟨2, ![K, 512]⟩ : Shape).Slices ![lo, 0] S1x512} (hlo : lo = K - 1 - k)
    (n : Fin N) (l : Fin 512) : addf X (pad ⟨2, ![N, 512]⟩ ![lo, 0] ![hi, 0] ![0, 0]
        (mulf (broadcastInDim S2064x512 ![0, 1] bcast_S1x512_S2064x512_0_1 (extractStridedSlice S1x512 ![lo, 0] w hs)) g)
        (constant (F := Ideal) S_ .f32 0#32) h h_S_) (ix2 n l) = tail w g (k + 1) n.val l := by
  have := NeZero.pos K
  refine (congrArg₂ (fun a b : EReal => a + b) (hX n l) (tap_at w g h hs (by omega) n l)).trans ?_
  rw [hlo]
  exact (Finset.sum_range_succ _ k).symm

/-- All the taps. -/
theorem tail_all {K : ℕ} [NeZero K] (w : FVec Ideal ⟨2, ![K, 512]⟩ .f32) (g : FVec Ideal S2064x512 .f32) (n : ℕ) (l : Fin 512) :
    tail w g K n l = ∑ j : Fin K, w (ix2 j l) * seq (fun p => (g (ix2 p l) : EReal)) (n + 32 - j.val) := by
  refine (Finset.sum_range_reflect (fun i => w (ix2 (Fin.ofNat K i) l) * seq (fun p => (g (ix2 p l) : EReal)) (n + 32 - i)) K).trans ?_
  rw [← Fin.sum_univ_eq_sum_range]
  refine Finset.sum_congr rfl fun j _ => ?_
  rw [show Fin.ofNat K j.val = j from Fin.ext (Nat.mod_eq_of_lt j.isLt)]

/-- A unit row of a table of taps' gradients, the table's first tap being `b`. -/
theorem row_piece {N lo M k b off : ℕ} {g : FVec Ideal S2064x512 .f32} {V : FVec Ideal ⟨2, ![N, 512]⟩ .f32} {l : Fin 512} {f s : Fin 2064 → EReal}
    (hg : ∀ p, g (ix2 p l) = f p) (hV : ∀ n, V (ix2 n l) = seq s (n.val + off)) (j : Fin M) {hs : (⟨2, ![N, 512]⟩ : Shape).Slices ![lo, 0] S2064x512}
    (hlo : lo = b + k) (hN : lo + 2064 ≤ N) :
    PieceAt (t := ⟨2, ![M, 512]⟩) 0 (ix2 j l) (∑ p : Fin 2064, f p * seq s (p.val + off + (b + j.val)) : EReal) S1x512
      (shapeCast S1x512 (Host.reduceAdd (mulf g (extractStridedSlice S2064x512 ![lo, 0] V hs)) (constant (F := Ideal) S_ .f32 0#32)
        reducesTo_S2064x512_S512_d0 h_S_) shapeCasts_S512_S1x512) k := by
  intro hj hr i h0 h1
  have e : i = ix2 (0 : Fin 1) l := by
    rw [eq_ix2 i]
    exact congrArg₂ ix2 (Subsingleton.elim _ _) (Fin.ext (h1 1 fun h => Nat.one_ne_zero (congrArg Fin.val h)))
  have hj : j.val = k := hj
  rw [e, row_at g V hs (fun p => by omega)]
  refine Finset.sum_congr rfl fun p _ => congrArg₂ (fun a b : EReal => a * b) (hg p) ((hV _).trans (congrArg (seq s) ?_))
  show lo + p.val + off = p.val + off + (b + j.val)
  omega

/-- A sequence after `k` zeros. -/
theorem seq_front (g : Fin 2064 → EReal) (k : ℕ) (hk : k ≤ 32) {n : ℕ} (hn : n < 2064 + k) :
    (if h : n < k then 0 else g ⟨n - k, by omega⟩) = seq g (n + (32 - k)) := by
  split_ifs with h
  · exact (seq_off g (by omega)).symm
  · rw [seq_at g (by omega)]
    exact congrArg g (Fin.ext (by simp only []; omega))

/-! ## The sources -/

abbrev data : ConvMix := .of x0 x1 x2 x3 x4

theorem gate_at (p : Fin 2064) (l : Fin 512) : val_main_v32 (F := Ideal) x0 (ix2 p l) = Step.sig ((data x0 x1 x2 x3 x4).h 4 p l) := by
  pointwise [val_main_v32, val_main_v31, val_main_v30, val_main_v29, val_main_v28, val_main_v27, val_main_v5, val_main_cst_3, val_main_cst_4]
  rfl

theorem padA_at (n : Fin 2066) (l : Fin 512) : val_main_v8 (F := Ideal) x0 (ix2 n l) = seq ((data x0 x1 x2 x3 x4).srcA l) (n.val + 30) := by
  pointwise [val_main_v8, val_main_v7, val_main_v6, val_main_v2, val_main_v3, val_main_cst_0]
  exact seq_front ((data x0 x1 x2 x3 x4).srcA l) 2 (by omega) n.isLt

theorem padB_at (n : Fin 2094) (l : Fin 512) : val_main_v38 (F := Ideal) x0 (ix2 n l) = seq ((data x0 x1 x2 x3 x4).srcB l) (n.val + 2) := by
  pointwise [val_main_v38, val_main_v37, val_main_v36, val_main_v4, val_main_cst_6]
  simp only [gate_at x0 x1 x2 x3 x4]
  exact seq_front ((data x0 x1 x2 x3 x4).srcB l) 30 (by omega) n.isLt

/-! ## What comes back through the convolutions -/

theorem backA_tail (n : Fin 2066) (l : Fin 512) : val_main_v448 (F := Ideal) x0 x1 x3 (ix2 n l) = tail x1 (val_main_v427 (F := Ideal) x0 x3) 3 n.val l :=
  tail_add (tail_add (tail_one x1 _ _ _ rfl) rfl) rfl n l

theorem backB_tail (n : Fin 2094) (l : Fin 512) : val_main_v418 (F := Ideal) x2 x4 (ix2 n l) = tail x2 (val_main_v199 (F := Ideal) x4) 31 n.val l :=
  tail_add (tail_add (tail_add (tail_add (tail_add (tail_add (tail_add (tail_add (tail_add (tail_add (tail_add (tail_add
    (tail_add (tail_add (tail_add (tail_add (tail_add (tail_add (tail_add (tail_add (tail_add (tail_add (tail_add (tail_add
    (tail_add (tail_add (tail_add (tail_add (tail_add (tail_add (tail_one x2 _ _ _ rfl) rfl) rfl) rfl) rfl) rfl) rfl) rfl)
    rfl) rfl) rfl) rfl) rfl) rfl) rfl) rfl) rfl) rfl) rfl) rfl) rfl) rfl) rfl) rfl) rfl) rfl) rfl) rfl) rfl) rfl) rfl n l

theorem same_at (p : Fin 2064) (l : Fin 512) : val_main_v199 (F := Ideal) x4 (ix2 p l) = x4 (ix2 p l) := by
  pointwise [val_main_v199]

theorem slopeA_at (p : Fin 2064) (l : Fin 512) : val_main_v427 (F := Ideal) x0 x3 (ix2 p l) = (data x0 x1 x2 x3 x4).slopeA l p := by
  pointwise [val_main_v427, val_main_v1]
  refine (mul_comm _ _).trans ?_
  simp only [ConvMix.slopeA, ConvMix.of, Fin.val_zero, Nat.mul_zero, Nat.zero_add]

theorem backA_at (p : Fin 2064) (l : Fin 512) : val_main_v451 (F := Ideal) x0 x1 x3 (ix2 p l) = (data x0 x1 x2 x3 x4).backA l p.val := by
  have e : val_main_v451 (F := Ideal) x0 x1 x3 (ix2 p l) = val_main_v448 (F := Ideal) x0 x1 x3 (ix2 ⟨2 + p.val, by omega⟩ l) := by
    pointwise [val_main_v451]
  rw [e, backA_tail, tail_all]
  simp only [slopeA_at x0 x1 x2 x3 x4]
  refine Finset.sum_congr rfl fun j _ => congrArg (fun n => x1 (ix2 j l) * seq ((data x0 x1 x2 x3 x4).slopeA l) n) ?_
  show 2 + p.val + 32 - j.val = p.val + 34 - j.val
  omega

theorem backB_at (p : Fin 2064) (l : Fin 512) : val_main_v423 (F := Ideal) x2 x4 (ix2 p l) = (data x0 x1 x2 x3 x4).backB l p.val := by
  have e : val_main_v423 (F := Ideal) x2 x4 (ix2 p l) = val_main_v418 (F := Ideal) x2 x4 (ix2 ⟨30 + p.val, by omega⟩ l) := by
    pointwise [val_main_v423]
  rw [e, backB_tail, tail_all]
  simp only [same_at]
  refine Finset.sum_congr rfl fun j _ => congrArg (fun n => x2 (ix2 j l) * seq ((data x0 x1 x2 x3 x4).yz · l) n) ?_
  show 30 + p.val + 32 - j.val = p.val + 62 - j.val
  omega

theorem convA_at (p : Fin 2064) (l : Fin 512) : val_main_v25 (F := Ideal) x0 x1 (ix2 p l) = (data x0 x1 x2 x3 x4).convA l p.val := by
  pointwise [val_main_v25, val_main_v24, val_main_v23, val_main_v22, val_main_v21, val_main_v20, val_main_v19, val_main_v18, val_main_v17, val_main_v16,
    val_main_v15, val_main_v14, val_main_v13, val_main_v12, val_main_v11, val_main_v10, val_main_cst_2]
  simp only [padA_at x0 x1 x2 x3 x4]
  unfold ConvMix.convA
  rw [Fin.sum_univ_three]
  have hn (k : ℕ) : k + p.val + 30 = p.val + 30 + k := by omega
  rw [hn 1, hn 2]
  rfl

/-! ## The results -/

/-- A lane of a plane, however its number is written. -/
theorem lane_eq (v : FVec Ideal S2064x512 .f32) (p : Fin 2064) (l : Fin 512) {k : ℕ} (hk : k < 512) (h : k = l.val) : v (ix2 p ⟨k, hk⟩) = v (ix2 p l) := by
  subst h; rfl

theorem out_at (q : Fin 5) (p : Fin 2064) (l : Fin 512) : val_main_v456 (F := Ideal) x0 x1 x2 x3 x4 (ix3 q p l) = (data x0 x1 x2 x3 x4).out l q.val p := by
  have hs := gate_at x0 x1 x2 x3 x4 p l
  have ha := backA_at x0 x1 x2 x3 x4 p l
  have hb := backB_at x0 x1 x2 x3 x4 p l
  pointwise [val_main_v456, val_main_v455, val_main_v454]
  match q with
  | 0 =>
    refine (dif_pos (show 0 * 512 + l.val < 512 by omega)).trans ?_
    refine (lane_eq (val_main_v428 (F := Ideal) x0 x1 x3) p l _ (by show 0 * 512 + l.val = _; omega)).trans ?_
    pointwise [val_main_v428]
    exact congrArg _ (convA_at x0 x1 x2 x3 x4 p l)
  | 1 =>
    refine (dif_neg (show ¬ 1 * 512 + l.val < 512 by omega)).trans ((dif_pos (show 1 * 512 + l.val - 512 < 512 by omega)).trans ?_)
    refine (lane_eq (val_main_v453 (F := Ideal) x0 x1 x3) p l _ (by show 1 * 512 + l.val - 512 = _; omega)).trans ?_
    pointwise [val_main_v453, val_main_v3]
    exact congrArg (· * _) ha
  | 2 =>
    refine (dif_neg (show ¬ 2 * 512 + l.val < 512 by omega)).trans ((dif_neg (show ¬ 2 * 512 + l.val - 512 < 512 by omega)).trans
      ((dif_pos (show 2 * 512 + l.val - 512 - 512 < 512 by omega)).trans ?_))
    refine (lane_eq (val_main_v452 (F := Ideal) x0 x1 x3) p l _ (by show 2 * 512 + l.val - 512 - 512 = _; omega)).trans ?_
    pointwise [val_main_v452, val_main_v2]
    exact (mul_comm _ _).trans (congrArg (· * _) ha)
  | 3 =>
    refine (dif_neg (show ¬ 3 * 512 + l.val < 512 by omega)).trans ((dif_neg (show ¬ 3 * 512 + l.val - 512 < 512 by omega)).trans
      ((dif_neg (show ¬ 3 * 512 + l.val - 512 - 512 < 512 by omega)).trans
        ((dif_pos (show 3 * 512 + l.val - 512 - 512 - 512 < 512 by omega)).trans ?_)))
    refine (lane_eq (val_main_v425 (F := Ideal) x0 x2 x4) p l _ (by show 3 * 512 + l.val - 512 - 512 - 512 = _; omega)).trans ?_
    pointwise [val_main_v425]
    exact congrArg₂ (fun a b : EReal => a * b) hb hs
  | 4 =>
    refine (dif_neg (show ¬ 4 * 512 + l.val < 512 by omega)).trans ((dif_neg (show ¬ 4 * 512 + l.val - 512 < 512 by omega)).trans
      ((dif_neg (show ¬ 4 * 512 + l.val - 512 - 512 < 512 by omega)).trans
        ((dif_neg (show ¬ 4 * 512 + l.val - 512 - 512 - 512 < 512 by omega)).trans ?_)))
    refine (lane_eq (val_main_v426 (F := Ideal) x0 x2 x4) p l _ (by show 4 * 512 + l.val - 512 - 512 - 512 - 512 = _; omega)).trans ?_
    pointwise [val_main_v426, val_main_v424, val_main_v4, val_main_v35, val_main_v34, val_main_v33, val_main_cst_5]
    rw [hs, hb, ← mul_assoc, mul_comm (x0 _)]
    rfl

theorem out_d5 (q : Fin 5) (n : Fin 2176) (l : Fin 512) : val_main_v461 (F := Ideal) x0 x1 x2 x3 x4 (ix3 q n l)
    = padRow ((data x0 x1 x2 x3 x4).out l q.val) n.val := by
  pointwise [val_main_v461, val_main_v460, val_main_v459, val_main_v458, val_main_v457, val_main_cst_79]
  simp only [out_at]
  rfl

theorem out_dbias (l : Fin 512) : val_main_v462 (F := Ideal) x4 (ix2 (0 : Fin 1) l) = (data x0 x1 x2 x3 x4).gradBias l := by
  pointwise [val_main_v462, val_main_v202, val_main_v201, val_main_v200, val_main_cst_9, val_main_cst_10]
  rw [Fin.sum_univ_one]
  rfl

theorem out_dwa (j : Fin 3) (l : Fin 512) : val_main_v449 (F := Ideal) x0 x3 (ix2 j l) = (data x0 x1 x2 x3 x4).gradA l j := by
  have e : (data x0 x1 x2 x3 x4).gradA l j = ∑ p, (data x0 x1 x2 x3 x4).slopeA l p * seq ((data x0 x1 x2 x3 x4).srcA l) (p.val + 30 + (0 + j.val)) := by
    simp only [Nat.zero_add]; rfl
  rw [e]
  refine concatenate_unit_eq 0 _ _ (ix2 j l) _ rfl ?_
  exact ⟨row_piece (slopeA_at x0 x1 x2 x3 x4 · l) (padA_at x0 x1 x2 x3 x4 · l) j rfl (by decide),
    row_piece (slopeA_at x0 x1 x2 x3 x4 · l) (padA_at x0 x1 x2 x3 x4 · l) j rfl (by decide),
    row_piece (slopeA_at x0 x1 x2 x3 x4 · l) (padA_at x0 x1 x2 x3 x4 · l) j rfl (by decide), trivial⟩

theorem gradB_shift {M : ℕ} (l : Fin 512) (b : ℕ) (j : Fin M) (h : b + j.val < 31) : (data x0 x1 x2 x3 x4).gradB l ⟨b + j.val, h⟩
    = ∑ p, x4 (ix2 p l) * seq ((data x0 x1 x2 x3 x4).srcB l) (p.val + 2 + (b + j.val)) := rfl

theorem rows_low (j : Fin 16) (l : Fin 512) : val_main_v419 (F := Ideal) x0 x4 (ix2 j l) = (data x0 x1 x2 x3 x4).gradB l ⟨0 + j.val, by omega⟩ := by
  rw [gradB_shift]
  refine concatenate_unit_eq 0 _ _ (ix2 j l) _ rfl ?_
  repeat refine ⟨row_piece (same_at x4 · l) (padB_at x0 x1 x2 x3 x4 · l) j rfl (by decide), ?_⟩
  trivial

theorem rows_high (j : Fin 15) (l : Fin 512) : val_main_v420 (F := Ideal) x0 x4 (ix2 j l) = (data x0 x1 x2 x3 x4).gradB l ⟨16 + j.val, by omega⟩ := by
  rw [gradB_shift]
  refine concatenate_unit_eq 0 _ _ (ix2 j l) _ rfl ?_
  repeat refine ⟨row_piece (same_at x4 · l) (padB_at x0 x1 x2 x3 x4 · l) j rfl (by decide), ?_⟩
  trivial

theorem out_dwb (j : Fin 31) (l : Fin 512) : val_main_v421 (F := Ideal) x0 x4 (ix2 j l) = (data x0 x1 x2 x3 x4).gradB l j := by
  pointwise [val_main_v421]
  by_cases h : j.val < 16
  · refine (dif_pos h).trans ?_
    exact (rows_low x0 x1 x2 x3 x4 _ l).trans (congrArg _ (Fin.ext (Nat.zero_add _)))
  · refine (dif_neg h).trans ?_
    exact (rows_high x0 x1 x2 x3 x4 _ l).trans (congrArg _ (Fin.ext (by show 16 + (j.val - 16) = j.val; omega)))

end Cert.Reference2Ideal.Conv
-- ==== Proof.Conv.lean ====
/- The mixer's convolution pass back: both kernels' frames from the one run, and the kernel's four arrays are the
   reference's. -/
module
public import proofs.«01_k».proof.Defs
public import proofs.«01_k».proof.Proof.Gen.Kernel2
public import proofs.«01_k».proof.Proof.ConvKernel
public import proofs.«01_k».proof.Proof.ConvReference

@[expose] public section
set_option maxRecDepth 16384
noncomputable section
namespace Cert.Proof
open Idealize.ShloMosaic Idealize.ShloMosaic.TcCoe Idealize.SL.Sem
open Cert.Step

/-- The two programs of the kernel run alike on bits. -/
theorem conv_same (m : (ℓ : Loc Cert.Kernel2.nD Cert.Kernel2.τ Cert.Kernel2.sig) → Buf (Elt Bits) ℓ) (ρ : Dev Cert.Kernel2.nD → PrngReg) :
    letI := Cert.Kernel2.Gen.facts; letI := Cert.Kernel2Ideal.Gen.facts
    ∀ Q, θ_run (Cert.Kernel2.defs (F := Bits)) (onTc (τ := Cert.Kernel2.τ) (Cert.Kernel2.main (F := Bits))) ⟨m, fun _ => 0, ρ⟩ Q
      = θ_run (Cert.Kernel2Ideal.defs (F := Bits)) (onTc (τ := Cert.Kernel2Ideal.τ) (Cert.Kernel2Ideal.main (F := Bits))) ⟨m, fun _ => 0, ρ⟩ Q := by
  intros
  sl_kernel_rfl

theorem conv_frame : Cert.quiescent_Kernel2 := fun m ρ _ => by
  refine (conv_same m ρ _).mpr ?_
  exact (θ_run _ _ _).mono (fun r h => h) (Cert.Kernel2Ideal.Conv.frame (F := Bits) m ρ)

/-- The reference's frame: its run keeps the arguments, and it declares no semaphore. -/
theorem conv_reference : quiescent_Reference2Ideal := fun m g _ =>
  (θ_run Cert.Reference2Ideal.defs _ _).mono (fun r h => ⟨fun c => (h c).2.2.2.2, sem_eq_zero_of_no_sems (by decide) r.2⟩)
    (Cert.Reference2Ideal.Value.run m g)

/-- The call's four results are the derivatives of the mixer's convolutions. -/
theorem conv_value : algebraic_Kernel2Ideal_Reference2Ideal := by
  intro m g m' g' _ hagree
  refine ⟨fun c => Cert.Kernel2Ideal.Conv.d5 (Cert.Kernel2Ideal.Conv.data m c), fun c => Cert.Kernel2Ideal.Conv.dwa (Cert.Kernel2Ideal.Conv.data m c),
    fun c => Cert.Kernel2Ideal.Conv.dwb (Cert.Kernel2Ideal.Conv.data m c), fun c => Cert.Kernel2Ideal.Conv.dbias (Cert.Kernel2Ideal.Conv.data m c),
    (θ_run _ _ _).mono (fun r h c => ?_) (θ_run_and (Cert.Kernel2Ideal.Conv.run_main m g) (Cert.Kernel2Ideal.Conv.frame m g)),
    (θ_run _ _ _).mono (fun r h c => ?_) (Cert.Reference2Ideal.Value.run m' g')⟩
  · have hr := (h.1 c).1
    exact ⟨(hr 4).trans (Cert.Kernel2Ideal.Conv.final_d5 m c), (hr 5).trans (Cert.Kernel2Ideal.Conv.final_dwa m c),
      (hr 6).trans (Cert.Kernel2Ideal.Conv.final_dwb m c), (hr 7).trans (Cert.Kernel2Ideal.Conv.final_dbias m c), h.2.1 c⟩
  · obtain ⟨h0, h1, h2, h3, h⟩ := h c
    obtain ⟨a0, a1, a2, a3, a4⟩ := hagree c
    have hone (j : (⟨2, ![1, 512]⟩ : Shape).Idx) : j = ix2 (0 : Fin 1) (j 1) := by
      rw [eq_ix2 j]; congr 1; exact Subsingleton.elim _ _
    unfold Cert.Kernel2Ideal.Conv.data
    beta_reduce
    rw [← a0, ← a1, ← a2, ← a3, ← a4]
    refine ⟨h0.trans (funext fun j => ?_), h1.trans (funext fun j => ?_), h2.trans (funext fun j => ?_), h3.trans (funext fun j => ?_), h⟩
    · rw [Cert.Reference2Ideal.Read.val_main_v461_eq]
      exact (congrArg _ (eq_ix3 j)).trans (Cert.Reference2Ideal.Conv.out_d5 _ _ _ _ _ (j 0) (j 1) (j 2))
    · rw [Cert.Reference2Ideal.Read.val_main_v449_eq]
      exact (congrArg _ (eq_ix2 j)).trans (Cert.Reference2Ideal.Conv.out_dwa _ _ _ _ _ (j 0) (j 1))
    · rw [Cert.Reference2Ideal.Read.val_main_v421_eq]
      exact (congrArg _ (eq_ix2 j)).trans (Cert.Reference2Ideal.Conv.out_dwb _ _ _ _ _ (j 0) (j 1))
    · rw [Cert.Reference2Ideal.Read.val_main_v462_eq]
      exact (congrArg _ (hone j)).trans (Cert.Reference2Ideal.Conv.out_dbias _ _ _ _ _ (j 1))

end Cert.Proof
-- ==== Proof.ConvFwdLoops.lean ====
/- The mixer's convolutions in the forward pass: what the kernel's two loops leave, from what their inputs read as. -/
module

public import proofs.«01_k».proof.Proof.ConvLoops
public import proofs.«01_k».proof.Proof.Gen.Kernel9Ideal.Loops

@[expose] public section

set_option maxRecDepth 16384

noncomputable section

namespace Cert.Kernel9Ideal.Conv

open Cert.Kernel9Ideal.Gen
open Cert.Kernel2Ideal.Conv (taps weight Rows Shifts loop_read emb_rows mem_rows chunk word_eq)
open Idealize.ShloMosaic Idealize.ShloMosaic.TcCoe Idealize.ShloMosaic.Tactic

variable {F : FTy → Type} [FloatOps F]

variable {c : Dev nD} {i : grid0.Coords} {arg1 : Memref sig .tc .vmem S5x2176x128 .f32} {harg1 : arg1.IsWhole} {arg2 : Memref sig .tc .vmem S1x64x256 .f32} {harg2 : arg2.IsWhole} {arg3 : Memref sig .tc .vmem S1x128 .f32} {harg3 : arg3.IsWhole} {arg4 : Memref sig .tc .vmem S2176x128 .bf16} {harg4 : arg4.IsWhole} {arg5 : Memref sig .tc .vmem S2176x128 .f32} {harg5 : arg5.IsWhole} {arg6 : Memref sig .tc .vmem S2128x128 .f32} {harg6 : arg6.IsWhole} {arg7 : Memref sig .tc .vmem S2128x128 .f32} {harg7 : arg7.IsWhole} {arg8 : Memref sig .tc .vmem S7x2128x128 .f32} {harg8 : arg8.IsWhole}

theorem off1 : ∀ k : Fin k0_t1_loop.trips, k0_off1 k = ![5, 48 * k.val + 24, 0] ∧ k0_off2 k = ![6, 48 * k.val + 24, 0]
    ∧ k0_off3 k = ![48 * k.val + 32, 0] ∧ k0_off4 k = ![48 * k.val + 32, 0] := by decide +kernel

/-- The short convolution. -/
theorem conv1 {v1 : FVec F S3x128 .f32} {X6 : BufTy.Contents (Elt F) arg6.view.ty} {X8 : BufTy.Contents (Elt F) arg8.view.ty}
    {S : ℕ → Fin 128 → F .f32} (h6 : Rows arg6 X6 S) (h8 : Shifts 5 arg8 X8 S)
    (f : BufTy.Contents (Elt F) arg7.view.ty) (n : Fin 2128) (l : Fin 128) (h1 : 32 ≤ n.val) (h2 : n.val < 2096) :
    arg7.view.read (Elt F) (arg7.view.writes (Elt F) f (pb_k0_t1 Variants.none c none i arg1 harg1 arg2 harg2 arg3 harg3 arg4 harg4 arg5 harg5 arg6 harg6 arg7 harg7 arg8 harg8 v1 X6 X8 k0_t1_loop.trips)) (ix2 n l)
      = taps (weight v1 l) (fun j => S (n.val - 2 + j) l) 3 := by
  refine loop_read (pb_k0_t1 Variants.none c none i arg1 harg1 arg2 harg2 arg3 harg3 arg4 harg4 arg5 harg5 arg6 harg6 arg7 harg7 arg8 harg8 v1 X6 X8) _ (fun k => pb_k0_t1_succ ..) f
    (fun y => taps (weight v1 (y 1)) (fun j => S ((y 0).val - 2 + j) (y 1)) 3) (fun k p hp x => ?_) rfl (ix2 n l)
    ⟨⟨(n.val - 32) / 48, (chunk h1 h2).1⟩, ?_⟩
  · unfold tripL_k0_t1 trip_k0_t1 at hp
    obtain rfl := List.mem_singleton.1 hp
    obtain ⟨o1, o2, o3, o4⟩ := off1 k
    have hk : k.val < 43 := k.isLt
    obtain ⟨a, l, rfl⟩ : ∃ (a : Fin 48) (l : Fin 128), x = ix2 a l := ⟨x 0, x 1, eq_ix2 x⟩
    obtain ⟨hx, e⟩ := emb_rows o4 (h := k0_off4_inb k) a l
    refine Eq.trans ?_ (congrArg (fun y : S2128x128.Idx => taps (weight v1 (y 1)) (fun j => S ((y 0).val - 2 + j) (y 1)) 3) e.symm)
    pointwise [k0_pay27]
    refine congrArg₂ _ (congrArg₂ _ (congrArg₂ _ rfl (congrArg _ ?_)) (congrArg _ ?_)) (congrArg _ ?_)
    · exact (h8.load o1 _ le_rfl (by decide) (by omega) _ _ _).trans (congrArg₂ S (by simp only [ix2_0]; omega) rfl)
    · exact (h8.load o2 _ (by decide) (by decide) (by omega) _ _ _).trans (congrArg₂ S (by simp only [ix2_0]; omega) rfl)
    · exact (h6.load o3 _ _ _).trans (congrArg₂ S (by simp only [ix2_0]; omega) rfl)
  · unfold tripL_k0_t1 trip_k0_t1
    exact ⟨_, List.mem_singleton_self _, mem_rows (off1 _).2.2.2 (k0_off4_inb _) n l (chunk h1 h2).2.1 (chunk h1 h2).2.2⟩

theorem off2 (k : Fin k0_t2_loop.trips) (w : BitVec 32) (h : w.toNat % 8 = 0 ∧ w.toNat < 40) :
    k0_off5 k w = ![1, 48 * k.val + w.toNat, 0] ∧ k0_off6 k w = ![2, 48 * k.val + w.toNat, 0]
    ∧ k0_off7 k w = ![3, 48 * k.val + w.toNat, 0] ∧ k0_off8 k w = ![4, 48 * k.val + w.toNat, 0]
    ∧ k0_off9 k w = ![5, 48 * k.val + w.toNat, 0] ∧ k0_off10 k w = ![6, 48 * k.val + w.toNat, 0]
    ∧ k0_off11 k w = ![48 * k.val + w.toNat, 0] ∧ k0_off12 k w = ![0, 48 * k.val + w.toNat, 0]
    ∧ k0_off13 k = ![48 * k.val + 32, 0] := by
  obtain ⟨j, rfl⟩ := word_eq (n := 5) h
  revert k j
  decide +kernel

set_option maxHeartbeats 4000000 in
/-- The long convolution. -/
theorem conv2 {v3 : FVec F S31x128 .f32} {X6 : BufTy.Contents (Elt F) arg6.view.ty} {X8 : BufTy.Contents (Elt F) arg8.view.ty}
    {S : ℕ → Fin 128 → F .f32} (h6 : Rows arg6 X6 S) (h8 : Shifts 0 arg8 X8 S)
    (f : BufTy.Contents (Elt F) arg7.view.ty) (n : Fin 2128) (l : Fin 128) (h1 : 32 ≤ n.val) (h2 : n.val < 2096) :
    arg7.view.read (Elt F) (arg7.view.writes (Elt F) f (pb_k0_t2 Variants.none c none i arg1 harg1 arg2 harg2 arg3 harg3 arg4 harg4 arg5 harg5 arg6 harg6 arg7 harg7 arg8 harg8 v3 X6 X8 k0_t2_loop.trips)) (ix2 n l)
      = taps (weight v3 l) (fun j => S (n.val - 30 + j) l) 31 := by
  refine loop_read (pb_k0_t2 Variants.none c none i arg1 harg1 arg2 harg2 arg3 harg3 arg4 harg4 arg5 harg5 arg6 harg6 arg7 harg7 arg8 harg8 v3 X6 X8) _ (fun k => pb_k0_t2_succ ..) f
    (fun y => taps (weight v3 (y 1)) (fun j => S ((y 0).val - 30 + j) (y 1)) 31) (fun k p hp x => ?_) rfl (ix2 n l)
    ⟨⟨(n.val - 32) / 48, (chunk h1 h2).1⟩, ?_⟩
  · unfold tripL_k0_t2 trip_k0_t2 at hp
    obtain rfl := List.mem_singleton.1 hp
    have hk : k.val < 43 := k.isLt
    obtain ⟨a, l, rfl⟩ : ∃ (a : Fin 48) (l : Fin 128), x = ix2 a l := ⟨x 0, x 1, eq_ix2 x⟩
    obtain ⟨hx, e⟩ := emb_rows (off2 k 0#32 (by decide)).2.2.2.2.2.2.2.2 (h := k0_off13_inb k) a l
    refine Eq.trans ?_ (congrArg (fun y : S2128x128.Idx => taps (weight v3 (y 1)) (fun j => S ((y 0).val - 30 + j) (y 1)) 31) e.symm)
    pointwise [k0_pay2, trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, k0_pay6, k0_pay7, k0_pay8, k0_pay9, k0_pay10, k0_pay11, k0_pay12, k0_pay13, k0_pay14, k0_pay15, k0_pay16, k0_pay17]
    have C (q : ℕ) (o : Fin 3 → ℕ) (w : BitVec 32) (hw : w.toNat ≤ 24) (hq : q < 7) (ho : o = ![q, 48 * k.val + w.toNat, 0])
        (hi : ∀ a, o a + (![1, 48, 128] : Fin 3 → ℕ) a ≤ S7x2128x128.size a) (j : ℕ) (hj : q + 1 + w.toNat = 2 + j) :
        View.readAt (Elt F) arg8.view (Rect.unit (s := S7x2128x128) o ![1, 48, 128] hi).toLoadRect X8 (ix3 0 a l)
          = S (48 * k.val + 32 + a.val - 30 + j) l :=
      (h8.load ho hi (by omega) hq (by omega) 0 a l).trans (congrArg₂ S (by omega) rfl)
    have R (o : Fin 2 → ℕ) (w : BitVec 32) (ho : o = ![48 * k.val + w.toNat, 0])
        (hi : ∀ a, o a + (![48, 128] : Fin 2 → ℕ) a ≤ S2128x128.size a) (j : ℕ) (hj : w.toNat = 2 + j) :
        View.readAt (Elt F) arg6.view (Rect.unit (s := S2128x128) o ![48, 128] hi).toLoadRect X6 (ix2 a l)
          = S (48 * k.val + 32 + a.val - 30 + j) l :=
      (h6.load ho hi a l).trans (congrArg₂ S (by omega) rfl)
    iterate 31 refine congrArg₂ _ ?_ (congrArg _ ?_)
    · rfl
    all_goals first
      | exact C 1 _ _ (by decide) (by decide) (off2 k _ (by decide)).1 _ _ rfl
      | exact C 2 _ _ (by decide) (by decide) (off2 k _ (by decide)).2.1 _ _ rfl
      | exact C 3 _ _ (by decide) (by decide) (off2 k _ (by decide)).2.2.1 _ _ rfl
      | exact C 4 _ _ (by decide) (by decide) (off2 k _ (by decide)).2.2.2.1 _ _ rfl
      | exact C 5 _ _ (by decide) (by decide) (off2 k _ (by decide)).2.2.2.2.1 _ _ rfl
      | exact C 6 _ _ (by decide) (by decide) (off2 k _ (by decide)).2.2.2.2.2.1 _ _ rfl
      | exact C 0 _ _ (by decide) (by decide) (off2 k _ (by decide)).2.2.2.2.2.2.2.1 _ _ rfl
      | exact R _ _ (off2 k _ (by decide)).2.2.2.2.2.2.1 _ _ rfl
  · unfold tripL_k0_t2 trip_k0_t2
    exact ⟨_, List.mem_singleton_self _, mem_rows (off2 _ 0#32 (by decide)).2.2.2.2.2.2.2.2 (k0_off13_inb _) n l (chunk h1 h2).2.1 (chunk h1 h2).2.2⟩

end Cert.Kernel9Ideal.Conv
-- ==== Proof.ConvFwdRun.lean ====
/- One run of the kernel of the mixer's convolutions in the forward pass, with what it leaves in its outputs. -/
module

public import proofs.«01_k».proof.Proof.ConvPad
public import proofs.«01_k».proof.Proof.ConvFwdLoops
public import proofs.«01_k».proof.Proof.Gen.Kernel9Ideal.Frame

@[expose] public section

set_option maxRecDepth 16384

noncomputable section

namespace Cert.Kernel9Ideal.Conv

open Cert.Kernel9Ideal.Gen
open Cert.Kernel2Ideal.Conv (taps weight Rows Shifts zero logistic cell5 pos pad srcA srcB wA wB convA load5 loadW clear_zeros rows_fill Inner)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The values -/

/-- The long convolution. -/
def convB (x1 : Vec F S5x2176x128 .f32) (x2 : Vec F S1x64x256 .f32) (n : ℕ) (l : Fin 128) : F .f32 :=
  taps (weight (wB x2) l) (fun j => pad (srcB x1) (n - 30 + j) l) 31

/-- Rows that are used, and one value in the unused ones. -/
def filled {e : EltTy} (g : ℕ → Fin 128 → Elt F e) (z : Elt F e) : Vec F S2176x128 e :=
  fun y => if (y 0).val < 2064 then g (y 0).val (y 1) else z

/-- The gated short convolution, rounded. -/
def gated (x1 : Vec F S5x2176x128 .f32) (x2 : Vec F S1x64x256 .f32) : Vec F S2176x128 .bf16 :=
  filled (fun n l => FloatOps.truncf .bf16 bitsLt_bf16_f32 (FloatOps.mulf (cell5 x1 0 n l) (convA x1 x2 (pos n) l))) (FloatOps.ofBits .bf16 0#16)

/-- The long convolution with its bias. -/
def convolved (x1 : Vec F S5x2176x128 .f32) (x2 : Vec F S1x64x256 .f32) (x3 : Vec F S1x128 .f32) : Vec F S2176x128 .f32 :=
  filled (fun n l => FloatOps.addf (convB x1 x2 (pos n) l) (x3 (ix2 0 l))) (FloatOps.ofBits .f32 0#32)

/-- An output written in three runs of rows. -/
theorem filled_read {e : EltTy} {arg : Memref sig .tc .vmem S2176x128 e} {f : BufTy.Contents (Elt F) arg.view.ty} {g : ℕ → Fin 128 → Elt F e}
    {z : Elt F e} (h0 : ∀ a, (![0, 0] : Fin 2 → ℕ) a + (![2048, 128] : Fin 2 → ℕ) a ≤ S2176x128.size a)
    (h1 : ∀ a, (![2048, 0] : Fin 2 → ℕ) a + (![16, 128] : Fin 2 → ℕ) a ≤ S2176x128.size a)
    (h2 : ∀ a, (![2064, 0] : Fin 2 → ℕ) a + (![112, 128] : Fin 2 → ℕ) a ≤ S2176x128.size a)
    (w0 : S2048x128.Idx → Elt F e) (w1 : S16x128.Idx → Elt F e) (w2 : S112x128.Idx → Elt F e)
    (e0 : ∀ x l, w0 (ix2 x l) = g (0 + x.val) l) (e1 : ∀ x l, w1 (ix2 x l) = g (2048 + x.val) l) (e2 : ∀ x l, w2 (ix2 x l) = z) :
    arg.view.read (Elt F) (arg.view.writes (Elt F) f [⟨Rect.unit (s := S2176x128) ![2064, 0] ![112, 128] h2, w2⟩,
      ⟨Rect.unit (s := S2176x128) ![2048, 0] ![16, 128] h1, w1⟩, ⟨Rect.unit (s := S2176x128) ![0, 0] ![2048, 128] h0, w0⟩]) = filled g z := by
  funext y
  obtain ⟨n, l, rfl⟩ : ∃ (n : Fin 2176) (l : Fin 128), y = ix2 n l := ⟨y 0, y 1, eq_ix2 y⟩
  show _ = if n.val < 2064 then g n.val l else z
  by_cases hn : 2064 ≤ n.val
  · rw [if_neg (by omega)]
    exact (View.read_writes_cons_rows_of_mem arg.view f h2 w2 _ (ix2 n l) (ix2 ⟨n.val - 2064, by omega⟩ l) rfl
      (show n.val = 2064 + (n.val - 2064) by omega) rfl).trans (e2 _ l)
  refine (View.read_writes_cons_rows_of_not_mem arg.view f h2 w2 _ (ix2 n l) rfl rfl (.inl (show n.val < 2064 by omega))).trans ?_
  rw [if_pos (by omega)]
  by_cases hm : 2048 ≤ n.val
  · exact (View.read_writes_cons_rows_of_mem arg.view f h1 w1 _ (ix2 n l) (ix2 ⟨n.val - 2048, by omega⟩ l) rfl
      (show n.val = 2048 + (n.val - 2048) by omega) rfl).trans ((e1 _ l).trans (congrArg (g · l) (by show 2048 + (n.val - 2048) = n.val; omega)))
  refine (View.read_writes_cons_rows_of_not_mem arg.view f h1 w1 _ (ix2 n l) rfl rfl (.inl (show n.val < 2048 by omega))).trans ?_
  exact (View.read_writes_cons_rows_of_mem arg.view f h0 w0 _ (ix2 n l) (ix2 ⟨n.val, by omega⟩ l) rfl
    (show n.val = 0 + n.val by omega) rfl).trans ((e0 _ l).trans (congrArg (g · l) (Nat.zero_add _)))

/-- The bias, loaded. -/
theorem load1 (arg : Memref sig .tc .vmem S1x128 .f32) (f : BufTy.Contents (Elt F) arg.view.ty)
    (h : ∀ a, (![0, 0] : Fin 2 → ℕ) a + (![1, 128] : Fin 2 → ℕ) a ≤ S1x128.size a) (z : Fin 1) (l : Fin 128) :
    View.readAt (Elt F) arg.view (Rect.unit (s := S1x128) ![0, 0] ![1, 128] h).toLoadRect f (ix2 z l) = arg.view.read (Elt F) f (ix2 0 l) := by
  rw [View.readAt_apply]
  refine congrArg (arg.view.read (Elt F) f) ?_
  funext a
  refine Fin.ext ?_
  match a with
  | ⟨0, _⟩ => show 0 + 1 * z.val = 0; omega
  | ⟨1, _⟩ => show 0 + 1 * l.val = l.val; omega

/-! ## The stored values, entry by entry -/

section
variable (x : Fin 2048) (y : Fin 16) (l : Fin 128)

theorem wA_apply (v : Vec F S1x3x128 .f32) (j : Fin 3) : k0_pay18 v (ix2 j l) = v (ix3 0 j l) := by pointwise [k0_pay18]

theorem wB_apply (v : Vec F S1x31x128 .f32) (j : Fin 31) : k0_pay19 v (ix2 j l) = v (ix3 0 j l) := by pointwise [k0_pay19]

theorem zeros_apply (y : Fin 32) : k0_pay21 (F := F) (ix2 y l) = zero := by
  pointwise [k0_pay21, k0_pay20]
  rfl

theorem srcA_first (u v : Vec F S1x2048x128 .f32) : k0_pay24 u v (ix2 x l) = FloatOps.mulf (u (ix3 0 x l)) (v (ix3 0 x l)) := by
  pointwise [k0_pay24]

theorem srcA_last (u v : Vec F S1x16x128 .f32) : k0_pay23 u v (ix2 y l) = FloatOps.mulf (u (ix3 0 y l)) (v (ix3 0 y l)) := by
  pointwise [k0_pay23]

theorem srcB_first (u v : Vec F S1x2048x128 .f32) : k0_pay32 u v (ix2 x l) = FloatOps.mulf (u (ix3 0 x l)) (logistic (v (ix3 0 x l))) := by
  pointwise [k0_pay32]
  rfl

theorem srcB_last (u v : Vec F S1x16x128 .f32) : k0_pay31 u v (ix2 y l) = FloatOps.mulf (u (ix3 0 y l)) (logistic (v (ix3 0 y l))) := by
  pointwise [k0_pay31]
  rfl

/-- A shifted copy keeps the rows it copies. -/
theorem copy_apply (v : Vec F S2120x128 .f32) (n : Fin 2120) : k0_pay25 v (ix3 0 n l) = v (ix2 n l) := by pointwise [k0_pay25]

theorem ya_first (u : Vec F S1x2048x128 .f32) (v : Vec F S2048x128 .f32) : k0_pay28 u v (ix2 x l)
    = FloatOps.truncf .bf16 bitsLt_bf16_f32 (FloatOps.mulf (u (ix3 0 x l)) (v (ix2 x l))) := by pointwise [k0_pay28]

theorem ya_last (u : Vec F S1x16x128 .f32) (v : Vec F S16x128 .f32) : k0_pay29 u v (ix2 y l)
    = FloatOps.truncf .bf16 bitsLt_bf16_f32 (FloatOps.mulf (u (ix3 0 y l)) (v (ix2 y l))) := by pointwise [k0_pay29]

theorem ya_rest (y : Fin 112) : k0_pay30 (F := F) (ix2 y l) = FloatOps.ofBits .bf16 0#16 := by pointwise [k0_pay30]

theorem z_first (u : Vec F S2048x128 .f32) (v : Vec F S1x128 .f32) : k0_pay3 u v (ix2 x l) = FloatOps.addf (u (ix2 x l)) (v (ix2 0 l)) := by
  pointwise [k0_pay3]

theorem z_last (u : Vec F S16x128 .f32) (v : Vec F S1x128 .f32) : k0_pay4 u v (ix2 y l) = FloatOps.addf (u (ix2 y l)) (v (ix2 0 l)) := by
  pointwise [k0_pay4]

theorem z_rest (y : Fin 112) : k0_pay5 (F := F) (ix2 y l) = FloatOps.ofBits .f32 0#32 := by pointwise [k0_pay5]
end

section
variable {c : Dev nD} {i : grid0.Coords} {arg1 : Memref sig .tc .vmem S5x2176x128 .f32} {harg1 : arg1.IsWhole} {arg2 : Memref sig .tc .vmem S1x64x256 .f32} {harg2 : arg2.IsWhole} {arg3 : Memref sig .tc .vmem S1x128 .f32} {harg3 : arg3.IsWhole} {arg4 : Memref sig .tc .vmem S2176x128 .bf16} {harg4 : arg4.IsWhole} {arg5 : Memref sig .tc .vmem S2176x128 .f32} {harg5 : arg5.IsWhole} {arg6 : Memref sig .tc .vmem S2128x128 .f32} {harg6 : arg6.IsWhole} {arg7 : Memref sig .tc .vmem S2128x128 .f32} {harg7 : arg7.IsWhole} {arg8 : Memref sig .tc .vmem S7x2128x128 .f32} {harg8 : arg8.IsWhole}
  {x1 : Vec F S5x2176x128 .f32} {x2 : Vec F S1x64x256 .f32} {X6 : BufTy.Contents (Elt F) arg6.view.ty} {X8 : BufTy.Contents (Elt F) arg8.view.ty}

theorem inner1 {v1 : FVec F S3x128 .f32} (hv : v1 = wA x2) (h6 : Rows arg6 X6 (pad (srcA x1))) (h8 : Shifts 5 arg8 X8 (pad (srcA x1)))
    (f : BufTy.Contents (Elt F) arg7.view.ty) :
    Inner arg7 (arg7.view.writes (Elt F) f (pb_k0_t1 Variants.none c none i arg1 harg1 arg2 harg2 arg3 harg3 arg4 harg4 arg5 harg5 arg6 harg6 arg7 harg7 arg8 harg8 v1 X6 X8 k0_t1_loop.trips)) (convA x1 x2) :=
  fun n l h1 h2 => hv ▸ conv1 h6 h8 f n l h1 h2

theorem inner2 {v3 : FVec F S31x128 .f32} (hv : v3 = wB x2) (h6 : Rows arg6 X6 (pad (srcB x1))) (h8 : Shifts 0 arg8 X8 (pad (srcB x1)))
    (f : BufTy.Contents (Elt F) arg7.view.ty) :
    Inner arg7 (arg7.view.writes (Elt F) f (pb_k0_t2 Variants.none c none i arg1 harg1 arg2 harg2 arg3 harg3 arg4 harg4 arg5 harg5 arg6 harg6 arg7 harg7 arg8 harg8 v3 X6 X8 k0_t2_loop.trips)) (convB x1 x2) :=
  fun n l h1 h2 => hv ▸ conv2 h6 h8 f n l h1 h2
end

set_option maxHeartbeats 4000000 in
/-- The kernel's body, run once from any contents of its buffers: what it stores into its two outputs, the inputs kept,
    and the scratch buffers held at something. -/
theorem run (c : Dev nD) (i : grid0.Coords) (arg1 : Memref sig .tc .vmem S5x2176x128 .f32) (harg1 : arg1.IsWhole) (arg2 : Memref sig .tc .vmem S1x64x256 .f32) (harg2 : arg2.IsWhole) (arg3 : Memref sig .tc .vmem S1x128 .f32) (harg3 : arg3.IsWhole) (arg4 : Memref sig .tc .vmem S2176x128 .bf16) (harg4 : arg4.IsWhole) (arg5 : Memref sig .tc .vmem S2176x128 .f32) (harg5 : arg5.IsWhole) (arg6 : Memref sig .tc .vmem S2128x128 .f32) (harg6 : arg6.IsWhole) (arg7 : Memref sig .tc .vmem S2128x128 .f32) (harg7 : arg7.IsWhole) (arg8 : Memref sig .tc .vmem S7x2128x128 .f32) (harg8 : arg8.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (E : Set ℕ) (K : PUnit → sProp 𝕄) :
        iprop((arg1.view.loc (c : Thread nD τ) ↦[arg1.view.set]{fullShare} f1)
            ∗ (arg2.view.loc (c : Thread nD τ) ↦[arg2.view.set]{fullShare} f2)
            ∗ (arg3.view.loc (c : Thread nD τ) ↦[arg3.view.set]{fullShare} f3)
            ∗ (arg4.view.loc (c : Thread nD τ) ↦[arg4.view.set]{fullShare} f4)
            ∗ (arg5.view.loc (c : Thread nD τ) ↦[arg5.view.set]{fullShare} f5)
            ∗ (arg6.view.loc (c : Thread nD τ) ↦[arg6.view.set]{fullShare} f6)
            ∗ (arg7.view.loc (c : Thread nD τ) ↦[arg7.view.set]{fullShare} f7)
            ∗ (arg8.view.loc (c : Thread nD τ) ↦[arg8.view.set]{fullShare} f8)
            ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3)
              ∗ (∃ f, ⌜arg4.view.read (Elt F) f = gated (arg1.view.read (Elt F) f1) (arg2.view.read (Elt F) f2)⌝ ∗ (arg4.view.loc (c : Thread nD τ) ↦[arg4.view.set]{fullShare} f))
              ∗ (∃ f, ⌜arg5.view.read (Elt F) f = convolved (arg1.view.read (Elt F) f1) (arg2.view.read (Elt F) f2) (arg3.view.read (Elt F) f3)⌝ ∗ (arg5.view.loc (c : Thread nD τ) ↦[arg5.view.set]{fullShare} f))
              ∗ (∃ f, (arg6.view.loc (c : Thread nD τ) ↦[arg6.view.set]{fullShare} f))
              ∗ (∃ f, (arg7.view.loc (c : Thread nD τ) ↦[arg7.view.set]{fullShare} f))
              ∗ (∃ f, (arg8.view.loc (c : Thread nD τ) ↦[arg8.view.set]{fullShare} f))) -∗ K PUnit.unit))
          ⊢ wp frame (wpE (defs₀ (F := F)) Variants.none c none) E (cc0_mix_conv_fwd i arg1 harg1 arg2 harg2 arg3 harg3 arg4 harg4 arg5 harg5 arg6 harg6 arg7 harg7 arg8 harg8) K := by
  simp only [cc0_mix_conv_fwd_eq_skeleton]; unfold cc0_mix_conv_fwd_skel
  simp only [k0_part7_eq_skeleton, k0_part8_eq_skeleton, k0_part9_eq_skeleton, k0_part10_eq_skeleton]
  iintro ⟨H1, H2, H3, H4, H5, H6, H7, H8, Hk⟩
  sl_exec
  sl_step
  have rA : run.sl.r arg2 f2 = wA (arg2.view.read (Elt F) f2) := by
    funext y
    obtain ⟨j, l, rfl⟩ : ∃ (j : Fin 3) (l : Fin 128), y = ix2 j l := ⟨y 0, y 1, eq_ix2 y⟩
    exact (wA_apply l _ j).trans (loadW arg2 f2 inb_S1x64x256_S1x3x128_0_16_0 j l)
  have rB : run.sl.r_1 arg2 f2 = wB (arg2.view.read (Elt F) f2) := by
    funext y
    obtain ⟨j, l, rfl⟩ : ∃ (j : Fin 31) (l : Fin 128), y = ix2 j l := ⟨y 0, y 1, eq_ix2 y⟩
    exact (wB_apply l _ j).trans (loadW arg2 f2 inb_S1x64x256_S1x31x128_0_24_0 j l)
  have A6 : Rows arg6 (arg6.view.writes (Elt F) arg6.view.junk (run.sl.H6_4 arg1 f1)) (pad (srcA (arg1.view.read (Elt F) f1))) := by
    refine rows_fill (clear_zeros _ _ _ _ (fun x l => zeros_apply l x) (fun x l => zeros_apply l x)) _ _ _ _ (fun x l => ?_) (fun x l => ?_)
    · exact (srcA_first x l _ _).trans (congrArg₂ FloatOps.mulf (load5 arg1 f1 (by decide) 0 x l) (load5 arg1 f1 (by decide) 0 x l))
    · exact (srcA_last x l _ _).trans (congrArg₂ FloatOps.mulf (load5 arg1 f1 (by decide) 0 x l) (load5 arg1 f1 (by decide) 0 x l))
  have B6 : Rows arg6 (arg6.view.writes (Elt F) arg6.view.junk (run.sl.H6_6 arg1 f1)) (pad (srcB (arg1.view.read (Elt F) f1))) := by
    refine rows_fill A6.clear _ _ _ _ (fun x l => ?_) (fun x l => ?_)
    · exact (srcB_first x l _ _).trans (congrArg₂ FloatOps.mulf (load5 arg1 f1 (by decide) 0 x l) (congrArg Cert.Kernel2Ideal.Conv.logistic (load5 arg1 f1 (by decide) 0 x l)))
    · exact (srcB_last x l _ _).trans (congrArg₂ FloatOps.mulf (load5 arg1 f1 (by decide) 0 x l) (congrArg Cert.Kernel2Ideal.Conv.logistic (load5 arg1 f1 (by decide) 0 x l)))
  have A8 : Shifts 5 arg8 (arg8.view.writes (Elt F) f8
      [⟨Rect.unit ![6, 0, 0] S1x2120x128.size inb_S7x2128x128_S1x2120x128_6_0_0, k0_pay26 (run.sl.v31 arg1 arg6 f1)⟩,
        ⟨Rect.unit ![5, 0, 0] S1x2120x128.size inb_S7x2128x128_S1x2120x128_5_0_0, k0_pay25 (run.sl.v27 arg1 arg6 f1)⟩])
      (pad (srcA (arg1.view.read (Elt F) f1))) := by
    refine (((Shifts.none _).cons _ _ fun x l => ?_).cons _ _ fun x l => ?_)
    all_goals exact (copy_apply l _ x).trans (A6.cov _ x l)
  have B8 : Shifts 0 arg8 (arg8.view.writes (Elt F) f8
      (⟨Rect.unit ![6, 0, 0] ![1, 2120, 128] inb_S7x2128x128_S1x2120x128_6_0_0, k0_pay1 (run.sl.v104 arg1 arg6 f1)⟩
        :: run.sl.H8_8 arg1 arg6 f1)) (pad (srcB (arg1.view.read (Elt F) f1))) := by
    refine ((((((((Shifts.none _).cons _ _ fun x l => ?_).cons _ _ fun x l => ?_).cons _ _ fun x l => ?_).cons _ _ fun x l => ?_).cons _ _
      fun x l => ?_).cons _ _ fun x l => ?_).cons _ _ fun x l => ?_)
    all_goals exact (copy_apply l _ x).trans (B6.cov _ x l)
  iapply Hk
  isplitl [H1]; · iexact H1
  isplitl [H2]; · iexact H2
  isplitl [H3]; · iexact H3
  isplitl [H4]
  · iexists _; isplitr
    swap; · iexact H4
    ipureintro
    refine filled_read _ _ _ _ _ _ (fun x l => ?_) (fun x l => ?_) (fun x l => ya_rest l x)
    · exact (ya_first x l _ _).trans (congrArg (FloatOps.truncf .bf16 bitsLt_bf16_f32)
        (congrArg₂ FloatOps.mulf (load5 arg1 f1 (by decide) 0 x l) ((inner1 rA A6 A8 _).first _ x l)))
    · exact (ya_last x l _ _).trans (congrArg (FloatOps.truncf .bf16 bitsLt_bf16_f32)
        (congrArg₂ FloatOps.mulf (load5 arg1 f1 (by decide) 0 x l) ((inner1 rA A6 A8 _).last _ x l)))
  isplitl [H5]
  · iexists _; isplitr
    swap; · iexact H5
    ipureintro
    refine filled_read _ _ _ _ _ _ (fun x l => ?_) (fun x l => ?_) (fun x l => z_rest l x)
    · exact (z_first x l _ _).trans (congrArg₂ FloatOps.addf ((Inner.append (inner2 rB B6 B8)).first _ x l) (load1 arg3 f3 _ 0 l))
    · exact (z_last x l _ _).trans (congrArg₂ FloatOps.addf ((Inner.append (inner2 rB B6 B8)).last _ x l) (load1 arg3 f3 _ 0 l))
  isplitl [H6]; · iexists _; iexact H6
  isplitl [H7]; · iexists _; iexact H7
  iexists _; iexact H8

end Cert.Kernel9Ideal.Conv
-- ==== Proof.ConvFwdFrame.lean ====
/- The frame of the mixer's convolutions in the forward pass: what the body is called with and leaves at each point, and the launch. -/
module

public import proofs.«01_k».proof.Proof.ConvFwdRun

@[expose] public section

set_option maxRecDepth 16384

noncomputable section

namespace Cert.Kernel9Ideal.Conv

open Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as the region finds them, each input's block kept, each output's block at the values of its inputs' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => gated (iblk m c 0 t) (iblk m c 1 t)
    | ⟨4, _⟩ => convolved (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun t => by dsimp only [dats]) t d

theorem before_1 (c : Dev nD) (t : Fin cfg0.N) (d) : (dats m 0 c).before 1 t d = iblk m c 1 t :=
  before0_1_of m (dats m 0 c) (A_eq m c 1) (fun t => by dsimp only [dats]) t d

theorem before_2 (c : Dev nD) (t : Fin cfg0.N) (d) : (dats m 0 c).before 2 t d = iblk m c 2 t :=
  before0_2_of m (dats m 0 c) (A_eq m c 2) (fun t => by dsimp only [dats]) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem whole_eq (c : Dev nD) (b : Ref sig .tc) (f : b.ty.Contents (Elt F)) :
    ((Memref.whole b).view.loc (c : Thread nD τ) ↦[(Memref.whole b).view.set]{fullShare} f : sProp 𝕄)
      = (((c : Thread nD τ).loc b) ↦{fullShare} f) := by
  rw [show (Memref.whole b).view.set = Finset.univ from View.set_whole b]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  unfold owns
  simp only [← whole_eq]
  iintro ⟨⟨⟨⟨%s0, S0⟩, ⟨%s1, S1⟩, ⟨%s2, S2⟩⟩, Hr⟩, Ho, ⟨%d0, %f0, %h0, H0⟩, ⟨%d1, %f1, %h1, H1⟩, ⟨%d2, %f2, %h2, H2⟩,
    ⟨%d3, %f3, -, H3⟩, ⟨%d4, %f4, -, H4⟩⟩
  iapply (run c (grid0.coords t) _ _ _ _ _ _ _ _ _ _ _ _ _ _ _ _ f0 f1 f2 f3 f4 s0 s1 s2 Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  iintro ⟨H0, H1, H2, ⟨%e3, %g3, H3⟩, ⟨%e4, %g4, H4⟩, S0, S1, S2⟩
  isplitl [S0 S1 S2 Hr]
  · isplitl [S0 S1 S2]
    · isplitl [S0]; · iexact S0
      isplitl [S1]; · iexact S1
      iexact S2
    · iexact Hr
  isplitl [Ho]; · iexact Ho
  isplitl [H0]; · iexists f0; isplitr; swap; (· iexact H0); ipureintro; exact h0
  isplitl [H1]; · iexists f1; isplitr; swap; (· iexact H1); ipureintro; exact h1
  isplitl [H2]; · iexists f2; isplitr; swap; (· iexact H2); ipureintro; exact h2
  isplitl [H3]
  · iexists e3; isplitr; swap; (· iexact H3); ipureintro; rw [g3, h0, h1]; dsimp only [dats]
  iexists e4; isplitr; swap; (· iexact H4); ipureintro; rw [g4, h0, h1, h2]; dsimp only [dats]

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch: every array at what its points leave, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (A_eq m) (run_main m ρ)) ((θ_run defs _ _).mono (fun _ h => h.2) (run_main_quiescent m ρ))

end Cert.Kernel9Ideal.Conv

end
-- ==== Proof.ConvFwdKernel.lean ====
/- The mixer's convolutions in the forward kernel: what its blocks hold, and its two output arrays after the run, over
   the extended reals. -/
module
public import proofs.«01_k».proof.Proof.ConvFwdFrame
public import proofs.«01_k».proof.Proof.ConvKernel

@[expose] public section
set_option maxRecDepth 16384
noncomputable section
namespace Cert.Kernel9Ideal.Conv
open Idealize.ShloMosaic Idealize.ShloMosaic.TcCoe Idealize.SL.Sem
open Idealize.ShloMosaic.Pipeline (Dat)
open Cert.Step Cert.Kernel9Ideal Cert.Kernel9Ideal.Gen
open Cert.Kernel2Ideal.Conv (Blocks lane rows5 rows5_at table table_a table_b ofNat_val cell5_at convA_at wB_at srcB_seq taps_sum padRow_pos pos lane_at)

/-! ## One lane group -/

section
variable {D : ConvMix} {t : ℕ} {ht : t < 4} {x1 : Vec Ideal S5x2176x128 .f32} {x2 x3 : Vec Ideal S2176x128 .f32}
  {x4 : Vec Ideal S1x64x256 .f32} (B : Blocks D t ht x1 x2 x3 x4) (l : Fin 128)
include B

theorem convB_at {n : ℕ} (hn : 32 ≤ n) : convB x1 x4 n l = D.convB (lane t ht l) (n - 32) := by
  refine (taps_sum _ _ 31).trans (Finset.sum_congr rfl fun j _ => ?_)
  refine congrArg₂ (fun a b : EReal => a * b) (wB_at B l j) ((srcB_seq B l _).trans (congrArg _ ?_))
  omega

theorem gated_at (n : Fin 2176) : gated x1 x4 (ix2 n l) = padRow (D.mixA (lane t ht l)) n.val := by
  show (if n.val < 2064 then (Cert.Kernel2Ideal.Conv.cell5 x1 0 n.val l * Cert.Kernel2Ideal.Conv.convA x1 x4 (pos n.val) l : EReal) else _) = _
  split_ifs with hn
  · have hp : 32 ≤ pos n.val := by unfold pos; split_ifs <;> omega
    rw [padRow_pos _ hn]
    exact congrArg₂ (fun a b : EReal => a * b) ((cell5_at B l 0 (n := n.val) (by omega)).trans (padRow_pos _ hn)) (convA_at B l hp)
  · unfold padRow
    rw [dif_neg (by omega), dif_neg (by omega)]
    simp [FloatOps.ofBits, Ideal.ofBits, Ideal.ieee]

theorem convolved_at (b : Vec Ideal S1x128 .f32) (n : Fin 2176) :
    convolved x1 x4 b (ix2 n l) = padRow (fun p => (D.convB (lane t ht l) p.val + b (ix2 0 l) : EReal)) n.val := by
  show (if n.val < 2064 then (convB x1 x4 (pos n.val) l + b (ix2 0 l) : EReal) else _) = _
  split_ifs with hn
  · have hp : 32 ≤ pos n.val := by unfold pos; split_ifs <;> omega
    rw [padRow_pos _ hn]
    exact congrArg₂ (fun a b : EReal => a + b) (convB_at B l hp) rfl
  · unfold padRow
    rw [dif_neg (by omega), dif_neg (by omega)]
    simp [FloatOps.ofBits, Ideal.ofBits, Ideal.ieee]
end

/-! ## The arrays -/

variable (m : (ℓ : Loc nD τ sig) → Buf (Elt Ideal) ℓ) (c : Dev nD)

theorem entry_h : V m c main_v5 = rows5 (m ((c : Thread nD τ).loc main_arg0)) := by
  unfold V rows5; after_results; rfl
theorem entry_table : V m c main_v15 = table (m ((c : Thread nD τ).loc main_arg1)) (m ((c : Thread nD τ).loc main_arg2)) := by
  unfold V table; after_results; rfl

/-- The call's data, from the arrays of one device: no gradient comes with it. -/
def data : ConvMix := .of (m ((c : Thread nD τ).loc main_arg0)) (m ((c : Thread nD τ).loc main_arg1))
  (m ((c : Thread nD τ).loc main_arg2)) (fun _ => (0 : EReal)) (fun _ => (0 : EReal))

/-- The bias of one lane. -/
def bias (l : Fin 512) : EReal := m ((c : Thread nD τ).loc main_arg3) (ix2 (0 : Fin 1) l)

theorem idx : ∀ t : Fin cfg0.N, win0_0.index t = ![0, 0, t.val] ∧ win0_1.index t = ![t.val, 0, 0] ∧ win0_2.index t = ![0, t.val]
    ∧ win0_3.index t = ![0, t.val] ∧ win0_4.index t = ![0, t.val] := (by decide +kernel : ∀ t : Fin grid0.N, _)

theorem group_lt (t : Fin cfg0.N) : t.val < 4 := lt_of_lt_of_eq t.isLt N_0

theorem blk_table (t : Fin cfg0.N) (j : Fin 64) (l : Fin 256) : iblk m c 1 t (ix3 0 j l)
    = table (m ((c : Thread nD τ).loc main_arg1)) (m ((c : Thread nD τ).loc main_arg2)) (ix3 ⟨t.val, group_lt t⟩ j l) := by
  rw [← entry_table]; blk_ext [iblk, idx t]

theorem blk_bias (t : Fin cfg0.N) (l : Fin 128) : (iblk m c 2 t (ix2 (0 : Fin 1) l) : EReal) = bias m c (lane t.val (group_lt t) l) := by
  unfold bias
  rw [← V_main_arg3 m c]; blk_ext [iblk, idx t, lane]

/-- Zeros stay zeros in the stored order. -/
theorem padRow_zero (n : ℕ) : padRow (fun _ => (0 : EReal)) n = 0 := by unfold padRow; split_ifs <;> rfl

/-- The blocks hold their lane group's part of the data. -/
theorem blocks (t : Fin cfg0.N) : Blocks (data m c) t.val (group_lt t) (iblk m c 0 t) (fun _ => (0 : EReal)) (fun _ => (0 : EReal)) (iblk m c 1 t) where
  h q n l := by
    have e : iblk m c 0 t (ix3 q n l) = rows5 (m ((c : Thread nD τ).loc main_arg0)) (ix3 q n (lane t.val (group_lt t) l)) := by
      rw [← entry_h]; blk_ext [iblk, idx t, lane]
    exact e.trans (rows5_at _ q n _)
  ya n l := (padRow_zero n.val).symm
  yz n l := (padRow_zero n.val).symm
  wa j l := by
    have e := (blk_table m c t ⟨16 + j.val, by omega⟩ ⟨l.val, by omega⟩).trans (table_a _ _ ⟨t.val, group_lt t⟩ j l)
    exact (congrArg (iblk m c 1 t) (congrArg₂ (ix3 0) (ofNat_val 64 ⟨16 + j.val, by omega⟩) (ofNat_val 256 ⟨l.val, by omega⟩))).trans e
  wb j l := by
    have e := (blk_table m c t ⟨24 + j.val, by omega⟩ ⟨l.val, by omega⟩).trans (table_b _ _ ⟨t.val, group_lt t⟩ j l)
    exact (congrArg (iblk m c 1 t) (congrArg₂ (ix3 0) (ofNat_val 64 ⟨24 + j.val, by omega⟩) (ofNat_val 256 ⟨l.val, by omega⟩))).trans e

/-! ## The results -/

/-- The call's two results. -/
def mixed (D : ConvMix) : FVec Ideal S2176x512 .bf16 := fun i => (padRow (D.mixA (i 1)) (i 0).val : EReal)
def longConv (D : ConvMix) (b : Fin 512 → EReal) : FVec Ideal S2176x512 .f32 := fun i => (padRow (fun p => D.convB (i 1) p.val + b (i 1)) (i 0).val : EReal)

theorem final_mixed : (dats m 0 c).arrAt 3 (cfgs 0).N = mixed (data m c) := by
  refine (dats m 0 c).arrAt_eq_of_covers 3 _ (by decide +kernel) fun t hf y => ?_
  blk_simp
  refine ((congrArg _ (eq_ix2 y)).trans (gated_at (blocks m c t) (y 1) (y 0))).trans
    (lane_at t.val (group_lt t) (fun (n : Fin 2176) l => padRow ((data m c).mixA l) n.val) (y 0) (y 1) _ ?_ ?_) <;> blk_simp [idx t]

theorem final_longConv : (dats m 0 c).arrAt 4 (cfgs 0).N = longConv (data m c) (bias m c) := by
  refine (dats m 0 c).arrAt_eq_of_covers 4 _ (by decide +kernel) fun t hf y => ?_
  blk_simp
  refine (((congrArg _ (eq_ix2 y)).trans (convolved_at (blocks m c t) (y 1) _ (y 0))).trans (congrArg
    (fun b : EReal => padRow (fun p => (data m c).convB (lane t.val (group_lt t) (y 1)) p.val + b) (y 0).val) (blk_bias m c t (y 1)))).trans
    (lane_at t.val (group_lt t) (fun (n : Fin 2176) l => padRow (fun p => (data m c).convB l p.val + bias m c l) n.val) (y 0) (y 1) _ ?_ ?_) <;> blk_simp [idx t]

end Cert.Kernel9Ideal.Conv
-- ==== Proof.ConvFwdReference.lean ====
/- The mixer's convolutions in the reference's forward pass: its two results, over the extended reals. -/
module
public import proofs.«01_k».proof.Proof.Gen.Reference9Ideal.Read
public import proofs.«01_k».proof.Proof.ConvReference

@[expose] public section
set_option maxRecDepth 16384
noncomputable section
namespace Cert.Reference9Ideal.Conv
open Idealize.ShloMosaic
open Cert.Step Cert.Reference9Ideal Cert.Reference9Ideal.Gen Cert.Reference9Ideal.Read
open Cert.Reference2Ideal.Conv (row_slice seq_front)

variable (x0 : FVec Ideal S2064x2560 .f32) (x1 : FVec Ideal S3x512 .f32) (x2 : FVec Ideal S31x512 .f32) (x3 : FVec Ideal S1x512 .f32)

/-! ## The sum of the first taps' products -/

/-- The sum of the first `k` taps' products with a sequence. -/
def front {K N : ℕ} [NeZero K] [NeZero N] (w : FVec Ideal ⟨2, ![K, 512]⟩ .f32) (g : FVec Ideal ⟨2, ![N, 512]⟩ .f32) (k n : ℕ) (l : Fin 512) : EReal :=
  ∑ i ∈ Finset.range k, w (ix2 (Fin.ofNat K i) l) * g (ix2 (Fin.ofNat N (n + i)) l)

theorem front_none {K N : ℕ} [NeZero K] [NeZero N] (w : FVec Ideal ⟨2, ![K, 512]⟩ .f32) (g : FVec Ideal ⟨2, ![N, 512]⟩ .f32) (n : Fin 2064) (l : Fin 512) :
    broadcastInDim S2064x512 ![] bcast_S_S2064x512 (constant (F := Ideal) S_ .f32 0#32) (ix2 n l) = front w g 0 n.val l := by
  pointwise
  simp [front]

/-- One tap more. -/
theorem front_add {K N lo : ℕ} [NeZero K] [NeZero N] {w : FVec Ideal ⟨2, ![K, 512]⟩ .f32} {g : FVec Ideal ⟨2, ![N, 512]⟩ .f32} {k : ℕ}
    {X : FVec Ideal S2064x512 .f32} (hX : ∀ n l, X (ix2 n l) = front w g k n.val l) {hs : (⟨2, ![K, 512]⟩ : Shape).Slices ![lo, 0] S1x512}
    {hg : (⟨2, ![N, 512]⟩ : Shape).Slices ![lo, 0] S2064x512} (hlo : lo = k ∧ k < K ∧ k + 2064 ≤ N) (n : Fin 2064) (l : Fin 512) :
    addf X (mulf (broadcastInDim S2064x512 ![0, 1] bcast_S1x512_S2064x512_0_1 (extractStridedSlice S1x512 ![lo, 0] w hs))
      (extractStridedSlice S2064x512 ![lo, 0] g hg)) (ix2 n l) = front w g (k + 1) n.val l := by
  obtain ⟨rfl, hK, hN⟩ := hlo
  refine Eq.trans (congrArg₂ (fun a b : EReal => a + b) (hX n l) ?_) (Finset.sum_range_succ _ lo).symm
  refine congrArg₂ (fun a b : EReal => a * b) ?_ ?_
  · refine Eq.trans ?_ (row_slice w hs hK l)
    pointwise
  · exact extractStridedSlice_apply _ g hg _ _ fun a => match a with
      | ⟨0, _⟩ => (Nat.mod_eq_of_lt (by omega : n.val + lo < N)).trans (Nat.add_comm _ _)
      | ⟨1, _⟩ => (Nat.zero_add _).symm

/-- All the taps. -/
theorem front_all {K N : ℕ} [NeZero K] [NeZero N] (w : FVec Ideal ⟨2, ![K, 512]⟩ .f32) {g : FVec Ideal ⟨2, ![N, 512]⟩ .f32} {s : Fin 2064 → EReal} {off : ℕ}
    (l : Fin 512) (hg : ∀ n, g (ix2 n l) = seq s (n.val + off)) (hN : N = 2063 + K) (n : Fin 2064) :
    front w g K n.val l = ∑ j : Fin K, w (ix2 j l) * seq s (n.val + off + j.val) := by
  unfold front
  rw [← Fin.sum_univ_eq_sum_range]
  refine Finset.sum_congr rfl fun j _ => congrArg₂ (fun a b : EReal => a * b) ?_ ((hg _).trans (congrArg (seq s) ?_))
  · rw [show Fin.ofNat K j.val = j from Fin.ext (Nat.mod_eq_of_lt j.isLt)]
  · show (n.val + j.val) % N + off = _
    rw [Nat.mod_eq_of_lt (by omega)]
    omega

/-! ## The sources -/

abbrev data : ConvMix := .of x0 x1 x2 (fun _ => (0 : EReal)) (fun _ => (0 : EReal))

theorem gate_at (p : Fin 2064) (l : Fin 512) : val_main_v30 (F := Ideal) x0 (ix2 p l) = Step.sig ((data x0 x1 x2).h 4 p l) := by
  pointwise [val_main_v30, val_main_v29, val_main_v28, val_main_v27, val_main_v26, val_main_v25, val_main_v4, val_main_cst_1, val_main_cst_2]
  rfl

theorem padA_at (n : Fin 2066) (l : Fin 512) : val_main_v7 (F := Ideal) x0 (ix2 n l) = seq ((data x0 x1 x2).srcA l) (n.val + 30) := by
  pointwise [val_main_v7, val_main_v6, val_main_v5, val_main_v1, val_main_v2, val_main_cst]
  exact seq_front ((data x0 x1 x2).srcA l) 2 (by omega) n.isLt

theorem padB_at (n : Fin 2094) (l : Fin 512) : val_main_v33 (F := Ideal) x0 (ix2 n l) = seq ((data x0 x1 x2).srcB l) (n.val + 2) := by
  pointwise [val_main_v33, val_main_v32, val_main_v31, val_main_v3, val_main_cst_3]
  simp only [gate_at x0 x1 x2]
  exact seq_front ((data x0 x1 x2).srcB l) 30 (by omega) n.isLt

/-! ## The convolutions -/

theorem convA_front (n : Fin 2064) (l : Fin 512) : val_main_v23 (F := Ideal) x0 x1 (ix2 n l) = front x1 (val_main_v7 (F := Ideal) x0) 3 n.val l :=
  front_add (front_add (front_add (front_none x1 _) (by decide)) (by decide)) (by decide) n l

theorem convB_front (n : Fin 2064) (l : Fin 512) : val_main_v189 (F := Ideal) x0 x2 (ix2 n l) = front x2 (val_main_v33 (F := Ideal) x0) 31 n.val l :=
   front_add (front_add (front_add (front_add (front_add (front_add (front_add (front_add (front_add (front_add
    (front_add (front_add (front_add (front_add (front_add (front_add (front_add (front_add (front_add (front_add
    (front_add (front_add (front_add (front_add (front_add (front_add (front_add (front_add (front_add (front_add
    (front_add (front_none x2 _) (by decide)) (by decide)) (by decide)) (by decide)) (by decide)) (by decide)) (by
    decide)) (by decide)) (by decide)) (by decide)) (by decide)) (by decide)) (by decide)) (by decide)) (by decide)) (by
    decide)) (by decide)) (by decide)) (by decide)) (by decide)) (by decide)) (by decide)) (by decide)) (by decide)) (by
    decide)) (by decide)) (by decide)) (by decide)) (by decide)) (by decide)) (by decide) n l

theorem mixA_at (p : Fin 2064) (l : Fin 512) : val_main_v24 (F := Ideal) x0 x1 (ix2 p l) = (data x0 x1 x2).mixA l p := by
  pointwise [val_main_v24, val_main_v0]
  refine congrArg₂ (fun a b : EReal => a * b) ?_ ((convA_front x0 x1 p l).trans (front_all x1 l (padA_at x0 x1 x2 · l) rfl p))
  exact congrArg (fun k => x0 (ix2 p k)) (Fin.ext (by simp))

theorem convB_at (p : Fin 2064) (l : Fin 512) : val_main_v189 (F := Ideal) x0 x2 (ix2 p l) = (data x0 x1 x2).convB l p.val :=
  (convB_front x0 x2 p l).trans (front_all x2 l (padB_at x0 x1 x2 · l) rfl p)

/-! ## The results -/

theorem out_mixed (n : Fin 2176) (l : Fin 512) : val_main_v196 (F := Ideal) x0 x1 (ix2 n l) = padRow ((data x0 x1 x2).mixA l) n.val := by
  pointwise [val_main_v196, val_main_v195, val_main_v194, val_main_v193, val_main_v192, val_main_cst_5]
  simp only [mixA_at x0 x1 x2]
  rfl

theorem out_longConv (n : Fin 2176) (l : Fin 512) : val_main_v200 (F := Ideal) x0 x2 x3 (ix2 n l)
    = padRow (fun p => ((data x0 x1 x2).convB l p.val + x3 (ix2 (0 : Fin 1) l) : EReal)) n.val := by
  pointwise [val_main_v200, val_main_v199, val_main_v198, val_main_v197, val_main_v191, val_main_v190, val_main_cst_6]
  simp only [convB_at x0 x1 x2]
  rfl

end Cert.Reference9Ideal.Conv
-- ==== Proof.ConvFwd.lean ====
/- The mixer's convolutions in the forward pass: both kernels' frames from the one run, and the kernel's two arrays are
   the reference's. -/
module
public import proofs.«01_k».proof.Defs
public import proofs.«01_k».proof.Proof.Gen.Kernel9
public import proofs.«01_k».proof.Proof.ConvFwdKernel
public import proofs.«01_k».proof.Proof.ConvFwdReference

@[expose] public section
set_option maxRecDepth 16384
noncomputable section
namespace Cert.Proof
open Idealize.ShloMosaic Idealize.ShloMosaic.TcCoe Idealize.SL.Sem
open Cert.Step

/-- The two programs of the kernel run alike on bits. -/
theorem convFwd_same (m : (ℓ : Loc Cert.Kernel9.nD Cert.Kernel9.τ Cert.Kernel9.sig) → Buf (Elt Bits) ℓ) (ρ : Dev Cert.Kernel9.nD → PrngReg) :
    letI := Cert.Kernel9.Gen.facts; letI := Cert.Kernel9Ideal.Gen.facts
    ∀ Q, θ_run (Cert.Kernel9.defs (F := Bits)) (onTc (τ := Cert.Kernel9.τ) (Cert.Kernel9.main (F := Bits))) ⟨m, fun _ => 0, ρ⟩ Q
      = θ_run (Cert.Kernel9Ideal.defs (F := Bits)) (onTc (τ := Cert.Kernel9Ideal.τ) (Cert.Kernel9Ideal.main (F := Bits))) ⟨m, fun _ => 0, ρ⟩ Q := by
  intros
  sl_kernel_rfl

theorem convFwd_frame : Cert.quiescent_Kernel9 := fun m ρ _ => by
  refine (convFwd_same m ρ _).mpr ?_
  exact (θ_run _ _ _).mono (fun r h => h) (Cert.Kernel9Ideal.Conv.frame (F := Bits) m ρ)

/-- The reference's frame: its run keeps the arguments, and it declares no semaphore. -/
theorem convFwd_reference : quiescent_Reference9Ideal := fun m g _ =>
  (θ_run Cert.Reference9Ideal.defs _ _).mono (fun r h => ⟨fun c => (h c).2.2, sem_eq_zero_of_no_sems (by decide) r.2⟩)
    (Cert.Reference9Ideal.Value.run m g)

/-- The call's two results are the gated short convolution and the long one with its bias. -/
theorem convFwd_value : algebraic_Kernel9Ideal_Reference9Ideal := by
  intro m g m' g' _ hagree
  refine ⟨fun c => Cert.Kernel9Ideal.Conv.mixed (Cert.Kernel9Ideal.Conv.data m c),
    fun c => Cert.Kernel9Ideal.Conv.longConv (Cert.Kernel9Ideal.Conv.data m c) (Cert.Kernel9Ideal.Conv.bias m c),
    (θ_run _ _ _).mono (fun r h c => ?_) (θ_run_and (Cert.Kernel9Ideal.Conv.run_main m g) (Cert.Kernel9Ideal.Conv.frame m g)),
    (θ_run _ _ _).mono (fun r h c => ?_) (Cert.Reference9Ideal.Value.run m' g')⟩
  · have hr := (h.1 c).1
    exact ⟨(hr 3).trans (Cert.Kernel9Ideal.Conv.final_mixed m c), (hr 4).trans (Cert.Kernel9Ideal.Conv.final_longConv m c), h.2.1 c⟩
  · obtain ⟨h0, h1, h⟩ := h c
    obtain ⟨a0, a1, a2, a3⟩ := hagree c
    unfold Cert.Kernel9Ideal.Conv.data Cert.Kernel9Ideal.Conv.bias
    beta_reduce
    rw [← a0, ← a1, ← a2, ← a3]
    refine ⟨h0.trans (funext fun j => ?_), h1.trans (funext fun j => ?_), h⟩
    · rw [Cert.Reference9Ideal.Read.val_main_v196_eq]
      exact (congrArg _ (eq_ix2 j)).trans (Cert.Reference9Ideal.Conv.out_mixed _ _ _ (j 0) (j 1))
    · rw [Cert.Reference9Ideal.Read.val_main_v200_eq]
      exact (congrArg _ (eq_ix2 j)).trans (Cert.Reference9Ideal.Conv.out_longConv _ _ _ _ (j 0) (j 1))

end Cert.Proof
-- ==== Proof.RmsData.lean ====
/- The root-mean-square norm and its derivative at extended reals: the derivative that the chain rule writes out, through
   the root and the square, is the factored one at every argument, infinite ones too. -/
module
public import proofs.«01_k».proof.Proof.Reals

@[expose] public section
noncomputable section
namespace Cert.Step
open Idealize.ShloMosaic

/-- Row `r` of the sequence with the meta tokens before it. -/
def joined (x : Vec Ideal ⟨2, ![2048, 1024]⟩ .f32) (mt : Vec Ideal ⟨2, ![16, 1024]⟩ .f32) (r : Fin 2064) (d : Fin 1024) : EReal :=
  if h : r.val < 16 then mt (ix2 ⟨r.val, h⟩ d) else x (ix2 ⟨r.val - 16, by omega⟩ d)

/-- The norm's constant, the real its float word is. -/
def rmsEps : ℝ := 8796093 / 2 ^ 43
theorem rmsEps_pos : 0 < rmsEps := by norm_num [rmsEps]

theorem word_rmsEps : Ideal.ofBits FTy.f32 897988541#32 = (rmsEps : EReal) := by
  simp [Ideal.ofBits, Ideal.ieee, -EReal.coe_mul, rmsEps]; norm_num
theorem word_1024 : Ideal.ofBits FTy.f32 1149239296#32 = ((1024 : ℝ) : EReal) := by
  simp [Ideal.ofBits, Ideal.ieee, -EReal.coe_mul]; norm_num

variable {n : ℕ} (v u : Fin n → EReal)

/-- The mean square of a row of 1024 and the norm's constant. -/
def square : EReal := Ideal.div (∑ i, v i * v i) ((1024 : ℝ) : EReal) + (rmsEps : EReal)
/-- One over the root of it. -/
def rms : EReal := Ideal.rsqrt (square v)
/-- The normalised row. -/
def unit (j : Fin n) : EReal := v j * rms v
/-- What the normalised row's cotangent `u` becomes at the row. -/
def rmsBack (j : Fin n) : EReal := rms v * (u j - unit v j * Ideal.div (∑ i, u i * unit v i) ((1024 : ℝ) : EReal))

theorem mul_self_nonneg' (x : EReal) : 0 ≤ x * x := by
  induction x with
  | bot => simp
  | top => simp
  | coe r => exact_mod_cast mul_self_nonneg r

/-- A row of extended reals either holds reals, or its mean square is infinite. -/
theorem row_cases : (∃ a : Fin n → ℝ, v = fun i => (a i : EReal)) ∨ square v = ⊤ := by
  by_cases h : ∃ i, v i = ⊤ ∨ v i = ⊥
  · obtain ⟨i, hi⟩ := h
    have hs : v i * v i = ⊤ := by rcases hi with hi | hi <;> simp [hi]
    have h0 : (0 : EReal) ≤ ∑ k ∈ Finset.univ.erase i, v k * v k := Finset.sum_nonneg fun k _ => mul_self_nonneg' _
    have : ∑ k, v k * v k = ⊤ := by
      rw [← Finset.add_sum_erase _ _ (Finset.mem_univ i), hs]
      exact EReal.top_add_of_ne_bot (fun e => by rw [e] at h0; simp at h0)
    right
    rw [square, this, Ideal.div_coe (by norm_num), EReal.top_mul_coe_of_pos (by norm_num)]
    exact EReal.top_add_of_ne_bot (EReal.coe_ne_bot _)
  · left
    simp only [not_exists, not_or] at h
    exact ⟨fun i => (v i).toReal, funext fun i => (EReal.coe_toReal (h i).1 (h i).2).symm⟩

/-- A finite factor moves into a sum when it is positive. -/
theorem sum_mul_pos {c : ℝ} (hc : 0 ≤ c) : (∑ i, u i) * (c : EReal) = ∑ i, u i * (c : EReal) := by
  classical
  induction (Finset.univ : Finset (Fin n)) using Finset.induction_on with
  | empty => simp
  | insert a s ha ih => rw [Finset.sum_insert ha, Finset.sum_insert ha, EReal.right_distrib_of_nonneg_of_ne_top
      (by exact_mod_cast hc) (EReal.coe_ne_top _), ih]

/-- Twice a real multiple. -/
theorem twice (k : ℝ) (S : EReal) : (k : EReal) * S + k * S = ((2 * k : ℝ) : EReal) * S := by
  induction S with
  | bot => rcases lt_trichotomy k 0 with h | h | h
           · rw [EReal.coe_mul_bot_of_neg h, EReal.coe_mul_bot_of_neg (by linarith)]; rfl
           · simp [h]
           · rw [EReal.coe_mul_bot_of_pos h, EReal.coe_mul_bot_of_pos (by linarith)]; rfl
  | top => rcases lt_trichotomy k 0 with h | h | h
           · rw [EReal.coe_mul_top_of_neg h, EReal.coe_mul_top_of_neg (by linarith)]; rfl
           · simp [h]
           · rw [EReal.coe_mul_top_of_pos h, EReal.coe_mul_top_of_pos (by linarith)]; rfl
  | coe s => norm_cast; ring

theorem square_pos (a : Fin n → ℝ) : ∃ s : ℝ, 0 < s ∧ square (fun i => (a i : EReal)) = (s : EReal) := by
  refine ⟨(∑ i, a i * a i) / 1024 + rmsEps, ?_, ?_⟩
  · exact add_pos_of_nonneg_of_pos (div_nonneg (Finset.sum_nonneg fun i _ => mul_self_nonneg _) (by norm_num)) rmsEps_pos
  · unfold square
    simp only [← EReal.coe_mul, sum_coe, div_real _ (by norm_num : (1024 : ℝ) ≠ 0), ← EReal.coe_add]

/-- The factor that the chain rule puts before the row: through the root, twice through the square. -/
def chain : EReal := Ideal.div ((∑ i, v i * u i) * (((-(1 / 2) : ℝ) : EReal) * Ideal.div (rms v) (square v))) ((1024 : ℝ) : EReal)

/-- The derivative of the norm as the chain rule writes it is the factored one. -/
theorem rmsBack_chain (x : EReal) (j : Fin n) : x + u j * rms v + v j * chain v u + chain v u * v j = x + rmsBack v u j := by
  rcases row_cases v with ⟨a, rfl⟩ | h
  · obtain ⟨s, hs, e⟩ := square_pos a
    have er : rms (fun i => (a i : EReal)) = (((Real.sqrt s)⁻¹ : ℝ) : EReal) := by rw [rms, e, rsqrt_pos hs]
    have hp : 0 < (Real.sqrt s)⁻¹ := inv_pos.2 (Real.sqrt_pos.2 hs)
    have hq : (Real.sqrt s)⁻¹ * (Real.sqrt s)⁻¹ = 1 / s := by rw [← mul_inv, Real.mul_self_sqrt hs.le, one_div]
    generalize (Real.sqrt s)⁻¹ = q at er hp hq
    set S : EReal := ∑ i, (a i : EReal) * u i with hS
    have h1 : ∑ i, u i * unit (fun i => (a i : EReal)) i = S * (q : EReal) := by
      rw [hS, sum_mul_pos _ hp.le]
      exact Finset.sum_congr rfl fun i _ => by rw [unit, er]; ac_rfl
    have hc : chain (fun i => (a i : EReal)) u = ((-(1 / 2) * (q / s) / 1024 : ℝ) : EReal) * S := by
      rw [chain, er, e, div_real _ hs.ne', ← EReal.coe_mul, Ideal.div_coe (by norm_num), mul_assoc, ← EReal.coe_mul, mul_comm, mul_one_div]
    have hb : rmsBack (fun i => (a i : EReal)) u j = u j * (q : EReal) + ((2 * (a j * (-(1 / 2) * (q / s) / 1024)) : ℝ) : EReal) * S := by
      rw [rmsBack, h1, unit, er, Ideal.div_coe (by norm_num), sub_eq_add_neg, EReal.left_distrib_of_nonneg_of_ne_top
        (by exact_mod_cast hp.le) (EReal.coe_ne_top _), mul_comm (q : EReal) (u j)]
      congr 1
      rw [show ((a j : EReal) * (q : EReal) * (S * (q : EReal) * ((1 / 1024 : ℝ) : EReal))) = ((a j * q * q * (1 / 1024) : ℝ) : EReal) * S by
        push_cast; ac_rfl, ← EReal.neg_mul, ← EReal.coe_neg, ← mul_assoc, ← EReal.coe_mul]
      congr 2
      have : q / s = q * (q * q) := by rw [hq]; ring
      rw [this]; ring
    rw [hb, hc, er, ← twice]
    push_cast
    simp only [add_assoc, mul_assoc, mul_comm, mul_left_comm]
  · have er : rms v = 0 := by rw [rms, h, Ideal.rsqrt_top]
    have hz : Ideal.div 0 ⊤ = 0 := by simp [Ideal.div]
    rw [rmsBack, chain, er, h, hz, Ideal.div_coe (by norm_num)]
    simp

theorem rmsBack_zero (j : Fin n) : rmsBack v (fun _ : Fin n => 0) j = 0 := by
  simp [rmsBack, Ideal.div_coe (by norm_num : (1024 : ℝ) ≠ 0)]

/-- A row of the output blocks, read where the block lands. -/
theorem lands {α : Type*} {b k n : ℕ} (row : ℕ → α) (F : α → Fin b → EReal) (w : (⟨2, ![k, b]⟩ : Shape).Idx → EReal)
    (q : ℕ) (hw : ∀ p d, w (ix2 p d) = F (row (q + p.val)) d) (u : (⟨2, ![k, b]⟩ : Shape).Idx) (y : (⟨2, ![n, b]⟩ : Shape).Idx)
    (h0 : (y 0).val = q + (u 0).val) (h1 : (y 1).val = (u 1).val) : w u = F (row (y 0).val) (y 1) := by
  rw [h0, show y 1 = u 1 from Fin.ext h1]; exact (congrArg w (eq_ix2 u)).trans (hw (u 0) (u 1))

/-- What two halves of every block add up to. -/
theorem sum_padded {α : Type*} [Zero α] (rows : Fin 2064 → α) (F : α → EReal) (hF : F 0 = 0) :
    (∑ t : Fin 4, ((∑ p : Fin 272, F (padRow rows (544 * t.val + 0 + p.val))) + ∑ p : Fin 272, F (padRow rows (544 * t.val + 272 + p.val))))
    = ∑ r, F (rows r) := by
  have e (P : ℕ) : F (padRow rows P) = padRow (fun r => F (rows r)) P := padRow_map rows P F hF
  simp only [e]
  rw [← sum_padRow]
  exact sum_halves 4 272 (fun P => padRow (fun r => F (rows r)) P)

end Cert.Step
-- ==== Proof.FfnInReference.lean ====
/- The norms on either side of the residual after the mixer, with the two projections of the feed-forward layer: what
   their derivative is, row by row, and that the reference computes it. -/
module
public import proofs.«01_k».proof.Proof.Gen.Reference5Ideal.Read
public import proofs.«01_k».proof.Proof.RmsData

@[expose] public section
set_option maxRecDepth 16384
noncomputable section
namespace Cert.Step
open Idealize.ShloMosaic

/-- The call's weights: both projections and both gains. -/
structure FfnIn where
  gate : Fin 1024 → Fin 2816 → EReal
  up : Fin 1024 → Fin 2816 → EReal
  gf : Fin 1024 → EReal
  gm : Fin 1024 → EReal

/-- One row's values: the residual and the mixer's output, and the cotangents that reach the residual and both projections. -/
structure FfnInRow where
  h : Fin 1024 → EReal
  mix : Fin 1024 → EReal
  ct : Fin 1024 → EReal
  a : Fin 2816 → EReal
  u : Fin 2816 → EReal

instance : Zero FfnInRow := ⟨⟨0, 0, 0, 0, 0⟩⟩

namespace FfnIn
variable (W : FfnIn) (R : FfnInRow) (d : Fin 1024)

/-- The cotangent of the normalised residual, through both projections. -/
def dxn : EReal := (∑ f, R.a f * W.gate d f) + ∑ f, R.u f * W.up d f
/-- The cotangent of the residual. -/
def dh : EReal := R.ct d + rmsBack R.h (fun i => W.dxn R i * W.gf i) d
/-- The cotangent of the mixer's output. -/
def dmix : EReal := rmsBack R.mix (fun i => W.dh R i * W.gm i) d
/-- What the row adds to the gradient of the second norm's gain. -/
def dgf : EReal := W.dxn R d * unit R.h d
/-- What the row adds to the gradient of the first norm's gain. -/
def dgm : EReal := W.dh R d * unit R.mix d

theorem dxn_zero : W.dxn 0 d = 0 := by
  show (∑ f, (0 : EReal) * _) + ∑ f, (0 : EReal) * _ = 0
  simp
theorem dh_zero : W.dh 0 d = 0 := by
  unfold dh
  simp only [dxn_zero, zero_mul, rmsBack_zero]
  exact add_zero _
theorem dmix_zero : W.dmix 0 d = 0 := by
  unfold dmix
  simp only [dh_zero, zero_mul, rmsBack_zero]
theorem dgf_zero : W.dgf 0 d = 0 := by rw [dgf, dxn_zero, zero_mul]
theorem dgm_zero : W.dgm 0 d = 0 := by rw [dgm, dh_zero, zero_mul]

/-- The weights, from the arguments. -/
def weights (gm gf : Vec Ideal ⟨2, ![1, 1024]⟩ .f32) (gate up : Vec Ideal ⟨2, ![1024, 2816]⟩ .f32) : FfnIn where
  gate d f := gate (ix2 d f)
  up d f := up (ix2 d f)
  gf d := gf (ix2 0 d)
  gm d := gm (ix2 0 d)

/-- A row, from the arguments: the residual is the layer's input, the meta tokens first, and the normalised output of the mixer. -/
def row (x : Vec Ideal ⟨2, ![2048, 1024]⟩ .f32) (mt : Vec Ideal ⟨2, ![16, 1024]⟩ .f32) (mix : Vec Ideal ⟨2, ![2064, 1024]⟩ .f32) (gm : Vec Ideal ⟨2, ![1, 1024]⟩ .f32) (ct : Vec Ideal ⟨2, ![2064, 1024]⟩ .f32)
    (a u : Vec Ideal ⟨2, ![2064, 2816]⟩ .f32) (r : Fin 2064) : FfnInRow where
  h d := joined x mt r d + unit (fun i => mix (ix2 r i)) d * gm (ix2 0 d)
  mix d := mix (ix2 r d)
  ct d := ct (ix2 r d)
  a f := a (ix2 r f)
  u f := u (ix2 r f)

end FfnIn
end Cert.Step

namespace Cert.Reference5Ideal.FfnIn
open Idealize.ShloMosaic Idealize.ShloMosaic.TcCoe Cert.Step
open Cert.Reference5Ideal Cert.Reference5Ideal.Read Cert.Reference5Ideal.Gen

variable (x0 : Vec Ideal S2048x1024 .f32) (x1 : Vec Ideal S16x1024 .f32) (x2 : Vec Ideal S2064x1024 .f32) (x3 x4 : Vec Ideal S1x1024 .f32) (x5 x6 : Vec Ideal S1024x2816 .f32)
  (x7 : Vec Ideal S2064x1024 .f32) (x8 x9 : Vec Ideal S2064x2816 .f32) (r : Fin 2064) (j : Fin 1024)

/-- The data that the reference's arguments hold. -/
abbrev W : Step.FfnIn := .weights x3 x4 x5 x6
abbrev R : FfnInRow := FfnIn.row x0 x1 x2 x3 x7 x8 x9 r

theorem at_mix_square : val_main_v8 (F := Ideal) x2 (ix2 r (0 : Fin 1)) = square (fun i => x2 (ix2 r i)) := by
  pointwise [val_main_v8, val_main_v7, val_main_v6, val_main_v5, val_main_v4, val_main_v3, val_main_v2, val_main_cst, val_main_cst_0, val_main_cst_1]
  rw [word_1024, word_rmsEps]; rfl

theorem at_mix_rms : val_main_v9 (F := Ideal) x2 (ix2 r (0 : Fin 1)) = rms (fun i => x2 (ix2 r i)) := by
  pointwise [val_main_v9]
  rw [at_mix_square]; rfl

theorem at_mix_unit : val_main_v14 (F := Ideal) x2 (ix2 r j) = unit (fun i => x2 (ix2 r i)) j := by
  pointwise [val_main_v14, val_main_v13]
  rw [at_mix_rms]; rfl

theorem at_h : val_main_v18 (F := Ideal) x0 x1 x2 x3 (ix2 r j) = (R x0 x1 x2 x3 x7 x8 x9 r).h j := by
  pointwise [val_main_v18, val_main_v17, val_main_v16, val_main_v15, val_main_v1, val_main_v0]
  rw [at_mix_unit]; rfl

theorem at_square : val_main_v26 (F := Ideal) x0 x1 x2 x3 (ix2 r (0 : Fin 1)) = square (R x0 x1 x2 x3 x7 x8 x9 r).h := by
  pointwise [val_main_v26, val_main_v25, val_main_v24, val_main_v23, val_main_v22, val_main_v21, val_main_v20, val_main_cst_3, val_main_cst_4, val_main_cst_5]
  simp only [at_h x0 x1 x2 x3 x7 x8 x9]
  rw [word_1024, word_rmsEps]; rfl

theorem at_rms : val_main_v27 (F := Ideal) x0 x1 x2 x3 (ix2 r (0 : Fin 1)) = rms (R x0 x1 x2 x3 x7 x8 x9 r).h := by
  pointwise [val_main_v27]
  rw [at_square x0 x1 x2 x3 x7 x8 x9]; rfl

theorem at_unit : val_main_v32 (F := Ideal) x0 x1 x2 x3 (ix2 r j) = unit (R x0 x1 x2 x3 x7 x8 x9 r).h j := by
  pointwise [val_main_v32, val_main_v31]
  rw [at_rms x0 x1 x2 x3 x7 x8 x9, at_h x0 x1 x2 x3 x7 x8 x9]; rfl

theorem at_dxn : val_main_v40 (F := Ideal) x5 x6 x8 x9 (ix2 r j) = (W x3 x4 x5 x6).dxn (R x0 x1 x2 x3 x7 x8 x9 r) j := by
  pointwise [val_main_v40, val_main_v39, val_main_v38]
  exact add_comm _ _

theorem at_dn : val_main_v45 (F := Ideal) x4 x5 x6 x8 x9 (ix2 r j)
    = (W x3 x4 x5 x6).dxn (R x0 x1 x2 x3 x7 x8 x9 r) j * (W x3 x4 x5 x6).gf j := by
  pointwise [val_main_v45, val_main_v44, val_main_v33, val_main_v19]
  rw [at_dxn x0 x1 x2 x3 x4 x5 x6 x7 x8 x9]; rfl

theorem at_chain : val_main_v57 (F := Ideal) x0 x1 x2 x3 x4 x5 x6 x8 x9 (ix2 r j)
    = chain (R x0 x1 x2 x3 x7 x8 x9 r).h (fun i => (W x3 x4 x5 x6).dxn (R x0 x1 x2 x3 x7 x8 x9 r) i * (W x3 x4 x5 x6).gf i) := by
  pointwise [val_main_v57, val_main_v56, val_main_v55, val_main_v54, val_main_v53, val_main_v49, val_main_v48, val_main_v47,
    val_main_v30, val_main_v29, val_main_v28, val_main_cst_6, val_main_cst_9, val_main_cst_10, val_main_cst_11]
  simp only [at_h x0 x1 x2 x3 x7 x8 x9, at_dn x0 x1 x2 x3 x4 x5 x6 x7 x8 x9, at_rms x0 x1 x2 x3 x7 x8 x9, at_square x0 x1 x2 x3 x7 x8 x9,
    word_1024, word_neg_half, Fintype.sum_unique, Fin.default_eq_zero]
  rfl

theorem at_dh : val_main_v61 (F := Ideal) x0 x1 x2 x3 x4 x5 x6 x7 x8 x9 (ix2 r j) = (W x3 x4 x5 x6).dh (R x0 x1 x2 x3 x7 x8 x9 r) j := by
  pointwise [val_main_v61, val_main_v60, val_main_v59, val_main_v58, val_main_v52, val_main_v51, val_main_v50]
  rw [at_chain x0 x1 x2 x3 x4 x5 x6 x7 x8 x9, at_h x0 x1 x2 x3 x7 x8 x9, at_dn x0 x1 x2 x3 x4 x5 x6 x7 x8 x9, at_rms x0 x1 x2 x3 x7 x8 x9]
  exact rmsBack_chain (R x0 x1 x2 x3 x7 x8 x9 r).h
    (fun i => (W x3 x4 x5 x6).dxn (R x0 x1 x2 x3 x7 x8 x9 r) i * (W x3 x4 x5 x6).gf i) (x7 (ix2 r j)) j

theorem at_dm : val_main_v69 (F := Ideal) x0 x1 x2 x3 x4 x5 x6 x7 x8 x9 (ix2 r j)
    = (W x3 x4 x5 x6).dh (R x0 x1 x2 x3 x7 x8 x9 r) j * (W x3 x4 x5 x6).gm j := by
  pointwise [val_main_v69, val_main_v68, val_main_v64, val_main_v15, val_main_v1]
  rw [at_dh]; rfl

theorem at_mix_chain : val_main_v80 (F := Ideal) x0 x1 x2 x3 x4 x5 x6 x7 x8 x9 (ix2 r j)
    = chain (R x0 x1 x2 x3 x7 x8 x9 r).mix (fun i => (W x3 x4 x5 x6).dh (R x0 x1 x2 x3 x7 x8 x9 r) i * (W x3 x4 x5 x6).gm i) := by
  pointwise [val_main_v80, val_main_v79, val_main_v78, val_main_v77, val_main_v76, val_main_v73, val_main_v72, val_main_v71,
    val_main_v12, val_main_v11, val_main_v10, val_main_cst_2, val_main_cst_14, val_main_cst_15, val_main_cst_16]
  simp only [at_dm, at_mix_rms, at_mix_square, word_1024, word_neg_half, Fintype.sum_unique, Fin.default_eq_zero]
  rfl

theorem at_dmix : val_main_v84 (F := Ideal) x0 x1 x2 x3 x4 x5 x6 x7 x8 x9 (ix2 r j) = (W x3 x4 x5 x6).dmix (R x0 x1 x2 x3 x7 x8 x9 r) j := by
  pointwise [val_main_v84, val_main_v83, val_main_v82, val_main_v81, val_main_v75, val_main_v74]
  rw [at_mix_chain, at_dm, at_mix_rms, ← zero_add (_ * _), add_assoc, add_assoc, zero_add]
  have := rmsBack_chain (R x0 x1 x2 x3 x7 x8 x9 r).mix (fun i => (W x3 x4 x5 x6).dh (R x0 x1 x2 x3 x7 x8 x9 r) i * (W x3 x4 x5 x6).gm i) 0 j
  rw [zero_add, zero_add, add_assoc] at this
  exact this

theorem out_dgf : val_main_v62 (F := Ideal) x0 x1 x2 x3 x5 x6 x8 x9 (ix2 (0 : Fin 1) j)
    = ∑ r, (W x3 x4 x5 x6).dgf (R x0 x1 x2 x3 x7 x8 x9 r) j := by
  pointwise [val_main_v62, val_main_v46, val_main_v43, val_main_v42, val_main_v41, val_main_cst_7, val_main_cst_8]
  simp only [at_unit x0 x1 x2 x3 x7 x8 x9, at_dxn x0 x1 x2 x3 x4 x5 x6 x7 x8 x9, Fintype.sum_unique, Fin.default_eq_zero]
  exact Finset.sum_congr rfl fun r _ => mul_comm _ _

theorem out_dgm : val_main_v85 (F := Ideal) x0 x1 x2 x3 x4 x5 x6 x7 x8 x9 (ix2 (0 : Fin 1) j)
    = ∑ r, (W x3 x4 x5 x6).dgm (R x0 x1 x2 x3 x7 x8 x9 r) j := by
  pointwise [val_main_v85, val_main_v70, val_main_v67, val_main_v66, val_main_v65, val_main_v64, val_main_cst_12, val_main_cst_13]
  simp only [at_mix_unit, at_dh, Fintype.sum_unique, Fin.default_eq_zero]
  exact Finset.sum_congr rfl fun r _ => mul_comm _ _

variable (P : Fin 2176)

theorem out_dh : val_main_v89 (F := Ideal) x0 x1 x2 x3 x4 x5 x6 x7 x8 x9 (ix2 P j)
    = (W x3 x4 x5 x6).dh (padRow (R x0 x1 x2 x3 x7 x8 x9) P.val) j := by
  pointwise [val_main_v89, val_main_v88, val_main_v87, val_main_v86, val_main_v63, val_main_cst_17]
  simp only [at_dh]
  exact (padRow_map (R x0 x1 x2 x3 x7 x8 x9) P.val (fun R => (W x3 x4 x5 x6).dh R j) (FfnIn.dh_zero _ _)).symm

theorem out_dmix : val_main_v94 (F := Ideal) x0 x1 x2 x3 x4 x5 x6 x7 x8 x9 (ix2 P j)
    = (W x3 x4 x5 x6).dmix (padRow (R x0 x1 x2 x3 x7 x8 x9) P.val) j := by
  pointwise [val_main_v94, val_main_v93, val_main_v92, val_main_v91, val_main_v90, val_main_cst_18]
  simp only [at_dmix]
  exact (padRow_map (R x0 x1 x2 x3 x7 x8 x9) P.val (fun R => (W x3 x4 x5 x6).dmix R j) (FfnIn.dmix_zero _ _)).symm

end Cert.Reference5Ideal.FfnIn
-- ==== Proof.FfnInKernel.lean ====
/- The norms around the residual and the feed-forward projections in the kernel: what its blocks hold, what one part of a
   block computes, and the four output arrays after the run. -/
module
public import proofs.«01_k».proof.Proof.Gen.Kernel5Ideal.Value
public import proofs.«01_k».proof.Proof.FfnInReference
public import Idealize.ShloMosaic.Lib.Pipeline.ValueKit
public import Idealize.ShloMosaic.Lib.Claim

@[expose] public section
set_option maxRecDepth 16384
noncomputable section
namespace Cert.Kernel5Ideal.FfnIn
open Idealize.ShloMosaic Idealize.ShloMosaic.TcCoe Idealize.SL.Sem
open Idealize.ShloMosaic.Pipeline (Dat)
open Cert.Step Cert.Kernel5Ideal Cert.Kernel5Ideal.Gen

variable (m : (ℓ : Loc nD τ sig) → Buf (Elt Ideal) ℓ) (c : Dev nD)

/-- Rows of 1024 and of 2816 in the padded order, as the host lays them out. -/
def rows1024 (x : Vec Ideal S2064x1024 .f32) : Vec Ideal S2176x1024 .f32 :=
  concatenate S2176x1024 0 [⟨S2048x1024, extractStridedSlice S2048x1024 ![16, 0] x slices_S2064x1024_S2048x1024_16_0⟩,
    ⟨S16x1024, extractStridedSlice S16x1024 ![0, 0] x slices_S2064x1024_S16x1024_0_0⟩,
    ⟨S112x1024, broadcastInDim S112x1024 ![] bcast_S_S112x1024 (constant (F := Ideal) S_ .f32 0#32)⟩] concatenates_S2048x1024_S16x1024_S112x1024_S2176x1024_d0
def rows2816 (x : Vec Ideal S2064x2816 .f32) : Vec Ideal S2176x2816 .bf16 :=
  truncf (F := Ideal) .bf16 (concatenate S2176x2816 0 [⟨S2048x2816, extractStridedSlice S2048x2816 ![16, 0] x slices_S2064x2816_S2048x2816_16_0⟩,
    ⟨S16x2816, extractStridedSlice S16x2816 ![0, 0] x slices_S2064x2816_S16x2816_0_0⟩,
    ⟨S112x2816, broadcastInDim S112x2816 ![] bcast_S_S112x2816 (constant (F := Ideal) S_ .f32 0#32)⟩] concatenates_S2048x2816_S16x2816_S112x2816_S2176x2816_d0) (by decide)

/-- The residual after the mixer, as the host computes it. -/
def resid (x : Vec Ideal S2048x1024 .f32) (mt : Vec Ideal S16x1024 .f32) (mix : Vec Ideal S2064x1024 .f32) (g : Vec Ideal S1x1024 .f32) :
    Vec Ideal S2064x1024 .f32 :=
  addf (concatenate S2064x1024 0 [⟨S16x1024, mt⟩, ⟨S2048x1024, x⟩] concatenates_S16x1024_S2048x1024_S2064x1024_d0)
    (mulf (mulf mix (broadcastInDim S2064x1024 ![0, 1] bcast_S2064x1_S2064x1024_0_1 (Host.rsqrt (addf
      (Host.divf (broadcastInDim S2064x1 ![0] bcast_S2064_S2064x1_0 (Host.reduceAdd (F := Ideal) (mulf mix mix) (constant (F := Ideal) S_ .f32 0#32)
        reducesTo_S2064x1024_S2064_d1 h_S_)) (broadcastInDim S2064x1 ![] bcast_S_S2064x1 (constant (F := Ideal) S_ .f32 0x44800000#32)))
      (broadcastInDim S2064x1 ![] bcast_S_S2064x1 (constant (F := Ideal) S_ .f32 0x358637BD#32))))))
      (broadcastInDim S2064x1024 ![0, 1] bcast_S1x1024_S2064x1024_0_1 g))

theorem entry_a : V m c main_v19 = rows2816 (m ((c : Thread nD τ).loc main_arg8)) := by
  unfold V rows2816; after_results; rfl
theorem entry_u : V m c main_v24 = rows2816 (m ((c : Thread nD τ).loc main_arg9)) := by
  unfold V rows2816; after_results; rfl
theorem entry_h : V m c main_v32 = rows1024 (resid (m ((c : Thread nD τ).loc main_arg0)) (m ((c : Thread nD τ).loc main_arg1))
    (m ((c : Thread nD τ).loc main_arg2)) (m ((c : Thread nD τ).loc main_arg3))) := by
  unfold V rows1024 resid; after_results; rfl
theorem entry_mix : V m c main_v36 = rows1024 (m ((c : Thread nD τ).loc main_arg2)) := by
  unfold V rows1024; after_results; rfl
theorem entry_ct : V m c main_v40 = rows1024 (m ((c : Thread nD τ).loc main_arg7)) := by
  unfold V rows1024; after_results; rfl

/-- The call's data, from the arrays of one device. -/
def W : Step.FfnIn := .weights (m ((c : Thread nD τ).loc main_arg3)) (m ((c : Thread nD τ).loc main_arg4))
  (m ((c : Thread nD τ).loc main_arg5)) (m ((c : Thread nD τ).loc main_arg6))
def rows : Fin 2064 → FfnInRow := Step.FfnIn.row (m ((c : Thread nD τ).loc main_arg0)) (m ((c : Thread nD τ).loc main_arg1))
  (m ((c : Thread nD τ).loc main_arg2)) (m ((c : Thread nD τ).loc main_arg3)) (m ((c : Thread nD τ).loc main_arg7))
  (m ((c : Thread nD τ).loc main_arg8)) (m ((c : Thread nD τ).loc main_arg9))
def row (P : ℕ) : FfnInRow := padRow (rows m c) P

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![0, 0] ∧ win0_8.index t = ![0, 0] ∧ win0_9.index t = ![t.val, 0] ∧ win0_10.index t = ![t.val, 0]
    ∧ win0_11.index t = ![0, 0] ∧ win0_12.index t = ![0, 0] := (by decide +kernel : ∀ t : Fin grid0.N, _)

variable (t : Fin cfg0.N)

theorem blk_a (p : Fin 544) (f : Fin 2816) : iblk m c 0 t (ix2 p f) = (row m c (544 * t.val + p.val)).a f := by
  have ht : t.val < 4 := lt_of_lt_of_eq t.isLt N_0
  have e : iblk m c 0 t (ix2 p f) = rows2816 (m ((c : Thread nD τ).loc main_arg8)) (ix2 ⟨544 * t.val + p.val, by omega⟩ f) := by
    rw [← entry_a]
    blk_ext [iblk, idx t]
  rw [e]
  pointwise [rows2816]
  exact (padRow_map (rows m c) _ (fun R : FfnInRow => R.a f) rfl).symm

theorem blk_u (p : Fin 544) (f : Fin 2816) : iblk m c 1 t (ix2 p f) = (row m c (544 * t.val + p.val)).u f := by
  have ht : t.val < 4 := lt_of_lt_of_eq t.isLt N_0
  have e : iblk m c 1 t (ix2 p f) = rows2816 (m ((c : Thread nD τ).loc main_arg9)) (ix2 ⟨544 * t.val + p.val, by omega⟩ f) := by
    rw [← entry_u]
    blk_ext [iblk, idx t]
  rw [e]
  pointwise [rows2816]
  exact (padRow_map (rows m c) _ (fun R : FfnInRow => R.u f) rfl).symm

theorem blk_mix (p : Fin 544) (d : Fin 1024) : iblk m c 5 t (ix2 p d) = (row m c (544 * t.val + p.val)).mix d := by
  have ht : t.val < 4 := lt_of_lt_of_eq t.isLt N_0
  have e : iblk m c 5 t (ix2 p d) = rows1024 (m ((c : Thread nD τ).loc main_arg2)) (ix2 ⟨544 * t.val + p.val, by omega⟩ d) := by
    rw [← entry_mix]
    blk_ext [iblk, idx t]
  rw [e]
  pointwise [rows1024]
  exact (padRow_map (rows m c) _ (fun R : FfnInRow => R.mix d) rfl).symm

theorem blk_ct (p : Fin 544) (d : Fin 1024) : iblk m c 6 t (ix2 p d) = (row m c (544 * t.val + p.val)).ct d := by
  have ht : t.val < 4 := lt_of_lt_of_eq t.isLt N_0
  have e : iblk m c 6 t (ix2 p d) = rows1024 (m ((c : Thread nD τ).loc main_arg7)) (ix2 ⟨544 * t.val + p.val, by omega⟩ d) := by
    rw [← entry_ct]
    blk_ext [iblk, idx t]
  rw [e]
  pointwise [rows1024]
  exact (padRow_map (rows m c) _ (fun R : FfnInRow => R.ct d) rfl).symm

theorem at_resid (x : Vec Ideal S2048x1024 .f32) (mt : Vec Ideal S16x1024 .f32) (mix : Vec Ideal S2064x1024 .f32) (g : Vec Ideal S1x1024 .f32)
    (r : Fin 2064) (d : Fin 1024) :
    resid x mt mix g (ix2 r d) = joined x mt r d + unit (fun i => mix (ix2 r i)) d * g (ix2 0 d) := by
  pointwise [resid]
  rw [word_1024, word_rmsEps]
  rfl

theorem blk_h (p : Fin 544) (d : Fin 1024) : iblk m c 4 t (ix2 p d) = (row m c (544 * t.val + p.val)).h d := by
  have ht : t.val < 4 := lt_of_lt_of_eq t.isLt N_0
  have e : iblk m c 4 t (ix2 p d) = rows1024 (resid (m ((c : Thread nD τ).loc main_arg0)) (m ((c : Thread nD τ).loc main_arg1))
      (m ((c : Thread nD τ).loc main_arg2)) (m ((c : Thread nD τ).loc main_arg3))) (ix2 ⟨544 * t.val + p.val, by omega⟩ d) := by
    rw [← entry_h]
    blk_ext [iblk, idx t]
  rw [e]
  pointwise [rows1024]
  simp only [at_resid]
  exact (padRow_map (rows m c) _ (fun R : FfnInRow => R.h d) rfl).symm

theorem blk_wg (f : Fin 2816) (d : Fin 1024) : iblk m c 2 t (ix2 f d) = (W m c).gate d f := by
  blk_point [iblk, V, idx t]
theorem blk_wu (f : Fin 2816) (d : Fin 1024) : iblk m c 3 t (ix2 f d) = (W m c).up d f := by
  blk_point [iblk, V, idx t]
theorem blk_gf (d : Fin 1024) : iblk m c 7 t (ix2 0 d) = (W m c).gf d := by
  blk_point [iblk, V, idx t]
theorem blk_gm (d : Fin 1024) : iblk m c 8 t (ix2 0 d) = (W m c).gm d := by
  blk_point [iblk, V, idx t]

/-! ## A part of a block -/

/-- What a part of a block reads: `n` rows, both weights and both gains. -/
structure Part (W : Step.FfnIn) {n : ℕ} (R : Fin n → FfnInRow) (a u : Vec Ideal ⟨2, ![n, 2816]⟩ .bf16) (wg wu : Vec Ideal S2816x1024 .bf16)
    (h mix ct : Vec Ideal ⟨2, ![n, 1024]⟩ .f32) (gf gm : Vec Ideal S1x1024 .f32) : Prop where
  a : ∀ p f, a (ix2 p f) = (R p).a f
  u : ∀ p f, u (ix2 p f) = (R p).u f
  wg : ∀ f d, wg (ix2 f d) = W.gate d f
  wu : ∀ f d, wu (ix2 f d) = W.up d f
  h : ∀ p d, h (ix2 p d) = (R p).h d
  mix : ∀ p d, mix (ix2 p d) = (R p).mix d
  ct : ∀ p d, ct (ix2 p d) = (R p).ct d
  gf : ∀ d, gf (ix2 0 d) = W.gf d
  gm : ∀ d, gm (ix2 0 d) = W.gm d

section
variable {W : Step.FfnIn} {R : Fin 192 → FfnInRow} {a u : Vec Ideal S192x2816 .bf16} {wg wu : Vec Ideal S2816x1024 .bf16}
  {h mix ct : Vec Ideal S192x1024 .f32} {gf gm : Vec Ideal S1x1024 .f32} (A : Part W R a u wg wu h mix ct gf gm)
  (p : Fin 192) (d : Fin 1024) (v : Vec Ideal S1x1024 .f32)
include A

theorem first_dxn : k0_pay6 (F := Ideal) a wg u wu (ix2 p d) = W.dxn (R p) d := by
  pointwise [k0_pay6]
  simp only [A.a, A.u, A.wg, A.wu]; rfl
theorem first_rms : k0_pay8 (F := Ideal) h (ix2 p (0 : Fin 1)) = rms (R p).h := by
  pointwise [k0_pay8, k0_pay7]
  simp only [A.h, word_1024, word_rmsEps]; rfl
theorem first_unit : k0_pay9 (F := Ideal) h (ix2 p d) = unit (R p).h d := by
  pointwise [k0_pay9, k0_pay7]
  rw [first_rms A, A.h]; rfl
theorem first_dh : k0_pay11 (F := Ideal) (k0_pay8 h) (k0_pay10 a wg u wu h gf) ct (ix2 p d) = W.dh (R p) d := by
  pointwise [k0_pay11, k0_pay10]
  simp only [first_dxn A, first_rms A, first_unit A, A.ct, A.gf, word_1024]; rfl
theorem first_mix_rms : k0_pay13 (F := Ideal) mix (ix2 p (0 : Fin 1)) = rms (R p).mix := by
  pointwise [k0_pay13, k0_pay12]
  simp only [A.mix, word_1024, word_rmsEps]; rfl
theorem first_mix_unit : k0_pay14 (F := Ideal) mix (ix2 p d) = unit (R p).mix d := by
  pointwise [k0_pay14, k0_pay12]
  rw [first_mix_rms A, A.mix]; rfl
theorem first_dmix : k0_pay16 (F := Ideal) (k0_pay8 h) (k0_pay10 a wg u wu h gf) ct mix gm (ix2 p d) = W.dmix (R p) d := by
  pointwise [k0_pay16]
  simp only [first_dh A, first_mix_rms A, first_mix_unit A, A.gm, word_1024]; rfl
theorem first_dgf : k0_pay17 (F := Ideal) (k0_pay6 a wg u wu) (k0_pay9 h) v (ix2 (0 : Fin 1) d) = v (ix2 0 d) + ∑ p, W.dgf (R p) d := by
  pointwise [k0_pay17]
  simp only [first_dxn A, first_unit A]; rfl
theorem first_dgm : k0_pay18 (F := Ideal) (k0_pay15 (k0_pay8 h) (k0_pay10 a wg u wu h gf) ct mix) v (ix2 (0 : Fin 1) d) = v (ix2 0 d) + ∑ p, W.dgm (R p) d := by
  pointwise [k0_pay18, k0_pay15]
  simp only [first_dh A, first_mix_unit A]; rfl
end

section
variable {W : Step.FfnIn} {R : Fin 176 → FfnInRow} {a u : Vec Ideal S176x2816 .bf16} {wg wu : Vec Ideal S2816x1024 .bf16}
  {h mix ct : Vec Ideal S176x1024 .f32} {gf gm : Vec Ideal S1x1024 .f32} (A : Part W R a u wg wu h mix ct gf gm)
  (p : Fin 176) (d : Fin 1024) (v : Vec Ideal S1x1024 .f32)
include A

theorem second_dxn : k0_pay19 (F := Ideal) a wg u wu (ix2 p d) = W.dxn (R p) d := by
  pointwise [k0_pay19]
  simp only [A.a, A.u, A.wg, A.wu]; rfl
theorem second_rms : k0_pay21 (F := Ideal) h (ix2 p (0 : Fin 1)) = rms (R p).h := by
  pointwise [k0_pay21, k0_pay20]
  simp only [A.h, word_1024, word_rmsEps]; rfl
theorem second_unit : k0_pay22 (F := Ideal) h (ix2 p d) = unit (R p).h d := by
  pointwise [k0_pay22, k0_pay20]
  rw [second_rms A, A.h]; rfl
theorem second_dh : k0_pay26 (F := Ideal) (k0_pay21 h) (k0_pay22 h) (k0_pay23 a wg u wu gf) (k0_pay24 a wg u wu h gf) ct (ix2 p d) = W.dh (R p) d := by
  pointwise [k0_pay26, k0_pay24, k0_pay23]
  simp only [second_dxn A, second_rms A, second_unit A, A.ct, A.gf, word_1024]; rfl
theorem second_mix_rms : k0_pay28 (F := Ideal) mix (ix2 p (0 : Fin 1)) = rms (R p).mix := by
  pointwise [k0_pay28, k0_pay27]
  simp only [A.mix, word_1024, word_rmsEps]; rfl
theorem second_mix_unit : k0_pay29 (F := Ideal) mix (ix2 p d) = unit (R p).mix d := by
  pointwise [k0_pay29, k0_pay27]
  rw [second_mix_rms A, A.mix]; rfl
theorem second_dmix : k0_pay31 (F := Ideal) (k0_pay21 h) (k0_pay22 h) (k0_pay23 a wg u wu gf) (k0_pay24 a wg u wu h gf) ct mix gm (ix2 p d) = W.dmix (R p) d := by
  pointwise [k0_pay31]
  simp only [second_dh A, second_mix_rms A, second_mix_unit A, A.gm, word_1024]; rfl
theorem second_dgf : k0_pay32 (F := Ideal) (k0_pay25 (k0_pay19 a wg u wu) (k0_pay22 h)) v (ix2 (0 : Fin 1) d) = v (ix2 0 d) + ∑ p, W.dgf (R p) d := by
  pointwise [k0_pay32, k0_pay25]
  simp only [second_dxn A, second_unit A]; rfl
theorem second_dgm : k0_pay33 (F := Ideal) (k0_pay30 (k0_pay21 h) (k0_pay22 h) (k0_pay23 a wg u wu gf) (k0_pay24 a wg u wu h gf) ct mix) v (ix2 (0 : Fin 1) d) = v (ix2 0 d) + ∑ p, W.dgm (R p) d := by
  pointwise [k0_pay33, k0_pay30]
  simp only [second_dh A, second_mix_unit A]; rfl
end

section
variable {W : Step.FfnIn} {R : Fin 176 → FfnInRow} {a u : Vec Ideal S176x2816 .bf16} {wg wu : Vec Ideal S2816x1024 .bf16}
  {h mix ct : Vec Ideal S176x1024 .f32} {gf gm : Vec Ideal S1x1024 .f32} (A : Part W R a u wg wu h mix ct gf gm)
  (p : Fin 176) (d : Fin 1024) (v : Vec Ideal S1x1024 .f32)
include A

theorem third_dxn : k0_pay34 (F := Ideal) a wg u wu (ix2 p d) = W.dxn (R p) d := by
  pointwise [k0_pay34]
  simp only [A.a, A.u, A.wg, A.wu]; rfl
theorem third_rms : k0_pay37 (F := Ideal) (k0_pay36 h) (ix2 p (0 : Fin 1)) = rms (R p).h := by
  pointwise [k0_pay37, k0_pay36, k0_pay35]
  simp only [A.h, word_1024, word_rmsEps]; rfl
theorem third_unit : k0_pay38 (F := Ideal) (k0_pay35 h) (k0_pay36 h) (ix2 p d) = unit (R p).h d := by
  pointwise [k0_pay38, k0_pay35]
  rw [third_rms A, A.h]; rfl
theorem third_dh : k0_pay40 (F := Ideal) (k0_pay34 a wg u wu) (k0_pay35 h) (k0_pay36 h) gf ct (ix2 p d) = W.dh (R p) d := by
  pointwise [k0_pay40]
  simp only [third_dxn A, third_rms A, third_unit A, A.ct, A.gf, word_1024]; rfl
theorem third_mix_rms : k0_pay42 (F := Ideal) mix (ix2 p (0 : Fin 1)) = rms (R p).mix := by
  pointwise [k0_pay42, k0_pay41]
  simp only [A.mix, word_1024, word_rmsEps]; rfl
theorem third_mix_unit : k0_pay43 (F := Ideal) mix (ix2 p d) = unit (R p).mix d := by
  pointwise [k0_pay43, k0_pay41]
  rw [third_mix_rms A, A.mix]; rfl
theorem third_dmix : k0_pay1 (F := Ideal) (k0_pay42 mix) (k0_pay43 mix) (k0_pay44 (k0_pay34 a wg u wu) (k0_pay35 h) (k0_pay36 h) gf ct gm) (k0_pay45 (k0_pay34 a wg u wu) (k0_pay35 h) (k0_pay36 h) gf ct mix gm) (ix2 p d) = W.dmix (R p) d := by
  pointwise [k0_pay1, k0_pay45, k0_pay44]
  simp only [third_dh A, third_mix_rms A, third_mix_unit A, A.gm, word_1024]; rfl
theorem third_dgf : k0_pay2 (F := Ideal) (k0_pay39 (k0_pay34 a wg u wu) (k0_pay35 h) (k0_pay36 h)) v (ix2 (0 : Fin 1) d) = v (ix2 0 d) + ∑ p, W.dgf (R p) d := by
  pointwise [k0_pay2, k0_pay39]
  simp only [third_dxn A, third_unit A]; rfl
theorem third_dgm : k0_pay3 (F := Ideal) (k0_pay40 (k0_pay34 a wg u wu) (k0_pay35 h) (k0_pay36 h) gf ct) (k0_pay43 mix) v (ix2 (0 : Fin 1) d) = v (ix2 0 d) + ∑ p, W.dgm (R p) d := by
  pointwise [k0_pay3]
  simp only [third_dh A, third_mix_unit A]; rfl
end

abbrev firstA (v : Vec Ideal S544x2816 .bf16) : Vec Ideal S192x2816 .bf16 := View.ld v (Rect.unit ![0, 0] ![192, 2816] inb_S544x2816_S192x2816_0_0)
theorem firstA_at (v) (p : Fin 192) (k : Fin 2816) : firstA v (ix2 p k) = v (ix2 (⟨0 + p.val, by omega⟩ : Fin 544) k) := by
  pointwise [firstA]
abbrev first (v : Vec Ideal S544x1024 .f32) : Vec Ideal S192x1024 .f32 := View.ld v (Rect.unit ![0, 0] ![192, 1024] inb_S544x1024_S192x1024_0_0)
theorem first_at (v) (p : Fin 192) (k : Fin 1024) : first v (ix2 p k) = v (ix2 (⟨0 + p.val, by omega⟩ : Fin 544) k) := by
  pointwise [first]
abbrev secondA (v : Vec Ideal S544x2816 .bf16) : Vec Ideal S176x2816 .bf16 := View.ld v (Rect.unit ![192, 0] ![176, 2816] inb_S544x2816_S176x2816_192_0)
theorem secondA_at (v) (p : Fin 176) (k : Fin 2816) : secondA v (ix2 p k) = v (ix2 (⟨192 + p.val, by omega⟩ : Fin 544) k) := by
  pointwise [secondA]
abbrev second (v : Vec Ideal S544x1024 .f32) : Vec Ideal S176x1024 .f32 := View.ld v (Rect.unit ![192, 0] ![176, 1024] inb_S544x1024_S176x1024_192_0)
theorem second_at (v) (p : Fin 176) (k : Fin 1024) : second v (ix2 p k) = v (ix2 (⟨192 + p.val, by omega⟩ : Fin 544) k) := by
  pointwise [second]
abbrev thirdA (v : Vec Ideal S544x2816 .bf16) : Vec Ideal S176x2816 .bf16 := View.ld v (Rect.unit ![368, 0] ![176, 2816] inb_S544x2816_S176x2816_368_0)
theorem thirdA_at (v) (p : Fin 176) (k : Fin 2816) : thirdA v (ix2 p k) = v (ix2 (⟨368 + p.val, by omega⟩ : Fin 544) k) := by
  pointwise [thirdA]
abbrev third (v : Vec Ideal S544x1024 .f32) : Vec Ideal S176x1024 .f32 := View.ld v (Rect.unit ![368, 0] ![176, 1024] inb_S544x1024_S176x1024_368_0)
theorem third_at (v) (p : Fin 176) (k : Fin 1024) : third v (ix2 p k) = v (ix2 (⟨368 + p.val, by omega⟩ : Fin 544) k) := by
  pointwise [third]

theorem first_part : Part (W m c) (fun p : Fin 192 => row m c (544 * t.val + 0 + p.val)) (firstA (iblk m c 0 t)) (firstA (iblk m c 1 t))
    (iblk m c 2 t) (iblk m c 3 t) (first (iblk m c 4 t)) (first (iblk m c 5 t)) (first (iblk m c 6 t)) (iblk m c 7 t) (iblk m c 8 t) where
  a p f := (firstA_at _ p f).trans (by rw [add_assoc]; exact blk_a m c t _ f)
  u p f := (firstA_at _ p f).trans (by rw [add_assoc]; exact blk_u m c t _ f)
  wg := blk_wg m c t
  wu := blk_wu m c t
  h p d := (first_at _ p d).trans (by rw [add_assoc]; exact blk_h m c t _ d)
  mix p d := (first_at _ p d).trans (by rw [add_assoc]; exact blk_mix m c t _ d)
  ct p d := (first_at _ p d).trans (by rw [add_assoc]; exact blk_ct m c t _ d)
  gf := blk_gf m c t
  gm := blk_gm m c t

theorem second_part : Part (W m c) (fun p : Fin 176 => row m c (544 * t.val + 192 + p.val)) (secondA (iblk m c 0 t)) (secondA (iblk m c 1 t))
    (iblk m c 2 t) (iblk m c 3 t) (second (iblk m c 4 t)) (second (iblk m c 5 t)) (second (iblk m c 6 t)) (iblk m c 7 t) (iblk m c 8 t) where
  a p f := (secondA_at _ p f).trans (by rw [add_assoc]; exact blk_a m c t _ f)
  u p f := (secondA_at _ p f).trans (by rw [add_assoc]; exact blk_u m c t _ f)
  wg := blk_wg m c t
  wu := blk_wu m c t
  h p d := (second_at _ p d).trans (by rw [add_assoc]; exact blk_h m c t _ d)
  mix p d := (second_at _ p d).trans (by rw [add_assoc]; exact blk_mix m c t _ d)
  ct p d := (second_at _ p d).trans (by rw [add_assoc]; exact blk_ct m c t _ d)
  gf := blk_gf m c t
  gm := blk_gm m c t

theorem third_part : Part (W m c) (fun p : Fin 176 => row m c (544 * t.val + 368 + p.val)) (thirdA (iblk m c 0 t)) (thirdA (iblk m c 1 t))
    (iblk m c 2 t) (iblk m c 3 t) (third (iblk m c 4 t)) (third (iblk m c 5 t)) (third (iblk m c 6 t)) (iblk m c 7 t) (iblk m c 8 t) where
  a p f := (thirdA_at _ p f).trans (by rw [add_assoc]; exact blk_a m c t _ f)
  u p f := (thirdA_at _ p f).trans (by rw [add_assoc]; exact blk_u m c t _ f)
  wg := blk_wg m c t
  wu := blk_wu m c t
  h p d := (third_at _ p d).trans (by rw [add_assoc]; exact blk_h m c t _ d)
  mix p d := (third_at _ p d).trans (by rw [add_assoc]; exact blk_mix m c t _ d)
  ct p d := (third_at _ p d).trans (by rw [add_assoc]; exact blk_ct m c t _ d)
  gf := blk_gf m c t
  gm := blk_gm m c t

/-! ## The arrays after the run -/

/-- The four results. -/
def dh : Vec Ideal S2176x1024 .f32 := fun i => (W m c).dh (row m c (i 0).val) (i 1)
def dmix : Vec Ideal S2176x1024 .bf16 := fun i => (W m c).dmix (row m c (i 0).val) (i 1)
def dgf : Vec Ideal S1x1024 .f32 := fun i => ∑ r, (W m c).dgf (rows m c r) (i 1)
def dgm : Vec Ideal S1x1024 .f32 := fun i => ∑ r, (W m c).dgm (rows m c r) (i 1)

theorem final_dh : (dats m 0 c).arrAt 9 (cfgs 0).N = dh m c := by
  refine (dats m 0 c).arrAt_eq_of_covers 9 _ (by decide +kernel) fun t hf y => ?_
  blk_simp
  rw [after0_9]
  have e (s : Vec Ideal S544x1024 .f32)
      (h : s = View.canon [
        ⟨Rect.unit ![368, 0] ![176, 1024] inb_S544x1024_S176x1024_368_0,
          k0_pay40 (k0_pay34 (thirdA (iblk m c 0 t)) (iblk m c 2 t) (thirdA (iblk m c 1 t)) (iblk m c 3 t)) (k0_pay35 (third (iblk m c 4 t))) (k0_pay36 (third (iblk m c 4 t))) (iblk m c 7 t) (third (iblk m c 6 t))⟩,
        ⟨Rect.unit ![192, 0] ![176, 1024] inb_S544x1024_S176x1024_192_0,
          k0_pay26 (k0_pay21 (second (iblk m c 4 t))) (k0_pay22 (second (iblk m c 4 t))) (k0_pay23 (secondA (iblk m c 0 t)) (iblk m c 2 t) (secondA (iblk m c 1 t)) (iblk m c 3 t) (iblk m c 7 t)) (k0_pay24 (secondA (iblk m c 0 t)) (iblk m c 2 t) (secondA (iblk m c 1 t)) (iblk m c 3 t) (second (iblk m c 4 t)) (iblk m c 7 t)) (second (iblk m c 6 t))⟩,
        ⟨Rect.unit ![0, 0] ![192, 1024] inb_S544x1024_S192x1024_0_0,
          k0_pay11 (k0_pay8 (first (iblk m c 4 t))) (k0_pay10 (firstA (iblk m c 0 t)) (iblk m c 2 t) (firstA (iblk m c 1 t)) (iblk m c 3 t) (first (iblk m c 4 t)) (iblk m c 7 t)) (first (iblk m c 6 t))⟩]) :
      s y = dh m c (((View.whole main_v41_0).slice (win0_9.rect t)).emb y) := by
    rw [h]
    canon_tiles y h using View.cover_of_tiledBy _ ![16, 1024] (by sl_kernel_rfl) _
    · exact lands (row m c) (W m c).dh _ (544 * t.val + 368) (third_dh (third_part m c t)) _ _ (by blk_simp [idx t]; omega) (by blk_simp [idx t]; omega)
    · exact lands (row m c) (W m c).dh _ (544 * t.val + 192) (second_dh (second_part m c t)) _ _ (by blk_simp [idx t]; omega) (by blk_simp [idx t]; omega)
    · exact lands (row m c) (W m c).dh _ (544 * t.val + 0) (first_dh (first_part m c t)) _ _ (by blk_simp [idx t]; omega) (by blk_simp [idx t]; omega)
  by_cases h : t.val % 4 = 0
  · rw [outsAt0_A m c t h]
    refine e _ ?_
    frame_out
  · rw [outsAt0_B m c t h]
    refine e _ ?_
    frame_out

theorem final_dmix : (dats m 0 c).arrAt 10 (cfgs 0).N = dmix m c := by
  refine (dats m 0 c).arrAt_eq_of_covers 10 _ (by decide +kernel) fun t hf y => ?_
  blk_simp
  rw [after0_10]
  have e (s : Vec Ideal S544x1024 .bf16)
      (h : s = View.canon [
        ⟨Rect.unit ![368, 0] ![176, 1024] inb_S544x1024_S176x1024_368_0,
          k0_pay1 (k0_pay42 (third (iblk m c 5 t))) (k0_pay43 (third (iblk m c 5 t))) (k0_pay44 (k0_pay34 (thirdA (iblk m c 0 t)) (iblk m c 2 t) (thirdA (iblk m c 1 t)) (iblk m c 3 t)) (k0_pay35 (third (iblk m c 4 t))) (k0_pay36 (third (iblk m c 4 t))) (iblk m c 7 t) (third (iblk m c 6 t)) (iblk m c 8 t)) (k0_pay45 (k0_pay34 (thirdA (iblk m c 0 t)) (iblk m c 2 t) (thirdA (iblk m c 1 t)) (iblk m c 3 t)) (k0_pay35 (third (iblk m c 4 t))) (k0_pay36 (third (iblk m c 4 t))) (iblk m c 7 t) (third (iblk m c 6 t)) (third (iblk m c 5 t)) (iblk m c 8 t))⟩,
        ⟨Rect.unit ![192, 0] ![176, 1024] inb_S544x1024_S176x1024_192_0,
          k0_pay31 (k0_pay21 (second (iblk m c 4 t))) (k0_pay22 (second (iblk m c 4 t))) (k0_pay23 (secondA (iblk m c 0 t)) (iblk m c 2 t) (secondA (iblk m c 1 t)) (iblk m c 3 t) (iblk m c 7 t)) (k0_pay24 (secondA (iblk m c 0 t)) (iblk m c 2 t) (secondA (iblk m c 1 t)) (iblk m c 3 t) (second (iblk m c 4 t)) (iblk m c 7 t)) (second (iblk m c 6 t)) (second (iblk m c 5 t)) (iblk m c 8 t)⟩,
        ⟨Rect.unit ![0, 0] ![192, 1024] inb_S544x1024_S192x1024_0_0,
          k0_pay16 (k0_pay8 (first (iblk m c 4 t))) (k0_pay10 (firstA (iblk m c 0 t)) (iblk m c 2 t) (firstA (iblk m c 1 t)) (iblk m c 3 t) (first (iblk m c 4 t)) (iblk m c 7 t)) (first (iblk m c 6 t)) (first (iblk m c 5 t)) (iblk m c 8 t)⟩]) :
      s y = dmix m c (((View.whole main_v41_1).slice (win0_10.rect t)).emb y) := by
    rw [h]
    canon_tiles y h using View.cover_of_tiledBy _ ![16, 1024] (by sl_kernel_rfl) _
    · exact lands (row m c) (W m c).dmix _ (544 * t.val + 368) (third_dmix (third_part m c t)) _ _ (by blk_simp [idx t]; omega) (by blk_simp [idx t]; omega)
    · exact lands (row m c) (W m c).dmix _ (544 * t.val + 192) (second_dmix (second_part m c t)) _ _ (by blk_simp [idx t]; omega) (by blk_simp [idx t]; omega)
    · exact lands (row m c) (W m c).dmix _ (544 * t.val + 0) (first_dmix (first_part m c t)) _ _ (by blk_simp [idx t]; omega) (by blk_simp [idx t]; omega)
  by_cases h : t.val % 4 = 0
  · rw [outsAt0_A m c t h]
    refine e _ ?_
    frame_out
  · rw [outsAt0_B m c t h]
    refine e _ ?_
    frame_out

/-- What three parts of every block add up to. -/
theorem sum_points (F : FfnInRow → EReal) (hF : F 0 = 0) : (∑ t : Fin cfg0.N, ((∑ p : Fin 192, F (row m c (544 * t.val + 0 + p.val)))
    + (∑ p : Fin 176, F (row m c (544 * t.val + 192 + p.val))) + ∑ p : Fin 176, F (row m c (544 * t.val + 368 + p.val))))
    = ∑ r, F (rows m c r) := by
  have e (P : ℕ) : F (row m c P) = padRow (fun r => F (rows m c r)) P := padRow_map (rows m c) P F hF
  simp only [e]
  rw [← sum_padRow]
  refine Eq.trans ?_ (sum_blocks 4 544 (fun P => padRow (fun r => F (rows m c r)) P))
  refine Finset.sum_congr rfl fun t _ => ?_
  rw [show (544 : ℕ) = 192 + 176 + 176 from rfl, Fin.sum_univ_add, Fin.sum_univ_add]
  simp only [Fin.val_castAdd, Fin.val_natAdd, add_assoc, add_zero, zero_add]
  rfl

theorem zero_dgf (j : S1x1024.Idx) : k0_pay4 (F := Ideal) j = 0 := by pointwise [k0_pay4]
theorem zero_dgm (j : S1x1024.Idx) : k0_pay5 (F := Ideal) j = 0 := by pointwise [k0_pay5]

/-- What one block adds to this gain's gradient. -/
theorem point_dgf (t : Fin cfg0.N) (v : Vec Ideal S1x1024 .f32) (j : S1x1024.Idx) :
    k0_pay2 (k0_pay39 (k0_pay34 (thirdA (iblk m c 0 t)) (iblk m c 2 t) (thirdA (iblk m c 1 t)) (iblk m c 3 t)) (k0_pay35 (third (iblk m c 4 t))) (k0_pay36 (third (iblk m c 4 t)))) (k0_pay32 (k0_pay25 (k0_pay19 (secondA (iblk m c 0 t)) (iblk m c 2 t) (secondA (iblk m c 1 t)) (iblk m c 3 t)) (k0_pay22 (second (iblk m c 4 t)))) (k0_pay17 (k0_pay6 (firstA (iblk m c 0 t)) (iblk m c 2 t) (firstA (iblk m c 1 t)) (iblk m c 3 t)) (k0_pay9 (first (iblk m c 4 t))) v)) j
      = v j + ((∑ p : Fin 192, (W m c).dgf (row m c (544 * t.val + 0 + p.val)) (j 1))
        + (∑ p : Fin 176, (W m c).dgf (row m c (544 * t.val + 192 + p.val)) (j 1))
        + ∑ p : Fin 176, (W m c).dgf (row m c (544 * t.val + 368 + p.val)) (j 1)) := by
  obtain ⟨i, rfl⟩ : ∃ i : Fin 1024, j = ix2 (0 : Fin 1) i := ⟨j 1, by rw [eq_ix2 j]; congr 1; exact Subsingleton.elim _ _⟩
  rw [third_dgf (third_part m c t), second_dgf (second_part m c t), first_dgf (first_part m c t), add_assoc, add_assoc, ← add_assoc (∑ _, _)]
  rfl

theorem final_dgf : (dats m 0 c).arrAt 11 (cfgs 0).N = dgf m c := by
  refine (dats m 0 c).arrAt_eq_of_after_last 11 t0_3 (by decide +kernel) _ fun j => ?_
  blk_simp
  rw [after0_11, Pipeline.eq_sum_fin_of_reset_step_apply_last (fun n h => (outsAt0 m c n h).2.2.1) 4 (fun _ => 0) _
    (fun t h j => by rw [outsAt0_A m c t h]; frame_out; refine (point_dgf m c t _ j).trans ?_; rw [zero_dgf])
    (fun t h j => by rw [outsAt0_B m c t h]; frame_out; exact point_dgf m c t _ j) (le_of_eq N_0) t0_3 rfl j, zero_add]
  exact sum_points m c (fun R => (W m c).dgf R (j 1)) (Step.FfnIn.dgf_zero _ _)

/-- What one block adds to this gain's gradient. -/
theorem point_dgm (t : Fin cfg0.N) (v : Vec Ideal S1x1024 .f32) (j : S1x1024.Idx) :
    k0_pay3 (k0_pay40 (k0_pay34 (thirdA (iblk m c 0 t)) (iblk m c 2 t) (thirdA (iblk m c 1 t)) (iblk m c 3 t)) (k0_pay35 (third (iblk m c 4 t))) (k0_pay36 (third (iblk m c 4 t))) (iblk m c 7 t) (third (iblk m c 6 t))) (k0_pay43 (third (iblk m c 5 t))) (k0_pay33 (k0_pay30 (k0_pay21 (second (iblk m c 4 t))) (k0_pay22 (second (iblk m c 4 t))) (k0_pay23 (secondA (iblk m c 0 t)) (iblk m c 2 t) (secondA (iblk m c 1 t)) (iblk m c 3 t) (iblk m c 7 t)) (k0_pay24 (secondA (iblk m c 0 t)) (iblk m c 2 t) (secondA (iblk m c 1 t)) (iblk m c 3 t) (second (iblk m c 4 t)) (iblk m c 7 t)) (second (iblk m c 6 t)) (second (iblk m c 5 t))) (k0_pay18 (k0_pay15 (k0_pay8 (first (iblk m c 4 t))) (k0_pay10 (firstA (iblk m c 0 t)) (iblk m c 2 t) (firstA (iblk m c 1 t)) (iblk m c 3 t) (first (iblk m c 4 t)) (iblk m c 7 t)) (first (iblk m c 6 t)) (first (iblk m c 5 t))) v)) j
      = v j + ((∑ p : Fin 192, (W m c).dgm (row m c (544 * t.val + 0 + p.val)) (j 1))
        + (∑ p : Fin 176, (W m c).dgm (row m c (544 * t.val + 192 + p.val)) (j 1))
        + ∑ p : Fin 176, (W m c).dgm (row m c (544 * t.val + 368 + p.val)) (j 1)) := by
  obtain ⟨i, rfl⟩ : ∃ i : Fin 1024, j = ix2 (0 : Fin 1) i := ⟨j 1, by rw [eq_ix2 j]; congr 1; exact Subsingleton.elim _ _⟩
  rw [third_dgm (third_part m c t), second_dgm (second_part m c t), first_dgm (first_part m c t), add_assoc, add_assoc, ← add_assoc (∑ _, _)]
  rfl

theorem final_dgm : (dats m 0 c).arrAt 12 (cfgs 0).N = dgm m c := by
  refine (dats m 0 c).arrAt_eq_of_after_last 12 t0_3 (by decide +kernel) _ fun j => ?_
  blk_simp
  rw [after0_12, Pipeline.eq_sum_fin_of_reset_step_apply_last (fun n h => (outsAt0 m c n h).2.2.2) 4 (fun _ => 0) _
    (fun t h j => by rw [outsAt0_A m c t h]; frame_out; refine (point_dgm m c t _ j).trans ?_; rw [zero_dgm])
    (fun t h j => by rw [outsAt0_B m c t h]; frame_out; exact point_dgm m c t _ j) (le_of_eq N_0) t0_3 rfl j, zero_add]
  exact sum_points m c (fun R => (W m c).dgm R (j 1)) (Step.FfnIn.dgm_zero _ _)

end Cert.Kernel5Ideal.FfnIn
-- ==== Proof.FfnIn.lean ====
/- The feed-forward block's entry: the kernel's four arrays are the reference's. -/
module
public import proofs.«01_k».proof.Defs
public import proofs.«01_k».proof.Proof.FfnInKernel
public import proofs.«01_k».proof.Proof.FfnInReference

@[expose] public section
set_option maxRecDepth 16384
noncomputable section
namespace Cert.Proof
open Idealize.ShloMosaic Idealize.ShloMosaic.TcCoe Idealize.SL.Sem
open Cert.Step

/-- The reference's frame: its run keeps the arguments, and it declares no semaphore. -/
theorem ffnIn_reference : quiescent_Reference5Ideal := fun m g _ =>
  (θ_run Cert.Reference5Ideal.defs _ _).mono (fun r h => ⟨fun c => (h c).2.2.2.2, sem_eq_zero_of_no_sems (by decide) r.2⟩)
    (Cert.Reference5Ideal.Value.run m g)

/-- The call's four results are the derivatives of the residual, the second norm and the two projections. -/
theorem ffnIn_value : algebraic_Kernel5Ideal_Reference5Ideal := by
  intro m g m' g' _ hagree
  refine ⟨fun c => Cert.Kernel5Ideal.FfnIn.dh m c, fun c => Cert.Kernel5Ideal.FfnIn.dmix m c, fun c => Cert.Kernel5Ideal.FfnIn.dgf m c,
    fun c => Cert.Kernel5Ideal.FfnIn.dgm m c, (θ_run _ _ _).mono (fun r h c => ?_) (Cert.Kernel5Ideal.Value.run_blocks m g),
    (θ_run _ _ _).mono (fun r h c => ?_) (Cert.Reference5Ideal.Value.run m' g')⟩
  · obtain ⟨h0, h1, h2, h3, h⟩ := h c
    exact ⟨h0.trans (Cert.Kernel5Ideal.FfnIn.final_dh m c), h1.trans (Cert.Kernel5Ideal.FfnIn.final_dmix m c),
      h2.trans (Cert.Kernel5Ideal.FfnIn.final_dgf m c), h3.trans (Cert.Kernel5Ideal.FfnIn.final_dgm m c), h⟩
  · obtain ⟨h0, h1, h2, h3, h⟩ := h c
    obtain ⟨a0, a1, a2, a3, a4, a5, a6, a7, a8, a9⟩ := hagree c
    have hone (j : (⟨2, ![1, 1024]⟩ : Shape).Idx) : j = ix2 (0 : Fin 1) (j 1) := by
      rw [eq_ix2 j]; congr 1; exact Subsingleton.elim _ _
    unfold Cert.Kernel5Ideal.FfnIn.dh Cert.Kernel5Ideal.FfnIn.dmix Cert.Kernel5Ideal.FfnIn.dgf Cert.Kernel5Ideal.FfnIn.dgm
      Cert.Kernel5Ideal.FfnIn.row Cert.Kernel5Ideal.FfnIn.rows Cert.Kernel5Ideal.FfnIn.W
    beta_reduce
    rw [← a0, ← a1, ← a2, ← a3, ← a4, ← a5, ← a6, ← a7, ← a8, ← a9]
    refine ⟨h0.trans (funext fun j => ?_), h1.trans (funext fun j => ?_), h2.trans (funext fun j => ?_), h3.trans (funext fun j => ?_), h⟩
    · rw [Cert.Reference5Ideal.Read.val_main_v89_eq]
      exact (congrArg _ (eq_ix2 j)).trans (Cert.Reference5Ideal.FfnIn.out_dh _ _ _ _ _ _ _ _ _ _ (j 1) (j 0))
    · rw [Cert.Reference5Ideal.Read.val_main_v94_eq]
      exact (congrArg _ (eq_ix2 j)).trans (Cert.Reference5Ideal.FfnIn.out_dmix _ _ _ _ _ _ _ _ _ _ (j 1) (j 0))
    · rw [Cert.Reference5Ideal.Read.val_main_v62_eq]
      exact (congrArg _ (hone j)).trans (Cert.Reference5Ideal.FfnIn.out_dgf _ _ _ _ _ _ _ _ _ _ (j 1))
    · rw [Cert.Reference5Ideal.Read.val_main_v85_eq]
      exact (congrArg _ (hone j)).trans (Cert.Reference5Ideal.FfnIn.out_dgm _ _ _ _ _ _ _ _ _ _ (j 1))

end Cert.Proof
-- ==== Proof.MixInReference.lean ====
/- The first norm of the layer and the input projection: what their derivative is, row by row, and that the reference
   computes it. -/
module
public import proofs.«01_k».proof.Proof.Gen.Reference6Ideal.Read
public import proofs.«01_k».proof.Proof.RmsData

@[expose] public section
set_option maxRecDepth 16384
noncomputable section
namespace Cert.Step
open Idealize.ShloMosaic

/-- The projection and the norm's gain. -/
structure MixIn where
  w : Fin 1024 → Fin 2560 → EReal
  g : Fin 1024 → EReal

/-- One row's values: the layer's input, and the cotangents that reach it and the projection. -/
structure MixInRow where
  h : Fin 1024 → EReal
  ct : Fin 1024 → EReal
  p : Fin 2560 → EReal

instance : Zero MixInRow := ⟨⟨0, 0, 0⟩⟩

namespace MixIn
variable (W : MixIn) (R : MixInRow) (d : Fin 1024)

/-- The cotangent of the normalised input. -/
def dxn : EReal := ∑ e, R.p e * W.w d e
/-- The cotangent of the input. -/
def dh : EReal := R.ct d + rmsBack R.h (fun i => W.dxn R i * W.g i) d
/-- What the row adds to the gain's gradient. -/
def dg : EReal := W.dxn R d * unit R.h d

theorem dxn_zero : W.dxn 0 d = 0 := by
  show ∑ e, (0 : EReal) * _ = 0
  simp
theorem dg_zero : W.dg 0 d = 0 := by rw [dg, dxn_zero, zero_mul]

/-- The weights, from the arguments. -/
def weights (g : Vec Ideal ⟨2, ![1, 1024]⟩ .f32) (w : Vec Ideal ⟨2, ![1024, 2560]⟩ .f32) : MixIn where
  w d e := w (ix2 d e)
  g d := g (ix2 0 d)

/-- A row, from the arguments. -/
def row (x : Vec Ideal ⟨2, ![2048, 1024]⟩ .f32) (mt : Vec Ideal ⟨2, ![16, 1024]⟩ .f32) (ct : Vec Ideal ⟨2, ![2064, 1024]⟩ .f32)
    (p : Vec Ideal ⟨2, ![2064, 2560]⟩ .f32) (r : Fin 2064) : MixInRow where
  h := joined x mt r
  ct d := ct (ix2 r d)
  p e := p (ix2 r e)

end MixIn
end Cert.Step

namespace Cert.Reference6Ideal.MixIn
open Idealize.ShloMosaic Idealize.ShloMosaic.TcCoe Cert.Step
open Cert.Reference6Ideal Cert.Reference6Ideal.Read Cert.Reference6Ideal.Gen

variable (x0 : Vec Ideal S2048x1024 .f32) (x1 : Vec Ideal S16x1024 .f32) (x2 : Vec Ideal S1x1024 .f32) (x3 : Vec Ideal S1024x2560 .f32)
  (x4 : Vec Ideal S2064x1024 .f32) (x5 : Vec Ideal S2064x2560 .f32) (r : Fin 2064) (j : Fin 1024)

/-- The data that the reference's arguments hold. -/
abbrev W : Step.MixIn := .weights x2 x3
abbrev R : MixInRow := MixIn.row x0 x1 x4 x5 r

theorem at_h : val_main_v0 (F := Ideal) x0 x1 (ix2 r j) = (R x0 x1 x4 x5 r).h j := by
  pointwise [val_main_v0]
  rfl

theorem at_square : val_main_v8 (F := Ideal) x0 x1 (ix2 r (0 : Fin 1)) = square (R x0 x1 x4 x5 r).h := by
  pointwise [val_main_v8, val_main_v7, val_main_v6, val_main_v5, val_main_v4, val_main_v3, val_main_v2, val_main_cst, val_main_cst_0, val_main_cst_1]
  simp only [at_h x0 x1 x4 x5]
  rw [word_1024, word_rmsEps]; rfl

theorem at_rms : val_main_v9 (F := Ideal) x0 x1 (ix2 r (0 : Fin 1)) = rms (R x0 x1 x4 x5 r).h := by
  pointwise [val_main_v9]
  rw [at_square x0 x1 x4 x5]; rfl

theorem at_unit : val_main_v14 (F := Ideal) x0 x1 (ix2 r j) = unit (R x0 x1 x4 x5 r).h j := by
  pointwise [val_main_v14, val_main_v13]
  rw [at_rms x0 x1 x4 x5, at_h x0 x1 x4 x5]; rfl

theorem at_dxn : val_main_v19 (F := Ideal) x3 x5 (ix2 r j) = (W x2 x3).dxn (R x0 x1 x4 x5 r) j := by
  pointwise [val_main_v19]
  rfl

theorem at_dn : val_main_v24 (F := Ideal) x2 x3 x5 (ix2 r j) = (W x2 x3).dxn (R x0 x1 x4 x5 r) j * (W x2 x3).g j := by
  pointwise [val_main_v24, val_main_v23, val_main_v15, val_main_v1]
  rw [at_dxn x0 x1 x2 x3 x4 x5]; rfl

theorem at_chain : val_main_v36 (F := Ideal) x0 x1 x2 x3 x5 (ix2 r j)
    = chain (R x0 x1 x4 x5 r).h (fun i => (W x2 x3).dxn (R x0 x1 x4 x5 r) i * (W x2 x3).g i) := by
  pointwise [val_main_v36, val_main_v35, val_main_v34, val_main_v33, val_main_v32, val_main_v28, val_main_v27, val_main_v26,
    val_main_v12, val_main_v11, val_main_v10, val_main_cst_2, val_main_cst_5, val_main_cst_6, val_main_cst_7]
  simp only [at_h x0 x1 x4 x5, at_dn x0 x1 x2 x3 x4 x5, at_rms x0 x1 x4 x5, at_square x0 x1 x4 x5,
    word_1024, word_neg_half, Fintype.sum_unique, Fin.default_eq_zero]
  rfl

theorem at_dh : val_main_v40 (F := Ideal) x0 x1 x2 x3 x4 x5 (ix2 r j) = (W x2 x3).dh (R x0 x1 x4 x5 r) j := by
  pointwise [val_main_v40, val_main_v39, val_main_v38, val_main_v37, val_main_v31, val_main_v30, val_main_v29]
  rw [at_chain x0 x1 x2 x3 x4 x5, at_h x0 x1 x4 x5, at_dn x0 x1 x2 x3 x4 x5, at_rms x0 x1 x4 x5]
  exact rmsBack_chain (R x0 x1 x4 x5 r).h (fun i => (W x2 x3).dxn (R x0 x1 x4 x5 r) i * (W x2 x3).g i) (x4 (ix2 r j)) j

theorem out_dx (q : Fin 2048) : val_main_v43 (F := Ideal) x0 x1 x2 x3 x4 x5 (ix2 q j)
    = (W x2 x3).dh (R x0 x1 x4 x5 ⟨16 + q.val, by omega⟩) j := by
  pointwise [val_main_v43]
  exact at_dh x0 x1 x2 x3 x4 x5 _ j

theorem out_dmeta (q : Fin 16) : val_main_v42 (F := Ideal) x0 x1 x2 x3 x4 x5 (ix2 q j)
    = (W x2 x3).dh (R x0 x1 x4 x5 ⟨q.val, by omega⟩) j := by
  pointwise [val_main_v42]
  exact at_dh x0 x1 x2 x3 x4 x5 _ j

theorem out_dg : val_main_v41 (F := Ideal) x0 x1 x3 x5 (ix2 (0 : Fin 1) j) = ∑ r, (W x2 x3).dg (R x0 x1 x4 x5 r) j := by
  pointwise [val_main_v41, val_main_v25, val_main_v22, val_main_v21, val_main_v20, val_main_cst_3, val_main_cst_4]
  simp only [at_unit x0 x1 x4 x5, at_dxn x0 x1 x2 x3 x4 x5, Fintype.sum_unique, Fin.default_eq_zero]
  exact Finset.sum_congr rfl fun r _ => mul_comm _ _

end Cert.Reference6Ideal.MixIn
-- ==== Proof.MixInKernel.lean ====
/- The first norm and the input projection in the kernel: what its blocks and its copy of the weights hold, what one half
   of a block computes, and the three output arrays after the run. -/
module
public import proofs.«01_k».proof.Proof.Gen.Kernel6Ideal.Value
public import proofs.«01_k».proof.Proof.MixInReference
public import Idealize.ShloMosaic.Lib.Pipeline.ValueKit
public import Idealize.ShloMosaic.Lib.Pipeline.ReadBack
public import Idealize.ShloMosaic.Lib.Claim

@[expose] public section
set_option maxRecDepth 16384
noncomputable section
namespace Cert.Kernel6Ideal.MixIn
open Idealize.ShloMosaic Idealize.ShloMosaic.TcCoe Idealize.SL.Sem
open Idealize.ShloMosaic.Pipeline (Dat)
open Cert.Step Cert.Kernel6Ideal Cert.Kernel6Ideal.Gen

variable (m : (ℓ : Loc nD τ sig) → Buf (Elt Ideal) ℓ) (c : Dev nD)

/-- Rows in the padded order, as the host lays them out: 1024 wide, and one of the five column ranges of the projection. -/
def rows1024 (x : Vec Ideal S2048x1024 .f32) (mt : Vec Ideal S16x1024 .f32) : Vec Ideal S2176x1024 .f32 :=
  concatenate S2176x1024 0 [⟨S2048x1024, x⟩, ⟨S16x1024, mt⟩,
    ⟨S112x1024, broadcastInDim S112x1024 ![] bcast_S_S112x1024 (constant (F := Ideal) S_ .f32 0#32)⟩] concatenates_S2048x1024_S16x1024_S112x1024_S2176x1024_d0
def slab (o : ℕ) (h : S2064x2560.Slices ![0, o] S2064x512) (x : Vec Ideal S2064x2560 .f32) : Vec Ideal S1x2176x512 .f32 :=
  broadcastInDim S1x2176x512 ![1, 2] bcast_S2176x512_S1x2176x512_1_2 (concatenate S2176x512 0
    [⟨S2048x512, extractStridedSlice S2048x512 ![16, 0] (extractStridedSlice S2064x512 ![0, o] x h) slices_S2064x512_S2048x512_16_0⟩,
      ⟨S16x512, extractStridedSlice S16x512 ![0, 0] (extractStridedSlice S2064x512 ![0, o] x h) slices_S2064x512_S16x512_0_0⟩,
      ⟨S112x512, broadcastInDim S112x512 ![] bcast_S_S112x512 (constant (F := Ideal) S_ .f32 0#32)⟩] concatenates_S2048x512_S16x512_S112x512_S2176x512_d0)
def slabs (x : Vec Ideal S2064x2560 .f32) : Vec Ideal S5x2176x512 .bf16 :=
  truncf (F := Ideal) .bf16 (concatenate S5x2176x512 0 [⟨S1x2176x512, slab 0 slices_S2064x2560_S2064x512_0_0 x⟩,
    ⟨S1x2176x512, slab 512 slices_S2064x2560_S2064x512_0_512 x⟩, ⟨S1x2176x512, slab 1024 slices_S2064x2560_S2064x512_0_1024 x⟩,
    ⟨S1x2176x512, slab 1536 slices_S2064x2560_S2064x512_0_1536 x⟩, ⟨S1x2176x512, slab 2048 slices_S2064x2560_S2064x512_0_2048 x⟩]
    concatenates_S1x2176x512_S1x2176x512_S1x2176x512_S1x2176x512_S1x2176x512_S5x2176x512_d0) bitsLt_bf16_f32

theorem entry_p : V m c main_v33 = slabs (m ((c : Thread nD τ).loc main_arg5)) := by
  unfold V slabs slab; after_results; rfl
theorem entry_h : V m c main_v1 = rows1024 (m ((c : Thread nD τ).loc main_arg0)) (m ((c : Thread nD τ).loc main_arg1)) := by
  unfold V rows1024; after_results; rfl
theorem entry_ct : V m c main_v40 = rows1024 (extractStridedSlice S2048x1024 ![16, 0] (m ((c : Thread nD τ).loc main_arg4)) slices_S2064x1024_S2048x1024_16_0)
    (extractStridedSlice S16x1024 ![0, 0] (m ((c : Thread nD τ).loc main_arg4)) slices_S2064x1024_S16x1024_0_0) := by
  unfold V rows1024; after_results; rfl

theorem slab_at (o : ℕ) (h) (x : Vec Ideal S2064x2560 .f32) (ho : o + 512 ≤ 2560) (P : Fin 2176) (e : Fin 512) :
    slab o h x (ix3 (0 : Fin 1) P e) = padRow (fun r : Fin 2064 => x (ix2 r (⟨o + e.val, by omega⟩ : Fin 2560))) P.val := by
  pointwise [slab]
  rfl
theorem slabs_at (x : Vec Ideal S2064x2560 .f32) (k : Fin 5) (P : Fin 2176) (e : Fin 512) :
    slabs x (ix3 k P e) = padRow (fun r : Fin 2064 => x (ix2 r (⟨512 * k.val + e.val, by omega⟩ : Fin 2560))) P.val := by
  fin_cases k <;> pointwise [slabs]
  · refine (slab_at 0 _ x (by norm_num) P e).trans ?_
    simp only [zero_add]
  · exact slab_at 512 _ x (by norm_num) P e
  · exact slab_at 1024 _ x (by norm_num) P e
  · exact slab_at 1536 _ x (by norm_num) P e
  · exact slab_at 2048 _ x (by norm_num) P e

/-- The call's data, from the arrays of one device. -/
def W : Step.MixIn := .weights (m ((c : Thread nD τ).loc main_arg2)) (m ((c : Thread nD τ).loc main_arg3))
def rows : Fin 2064 → MixInRow := Step.MixIn.row (m ((c : Thread nD τ).loc main_arg0)) (m ((c : Thread nD τ).loc main_arg1))
  (m ((c : Thread nD τ).loc main_arg4)) (m ((c : Thread nD τ).loc main_arg5))
def row (P : ℕ) : MixInRow := padRow (rows m c) P

theorem idx : ∀ t : Fin cfg0.N, win0_0.index t = ![0, t.val, 0] ∧ win0_1.index t = ![0, 0, 0] ∧ win0_2.index t = ![t.val, 0]
    ∧ win0_3.index t = ![t.val, 0] ∧ win0_4.index t = ![0, 0] ∧ win0_5.index t = ![t.val, 0] ∧ win0_6.index t = ![0, 0]
    ∧ win0_7.index t = ![0, 0] := (by decide +kernel : ∀ t : Fin grid0.N, _)

variable (t : Fin cfg0.N)

theorem blk_p (k : Fin 5) (p : Fin 544) (e : Fin 512) :
    iblk m c 0 t (ix3 k p e) = (row m c (544 * t.val + p.val)).p ⟨512 * k.val + e.val, by omega⟩ := by
  have ht : t.val < 4 := lt_of_lt_of_eq t.isLt N_0
  have e' : iblk m c 0 t (ix3 k p e) = slabs (m ((c : Thread nD τ).loc main_arg5)) (ix3 k ⟨544 * t.val + p.val, by omega⟩ e) := by
    rw [← entry_p]
    blk_ext [iblk, idx t]
  rw [e', slabs_at]
  exact (padRow_map (rows m c) _ (fun R : MixInRow => R.p ⟨512 * k.val + e.val, by omega⟩) rfl).symm
theorem blk_h (p : Fin 544) (d : Fin 1024) : iblk m c 2 t (ix2 p d) = (row m c (544 * t.val + p.val)).h d := by
  have ht : t.val < 4 := lt_of_lt_of_eq t.isLt N_0
  have e : iblk m c 2 t (ix2 p d) = rows1024 (m ((c : Thread nD τ).loc main_arg0)) (m ((c : Thread nD τ).loc main_arg1)) (ix2 ⟨544 * t.val + p.val, by omega⟩ d) := by
    rw [← entry_h]
    blk_ext [iblk, idx t]
  rw [e]
  refine Eq.trans ?_ (padRow_map (rows m c) _ (fun R : MixInRow => R.h d) rfl).symm
  pointwise [rows1024]
  unfold padRow
  simp only [rows, Step.MixIn.row, joined]
  split_ifs <;> try first | omega | rfl
  rw [dif_neg (by omega)]
  simp only [Nat.add_sub_cancel_left]
theorem blk_ct (p : Fin 544) (d : Fin 1024) : iblk m c 3 t (ix2 p d) = (row m c (544 * t.val + p.val)).ct d := by
  have ht : t.val < 4 := lt_of_lt_of_eq t.isLt N_0
  have e : iblk m c 3 t (ix2 p d) = V m c main_v40 (ix2 ⟨544 * t.val + p.val, by omega⟩ d) := by
    blk_ext [iblk, idx t]
  rw [e, entry_ct]
  pointwise [rows1024]
  exact (padRow_map (rows m c) _ (fun R : MixInRow => R.ct d) rfl).symm
theorem blk_w (s : Fin 4) (d : Fin 1024) (l : Fin 640) : iblk m c 1 t (ix3 s d l) = (W m c).w d ⟨640 * s.val + l.val, by omega⟩ := by
  blk_point [iblk, V, idx t]
theorem blk_g (d : Fin 1024) : iblk m c 4 t (ix2 0 d) = (W m c).g d := by
  blk_point [iblk, V, idx t]

/-! ## Half of a block -/

/-- What half of a block reads: 272 rows, the projection in five column ranges, and the gain. -/
structure Part (W : Step.MixIn) (R : Fin 272 → MixInRow) (a : Fin 5 → Vec Ideal S1x272x512 .bf16) (w : Fin 5 → Vec Ideal S1024x512 .bf16)
    (h ct : Vec Ideal S272x1024 .f32) (g : Vec Ideal S1x1024 .f32) : Prop where
  a : ∀ k p e, a k (ix3 0 p e) = (R p).p ⟨512 * k.val + e.val, by omega⟩
  w : ∀ k d e, w k (ix2 d e) = W.w d ⟨512 * k.val + e.val, by omega⟩
  h : ∀ p d, h (ix2 p d) = (R p).h d
  ct : ∀ p d, ct (ix2 p d) = (R p).ct d
  g : ∀ d, g (ix2 0 d) = W.g d

/-- A sum over the projection's columns, range by range. -/
theorem sum_ranges (f : Fin 2560 → EReal) : (∑ e : Fin 512, f ⟨512 * (0 : Fin 5).val + e.val, by simp; omega⟩)
    + (∑ e : Fin 512, f ⟨512 * (1 : Fin 5).val + e.val, by simp; omega⟩) + (∑ e : Fin 512, f ⟨512 * (2 : Fin 5).val + e.val, by simp; omega⟩)
    + (∑ e : Fin 512, f ⟨512 * (3 : Fin 5).val + e.val, by simp; omega⟩) + (∑ e : Fin 512, f ⟨512 * (4 : Fin 5).val + e.val, by simp; omega⟩) = ∑ e, f e := by
  have h := sum_blocks 5 512 fun n => if h : n < 2560 then f ⟨n, h⟩ else 0
  have q : ∀ k : Fin 5, (∑ e : Fin 512, f ⟨512 * k.val + e.val, by omega⟩) = ∑ e : Fin 512, (if h : 512 * k.val + e.val < 2560 then f ⟨512 * k.val + e.val, h⟩ else 0) :=
    fun k => Finset.sum_congr rfl fun e _ => by rw [dif_pos]
  rw [Fin.sum_univ_five] at h
  refine Eq.trans ?_ (h.trans (Finset.sum_congr rfl fun e _ => dif_pos e.isLt))
  rw [q 0, q 1, q 2, q 3, q 4]

section
variable {W : Step.MixIn} {R : Fin 272 → MixInRow} {a : Fin 5 → Vec Ideal S1x272x512 .bf16} {w : Fin 5 → Vec Ideal S1024x512 .bf16}
  {h ct : Vec Ideal S272x1024 .f32} {g : Vec Ideal S1x1024 .f32} (A : Part W R a w h ct g) (p : Fin 272) (d : Fin 1024) (v : Vec Ideal S1x1024 .f32)
include A

theorem first_dxn : k0_pay8 (F := Ideal) (k0_pay7 (a 0) (w 0) (a 1) (w 1) (a 2) (w 2) (a 3) (w 3)) (a 4) (w 4) (ix2 p d) = W.dxn (R p) d := by
  pointwise [k0_pay8, k0_pay7]
  simp only [A.a, A.w]
  exact sum_ranges fun e => (R p).p e * W.w d e
theorem first_rms : k0_pay10 (F := Ideal) h (ix2 p (0 : Fin 1)) = rms (R p).h := by
  pointwise [k0_pay10, k0_pay9]
  simp only [A.h, word_1024, word_rmsEps]; rfl
theorem first_unit : k0_pay11 (F := Ideal) h (ix2 p d) = unit (R p).h d := by
  pointwise [k0_pay11, k0_pay9]
  rw [first_rms A, A.h]; rfl
theorem first_dh : k0_pay12 (F := Ideal) (k0_pay7 (a 0) (w 0) (a 1) (w 1) (a 2) (w 2) (a 3) (w 3)) (a 4) (w 4) h g ct (ix2 p d) = W.dh (R p) d := by
  pointwise [k0_pay12]
  simp only [first_dxn A, first_rms A, first_unit A, A.ct, A.g, word_1024]; rfl
theorem first_dg : k0_pay13 (F := Ideal) (k0_pay7 (a 0) (w 0) (a 1) (w 1) (a 2) (w 2) (a 3) (w 3)) (a 4) (w 4) h v (ix2 (0 : Fin 1) d)
    = v (ix2 0 d) + ∑ p, W.dg (R p) d := by
  pointwise [k0_pay13]
  simp only [first_dxn A, first_unit A]; rfl

theorem second_dxn : k0_pay14 (F := Ideal) (a 0) (w 0) (a 1) (w 1) (a 2) (w 2) (a 3) (w 3) (a 4) (w 4) (ix2 p d) = W.dxn (R p) d := by
  pointwise [k0_pay14]
  simp only [A.a, A.w]
  exact sum_ranges fun e => (R p).p e * W.w d e
theorem second_rms : k0_pay16 (F := Ideal) h (ix2 p (0 : Fin 1)) = rms (R p).h := by
  pointwise [k0_pay16, k0_pay15]
  simp only [A.h, word_1024, word_rmsEps]; rfl
theorem second_unit : k0_pay17 (F := Ideal) h (ix2 p d) = unit (R p).h d := by
  pointwise [k0_pay17, k0_pay15]
  rw [second_rms A, A.h]; rfl
theorem second_dh : k0_pay18 (F := Ideal) (k0_pay14 (a 0) (w 0) (a 1) (w 1) (a 2) (w 2) (a 3) (w 3) (a 4) (w 4)) h g ct (ix2 p d) = W.dh (R p) d := by
  pointwise [k0_pay18]
  simp only [second_dxn A, second_rms A, second_unit A, A.ct, A.g, word_1024]; rfl
theorem second_dg : k0_pay19 (F := Ideal) (k0_pay14 (a 0) (w 0) (a 1) (w 1) (a 2) (w 2) (a 3) (w 3) (a 4) (w 4)) h v (ix2 (0 : Fin 1) d)
    = v (ix2 0 d) + ∑ p, W.dg (R p) d := by
  pointwise [k0_pay19]
  simp only [second_dxn A, second_unit A]; rfl
end

/-! ## The copy of the weights -/

/-- The projection's columns side by side. -/
def cat : Vec Ideal S1024x2560 .bf16 := fun i => (W m c).w (i 0) (i 1)

theorem shard (s : Fin 4) (h) (f : Vec Ideal S1024x640 .bf16)
    (hf : ∀ d l, f (ix2 d l) = View.ld (iblk m c 1 t) (Rect.unit (s := S4x1024x640) ![s.val, 0, 0] ![1, 1024, 640] h) (ix3 0 d l)) (u : S1024x640.Idx) (y : S1024x2560.Idx) (h0 : (y 0).val = (u 0).val) (h1 : (y 1).val = 640 * s.val + (u 1).val) :
    f u = cat m c y := by
  have hb (d l) : View.ld (iblk m c 1 t) (Rect.unit (s := S4x1024x640) ![s.val, 0, 0] ![1, 1024, 640] h) (ix3 0 d l) = iblk m c 1 t (ix3 s d l) := by pointwise []
  refine (congrArg f (eq_ix2 u)).trans ((hf _ _).trans ((hb _ _).trans ((blk_w m c t s _ _).trans ?_)))
  unfold cat
  exact congrArg₂ (W m c).w (Fin.ext h0.symm) (Fin.ext h1.symm)

/-- The four shards, as they are copied. -/
abbrev shards : List (View.Piece (Elt Ideal) S1024x2560 .bf16) :=
  [⟨Rect.unit ![0, 1920] ![1024, 640] inb_S1024x2560_S1024x640_0_1920, k0_pay5 (View.ld (iblk m c 1 t) (Rect.unit ![3, 0, 0] ![1, 1024, 640] inb_S4x1024x640_S1x1024x640_3_0_0))⟩,
    ⟨Rect.unit ![0, 1280] ![1024, 640] inb_S1024x2560_S1024x640_0_1280, k0_pay4 (View.ld (iblk m c 1 t) (Rect.unit ![2, 0, 0] ![1, 1024, 640] inb_S4x1024x640_S1x1024x640_2_0_0))⟩,
    ⟨Rect.unit ![0, 640] ![1024, 640] inb_S1024x2560_S1024x640_0_640, k0_pay3 (View.ld (iblk m c 1 t) (Rect.unit ![1, 0, 0] ![1, 1024, 640] inb_S4x1024x640_S1x1024x640_1_0_0))⟩,
    ⟨Rect.unit ![0, 0] ![1024, 640] inb_S1024x2560_S1024x640_0_0, k0_pay2 (View.ld (iblk m c 1 t) (Rect.unit ![0, 0, 0] ![1, 1024, 640] inb_S4x1024x640_S1x1024x640_0_0_0))⟩]

theorem cover : ∀ y : S1024x2560.Idx, ∃ p ∈ shards m c t, y ∈ p.1.set := View.cover_of_tiledBy _ ![1024, 640] (by sl_kernel_rfl)

theorem canon_cat : View.canon (shards m c t) = cat m c := by
  funext y
  unfold shards
  canon_tiles y h using cover m c t y
  · exact shard m c t 3 inb_S4x1024x640_S1x1024x640_3_0_0 _ (fun d l => by pointwise [k0_pay5]) y _ (by omega) (by omega)
  · exact shard m c t 2 inb_S4x1024x640_S1x1024x640_2_0_0 _ (fun d l => by pointwise [k0_pay4]) y _ (by omega) (by omega)
  · exact shard m c t 1 inb_S4x1024x640_S1x1024x640_1_0_0 _ (fun d l => by pointwise [k0_pay3]) y _ (by omega) (by omega)
  · exact shard m c t 0 inb_S4x1024x640_S1x1024x640_0_0_0 _ (fun d l => by pointwise [k0_pay2]) y _ (by omega) (by omega)

/-- A reading of the fresh copy. -/
theorem load_shards (r : Rect S1024x2560) : (View.whole cc0_scratch0).readCov (shards m c t) r.toLoadRect = View.ld (cat m c) r := by
  rw [View.readCov_eq_canon_ld _ _ _ (cover m c t), canon_cat]

/-- The copy stays. -/
theorem scratch (n : ℕ) (h : n < cfg0.N) : (outsAt0 m c n h).2.2.2 = cat m c := by
  induction n with
  | zero =>
    rw [outsAt0_A m c ⟨0, h⟩ (Nat.zero_mod 4) (Nat.zero_mod 4) (by show ¬ 0 % 4 = 3; decide)]
    frame_out
    exact canon_cat m c ⟨0, h⟩
  | succ n ih =>
    have hn : n + 1 < 4 := lt_of_lt_of_eq h N_0
    by_cases h2 : (n + 1) % 4 = 3
    · rw [outsAt0_C m c ⟨n + 1, h⟩ (by show ¬ (n + 1) % 4 = 0; omega) (by show ¬ (n + 1) % 4 = 0; omega) h2]
      frame_out
      exact ih _
    · rw [outsAt0_B m c ⟨n + 1, h⟩ (by show ¬ (n + 1) % 4 = 0; omega) (by show ¬ (n + 1) % 4 = 0; omega) h2]
      frame_out
      exact ih _

/-! ## The two halves of a block -/

/-- What a half reads: the cotangents in five column ranges, the projection in the same ranges, and rows of the inputs. -/
abbrev columns : Fin 5 → Vec Ideal S1024x512 .bf16 := ![View.ld (cat m c) (Rect.unit ![0, 0] ![1024, 512] inb_S1024x2560_S1024x512_0_0), View.ld (cat m c) (Rect.unit ![0, 512] ![1024, 512] inb_S1024x2560_S1024x512_0_512), View.ld (cat m c) (Rect.unit ![0, 1024] ![1024, 512] inb_S1024x2560_S1024x512_0_1024), View.ld (cat m c) (Rect.unit ![0, 1536] ![1024, 512] inb_S1024x2560_S1024x512_0_1536), View.ld (cat m c) (Rect.unit ![0, 2048] ![1024, 512] inb_S1024x2560_S1024x512_0_2048)]
abbrev firstA : Fin 5 → Vec Ideal S1x272x512 .bf16 := ![View.ld (iblk m c 0 t) (Rect.unit ![0, 0, 0] ![1, 272, 512] inb_S5x544x512_S1x272x512_0_0_0), View.ld (iblk m c 0 t) (Rect.unit ![1, 0, 0] ![1, 272, 512] inb_S5x544x512_S1x272x512_1_0_0), View.ld (iblk m c 0 t) (Rect.unit ![2, 0, 0] ![1, 272, 512] inb_S5x544x512_S1x272x512_2_0_0), View.ld (iblk m c 0 t) (Rect.unit ![3, 0, 0] ![1, 272, 512] inb_S5x544x512_S1x272x512_3_0_0), View.ld (iblk m c 0 t) (Rect.unit ![4, 0, 0] ![1, 272, 512] inb_S5x544x512_S1x272x512_4_0_0)]
abbrev secondA : Fin 5 → Vec Ideal S1x272x512 .bf16 := ![View.ld (iblk m c 0 t) (Rect.unit ![0, 272, 0] ![1, 272, 512] inb_S5x544x512_S1x272x512_0_272_0), View.ld (iblk m c 0 t) (Rect.unit ![1, 272, 0] ![1, 272, 512] inb_S5x544x512_S1x272x512_1_272_0), View.ld (iblk m c 0 t) (Rect.unit ![2, 272, 0] ![1, 272, 512] inb_S5x544x512_S1x272x512_2_272_0), View.ld (iblk m c 0 t) (Rect.unit ![3, 272, 0] ![1, 272, 512] inb_S5x544x512_S1x272x512_3_272_0), View.ld (iblk m c 0 t) (Rect.unit ![4, 272, 0] ![1, 272, 512] inb_S5x544x512_S1x272x512_4_272_0)]
abbrev half (q : ℕ) (h : ∀ a, (![q, 0] : Fin 2 → ℕ) a + (![272, 1024] : Fin 2 → ℕ) a ≤ S544x1024.size a) (b : Vec Ideal S544x1024 .f32) : Vec Ideal S272x1024 .f32 :=
  View.ld b (Rect.unit ![q, 0] ![272, 1024] h)

theorem columns_at (k : Fin 5) (d : Fin 1024) (e : Fin 512) : columns m c k (ix2 d e) = (W m c).w d ⟨512 * k.val + e.val, by omega⟩ := by
  have h : columns m c k (ix2 d e) = cat m c (ix2 d ⟨512 * k.val + e.val, by omega⟩) := by
    fin_cases k <;> pointwise [columns] <;> simp
  exact h

theorem part (q : ℕ) (hq : q + 272 ≤ 544) (a : Fin 5 → Vec Ideal S1x272x512 .bf16) (ha : ∀ k p e, a k (ix3 0 p e) = iblk m c 0 t (ix3 k ⟨q + p.val, by omega⟩ e)) (h₂) :
    Part (W m c) (fun p : Fin 272 => row m c (544 * t.val + q + p.val)) a (columns m c)
    (half q h₂ (iblk m c 2 t)) (half q h₂ (iblk m c 3 t)) (iblk m c 4 t) where
  a k p e := by rw [ha, add_assoc]; exact blk_p m c t k _ e
  w := columns_at m c
  h p d := by
    have h : half q h₂ (iblk m c 2 t) (ix2 p d) = iblk m c 2 t (ix2 ⟨q + p.val, by omega⟩ d) := by pointwise [half]
    rw [h, add_assoc]; exact blk_h m c t _ d
  ct p d := by
    have h : half q h₂ (iblk m c 3 t) (ix2 p d) = iblk m c 3 t (ix2 ⟨q + p.val, by omega⟩ d) := by pointwise [half]
    rw [h, add_assoc]; exact blk_ct m c t _ d
  g := blk_g m c t

/-- Each half's columns, inputs and cotangents. -/
abbrev first (b : Vec Ideal S544x1024 .f32) : Vec Ideal S272x1024 .f32 := half 0 inb_S544x1024_S272x1024_0_0 b
abbrev second (b : Vec Ideal S544x1024 .f32) : Vec Ideal S272x1024 .f32 := half 272 inb_S544x1024_S272x1024_272_0 b
abbrev firstFour (w0 w1 w2 w3 : Vec Ideal S1024x512 .bf16) : FVec Ideal S272x1024 .f32 :=
  k0_pay7 (F := Ideal) (View.ld (iblk m c 0 t) (Rect.unit ![0, 0, 0] ![1, 272, 512] inb_S5x544x512_S1x272x512_0_0_0)) w0 (View.ld (iblk m c 0 t) (Rect.unit ![1, 0, 0] ![1, 272, 512] inb_S5x544x512_S1x272x512_1_0_0)) w1 (View.ld (iblk m c 0 t) (Rect.unit ![2, 0, 0] ![1, 272, 512] inb_S5x544x512_S1x272x512_2_0_0)) w2 (View.ld (iblk m c 0 t) (Rect.unit ![3, 0, 0] ![1, 272, 512] inb_S5x544x512_S1x272x512_3_0_0)) w3
abbrev secondAll (w0 w1 w2 w3 w4 : Vec Ideal S1024x512 .bf16) : FVec Ideal S272x1024 .f32 :=
  k0_pay14 (F := Ideal) (View.ld (iblk m c 0 t) (Rect.unit ![0, 272, 0] ![1, 272, 512] inb_S5x544x512_S1x272x512_0_272_0)) w0 (View.ld (iblk m c 0 t) (Rect.unit ![1, 272, 0] ![1, 272, 512] inb_S5x544x512_S1x272x512_1_272_0)) w1 (View.ld (iblk m c 0 t) (Rect.unit ![2, 272, 0] ![1, 272, 512] inb_S5x544x512_S1x272x512_2_272_0)) w2 (View.ld (iblk m c 0 t) (Rect.unit ![3, 272, 0] ![1, 272, 512] inb_S5x544x512_S1x272x512_3_272_0)) w3 (View.ld (iblk m c 0 t) (Rect.unit ![4, 272, 0] ![1, 272, 512] inb_S5x544x512_S1x272x512_4_272_0)) w4
abbrev firstDh (w0 w1 w2 w3 w4 : Vec Ideal S1024x512 .bf16) : FVec Ideal S272x1024 .f32 :=
  k0_pay12 (firstFour m c t w0 w1 w2 w3) (View.ld (iblk m c 0 t) (Rect.unit ![4, 0, 0] ![1, 272, 512] inb_S5x544x512_S1x272x512_4_0_0)) w4 (first (iblk m c 2 t)) (iblk m c 4 t) (first (iblk m c 3 t))
abbrev secondDh (w0 w1 w2 w3 w4 : Vec Ideal S1024x512 .bf16) : FVec Ideal S272x1024 .f32 :=
  k0_pay18 (secondAll m c t w0 w1 w2 w3 w4) (second (iblk m c 2 t)) (iblk m c 4 t) (second (iblk m c 3 t))
abbrev blockDg (v : Vec Ideal S1x1024 .f32) (w0 w1 w2 w3 w4 : Vec Ideal S1024x512 .bf16) : FVec Ideal S1x1024 .f32 :=
  k0_pay19 (secondAll m c t w0 w1 w2 w3 w4) (second (iblk m c 2 t)) (k0_pay13 (firstFour m c t w0 w1 w2 w3) (View.ld (iblk m c 0 t) (Rect.unit ![4, 0, 0] ![1, 272, 512] inb_S5x544x512_S1x272x512_4_0_0)) w4 (first (iblk m c 2 t)) v)

theorem first_part : Part (W m c) (fun p : Fin 272 => row m c (544 * t.val + 0 + p.val)) (firstA m c t) (columns m c)
    (first (iblk m c 2 t)) (first (iblk m c 3 t)) (iblk m c 4 t) := part m c t 0 (by norm_num) _ (by intro k p e; fin_cases k <;> pointwise [firstA] <;> simp) _
theorem second_part : Part (W m c) (fun p : Fin 272 => row m c (544 * t.val + 272 + p.val)) (secondA m c t) (columns m c)
    (second (iblk m c 2 t)) (second (iblk m c 3 t)) (iblk m c 4 t) := part m c t 272 (by norm_num) _ (by intro k p e; fin_cases k <;> pointwise [secondA] <;> simp) _

/-- Something of the five column ranges. -/
abbrev withColumns {α : Type} (f : Vec Ideal S1024x512 .bf16 → Vec Ideal S1024x512 .bf16 → Vec Ideal S1024x512 .bf16 → Vec Ideal S1024x512 .bf16 → Vec Ideal S1024x512 .bf16 → α) : α :=
  f (View.ld (cat m c) (Rect.unit (s := S1024x2560) ![0, 0] ![1024, 512] inb_S1024x2560_S1024x512_0_0)) (View.ld (cat m c) (Rect.unit (s := S1024x2560) ![0, 512] ![1024, 512] inb_S1024x2560_S1024x512_0_512)) (View.ld (cat m c) (Rect.unit (s := S1024x2560) ![0, 1024] ![1024, 512] inb_S1024x2560_S1024x512_0_1024)) (View.ld (cat m c) (Rect.unit (s := S1024x2560) ![0, 1536] ![1024, 512] inb_S1024x2560_S1024x512_0_1536)) (View.ld (cat m c) (Rect.unit (s := S1024x2560) ![0, 2048] ![1024, 512] inb_S1024x2560_S1024x512_0_2048))

theorem firstDh_at (p : Fin 272) (d : Fin 1024) : withColumns m c (firstDh m c t) (ix2 p d) = (W m c).dh (row m c (544 * t.val + 0 + p.val)) d := by
  have h := first_dh (first_part m c t) p d
  simp only [firstA, columns, Matrix.cons_val] at h
  exact h
theorem secondDh_at (p : Fin 272) (d : Fin 1024) : withColumns m c (secondDh m c t) (ix2 p d) = (W m c).dh (row m c (544 * t.val + 272 + p.val)) d := by
  have h := second_dh (second_part m c t) p d
  simp only [secondA, columns, Matrix.cons_val] at h
  exact h
theorem blockDg_at (v : Vec Ideal S1x1024 .f32) (d : Fin 1024) : withColumns m c (blockDg m c t v) (ix2 0 d)
    = v (ix2 0 d) + ((∑ p : Fin 272, (W m c).dg (row m c (544 * t.val + 0 + p.val)) d) + ∑ p : Fin 272, (W m c).dg (row m c (544 * t.val + 272 + p.val)) d) := by
  have h := second_dg (second_part m c t) d (k0_pay13 (k0_pay7 (firstA m c t 0) (columns m c 0) (firstA m c t 1) (columns m c 1) (firstA m c t 2) (columns m c 2) (firstA m c t 3) (columns m c 3)) (firstA m c t 4) (columns m c 4) (first (iblk m c 2 t)) v)
  rw [first_dg (first_part m c t), add_assoc] at h
  simp only [firstA, secondA, columns, Matrix.cons_val] at h
  exact h

/-- What follows of the ranges follows of a fresh copy's, and of a kept copy's. -/
theorem of_fresh {P : Vec Ideal S1024x512 .bf16 → Vec Ideal S1024x512 .bf16 → Vec Ideal S1024x512 .bf16 → Vec Ideal S1024x512 .bf16 → Vec Ideal S1024x512 .bf16 → Prop} (h : withColumns m c P) :
    P ((View.whole cc0_scratch0).readCov (shards m c t) (Rect.unit (s := S1024x2560) ![0, 0] ![1024, 512] inb_S1024x2560_S1024x512_0_0).toLoadRect) ((View.whole cc0_scratch0).readCov (shards m c t) (Rect.unit (s := S1024x2560) ![0, 512] ![1024, 512] inb_S1024x2560_S1024x512_0_512).toLoadRect) ((View.whole cc0_scratch0).readCov (shards m c t) (Rect.unit (s := S1024x2560) ![0, 1024] ![1024, 512] inb_S1024x2560_S1024x512_0_1024).toLoadRect) ((View.whole cc0_scratch0).readCov (shards m c t) (Rect.unit (s := S1024x2560) ![0, 1536] ![1024, 512] inb_S1024x2560_S1024x512_0_1536).toLoadRect) ((View.whole cc0_scratch0).readCov (shards m c t) (Rect.unit (s := S1024x2560) ![0, 2048] ![1024, 512] inb_S1024x2560_S1024x512_0_2048).toLoadRect) := by
  rw [load_shards m c t (Rect.unit (s := S1024x2560) ![0, 0] ![1024, 512] inb_S1024x2560_S1024x512_0_0), load_shards m c t (Rect.unit (s := S1024x2560) ![0, 512] ![1024, 512] inb_S1024x2560_S1024x512_0_512), load_shards m c t (Rect.unit (s := S1024x2560) ![0, 1024] ![1024, 512] inb_S1024x2560_S1024x512_0_1024), load_shards m c t (Rect.unit (s := S1024x2560) ![0, 1536] ![1024, 512] inb_S1024x2560_S1024x512_0_1536), load_shards m c t (Rect.unit (s := S1024x2560) ![0, 2048] ![1024, 512] inb_S1024x2560_S1024x512_0_2048)]
  exact h
theorem of_kept (n : ℕ) (hn : n < cfg0.N) {P : Vec Ideal S1024x512 .bf16 → Vec Ideal S1024x512 .bf16 → Vec Ideal S1024x512 .bf16 → Vec Ideal S1024x512 .bf16 → Vec Ideal S1024x512 .bf16 → Prop} (h : withColumns m c P) :
    P (View.ld (View.read (Elt Ideal) (View.whole cc0_scratch0) ((Memref.isWhole_whole cc0_scratch0).unread (outsAt0 m c n hn).2.2.2)) (Rect.unit (s := S1024x2560) ![0, 0] ![1024, 512] inb_S1024x2560_S1024x512_0_0)) (View.ld (View.read (Elt Ideal) (View.whole cc0_scratch0) ((Memref.isWhole_whole cc0_scratch0).unread (outsAt0 m c n hn).2.2.2)) (Rect.unit (s := S1024x2560) ![0, 512] ![1024, 512] inb_S1024x2560_S1024x512_0_512)) (View.ld (View.read (Elt Ideal) (View.whole cc0_scratch0) ((Memref.isWhole_whole cc0_scratch0).unread (outsAt0 m c n hn).2.2.2)) (Rect.unit (s := S1024x2560) ![0, 1024] ![1024, 512] inb_S1024x2560_S1024x512_0_1024)) (View.ld (View.read (Elt Ideal) (View.whole cc0_scratch0) ((Memref.isWhole_whole cc0_scratch0).unread (outsAt0 m c n hn).2.2.2)) (Rect.unit (s := S1024x2560) ![0, 1536] ![1024, 512] inb_S1024x2560_S1024x512_0_1536)) (View.ld (View.read (Elt Ideal) (View.whole cc0_scratch0) ((Memref.isWhole_whole cc0_scratch0).unread (outsAt0 m c n hn).2.2.2)) (Rect.unit (s := S1024x2560) ![0, 2048] ![1024, 512] inb_S1024x2560_S1024x512_0_2048)) := by
  rw [read_unread_whole, scratch]
  exact h

/-! ## The arrays after the run -/

/-- The three results. -/
def dx : Vec Ideal S2048x1024 .f32 := fun i => (W m c).dh (row m c (i 0).val) (i 1)
def dmeta : Vec Ideal S16x1024 .f32 := fun i => (W m c).dh (row m c (2048 + (i 0).val)) (i 1)
def dg : Vec Ideal S1x1024 .f32 := fun i => ∑ r, (W m c).dg (rows m c r) (i 1)

theorem final_dx : (dats m 0 c).arrAt 5 (cfgs 0).N = dx m c := by
  refine (dats m 0 c).arrAt_eq_of_covers 5 _ (by decide +kernel) fun t hf y => ?_
  blk_simp
  rw [after0_5]
  have e (s : Vec Ideal S544x1024 .f32) (y' : S544x1024.Idx) (h0 : (y' 0).val = (y 0).val) (h1 : (y' 1).val = (y 1).val)
      (h : s = View.canon [⟨Rect.unit ![272, 0] ![272, 1024] inb_S544x1024_S272x1024_272_0, withColumns m c (secondDh m c t)⟩,
        ⟨Rect.unit ![0, 0] ![272, 1024] inb_S544x1024_S272x1024_0_0, withColumns m c (firstDh m c t)⟩]) : s y' = dx m c (((View.whole main_v42_0).slice (win0_5.rect t)).emb y) := by
    rw [h]
    canon_tiles y' h
    · refine lands (row m c) (W m c).dh _ (544 * t.val + 272) (secondDh_at m c t) _ _ ?_ ?_
      all_goals (blk_simp [idx t]; omega)
    · refine lands (row m c) (W m c).dh _ (544 * t.val + 0) (firstDh_at m c t) _ _ ?_ ?_
      all_goals (blk_simp [idx t]; omega)
  have f (s : Vec Ideal S544x1024 .f32) h := e s ((cfg0.win 5).xinj (cfg0.grid.coords t) y) rfl rfl h
  let T : Vec Ideal S1024x512 .bf16 → Vec Ideal S1024x512 .bf16 → Vec Ideal S1024x512 .bf16 → Vec Ideal S1024x512 .bf16 → Vec Ideal S1024x512 .bf16 → Vec Ideal S544x1024 .f32 :=
    fun w0 w1 w2 w3 w4 => View.canon [⟨Rect.unit ![272, 0] ![272, 1024] inb_S544x1024_S272x1024_272_0, secondDh m c t w0 w1 w2 w3 w4⟩,
        ⟨Rect.unit ![0, 0] ![272, 1024] inb_S544x1024_S272x1024_0_0, firstDh m c t w0 w1 w2 w3 w4⟩]
  by_cases h0 : t.val % 4 = 0
  · rw [outsAt0_A m c t h0 h0 (by omega)]
    refine f _ ?_
    frame_out
    exact of_fresh m c t (P := fun w0 w1 w2 w3 w4 => T w0 w1 w2 w3 w4 = withColumns m c T) rfl
  · by_cases h2 : t.val % 4 = 3
    · rw [outsAt0_C m c t h0 h0 h2]
      refine f _ ?_
      frame_out
      exact of_kept m c _ _ (P := fun w0 w1 w2 w3 w4 => T w0 w1 w2 w3 w4 = withColumns m c T) rfl
    · rw [outsAt0_B m c t h0 h0 h2]
      refine f _ ?_
      frame_out
      exact of_kept m c _ _ (P := fun w0 w1 w2 w3 w4 => T w0 w1 w2 w3 w4 = withColumns m c T) rfl

theorem dmeta_at (q : Fin 16) (d : Fin 1024) : k0_pay1 (withColumns m c (secondDh m c t0_3)) (ix2 q d) = (W m c).dh (row m c (2048 + q.val)) d := by
  have h : k0_pay1 (withColumns m c (secondDh m c t0_3)) (ix2 q d) = withColumns m c (secondDh m c t0_3) (ix2 ⟨144 + q.val, by omega⟩ d) := by pointwise [k0_pay1]
  rw [h, secondDh_at]
  congr 2
  show 544 * 3 + 272 + (144 + q.val) = _
  omega

theorem final_dmeta : (dats m 0 c).arrAt 6 (cfgs 0).N = dmeta m c := by
  refine (dats m 0 c).arrAt_eq_of_after_last 6 t0_3 (by decide +kernel) _ fun j => ?_
  blk_simp
  rw [after0_6, outsAt0_C m c t0_3 (by decide) (by decide) (by decide)]
  frame_out
  let T : Vec Ideal S1024x512 .bf16 → Vec Ideal S1024x512 .bf16 → Vec Ideal S1024x512 .bf16 → Vec Ideal S1024x512 .bf16 → Vec Ideal S1024x512 .bf16 → Vec Ideal S16x1024 .f32 :=
    fun w0 w1 w2 w3 w4 => k0_pay1 (secondDh m c t0_3 w0 w1 w2 w3 w4)
  refine (of_kept m c _ _ (P := fun w0 w1 w2 w3 w4 => T w0 w1 w2 w3 w4 j = withColumns m c T j) rfl).trans ?_
  exact (congrArg _ (eq_ix2 j)).trans (dmeta_at m c _ _)

theorem zero_dg (j : S1x1024.Idx) : k0_pay6 (F := Ideal) j = 0 := by pointwise [k0_pay6]

theorem point_dg (v : Vec Ideal S1x1024 .f32) (j : S1x1024.Idx) : withColumns m c (blockDg m c t v) j
    = v j + ((∑ p : Fin 272, (W m c).dg (row m c (544 * t.val + 0 + p.val)) (j 1)) + ∑ p : Fin 272, (W m c).dg (row m c (544 * t.val + 272 + p.val)) (j 1)) := by
  obtain ⟨i, rfl⟩ : ∃ i : Fin 1024, j = ix2 (0 : Fin 1) i := ⟨j 1, by rw [eq_ix2 j]; congr 1; exact Subsingleton.elim _ _⟩
  exact blockDg_at m c t v i

theorem final_dg : (dats m 0 c).arrAt 7 (cfgs 0).N = dg m c := by
  refine (dats m 0 c).arrAt_eq_of_after_last 7 t0_3 (by decide +kernel) _ fun j => ?_
  blk_simp
  rw [after0_7, Pipeline.eq_sum_fin_of_reset_step_apply_last (fun n h => (outsAt0 m c n h).2.2.1) 4 (fun _ => 0) _
    (fun t h j => by
      rw [outsAt0_A m c t h h (by omega)]; frame_out
      refine (of_fresh m c t (P := fun w0 w1 w2 w3 w4 => blockDg m c t (k0_pay6 (F := Ideal)) w0 w1 w2 w3 w4 j = withColumns m c (blockDg m c t (k0_pay6 (F := Ideal))) j) rfl).trans ?_
      refine (point_dg m c t _ j).trans ?_; rw [zero_dg])
    (fun t h j => by
      by_cases h2 : t.val % 4 = 3
      · rw [outsAt0_C m c t h h h2]; frame_out
        exact (of_kept m c _ _ (P := fun w0 w1 w2 w3 w4 => blockDg m c t _ w0 w1 w2 w3 w4 j = withColumns m c (blockDg m c t _) j) rfl).trans (point_dg m c t _ j)
      · rw [outsAt0_B m c t h h h2]; frame_out
        exact (of_kept m c _ _ (P := fun w0 w1 w2 w3 w4 => blockDg m c t _ w0 w1 w2 w3 w4 j = withColumns m c (blockDg m c t _) j) rfl).trans (point_dg m c t _ j))
    (le_of_eq N_0) t0_3 rfl j, zero_add]
  exact sum_padded (rows m c) (fun R => (W m c).dg R (j 1)) (Step.MixIn.dg_zero _ _)

end Cert.Kernel6Ideal.MixIn
-- ==== Proof.MixIn.lean ====
/- The mixing block's entry: the kernel's three arrays are the reference's. -/
module
public import proofs.«01_k».proof.Defs
public import proofs.«01_k».proof.Proof.MixInKernel
public import proofs.«01_k».proof.Proof.MixInReference

@[expose] public section
set_option maxRecDepth 16384
noncomputable section
namespace Cert.Proof
open Idealize.ShloMosaic Idealize.ShloMosaic.TcCoe Idealize.SL.Sem
open Cert.Step

/-- The reference's frame: its run keeps the arguments, and it declares no semaphore. -/
theorem mixIn_reference : quiescent_Reference6Ideal := fun m g _ =>
  (θ_run Cert.Reference6Ideal.defs _ _).mono (fun r h => ⟨fun c => (h c).2.2.2, sem_eq_zero_of_no_sems (by decide) r.2⟩)
    (Cert.Reference6Ideal.Value.run m g)

/-- The call's three results are the derivatives of the first norm and the input projection. -/
theorem mixIn_value : algebraic_Kernel6Ideal_Reference6Ideal := by
  intro m g m' g' _ hagree
  refine ⟨fun c => Cert.Kernel6Ideal.MixIn.dx m c, fun c => Cert.Kernel6Ideal.MixIn.dmeta m c, fun c => Cert.Kernel6Ideal.MixIn.dg m c,
    (θ_run _ _ _).mono (fun r h c => ?_) (Cert.Kernel6Ideal.Value.run_blocks m g),
    (θ_run _ _ _).mono (fun r h c => ?_) (Cert.Reference6Ideal.Value.run m' g')⟩
  · obtain ⟨h0, h1, h2, h⟩ := h c
    exact ⟨h0.trans (Cert.Kernel6Ideal.MixIn.final_dx m c), h1.trans (Cert.Kernel6Ideal.MixIn.final_dmeta m c),
      h2.trans (Cert.Kernel6Ideal.MixIn.final_dg m c), h⟩
  · obtain ⟨h0, h1, h2, h⟩ := h c
    obtain ⟨a0, a1, a2, a3, a4, a5⟩ := hagree c
    unfold Cert.Kernel6Ideal.MixIn.dx Cert.Kernel6Ideal.MixIn.dmeta Cert.Kernel6Ideal.MixIn.dg Cert.Kernel6Ideal.MixIn.row
      Cert.Kernel6Ideal.MixIn.rows Cert.Kernel6Ideal.MixIn.W
    beta_reduce
    rw [← a0, ← a1, ← a2, ← a3, ← a4, ← a5]
    refine ⟨h0.trans (funext fun j => ?_), h1.trans (funext fun j => ?_), h2.trans (funext fun j => ?_), h⟩
    · rw [Cert.Reference6Ideal.Read.val_main_v43_eq]
      refine (congrArg _ (eq_ix2 j)).trans ((Cert.Reference6Ideal.MixIn.out_dx _ _ _ _ _ _ (j 1) (j 0)).trans ?_)
      congr 1
      have hj : (j 0).val < 2048 := (j 0).isLt
      unfold padRow
      rw [dif_pos hj]
    · rw [Cert.Reference6Ideal.Read.val_main_v42_eq]
      refine (congrArg _ (eq_ix2 j)).trans ((Cert.Reference6Ideal.MixIn.out_dmeta _ _ _ _ _ _ (j 1) (j 0)).trans ?_)
      have hj : (j 0).val < 16 := (j 0).isLt
      congr 1
      unfold padRow
      rw [dif_neg (by omega), dif_pos (by omega)]
      congr 1
      exact Fin.ext (by simp)
    · have hone : j = ix2 (0 : Fin 1) (j 1) := by
        rw [eq_ix2 j]; congr 1; exact Subsingleton.elim _ _
      rw [Cert.Reference6Ideal.Read.val_main_v41_eq]
      exact (congrArg _ hone).trans (Cert.Reference6Ideal.MixIn.out_dg _ _ _ _ _ _ (j 1))

end Cert.Proof
-- ==== Proof.LossRun.lean ====
/- One run of the kernel of the loss and the feed-forward exit, with what it leaves in its outputs. -/
module

public import proofs.«01_k».proof.Proof.Gen.Kernel3Ideal.Frame
public import proofs.«01_k».proof.Proof.Gen.Kernel3Ideal.Skeleton
public import Idealize.ShloMosaic.Lib.WholeRead
public import Idealize.ShloMosaic.Lib.VecWindow
public import Idealize.ShloMosaic.Lib.Pipeline.Value
public import Idealize.ShloMosaic.Lib.Pipeline.ValueKit

@[expose] public section

set_option maxRecDepth 16384

noncomputable section

namespace Cert.Kernel3Ideal.Loss

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F]

local notation "𝕄" => MT nD τ sig Unit (Elt F) ℕ (UR sig nD τ) ℕ

/-! ## The two halves of a block -/

/-- The rows of a block from row `o`, 272 of them. -/
def half {n o : ℕ} {α : Type} (ho : o + 272 ≤ 544) (X : (⟨2, ![544, n]⟩ : Shape).Idx → α) : (⟨2, ![272, n]⟩ : Shape).Idx → α :=
  fun z => X (ix2 ⟨o + (z 0).val, by have h : (z 0).val < 272 := (z 0).isLt; omega⟩ (z 1))

/-- A block's upper half. -/
abbrev upper {n : ℕ} {α : Type} (X : (⟨2, ![544, n]⟩ : Shape).Idx → α) : (⟨2, ![272, n]⟩ : Shape).Idx → α :=
  half (o := 0) (by decide) X

/-- A block's lower half. -/
abbrev lower {n : ℕ} {α : Type} (X : (⟨2, ![544, n]⟩ : Shape).Idx → α) : (⟨2, ![272, n]⟩ : Shape).Idx → α :=
  half (o := 272) (by decide) X

/-- A block from its halves. -/
def stack {α : Type} (a b : S272x1024.Idx → α) : S544x1024.Idx → α := fun z =>
  if h : (z 0).val < 272 then a (ix2 ⟨(z 0).val, h⟩ (z 1))
  else b (ix2 ⟨(z 0).val - 272, by have h : (z 0).val < 544 := (z 0).isLt; omega⟩ (z 1))

theorem load_half {n o : ℕ} {e : EltTy} {arg : Memref sig .tc .vmem ⟨2, ![544, n]⟩ e} (harg : arg.IsWhole) (X : Vec F ⟨2, ![544, n]⟩ e)
    (ho : o + 272 ≤ 544) (h : ∀ a, (![o, 0] : Fin 2 → ℕ) a + (![272, n] : Fin 2 → ℕ) a ≤ (![544, n] : Fin 2 → ℕ) a) :
    View.readAt (Elt F) arg.view (Rect.unit (s := ⟨2, ![544, n]⟩) ![o, 0] ![272, n] h).toLoadRect (harg.unread X) = half ho X := by
  funext z
  rw [harg.readAt_unread]
  unfold half
  refine congrArg X (funext fun a => Fin.ext ?_)
  match a with
  | ⟨0, _⟩ => show o + 1 * (z 0).val = o + (z 0).val; omega
  | ⟨1, _⟩ => show 0 + 1 * (z 1).val = (z 1).val; omega

theorem load_all {a b : ℕ} {e : EltTy} {arg : Memref sig .tc .vmem ⟨2, ![a, b]⟩ e} (harg : arg.IsWhole) (X : Vec F ⟨2, ![a, b]⟩ e)
    (h : ∀ k, (![0, 0] : Fin 2 → ℕ) k + (![a, b] : Fin 2 → ℕ) k ≤ (![a, b] : Fin 2 → ℕ) k) :
    View.readAt (Elt F) arg.view (Rect.unit (s := ⟨2, ![a, b]⟩) ![0, 0] ![a, b] h).toLoadRect (harg.unread X) = X := by
  funext z
  rw [harg.readAt_unread]
  refine congrArg X (funext fun k => Fin.ext ?_)
  match k with
  | ⟨0, _⟩ => show 0 + 1 * (z 0).val = (z 0).val; omega
  | ⟨1, _⟩ => show 0 + 1 * (z 1).val = (z 1).val; omega

theorem stack_emb {o : ℕ} {α : Type} {G : S544x1024.Idx → α} (w : S272x1024.Idx → α) (ho : o + 272 ≤ 544)
    (h : ∀ a, (![o, 0] : Fin 2 → ℕ) a + (![272, 1024] : Fin 2 → ℕ) a ≤ S544x1024.size a)
    (hG : ∀ (r : Fin 272) (l : Fin 1024), w (ix2 r l) = G (ix2 ⟨o + r.val, by omega⟩ l)) (x : S272x1024.Idx) :
    w x = G ((Rect.unit (s := S544x1024) ![o, 0] ![272, 1024] h).emb x) := by
  obtain ⟨r, l, rfl⟩ : ∃ (r : Fin 272) (l : Fin 1024), x = ix2 r l := ⟨x 0, x 1, eq_ix2 x⟩
  refine (hG r l).trans (congrArg G (funext fun a => Fin.ext ?_))
  match a with
  | ⟨0, _⟩ => show o + r.val = o + 1 * r.val; omega
  | ⟨1, _⟩ => show l.val = 0 + 1 * l.val; omega

/-- What a block's two stored halves read as. -/
theorem read_halves {e : EltTy} (v : View sig .tc .vmem S544x1024 e) (f : v.ty.Contents (Elt F)) (a b : S272x1024.Idx → Elt F e) :
    v.read (Elt F) (v.writes (Elt F) f [⟨Rect.unit ![272, 0] S272x1024.size inb_S544x1024_S272x1024_272_0, b⟩,
      ⟨Rect.unit ![0, 0] S272x1024.size inb_S544x1024_S272x1024_0_0, a⟩]) = stack a b := by
  funext y
  refine View.read_writes_apply_of_pieces _ _ (stack a b) _ ?_ y ?_
  · refine List.forall_mem_cons.2 ⟨?_, List.forall_mem_cons.2 ⟨?_, fun p hp => nomatch hp⟩⟩
    · refine stack_emb b (by decide) inb_S544x1024_S272x1024_272_0 fun r l => ?_
      refine Eq.trans ?_ (dif_neg (show ¬(272 + r.val < 272) by omega)).symm
      exact congrArg b (congrArg₂ ix2 (Fin.ext (show r.val = 272 + r.val - 272 by omega)) rfl)
    · refine stack_emb a (by decide) inb_S544x1024_S272x1024_0_0 fun r l => ?_
      refine Eq.trans ?_ (dif_pos (show 0 + r.val < 272 by omega)).symm
      exact congrArg a (congrArg₂ ix2 (Fin.ext (show r.val = 0 + r.val by omega)) rfl)
  · have h0 : (y 0).val < 544 := (y 0).isLt
    have h1 : (y 1).val < 1024 := (y 1).isLt
    by_cases h : (y 0).val < 272
    · refine ⟨_, List.mem_cons_of_mem _ List.mem_cons_self, (LoadRect.mem_set _).2 fun a => ?_⟩
      match a with
      | ⟨0, _⟩ => exact ⟨(y 0).val, h, show (y 0).val = 0 + 1 * (y 0).val by omega⟩
      | ⟨1, _⟩ => exact ⟨(y 1).val, h1, show (y 1).val = 0 + 1 * (y 1).val by omega⟩
    · refine ⟨_, List.mem_cons_self, (LoadRect.mem_set _).2 fun a => ?_⟩
      match a with
      | ⟨0, _⟩ => exact ⟨(y 0).val - 272, show (y 0).val - 272 < 272 by omega, show (y 0).val = 272 + 1 * ((y 0).val - 272) by omega⟩
      | ⟨1, _⟩ => exact ⟨(y 1).val, h1, show (y 1).val = 0 + 1 * (y 1).val by omega⟩

/-! ## What a run leaves -/

/-- The factor of the gradient. -/
abbrev scale : F .f32 := Scalar.ofBits .f32 0x3A800000#32

section
variable (i : grid0.Coords) (x0 : Vec F S544x2816 .bf16) (x1 : Vec F S2816x1024 .bf16) (x2 x3 : Vec F S544x1024 .f32) (x4 : Vec F S1x1024 .f32)

/-- The upper half's errors, none past the last true row. -/
def errU : FVec F S272x1024 .f32 := k0_pay9 i x4 (upper x0) x1 (upper x2) (upper x3)

/-- The lower half's errors. -/
def errL : FVec F S272x1024 .f32 := k0_pay17 (BitVec.ofNat 32 (i 0).val) x4 (lower x0) x1 (lower x2) (lower x3)

/-- The gradient of the feed-forward's exit. -/
def dffOf : S544x1024.Idx → F .bf16 :=
  stack (k0_pay11 x4 (k0_pay7 (upper x0) x1) (k0_pay8 (upper x0) x1) (errU i x0 x1 x2 x3 x4) scale)
    (k0_pay1 (k0_pay15 (lower x0) x1) (k0_pay16 (lower x0) x1) (k0_pay19 (BitVec.ofNat 32 (i 0).val) x4 (lower x0) x1 (lower x2) (lower x3))
      (k0_pay20 (BitVec.ofNat 32 (i 0).val) x4 (lower x0) x1 (lower x2) (lower x3)))

/-- The gradient of the residual stream. -/
def dhOf : S544x1024.Idx → F .f32 :=
  stack (k0_pay10 (errU i x0 x1 x2 x3 x4) scale) (k0_pay18 (BitVec.ofNat 32 (i 0).val) x4 (lower x0) x1 (lower x2) (lower x3))

/-- The loss after a block, from the loss before it. -/
def lossOf (o : Vec F S8x128 .f32) : FVec F S8x128 .f32 := k0_pay2 (errL i x0 x1 x2 x3 x4) (k0_pay12 (errU i x0 x1 x2 x3 x4) o)

/-- The gain's gradient after a block, from the one before it. -/
def gainOf (o : Vec F S1x1024 .f32) : FVec F S1x1024 .f32 :=
  k0_pay3 (k0_pay16 (lower x0) x1) (k0_pay18 (BitVec.ofNat 32 (i 0).val) x4 (lower x0) x1 (lower x2) (lower x3))
    (k0_pay13 (k0_pay8 (upper x0) x1) (errU i x0 x1 x2 x3 x4) scale o)
end

/-- What the body loads, named by the blocks it loads from. -/
structure Loads (x0 : Vec F S544x2816 .bf16) (x1 : Vec F S2816x1024 .bf16) (x2 x3 : Vec F S544x1024 .f32) (x4 g : Vec F S1x1024 .f32)
    (a0 a1 : Vec F S272x2816 .bf16) (w w' : Vec F S2816x1024 .bf16) (h0 h1 y0 y1 : Vec F S272x1024 .f32) : Prop where
  gain : g = x4
  ff0 : a0 = upper x0
  ff1 : a1 = lower x0
  down : w = x1
  down' : w' = x1
  res0 : h0 = upper x2
  res1 : h1 = lower x2
  tgt0 : y0 = upper x3
  tgt1 : y1 = lower x3

namespace Loads

variable {x0 : Vec F S544x2816 .bf16} {x1 : Vec F S2816x1024 .bf16} {x2 x3 : Vec F S544x1024 .f32} {x4 g : Vec F S1x1024 .f32}
    {a0 a1 : Vec F S272x2816 .bf16} {w w' : Vec F S2816x1024 .bf16} {h0 h1 y0 y1 : Vec F S272x1024 .f32}

theorem dff (L : Loads x0 x1 x2 x3 x4 g a0 a1 w w' h0 h1 y0 y1) (i : grid0.Coords) :
    stack (k0_pay11 g (k0_pay7 a0 w) (k0_pay8 a0 w) (k0_pay9 i g a0 w h0 y0) scale)
      (k0_pay1 (k0_pay15 a1 w') (k0_pay16 a1 w') (k0_pay19 (BitVec.ofNat 32 (i 0).val) g a1 w' h1 y1)
        (k0_pay20 (BitVec.ofNat 32 (i 0).val) g a1 w' h1 y1)) = dffOf i x0 x1 x2 x3 x4 := by
  obtain ⟨rfl, rfl, rfl, rfl, rfl, rfl, rfl, rfl, rfl⟩ := L
  rfl

theorem dh (L : Loads x0 x1 x2 x3 x4 g a0 a1 w w' h0 h1 y0 y1) (i : grid0.Coords) :
    stack (k0_pay10 (k0_pay9 i g a0 w h0 y0) scale) (k0_pay18 (BitVec.ofNat 32 (i 0).val) g a1 w' h1 y1) = dhOf i x0 x1 x2 x3 x4 := by
  obtain ⟨rfl, rfl, rfl, rfl, rfl, rfl, rfl, rfl, rfl⟩ := L
  rfl

theorem loss (L : Loads x0 x1 x2 x3 x4 g a0 a1 w w' h0 h1 y0 y1) (i : grid0.Coords) {v o s : Vec F S8x128 .f32}
    (hv : v = k0_pay12 (k0_pay9 i g a0 w h0 y0) o) (ho : o = s) :
    k0_pay2 (k0_pay17 (BitVec.ofNat 32 (i 0).val) g a1 w' h1 y1) v = lossOf i x0 x1 x2 x3 x4 s := by
  obtain ⟨rfl, rfl, rfl, rfl, rfl, rfl, rfl, rfl, rfl⟩ := L
  rw [hv, ho]
  rfl

theorem grad (L : Loads x0 x1 x2 x3 x4 g a0 a1 w w' h0 h1 y0 y1) (i : grid0.Coords) {v o s : Vec F S1x1024 .f32}
    (hv : v = k0_pay13 (k0_pay8 a0 w) (k0_pay9 i g a0 w h0 y0) scale o) (ho : o = s) :
    k0_pay3 (k0_pay16 a1 w') (k0_pay18 (BitVec.ofNat 32 (i 0).val) g a1 w' h1 y1) v = gainOf i x0 x1 x2 x3 x4 s := by
  obtain ⟨rfl, rfl, rfl, rfl, rfl, rfl, rfl, rfl, rfl⟩ := L
  rw [hv, ho]
  rfl

end Loads

/-- The point is the first. -/
abbrev AtFirst (i : grid0.Coords) : Prop := (Scalar.cmpi .ne (Scalar.extui (Scalar.cmpi .eq (BitVec.ofNat 32 (i 0).val) 0#32)) 0#32) = 1#1

theorem atFirst : ∀ t : Fin cfg0.N, AtFirst (grid0.coords t) ↔ t.val = 0 :=
  (fun t => by
    have ht : t.val < 4 := Nat.lt_of_lt_of_eq t.isLt N_0
    have e0 : (grid0.coords t 0).val = t.val / 1 % 4 := Pipeline.Grid.coords_val t 0 (by decide) rfl
    simp only [AtFirst, e0]
    word_cmp
   : ∀ t : Fin grid0.N, AtFirst (grid0.coords t) ↔ t.val = 0)

set_option maxHeartbeats 4000000 in
/-- The kernel's body, run once: what it stores into its four outputs, the inputs kept. The two sums start from `s7` and `s8`:
    zeros at the first point, what was there before at the others. -/
theorem run (c : Dev nD) (i : grid0.Coords) (arg1 : Memref sig .tc .vmem S544x2816 .bf16) (harg1 : arg1.IsWhole) (arg2 : Memref sig .tc .vmem S2816x1024 .bf16) (harg2 : arg2.IsWhole)
    (arg3 : Memref sig .tc .vmem S544x1024 .f32) (harg3 : arg3.IsWhole) (arg4 : Memref sig .tc .vmem S544x1024 .f32) (harg4 : arg4.IsWhole) (arg5 : Memref sig .tc .vmem S1x1024 .f32) (harg5 : arg5.IsWhole)
    (arg6 : Memref sig .tc .vmem S544x1024 .bf16) (harg6 : arg6.IsWhole) (arg7 : Memref sig .tc .vmem S544x1024 .f32) (harg7 : arg7.IsWhole) (arg8 : Memref sig .tc .vmem S8x128 .f32) (harg8 : arg8.IsWhole)
    (arg9 : Memref sig .tc .vmem S1x1024 .f32) (harg9 : arg9.IsWhole)
    (x0 : Vec F S544x2816 .bf16) (x1 : Vec F S2816x1024 .bf16) (x2 x3 : Vec F S544x1024 .f32) (x4 : Vec F S1x1024 .f32) (o7 s7 : Vec F S8x128 .f32) (o8 s8 : Vec F S1x1024 .f32)
    (hs : (AtFirst i ∧ s7 = k0_pay4 ∧ s8 = k0_pay5) ∨ (¬AtFirst i ∧ s7 = o7 ∧ s8 = o8)) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ owns (c : Thread nD τ) arg8 fullShare o7 ∗ owns (c : Thread nD τ) arg9 fullShare o8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (dffOf i x0 x1 x2 x3 x4) ∗ owns (c : Thread nD τ) arg7 fullShare (dhOf i x0 x1 x2 x3 x4)
            ∗ owns (c : Thread nD τ) arg8 fullShare (lossOf i x0 x1 x2 x3 x4 s7) ∗ owns (c : Thread nD τ) arg9 fullShare (gainOf i x0 x1 x2 x3 x4 s8)) -∗ K ⟨⟩))
      ⊢ wp frame (wpE (defs₀ (F := F)) Variants.none c none) E (cc0_ffn_down i arg1 harg1 arg2 harg2 arg3 harg3 arg4 harg4 arg5 harg5 arg6 harg6 arg7 harg7 arg8 harg8 arg9 harg9) K := by
  simp only [cc0_ffn_down_eq_skeleton]; unfold cc0_ffn_down_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hf8
  have L := Loads.mk (load_all harg5 x4 inb_S1x1024_S1x1024_0_0) (load_half harg1 x0 (o := 0) (by decide) inb_S544x2816_S272x2816_0_0)
    (load_half harg1 x0 (o := 272) (by decide) inb_S544x2816_S272x2816_272_0) (load_all harg2 x1 inb_S2816x1024_S2816x1024_0_0)
    (load_all harg2 x1 inb_S2816x1024_S2816x1024_0_0)
    (load_half harg3 x2 (o := 0) (by decide) inb_S544x1024_S272x1024_0_0) (load_half harg3 x2 (o := 272) (by decide) inb_S544x1024_S272x1024_272_0)
    (load_half harg4 x3 (o := 0) (by decide) inb_S544x1024_S272x1024_0_0) (load_half harg4 x3 (o := 272) (by decide) inb_S544x1024_S272x1024_272_0)
  rcases hs with ⟨hc0, rfl, rfl⟩ | ⟨hc0, rfl, rfl⟩
  · sl_exec (disch := first | sl_exact hc0)
    sl_step
    iapply Hk
    isplitl [H0]
    · iexists _; isplitr
      · ipureintro; exact harg1.read_unread _
      · iexact H0
    isplitl [H1]
    · iexists _; isplitr
      · ipureintro; exact harg2.read_unread _
      · iexact H1
    isplitl [H2]
    · iexists _; isplitr
      · ipureintro; exact harg3.read_unread _
      · iexact H2
    isplitl [H3]
    · iexists _; isplitr
      · ipureintro; exact harg4.read_unread _
      · iexact H3
    isplitl [H4]
    · iexists _; isplitr
      · ipureintro; exact harg5.read_unread _
      · iexact H4
    isplitl [H5]
    · iexists _; isplitr
      swap; · iexact H5
      ipureintro
      exact (read_halves _ _ _ _).trans (L.dff i)
    isplitl [H6]
    · iexists _; isplitr
      swap; · iexact H6
      ipureintro
      exact (read_halves _ _ _ _).trans (L.dh i)
    isplitl [H7]
    · iexists _; isplitr
      swap; · iexact H7
      ipureintro
      exact (View.read_writes_full _ _ _ _ _).trans (L.loss i (View.readCov_full _ _ _ _ _) (View.readCov_full _ _ _ _ _))
    iexists _; isplitr
    swap; · iexact H8
    ipureintro
    exact (View.read_writes_full _ _ _ _ _).trans (L.grad i (View.readCov_full _ _ _ _ _) (View.readCov_full _ _ _ _ _))
  · sl_exec (disch := first | sl_exact hc0)
    sl_step
    iapply Hk
    isplitl [H0]
    · iexists _; isplitr
      · ipureintro; exact harg1.read_unread _
      · iexact H0
    isplitl [H1]
    · iexists _; isplitr
      · ipureintro; exact harg2.read_unread _
      · iexact H1
    isplitl [H2]
    · iexists _; isplitr
      · ipureintro; exact harg3.read_unread _
      · iexact H2
    isplitl [H3]
    · iexists _; isplitr
      · ipureintro; exact harg4.read_unread _
      · iexact H3
    isplitl [H4]
    · iexists _; isplitr
      · ipureintro; exact harg5.read_unread _
      · iexact H4
    isplitl [H5]
    · iexists _; isplitr
      swap; · iexact H5
      ipureintro
      exact (read_halves _ _ _ _).trans (L.dff i)
    isplitl [H6]
    · iexists _; isplitr
      swap; · iexact H6
      ipureintro
      exact (read_halves _ _ _ _).trans (L.dh i)
    isplitl [H7]
    · iexists _; isplitr
      swap; · iexact H7
      ipureintro
      exact (View.read_writes_full _ _ _ _ _).trans (L.loss i (View.readCov_full _ _ _ _ _) (load_all harg8 _ _))
    iexists _; isplitr
    swap; · iexact H8
    ipureintro
    exact (View.read_writes_full _ _ _ _ _).trans (L.grad i (View.readCov_full _ _ _ _ _) (load_all harg9 _ _))

end Cert.Kernel3Ideal.Loss

end
-- ==== Proof.LossFrame.lean ====
/- The frame of the loss and the feed-forward exit: what the body is called with and leaves at each point, and the launch. -/
module

public import proofs.«01_k».proof.Proof.LossRun

@[expose] public section

set_option maxRecDepth 16384

noncomputable section

namespace Cert.Kernel3Ideal.Loss

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose cellOf)

variable {F : FTy → Type} [FloatOps F]

local notation "𝕄" => MT nD τ sig Unit (Elt F) ℕ (UR sig nD τ) ℕ

/-! ## The rows past the targets do not count -/

theorem row_lt (n o r : ℕ) (hn : n < 4) (ho : o ≤ 272) (hr : r < 272) :
    IntOp.cmpi CmpIPredicate.slt (IntOp.addi (Scalar.addi (Scalar.muli (BitVec.ofNat 32 n) 544#32) (BitVec.ofNat 32 o)) (BitVec.ofNat 32 r)) 2048#32 = 1#1
      ↔ 544 * n + (o + r) < 2048 := by
  show IntOp.cmpi CmpIPredicate.slt (IntOp.addi (IntOp.addi (IntOp.muli (BitVec.ofNat 32 n) (BitVec.ofNat 32 544)) (BitVec.ofNat 32 o))
    (BitVec.ofNat 32 r)) (BitVec.ofNat 32 2048) = 1#1 ↔ _
  rw [WordCmp.muli_ofNat, WordCmp.addi_ofNat, WordCmp.addi_ofNat]
  word_cmp

section
variable (i : grid0.Coords) (g : Vec F S1x1024 .f32) (a : Vec F S272x2816 .bf16) (w : Vec F S2816x1024 .bf16) (h y : Vec F S272x1024 .f32)
    (r : Fin 272) (l : Fin 1024)

theorem errU_at : k0_pay9 i g a w h y (ix2 r l) = if 544 * (i 0).val + r.val < 2048
      then FloatOps.subf (FloatOps.addf (h (ix2 r l)) (FloatOps.mulf (k0_pay8 a w (ix2 r l)) (g (ix2 0 l)))) (y (ix2 r l))
      else Scalar.ofBits .f32 0#32 := by
  have hi : (i 0).val < 4 := (i 0).isLt
  have hr := r.isLt
  pointwise [k0_pay9]
  generalize (i 0).val = n at hi ⊢
  exact if_congr (row_lt _ 0 _ hi (by decide) hr |>.trans (by omega)) rfl rfl

theorem errL_at : k0_pay17 (BitVec.ofNat 32 (i 0).val) g a w h y (ix2 r l) = if 544 * (i 0).val + (272 + r.val) < 2048
      then FloatOps.subf (FloatOps.addf (h (ix2 r l)) (FloatOps.mulf (k0_pay16 a w (ix2 r l)) (g (ix2 0 l)))) (y (ix2 r l))
      else Scalar.ofBits .f32 0#32 := by
  have hi : (i 0).val < 4 := (i 0).isLt
  have hr := r.isLt
  pointwise [k0_pay17]
  generalize (i 0).val = n at hi ⊢
  exact if_congr (row_lt _ 272 _ hi (by decide) hr) rfl rfl
end

section
variable (i : grid0.Coords) (x0 : Vec F S544x2816 .bf16) (x1 : Vec F S2816x1024 .bf16) (x2 : Vec F S544x1024 .f32) (x4 : Vec F S1x1024 .f32)
    {y y' : Vec F S544x1024 .f32} (hy : ∀ (r : Fin 544) (l : Fin 1024), 544 * (i 0).val + r.val < 2048 → y (ix2 r l) = y' (ix2 r l))
include hy

theorem errU_congr : errU i x0 x1 x2 y x4 = errU i x0 x1 x2 y' x4 := by
  funext z
  obtain ⟨r, l, rfl⟩ : ∃ (r : Fin 272) (l : Fin 1024), z = ix2 r l := ⟨z 0, z 1, eq_ix2 z⟩
  refine (errU_at i _ _ _ _ _ r l).trans (Eq.trans ?_ (errU_at i _ _ _ _ _ r l).symm)
  by_cases h : 544 * (i 0).val + r.val < 2048
  · rw [if_pos h, if_pos h]
    exact congrArg _ (hy ⟨0 + r.val, by omega⟩ l (by simpa using h))
  · rw [if_neg h, if_neg h]

theorem errL_congr : errL i x0 x1 x2 y x4 = errL i x0 x1 x2 y' x4 := by
  funext z
  obtain ⟨r, l, rfl⟩ : ∃ (r : Fin 272) (l : Fin 1024), z = ix2 r l := ⟨z 0, z 1, eq_ix2 z⟩
  refine (errL_at i _ _ _ _ _ r l).trans (Eq.trans ?_ (errL_at i _ _ _ _ _ r l).symm)
  by_cases h : 544 * (i 0).val + (272 + r.val) < 2048
  · rw [if_pos h, if_pos h]
    exact congrArg _ (hy ⟨272 + r.val, by omega⟩ l h)
  · rw [if_neg h, if_neg h]

theorem dh_congr : k0_pay18 (BitVec.ofNat 32 (i 0).val) x4 (lower x0) x1 (lower x2) (lower y)
    = k0_pay18 (BitVec.ofNat 32 (i 0).val) x4 (lower x0) x1 (lower x2) (lower y') := by
  have e : k0_pay17 (BitVec.ofNat 32 (i 0).val) x4 (lower x0) x1 (lower x2) (lower y)
      = k0_pay17 (BitVec.ofNat 32 (i 0).val) x4 (lower x0) x1 (lower x2) (lower y') := errL_congr i x0 x1 x2 x4 hy
  unfold k0_pay18
  rw [e]

theorem dffOf_congr : dffOf i x0 x1 x2 y x4 = dffOf i x0 x1 x2 y' x4 := by
  unfold dffOf k0_pay20 k0_pay19
  rw [errU_congr i x0 x1 x2 x4 hy, dh_congr i x0 x1 x2 x4 hy]

theorem dhOf_congr : dhOf i x0 x1 x2 y x4 = dhOf i x0 x1 x2 y' x4 := by
  unfold dhOf
  rw [errU_congr i x0 x1 x2 x4 hy, dh_congr i x0 x1 x2 x4 hy]

theorem lossOf_congr (o : Vec F S8x128 .f32) : lossOf i x0 x1 x2 y x4 o = lossOf i x0 x1 x2 y' x4 o := by
  unfold lossOf
  rw [errU_congr i x0 x1 x2 x4 hy, errL_congr i x0 x1 x2 x4 hy]

theorem gainOf_congr (o : Vec F S1x1024 .f32) : gainOf i x0 x1 x2 y x4 o = gainOf i x0 x1 x2 y' x4 o := by
  unfold gainOf
  rw [errU_congr i x0 x1 x2 x4 hy, dh_congr i x0 x1 x2 x4 hy]
end

/-! ## The points -/

variable (m : (ℓ : Loc nD τ sig) → Buf (Elt F) ℓ) (ρ : Dev nD → PrngReg)

/-- The targets' block at a point, zeros past the last target. -/
def tgt (c : Dev nD) (t : Fin cfg0.N) : Vec F S544x1024 .f32 :=
  win0_3.fill (grid0.coords t) (fun _ => Scalar.ofBits .f32 0#32) (iblk m c 3 t)

/-- The targets' rows that count are fetched. -/
theorem moved_rows (t : Fin cfg0.N) (r : Fin 544) (l : Fin 1024) (h : 544 * (grid0.coords t 0).val + r.val < 2048) :
    win0_3.moved (grid0.coords t) (ix2 r l) = true :=
  (win0_3.moved_iff _ _).mpr fun a => by
  have ht : t.val < 4 := Nat.lt_of_lt_of_eq t.isLt N_0
  have e0 : (grid0.coords t 0).val = t.val / 1 % 4 := Pipeline.Grid.coords_val t 0 (by decide) rfl
  match a with
  | ⟨0, _⟩ =>
    have hx : win0_3.xsize (grid0.coords t) 0 = if t.val = 3 then 416 else 544 := by
      rcases fin_N0 t with rfl | rfl | rfl | rfl <;> decide
    show r.val < win0_3.xsize (grid0.coords t) 0
    rw [hx]
    have hr := r.isLt
    split <;> omega
  | ⟨1, _⟩ =>
    have hx : win0_3.xsize (grid0.coords t) 1 = 1024 := by
      rcases fin_N0 t with rfl | rfl | rfl | rfl <;> decide
    show l.val < win0_3.xsize (grid0.coords t) 1
    rw [hx]
    exact l.isLt

/-- Two buffers filled with a point's block agree on the rows that count. -/
theorem fill_rows (t : Fin cfg0.N) (d d' : S544x1024.Idx → F .f32) (g : (win0_3.xblock (grid0.coords t)).Idx → F .f32)
    (r : Fin 544) (l : Fin 1024) (h : 544 * (grid0.coords t 0).val + r.val < 2048) :
    win0_3.fill (grid0.coords t) d g (ix2 r l) = win0_3.fill (grid0.coords t) d' g (ix2 r l) := by
  have hm := moved_rows t r l h
  unfold Window.fill
  rw [dif_pos hm, dif_pos hm]

/-- The loss and the gain's gradient before each point. -/
def sums (c : Dev nD) : ℕ → Vec F S8x128 .f32 × Vec F S1x1024 .f32
  | 0 => (k0_pay4, k0_pay5)
  | n + 1 => if h : n < cfg0.N then
      (lossOf (grid0.coords ⟨n, h⟩) (iblk m c 0 ⟨n, h⟩) (iblk m c 1 ⟨n, h⟩) (iblk m c 2 ⟨n, h⟩) (tgt m c ⟨n, h⟩) (iblk m c 4 ⟨n, h⟩) (sums c n).1,
        gainOf (grid0.coords ⟨n, h⟩) (iblk m c 0 ⟨n, h⟩) (iblk m c 1 ⟨n, h⟩) (iblk m c 2 ⟨n, h⟩) (tgt m c ⟨n, h⟩) (iblk m c 4 ⟨n, h⟩) (sums c n).2)
    else sums c n

theorem sums_succ (c : Dev nD) (t : Fin cfg0.N) : sums m c (t.val + 1) =
    (lossOf (grid0.coords t) (iblk m c 0 t) (iblk m c 1 t) (iblk m c 2 t) (tgt m c t) (iblk m c 4 t) (sums m c t.val).1,
      gainOf (grid0.coords t) (iblk m c 0 t) (iblk m c 1 t) (iblk m c 2 t) (tgt m c t) (iblk m c 4 t) (sums m c t.val).2) := by
  show (if h : t.val < cfg0.N then _ else _) = _
  rw [dif_pos t.isLt]

/-- The arrays as the region finds them, each input's block kept, the outputs' blocks at the values of the inputs' blocks, and
    the two sums at what they are after the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tgt m c t
    | ⟨4, _⟩ => iblk m c 4 t
    | ⟨5, _⟩ => dffOf (grid0.coords t) (iblk m c 0 t) (iblk m c 1 t) (iblk m c 2 t) (tgt m c t) (iblk m c 4 t)
    | ⟨6, _⟩ => dhOf (grid0.coords t) (iblk m c 0 t) (iblk m c 1 t) (iblk m c 2 t) (tgt m c t) (iblk m c 4 t)
    | ⟨7, _⟩ => (sums m c (t.val + 1)).1
    | ⟨8, _⟩ => (sums m c (t.val + 1)).2
  Φ _ := Pipeline.ΦA spec0 c
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun t => by dsimp only [dats]) t d

theorem before_1 (c : Dev nD) (t : Fin cfg0.N) (d) : (dats m 0 c).before 1 t d = iblk m c 1 t :=
  before0_1_of m (dats m 0 c) (A_eq m c 1) (fun t => by dsimp only [dats]) t d

theorem before_2 (c : Dev nD) (t : Fin cfg0.N) (d) : (dats m 0 c).before 2 t d = iblk m c 2 t :=
  before0_2_of m (dats m 0 c) (A_eq m c 2) (fun t => by dsimp only [dats]) t d

theorem before_4 (c : Dev nD) (t : Fin cfg0.N) (d) : (dats m 0 c).before 4 t d = iblk m c 4 t :=
  before0_4_of m (dats m 0 c) (A_eq m c 4) (fun t => by dsimp only [dats]) t d

theorem before_3 (c : Dev nD) (t : Fin cfg0.N) (d) : (dats m 0 c).before 3 t d = win0_3.fill (grid0.coords t) d (iblk m c 3 t) := by
  unfold Dat.before
  rw [if_pos (fetch0_3 t)]
  rfl

theorem kept_7 (c : Dev nD) (t : Fin cfg0.N) (h : t.val ≠ 0) (d) : (dats m 0 c).before 7 t d = (sums m c t.val).1 := by
  have ht : t.val < 4 := Nat.lt_of_lt_of_eq t.isLt N_0
  refine ((dats m 0 c).before_out_kept 7 rfl t h (Bool.eq_false_iff.2 fun hf => ?_) (fun _ => rfl) (fun _ _ => rfl) d).trans ?_
  · have := (flush0_7 _).1 hf
    dsimp only at this
    omega
  · show (sums m c (t.val - 1 + 1)).1 = _
    rw [Nat.sub_add_cancel (Nat.pos_of_ne_zero h)]

theorem kept_8 (c : Dev nD) (t : Fin cfg0.N) (h : t.val ≠ 0) (d) : (dats m 0 c).before 8 t d = (sums m c t.val).2 := by
  have ht : t.val < 4 := Nat.lt_of_lt_of_eq t.isLt N_0
  refine ((dats m 0 c).before_out_kept 8 rfl t h (Bool.eq_false_iff.2 fun hf => ?_) (fun _ => rfl) (fun _ _ => rfl) d).trans ?_
  · have := (flush0_8 _).1 hf
    dsimp only at this
    omega
  · show (sums m c (t.val - 1 + 1)).2 = _
    rw [Nat.sub_add_cancel (Nat.pos_of_ne_zero h)]

/-- What the two sums start a point from: zeros at the first, what was there at the others. -/
theorem starts (c : Dev nD) (t : Fin cfg0.N) (d7) (d8) :
    (AtFirst (grid0.coords t) ∧ (sums m c t.val).1 = k0_pay4 ∧ (sums m c t.val).2 = k0_pay5)
      ∨ (¬AtFirst (grid0.coords t) ∧ (sums m c t.val).1 = (dats m 0 c).before 7 t d7 ∧ (sums m c t.val).2 = (dats m 0 c).before 8 t d8) := by
  by_cases h : t.val = 0
  · refine .inl ⟨(atFirst t).mpr h, ?_, ?_⟩ <;> (rw [h]; rfl)
  · exact .inr ⟨fun hf => h ((atFirst t).mp hf), (kept_7 m c t h d7).symm, (kept_8 m c t h d8).symm⟩

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t))))
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl]
  iintro ⟨Hr, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c (grid0.coords t) _ _ _ _ _ _ _ _ _ _ _ _ _ _ _ _ _ _ (iblk m c 0 t) (iblk m c 1 t) (iblk m c 2 t)
    (win0_3.fill (grid0.coords t) d3 (iblk m c 3 t)) (iblk m c 4 t) _ _ _ _ (starts m c t d7 d8) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexact H8
  have hy := fill_rows t d3 (fun _ => Scalar.ofBits .f32 0#32) (iblk m c 3 t)
  rw [dffOf_congr (grid0.coords t) _ _ _ _ hy, dhOf_congr (grid0.coords t) _ _ _ _ hy, lossOf_congr (grid0.coords t) _ _ _ _ hy,
    gainOf_congr (grid0.coords t) _ _ _ _ hy]
  iintro ⟨H0, H1, H2, H3, H4, H5, H6, H7, H8⟩
  isplitl [Hr]; · iexact Hr
  isplitl [Ho]; · iexact Ho
  isplitl [H0]; · iexact H0
  isplitl [H1]; · iexact H1
  isplitl [H2]; · iexact H2
  isplitl [H3]
  · iexists d3
    rw [show win0_3.cut (grid0.coords t) ((dats m 0 c).after 3 t) = iblk m c 3 t from win0_3.cut_fill (grid0.coords t) _ _]
    iexact H3
  isplitl [H4]; · iexact H4
  isplitl [H5]; · iexact H5
  isplitl [H6]; · iexact H6
  isplitl [H7]
  · rw [show (dats m 0 c).after 7 t = _ from congrArg Prod.fst (sums_succ m c t)]
    iexact H7
  rw [show (dats m 0 c).after 8 t = _ from congrArg Prod.snd (sums_succ m c t)]
  iexact H8

theorem body_row (t : Fin cfg0.N) : defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch: every array at what its points leave, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) (run_main m ρ)) ((θ_run defs _ _).mono (fun _ h => h.2) (run_main_quiescent m ρ))

end Cert.Kernel3Ideal.Loss

end
-- ==== Proof.LossReference.lean ====
/- The loss of the sequence and the feed-forward exit: what its derivative is, row by row, and that the reference
   computes it. -/
module
public import proofs.«01_k».proof.Proof.Gen.Reference3Ideal.Read
public import proofs.«01_k».proof.Proof.RmsData

@[expose] public section
set_option maxRecDepth 16384
noncomputable section
namespace Cert.Step
open Idealize.ShloMosaic

/-- The feed-forward's second projection and the norm's gain. -/
structure Loss where
  w : Fin 2816 → Fin 1024 → EReal
  g : Fin 1024 → EReal

/-- One row's values: the gated activations, the residual, the target, and whether the row has one. -/
structure LossRow where
  f : Fin 2816 → EReal
  h : Fin 1024 → EReal
  y : Fin 1024 → EReal
  live : Bool

instance : Zero LossRow := ⟨⟨0, 0, 0, false⟩⟩

namespace Loss
variable (W : Loss) (R : LossRow) (d : Fin 1024)

/-- The feed-forward's output. -/
def ff : EReal := ∑ k, R.f k * W.w k d
/-- What the layer's output is off its target, nothing in a row without one. -/
def err : EReal := if R.live then R.h d + unit (W.ff R) d * W.g d - R.y d else 0
/-- The cotangent of the layer's output. -/
def dh : EReal := W.err R d * ((1 / 1024 : ℝ) : EReal)
/-- The cotangent of the feed-forward's output. -/
def dff : EReal := rmsBack (W.ff R) (fun i => W.dh R i * W.g i) d
/-- What the row adds to the gain's gradient. -/
def dg : EReal := W.dh R d * unit (W.ff R) d
/-- The row's squared error. -/
def sq : EReal := ∑ d, W.err R d * W.err R d

theorem err_off (h : R.live = false) : W.err R d = 0 := by simp [err, h]
theorem dh_off (h : R.live = false) : W.dh R d = 0 := by rw [dh, W.err_off R d h, zero_mul]
theorem sq_off (h : R.live = false) : W.sq R = 0 := by simp [sq, W.err_off R _ h]
theorem dh_zero : W.dh 0 d = 0 := W.dh_off 0 d rfl
theorem dg_zero : W.dg 0 d = 0 := by rw [dg, dh_zero, zero_mul]
theorem sq_zero : W.sq 0 = 0 := W.sq_off 0 rfl
theorem dff_zero : W.dff 0 d = 0 := by
  simp only [dff, dh_zero, zero_mul]
  exact rmsBack_zero _ _

/-- The loss: half the mean square error of every row, added up. -/
def total (rows : Fin 2064 → LossRow) : EReal := (∑ r, W.sq (rows r)) * ((1 / 2048 : ℝ) : EReal)

/-- The weights, from the arguments. -/
def weights (w : Vec Ideal ⟨2, ![2816, 1024]⟩ .f32) (g : Vec Ideal ⟨2, ![1, 1024]⟩ .f32) : Loss where
  w k d := w (ix2 k d)
  g d := g (ix2 0 d)

/-- A row, from the arguments. -/
def row (f : Vec Ideal ⟨2, ![2064, 2816]⟩ .f32) (h : Vec Ideal ⟨2, ![2064, 1024]⟩ .f32) (y : Vec Ideal ⟨2, ![2048, 1024]⟩ .f32)
    (r : Fin 2064) : LossRow where
  f k := f (ix2 r k)
  h d := h (ix2 r d)
  y d := if _ : 16 ≤ r.val then y (ix2 ⟨r.val - 16, by omega⟩ d) else 0
  live := decide (16 ≤ r.val)

end Loss

theorem word_half : Ideal.ofBits FTy.f32 1056964608#32 = ((1 / 2 : ℝ) : EReal) := by
  simp [Ideal.ofBits, Ideal.ieee, -EReal.coe_mul]; norm_num

/-- The derivative of half a mean of squares: the factors the chain rule writes out, as one. -/
theorem half_mean (e : EReal) : Ideal.div ((1 / 2 : ℝ) : EReal) ((1024 : ℝ) : EReal) * (((2 : ℝ) : EReal) * e)
    = e * ((1 / 1024 : ℝ) : EReal) := by
  rw [Ideal.div_coe (by norm_num), ← EReal.coe_mul, ← mul_assoc, ← EReal.coe_mul, mul_comm]
  norm_num

/-- Half the sum of the rows' means. -/
theorem half_sum {n : ℕ} (u : Fin n → EReal) : ((1 / 2 : ℝ) : EReal) * ∑ q, Ideal.div (u q) ((1024 : ℝ) : EReal)
    = (∑ q, u q) * ((1 / 2048 : ℝ) : EReal) := by
  simp only [Ideal.div_coe (by norm_num : (1024 : ℝ) ≠ 0)]
  rw [← sum_mul_pos _ (by norm_num), mul_comm, mul_assoc, ← EReal.coe_mul]
  norm_num

/-- The rows past the first sixteen, if the sixteen add nothing. -/
theorem sum_tokens (F : Fin 2064 → EReal) (hF : ∀ r : Fin 2064, r.val < 16 → F r = 0) :
    ∑ q : Fin 2048, F ⟨16 + q.val, by omega⟩ = ∑ r, F r := by
  refine Eq.trans ?_ (Fin.sum_univ_add (a := 16) (b := 2048) F).symm
  rw [Finset.sum_eq_zero (fun i (_ : i ∈ Finset.univ (α := Fin 16)) => hF (Fin.castAdd 2048 i) i.isLt), zero_add]
  rfl

end Cert.Step

namespace Cert.Reference3Ideal.Loss
open Idealize.ShloMosaic Idealize.ShloMosaic.TcCoe Cert.Step
open Cert.Reference3Ideal Cert.Reference3Ideal.Read Cert.Reference3Ideal.Gen

variable (x0 : Vec Ideal S2064x2816 .f32) (x1 : Vec Ideal S2816x1024 .f32) (x2 : Vec Ideal S2064x1024 .f32) (x3 : Vec Ideal S2048x1024 .f32)
  (x4 : Vec Ideal S1x1024 .f32) (r : Fin 2064) (j : Fin 1024)

/-- The data that the reference's arguments hold. -/
abbrev W : Step.Loss := .weights x1 x4
abbrev R : LossRow := Step.Loss.row x0 x2 x3 r

theorem at_ff : val_main_v0 (F := Ideal) x0 x1 (ix2 r j) = (W x1 x4).ff (R x0 x2 x3 r) j := by
  pointwise [val_main_v0]
  rfl

theorem at_square : val_main_v8 (F := Ideal) x0 x1 (ix2 r (0 : Fin 1)) = square ((W x1 x4).ff (R x0 x2 x3 r)) := by
  pointwise [val_main_v8, val_main_v7, val_main_v6, val_main_v5, val_main_v4, val_main_v3, val_main_v2, val_main_cst, val_main_cst_0, val_main_cst_1]
  simp only [at_ff x0 x1 x2 x3 x4]
  rw [word_1024, word_rmsEps]; rfl

theorem at_rms : val_main_v9 (F := Ideal) x0 x1 (ix2 r (0 : Fin 1)) = rms ((W x1 x4).ff (R x0 x2 x3 r)) := by
  pointwise [val_main_v9]
  rw [at_square x0 x1 x2 x3 x4]; rfl

theorem at_unit : val_main_v14 (F := Ideal) x0 x1 (ix2 r j) = unit ((W x1 x4).ff (R x0 x2 x3 r)) j := by
  pointwise [val_main_v14, val_main_v13]
  rw [at_rms x0 x1 x2 x3 x4, at_ff x0 x1 x2 x3 x4]; rfl

theorem at_err (q : Fin 2048) : val_main_v20 (F := Ideal) x0 x1 x2 x3 x4 (ix2 q j) = (W x1 x4).err (R x0 x2 x3 ⟨16 + q.val, by omega⟩) j := by
  pointwise [val_main_v20, val_main_v19, val_main_v18, val_main_v17, val_main_v16, val_main_v15, val_main_v1]
  rw [at_unit x0 x1 x2 x3 x4]
  simp [Step.Loss.err, Step.Loss.row]
  rfl

theorem at_token (q : Fin 2048) : val_main_v34 (F := Ideal) x0 x1 x2 x3 x4 (ix2 q j) = (W x1 x4).dh (R x0 x2 x3 ⟨16 + q.val, by omega⟩) j := by
  pointwise [val_main_v34, val_main_v33, val_main_v32, val_main_v31, val_main_v30, val_main_v29, val_main_v23, val_main_v22, val_main_cst_3,
    val_main_cst_8, val_main_cst_9, val_main_cst_10]
  rw [at_err, word_half, word_2, word_1024]
  exact half_mean _

theorem at_dh : val_main_v35 (F := Ideal) x0 x1 x2 x3 x4 (ix2 r j) = (W x1 x4).dh (R x0 x2 x3 r) j := by
  pointwise [val_main_v35, val_main_cst_11]
  have hr := r.isLt
  split
  · rename_i h
    rw [at_token]
    congr 2
    exact Fin.ext (by simp only; omega)
  · exact (Step.Loss.dh_off _ _ _ (by simp [Step.Loss.row]; omega)).symm

theorem at_dn : val_main_v40 (F := Ideal) x0 x1 x2 x3 x4 (ix2 r j) = (W x1 x4).dh (R x0 x2 x3 r) j * (W x1 x4).g j := by
  pointwise [val_main_v40, val_main_v39, val_main_v15, val_main_v1]
  rw [at_dh]; rfl

theorem at_chain : val_main_v51 (F := Ideal) x0 x1 x2 x3 x4 (ix2 r j)
    = chain ((W x1 x4).ff (R x0 x2 x3 r)) (fun i => (W x1 x4).dh (R x0 x2 x3 r) i * (W x1 x4).g i) := by
  pointwise [val_main_v51, val_main_v50, val_main_v49, val_main_v48, val_main_v47, val_main_v44, val_main_v43, val_main_v42,
    val_main_v12, val_main_v11, val_main_v10, val_main_cst_2, val_main_cst_14, val_main_cst_15, val_main_cst_16]
  simp only [at_ff x0 x1 x2 x3 x4, at_dn, at_rms x0 x1 x2 x3 x4, at_square x0 x1 x2 x3 x4,
    word_1024, word_neg_half, Fintype.sum_unique, Fin.default_eq_zero]
  rfl

theorem at_dff : val_main_v55 (F := Ideal) x0 x1 x2 x3 x4 (ix2 r j) = (W x1 x4).dff (R x0 x2 x3 r) j := by
  pointwise [val_main_v55, val_main_v54, val_main_v53, val_main_v52, val_main_v46, val_main_v45]
  rw [at_chain, at_dn, at_ff x0 x1 x2 x3 x4, at_rms x0 x1 x2 x3 x4]
  have h := rmsBack_chain ((W x1 x4).ff (R x0 x2 x3 r)) (fun i => (W x1 x4).dh (R x0 x2 x3 r) i * (W x1 x4).g i) 0 j
  rw [zero_add, zero_add] at h
  exact h

theorem out_dff (P : Fin 2176) : val_main_v61 (F := Ideal) x0 x1 x2 x3 x4 (ix2 P j) = (W x1 x4).dff (padRow (R x0 x2 x3) P.val) j := by
  pointwise [val_main_v61, val_main_v60, val_main_v59, val_main_v58, val_main_v57, val_main_cst_17]
  simp only [at_dff]
  exact (padRow_map (R x0 x2 x3) _ (fun R => (W x1 x4).dff R j) (Step.Loss.dff_zero _ _)).symm

theorem out_dh (P : Fin 2176) : val_main_v64 (F := Ideal) x0 x1 x2 x3 x4 (ix2 P j) = (W x1 x4).dh (padRow (R x0 x2 x3) P.val) j := by
  pointwise [val_main_v64, val_main_v63, val_main_v62, val_main_v57, val_main_cst_17]
  simp only [at_dh]
  exact (padRow_map (R x0 x2 x3) _ (fun R => (W x1 x4).dh R j) (Step.Loss.dh_zero _ _)).symm

theorem out_loss (a : Fin 8) (b : Fin 128) : val_main_v65 (F := Ideal) x0 x1 x2 x3 x4 (ix2 a b) = (W x1 x4).total (R x0 x2 x3) := by
  pointwise [val_main_v65, val_main_v28, val_main_v27, val_main_v26, val_main_v25, val_main_v24, val_main_v21, val_main_cst_4, val_main_cst_5,
    val_main_cst_6, val_main_cst_7]
  simp only [at_err, word_half, word_1024]
  refine (half_sum _).trans (congrArg (· * _) ?_)
  exact sum_tokens (fun r => (W x1 x4).sq (R x0 x2 x3 r)) fun r hr => Step.Loss.sq_off _ _ (by simp [Step.Loss.row]; omega)

theorem out_dg : val_main_v56 (F := Ideal) x0 x1 x2 x3 x4 (ix2 (0 : Fin 1) j) = ∑ r, (W x1 x4).dg (R x0 x2 x3 r) j := by
  pointwise [val_main_v56, val_main_v41, val_main_v38, val_main_v37, val_main_v36, val_main_cst_12, val_main_cst_13]
  simp only [at_unit x0 x1 x2 x3 x4, at_dh, Fintype.sum_unique, Fin.default_eq_zero]
  exact Finset.sum_congr rfl fun r _ => mul_comm _ _

end Cert.Reference3Ideal.Loss
-- ==== Proof.LossKernel.lean ====
/- The loss and the feed-forward exit in the kernel: what its blocks hold, what one half of a block computes, and the four
   output arrays after the run. -/
module
public import proofs.«01_k».proof.Proof.LossFrame
public import proofs.«01_k».proof.Proof.LossReference
public import Idealize.ShloMosaic.Lib.Pipeline.ValueKit
public import Idealize.ShloMosaic.Lib.Claim

@[expose] public section
set_option maxRecDepth 16384
noncomputable section
namespace Cert.Kernel3Ideal.Loss
open Idealize.ShloMosaic Idealize.ShloMosaic.TcCoe Idealize.SL.Sem
open Idealize.ShloMosaic.Pipeline (Dat Window)
open Cert.Step Cert.Kernel3Ideal Cert.Kernel3Ideal.Gen

variable (m : (ℓ : Loc nD τ sig) → Buf (Elt Ideal) ℓ) (c : Dev nD)

/-- Rows of 1024 and of 2816 in the padded order, as the host lays them out. -/
def rows1024 (x : Vec Ideal S2064x1024 .f32) : Vec Ideal S2176x1024 .f32 :=
  concatenate S2176x1024 0 [⟨S2048x1024, extractStridedSlice S2048x1024 ![16, 0] x slices_S2064x1024_S2048x1024_16_0⟩,
    ⟨S16x1024, extractStridedSlice S16x1024 ![0, 0] x slices_S2064x1024_S16x1024_0_0⟩,
    ⟨S112x1024, broadcastInDim S112x1024 ![] bcast_S_S112x1024 (constant (F := Ideal) S_ .f32 0#32)⟩] concatenates_S2048x1024_S16x1024_S112x1024_S2176x1024_d0
def rows2816 (x : Vec Ideal S2064x2816 .f32) : Vec Ideal S2176x2816 .bf16 :=
  truncf (F := Ideal) .bf16 (concatenate S2176x2816 0 [⟨S2048x2816, extractStridedSlice S2048x2816 ![16, 0] x slices_S2064x2816_S2048x2816_16_0⟩,
    ⟨S16x2816, extractStridedSlice S16x2816 ![0, 0] x slices_S2064x2816_S16x2816_0_0⟩,
    ⟨S112x2816, broadcastInDim S112x2816 ![] bcast_S_S112x2816 (constant (F := Ideal) S_ .f32 0#32)⟩] concatenates_S2048x2816_S16x2816_S112x2816_S2176x2816_d0) (by decide)

theorem entry_f : V m c main_v4 = rows2816 (m ((c : Thread nD τ).loc main_arg0)) := by
  unfold V rows2816; after_results; rfl
theorem entry_h : V m c main_v9 = rows1024 (m ((c : Thread nD τ).loc main_arg2)) := by
  unfold V rows1024; after_results; rfl

/-- The call's data, from the arrays of one device. -/
def W : Step.Loss := .weights (m ((c : Thread nD τ).loc main_arg1)) (m ((c : Thread nD τ).loc main_arg4))
def rows : Fin 2064 → LossRow := Step.Loss.row (m ((c : Thread nD τ).loc main_arg0)) (m ((c : Thread nD τ).loc main_arg2))
  (m ((c : Thread nD τ).loc main_arg3))
def row (P : ℕ) : LossRow := padRow (rows m c) P

theorem row_live (P : ℕ) : (row m c P).live = decide (P < 2048) := by
  unfold row padRow
  split_ifs with h h'
  · simp [rows, Step.Loss.row, h]
  · simp [rows, Step.Loss.row, h]; omega
  · exact (decide_eq_false h).symm

theorem row_y (P : ℕ) (h : P < 2048) (d : Fin 1024) : (row m c P).y d = m ((c : Thread nD τ).loc main_arg3) (ix2 ⟨P, h⟩ d) := by
  unfold row padRow
  rw [dif_pos h]
  show dite (16 ≤ 16 + P) _ _ = _
  rw [dif_pos (Nat.le_add_right 16 P)]
  congr 2
  exact Fin.ext (Nat.add_sub_cancel_left 16 P)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] := (by decide +kernel : ∀ t : Fin grid0.N, _)

variable (t : Fin cfg0.N)

theorem blk_f (p : Fin 544) (k : Fin 2816) : iblk m c 0 t (ix2 p k) = (row m c (544 * t.val + p.val)).f k := by
  have ht : t.val < 4 := lt_of_lt_of_eq t.isLt N_0
  have e : iblk m c 0 t (ix2 p k) = rows2816 (m ((c : Thread nD τ).loc main_arg0)) (ix2 ⟨544 * t.val + p.val, by omega⟩ k) := by
    rw [← entry_f]
    blk_ext [iblk, idx t]
  rw [e]
  pointwise [rows2816]
  exact (padRow_map (rows m c) _ (fun R : LossRow => R.f k) rfl).symm

theorem blk_h (p : Fin 544) (d : Fin 1024) : iblk m c 2 t (ix2 p d) = (row m c (544 * t.val + p.val)).h d := by
  have ht : t.val < 4 := lt_of_lt_of_eq t.isLt N_0
  have e : iblk m c 2 t (ix2 p d) = rows1024 (m ((c : Thread nD τ).loc main_arg2)) (ix2 ⟨544 * t.val + p.val, by omega⟩ d) := by
    rw [← entry_h]
    blk_ext [iblk, idx t]
  rw [e]
  pointwise [rows1024]
  exact (padRow_map (rows m c) _ (fun R : LossRow => R.h d) rfl).symm

theorem blk_w (k : Fin 2816) (d : Fin 1024) : iblk m c 1 t (ix2 k d) = (W m c).w k d := by
  blk_point [iblk, V, idx t]
theorem blk_g (d : Fin 1024) : iblk m c 4 t (ix2 0 d) = (W m c).g d := by
  blk_point [iblk, V, idx t]

theorem point (t : Fin cfg0.N) : (grid0.coords t 0).val = t.val := by
  have ht : t.val < 4 := lt_of_lt_of_eq t.isLt N_0
  have e0 : (grid0.coords t 0).val = t.val / 1 % 4 := Pipeline.Grid.coords_val t 0 (by decide) rfl
  omega

theorem blk_y (p : Fin 544) (d : Fin 1024) (h : 544 * t.val + p.val < 2048) : tgt m c t (ix2 p d) = (row m c (544 * t.val + p.val)).y d := by
  rw [row_y m c _ h]
  unfold tgt Window.fill
  rw [dif_pos (moved_rows t p d (by rw [point]; exact h))]
  blk_ext [iblk, V, idx t]

/-! ## A half of a block -/

/-- What a half of a block reads: its rows from `q` of the padded order, the weights and the gain. -/
structure Part (W : Step.Loss) (R : Fin 272 → LossRow) (q : ℕ) (f : Vec Ideal S272x2816 .bf16) (w : Vec Ideal S2816x1024 .bf16)
    (h y : Vec Ideal S272x1024 .f32) (g : Vec Ideal S1x1024 .f32) : Prop where
  f : ∀ p k, f (ix2 p k) = (R p).f k
  w : ∀ k d, w (ix2 k d) = W.w k d
  h : ∀ p d, h (ix2 p d) = (R p).h d
  y : ∀ p d, q + p.val < 2048 → y (ix2 p d) = (R p).y d
  g : ∀ d, g (ix2 0 d) = W.g d
  live : ∀ p, (R p).live = decide (q + p.val < 2048)

theorem word_scale : Ideal.ofBits FTy.f32 0x3A800000#32 = ((1 / 1024 : ℝ) : EReal) := by
  simp [Ideal.ofBits, Ideal.ieee, -EReal.coe_mul]; norm_num
theorem word_mean : Ideal.ofBits FTy.f32 0x3A000000#32 = ((1 / 2048 : ℝ) : EReal) := by
  simp [Ideal.ofBits, Ideal.ieee, -EReal.coe_mul]; norm_num

section
variable {W : Step.Loss} {R : Fin 272 → LossRow} {i : grid0.Coords} {o : ℕ} {f : Vec Ideal S272x2816 .bf16} {w : Vec Ideal S2816x1024 .bf16}
  {h y : Vec Ideal S272x1024 .f32} {g : Vec Ideal S1x1024 .f32} (p : Fin 272) (d : Fin 1024) (v : Vec Ideal S1x1024 .f32) (s : Vec Ideal S8x128 .f32)

theorem err_of {q : ℕ} (A : Part W R q f w h y g) {u : EReal} (hu : u = unit (W.ff (R p)) d) :
    (if q + p.val < 2048 then FloatOps.subf (F := Ideal) (FloatOps.addf (h (ix2 p d)) (FloatOps.mulf (F := Ideal) (φ := .f32) u (g (ix2 0 d)))) (y (ix2 p d))
      else Scalar.ofBits .f32 0#32) = W.err (R p) d := by
  unfold Step.Loss.err
  rw [A.live]
  by_cases hq : q + p.val < 2048
  · rw [if_pos hq, if_pos (decide_eq_true hq), A.y p d hq, A.h, A.g, hu]; rfl
  · rw [if_neg hq, if_neg (by simpa using hq)]; exact Ideal.ofBits_zero _

section
variable (A : Part W R (544 * (i 0).val + 0) f w h y g)
include A
theorem first_ff : k0_pay6 (F := Ideal) f w (ix2 p d) = W.ff (R p) d := by
  pointwise [k0_pay6]
  simp only [A.f, A.w]; rfl
theorem first_rms : k0_pay7 (F := Ideal) f w (ix2 p (0 : Fin 1)) = rms (W.ff (R p)) := by
  pointwise [k0_pay7]
  simp only [first_ff (i := i) _ _ A, word_1024, word_rmsEps]; rfl
theorem first_unit : k0_pay8 (F := Ideal) f w (ix2 p d) = unit (W.ff (R p)) d := by
  pointwise [k0_pay8]
  rw [first_rms (i := i) _ A, first_ff (i := i) _ _ A]; rfl
theorem first_err : k0_pay9 (F := Ideal) i g f w h y (ix2 p d) = W.err (R p) d :=
  (errU_at i g f w h y p d).trans (err_of p d A (first_unit (i := i) p d A))
theorem first_dh : k0_pay10 (F := Ideal) (k0_pay9 i g f w h y) (Ideal.ofBits FTy.f32 0x3A800000#32) (ix2 p d) = W.dh (R p) d := by
  pointwise [k0_pay10]
  rw [first_err p d A, word_scale]; rfl
theorem first_dff : k0_pay11 (F := Ideal) g (k0_pay7 f w) (k0_pay8 f w) (k0_pay9 i g f w h y) scale (ix2 p d) = W.dff (R p) d := by
  pointwise [k0_pay11]
  simp only [first_dh _ _ A, first_rms (i := i) _ A, first_unit (i := i) _ _ A, A.g, word_1024]; rfl
theorem first_sq (a : Fin 8) (b : Fin 128) : k0_pay12 (F := Ideal) (k0_pay9 i g f w h y) s (ix2 a b)
    = s (ix2 a b) + ∑ p, W.sq (R p) * ((1 / 2048 : ℝ) : EReal) := by
  pointwise [k0_pay12]
  simp only [first_err _ _ A, word_mean]
  rw [← sum_mul_pos _ (by norm_num)]
  exact congrArg _ (mul_comm _ _)
theorem first_dg : k0_pay13 (F := Ideal) (k0_pay8 f w) (k0_pay9 i g f w h y) scale v (ix2 (0 : Fin 1) d) = v (ix2 0 d) + ∑ p, W.dg (R p) d := by
  pointwise [k0_pay13]
  simp only [first_dh _ _ A, first_unit (i := i) _ _ A]; rfl
end

section
variable (A : Part W R (544 * (i 0).val + 272) f w h y g)
include A
theorem second_ff : k0_pay14 (F := Ideal) f w (ix2 p d) = W.ff (R p) d := by
  pointwise [k0_pay14]
  simp only [A.f, A.w]; rfl
theorem second_rms : k0_pay15 (F := Ideal) f w (ix2 p (0 : Fin 1)) = rms (W.ff (R p)) := by
  pointwise [k0_pay15]
  simp only [second_ff (i := i) _ _ A, word_1024, word_rmsEps]; rfl
theorem second_unit : k0_pay16 (F := Ideal) f w (ix2 p d) = unit (W.ff (R p)) d := by
  pointwise [k0_pay16]
  rw [second_rms (i := i) _ A, second_ff (i := i) _ _ A]; rfl
theorem second_err : k0_pay17 (F := Ideal) (BitVec.ofNat 32 (i 0).val) g f w h y (ix2 p d) = W.err (R p) d := by
  refine (errL_at i g f w h y p d).trans ?_
  rw [← add_assoc]
  exact err_of p d A (second_unit (i := i) p d A)
theorem second_dh : k0_pay18 (F := Ideal) (BitVec.ofNat 32 (i 0).val) g f w h y (ix2 p d) = W.dh (R p) d := by
  pointwise [k0_pay18]
  rw [second_err p d A, word_scale]; rfl
theorem second_dff : k0_pay1 (F := Ideal) (k0_pay15 f w) (k0_pay16 f w) (k0_pay19 (BitVec.ofNat 32 (i 0).val) g f w h y)
    (k0_pay20 (BitVec.ofNat 32 (i 0).val) g f w h y) (ix2 p d) = W.dff (R p) d := by
  pointwise [k0_pay1, k0_pay20, k0_pay19]
  simp only [second_dh _ _ A, second_rms (i := i) _ A, second_unit (i := i) _ _ A, A.g, word_1024]; rfl
theorem second_sq (a : Fin 8) (b : Fin 128) : k0_pay2 (F := Ideal) (k0_pay17 (BitVec.ofNat 32 (i 0).val) g f w h y) s (ix2 a b)
    = s (ix2 a b) + ∑ p, W.sq (R p) * ((1 / 2048 : ℝ) : EReal) := by
  pointwise [k0_pay2]
  simp only [second_err _ _ A, word_mean]
  rw [← sum_mul_pos _ (by norm_num)]
  exact congrArg _ (mul_comm _ _)
theorem second_dg : k0_pay3 (F := Ideal) (k0_pay16 f w) (k0_pay18 (BitVec.ofNat 32 (i 0).val) g f w h y) v (ix2 (0 : Fin 1) d)
    = v (ix2 0 d) + ∑ p, W.dg (R p) d := by
  pointwise [k0_pay3]
  simp only [second_dh _ _ A, second_unit (i := i) _ _ A]; rfl
end
end

theorem first_part : Part (W m c) (fun p => row m c (544 * t.val + 0 + p.val)) (544 * (grid0.coords t 0).val + 0) (upper (iblk m c 0 t)) (iblk m c 1 t)
    (upper (iblk m c 2 t)) (upper (tgt m c t)) (iblk m c 4 t) where
  f p k := (blk_f m c t ⟨0 + p.val, by omega⟩ k).trans (by rw [add_assoc])
  w := blk_w m c t
  h p d := (blk_h m c t ⟨0 + p.val, by omega⟩ d).trans (by rw [add_assoc])
  y p d h := (blk_y m c t ⟨0 + p.val, by omega⟩ d (by rw [point] at h; simpa only [add_assoc] using h)).trans (by rw [add_assoc])
  g := blk_g m c t
  live p := (row_live m c _).trans (by rw [point])

theorem second_part : Part (W m c) (fun p => row m c (544 * t.val + 272 + p.val)) (544 * (grid0.coords t 0).val + 272) (lower (iblk m c 0 t)) (iblk m c 1 t)
    (lower (iblk m c 2 t)) (lower (tgt m c t)) (iblk m c 4 t) where
  f p k := (blk_f m c t ⟨272 + p.val, by omega⟩ k).trans (by rw [add_assoc])
  w := blk_w m c t
  h p d := (blk_h m c t ⟨272 + p.val, by omega⟩ d).trans (by rw [add_assoc])
  y p d h := (blk_y m c t ⟨272 + p.val, by omega⟩ d (by rw [point] at h; simpa only [add_assoc] using h)).trans (by rw [add_assoc])
  g := blk_g m c t
  live p := (row_live m c _).trans (by rw [point])

/-! ## The arrays after the run -/

/-- The four results. -/
def dff : Vec Ideal S2176x1024 .bf16 := fun i => (W m c).dff (row m c (i 0).val) (i 1)
def dh : Vec Ideal S2176x1024 .f32 := fun i => (W m c).dh (row m c (i 0).val) (i 1)
def loss : Vec Ideal S8x128 .f32 := fun _ => (W m c).total (rows m c)
def dg : Vec Ideal S1x1024 .f32 := fun i => ∑ r, (W m c).dg (rows m c r) (i 1)

/-- A block whose halves hold the rows' values holds them. -/
theorem stacked (G : LossRow → Fin 1024 → EReal) (a b : S272x1024.Idx → EReal)
    (ha : ∀ p d, a (ix2 p d) = G (row m c (544 * t.val + 0 + p.val)) d) (hb : ∀ p d, b (ix2 p d) = G (row m c (544 * t.val + 272 + p.val)) d)
    (u : S544x1024.Idx) (y : S2176x1024.Idx) (h0 : (y 0).val = 544 * t.val + (u 0).val) (h1 : (y 1).val = (u 1).val) :
    stack a b u = G (row m c (y 0).val) (y 1) := by
  unfold stack
  split
  · rename_i h
    exact lands (row m c) G a (544 * t.val + 0) ha (ix2 ⟨(u 0).val, h⟩ (u 1)) y (by simpa using h0) h1
  · rename_i h
    have hu : (u 0).val < 544 := (u 0).isLt
    exact lands (row m c) G b (544 * t.val + 272) hb (ix2 ⟨(u 0).val - 272, by omega⟩ (u 1)) y
      (by show (y 0).val = 544 * t.val + 272 + ((u 0).val - 272); omega) h1

theorem final_dff : (dats m 0 c).arrAt 5 (cfgs 0).N = dff m c := by
  refine (dats m 0 c).arrAt_eq_of_covers 5 _ (by decide +kernel) fun t hf y => ?_
  blk_simp
  show dffOf (grid0.coords t) (iblk m c 0 t) (iblk m c 1 t) (iblk m c 2 t) (tgt m c t) (iblk m c 4 t) y = _
  unfold dffOf errU
  have ha := fun p d => first_dff p d (first_part m c t)
  have hb := fun p d => second_dff p d (second_part m c t)
  refine (stacked m c t (W m c).dff _ _ ha hb y (((View.whole main_v10_0).slice (win0_5.rect t)).emb y) ?_ ?_).trans ?_
  · blk_simp [idx t]; omega
  · blk_simp [idx t]
  · rfl

theorem final_dh : (dats m 0 c).arrAt 6 (cfgs 0).N = dh m c := by
  refine (dats m 0 c).arrAt_eq_of_covers 6 _ (by decide +kernel) fun t hf y => ?_
  blk_simp
  show dhOf (grid0.coords t) (iblk m c 0 t) (iblk m c 1 t) (iblk m c 2 t) (tgt m c t) (iblk m c 4 t) y = _
  unfold dhOf
  exact stacked m c t (W m c).dh _ _ (fun p d => first_dh p d (first_part m c t)) (fun p d => second_dh p d (second_part m c t)) _ _
    (by blk_simp [idx t]; omega) (by blk_simp [idx t])

/-- A value that starts at zero and grows by a term at each point is the terms' sum. -/
theorem grown (S : ℕ → EReal) (T : ℕ → EReal) (h0 : S 0 = 0) (hs : ∀ t : Fin cfg0.N, S (t.val + 1) = S t.val + T t.val) :
    S 4 = ∑ t : Fin 4, T t.val := by
  have e (k : ℕ) (hk : k < 4) : S (k + 1) = S k + T k := hs ⟨k, lt_of_lt_of_eq hk N_0.symm⟩
  rw [e 3 (by decide), e 2 (by decide), e 1 (by decide), e 0 (by decide), h0, Fin.sum_univ_four, zero_add]
  rfl

theorem sums_loss (a : Fin 8) (b : Fin 128) : (sums m c 4).1 (ix2 a b) = (W m c).total (rows m c) := by
  refine (grown (fun n => (sums m c n).1 (ix2 a b)) (fun n => (∑ p : Fin 272, (W m c).sq (row m c (544 * n + 0 + p.val)) * ((1 / 2048 : ℝ) : EReal))
    + ∑ p : Fin 272, (W m c).sq (row m c (544 * n + 272 + p.val)) * ((1 / 2048 : ℝ) : EReal)) ?_ fun t => ?_).trans ?_
  · show k0_pay4 (F := Ideal) (ix2 a b) = _
    pointwise [k0_pay4]
  · rw [sums_succ]
    exact (second_sq _ (second_part m c t) a b).trans (by rw [← add_assoc]; exact congrArg (· + _) (first_sq _ (first_part m c t) a b))
  · refine (sum_padded (rows m c) (fun R => (W m c).sq R * ((1 / 2048 : ℝ) : EReal)) (by rw [Step.Loss.sq_zero, zero_mul])).trans ?_
    exact (sum_mul_pos _ (by norm_num)).symm

theorem sums_dg (d : Fin 1024) : (sums m c 4).2 (ix2 (0 : Fin 1) d) = ∑ r, (W m c).dg (rows m c r) d := by
  refine (grown (fun n => (sums m c n).2 (ix2 (0 : Fin 1) d)) (fun n => (∑ p : Fin 272, (W m c).dg (row m c (544 * n + 0 + p.val)) d)
    + ∑ p : Fin 272, (W m c).dg (row m c (544 * n + 272 + p.val)) d) ?_ fun t => ?_).trans ?_
  · show k0_pay5 (F := Ideal) (ix2 (0 : Fin 1) d) = _
    pointwise [k0_pay5]
  · rw [sums_succ]
    exact (second_dg d _ (second_part m c t)).trans (by rw [← add_assoc]; exact congrArg (· + _) (first_dg d _ (first_part m c t)))
  · exact sum_padded (rows m c) (fun R => (W m c).dg R d) (Step.Loss.dg_zero _ _)

theorem final_loss : (dats m 0 c).arrAt 7 (cfgs 0).N = loss m c := by
  refine (dats m 0 c).arrAt_eq_of_after_last 7 t0_3 (by decide +kernel) _ fun j => ?_
  blk_simp
  show (sums m c 4).1 _ = _
  exact (congrArg _ (eq_ix2 _)).trans (sums_loss m c _ _)

theorem final_dg : (dats m 0 c).arrAt 8 (cfgs 0).N = dg m c := by
  refine (dats m 0 c).arrAt_eq_of_after_last 8 t0_3 (by decide +kernel) _ fun j => ?_
  blk_simp
  show (sums m c 4).2 _ = _
  obtain ⟨i, rfl⟩ : ∃ i : Fin 1024, j = ix2 (0 : Fin 1) i := ⟨j 1, by rw [eq_ix2 j]; congr 1; exact Subsingleton.elim _ _⟩
  exact sums_dg m c i

end Cert.Kernel3Ideal.Loss
-- ==== Proof.Loss.lean ====
/- The loss and the feed-forward exit: both kernels' frames from the one run, and the four results. -/
module
public import proofs.«01_k».proof.Defs
public import proofs.«01_k».proof.Proof.Gen.Kernel3
public import proofs.«01_k».proof.Proof.LossKernel
public import proofs.«01_k».proof.Proof.Gen.Reference3Ideal.Run

@[expose] public section
set_option maxRecDepth 16384
noncomputable section
namespace Cert.Proof
open Idealize.ShloMosaic Idealize.ShloMosaic.TcCoe Idealize.SL.Sem

/-- The two programs of the kernel run alike on bits. -/
theorem loss_same (m : (ℓ : Loc Cert.Kernel3.nD Cert.Kernel3.τ Cert.Kernel3.sig) → Buf (Elt Bits) ℓ) (ρ : Dev Cert.Kernel3.nD → PrngReg) :
    letI := Cert.Kernel3.Gen.facts; letI := Cert.Kernel3Ideal.Gen.facts
    ∀ Q, θ_run (Cert.Kernel3.defs (F := Bits)) (onTc (τ := Cert.Kernel3.τ) (Cert.Kernel3.main (F := Bits))) ⟨m, fun _ => 0, ρ⟩ Q
      = θ_run (Cert.Kernel3Ideal.defs (F := Bits)) (onTc (τ := Cert.Kernel3Ideal.τ) (Cert.Kernel3Ideal.main (F := Bits))) ⟨m, fun _ => 0, ρ⟩ Q := by
  intros
  sl_kernel_rfl

theorem loss_frame : Cert.quiescent_Kernel3 := fun m ρ _ => by
  refine (loss_same m ρ _).mpr ?_
  exact (θ_run _ _ _).mono (fun r h => h) (Cert.Kernel3Ideal.Loss.frame (F := Bits) m ρ)

/-- The reference's frame: its run keeps the arguments, and it declares no semaphore. -/
theorem loss_reference : quiescent_Reference3Ideal := fun m g _ =>
  (θ_run Cert.Reference3Ideal.defs _ _).mono (fun r h => ⟨fun c => (h c).2.2.2.2, sem_eq_zero_of_no_sems (by decide) r.2⟩)
    (Cert.Reference3Ideal.Value.run m g)

theorem loss_value : algebraic_Kernel3Ideal_Reference3Ideal := by
  intro m g m' g' _ hagree
  refine ⟨fun c => Cert.Kernel3Ideal.Loss.dff m c, fun c => Cert.Kernel3Ideal.Loss.dh m c, fun c => Cert.Kernel3Ideal.Loss.loss m c,
    fun c => Cert.Kernel3Ideal.Loss.dg m c, (θ_run _ _ _).mono (fun r h c => ?_)
      (θ_run_and (Cert.Kernel3Ideal.Loss.run_main m g) (Cert.Kernel3Ideal.Loss.frame m g)),
    (θ_run _ _ _).mono (fun r h c => ?_) (Cert.Reference3Ideal.Value.run m' g')⟩
  · have hr := (h.1 c).1
    exact ⟨(hr 5).trans (Cert.Kernel3Ideal.Loss.final_dff m c), (hr 6).trans (Cert.Kernel3Ideal.Loss.final_dh m c),
      (hr 7).trans (Cert.Kernel3Ideal.Loss.final_loss m c), (hr 8).trans (Cert.Kernel3Ideal.Loss.final_dg m c), h.2.1 c⟩
  · obtain ⟨h0, h1, h2, h3, h⟩ := h c
    obtain ⟨a0, a1, a2, a3, a4⟩ := hagree c
    have hone (j : (⟨2, ![1, 1024]⟩ : Shape).Idx) : j = ix2 (0 : Fin 1) (j 1) := by
      rw [eq_ix2 j]; congr 1; exact Subsingleton.elim _ _
    unfold Cert.Kernel3Ideal.Loss.dff Cert.Kernel3Ideal.Loss.dh Cert.Kernel3Ideal.Loss.loss Cert.Kernel3Ideal.Loss.dg
      Cert.Kernel3Ideal.Loss.row Cert.Kernel3Ideal.Loss.rows Cert.Kernel3Ideal.Loss.W
    beta_reduce
    rw [← a0, ← a1, ← a2, ← a3, ← a4]
    refine ⟨h0.trans (funext fun j => ?_), h1.trans (funext fun j => ?_), h2.trans (funext fun j => ?_), h3.trans (funext fun j => ?_), h⟩
    · rw [Cert.Reference3Ideal.Read.val_main_v61_eq]
      exact (congrArg _ (eq_ix2 j)).trans (Cert.Reference3Ideal.Loss.out_dff _ _ _ _ _ (j 1) (j 0))
    · rw [Cert.Reference3Ideal.Read.val_main_v64_eq]
      exact (congrArg _ (eq_ix2 j)).trans (Cert.Reference3Ideal.Loss.out_dh _ _ _ _ _ (j 1) (j 0))
    · rw [Cert.Reference3Ideal.Read.val_main_v65_eq]
      exact (congrArg _ (eq_ix2 j)).trans (Cert.Reference3Ideal.Loss.out_loss _ _ _ _ _ (j 0) (j 1))
    · rw [Cert.Reference3Ideal.Read.val_main_v56_eq]
      exact (congrArg _ (hone j)).trans (Cert.Reference3Ideal.Loss.out_dg _ _ _ _ _ (j 1))

end Cert.Proof
-- ==== Proof.MmOutReference.lean ====
/- The end of the mixer in the forward pass: the second group's layer norm and activation, the output projection, and the
   norms on either side of the residual, row by row, and that the reference computes them. -/
module
public import proofs.«01_k».proof.Proof.Gen.Reference8Ideal.Read
public import proofs.«01_k».proof.Proof.RmsData

@[expose] public section
set_option maxRecDepth 16384
noncomputable section
namespace Cert.Step
open Idealize.ShloMosaic

/-- The call's weights: the projection, the layer norm's gain and bias, and the two norms' gains. -/
structure MmOut where
  w : Fin 1024 → Fin 1024 → EReal
  gain : Fin 512 → EReal
  bias : Fin 512 → EReal
  gm : Fin 1024 → EReal
  gf : Fin 1024 → EReal

/-- One row's values: the first group's output, the second group's before its norm, and the residual. -/
structure MmOutRow where
  y : Fin 512 → EReal
  z : Fin 512 → EReal
  h : Fin 1024 → EReal

instance : Zero MmOutRow := ⟨⟨0, 0, 0⟩⟩

namespace MmOut
variable (W : MmOut) (R : MmOutRow) (i : Fin 512) (d : Fin 1024)

/-- The row less its mean. -/
def dev : EReal := R.z i - Ideal.div (∑ i, R.z i) ((512 : ℝ) : EReal)
/-- One over the root of its variance. -/
def inv : EReal := Ideal.rsqrt (Ideal.div (∑ i, dev R i * dev R i) ((512 : ℝ) : EReal) + ((10995116 / 2 ^ 40 : ℝ) : EReal))
/-- The layer norm of the second group. -/
def line : EReal := dev R i * inv R * W.gain i + W.bias i
/-- The second group's output. -/
def act : EReal := W.line R i * sig (W.line R i)
/-- The projection of both groups. -/
def mix : EReal := (∑ i, R.y i * W.w (Fin.castAdd 512 i) d) + ∑ i, W.act R i * W.w (Fin.natAdd 512 i) d
/-- The residual. -/
def res : EReal := R.h d + unit (W.mix R) d * W.gm d
/-- The normalised residual. -/
def out : EReal := unit (W.res R) d * W.gf d

/-- The weights, from the arguments. -/
def weights (w : Vec Ideal ⟨2, ![1024, 1024]⟩ .f32) (g b : Vec Ideal ⟨2, ![1, 512]⟩ .f32) (gm gf : Vec Ideal ⟨2, ![1, 1024]⟩ .f32) : MmOut where
  w e d := w (ix2 e d)
  gain i := g (ix2 0 i)
  bias i := b (ix2 0 i)
  gm d := gm (ix2 0 d)
  gf d := gf (ix2 0 d)

/-- A row, from the arguments. -/
def row (y z : Vec Ideal ⟨2, ![2064, 512]⟩ .f32) (h : Vec Ideal ⟨2, ![2064, 1024]⟩ .f32) (r : Fin 2064) : MmOutRow where
  y i := y (ix2 r i)
  z i := z (ix2 r i)
  h d := h (ix2 r d)

end MmOut
end Cert.Step

namespace Cert.Reference8Ideal.MmOut
open Idealize.ShloMosaic Idealize.ShloMosaic.TcCoe Cert.Step
open Cert.Reference8Ideal Cert.Reference8Ideal.Read Cert.Reference8Ideal.Gen

variable (x0 x1 : Vec Ideal S2064x512 .f32) (x2 : Vec Ideal S2064x1024 .f32) (x3 : Vec Ideal S1024x1024 .f32) (x4 x5 : Vec Ideal S1x512 .f32)
  (x6 x7 : Vec Ideal S1x1024 .f32) (P : Fin 2176) (i : Fin 512) (j : Fin 1024)

/-- The data that the reference's arguments hold. -/
abbrev W : Step.MmOut := .weights x3 x4 x5 x6 x7
abbrev R : MmOutRow := padRow (Step.MmOut.row x0 x1 x2) P.val

theorem at_z : val_main_v3 (F := Ideal) x1 (ix2 P i) = (R x0 x1 x2 P).z i := by
  pointwise [val_main_v3, val_main_v2, val_main_v1, val_main_v0, val_main_cst]
  exact (padRow_map (Step.MmOut.row x0 x1 x2) P.val (fun R : MmOutRow => R.z i) rfl).symm

theorem at_y : val_main_v34 (F := Ideal) x0 (ix2 P i) = (R x0 x1 x2 P).y i := by
  pointwise [val_main_v34, val_main_v33, val_main_v32, val_main_v31, val_main_cst_5]
  exact (padRow_map (Step.MmOut.row x0 x1 x2) P.val (fun R : MmOutRow => R.y i) rfl).symm

theorem at_h : val_main_v40 (F := Ideal) x2 (ix2 P j) = (R x0 x1 x2 P).h j := by
  pointwise [val_main_v40, val_main_v39, val_main_v38, val_main_v37, val_main_cst_6]
  exact (padRow_map (Step.MmOut.row x0 x1 x2) P.val (fun R : MmOutRow => R.h j) rfl).symm

theorem at_dev : val_main_v11 (F := Ideal) x1 (ix2 P i) = Step.MmOut.dev (R x0 x1 x2 P) i := by
  pointwise [val_main_v11, val_main_v10, val_main_v9, val_main_v8, val_main_v7, val_main_v6, val_main_cst_0, val_main_cst_1]
  simp only [at_z x0 x1 x2, word_512]; rfl

theorem at_inv : val_main_v21 (F := Ideal) x1 (ix2 P (0 : Fin 1)) = Step.MmOut.inv (R x0 x1 x2 P) := by
  pointwise [val_main_v21, val_main_v20, val_main_v19, val_main_v16, val_main_v15, val_main_v14, val_main_v13, val_main_v12,
    val_main_cst_2, val_main_cst_3, val_main_cst_4]
  simp only [at_dev x0 x1 x2, word_512, word_lnEps]; rfl

theorem at_line : val_main_v29 (F := Ideal) x1 x4 x5 (ix2 P i) = (W x3 x4 x5 x6 x7).line (R x0 x1 x2 P) i := by
  have e : val_main_v18 (F := Ideal) x1 (ix2 P i) = val_main_v11 (F := Ideal) x1 (ix2 P i) := rfl
  pointwise [val_main_v29, val_main_v28, val_main_v27, val_main_v26, val_main_v25, val_main_v24, val_main_v23, val_main_v22, val_main_v5, val_main_v4]
  rw [e, at_dev x0 x1 x2, at_inv x0 x1 x2]; rfl

theorem at_act : val_main_v30 (F := Ideal) x1 x4 x5 (ix2 P i) = (W x3 x4 x5 x6 x7).act (R x0 x1 x2 P) i := by
  pointwise [val_main_v30, val_main_call0_v5, val_main_call0_v4, val_main_call0_v3, val_main_call0_v2, val_main_call0_v1, val_main_call0_v0,
    val_main_call0_cst, val_main_call0_cst_0]
  simp only [at_line x0 x1 x2 x3 x4 x5 x6 x7]; rfl

theorem at_mix : val_main_v36 (F := Ideal) x0 x1 x3 x4 x5 (ix2 P j) = (W x3 x4 x5 x6 x7).mix (R x0 x1 x2 P) j := by
  pointwise [val_main_v36, val_main_v35]
  simp only [at_y x0 x1 x2, at_act x0 x1 x2 x3 x4 x5 x6 x7]
  rfl

theorem at_rms : val_main_v49 (F := Ideal) x0 x1 x3 x4 x5 (ix2 P (0 : Fin 1)) = rms ((W x3 x4 x5 x6 x7).mix (R x0 x1 x2 P)) := by
  pointwise [val_main_v49, val_main_v48, val_main_v47, val_main_v46, val_main_v45, val_main_v44, val_main_v43, val_main_v42,
    val_main_cst_7, val_main_cst_8, val_main_cst_9]
  simp only [at_mix x0 x1 x2 x3 x4 x5 x6 x7, word_1024, word_rmsEps]; rfl

theorem at_res : val_main_v55 (F := Ideal) x0 x1 x2 x3 x4 x5 x6 (ix2 P j) = (W x3 x4 x5 x6 x7).res (R x0 x1 x2 P) j := by
  pointwise [val_main_v55, val_main_v54, val_main_v53, val_main_v52, val_main_v51, val_main_v50, val_main_v41]
  rw [at_mix x0 x1 x2 x3 x4 x5 x6 x7, at_rms x0 x1 x2 x3 x4 x5 x6 x7, at_h x0 x1 x2]; rfl

theorem at_res_rms : val_main_v65 (F := Ideal) x0 x1 x2 x3 x4 x5 x6 (ix2 P (0 : Fin 1)) = rms ((W x3 x4 x5 x6 x7).res (R x0 x1 x2 P)) := by
  pointwise [val_main_v65, val_main_v64, val_main_v63, val_main_v62, val_main_v61, val_main_v60, val_main_v59, val_main_v58,
    val_main_cst_10, val_main_cst_11, val_main_cst_12]
  simp only [at_res x0 x1 x2 x3 x4 x5 x6 x7, word_1024, word_rmsEps]; rfl

theorem out_act : val_main_v56 (F := Ideal) x1 x4 x5 (ix2 P i) = (W x3 x4 x5 x6 x7).act (R x0 x1 x2 P) i := by
  pointwise [val_main_v56]
  exact at_act x0 x1 x2 x3 x4 x5 x6 x7 P i

theorem out_norm : val_main_v71 (F := Ideal) x0 x1 x2 x3 x4 x5 x6 x7 (ix2 P j) = (W x3 x4 x5 x6 x7).out (R x0 x1 x2 P) j := by
  pointwise [val_main_v71, val_main_v70, val_main_v69, val_main_v68, val_main_v67, val_main_v66, val_main_v57]
  rw [at_res, at_res_rms]; rfl

end Cert.Reference8Ideal.MmOut
-- ==== Proof.MmOutKernel.lean ====
/- The end of the mixer in the forward pass, in the kernel: what its blocks hold, what one part of a block computes, and the
   four output arrays after the run. -/
module
public import proofs.«01_k».proof.Proof.Gen.Kernel8Ideal.Value
public import proofs.«01_k».proof.Proof.MmOutReference
public import Idealize.ShloMosaic.Lib.Pipeline.ValueKit
public import Idealize.ShloMosaic.Lib.Claim

@[expose] public section
set_option maxRecDepth 16384
noncomputable section
namespace Cert.Kernel8Ideal.MmOut
open Idealize.ShloMosaic Idealize.ShloMosaic.TcCoe Idealize.SL.Sem
open Idealize.ShloMosaic.Pipeline (Dat)
open Cert.Step Cert.Kernel8Ideal Cert.Kernel8Ideal.Gen

variable (m : (ℓ : Loc nD τ sig) → Buf (Elt Ideal) ℓ) (c : Dev nD)

/-- Rows of 512 and of 1024 in the padded order, as the host lays them out. -/
def rows512 (x : Vec Ideal S2064x512 .f32) : Vec Ideal S2176x512 .f32 :=
  concatenate S2176x512 0 [⟨S2048x512, extractStridedSlice S2048x512 ![16, 0] x slices_S2064x512_S2048x512_16_0⟩,
    ⟨S16x512, extractStridedSlice S16x512 ![0, 0] x slices_S2064x512_S16x512_0_0⟩,
    ⟨S112x512, broadcastInDim S112x512 ![] bcast_S_S112x512 (constant (F := Ideal) S_ .f32 0#32)⟩] concatenates_S2048x512_S16x512_S112x512_S2176x512_d0
def rows1024 (x : Vec Ideal S2064x1024 .f32) : Vec Ideal S2176x1024 .f32 :=
  concatenate S2176x1024 0 [⟨S2048x1024, extractStridedSlice S2048x1024 ![16, 0] x slices_S2064x1024_S2048x1024_16_0⟩,
    ⟨S16x1024, extractStridedSlice S16x1024 ![0, 0] x slices_S2064x1024_S16x1024_0_0⟩,
    ⟨S112x1024, broadcastInDim S112x1024 ![] bcast_S_S112x1024 (constant (F := Ideal) S_ .f32 0#32)⟩] concatenates_S2048x1024_S16x1024_S112x1024_S2176x1024_d0

theorem entry_y : V m c main_v4 = truncf (F := Ideal) .bf16 (rows512 (m ((c : Thread nD τ).loc main_arg0))) bitsLt_bf16_f32 := by
  unfold V rows512; after_results; rfl
theorem entry_z : V m c main_v8 = rows512 (m ((c : Thread nD τ).loc main_arg1)) := by
  unfold V rows512; after_results; rfl
theorem entry_h : V m c main_v12 = rows1024 (m ((c : Thread nD τ).loc main_arg2)) := by
  unfold V rows1024; after_results; rfl

/-- The call's data, from the arrays of one device. -/
def W : Step.MmOut := .weights (m ((c : Thread nD τ).loc main_arg3)) (m ((c : Thread nD τ).loc main_arg4)) (m ((c : Thread nD τ).loc main_arg5))
  (m ((c : Thread nD τ).loc main_arg6)) (m ((c : Thread nD τ).loc main_arg7))
def rows : Fin 2064 → MmOutRow := Step.MmOut.row (m ((c : Thread nD τ).loc main_arg0)) (m ((c : Thread nD τ).loc main_arg1))
  (m ((c : Thread nD τ).loc main_arg2))
def row (P : ℕ) : MmOutRow := padRow (rows m c) P

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] := (by decide +kernel : ∀ t : Fin grid0.N, _)

variable (t : Fin cfg0.N)

theorem blk_y (p : Fin 544) (i : Fin 512) : iblk m c 0 t (ix2 p i) = (row m c (544 * t.val + p.val)).y i := by
  have ht : t.val < 4 := lt_of_lt_of_eq t.isLt N_0
  have e : iblk m c 0 t (ix2 p i) = rows512 (m ((c : Thread nD τ).loc main_arg0)) (ix2 ⟨544 * t.val + p.val, by omega⟩ i) := by
    refine Eq.trans ?_ (congrFun (entry_y m c) _)
    blk_ext [iblk, idx t]
  rw [e]
  pointwise [rows512]
  exact (padRow_map (rows m c) _ (fun R : MmOutRow => R.y i) rfl).symm

theorem blk_z (p : Fin 544) (i : Fin 512) : iblk m c 1 t (ix2 p i) = (row m c (544 * t.val + p.val)).z i := by
  have ht : t.val < 4 := lt_of_lt_of_eq t.isLt N_0
  have e : iblk m c 1 t (ix2 p i) = rows512 (m ((c : Thread nD τ).loc main_arg1)) (ix2 ⟨544 * t.val + p.val, by omega⟩ i) := by
    rw [← entry_z]
    blk_ext [iblk, idx t]
  rw [e]
  pointwise [rows512]
  exact (padRow_map (rows m c) _ (fun R : MmOutRow => R.z i) rfl).symm

theorem blk_h (p : Fin 544) (d : Fin 1024) : iblk m c 2 t (ix2 p d) = (row m c (544 * t.val + p.val)).h d := by
  have ht : t.val < 4 := lt_of_lt_of_eq t.isLt N_0
  have e : iblk m c 2 t (ix2 p d) = rows1024 (m ((c : Thread nD τ).loc main_arg2)) (ix2 ⟨544 * t.val + p.val, by omega⟩ d) := by
    rw [← entry_h]
    blk_ext [iblk, idx t]
  rw [e]
  pointwise [rows1024]
  exact (padRow_map (rows m c) _ (fun R : MmOutRow => R.h d) rfl).symm

theorem blk_w (e d : Fin 1024) : iblk m c 3 t (ix2 e d) = (W m c).w e d := by
  have h : V m c main_v13 = truncf (F := Ideal) .bf16 (m ((c : Thread nD τ).loc main_arg3)) bitsLt_bf16_f32 := by
    unfold V; after_results
  refine Eq.trans ?_ (congrFun h (ix2 e d))
  blk_ext [iblk, idx t]
theorem blk_gain (i : Fin 512) : iblk m c 4 t (ix2 0 i) = (W m c).gain i := by
  blk_point [iblk, V, idx t]
theorem blk_bias (i : Fin 512) : iblk m c 5 t (ix2 0 i) = (W m c).bias i := by
  blk_point [iblk, V, idx t]
theorem blk_gm (d : Fin 1024) : iblk m c 6 t (ix2 0 d) = (W m c).gm d := by
  blk_point [iblk, V, idx t]
theorem blk_gf (d : Fin 1024) : iblk m c 7 t (ix2 0 d) = (W m c).gf d := by
  blk_point [iblk, V, idx t]

/-! ## A part of a block -/

/-- What a part of a block reads: `n` rows, both halves of the projection and the norms' gains. -/
structure Part (W : Step.MmOut) {n : ℕ} (R : Fin n → MmOutRow) (y : Vec Ideal ⟨2, ![n, 512]⟩ .bf16) (z : Vec Ideal ⟨2, ![n, 512]⟩ .f32)
    (h : Vec Ideal ⟨2, ![n, 1024]⟩ .f32) (wa wb : Vec Ideal S512x1024 .bf16) (g b : Vec Ideal S1x512 .f32) (gm gf : Vec Ideal S1x1024 .f32) : Prop where
  y : ∀ p i, y (ix2 p i) = (R p).y i
  z : ∀ p i, z (ix2 p i) = (R p).z i
  h : ∀ p d, h (ix2 p d) = (R p).h d
  wa : ∀ i d, wa (ix2 i d) = W.w (Fin.castAdd 512 i) d
  wb : ∀ i d, wb (ix2 i d) = W.w (Fin.natAdd 512 i) d
  g : ∀ i, g (ix2 0 i) = W.gain i
  b : ∀ i, b (ix2 0 i) = W.bias i
  gm : ∀ d, gm (ix2 0 d) = W.gm d
  gf : ∀ d, gf (ix2 0 d) = W.gf d

section
variable {W : Step.MmOut} {R : Fin 192 → MmOutRow} {y : Vec Ideal S192x512 .bf16} {z : Vec Ideal S192x512 .f32} {h : Vec Ideal S192x1024 .f32}
  {wa wb : Vec Ideal S512x1024 .bf16} {g b : Vec Ideal S1x512 .f32} {gm gf : Vec Ideal S1x1024 .f32} (A : Part W R y z h wa wb g b gm gf)
  (p : Fin 192) (i : Fin 512) (d : Fin 1024)
include A

theorem first_act : k0_pay2 (F := Ideal) z g b (ix2 p i) = W.act (R p) i := by
  pointwise [k0_pay2]
  simp only [A.z, A.g, A.b, word_512, word_lnEps, zero_sub]; rfl
theorem first_mix : k0_pay5 (F := Ideal) (k0_pay2 z g b) (k0_pay3 y) (k0_pay4 wa) wb (ix2 p d) = W.mix (R p) d := by
  pointwise [k0_pay5, k0_pay3, k0_pay4]
  simp only [first_act A, A.y, A.wa, A.wb]; rfl
theorem first_res : k0_pay6 (F := Ideal) (k0_pay2 z g b) (k0_pay3 y) (k0_pay4 wa) wb h gm (ix2 p d) = W.res (R p) d := by
  pointwise [k0_pay6]
  simp only [first_mix A, A.h, A.gm, word_1024, word_rmsEps]; rfl
theorem first_out : k0_pay7 (F := Ideal) (k0_pay2 z g b) (k0_pay3 y) (k0_pay4 wa) wb h gm gf (ix2 p d) = W.out (R p) d := by
  pointwise [k0_pay7]
  simp only [first_res A, A.gf, word_1024, word_rmsEps]; rfl
end

section
variable {W : Step.MmOut} {R : Fin 176 → MmOutRow} {y : Vec Ideal S176x512 .bf16} {z : Vec Ideal S176x512 .f32} {h : Vec Ideal S176x1024 .f32}
  {wa wb : Vec Ideal S512x1024 .bf16} {g b : Vec Ideal S1x512 .f32} {gm gf : Vec Ideal S1x1024 .f32} (A : Part W R y z h wa wb g b gm gf)
  (p : Fin 176) (i : Fin 512) (d : Fin 1024)
include A

theorem second_act : k0_pay8 (F := Ideal) z g b (ix2 p i) = W.act (R p) i := by
  pointwise [k0_pay8]
  simp only [A.z, A.g, A.b, word_512, word_lnEps, zero_sub]; rfl
theorem second_mix : k0_pay10 (F := Ideal) (k0_pay8 z g b) (k0_pay9 y) wa wb (ix2 p d) = W.mix (R p) d := by
  pointwise [k0_pay10, k0_pay9]
  simp only [second_act A, A.y, A.wa, A.wb]; rfl
theorem second_res : k0_pay11 (F := Ideal) (k0_pay8 z g b) (k0_pay9 y) wa wb h gm (ix2 p d) = W.res (R p) d := by
  pointwise [k0_pay11]
  simp only [second_mix A, A.h, A.gm, word_1024, word_rmsEps]; rfl
theorem second_out : k0_pay13 (F := Ideal) (k0_pay12 (k0_pay8 z g b) (k0_pay9 y) wa wb h gm gf) (ix2 p d) = W.out (R p) d := by
  pointwise [k0_pay13, k0_pay12]
  simp only [second_res A, A.gf, word_1024, word_rmsEps]; rfl
end

section
variable {W : Step.MmOut} {R : Fin 176 → MmOutRow} {y : Vec Ideal S176x512 .bf16} {z : Vec Ideal S176x512 .f32} {h : Vec Ideal S176x1024 .f32}
  {wa wb : Vec Ideal S512x1024 .bf16} {g b : Vec Ideal S1x512 .f32} {gm gf : Vec Ideal S1x1024 .f32} (A : Part W R y z h wa wb g b gm gf)
  (p : Fin 176) (i : Fin 512) (d : Fin 1024)
include A

theorem third_act : k0_pay14 (F := Ideal) z g b (ix2 p i) = W.act (R p) i := by
  pointwise [k0_pay14]
  simp only [A.z, A.g, A.b, word_512, word_lnEps, zero_sub]; rfl
theorem third_mix : k0_pay16 (F := Ideal) (k0_pay14 z g b) (k0_pay15 y) wa wb (ix2 p d) = W.mix (R p) d := by
  pointwise [k0_pay16, k0_pay15]
  simp only [third_act A, A.y, A.wa, A.wb]; rfl
theorem third_res : k0_pay17 (F := Ideal) (k0_pay14 z g b) (k0_pay15 y) wa wb h gm (ix2 p d) = W.res (R p) d := by
  pointwise [k0_pay17]
  simp only [third_mix A, A.h, A.gm, word_1024, word_rmsEps]; rfl
theorem third_out : k0_pay1 (F := Ideal) (k0_pay18 (k0_pay14 z g b) (k0_pay15 y) wa wb h gm) gf (ix2 p d) = W.out (R p) d := by
  pointwise [k0_pay1, k0_pay18]
  simp only [third_res A, A.gf, word_1024, word_rmsEps]; rfl
end

abbrev firstA {φ : EltTy} (v : Vec Ideal S544x512 φ) : Vec Ideal S192x512 φ := View.ld v (Rect.unit ![0, 0] ![192, 512] inb_S544x512_S192x512_0_0)
theorem firstA_at {φ : EltTy} (v : Vec Ideal S544x512 φ) (p : Fin 192) (k : Fin 512) : firstA v (ix2 p k) = v (ix2 (⟨0 + p.val, by omega⟩ : Fin 544) k) := by
  pointwise [firstA]
abbrev first (v : Vec Ideal S544x1024 .f32) : Vec Ideal S192x1024 .f32 := View.ld v (Rect.unit ![0, 0] ![192, 1024] inb_S544x1024_S192x1024_0_0)
theorem first_at (v) (p : Fin 192) (k : Fin 1024) : first v (ix2 p k) = v (ix2 (⟨0 + p.val, by omega⟩ : Fin 544) k) := by
  pointwise [first]
abbrev secondA {φ : EltTy} (v : Vec Ideal S544x512 φ) : Vec Ideal S176x512 φ := View.ld v (Rect.unit ![192, 0] ![176, 512] inb_S544x512_S176x512_192_0)
theorem secondA_at {φ : EltTy} (v : Vec Ideal S544x512 φ) (p : Fin 176) (k : Fin 512) : secondA v (ix2 p k) = v (ix2 (⟨192 + p.val, by omega⟩ : Fin 544) k) := by
  pointwise [secondA]
abbrev second (v : Vec Ideal S544x1024 .f32) : Vec Ideal S176x1024 .f32 := View.ld v (Rect.unit ![192, 0] ![176, 1024] inb_S544x1024_S176x1024_192_0)
theorem second_at (v) (p : Fin 176) (k : Fin 1024) : second v (ix2 p k) = v (ix2 (⟨192 + p.val, by omega⟩ : Fin 544) k) := by
  pointwise [second]
abbrev thirdA {φ : EltTy} (v : Vec Ideal S544x512 φ) : Vec Ideal S176x512 φ := View.ld v (Rect.unit ![368, 0] ![176, 512] inb_S544x512_S176x512_368_0)
theorem thirdA_at {φ : EltTy} (v : Vec Ideal S544x512 φ) (p : Fin 176) (k : Fin 512) : thirdA v (ix2 p k) = v (ix2 (⟨368 + p.val, by omega⟩ : Fin 544) k) := by
  pointwise [thirdA]
abbrev third (v : Vec Ideal S544x1024 .f32) : Vec Ideal S176x1024 .f32 := View.ld v (Rect.unit ![368, 0] ![176, 1024] inb_S544x1024_S176x1024_368_0)
theorem third_at (v) (p : Fin 176) (k : Fin 1024) : third v (ix2 p k) = v (ix2 (⟨368 + p.val, by omega⟩ : Fin 544) k) := by
  pointwise [third]
abbrev upper (v : Vec Ideal S1024x1024 .bf16) : Vec Ideal S512x1024 .bf16 := View.ld v (Rect.unit ![0, 0] ![512, 1024] inb_S1024x1024_S512x1024_0_0)
theorem upper_at (v) (i : Fin 512) (k : Fin 1024) : upper v (ix2 i k) = v (ix2 (Fin.castAdd 512 i : Fin 1024) k) := by
  pointwise [upper]
  rfl
abbrev lower (v : Vec Ideal S1024x1024 .bf16) : Vec Ideal S512x1024 .bf16 := View.ld v (Rect.unit ![512, 0] ![512, 1024] inb_S1024x1024_S512x1024_512_0)
theorem lower_at (v) (i : Fin 512) (k : Fin 1024) : lower v (ix2 i k) = v (ix2 (Fin.natAdd 512 i : Fin 1024) k) := by
  pointwise [lower]
  rfl

theorem first_part : Part (W m c) (fun p : Fin 192 => row m c (544 * t.val + 0 + p.val)) (firstA (iblk m c 0 t)) (firstA (iblk m c 1 t))
    (first (iblk m c 2 t)) (upper (iblk m c 3 t)) (lower (iblk m c 3 t)) (iblk m c 4 t) (iblk m c 5 t) (iblk m c 6 t) (iblk m c 7 t) where
  y p i := (firstA_at _ p i).trans (by rw [add_assoc]; exact blk_y m c t _ i)
  z p i := (firstA_at _ p i).trans (by rw [add_assoc]; exact blk_z m c t _ i)
  h p d := (first_at _ p d).trans (by rw [add_assoc]; exact blk_h m c t _ d)
  wa i d := (upper_at _ i d).trans (blk_w m c t _ d)
  wb i d := (lower_at _ i d).trans (blk_w m c t _ d)
  g := blk_gain m c t
  b := blk_bias m c t
  gm := blk_gm m c t
  gf := blk_gf m c t

theorem second_part : Part (W m c) (fun p : Fin 176 => row m c (544 * t.val + 192 + p.val)) (secondA (iblk m c 0 t)) (secondA (iblk m c 1 t))
    (second (iblk m c 2 t)) (upper (iblk m c 3 t)) (lower (iblk m c 3 t)) (iblk m c 4 t) (iblk m c 5 t) (iblk m c 6 t) (iblk m c 7 t) where
  y p i := (secondA_at _ p i).trans (by rw [add_assoc]; exact blk_y m c t _ i)
  z p i := (secondA_at _ p i).trans (by rw [add_assoc]; exact blk_z m c t _ i)
  h p d := (second_at _ p d).trans (by rw [add_assoc]; exact blk_h m c t _ d)
  wa i d := (upper_at _ i d).trans (blk_w m c t _ d)
  wb i d := (lower_at _ i d).trans (blk_w m c t _ d)
  g := blk_gain m c t
  b := blk_bias m c t
  gm := blk_gm m c t
  gf := blk_gf m c t

theorem third_part : Part (W m c) (fun p : Fin 176 => row m c (544 * t.val + 368 + p.val)) (thirdA (iblk m c 0 t)) (thirdA (iblk m c 1 t))
    (third (iblk m c 2 t)) (upper (iblk m c 3 t)) (lower (iblk m c 3 t)) (iblk m c 4 t) (iblk m c 5 t) (iblk m c 6 t) (iblk m c 7 t) where
  y p i := (thirdA_at _ p i).trans (by rw [add_assoc]; exact blk_y m c t _ i)
  z p i := (thirdA_at _ p i).trans (by rw [add_assoc]; exact blk_z m c t _ i)
  h p d := (third_at _ p d).trans (by rw [add_assoc]; exact blk_h m c t _ d)
  wa i d := (upper_at _ i d).trans (blk_w m c t _ d)
  wb i d := (lower_at _ i d).trans (blk_w m c t _ d)
  g := blk_gain m c t
  b := blk_bias m c t
  gm := blk_gm m c t
  gf := blk_gf m c t

/-! ## The arrays after the run -/

/-- The four results. -/
def act : Vec Ideal S2176x512 .bf16 := fun i => (W m c).act (row m c (i 0).val) (i 1)
def mix : Vec Ideal S2176x1024 .f32 := fun i => (W m c).mix (row m c (i 0).val) (i 1)
def res : Vec Ideal S2176x1024 .f32 := fun i => (W m c).res (row m c (i 0).val) (i 1)
def out : Vec Ideal S2176x1024 .bf16 := fun i => (W m c).out (row m c (i 0).val) (i 1)

theorem final_act : (dats m 0 c).arrAt 8 (cfgs 0).N = act m c := by
  refine (dats m 0 c).arrAt_eq_of_covers 8 _ (by decide +kernel) fun t hf y => ?_
  blk_simp
  rw [after0_8]
  have e (s : Vec Ideal S544x512 .bf16)
      (h : s = View.canon [
        ⟨Rect.unit ![368, 0] ![176, 512] inb_S544x512_S176x512_368_0, k0_pay14 (thirdA (iblk m c 1 t)) (iblk m c 4 t) (iblk m c 5 t)⟩,
        ⟨Rect.unit ![192, 0] ![176, 512] inb_S544x512_S176x512_192_0, k0_pay8 (secondA (iblk m c 1 t)) (iblk m c 4 t) (iblk m c 5 t)⟩,
        ⟨Rect.unit ![0, 0] ![192, 512] inb_S544x512_S192x512_0_0, k0_pay2 (firstA (iblk m c 1 t)) (iblk m c 4 t) (iblk m c 5 t)⟩]) :
      s y = act m c (((View.whole main_v14_0).slice (win0_8.rect t)).emb y) := by
    rw [h]
    canon_tiles y h using View.cover_of_tiledBy _ ![16, 512] (by sl_kernel_rfl) _
    · exact lands (row m c) (W m c).act _ (544 * t.val + 368) (third_act (third_part m c t)) _ _ (by blk_simp [idx t]; omega) (by blk_simp [idx t]; omega)
    · exact lands (row m c) (W m c).act _ (544 * t.val + 192) (second_act (second_part m c t)) _ _ (by blk_simp [idx t]; omega) (by blk_simp [idx t]; omega)
    · exact lands (row m c) (W m c).act _ (544 * t.val + 0) (first_act (first_part m c t)) _ _ (by blk_simp [idx t]; omega) (by blk_simp [idx t]; omega)
  refine e _ ?_
  unfold outsAt0
  frame_out

theorem final_mix : (dats m 0 c).arrAt 9 (cfgs 0).N = mix m c := by
  refine (dats m 0 c).arrAt_eq_of_covers 9 _ (by decide +kernel) fun t hf y => ?_
  blk_simp
  rw [after0_9]
  have e (s : Vec Ideal S544x1024 .f32)
      (h : s = View.canon [
        ⟨Rect.unit ![368, 0] ![176, 1024] inb_S544x1024_S176x1024_368_0, k0_pay16 (k0_pay14 (thirdA (iblk m c 1 t)) (iblk m c 4 t) (iblk m c 5 t)) (k0_pay15 (thirdA (iblk m c 0 t))) (upper (iblk m c 3 t)) (lower (iblk m c 3 t))⟩,
        ⟨Rect.unit ![192, 0] ![176, 1024] inb_S544x1024_S176x1024_192_0, k0_pay10 (k0_pay8 (secondA (iblk m c 1 t)) (iblk m c 4 t) (iblk m c 5 t)) (k0_pay9 (secondA (iblk m c 0 t))) (upper (iblk m c 3 t)) (lower (iblk m c 3 t))⟩,
        ⟨Rect.unit ![0, 0] ![192, 1024] inb_S544x1024_S192x1024_0_0, k0_pay5 (k0_pay2 (firstA (iblk m c 1 t)) (iblk m c 4 t) (iblk m c 5 t)) (k0_pay3 (firstA (iblk m c 0 t))) (k0_pay4 (upper (iblk m c 3 t))) (lower (iblk m c 3 t))⟩]) :
      s y = mix m c (((View.whole main_v14_1).slice (win0_9.rect t)).emb y) := by
    rw [h]
    canon_tiles y h using View.cover_of_tiledBy _ ![16, 1024] (by sl_kernel_rfl) _
    · exact lands (row m c) (W m c).mix _ (544 * t.val + 368) (third_mix (third_part m c t)) _ _ (by blk_simp [idx t]; omega) (by blk_simp [idx t]; omega)
    · exact lands (row m c) (W m c).mix _ (544 * t.val + 192) (second_mix (second_part m c t)) _ _ (by blk_simp [idx t]; omega) (by blk_simp [idx t]; omega)
    · exact lands (row m c) (W m c).mix _ (544 * t.val + 0) (first_mix (first_part m c t)) _ _ (by blk_simp [idx t]; omega) (by blk_simp [idx t]; omega)
  refine e _ ?_
  unfold outsAt0
  frame_out

theorem final_res : (dats m 0 c).arrAt 10 (cfgs 0).N = res m c := by
  refine (dats m 0 c).arrAt_eq_of_covers 10 _ (by decide +kernel) fun t hf y => ?_
  blk_simp
  rw [after0_10]
  have e (s : Vec Ideal S544x1024 .f32)
      (h : s = View.canon [
        ⟨Rect.unit ![368, 0] ![176, 1024] inb_S544x1024_S176x1024_368_0, k0_pay17 (k0_pay14 (thirdA (iblk m c 1 t)) (iblk m c 4 t) (iblk m c 5 t)) (k0_pay15 (thirdA (iblk m c 0 t))) (upper (iblk m c 3 t)) (lower (iblk m c 3 t)) (third (iblk m c 2 t)) (iblk m c 6 t)⟩,
        ⟨Rect.unit ![192, 0] ![176, 1024] inb_S544x1024_S176x1024_192_0, k0_pay11 (k0_pay8 (secondA (iblk m c 1 t)) (iblk m c 4 t) (iblk m c 5 t)) (k0_pay9 (secondA (iblk m c 0 t))) (upper (iblk m c 3 t)) (lower (iblk m c 3 t)) (second (iblk m c 2 t)) (iblk m c 6 t)⟩,
        ⟨Rect.unit ![0, 0] ![192, 1024] inb_S544x1024_S192x1024_0_0, k0_pay6 (k0_pay2 (firstA (iblk m c 1 t)) (iblk m c 4 t) (iblk m c 5 t)) (k0_pay3 (firstA (iblk m c 0 t))) (k0_pay4 (upper (iblk m c 3 t))) (lower (iblk m c 3 t)) (first (iblk m c 2 t)) (iblk m c 6 t)⟩]) :
      s y = res m c (((View.whole main_v14_2).slice (win0_10.rect t)).emb y) := by
    rw [h]
    canon_tiles y h using View.cover_of_tiledBy _ ![16, 1024] (by sl_kernel_rfl) _
    · exact lands (row m c) (W m c).res _ (544 * t.val + 368) (third_res (third_part m c t)) _ _ (by blk_simp [idx t]; omega) (by blk_simp [idx t]; omega)
    · exact lands (row m c) (W m c).res _ (544 * t.val + 192) (second_res (second_part m c t)) _ _ (by blk_simp [idx t]; omega) (by blk_simp [idx t]; omega)
    · exact lands (row m c) (W m c).res _ (544 * t.val + 0) (first_res (first_part m c t)) _ _ (by blk_simp [idx t]; omega) (by blk_simp [idx t]; omega)
  refine e _ ?_
  unfold outsAt0
  frame_out

theorem final_out : (dats m 0 c).arrAt 11 (cfgs 0).N = out m c := by
  refine (dats m 0 c).arrAt_eq_of_covers 11 _ (by decide +kernel) fun t hf y => ?_
  blk_simp
  rw [after0_11]
  have e (s : Vec Ideal S544x1024 .bf16)
      (h : s = View.canon [
        ⟨Rect.unit ![368, 0] ![176, 1024] inb_S544x1024_S176x1024_368_0, k0_pay1 (k0_pay18 (k0_pay14 (thirdA (iblk m c 1 t)) (iblk m c 4 t) (iblk m c 5 t)) (k0_pay15 (thirdA (iblk m c 0 t))) (upper (iblk m c 3 t)) (lower (iblk m c 3 t)) (third (iblk m c 2 t)) (iblk m c 6 t)) (iblk m c 7 t)⟩,
        ⟨Rect.unit ![192, 0] ![176, 1024] inb_S544x1024_S176x1024_192_0, k0_pay13 (k0_pay12 (k0_pay8 (secondA (iblk m c 1 t)) (iblk m c 4 t) (iblk m c 5 t)) (k0_pay9 (secondA (iblk m c 0 t))) (upper (iblk m c 3 t)) (lower (iblk m c 3 t)) (second (iblk m c 2 t)) (iblk m c 6 t) (iblk m c 7 t))⟩,
        ⟨Rect.unit ![0, 0] ![192, 1024] inb_S544x1024_S192x1024_0_0, k0_pay7 (k0_pay2 (firstA (iblk m c 1 t)) (iblk m c 4 t) (iblk m c 5 t)) (k0_pay3 (firstA (iblk m c 0 t))) (k0_pay4 (upper (iblk m c 3 t))) (lower (iblk m c 3 t)) (first (iblk m c 2 t)) (iblk m c 6 t) (iblk m c 7 t)⟩]) :
      s y = out m c (((View.whole main_v14_3).slice (win0_11.rect t)).emb y) := by
    rw [h]
    canon_tiles y h using View.cover_of_tiledBy _ ![16, 1024] (by sl_kernel_rfl) _
    · exact lands (row m c) (W m c).out _ (544 * t.val + 368) (third_out (third_part m c t)) _ _ (by blk_simp [idx t]; omega) (by blk_simp [idx t]; omega)
    · exact lands (row m c) (W m c).out _ (544 * t.val + 192) (second_out (second_part m c t)) _ _ (by blk_simp [idx t]; omega) (by blk_simp [idx t]; omega)
    · exact lands (row m c) (W m c).out _ (544 * t.val + 0) (first_out (first_part m c t)) _ _ (by blk_simp [idx t]; omega) (by blk_simp [idx t]; omega)
  refine e _ ?_
  unfold outsAt0
  frame_out

end Cert.Kernel8Ideal.MmOut
-- ==== Proof.MmOut.lean ====
/- The end of the mixer in the forward pass: the kernel's four arrays are the reference's. -/
module
public import proofs.«01_k».proof.Defs
public import proofs.«01_k».proof.Proof.MmOutKernel

@[expose] public section
set_option maxRecDepth 16384
noncomputable section
namespace Cert.Proof
open Idealize.ShloMosaic Idealize.ShloMosaic.TcCoe Idealize.SL.Sem
open Cert.Step

/-- The reference's frame: its run keeps the arguments, and it declares no semaphore. -/
theorem mmOut_reference : quiescent_Reference8Ideal := fun m g _ =>
  (θ_run Cert.Reference8Ideal.defs _ _).mono (fun r h => ⟨fun c => (h c).2.2.2.2, sem_eq_zero_of_no_sems (by decide) r.2⟩)
    (Cert.Reference8Ideal.Value.run m g)

/-- The call's four results are the second group's output, the projection, the residual and its norm. -/
theorem mmOut_value : algebraic_Kernel8Ideal_Reference8Ideal := by
  intro m g m' g' _ hagree
  refine ⟨fun c => Cert.Kernel8Ideal.MmOut.act m c, fun c => Cert.Kernel8Ideal.MmOut.mix m c, fun c => Cert.Kernel8Ideal.MmOut.res m c,
    fun c => Cert.Kernel8Ideal.MmOut.out m c, (θ_run _ _ _).mono (fun r h c => ?_) (Cert.Kernel8Ideal.Value.run_blocks m g),
    (θ_run _ _ _).mono (fun r h c => ?_) (Cert.Reference8Ideal.Value.run m' g')⟩
  · obtain ⟨h0, h1, h2, h3, h⟩ := h c
    exact ⟨h0.trans (Cert.Kernel8Ideal.MmOut.final_act m c), h1.trans (Cert.Kernel8Ideal.MmOut.final_mix m c),
      h2.trans (Cert.Kernel8Ideal.MmOut.final_res m c), h3.trans (Cert.Kernel8Ideal.MmOut.final_out m c), h⟩
  · obtain ⟨h0, h1, h2, h3, h⟩ := h c
    obtain ⟨a0, a1, a2, a3, a4, a5, a6, a7⟩ := hagree c
    unfold Cert.Kernel8Ideal.MmOut.act Cert.Kernel8Ideal.MmOut.mix Cert.Kernel8Ideal.MmOut.res Cert.Kernel8Ideal.MmOut.out
      Cert.Kernel8Ideal.MmOut.row Cert.Kernel8Ideal.MmOut.rows Cert.Kernel8Ideal.MmOut.W
    beta_reduce
    rw [← a0, ← a1, ← a2, ← a3, ← a4, ← a5, ← a6, ← a7]
    refine ⟨h0.trans (funext fun j => ?_), h1.trans (funext fun j => ?_), h2.trans (funext fun j => ?_), h3.trans (funext fun j => ?_), h⟩
    · rw [Cert.Reference8Ideal.Read.val_main_v56_eq]
      exact (congrArg _ (eq_ix2 j)).trans (Cert.Reference8Ideal.MmOut.out_act _ _ _ _ _ _ _ _ (j 0) (j 1))
    · rw [Cert.Reference8Ideal.Read.val_main_v36_eq]
      exact (congrArg _ (eq_ix2 j)).trans (Cert.Reference8Ideal.MmOut.at_mix _ _ _ _ _ _ _ _ (j 0) (j 1))
    · rw [Cert.Reference8Ideal.Read.val_main_v55_eq]
      exact (congrArg _ (eq_ix2 j)).trans (Cert.Reference8Ideal.MmOut.at_res _ _ _ _ _ _ _ _ (j 0) (j 1))
    · rw [Cert.Reference8Ideal.Read.val_main_v71_eq]
      exact (congrArg _ (eq_ix2 j)).trans (Cert.Reference8Ideal.MmOut.out_norm _ _ _ _ _ _ _ _ (j 0) (j 1))

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Loops
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Loops
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.MixOut
public import proofs.«01_k».proof.Proof.Act
public import proofs.«01_k».proof.Proof.Conv
public import proofs.«01_k».proof.Proof.ConvFwd
public import proofs.«01_k».proof.Proof.FfnIn
public import proofs.«01_k».proof.Proof.MixIn
public import proofs.«01_k».proof.Proof.Loss
public import proofs.«01_k».proof.Proof.MmOut
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel4.Gen.facts, Cert.Kernel4Ideal.Gen.facts, Cert.Reference4Ideal.Gen.facts, Cert.Kernel2.Gen.facts, Cert.Kernel2Ideal.Gen.facts, Cert.Reference2Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel3.Gen.facts, Cert.Kernel3Ideal.Gen.facts, Cert.Reference3Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    finiteFacts, finite4Facts,
    fun m ρ _ => Cert.Kernel.Gen.frame m ρ,
    fun m ρ _ => Cert.KernelIdeal.Gen.frame m ρ, fun m ρ _ => Cert.KernelIdeal.Gen.frame m ρ,
    mixOut_reference, fun m ρ _ => mixOut_reference m ρ trivial,
    fun m ρ _ => Cert.Kernel4.Gen.frame m ρ,
    fun m ρ _ => Cert.Kernel4Ideal.Gen.frame m ρ, fun m ρ _ => Cert.Kernel4Ideal.Gen.frame m ρ,
    act_reference, fun m ρ _ => act_reference m ρ trivial,
    conv_frame, fun m ρ _ => Cert.Kernel2Ideal.Conv.frame m ρ, conv_reference,
    fun m ρ _ => Cert.Kernel5.Gen.frame m ρ, fun m ρ _ => Cert.Kernel5Ideal.Gen.frame m ρ, ffnIn_reference,
    fun m ρ _ => Cert.Kernel6.Gen.frame m ρ, fun m ρ _ => Cert.Kernel6Ideal.Gen.frame m ρ, mixIn_reference,
    loss_frame, fun m ρ _ => Cert.Kernel3Ideal.Loss.frame m ρ, loss_reference,
    fun m ρ _ => Cert.Kernel8.Gen.frame m ρ, fun m ρ _ => Cert.Kernel8Ideal.Gen.frame m ρ, mmOut_reference,
    convFwd_frame, fun m ρ _ => Cert.Kernel9Ideal.Conv.frame m ρ, convFwd_reference,
    trivial, mixOut, trivial, act_value, trivial, conv_value, trivial, ffnIn_value, trivial, mixIn_value,
    trivial, loss_value, trivial, mmOut_value, trivial, convFwd_value⟩

end Cert.Proof

end
